-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_FfOut (m : (ℓ : Loc Cert.FfOut.nD Cert.FfOut.τ Cert.FfOut.sig) → Buf (Elt Bits) ℓ) : Prop :=
  True

def Pre_FfOutIdeal (m : (ℓ : Loc Cert.FfOutIdeal.nD Cert.FfOutIdeal.τ Cert.FfOutIdeal.sig) → Buf (Elt Ideal) ℓ) : Prop :=
  True

def Pre_FfOutRefIdeal (m : (ℓ : Loc Cert.FfOutRefIdeal.nD Cert.FfOutRefIdeal.τ Cert.FfOutRefIdeal.sig) → Buf (Elt Ideal) ℓ) : Prop :=
  True

def Pre_FfIn (m : (ℓ : Loc Cert.FfIn.nD Cert.FfIn.τ Cert.FfIn.sig) → Buf (Elt Bits) ℓ) : Prop :=
  True

def Pre_FfInIdeal (m : (ℓ : Loc Cert.FfInIdeal.nD Cert.FfInIdeal.τ Cert.FfInIdeal.sig) → Buf (Elt Ideal) ℓ) : Prop :=
  True

def Pre_FfInRefIdeal (m : (ℓ : Loc Cert.FfInRefIdeal.nD Cert.FfInRefIdeal.τ Cert.FfInRefIdeal.sig) → Buf (Elt Ideal) ℓ) : Prop :=
  True

def Pre_FfInput (m : (ℓ : Loc Cert.FfInput.nD Cert.FfInput.τ Cert.FfInput.sig) → Buf (Elt Bits) ℓ) : Prop :=
  True

def Pre_FfInputIdeal (m : (ℓ : Loc Cert.FfInputIdeal.nD Cert.FfInputIdeal.τ Cert.FfInputIdeal.sig) → Buf (Elt Ideal) ℓ) : Prop :=
  True

def Pre_FfInputRefIdeal (m : (ℓ : Loc Cert.FfInputRefIdeal.nD Cert.FfInputRefIdeal.τ Cert.FfInputRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInRefIdeal (m : (ℓ : Loc Cert.DWInRefIdeal.nD Cert.DWInRefIdeal.τ Cert.DWInRefIdeal.sig) → Buf (Elt Ideal) ℓ) : Prop :=
  True

def Pre_DWQ (m : (ℓ : Loc Cert.DWQ.nD Cert.DWQ.τ Cert.DWQ.sig) → Buf (Elt Bits) ℓ) : Prop :=
  True

def Pre_DWQIdeal (m : (ℓ : Loc Cert.DWQIdeal.nD Cert.DWQIdeal.τ Cert.DWQIdeal.sig) → Buf (Elt Ideal) ℓ) : Prop :=
  True

def Pre_DWQRefIdeal (m : (ℓ : Loc Cert.DWQRefIdeal.nD Cert.DWQRefIdeal.τ Cert.DWQRefIdeal.sig) → Buf (Elt Ideal) ℓ) : Prop :=
  True

def Pre_DWBc (m : (ℓ : Loc Cert.DWBc.nD Cert.DWBc.τ Cert.DWBc.sig) → Buf (Elt Bits) ℓ) : Prop :=
  True

def Pre_DWBcIdeal (m : (ℓ : Loc Cert.DWBcIdeal.nD Cert.DWBcIdeal.τ Cert.DWBcIdeal.sig) → Buf (Elt Ideal) ℓ) : Prop :=
  True

def Pre_DWBcRefIdeal (m : (ℓ : Loc Cert.DWBcRefIdeal.nD Cert.DWBcRefIdeal.τ Cert.DWBcRefIdeal.sig) → Buf (Elt Ideal) ℓ) : Prop :=
  True

def Pre_DWGate (m : (ℓ : Loc Cert.DWGate.nD Cert.DWGate.τ Cert.DWGate.sig) → Buf (Elt Bits) ℓ) : Prop :=
  True

def Pre_DWGateIdeal (m : (ℓ : Loc Cert.DWGateIdeal.nD Cert.DWGateIdeal.τ Cert.DWGateIdeal.sig) → Buf (Elt Ideal) ℓ) : Prop :=
  True

def Pre_DWGateRefIdeal (m : (ℓ : Loc Cert.DWGateRefIdeal.nD Cert.DWGateRefIdeal.τ Cert.DWGateRefIdeal.sig) → Buf (Elt Ideal) ℓ) : Prop :=
  True

def Pre_FfAct (m : (ℓ : Loc Cert.FfAct.nD Cert.FfAct.τ Cert.FfAct.sig) → Buf (Elt Bits) ℓ) : Prop :=
  True

def Pre_FfActIdeal (m : (ℓ : Loc Cert.FfActIdeal.nD Cert.FfActIdeal.τ Cert.FfActIdeal.sig) → Buf (Elt Ideal) ℓ) : Prop :=
  True

def Pre_FfActRefIdeal (m : (ℓ : Loc Cert.FfActRefIdeal.nD Cert.FfActRefIdeal.τ Cert.FfActRefIdeal.sig) → Buf (Elt Ideal) ℓ) : Prop :=
  True

def Pre_FfSum (m : (ℓ : Loc Cert.FfSum.nD Cert.FfSum.τ Cert.FfSum.sig) → Buf (Elt Bits) ℓ) : Prop :=
  True

def Pre_FfSumIdeal (m : (ℓ : Loc Cert.FfSumIdeal.nD Cert.FfSumIdeal.τ Cert.FfSumIdeal.sig) → Buf (Elt Ideal) ℓ) : Prop :=
  True

def Pre_FfSumRefIdeal (m : (ℓ : Loc Cert.FfSumRefIdeal.nD Cert.FfSumRefIdeal.τ Cert.FfSumRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradRefIdeal (m : (ℓ : Loc Cert.InputGradRefIdeal.nD Cert.InputGradRefIdeal.τ Cert.InputGradRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_UpFfIn (m : (ℓ : Loc Cert.UpFfIn.nD Cert.UpFfIn.τ Cert.UpFfIn.sig) → Buf (Elt Bits) ℓ) : Prop :=
  True

def Pre_UpFfInIdeal (m : (ℓ : Loc Cert.UpFfInIdeal.nD Cert.UpFfInIdeal.τ Cert.UpFfInIdeal.sig) → Buf (Elt Ideal) ℓ) : Prop :=
  True

def Pre_UpFfInRefIdeal (m : (ℓ : Loc Cert.UpFfInRefIdeal.nD Cert.UpFfInRefIdeal.τ Cert.UpFfInRefIdeal.sig) → Buf (Elt Ideal) ℓ) : Prop :=
  True

def Pre_UpFfOut (m : (ℓ : Loc Cert.UpFfOut.nD Cert.UpFfOut.τ Cert.UpFfOut.sig) → Buf (Elt Bits) ℓ) : Prop :=
  True

def Pre_UpFfOutIdeal (m : (ℓ : Loc Cert.UpFfOutIdeal.nD Cert.UpFfOutIdeal.τ Cert.UpFfOutIdeal.sig) → Buf (Elt Ideal) ℓ) : Prop :=
  True

def Pre_UpFfOutRefIdeal (m : (ℓ : Loc Cert.UpFfOutRefIdeal.nD Cert.UpFfOutRefIdeal.τ Cert.UpFfOutRefIdeal.sig) → Buf (Elt Ideal) ℓ) : Prop :=
  True

def Pre_UpOut (m : (ℓ : Loc Cert.UpOut.nD Cert.UpOut.τ Cert.UpOut.sig) → Buf (Elt Bits) ℓ) : Prop :=
  True

def Pre_UpOutIdeal (m : (ℓ : Loc Cert.UpOutIdeal.nD Cert.UpOutIdeal.τ Cert.UpOutIdeal.sig) → Buf (Elt Ideal) ℓ) : Prop :=
  True

def Pre_UpOutRefIdeal (m : (ℓ : Loc Cert.UpOutRefIdeal.nD Cert.UpOutRefIdeal.τ Cert.UpOutRefIdeal.sig) → Buf (Elt Ideal) ℓ) : Prop :=
  True

def Pre_UpIn (m : (ℓ : Loc Cert.UpIn.nD Cert.UpIn.τ Cert.UpIn.sig) → Buf (Elt Bits) ℓ) : Prop :=
  True

def Pre_UpInIdeal (m : (ℓ : Loc Cert.UpInIdeal.nD Cert.UpInIdeal.τ Cert.UpInIdeal.sig) → Buf (Elt Ideal) ℓ) : Prop :=
  True

def Pre_UpInRefIdeal (m : (ℓ : Loc Cert.UpInRefIdeal.nD Cert.UpInRefIdeal.τ Cert.UpInRefIdeal.sig) → Buf (Elt Ideal) ℓ) : Prop :=
  True

def Pre_UpAda (m : (ℓ : Loc Cert.UpAda.nD Cert.UpAda.τ Cert.UpAda.sig) → Buf (Elt Bits) ℓ) : Prop :=
  True

def Pre_UpAdaIdeal (m : (ℓ : Loc Cert.UpAdaIdeal.nD Cert.UpAdaIdeal.τ Cert.UpAdaIdeal.sig) → Buf (Elt Ideal) ℓ) : Prop :=
  True

def Pre_UpAdaRefIdeal (m : (ℓ : Loc Cert.UpAdaRefIdeal.nD Cert.UpAdaRefIdeal.τ Cert.UpAdaRefIdeal.sig) → Buf (Elt Ideal) ℓ) : Prop :=
  True

def Pre_UpConv (m : (ℓ : Loc Cert.UpConv.nD Cert.UpConv.τ Cert.UpConv.sig) → Buf (Elt Bits) ℓ) : Prop :=
  True

def Pre_UpConvIdeal (m : (ℓ : Loc Cert.UpConvIdeal.nD Cert.UpConvIdeal.τ Cert.UpConvIdeal.sig) → Buf (Elt Ideal) ℓ) : Prop :=
  True

def Pre_UpConvRefIdeal (m : (ℓ : Loc Cert.UpConvRefIdeal.nD Cert.UpConvRefIdeal.τ Cert.UpConvRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradIdeal_finite_ada [hPre_finite_ada : Cert.Pre_finite_ada.Facts] (m : (ℓ : Loc Cert.AdaGradIdeal.nD Cert.AdaGradIdeal.τ Cert.AdaGradIdeal.sig) → Buf (Elt Ideal) ℓ) : Prop :=
  ∀ c : Dev Cert.AdaGradIdeal.nD,
    (Cert.Pre_finite_ada.fn (F := Ideal) (m ((c.tc : Thread Cert.AdaGradIdeal.nD Cert.AdaGradIdeal.τ).loc Cert.AdaGradIdeal.main_arg0)) (m ((c.tc : Thread Cert.AdaGradIdeal.nD Cert.AdaGradIdeal.τ).loc Cert.AdaGradIdeal.main_arg1)) (m ((c.tc : Thread Cert.AdaGradIdeal.nD Cert.AdaGradIdeal.τ).loc Cert.AdaGradIdeal.main_arg2))).1 = (fun _ => 1#1)
    ∧ (Cert.Pre_finite_ada.fn (F := Ideal) (m ((c.tc : Thread Cert.AdaGradIdeal.nD Cert.AdaGradIdeal.τ).loc Cert.AdaGradIdeal.main_arg0)) (m ((c.tc : Thread Cert.AdaGradIdeal.nD Cert.AdaGradIdeal.τ).loc Cert.AdaGradIdeal.main_arg1)) (m ((c.tc : Thread Cert.AdaGradIdeal.nD Cert.AdaGradIdeal.τ).loc Cert.AdaGradIdeal.main_arg2))).2 = (fun _ => 1#1)

def Pre_AdaGradRefIdeal (m : (ℓ : Loc Cert.AdaGradRefIdeal.nD Cert.AdaGradRefIdeal.τ Cert.AdaGradRefIdeal.sig) → Buf (Elt Ideal) ℓ) : Prop :=
  True

def Pre_AdaGradRefIdeal_finite_ada [hPre_finite_ada : Cert.Pre_finite_ada.Facts] (m : (ℓ : Loc Cert.AdaGradRefIdeal.nD Cert.AdaGradRefIdeal.τ Cert.AdaGradRefIdeal.sig) → Buf (Elt Ideal) ℓ) : Prop :=
  ∀ c : Dev Cert.AdaGradRefIdeal.nD,
    (Cert.Pre_finite_ada.fn (F := Ideal) (m ((c.tc : Thread Cert.AdaGradRefIdeal.nD Cert.AdaGradRefIdeal.τ).loc Cert.AdaGradRefIdeal.main_arg0)) (m ((c.tc : Thread Cert.AdaGradRefIdeal.nD Cert.AdaGradRefIdeal.τ).loc Cert.AdaGradRefIdeal.main_arg1)) (m ((c.tc : Thread Cert.AdaGradRefIdeal.nD Cert.AdaGradRefIdeal.τ).loc Cert.AdaGradRefIdeal.main_arg2))).1 = (fun _ => 1#1)
    ∧ (Cert.Pre_finite_ada.fn (F := Ideal) (m ((c.tc : Thread Cert.AdaGradRefIdeal.nD Cert.AdaGradRefIdeal.τ).loc Cert.AdaGradRefIdeal.main_arg0)) (m ((c.tc : Thread Cert.AdaGradRefIdeal.nD Cert.AdaGradRefIdeal.τ).loc Cert.AdaGradRefIdeal.main_arg1)) (m ((c.tc : Thread Cert.AdaGradRefIdeal.nD Cert.AdaGradRefIdeal.τ).loc Cert.AdaGradRefIdeal.main_arg2))).2 = (fun _ => 1#1)

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModIdeal_finite_mod [hPre_finite_mod : Cert.Pre_finite_mod.Facts] (m : (ℓ : Loc Cert.AdaModIdeal.nD Cert.AdaModIdeal.τ Cert.AdaModIdeal.sig) → Buf (Elt Ideal) ℓ) : Prop :=
  ∀ c : Dev Cert.AdaModIdeal.nD,
    (Cert.Pre_finite_mod.fn (F := Ideal) (m ((c.tc : Thread Cert.AdaModIdeal.nD Cert.AdaModIdeal.τ).loc Cert.AdaModIdeal.main_arg0)) (m ((c.tc : Thread Cert.AdaModIdeal.nD Cert.AdaModIdeal.τ).loc Cert.AdaModIdeal.main_arg1)) (m ((c.tc : Thread Cert.AdaModIdeal.nD Cert.AdaModIdeal.τ).loc Cert.AdaModIdeal.main_arg2))).1 = (fun _ => 1#1)
    ∧ (Cert.Pre_finite_mod.fn (F := Ideal) (m ((c.tc : Thread Cert.AdaModIdeal.nD Cert.AdaModIdeal.τ).loc Cert.AdaModIdeal.main_arg0)) (m ((c.tc : Thread Cert.AdaModIdeal.nD Cert.AdaModIdeal.τ).loc Cert.AdaModIdeal.main_arg1)) (m ((c.tc : Thread Cert.AdaModIdeal.nD Cert.AdaModIdeal.τ).loc Cert.AdaModIdeal.main_arg2))).2 = (fun _ => 1#1)

def Pre_AdaModRefIdeal (m : (ℓ : Loc Cert.AdaModRefIdeal.nD Cert.AdaModRefIdeal.τ Cert.AdaModRefIdeal.sig) → Buf (Elt Ideal) ℓ) : Prop :=
  True

def Pre_AdaModRefIdeal_finite_mod [hPre_finite_mod : Cert.Pre_finite_mod.Facts] (m : (ℓ : Loc Cert.AdaModRefIdeal.nD Cert.AdaModRefIdeal.τ Cert.AdaModRefIdeal.sig) → Buf (Elt Ideal) ℓ) : Prop :=
  ∀ c : Dev Cert.AdaModRefIdeal.nD,
    (Cert.Pre_finite_mod.fn (F := Ideal) (m ((c.tc : Thread Cert.AdaModRefIdeal.nD Cert.AdaModRefIdeal.τ).loc Cert.AdaModRefIdeal.main_arg0)) (m ((c.tc : Thread Cert.AdaModRefIdeal.nD Cert.AdaModRefIdeal.τ).loc Cert.AdaModRefIdeal.main_arg1)) (m ((c.tc : Thread Cert.AdaModRefIdeal.nD Cert.AdaModRefIdeal.τ).loc Cert.AdaModRefIdeal.main_arg2))).1 = (fun _ => 1#1)
    ∧ (Cert.Pre_finite_mod.fn (F := Ideal) (m ((c.tc : Thread Cert.AdaModRefIdeal.nD Cert.AdaModRefIdeal.τ).loc Cert.AdaModRefIdeal.main_arg0)) (m ((c.tc : Thread Cert.AdaModRefIdeal.nD Cert.AdaModRefIdeal.τ).loc Cert.AdaModRefIdeal.main_arg1)) (m ((c.tc : Thread Cert.AdaModRefIdeal.nD Cert.AdaModRefIdeal.τ).loc Cert.AdaModRefIdeal.main_arg2))).2 = (fun _ => 1#1)

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3))
      ∧ r.2.sem = fun _ => 0)

def quiescent_FfOut [hFfOut : Cert.FfOut.Facts] : Prop :=
  ∀ (m : (ℓ : Loc Cert.FfOut.nD Cert.FfOut.τ Cert.FfOut.sig) → Buf (Elt Bits) ℓ) (g : Dev Cert.FfOut.nD → PrngReg), Pre_FfOut m →
    θ_run (Cert.FfOut.defs (F := Bits)) (onTc (τ := Cert.FfOut.τ) (Cert.FfOut.main (F := Bits))) ⟨m, fun _ => 0, g⟩ (fun r => (∀ c : Dev Cert.FfOut.nD,
      r.2.mem ((c.tc : Thread Cert.FfOut.nD Cert.FfOut.τ).loc Cert.FfOut.main_arg0) = m ((c.tc : Thread Cert.FfOut.nD Cert.FfOut.τ).loc Cert.FfOut.main_arg0)
      ∧ r.2.mem ((c.tc : Thread Cert.FfOut.nD Cert.FfOut.τ).loc Cert.FfOut.main_arg1) = m ((c.tc : Thread Cert.FfOut.nD Cert.FfOut.τ).loc Cert.FfOut.main_arg1)
      ∧ r.2.mem ((c.tc : Thread Cert.FfOut.nD Cert.FfOut.τ).loc Cert.FfOut.main_arg2) = m ((c.tc : Thread Cert.FfOut.nD Cert.FfOut.τ).loc Cert.FfOut.main_arg2)
      ∧ r.2.mem ((c.tc : Thread Cert.FfOut.nD Cert.FfOut.τ).loc Cert.FfOut.main_arg3) = m ((c.tc : Thread Cert.FfOut.nD Cert.FfOut.τ).loc Cert.FfOut.main_arg3))
      ∧ r.2.sem = fun _ => 0)

def quiescent_FfOutIdeal [hFfOutIdeal : Cert.FfOutIdeal.Facts] : Prop :=
  ∀ (m : (ℓ : Loc Cert.FfOutIdeal.nD Cert.FfOutIdeal.τ Cert.FfOutIdeal.sig) → Buf (Elt Ideal) ℓ) (g : Dev Cert.FfOutIdeal.nD → PrngReg), Pre_FfOutIdeal m →
    θ_run (Cert.FfOutIdeal.defs (F := Ideal)) (onTc (τ := Cert.FfOutIdeal.τ) (Cert.FfOutIdeal.main (F := Ideal))) ⟨m, fun _ => 0, g⟩ (fun r => (∀ c : Dev Cert.FfOutIdeal.nD,
      r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
      ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
      ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2)
      ∧ r.2.mem ((c.tc : Thread Cert.FfOutIdeal.nD Cert.FfOutIdeal.τ).loc Cert.FfOutIdeal.main_arg3) = m ((c.tc : Thread Cert.FfOutIdeal.nD Cert.FfOutIdeal.τ).loc Cert.FfOutIdeal.main_arg3))
      ∧ r.2.sem = fun _ => 0)

def quiescent_FfOutRefIdeal [hFfOutRefIdeal : Cert.FfOutRefIdeal.Facts] : Prop :=
  ∀ (m : (ℓ : Loc Cert.FfOutRefIdeal.nD Cert.FfOutRefIdeal.τ Cert.FfOutRefIdeal.sig) → Buf (Elt Ideal) ℓ) (g : Dev Cert.FfOutRefIdeal.nD → PrngReg), Pre_FfOutRefIdeal m →
    θ_run (Cert.FfOutRefIdeal.defs (F := Ideal)) (onTc (τ := Cert.FfOutRefIdeal.τ) (Cert.FfOutRefIdeal.main (F := Ideal))) ⟨m, fun _ => 0, g⟩ (fun r => (∀ c : Dev Cert.FfOutRefIdeal.nD,
      r.2.mem ((c.tc : Thread Cert.FfOutRefIdeal.nD Cert.FfOutRefIdeal.τ).loc Cert.FfOutRefIdeal.main_arg0) = m ((c.tc : Thread Cert.FfOutRefIdeal.nD Cert.FfOutRefIdeal.τ).loc Cert.FfOutRefIdeal.main_arg0)
      ∧ r.2.mem ((c.tc : Thread Cert.FfOutRefIdeal.nD Cert.FfOutRefIdeal.τ).loc Cert.FfOutRefIdeal.main_arg1) = m ((c.tc : Thread Cert.FfOutRefIdeal.nD Cert.FfOutRefIdeal.τ).loc Cert.FfOutRefIdeal.main_arg1)
      ∧ r.2.mem ((c.tc : Thread Cert.FfOutRefIdeal.nD Cert.FfOutRefIdeal.τ).loc Cert.FfOutRefIdeal.main_arg2) = m ((c.tc : Thread Cert.FfOutRefIdeal.nD Cert.FfOutRefIdeal.τ).loc Cert.FfOutRefIdeal.main_arg2)
      ∧ r.2.mem ((c.tc : Thread Cert.FfOutRefIdeal.nD Cert.FfOutRefIdeal.τ).loc Cert.FfOutRefIdeal.main_arg3) = m ((c.tc : Thread Cert.FfOutRefIdeal.nD Cert.FfOutRefIdeal.τ).loc Cert.FfOutRefIdeal.main_arg3))
      ∧ r.2.sem = fun _ => 0)

def quiescent_FfIn [hFfIn : Cert.FfIn.Facts] : Prop :=
  ∀ (m : (ℓ : Loc Cert.FfIn.nD Cert.FfIn.τ Cert.FfIn.sig) → Buf (Elt Bits) ℓ) (g : Dev Cert.FfIn.nD → PrngReg), Pre_FfIn m →
    θ_run (Cert.FfIn.defs (F := Bits)) (onTc (τ := Cert.FfIn.τ) (Cert.FfIn.main (F := Bits))) ⟨m, fun _ => 0, g⟩ (fun r => (∀ c : Dev Cert.FfIn.nD,
      r.2.mem ((c.tc : Thread Cert.FfIn.nD Cert.FfIn.τ).loc Cert.FfIn.main_arg0) = m ((c.tc : Thread Cert.FfIn.nD Cert.FfIn.τ).loc Cert.FfIn.main_arg0)
      ∧ r.2.mem ((c.tc : Thread Cert.FfIn.nD Cert.FfIn.τ).loc Cert.FfIn.main_arg1) = m ((c.tc : Thread Cert.FfIn.nD Cert.FfIn.τ).loc Cert.FfIn.main_arg1)
      ∧ r.2.mem ((c.tc : Thread Cert.FfIn.nD Cert.FfIn.τ).loc Cert.FfIn.main_arg2) = m ((c.tc : Thread Cert.FfIn.nD Cert.FfIn.τ).loc Cert.FfIn.main_arg2))
      ∧ r.2.sem = fun _ => 0)

def quiescent_FfInIdeal [hFfInIdeal : Cert.FfInIdeal.Facts] : Prop :=
  ∀ (m : (ℓ : Loc Cert.FfInIdeal.nD Cert.FfInIdeal.τ Cert.FfInIdeal.sig) → Buf (Elt Ideal) ℓ) (g : Dev Cert.FfInIdeal.nD → PrngReg), Pre_FfInIdeal m →
    θ_run (Cert.FfInIdeal.defs (F := Ideal)) (onTc (τ := Cert.FfInIdeal.τ) (Cert.FfInIdeal.main (F := Ideal))) ⟨m, fun _ => 0, g⟩ (fun r => (∀ c : Dev Cert.FfInIdeal.nD,
      r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
      ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1)
      ∧ r.2.mem ((c.tc : Thread Cert.FfInIdeal.nD Cert.FfInIdeal.τ).loc Cert.FfInIdeal.main_arg2) = m ((c.tc : Thread Cert.FfInIdeal.nD Cert.FfInIdeal.τ).loc Cert.FfInIdeal.main_arg2))
      ∧ r.2.sem = fun _ => 0)

def quiescent_FfInRefIdeal [hFfInRefIdeal : Cert.FfInRefIdeal.Facts] : Prop :=
  ∀ (m : (ℓ : Loc Cert.FfInRefIdeal.nD Cert.FfInRefIdeal.τ Cert.FfInRefIdeal.sig) → Buf (Elt Ideal) ℓ) (g : Dev Cert.FfInRefIdeal.nD → PrngReg), Pre_FfInRefIdeal m →
    θ_run (Cert.FfInRefIdeal.defs (F := Ideal)) (onTc (τ := Cert.FfInRefIdeal.τ) (Cert.FfInRefIdeal.main (F := Ideal))) ⟨m, fun _ => 0, g⟩ (fun r => (∀ c : Dev Cert.FfInRefIdeal.nD,
      r.2.mem ((c.tc : Thread Cert.FfInRefIdeal.nD Cert.FfInRefIdeal.τ).loc Cert.FfInRefIdeal.main_arg0) = m ((c.tc : Thread Cert.FfInRefIdeal.nD Cert.FfInRefIdeal.τ).loc Cert.FfInRefIdeal.main_arg0)
      ∧ r.2.mem ((c.tc : Thread Cert.FfInRefIdeal.nD Cert.FfInRefIdeal.τ).loc Cert.FfInRefIdeal.main_arg1) = m ((c.tc : Thread Cert.FfInRefIdeal.nD Cert.FfInRefIdeal.τ).loc Cert.FfInRefIdeal.main_arg1)
      ∧ r.2.mem ((c.tc : Thread Cert.FfInRefIdeal.nD Cert.FfInRefIdeal.τ).loc Cert.FfInRefIdeal.main_arg2) = m ((c.tc : Thread Cert.FfInRefIdeal.nD Cert.FfInRefIdeal.τ).loc Cert.FfInRefIdeal.main_arg2))
      ∧ r.2.sem = fun _ => 0)

def quiescent_FfInput [hFfInput : Cert.FfInput.Facts] : Prop :=
  ∀ (m : (ℓ : Loc Cert.FfInput.nD Cert.FfInput.τ Cert.FfInput.sig) → Buf (Elt Bits) ℓ) (g : Dev Cert.FfInput.nD → PrngReg), Pre_FfInput m →
    θ_run (Cert.FfInput.defs (F := Bits)) (onTc (τ := Cert.FfInput.τ) (Cert.FfInput.main (F := Bits))) ⟨m, fun _ => 0, g⟩ (fun r => (∀ c : Dev Cert.FfInput.nD,
      r.2.mem ((c.tc : Thread Cert.FfInput.nD Cert.FfInput.τ).loc Cert.FfInput.main_arg0) = m ((c.tc : Thread Cert.FfInput.nD Cert.FfInput.τ).loc Cert.FfInput.main_arg0)
      ∧ r.2.mem ((c.tc : Thread Cert.FfInput.nD Cert.FfInput.τ).loc Cert.FfInput.main_arg1) = m ((c.tc : Thread Cert.FfInput.nD Cert.FfInput.τ).loc Cert.FfInput.main_arg1)
      ∧ r.2.mem ((c.tc : Thread Cert.FfInput.nD Cert.FfInput.τ).loc Cert.FfInput.main_arg2) = m ((c.tc : Thread Cert.FfInput.nD Cert.FfInput.τ).loc Cert.FfInput.main_arg2))
      ∧ r.2.sem = fun _ => 0)

def quiescent_FfInputIdeal [hFfInputIdeal : Cert.FfInputIdeal.Facts] : Prop :=
  ∀ (m : (ℓ : Loc Cert.FfInputIdeal.nD Cert.FfInputIdeal.τ Cert.FfInputIdeal.sig) → Buf (Elt Ideal) ℓ) (g : Dev Cert.FfInputIdeal.nD → PrngReg), Pre_FfInputIdeal m →
    θ_run (Cert.FfInputIdeal.defs (F := Ideal)) (onTc (τ := Cert.FfInputIdeal.τ) (Cert.FfInputIdeal.main (F := Ideal))) ⟨m, fun _ => 0, g⟩ (fun r => (∀ c : Dev Cert.FfInputIdeal.nD,
      r.2.mem ((c.tc : Thread Cert.FfInputIdeal.nD Cert.FfInputIdeal.τ).loc Cert.FfInputIdeal.main_arg0) = m ((c.tc : Thread Cert.FfInputIdeal.nD Cert.FfInputIdeal.τ).loc Cert.FfInputIdeal.main_arg0)
      ∧ r.2.mem ((c.tc : Thread Cert.FfInputIdeal.nD Cert.FfInputIdeal.τ).loc Cert.FfInputIdeal.main_arg1) = m ((c.tc : Thread Cert.FfInputIdeal.nD Cert.FfInputIdeal.τ).loc Cert.FfInputIdeal.main_arg1)
      ∧ r.2.mem ((c.tc : Thread Cert.FfInputIdeal.nD Cert.FfInputIdeal.τ).loc Cert.FfInputIdeal.main_arg2) = m ((c.tc : Thread Cert.FfInputIdeal.nD Cert.FfInputIdeal.τ).loc Cert.FfInputIdeal.main_arg2))
      ∧ r.2.sem = fun _ => 0)

def quiescent_FfInputRefIdeal [hFfInputRefIdeal : Cert.FfInputRefIdeal.Facts] : Prop :=
  ∀ (m : (ℓ : Loc Cert.FfInputRefIdeal.nD Cert.FfInputRefIdeal.τ Cert.FfInputRefIdeal.sig) → Buf (Elt Ideal) ℓ) (g : Dev Cert.FfInputRefIdeal.nD → PrngReg), Pre_FfInputRefIdeal m →
    θ_run (Cert.FfInputRefIdeal.defs (F := Ideal)) (onTc (τ := Cert.FfInputRefIdeal.τ) (Cert.FfInputRefIdeal.main (F := Ideal))) ⟨m, fun _ => 0, g⟩ (fun r => (∀ c : Dev Cert.FfInputRefIdeal.nD,
      r.2.mem ((c.tc : Thread Cert.FfInputRefIdeal.nD Cert.FfInputRefIdeal.τ).loc Cert.FfInputRefIdeal.main_arg0) = m ((c.tc : Thread Cert.FfInputRefIdeal.nD Cert.FfInputRefIdeal.τ).loc Cert.FfInputRefIdeal.main_arg0)
      ∧ r.2.mem ((c.tc : Thread Cert.FfInputRefIdeal.nD Cert.FfInputRefIdeal.τ).loc Cert.FfInputRefIdeal.main_arg1) = m ((c.tc : Thread Cert.FfInputRefIdeal.nD Cert.FfInputRefIdeal.τ).loc Cert.FfInputRefIdeal.main_arg1)
      ∧ r.2.mem ((c.tc : Thread Cert.FfInputRefIdeal.nD Cert.FfInputRefIdeal.τ).loc Cert.FfInputRefIdeal.main_arg2) = m ((c.tc : Thread Cert.FfInputRefIdeal.nD Cert.FfInputRefIdeal.τ).loc Cert.FfInputRefIdeal.main_arg2))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1)
      ∧ r.2.mem ((c.tc : Thread Cert.DMix.nD Cert.DMix.τ).loc Cert.DMix.main_arg2) = m ((c.tc : Thread Cert.DMix.nD Cert.DMix.τ).loc Cert.DMix.main_arg2))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1)
      ∧ r.2.mem ((c.tc : Thread Cert.DMixIdeal.nD Cert.DMixIdeal.τ).loc Cert.DMixIdeal.main_arg2) = m ((c.tc : Thread Cert.DMixIdeal.nD Cert.DMixIdeal.τ).loc Cert.DMixIdeal.main_arg2))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1)
      ∧ r.2.mem ((c.tc : Thread Cert.DMixRefIdeal.nD Cert.DMixRefIdeal.τ).loc Cert.DMixRefIdeal.main_arg2) = m ((c.tc : Thread Cert.DMixRefIdeal.nD Cert.DMixRefIdeal.τ).loc Cert.DMixRefIdeal.main_arg2))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1)
      ∧ r.2.mem ((c.tc : Thread Cert.DWOut.nD Cert.DWOut.τ).loc Cert.DWOut.main_arg2) = m ((c.tc : Thread Cert.DWOut.nD Cert.DWOut.τ).loc Cert.DWOut.main_arg2))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1)
      ∧ r.2.mem ((c.tc : Thread Cert.DWOutIdeal.nD Cert.DWOutIdeal.τ).loc Cert.DWOutIdeal.main_arg2) = m ((c.tc : Thread Cert.DWOutIdeal.nD Cert.DWOutIdeal.τ).loc Cert.DWOutIdeal.main_arg2))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1)
      ∧ r.2.mem ((c.tc : Thread Cert.DWOutRefIdeal.nD Cert.DWOutRefIdeal.τ).loc Cert.DWOutRefIdeal.main_arg2) = m ((c.tc : Thread Cert.DWOutRefIdeal.nD Cert.DWOutRefIdeal.τ).loc Cert.DWOutRefIdeal.main_arg2))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1)
      ∧ r.2.mem ((c.tc : Thread Cert.DWIn.nD Cert.DWIn.τ).loc Cert.DWIn.main_arg2) = m ((c.tc : Thread Cert.DWIn.nD Cert.DWIn.τ).loc Cert.DWIn.main_arg2))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1)
      ∧ r.2.mem ((c.tc : Thread Cert.DWInIdeal.nD Cert.DWInIdeal.τ).loc Cert.DWInIdeal.main_arg2) = m ((c.tc : Thread Cert.DWInIdeal.nD Cert.DWInIdeal.τ).loc Cert.DWInIdeal.main_arg2))
      ∧ r.2.sem = fun _ => 0)

def quiescent_DWInRefIdeal [hDWInRefIdeal : Cert.DWInRefIdeal.Facts] : Prop :=
  ∀ (m : (ℓ : Loc Cert.DWInRefIdeal.nD Cert.DWInRefIdeal.τ Cert.DWInRefIdeal.sig) → Buf (Elt Ideal) ℓ) (g : Dev Cert.DWInRefIdeal.nD → PrngReg), Pre_DWInRefIdeal m →
    θ_run (Cert.DWInRefIdeal.defs (F := Ideal)) (onTc (τ := Cert.DWInRefIdeal.τ) (Cert.DWInRefIdeal.main (F := Ideal))) ⟨m, fun _ => 0, g⟩ (fun r => (∀ c : Dev Cert.DWInRefIdeal.nD,
      r.2.mem ((c.tc : Thread Cert.DWInRefIdeal.nD Cert.DWInRefIdeal.τ).loc Cert.DWInRefIdeal.main_arg0) = m ((c.tc : Thread Cert.DWInRefIdeal.nD Cert.DWInRefIdeal.τ).loc Cert.DWInRefIdeal.main_arg0)
      ∧ r.2.mem ((c.tc : Thread Cert.DWInRefIdeal.nD Cert.DWInRefIdeal.τ).loc Cert.DWInRefIdeal.main_arg1) = m ((c.tc : Thread Cert.DWInRefIdeal.nD Cert.DWInRefIdeal.τ).loc Cert.DWInRefIdeal.main_arg1)
      ∧ r.2.mem ((c.tc : Thread Cert.DWInRefIdeal.nD Cert.DWInRefIdeal.τ).loc Cert.DWInRefIdeal.main_arg2) = m ((c.tc : Thread Cert.DWInRefIdeal.nD Cert.DWInRefIdeal.τ).loc Cert.DWInRefIdeal.main_arg2))
      ∧ r.2.sem = fun _ => 0)

def quiescent_DWQ [hDWQ : Cert.DWQ.Facts] : Prop :=
  ∀ (m : (ℓ : Loc Cert.DWQ.nD Cert.DWQ.τ Cert.DWQ.sig) → Buf (Elt Bits) ℓ) (g : Dev Cert.DWQ.nD → PrngReg), Pre_DWQ m →
    θ_run (Cert.DWQ.defs (F := Bits)) (onTc (τ := Cert.DWQ.τ) (Cert.DWQ.main (F := Bits))) ⟨m, fun _ => 0, g⟩ (fun r => (∀ c : Dev Cert.DWQ.nD,
      r.2.mem ((c.tc : Thread Cert.DWQ.nD Cert.DWQ.τ).loc Cert.DWQ.main_arg0) = m ((c.tc : Thread Cert.DWQ.nD Cert.DWQ.τ).loc Cert.DWQ.main_arg0)
      ∧ r.2.mem ((c.tc : Thread Cert.DWQ.nD Cert.DWQ.τ).loc Cert.DWQ.main_arg1) = m ((c.tc : Thread Cert.DWQ.nD Cert.DWQ.τ).loc Cert.DWQ.main_arg1)
      ∧ r.2.mem ((c.tc : Thread Cert.DWQ.nD Cert.DWQ.τ).loc Cert.DWQ.main_arg2) = m ((c.tc : Thread Cert.DWQ.nD Cert.DWQ.τ).loc Cert.DWQ.main_arg2))
      ∧ r.2.sem = fun _ => 0)

def quiescent_DWQIdeal [hDWQIdeal : Cert.DWQIdeal.Facts] : Prop :=
  ∀ (m : (ℓ : Loc Cert.DWQIdeal.nD Cert.DWQIdeal.τ Cert.DWQIdeal.sig) → Buf (Elt Ideal) ℓ) (g : Dev Cert.DWQIdeal.nD → PrngReg), Pre_DWQIdeal m →
    θ_run (Cert.DWQIdeal.defs (F := Ideal)) (onTc (τ := Cert.DWQIdeal.τ) (Cert.DWQIdeal.main (F := Ideal))) ⟨m, fun _ => 0, g⟩ (fun r => (∀ c : Dev Cert.DWQIdeal.nD,
      r.2.mem ((c.tc : Thread Cert.DWQIdeal.nD Cert.DWQIdeal.τ).loc Cert.DWQIdeal.main_arg0) = m ((c.tc : Thread Cert.DWQIdeal.nD Cert.DWQIdeal.τ).loc Cert.DWQIdeal.main_arg0)
      ∧ r.2.mem ((c.tc : Thread Cert.DWQIdeal.nD Cert.DWQIdeal.τ).loc Cert.DWQIdeal.main_arg1) = m ((c.tc : Thread Cert.DWQIdeal.nD Cert.DWQIdeal.τ).loc Cert.DWQIdeal.main_arg1)
      ∧ r.2.mem ((c.tc : Thread Cert.DWQIdeal.nD Cert.DWQIdeal.τ).loc Cert.DWQIdeal.main_arg2) = m ((c.tc : Thread Cert.DWQIdeal.nD Cert.DWQIdeal.τ).loc Cert.DWQIdeal.main_arg2))
      ∧ r.2.sem = fun _ => 0)

def quiescent_DWQRefIdeal [hDWQRefIdeal : Cert.DWQRefIdeal.Facts] : Prop :=
  ∀ (m : (ℓ : Loc Cert.DWQRefIdeal.nD Cert.DWQRefIdeal.τ Cert.DWQRefIdeal.sig) → Buf (Elt Ideal) ℓ) (g : Dev Cert.DWQRefIdeal.nD → PrngReg), Pre_DWQRefIdeal m →
    θ_run (Cert.DWQRefIdeal.defs (F := Ideal)) (onTc (τ := Cert.DWQRefIdeal.τ) (Cert.DWQRefIdeal.main (F := Ideal))) ⟨m, fun _ => 0, g⟩ (fun r => (∀ c : Dev Cert.DWQRefIdeal.nD,
      r.2.mem ((c.tc : Thread Cert.DWQRefIdeal.nD Cert.DWQRefIdeal.τ).loc Cert.DWQRefIdeal.main_arg0) = m ((c.tc : Thread Cert.DWQRefIdeal.nD Cert.DWQRefIdeal.τ).loc Cert.DWQRefIdeal.main_arg0)
      ∧ r.2.mem ((c.tc : Thread Cert.DWQRefIdeal.nD Cert.DWQRefIdeal.τ).loc Cert.DWQRefIdeal.main_arg1) = m ((c.tc : Thread Cert.DWQRefIdeal.nD Cert.DWQRefIdeal.τ).loc Cert.DWQRefIdeal.main_arg1)
      ∧ r.2.mem ((c.tc : Thread Cert.DWQRefIdeal.nD Cert.DWQRefIdeal.τ).loc Cert.DWQRefIdeal.main_arg2) = m ((c.tc : Thread Cert.DWQRefIdeal.nD Cert.DWQRefIdeal.τ).loc Cert.DWQRefIdeal.main_arg2))
      ∧ r.2.sem = fun _ => 0)

def quiescent_DWBc [hDWBc : Cert.DWBc.Facts] : Prop :=
  ∀ (m : (ℓ : Loc Cert.DWBc.nD Cert.DWBc.τ Cert.DWBc.sig) → Buf (Elt Bits) ℓ) (g : Dev Cert.DWBc.nD → PrngReg), Pre_DWBc m →
    θ_run (Cert.DWBc.defs (F := Bits)) (onTc (τ := Cert.DWBc.τ) (Cert.DWBc.main (F := Bits))) ⟨m, fun _ => 0, g⟩ (fun r => (∀ c : Dev Cert.DWBc.nD,
      r.2.mem ((c.tc : Thread Cert.DWBc.nD Cert.DWBc.τ).loc Cert.DWBc.main_arg0) = m ((c.tc : Thread Cert.DWBc.nD Cert.DWBc.τ).loc Cert.DWBc.main_arg0)
      ∧ r.2.mem ((c.tc : Thread Cert.DWBc.nD Cert.DWBc.τ).loc Cert.DWBc.main_arg1) = m ((c.tc : Thread Cert.DWBc.nD Cert.DWBc.τ).loc Cert.DWBc.main_arg1)
      ∧ r.2.mem ((c.tc : Thread Cert.DWBc.nD Cert.DWBc.τ).loc Cert.DWBc.main_arg2) = m ((c.tc : Thread Cert.DWBc.nD Cert.DWBc.τ).loc Cert.DWBc.main_arg2))
      ∧ r.2.sem = fun _ => 0)

def quiescent_DWBcIdeal [hDWBcIdeal : Cert.DWBcIdeal.Facts] : Prop :=
  ∀ (m : (ℓ : Loc Cert.DWBcIdeal.nD Cert.DWBcIdeal.τ Cert.DWBcIdeal.sig) → Buf (Elt Ideal) ℓ) (g : Dev Cert.DWBcIdeal.nD → PrngReg), Pre_DWBcIdeal m →
    θ_run (Cert.DWBcIdeal.defs (F := Ideal)) (onTc (τ := Cert.DWBcIdeal.τ) (Cert.DWBcIdeal.main (F := Ideal))) ⟨m, fun _ => 0, g⟩ (fun r => (∀ c : Dev Cert.DWBcIdeal.nD,
      r.2.mem ((c.tc : Thread Cert.DWBcIdeal.nD Cert.DWBcIdeal.τ).loc Cert.DWBcIdeal.main_arg0) = m ((c.tc : Thread Cert.DWBcIdeal.nD Cert.DWBcIdeal.τ).loc Cert.DWBcIdeal.main_arg0)
      ∧ r.2.mem ((c.tc : Thread Cert.DWBcIdeal.nD Cert.DWBcIdeal.τ).loc Cert.DWBcIdeal.main_arg1) = m ((c.tc : Thread Cert.DWBcIdeal.nD Cert.DWBcIdeal.τ).loc Cert.DWBcIdeal.main_arg1)
      ∧ r.2.mem ((c.tc : Thread Cert.DWBcIdeal.nD Cert.DWBcIdeal.τ).loc Cert.DWBcIdeal.main_arg2) = m ((c.tc : Thread Cert.DWBcIdeal.nD Cert.DWBcIdeal.τ).loc Cert.DWBcIdeal.main_arg2))
      ∧ r.2.sem = fun _ => 0)

def quiescent_DWBcRefIdeal [hDWBcRefIdeal : Cert.DWBcRefIdeal.Facts] : Prop :=
  ∀ (m : (ℓ : Loc Cert.DWBcRefIdeal.nD Cert.DWBcRefIdeal.τ Cert.DWBcRefIdeal.sig) → Buf (Elt Ideal) ℓ) (g : Dev Cert.DWBcRefIdeal.nD → PrngReg), Pre_DWBcRefIdeal m →
    θ_run (Cert.DWBcRefIdeal.defs (F := Ideal)) (onTc (τ := Cert.DWBcRefIdeal.τ) (Cert.DWBcRefIdeal.main (F := Ideal))) ⟨m, fun _ => 0, g⟩ (fun r => (∀ c : Dev Cert.DWBcRefIdeal.nD,
      r.2.mem ((c.tc : Thread Cert.DWBcRefIdeal.nD Cert.DWBcRefIdeal.τ).loc Cert.DWBcRefIdeal.main_arg0) = m ((c.tc : Thread Cert.DWBcRefIdeal.nD Cert.DWBcRefIdeal.τ).loc Cert.DWBcRefIdeal.main_arg0)
      ∧ r.2.mem ((c.tc : Thread Cert.DWBcRefIdeal.nD Cert.DWBcRefIdeal.τ).loc Cert.DWBcRefIdeal.main_arg1) = m ((c.tc : Thread Cert.DWBcRefIdeal.nD Cert.DWBcRefIdeal.τ).loc Cert.DWBcRefIdeal.main_arg1)
      ∧ r.2.mem ((c.tc : Thread Cert.DWBcRefIdeal.nD Cert.DWBcRefIdeal.τ).loc Cert.DWBcRefIdeal.main_arg2) = m ((c.tc : Thread Cert.DWBcRefIdeal.nD Cert.DWBcRefIdeal.τ).loc Cert.DWBcRefIdeal.main_arg2))
      ∧ r.2.sem = fun _ => 0)

def quiescent_DWGate [hDWGate : Cert.DWGate.Facts] : Prop :=
  ∀ (m : (ℓ : Loc Cert.DWGate.nD Cert.DWGate.τ Cert.DWGate.sig) → Buf (Elt Bits) ℓ) (g : Dev Cert.DWGate.nD → PrngReg), Pre_DWGate m →
    θ_run (Cert.DWGate.defs (F := Bits)) (onTc (τ := Cert.DWGate.τ) (Cert.DWGate.main (F := Bits))) ⟨m, fun _ => 0, g⟩ (fun r => (∀ c : Dev Cert.DWGate.nD,
      r.2.mem ((c.tc : Thread Cert.DWGate.nD Cert.DWGate.τ).loc Cert.DWGate.main_arg0) = m ((c.tc : Thread Cert.DWGate.nD Cert.DWGate.τ).loc Cert.DWGate.main_arg0)
      ∧ r.2.mem ((c.tc : Thread Cert.DWGate.nD Cert.DWGate.τ).loc Cert.DWGate.main_arg1) = m ((c.tc : Thread Cert.DWGate.nD Cert.DWGate.τ).loc Cert.DWGate.main_arg1)
      ∧ r.2.mem ((c.tc : Thread Cert.DWGate.nD Cert.DWGate.τ).loc Cert.DWGate.main_arg2) = m ((c.tc : Thread Cert.DWGate.nD Cert.DWGate.τ).loc Cert.DWGate.main_arg2))
      ∧ r.2.sem = fun _ => 0)

def quiescent_DWGateIdeal [hDWGateIdeal : Cert.DWGateIdeal.Facts] : Prop :=
  ∀ (m : (ℓ : Loc Cert.DWGateIdeal.nD Cert.DWGateIdeal.τ Cert.DWGateIdeal.sig) → Buf (Elt Ideal) ℓ) (g : Dev Cert.DWGateIdeal.nD → PrngReg), Pre_DWGateIdeal m →
    θ_run (Cert.DWGateIdeal.defs (F := Ideal)) (onTc (τ := Cert.DWGateIdeal.τ) (Cert.DWGateIdeal.main (F := Ideal))) ⟨m, fun _ => 0, g⟩ (fun r => (∀ c : Dev Cert.DWGateIdeal.nD,
      r.2.mem ((c.tc : Thread Cert.DWGateIdeal.nD Cert.DWGateIdeal.τ).loc Cert.DWGateIdeal.main_arg0) = m ((c.tc : Thread Cert.DWGateIdeal.nD Cert.DWGateIdeal.τ).loc Cert.DWGateIdeal.main_arg0)
      ∧ r.2.mem ((c.tc : Thread Cert.DWGateIdeal.nD Cert.DWGateIdeal.τ).loc Cert.DWGateIdeal.main_arg1) = m ((c.tc : Thread Cert.DWGateIdeal.nD Cert.DWGateIdeal.τ).loc Cert.DWGateIdeal.main_arg1)
      ∧ r.2.mem ((c.tc : Thread Cert.DWGateIdeal.nD Cert.DWGateIdeal.τ).loc Cert.DWGateIdeal.main_arg2) = m ((c.tc : Thread Cert.DWGateIdeal.nD Cert.DWGateIdeal.τ).loc Cert.DWGateIdeal.main_arg2))
      ∧ r.2.sem = fun _ => 0)

def quiescent_DWGateRefIdeal [hDWGateRefIdeal : Cert.DWGateRefIdeal.Facts] : Prop :=
  ∀ (m : (ℓ : Loc Cert.DWGateRefIdeal.nD Cert.DWGateRefIdeal.τ Cert.DWGateRefIdeal.sig) → Buf (Elt Ideal) ℓ) (g : Dev Cert.DWGateRefIdeal.nD → PrngReg), Pre_DWGateRefIdeal m →
    θ_run (Cert.DWGateRefIdeal.defs (F := Ideal)) (onTc (τ := Cert.DWGateRefIdeal.τ) (Cert.DWGateRefIdeal.main (F := Ideal))) ⟨m, fun _ => 0, g⟩ (fun r => (∀ c : Dev Cert.DWGateRefIdeal.nD,
      r.2.mem ((c.tc : Thread Cert.DWGateRefIdeal.nD Cert.DWGateRefIdeal.τ).loc Cert.DWGateRefIdeal.main_arg0) = m ((c.tc : Thread Cert.DWGateRefIdeal.nD Cert.DWGateRefIdeal.τ).loc Cert.DWGateRefIdeal.main_arg0)
      ∧ r.2.mem ((c.tc : Thread Cert.DWGateRefIdeal.nD Cert.DWGateRefIdeal.τ).loc Cert.DWGateRefIdeal.main_arg1) = m ((c.tc : Thread Cert.DWGateRefIdeal.nD Cert.DWGateRefIdeal.τ).loc Cert.DWGateRefIdeal.main_arg1)
      ∧ r.2.mem ((c.tc : Thread Cert.DWGateRefIdeal.nD Cert.DWGateRefIdeal.τ).loc Cert.DWGateRefIdeal.main_arg2) = m ((c.tc : Thread Cert.DWGateRefIdeal.nD Cert.DWGateRefIdeal.τ).loc Cert.DWGateRefIdeal.main_arg2))
      ∧ r.2.sem = fun _ => 0)

def quiescent_FfAct [hFfAct : Cert.FfAct.Facts] : Prop :=
  ∀ (m : (ℓ : Loc Cert.FfAct.nD Cert.FfAct.τ Cert.FfAct.sig) → Buf (Elt Bits) ℓ) (g : Dev Cert.FfAct.nD → PrngReg), Pre_FfAct m →
    θ_run (Cert.FfAct.defs (F := Bits)) (onTc (τ := Cert.FfAct.τ) (Cert.FfAct.main (F := Bits))) ⟨m, fun _ => 0, g⟩ (fun r => (∀ c : Dev Cert.FfAct.nD,
      r.2.mem ((c.tc : Thread Cert.FfAct.nD Cert.FfAct.τ).loc Cert.FfAct.main_arg0) = m ((c.tc : Thread Cert.FfAct.nD Cert.FfAct.τ).loc Cert.FfAct.main_arg0)
      ∧ r.2.mem ((c.tc : Thread Cert.FfAct.nD Cert.FfAct.τ).loc Cert.FfAct.main_arg1) = m ((c.tc : Thread Cert.FfAct.nD Cert.FfAct.τ).loc Cert.FfAct.main_arg1))
      ∧ r.2.sem = fun _ => 0)

def quiescent_FfActIdeal [hFfActIdeal : Cert.FfActIdeal.Facts] : Prop :=
  ∀ (m : (ℓ : Loc Cert.FfActIdeal.nD Cert.FfActIdeal.τ Cert.FfActIdeal.sig) → Buf (Elt Ideal) ℓ) (g : Dev Cert.FfActIdeal.nD → PrngReg), Pre_FfActIdeal m →
    θ_run (Cert.FfActIdeal.defs (F := Ideal)) (onTc (τ := Cert.FfActIdeal.τ) (Cert.FfActIdeal.main (F := Ideal))) ⟨m, fun _ => 0, g⟩ (fun r => (∀ c : Dev Cert.FfActIdeal.nD,
      r.2.mem ((c.tc : Thread Cert.FfActIdeal.nD Cert.FfActIdeal.τ).loc Cert.FfActIdeal.main_arg0) = m ((c.tc : Thread Cert.FfActIdeal.nD Cert.FfActIdeal.τ).loc Cert.FfActIdeal.main_arg0)
      ∧ r.2.mem ((c.tc : Thread Cert.FfActIdeal.nD Cert.FfActIdeal.τ).loc Cert.FfActIdeal.main_arg1) = m ((c.tc : Thread Cert.FfActIdeal.nD Cert.FfActIdeal.τ).loc Cert.FfActIdeal.main_arg1))
      ∧ r.2.sem = fun _ => 0)

def quiescent_FfActRefIdeal [hFfActRefIdeal : Cert.FfActRefIdeal.Facts] : Prop :=
  ∀ (m : (ℓ : Loc Cert.FfActRefIdeal.nD Cert.FfActRefIdeal.τ Cert.FfActRefIdeal.sig) → Buf (Elt Ideal) ℓ) (g : Dev Cert.FfActRefIdeal.nD → PrngReg), Pre_FfActRefIdeal m →
    θ_run (Cert.FfActRefIdeal.defs (F := Ideal)) (onTc (τ := Cert.FfActRefIdeal.τ) (Cert.FfActRefIdeal.main (F := Ideal))) ⟨m, fun _ => 0, g⟩ (fun r => (∀ c : Dev Cert.FfActRefIdeal.nD,
      r.2.mem ((c.tc : Thread Cert.FfActRefIdeal.nD Cert.FfActRefIdeal.τ).loc Cert.FfActRefIdeal.main_arg0) = m ((c.tc : Thread Cert.FfActRefIdeal.nD Cert.FfActRefIdeal.τ).loc Cert.FfActRefIdeal.main_arg0)
      ∧ r.2.mem ((c.tc : Thread Cert.FfActRefIdeal.nD Cert.FfActRefIdeal.τ).loc Cert.FfActRefIdeal.main_arg1) = m ((c.tc : Thread Cert.FfActRefIdeal.nD Cert.FfActRefIdeal.τ).loc Cert.FfActRefIdeal.main_arg1))
      ∧ r.2.sem = fun _ => 0)

def quiescent_FfSum [hFfSum : Cert.FfSum.Facts] : Prop :=
  ∀ (m : (ℓ : Loc Cert.FfSum.nD Cert.FfSum.τ Cert.FfSum.sig) → Buf (Elt Bits) ℓ) (g : Dev Cert.FfSum.nD → PrngReg), Pre_FfSum m →
    θ_run (Cert.FfSum.defs (F := Bits)) (onTc (τ := Cert.FfSum.τ) (Cert.FfSum.main (F := Bits))) ⟨m, fun _ => 0, g⟩ (fun r => (∀ c : Dev Cert.FfSum.nD,
      r.2.mem ((c.tc : Thread Cert.FfSum.nD Cert.FfSum.τ).loc Cert.FfSum.main_arg0) = m ((c.tc : Thread Cert.FfSum.nD Cert.FfSum.τ).loc Cert.FfSum.main_arg0)
      ∧ r.2.mem ((c.tc : Thread Cert.FfSum.nD Cert.FfSum.τ).loc Cert.FfSum.main_arg1) = m ((c.tc : Thread Cert.FfSum.nD Cert.FfSum.τ).loc Cert.FfSum.main_arg1))
      ∧ r.2.sem = fun _ => 0)

def quiescent_FfSumIdeal [hFfSumIdeal : Cert.FfSumIdeal.Facts] : Prop :=
  ∀ (m : (ℓ : Loc Cert.FfSumIdeal.nD Cert.FfSumIdeal.τ Cert.FfSumIdeal.sig) → Buf (Elt Ideal) ℓ) (g : Dev Cert.FfSumIdeal.nD → PrngReg), Pre_FfSumIdeal m →
    θ_run (Cert.FfSumIdeal.defs (F := Ideal)) (onTc (τ := Cert.FfSumIdeal.τ) (Cert.FfSumIdeal.main (F := Ideal))) ⟨m, fun _ => 0, g⟩ (fun r => (∀ c : Dev Cert.FfSumIdeal.nD,
      r.2.mem ((c.tc : Thread Cert.FfSumIdeal.nD Cert.FfSumIdeal.τ).loc Cert.FfSumIdeal.main_arg0) = m ((c.tc : Thread Cert.FfSumIdeal.nD Cert.FfSumIdeal.τ).loc Cert.FfSumIdeal.main_arg0)
      ∧ r.2.mem ((c.tc : Thread Cert.FfSumIdeal.nD Cert.FfSumIdeal.τ).loc Cert.FfSumIdeal.main_arg1) = m ((c.tc : Thread Cert.FfSumIdeal.nD Cert.FfSumIdeal.τ).loc Cert.FfSumIdeal.main_arg1))
      ∧ r.2.sem = fun _ => 0)

def quiescent_FfSumRefIdeal [hFfSumRefIdeal : Cert.FfSumRefIdeal.Facts] : Prop :=
  ∀ (m : (ℓ : Loc Cert.FfSumRefIdeal.nD Cert.FfSumRefIdeal.τ Cert.FfSumRefIdeal.sig) → Buf (Elt Ideal) ℓ) (g : Dev Cert.FfSumRefIdeal.nD → PrngReg), Pre_FfSumRefIdeal m →
    θ_run (Cert.FfSumRefIdeal.defs (F := Ideal)) (onTc (τ := Cert.FfSumRefIdeal.τ) (Cert.FfSumRefIdeal.main (F := Ideal))) ⟨m, fun _ => 0, g⟩ (fun r => (∀ c : Dev Cert.FfSumRefIdeal.nD,
      r.2.mem ((c.tc : Thread Cert.FfSumRefIdeal.nD Cert.FfSumRefIdeal.τ).loc Cert.FfSumRefIdeal.main_arg0) = m ((c.tc : Thread Cert.FfSumRefIdeal.nD Cert.FfSumRefIdeal.τ).loc Cert.FfSumRefIdeal.main_arg0)
      ∧ r.2.mem ((c.tc : Thread Cert.FfSumRefIdeal.nD Cert.FfSumRefIdeal.τ).loc Cert.FfSumRefIdeal.main_arg1) = m ((c.tc : Thread Cert.FfSumRefIdeal.nD Cert.FfSumRefIdeal.τ).loc Cert.FfSumRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1)
      ∧ r.2.mem ((c.tc : Thread Cert.DH.nD Cert.DH.τ).loc Cert.DH.main_arg2) = m ((c.tc : Thread Cert.DH.nD Cert.DH.τ).loc Cert.DH.main_arg2)
      ∧ r.2.mem ((c.tc : Thread Cert.DH.nD Cert.DH.τ).loc Cert.DH.main_arg3) = m ((c.tc : Thread Cert.DH.nD Cert.DH.τ).loc Cert.DH.main_arg3)
      ∧ r.2.mem ((c.tc : Thread Cert.DH.nD Cert.DH.τ).loc Cert.DH.main_arg4) = m ((c.tc : Thread Cert.DH.nD Cert.DH.τ).loc Cert.DH.main_arg4)
      ∧ r.2.mem ((c.tc : Thread Cert.DH.nD Cert.DH.τ).loc Cert.DH.main_arg5) = m ((c.tc : Thread Cert.DH.nD Cert.DH.τ).loc Cert.DH.main_arg5)
      ∧ r.2.mem ((c.tc : Thread Cert.DH.nD Cert.DH.τ).loc Cert.DH.main_arg6) = m ((c.tc : Thread Cert.DH.nD Cert.DH.τ).loc Cert.DH.main_arg6)
      ∧ r.2.mem ((c.tc : Thread Cert.DH.nD Cert.DH.τ).loc Cert.DH.main_arg7) = m ((c.tc : Thread Cert.DH.nD Cert.DH.τ).loc Cert.DH.main_arg7)
      ∧ r.2.mem ((c.tc : Thread Cert.DH.nD Cert.DH.τ).loc Cert.DH.main_arg8) = m ((c.tc : Thread Cert.DH.nD Cert.DH.τ).loc Cert.DH.main_arg8))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
      ∧ r.2.mem ((c.tc : Thread Cert.DHIdeal.nD Cert.DHIdeal.τ).loc Cert.DHIdeal.main_arg2) = m ((c.tc : Thread Cert.DHIdeal.nD Cert.DHIdeal.τ).loc Cert.DHIdeal.main_arg2)
      ∧ r.2.mem ((c.tc : Thread Cert.DHIdeal.nD Cert.DHIdeal.τ).loc Cert.DHIdeal.main_arg3) = m ((c.tc : Thread Cert.DHIdeal.nD Cert.DHIdeal.τ).loc Cert.DHIdeal.main_arg3)
      ∧ r.2.mem ((c.tc : Thread Cert.DHIdeal.nD Cert.DHIdeal.τ).loc Cert.DHIdeal.main_arg4) = m ((c.tc : Thread Cert.DHIdeal.nD Cert.DHIdeal.τ).loc Cert.DHIdeal.main_arg4)
      ∧ r.2.mem ((c.tc : Thread Cert.DHIdeal.nD Cert.DHIdeal.τ).loc Cert.DHIdeal.main_arg5) = m ((c.tc : Thread Cert.DHIdeal.nD Cert.DHIdeal.τ).loc Cert.DHIdeal.main_arg5)
      ∧ r.2.mem ((c.tc : Thread Cert.DHIdeal.nD Cert.DHIdeal.τ).loc Cert.DHIdeal.main_arg6) = m ((c.tc : Thread Cert.DHIdeal.nD Cert.DHIdeal.τ).loc Cert.DHIdeal.main_arg6)
      ∧ r.2.mem ((c.tc : Thread Cert.DHIdeal.nD Cert.DHIdeal.τ).loc Cert.DHIdeal.main_arg7) = m ((c.tc : Thread Cert.DHIdeal.nD Cert.DHIdeal.τ).loc Cert.DHIdeal.main_arg7)
      ∧ r.2.mem ((c.tc : Thread Cert.DHIdeal.nD Cert.DHIdeal.τ).loc Cert.DHIdeal.main_arg8) = m ((c.tc : Thread Cert.DHIdeal.nD Cert.DHIdeal.τ).loc Cert.DHIdeal.main_arg8))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1)
      ∧ r.2.mem ((c.tc : Thread Cert.DHRefIdeal.nD Cert.DHRefIdeal.τ).loc Cert.DHRefIdeal.main_arg2) = m ((c.tc : Thread Cert.DHRefIdeal.nD Cert.DHRefIdeal.τ).loc Cert.DHRefIdeal.main_arg2)
      ∧ r.2.mem ((c.tc : Thread Cert.DHRefIdeal.nD Cert.DHRefIdeal.τ).loc Cert.DHRefIdeal.main_arg3) = m ((c.tc : Thread Cert.DHRefIdeal.nD Cert.DHRefIdeal.τ).loc Cert.DHRefIdeal.main_arg3)
      ∧ r.2.mem ((c.tc : Thread Cert.DHRefIdeal.nD Cert.DHRefIdeal.τ).loc Cert.DHRefIdeal.main_arg4) = m ((c.tc : Thread Cert.DHRefIdeal.nD Cert.DHRefIdeal.τ).loc Cert.DHRefIdeal.main_arg4)
      ∧ r.2.mem ((c.tc : Thread Cert.DHRefIdeal.nD Cert.DHRefIdeal.τ).loc Cert.DHRefIdeal.main_arg5) = m ((c.tc : Thread Cert.DHRefIdeal.nD Cert.DHRefIdeal.τ).loc Cert.DHRefIdeal.main_arg5)
      ∧ r.2.mem ((c.tc : Thread Cert.DHRefIdeal.nD Cert.DHRefIdeal.τ).loc Cert.DHRefIdeal.main_arg6) = m ((c.tc : Thread Cert.DHRefIdeal.nD Cert.DHRefIdeal.τ).loc Cert.DHRefIdeal.main_arg6)
      ∧ r.2.mem ((c.tc : Thread Cert.DHRefIdeal.nD Cert.DHRefIdeal.τ).loc Cert.DHRefIdeal.main_arg7) = m ((c.tc : Thread Cert.DHRefIdeal.nD Cert.DHRefIdeal.τ).loc Cert.DHRefIdeal.main_arg7)
      ∧ r.2.mem ((c.tc : Thread Cert.DHRefIdeal.nD Cert.DHRefIdeal.τ).loc Cert.DHRefIdeal.main_arg8) = m ((c.tc : Thread Cert.DHRefIdeal.nD Cert.DHRefIdeal.τ).loc Cert.DHRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1)
      ∧ r.2.mem ((c.tc : Thread Cert.InputGrad.nD Cert.InputGrad.τ).loc Cert.InputGrad.main_arg2) = m ((c.tc : Thread Cert.InputGrad.nD Cert.InputGrad.τ).loc Cert.InputGrad.main_arg2)
      ∧ r.2.mem ((c.tc : Thread Cert.InputGrad.nD Cert.InputGrad.τ).loc Cert.InputGrad.main_arg3) = m ((c.tc : Thread Cert.InputGrad.nD Cert.InputGrad.τ).loc Cert.InputGrad.main_arg3)
      ∧ r.2.mem ((c.tc : Thread Cert.InputGrad.nD Cert.InputGrad.τ).loc Cert.InputGrad.main_arg4) = m ((c.tc : Thread Cert.InputGrad.nD Cert.InputGrad.τ).loc Cert.InputGrad.main_arg4))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
      ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
      ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3)
      ∧ r.2.mem ((c.tc : Thread Cert.InputGradIdeal.nD Cert.InputGradIdeal.τ).loc Cert.InputGradIdeal.main_arg4) = m ((c.tc : Thread Cert.InputGradIdeal.nD Cert.InputGradIdeal.τ).loc Cert.InputGradIdeal.main_arg4))
      ∧ r.2.sem = fun _ => 0)

def quiescent_InputGradRefIdeal [hInputGradRefIdeal : Cert.InputGradRefIdeal.Facts] : Prop :=
  ∀ (m : (ℓ : Loc Cert.InputGradRefIdeal.nD Cert.InputGradRefIdeal.τ Cert.InputGradRefIdeal.sig) → Buf (Elt Ideal) ℓ) (g : Dev Cert.InputGradRefIdeal.nD → PrngReg), Pre_InputGradRefIdeal m →
    θ_run (Cert.InputGradRefIdeal.defs (F := Ideal)) (onTc (τ := Cert.InputGradRefIdeal.τ) (Cert.InputGradRefIdeal.main (F := Ideal))) ⟨m, fun _ => 0, g⟩ (fun r => (∀ c : Dev Cert.InputGradRefIdeal.nD,
      r.2.mem ((c.tc : Thread Cert.InputGradRefIdeal.nD Cert.InputGradRefIdeal.τ).loc Cert.InputGradRefIdeal.main_arg0) = m ((c.tc : Thread Cert.InputGradRefIdeal.nD Cert.InputGradRefIdeal.τ).loc Cert.InputGradRefIdeal.main_arg0)
      ∧ r.2.mem ((c.tc : Thread Cert.InputGradRefIdeal.nD Cert.InputGradRefIdeal.τ).loc Cert.InputGradRefIdeal.main_arg1) = m ((c.tc : Thread Cert.InputGradRefIdeal.nD Cert.InputGradRefIdeal.τ).loc Cert.InputGradRefIdeal.main_arg1)
      ∧ r.2.mem ((c.tc : Thread Cert.InputGradRefIdeal.nD Cert.InputGradRefIdeal.τ).loc Cert.InputGradRefIdeal.main_arg2) = m ((c.tc : Thread Cert.InputGradRefIdeal.nD Cert.InputGradRefIdeal.τ).loc Cert.InputGradRefIdeal.main_arg2)
      ∧ r.2.mem ((c.tc : Thread Cert.InputGradRefIdeal.nD Cert.InputGradRefIdeal.τ).loc Cert.InputGradRefIdeal.main_arg3) = m ((c.tc : Thread Cert.InputGradRefIdeal.nD Cert.InputGradRefIdeal.τ).loc Cert.InputGradRefIdeal.main_arg3)
      ∧ r.2.mem ((c.tc : Thread Cert.InputGradRefIdeal.nD Cert.InputGradRefIdeal.τ).loc Cert.InputGradRefIdeal.main_arg4) = m ((c.tc : Thread Cert.InputGradRefIdeal.nD Cert.InputGradRefIdeal.τ).loc Cert.InputGradRefIdeal.main_arg4))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2))
      ∧ r.2.sem = fun _ => 0)

def quiescent_UpFfIn [hUpFfIn : Cert.UpFfIn.Facts] : Prop :=
  ∀ (m : (ℓ : Loc Cert.UpFfIn.nD Cert.UpFfIn.τ Cert.UpFfIn.sig) → Buf (Elt Bits) ℓ) (g : Dev Cert.UpFfIn.nD → PrngReg), Pre_UpFfIn m →
    θ_run (Cert.UpFfIn.defs (F := Bits)) (onTc (τ := Cert.UpFfIn.τ) (Cert.UpFfIn.main (F := Bits))) ⟨m, fun _ => 0, g⟩ (fun r => (∀ c : Dev Cert.UpFfIn.nD,
      r.2.mem ((c.tc : Thread Cert.UpFfIn.nD Cert.UpFfIn.τ).loc Cert.UpFfIn.main_arg0) = m ((c.tc : Thread Cert.UpFfIn.nD Cert.UpFfIn.τ).loc Cert.UpFfIn.main_arg0)
      ∧ r.2.mem ((c.tc : Thread Cert.UpFfIn.nD Cert.UpFfIn.τ).loc Cert.UpFfIn.main_arg1) = m ((c.tc : Thread Cert.UpFfIn.nD Cert.UpFfIn.τ).loc Cert.UpFfIn.main_arg1)
      ∧ r.2.mem ((c.tc : Thread Cert.UpFfIn.nD Cert.UpFfIn.τ).loc Cert.UpFfIn.main_arg2) = m ((c.tc : Thread Cert.UpFfIn.nD Cert.UpFfIn.τ).loc Cert.UpFfIn.main_arg2)
      ∧ r.2.mem ((c.tc : Thread Cert.UpFfIn.nD Cert.UpFfIn.τ).loc Cert.UpFfIn.main_arg3) = m ((c.tc : Thread Cert.UpFfIn.nD Cert.UpFfIn.τ).loc Cert.UpFfIn.main_arg3))
      ∧ r.2.sem = fun _ => 0)

def quiescent_UpFfInIdeal [hUpFfInIdeal : Cert.UpFfInIdeal.Facts] : Prop :=
  ∀ (m : (ℓ : Loc Cert.UpFfInIdeal.nD Cert.UpFfInIdeal.τ Cert.UpFfInIdeal.sig) → Buf (Elt Ideal) ℓ) (g : Dev Cert.UpFfInIdeal.nD → PrngReg), Pre_UpFfInIdeal m →
    θ_run (Cert.UpFfInIdeal.defs (F := Ideal)) (onTc (τ := Cert.UpFfInIdeal.τ) (Cert.UpFfInIdeal.main (F := Ideal))) ⟨m, fun _ => 0, g⟩ (fun r => (∀ c : Dev Cert.UpFfInIdeal.nD,
      r.2.mem ((c.tc : Thread Cert.UpFfInIdeal.nD Cert.UpFfInIdeal.τ).loc Cert.UpFfInIdeal.main_arg0) = m ((c.tc : Thread Cert.UpFfInIdeal.nD Cert.UpFfInIdeal.τ).loc Cert.UpFfInIdeal.main_arg0)
      ∧ r.2.mem ((c.tc : Thread Cert.UpFfInIdeal.nD Cert.UpFfInIdeal.τ).loc Cert.UpFfInIdeal.main_arg1) = m ((c.tc : Thread Cert.UpFfInIdeal.nD Cert.UpFfInIdeal.τ).loc Cert.UpFfInIdeal.main_arg1)
      ∧ r.2.mem ((c.tc : Thread Cert.UpFfInIdeal.nD Cert.UpFfInIdeal.τ).loc Cert.UpFfInIdeal.main_arg2) = m ((c.tc : Thread Cert.UpFfInIdeal.nD Cert.UpFfInIdeal.τ).loc Cert.UpFfInIdeal.main_arg2)
      ∧ r.2.mem ((c.tc : Thread Cert.UpFfInIdeal.nD Cert.UpFfInIdeal.τ).loc Cert.UpFfInIdeal.main_arg3) = m ((c.tc : Thread Cert.UpFfInIdeal.nD Cert.UpFfInIdeal.τ).loc Cert.UpFfInIdeal.main_arg3))
      ∧ r.2.sem = fun _ => 0)

def quiescent_UpFfInRefIdeal [hUpFfInRefIdeal : Cert.UpFfInRefIdeal.Facts] : Prop :=
  ∀ (m : (ℓ : Loc Cert.UpFfInRefIdeal.nD Cert.UpFfInRefIdeal.τ Cert.UpFfInRefIdeal.sig) → Buf (Elt Ideal) ℓ) (g : Dev Cert.UpFfInRefIdeal.nD → PrngReg), Pre_UpFfInRefIdeal m →
    θ_run (Cert.UpFfInRefIdeal.defs (F := Ideal)) (onTc (τ := Cert.UpFfInRefIdeal.τ) (Cert.UpFfInRefIdeal.main (F := Ideal))) ⟨m, fun _ => 0, g⟩ (fun r => (∀ c : Dev Cert.UpFfInRefIdeal.nD,
      r.2.mem ((c.tc : Thread Cert.UpFfInRefIdeal.nD Cert.UpFfInRefIdeal.τ).loc Cert.UpFfInRefIdeal.main_arg0) = m ((c.tc : Thread Cert.UpFfInRefIdeal.nD Cert.UpFfInRefIdeal.τ).loc Cert.UpFfInRefIdeal.main_arg0)
      ∧ r.2.mem ((c.tc : Thread Cert.UpFfInRefIdeal.nD Cert.UpFfInRefIdeal.τ).loc Cert.UpFfInRefIdeal.main_arg1) = m ((c.tc : Thread Cert.UpFfInRefIdeal.nD Cert.UpFfInRefIdeal.τ).loc Cert.UpFfInRefIdeal.main_arg1)
      ∧ r.2.mem ((c.tc : Thread Cert.UpFfInRefIdeal.nD Cert.UpFfInRefIdeal.τ).loc Cert.UpFfInRefIdeal.main_arg2) = m ((c.tc : Thread Cert.UpFfInRefIdeal.nD Cert.UpFfInRefIdeal.τ).loc Cert.UpFfInRefIdeal.main_arg2)
      ∧ r.2.mem ((c.tc : Thread Cert.UpFfInRefIdeal.nD Cert.UpFfInRefIdeal.τ).loc Cert.UpFfInRefIdeal.main_arg3) = m ((c.tc : Thread Cert.UpFfInRefIdeal.nD Cert.UpFfInRefIdeal.τ).loc Cert.UpFfInRefIdeal.main_arg3))
      ∧ r.2.sem = fun _ => 0)

def quiescent_UpFfOut [hUpFfOut : Cert.UpFfOut.Facts] : Prop :=
  ∀ (m : (ℓ : Loc Cert.UpFfOut.nD Cert.UpFfOut.τ Cert.UpFfOut.sig) → Buf (Elt Bits) ℓ) (g : Dev Cert.UpFfOut.nD → PrngReg), Pre_UpFfOut m →
    θ_run (Cert.UpFfOut.defs (F := Bits)) (onTc (τ := Cert.UpFfOut.τ) (Cert.UpFfOut.main (F := Bits))) ⟨m, fun _ => 0, g⟩ (fun r => (∀ c : Dev Cert.UpFfOut.nD,
      r.2.mem ((c.tc : Thread Cert.UpFfOut.nD Cert.UpFfOut.τ).loc Cert.UpFfOut.main_arg0) = m ((c.tc : Thread Cert.UpFfOut.nD Cert.UpFfOut.τ).loc Cert.UpFfOut.main_arg0)
      ∧ r.2.mem ((c.tc : Thread Cert.UpFfOut.nD Cert.UpFfOut.τ).loc Cert.UpFfOut.main_arg1) = m ((c.tc : Thread Cert.UpFfOut.nD Cert.UpFfOut.τ).loc Cert.UpFfOut.main_arg1)
      ∧ r.2.mem ((c.tc : Thread Cert.UpFfOut.nD Cert.UpFfOut.τ).loc Cert.UpFfOut.main_arg2) = m ((c.tc : Thread Cert.UpFfOut.nD Cert.UpFfOut.τ).loc Cert.UpFfOut.main_arg2)
      ∧ r.2.mem ((c.tc : Thread Cert.UpFfOut.nD Cert.UpFfOut.τ).loc Cert.UpFfOut.main_arg3) = m ((c.tc : Thread Cert.UpFfOut.nD Cert.UpFfOut.τ).loc Cert.UpFfOut.main_arg3))
      ∧ r.2.sem = fun _ => 0)

def quiescent_UpFfOutIdeal [hUpFfOutIdeal : Cert.UpFfOutIdeal.Facts] : Prop :=
  ∀ (m : (ℓ : Loc Cert.UpFfOutIdeal.nD Cert.UpFfOutIdeal.τ Cert.UpFfOutIdeal.sig) → Buf (Elt Ideal) ℓ) (g : Dev Cert.UpFfOutIdeal.nD → PrngReg), Pre_UpFfOutIdeal m →
    θ_run (Cert.UpFfOutIdeal.defs (F := Ideal)) (onTc (τ := Cert.UpFfOutIdeal.τ) (Cert.UpFfOutIdeal.main (F := Ideal))) ⟨m, fun _ => 0, g⟩ (fun r => (∀ c : Dev Cert.UpFfOutIdeal.nD,
      r.2.mem ((c.tc : Thread Cert.UpFfOutIdeal.nD Cert.UpFfOutIdeal.τ).loc Cert.UpFfOutIdeal.main_arg0) = m ((c.tc : Thread Cert.UpFfOutIdeal.nD Cert.UpFfOutIdeal.τ).loc Cert.UpFfOutIdeal.main_arg0)
      ∧ r.2.mem ((c.tc : Thread Cert.UpFfOutIdeal.nD Cert.UpFfOutIdeal.τ).loc Cert.UpFfOutIdeal.main_arg1) = m ((c.tc : Thread Cert.UpFfOutIdeal.nD Cert.UpFfOutIdeal.τ).loc Cert.UpFfOutIdeal.main_arg1)
      ∧ r.2.mem ((c.tc : Thread Cert.UpFfOutIdeal.nD Cert.UpFfOutIdeal.τ).loc Cert.UpFfOutIdeal.main_arg2) = m ((c.tc : Thread Cert.UpFfOutIdeal.nD Cert.UpFfOutIdeal.τ).loc Cert.UpFfOutIdeal.main_arg2)
      ∧ r.2.mem ((c.tc : Thread Cert.UpFfOutIdeal.nD Cert.UpFfOutIdeal.τ).loc Cert.UpFfOutIdeal.main_arg3) = m ((c.tc : Thread Cert.UpFfOutIdeal.nD Cert.UpFfOutIdeal.τ).loc Cert.UpFfOutIdeal.main_arg3))
      ∧ r.2.sem = fun _ => 0)

def quiescent_UpFfOutRefIdeal [hUpFfOutRefIdeal : Cert.UpFfOutRefIdeal.Facts] : Prop :=
  ∀ (m : (ℓ : Loc Cert.UpFfOutRefIdeal.nD Cert.UpFfOutRefIdeal.τ Cert.UpFfOutRefIdeal.sig) → Buf (Elt Ideal) ℓ) (g : Dev Cert.UpFfOutRefIdeal.nD → PrngReg), Pre_UpFfOutRefIdeal m →
    θ_run (Cert.UpFfOutRefIdeal.defs (F := Ideal)) (onTc (τ := Cert.UpFfOutRefIdeal.τ) (Cert.UpFfOutRefIdeal.main (F := Ideal))) ⟨m, fun _ => 0, g⟩ (fun r => (∀ c : Dev Cert.UpFfOutRefIdeal.nD,
      r.2.mem ((c.tc : Thread Cert.UpFfOutRefIdeal.nD Cert.UpFfOutRefIdeal.τ).loc Cert.UpFfOutRefIdeal.main_arg0) = m ((c.tc : Thread Cert.UpFfOutRefIdeal.nD Cert.UpFfOutRefIdeal.τ).loc Cert.UpFfOutRefIdeal.main_arg0)
      ∧ r.2.mem ((c.tc : Thread Cert.UpFfOutRefIdeal.nD Cert.UpFfOutRefIdeal.τ).loc Cert.UpFfOutRefIdeal.main_arg1) = m ((c.tc : Thread Cert.UpFfOutRefIdeal.nD Cert.UpFfOutRefIdeal.τ).loc Cert.UpFfOutRefIdeal.main_arg1)
      ∧ r.2.mem ((c.tc : Thread Cert.UpFfOutRefIdeal.nD Cert.UpFfOutRefIdeal.τ).loc Cert.UpFfOutRefIdeal.main_arg2) = m ((c.tc : Thread Cert.UpFfOutRefIdeal.nD Cert.UpFfOutRefIdeal.τ).loc Cert.UpFfOutRefIdeal.main_arg2)
      ∧ r.2.mem ((c.tc : Thread Cert.UpFfOutRefIdeal.nD Cert.UpFfOutRefIdeal.τ).loc Cert.UpFfOutRefIdeal.main_arg3) = m ((c.tc : Thread Cert.UpFfOutRefIdeal.nD Cert.UpFfOutRefIdeal.τ).loc Cert.UpFfOutRefIdeal.main_arg3))
      ∧ r.2.sem = fun _ => 0)

def quiescent_UpOut [hUpOut : Cert.UpOut.Facts] : Prop :=
  ∀ (m : (ℓ : Loc Cert.UpOut.nD Cert.UpOut.τ Cert.UpOut.sig) → Buf (Elt Bits) ℓ) (g : Dev Cert.UpOut.nD → PrngReg), Pre_UpOut m →
    θ_run (Cert.UpOut.defs (F := Bits)) (onTc (τ := Cert.UpOut.τ) (Cert.UpOut.main (F := Bits))) ⟨m, fun _ => 0, g⟩ (fun r => (∀ c : Dev Cert.UpOut.nD,
      r.2.mem ((c.tc : Thread Cert.UpOut.nD Cert.UpOut.τ).loc Cert.UpOut.main_arg0) = m ((c.tc : Thread Cert.UpOut.nD Cert.UpOut.τ).loc Cert.UpOut.main_arg0)
      ∧ r.2.mem ((c.tc : Thread Cert.UpOut.nD Cert.UpOut.τ).loc Cert.UpOut.main_arg1) = m ((c.tc : Thread Cert.UpOut.nD Cert.UpOut.τ).loc Cert.UpOut.main_arg1)
      ∧ r.2.mem ((c.tc : Thread Cert.UpOut.nD Cert.UpOut.τ).loc Cert.UpOut.main_arg2) = m ((c.tc : Thread Cert.UpOut.nD Cert.UpOut.τ).loc Cert.UpOut.main_arg2)
      ∧ r.2.mem ((c.tc : Thread Cert.UpOut.nD Cert.UpOut.τ).loc Cert.UpOut.main_arg3) = m ((c.tc : Thread Cert.UpOut.nD Cert.UpOut.τ).loc Cert.UpOut.main_arg3))
      ∧ r.2.sem = fun _ => 0)

def quiescent_UpOutIdeal [hUpOutIdeal : Cert.UpOutIdeal.Facts] : Prop :=
  ∀ (m : (ℓ : Loc Cert.UpOutIdeal.nD Cert.UpOutIdeal.τ Cert.UpOutIdeal.sig) → Buf (Elt Ideal) ℓ) (g : Dev Cert.UpOutIdeal.nD → PrngReg), Pre_UpOutIdeal m →
    θ_run (Cert.UpOutIdeal.defs (F := Ideal)) (onTc (τ := Cert.UpOutIdeal.τ) (Cert.UpOutIdeal.main (F := Ideal))) ⟨m, fun _ => 0, g⟩ (fun r => (∀ c : Dev Cert.UpOutIdeal.nD,
      r.2.mem ((c.tc : Thread Cert.UpOutIdeal.nD Cert.UpOutIdeal.τ).loc Cert.UpOutIdeal.main_arg0) = m ((c.tc : Thread Cert.UpOutIdeal.nD Cert.UpOutIdeal.τ).loc Cert.UpOutIdeal.main_arg0)
      ∧ r.2.mem ((c.tc : Thread Cert.UpOutIdeal.nD Cert.UpOutIdeal.τ).loc Cert.UpOutIdeal.main_arg1) = m ((c.tc : Thread Cert.UpOutIdeal.nD Cert.UpOutIdeal.τ).loc Cert.UpOutIdeal.main_arg1)
      ∧ r.2.mem ((c.tc : Thread Cert.UpOutIdeal.nD Cert.UpOutIdeal.τ).loc Cert.UpOutIdeal.main_arg2) = m ((c.tc : Thread Cert.UpOutIdeal.nD Cert.UpOutIdeal.τ).loc Cert.UpOutIdeal.main_arg2)
      ∧ r.2.mem ((c.tc : Thread Cert.UpOutIdeal.nD Cert.UpOutIdeal.τ).loc Cert.UpOutIdeal.main_arg3) = m ((c.tc : Thread Cert.UpOutIdeal.nD Cert.UpOutIdeal.τ).loc Cert.UpOutIdeal.main_arg3))
      ∧ r.2.sem = fun _ => 0)

def quiescent_UpOutRefIdeal [hUpOutRefIdeal : Cert.UpOutRefIdeal.Facts] : Prop :=
  ∀ (m : (ℓ : Loc Cert.UpOutRefIdeal.nD Cert.UpOutRefIdeal.τ Cert.UpOutRefIdeal.sig) → Buf (Elt Ideal) ℓ) (g : Dev Cert.UpOutRefIdeal.nD → PrngReg), Pre_UpOutRefIdeal m →
    θ_run (Cert.UpOutRefIdeal.defs (F := Ideal)) (onTc (τ := Cert.UpOutRefIdeal.τ) (Cert.UpOutRefIdeal.main (F := Ideal))) ⟨m, fun _ => 0, g⟩ (fun r => (∀ c : Dev Cert.UpOutRefIdeal.nD,
      r.2.mem ((c.tc : Thread Cert.UpOutRefIdeal.nD Cert.UpOutRefIdeal.τ).loc Cert.UpOutRefIdeal.main_arg0) = m ((c.tc : Thread Cert.UpOutRefIdeal.nD Cert.UpOutRefIdeal.τ).loc Cert.UpOutRefIdeal.main_arg0)
      ∧ r.2.mem ((c.tc : Thread Cert.UpOutRefIdeal.nD Cert.UpOutRefIdeal.τ).loc Cert.UpOutRefIdeal.main_arg1) = m ((c.tc : Thread Cert.UpOutRefIdeal.nD Cert.UpOutRefIdeal.τ).loc Cert.UpOutRefIdeal.main_arg1)
      ∧ r.2.mem ((c.tc : Thread Cert.UpOutRefIdeal.nD Cert.UpOutRefIdeal.τ).loc Cert.UpOutRefIdeal.main_arg2) = m ((c.tc : Thread Cert.UpOutRefIdeal.nD Cert.UpOutRefIdeal.τ).loc Cert.UpOutRefIdeal.main_arg2)
      ∧ r.2.mem ((c.tc : Thread Cert.UpOutRefIdeal.nD Cert.UpOutRefIdeal.τ).loc Cert.UpOutRefIdeal.main_arg3) = m ((c.tc : Thread Cert.UpOutRefIdeal.nD Cert.UpOutRefIdeal.τ).loc Cert.UpOutRefIdeal.main_arg3))
      ∧ r.2.sem = fun _ => 0)

def quiescent_UpIn [hUpIn : Cert.UpIn.Facts] : Prop :=
  ∀ (m : (ℓ : Loc Cert.UpIn.nD Cert.UpIn.τ Cert.UpIn.sig) → Buf (Elt Bits) ℓ) (g : Dev Cert.UpIn.nD → PrngReg), Pre_UpIn m →
    θ_run (Cert.UpIn.defs (F := Bits)) (onTc (τ := Cert.UpIn.τ) (Cert.UpIn.main (F := Bits))) ⟨m, fun _ => 0, g⟩ (fun r => (∀ c : Dev Cert.UpIn.nD,
      r.2.mem ((c.tc : Thread Cert.UpIn.nD Cert.UpIn.τ).loc Cert.UpIn.main_arg0) = m ((c.tc : Thread Cert.UpIn.nD Cert.UpIn.τ).loc Cert.UpIn.main_arg0)
      ∧ r.2.mem ((c.tc : Thread Cert.UpIn.nD Cert.UpIn.τ).loc Cert.UpIn.main_arg1) = m ((c.tc : Thread Cert.UpIn.nD Cert.UpIn.τ).loc Cert.UpIn.main_arg1)
      ∧ r.2.mem ((c.tc : Thread Cert.UpIn.nD Cert.UpIn.τ).loc Cert.UpIn.main_arg2) = m ((c.tc : Thread Cert.UpIn.nD Cert.UpIn.τ).loc Cert.UpIn.main_arg2)
      ∧ r.2.mem ((c.tc : Thread Cert.UpIn.nD Cert.UpIn.τ).loc Cert.UpIn.main_arg3) = m ((c.tc : Thread Cert.UpIn.nD Cert.UpIn.τ).loc Cert.UpIn.main_arg3))
      ∧ r.2.sem = fun _ => 0)

def quiescent_UpInIdeal [hUpInIdeal : Cert.UpInIdeal.Facts] : Prop :=
  ∀ (m : (ℓ : Loc Cert.UpInIdeal.nD Cert.UpInIdeal.τ Cert.UpInIdeal.sig) → Buf (Elt Ideal) ℓ) (g : Dev Cert.UpInIdeal.nD → PrngReg), Pre_UpInIdeal m →
    θ_run (Cert.UpInIdeal.defs (F := Ideal)) (onTc (τ := Cert.UpInIdeal.τ) (Cert.UpInIdeal.main (F := Ideal))) ⟨m, fun _ => 0, g⟩ (fun r => (∀ c : Dev Cert.UpInIdeal.nD,
      r.2.mem ((c.tc : Thread Cert.UpInIdeal.nD Cert.UpInIdeal.τ).loc Cert.UpInIdeal.main_arg0) = m ((c.tc : Thread Cert.UpInIdeal.nD Cert.UpInIdeal.τ).loc Cert.UpInIdeal.main_arg0)
      ∧ r.2.mem ((c.tc : Thread Cert.UpInIdeal.nD Cert.UpInIdeal.τ).loc Cert.UpInIdeal.main_arg1) = m ((c.tc : Thread Cert.UpInIdeal.nD Cert.UpInIdeal.τ).loc Cert.UpInIdeal.main_arg1)
      ∧ r.2.mem ((c.tc : Thread Cert.UpInIdeal.nD Cert.UpInIdeal.τ).loc Cert.UpInIdeal.main_arg2) = m ((c.tc : Thread Cert.UpInIdeal.nD Cert.UpInIdeal.τ).loc Cert.UpInIdeal.main_arg2)
      ∧ r.2.mem ((c.tc : Thread Cert.UpInIdeal.nD Cert.UpInIdeal.τ).loc Cert.UpInIdeal.main_arg3) = m ((c.tc : Thread Cert.UpInIdeal.nD Cert.UpInIdeal.τ).loc Cert.UpInIdeal.main_arg3))
      ∧ r.2.sem = fun _ => 0)

def quiescent_UpInRefIdeal [hUpInRefIdeal : Cert.UpInRefIdeal.Facts] : Prop :=
  ∀ (m : (ℓ : Loc Cert.UpInRefIdeal.nD Cert.UpInRefIdeal.τ Cert.UpInRefIdeal.sig) → Buf (Elt Ideal) ℓ) (g : Dev Cert.UpInRefIdeal.nD → PrngReg), Pre_UpInRefIdeal m →
    θ_run (Cert.UpInRefIdeal.defs (F := Ideal)) (onTc (τ := Cert.UpInRefIdeal.τ) (Cert.UpInRefIdeal.main (F := Ideal))) ⟨m, fun _ => 0, g⟩ (fun r => (∀ c : Dev Cert.UpInRefIdeal.nD,
      r.2.mem ((c.tc : Thread Cert.UpInRefIdeal.nD Cert.UpInRefIdeal.τ).loc Cert.UpInRefIdeal.main_arg0) = m ((c.tc : Thread Cert.UpInRefIdeal.nD Cert.UpInRefIdeal.τ).loc Cert.UpInRefIdeal.main_arg0)
      ∧ r.2.mem ((c.tc : Thread Cert.UpInRefIdeal.nD Cert.UpInRefIdeal.τ).loc Cert.UpInRefIdeal.main_arg1) = m ((c.tc : Thread Cert.UpInRefIdeal.nD Cert.UpInRefIdeal.τ).loc Cert.UpInRefIdeal.main_arg1)
      ∧ r.2.mem ((c.tc : Thread Cert.UpInRefIdeal.nD Cert.UpInRefIdeal.τ).loc Cert.UpInRefIdeal.main_arg2) = m ((c.tc : Thread Cert.UpInRefIdeal.nD Cert.UpInRefIdeal.τ).loc Cert.UpInRefIdeal.main_arg2)
      ∧ r.2.mem ((c.tc : Thread Cert.UpInRefIdeal.nD Cert.UpInRefIdeal.τ).loc Cert.UpInRefIdeal.main_arg3) = m ((c.tc : Thread Cert.UpInRefIdeal.nD Cert.UpInRefIdeal.τ).loc Cert.UpInRefIdeal.main_arg3))
      ∧ r.2.sem = fun _ => 0)

def quiescent_UpAda [hUpAda : Cert.UpAda.Facts] : Prop :=
  ∀ (m : (ℓ : Loc Cert.UpAda.nD Cert.UpAda.τ Cert.UpAda.sig) → Buf (Elt Bits) ℓ) (g : Dev Cert.UpAda.nD → PrngReg), Pre_UpAda m →
    θ_run (Cert.UpAda.defs (F := Bits)) (onTc (τ := Cert.UpAda.τ) (Cert.UpAda.main (F := Bits))) ⟨m, fun _ => 0, g⟩ (fun r => (∀ c : Dev Cert.UpAda.nD,
      r.2.mem ((c.tc : Thread Cert.UpAda.nD Cert.UpAda.τ).loc Cert.UpAda.main_arg0) = m ((c.tc : Thread Cert.UpAda.nD Cert.UpAda.τ).loc Cert.UpAda.main_arg0)
      ∧ r.2.mem ((c.tc : Thread Cert.UpAda.nD Cert.UpAda.τ).loc Cert.UpAda.main_arg1) = m ((c.tc : Thread Cert.UpAda.nD Cert.UpAda.τ).loc Cert.UpAda.main_arg1)
      ∧ r.2.mem ((c.tc : Thread Cert.UpAda.nD Cert.UpAda.τ).loc Cert.UpAda.main_arg2) = m ((c.tc : Thread Cert.UpAda.nD Cert.UpAda.τ).loc Cert.UpAda.main_arg2)
      ∧ r.2.mem ((c.tc : Thread Cert.UpAda.nD Cert.UpAda.τ).loc Cert.UpAda.main_arg3) = m ((c.tc : Thread Cert.UpAda.nD Cert.UpAda.τ).loc Cert.UpAda.main_arg3))
      ∧ r.2.sem = fun _ => 0)

def quiescent_UpAdaIdeal [hUpAdaIdeal : Cert.UpAdaIdeal.Facts] : Prop :=
  ∀ (m : (ℓ : Loc Cert.UpAdaIdeal.nD Cert.UpAdaIdeal.τ Cert.UpAdaIdeal.sig) → Buf (Elt Ideal) ℓ) (g : Dev Cert.UpAdaIdeal.nD → PrngReg), Pre_UpAdaIdeal m →
    θ_run (Cert.UpAdaIdeal.defs (F := Ideal)) (onTc (τ := Cert.UpAdaIdeal.τ) (Cert.UpAdaIdeal.main (F := Ideal))) ⟨m, fun _ => 0, g⟩ (fun r => (∀ c : Dev Cert.UpAdaIdeal.nD,
      r.2.mem ((c.tc : Thread Cert.UpAdaIdeal.nD Cert.UpAdaIdeal.τ).loc Cert.UpAdaIdeal.main_arg0) = m ((c.tc : Thread Cert.UpAdaIdeal.nD Cert.UpAdaIdeal.τ).loc Cert.UpAdaIdeal.main_arg0)
      ∧ r.2.mem ((c.tc : Thread Cert.UpAdaIdeal.nD Cert.UpAdaIdeal.τ).loc Cert.UpAdaIdeal.main_arg1) = m ((c.tc : Thread Cert.UpAdaIdeal.nD Cert.UpAdaIdeal.τ).loc Cert.UpAdaIdeal.main_arg1)
      ∧ r.2.mem ((c.tc : Thread Cert.UpAdaIdeal.nD Cert.UpAdaIdeal.τ).loc Cert.UpAdaIdeal.main_arg2) = m ((c.tc : Thread Cert.UpAdaIdeal.nD Cert.UpAdaIdeal.τ).loc Cert.UpAdaIdeal.main_arg2)
      ∧ r.2.mem ((c.tc : Thread Cert.UpAdaIdeal.nD Cert.UpAdaIdeal.τ).loc Cert.UpAdaIdeal.main_arg3) = m ((c.tc : Thread Cert.UpAdaIdeal.nD Cert.UpAdaIdeal.τ).loc Cert.UpAdaIdeal.main_arg3))
      ∧ r.2.sem = fun _ => 0)

def quiescent_UpAdaRefIdeal [hUpAdaRefIdeal : Cert.UpAdaRefIdeal.Facts] : Prop :=
  ∀ (m : (ℓ : Loc Cert.UpAdaRefIdeal.nD Cert.UpAdaRefIdeal.τ Cert.UpAdaRefIdeal.sig) → Buf (Elt Ideal) ℓ) (g : Dev Cert.UpAdaRefIdeal.nD → PrngReg), Pre_UpAdaRefIdeal m →
    θ_run (Cert.UpAdaRefIdeal.defs (F := Ideal)) (onTc (τ := Cert.UpAdaRefIdeal.τ) (Cert.UpAdaRefIdeal.main (F := Ideal))) ⟨m, fun _ => 0, g⟩ (fun r => (∀ c : Dev Cert.UpAdaRefIdeal.nD,
      r.2.mem ((c.tc : Thread Cert.UpAdaRefIdeal.nD Cert.UpAdaRefIdeal.τ).loc Cert.UpAdaRefIdeal.main_arg0) = m ((c.tc : Thread Cert.UpAdaRefIdeal.nD Cert.UpAdaRefIdeal.τ).loc Cert.UpAdaRefIdeal.main_arg0)
      ∧ r.2.mem ((c.tc : Thread Cert.UpAdaRefIdeal.nD Cert.UpAdaRefIdeal.τ).loc Cert.UpAdaRefIdeal.main_arg1) = m ((c.tc : Thread Cert.UpAdaRefIdeal.nD Cert.UpAdaRefIdeal.τ).loc Cert.UpAdaRefIdeal.main_arg1)
      ∧ r.2.mem ((c.tc : Thread Cert.UpAdaRefIdeal.nD Cert.UpAdaRefIdeal.τ).loc Cert.UpAdaRefIdeal.main_arg2) = m ((c.tc : Thread Cert.UpAdaRefIdeal.nD Cert.UpAdaRefIdeal.τ).loc Cert.UpAdaRefIdeal.main_arg2)
      ∧ r.2.mem ((c.tc : Thread Cert.UpAdaRefIdeal.nD Cert.UpAdaRefIdeal.τ).loc Cert.UpAdaRefIdeal.main_arg3) = m ((c.tc : Thread Cert.UpAdaRefIdeal.nD Cert.UpAdaRefIdeal.τ).loc Cert.UpAdaRefIdeal.main_arg3))
      ∧ r.2.sem = fun _ => 0)

def quiescent_UpConv [hUpConv : Cert.UpConv.Facts] : Prop :=
  ∀ (m : (ℓ : Loc Cert.UpConv.nD Cert.UpConv.τ Cert.UpConv.sig) → Buf (Elt Bits) ℓ) (g : Dev Cert.UpConv.nD → PrngReg), Pre_UpConv m →
    θ_run (Cert.UpConv.defs (F := Bits)) (onTc (τ := Cert.UpConv.τ) (Cert.UpConv.main (F := Bits))) ⟨m, fun _ => 0, g⟩ (fun r => (∀ c : Dev Cert.UpConv.nD,
      r.2.mem ((c.tc : Thread Cert.UpConv.nD Cert.UpConv.τ).loc Cert.UpConv.main_arg0) = m ((c.tc : Thread Cert.UpConv.nD Cert.UpConv.τ).loc Cert.UpConv.main_arg0)
      ∧ r.2.mem ((c.tc : Thread Cert.UpConv.nD Cert.UpConv.τ).loc Cert.UpConv.main_arg1) = m ((c.tc : Thread Cert.UpConv.nD Cert.UpConv.τ).loc Cert.UpConv.main_arg1)
      ∧ r.2.mem ((c.tc : Thread Cert.UpConv.nD Cert.UpConv.τ).loc Cert.UpConv.main_arg2) = m ((c.tc : Thread Cert.UpConv.nD Cert.UpConv.τ).loc Cert.UpConv.main_arg2)
      ∧ r.2.mem ((c.tc : Thread Cert.UpConv.nD Cert.UpConv.τ).loc Cert.UpConv.main_arg3) = m ((c.tc : Thread Cert.UpConv.nD Cert.UpConv.τ).loc Cert.UpConv.main_arg3))
      ∧ r.2.sem = fun _ => 0)

def quiescent_UpConvIdeal [hUpConvIdeal : Cert.UpConvIdeal.Facts] : Prop :=
  ∀ (m : (ℓ : Loc Cert.UpConvIdeal.nD Cert.UpConvIdeal.τ Cert.UpConvIdeal.sig) → Buf (Elt Ideal) ℓ) (g : Dev Cert.UpConvIdeal.nD → PrngReg), Pre_UpConvIdeal m →
    θ_run (Cert.UpConvIdeal.defs (F := Ideal)) (onTc (τ := Cert.UpConvIdeal.τ) (Cert.UpConvIdeal.main (F := Ideal))) ⟨m, fun _ => 0, g⟩ (fun r => (∀ c : Dev Cert.UpConvIdeal.nD,
      r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
      ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
      ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
      ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ r.2.sem = fun _ => 0)

def quiescent_UpConvRefIdeal [hUpConvRefIdeal : Cert.UpConvRefIdeal.Facts] : Prop :=
  ∀ (m : (ℓ : Loc Cert.UpConvRefIdeal.nD Cert.UpConvRefIdeal.τ Cert.UpConvRefIdeal.sig) → Buf (Elt Ideal) ℓ) (g : Dev Cert.UpConvRefIdeal.nD → PrngReg), Pre_UpConvRefIdeal m →
    θ_run (Cert.UpConvRefIdeal.defs (F := Ideal)) (onTc (τ := Cert.UpConvRefIdeal.τ) (Cert.UpConvRefIdeal.main (F := Ideal))) ⟨m, fun _ => 0, g⟩ (fun r => (∀ c : Dev Cert.UpConvRefIdeal.nD,
      r.2.mem ((c.tc : Thread Cert.UpConvRefIdeal.nD Cert.UpConvRefIdeal.τ).loc Cert.UpConvRefIdeal.main_arg0) = m ((c.tc : Thread Cert.UpConvRefIdeal.nD Cert.UpConvRefIdeal.τ).loc Cert.UpConvRefIdeal.main_arg0)
      ∧ r.2.mem ((c.tc : Thread Cert.UpConvRefIdeal.nD Cert.UpConvRefIdeal.τ).loc Cert.UpConvRefIdeal.main_arg1) = m ((c.tc : Thread Cert.UpConvRefIdeal.nD Cert.UpConvRefIdeal.τ).loc Cert.UpConvRefIdeal.main_arg1)
      ∧ r.2.mem ((c.tc : Thread Cert.UpConvRefIdeal.nD Cert.UpConvRefIdeal.τ).loc Cert.UpConvRefIdeal.main_arg2) = m ((c.tc : Thread Cert.UpConvRefIdeal.nD Cert.UpConvRefIdeal.τ).loc Cert.UpConvRefIdeal.main_arg2)
      ∧ r.2.mem ((c.tc : Thread Cert.UpConvRefIdeal.nD Cert.UpConvRefIdeal.τ).loc Cert.UpConvRefIdeal.main_arg3) = m ((c.tc : Thread Cert.UpConvRefIdeal.nD Cert.UpConvRefIdeal.τ).loc Cert.UpConvRefIdeal.main_arg3))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1)
      ∧ r.2.mem ((c.tc : Thread Cert.AdaGrad.nD Cert.AdaGrad.τ).loc Cert.AdaGrad.main_arg2) = m ((c.tc : Thread Cert.AdaGrad.nD Cert.AdaGrad.τ).loc Cert.AdaGrad.main_arg2))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1)
      ∧ r.2.mem ((c.tc : Thread Cert.AdaGradIdeal.nD Cert.AdaGradIdeal.τ).loc Cert.AdaGradIdeal.main_arg2) = m ((c.tc : Thread Cert.AdaGradIdeal.nD Cert.AdaGradIdeal.τ).loc Cert.AdaGradIdeal.main_arg2))
      ∧ r.2.sem = fun _ => 0)

def quiescent_AdaGradIdeal_pre_finite_ada [hAdaGradIdeal : Cert.AdaGradIdeal.Facts] [hPre_finite_ada : Cert.Pre_finite_ada.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal_finite_ada m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1)
      ∧ r.2.mem ((c.tc : Thread Cert.AdaGradIdeal.nD Cert.AdaGradIdeal.τ).loc Cert.AdaGradIdeal.main_arg2) = m ((c.tc : Thread Cert.AdaGradIdeal.nD Cert.AdaGradIdeal.τ).loc Cert.AdaGradIdeal.main_arg2))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1)
      ∧ r.2.mem ((c.tc : Thread Cert.AdaGradRefIdeal.nD Cert.AdaGradRefIdeal.τ).loc Cert.AdaGradRefIdeal.main_arg2) = m ((c.tc : Thread Cert.AdaGradRefIdeal.nD Cert.AdaGradRefIdeal.τ).loc Cert.AdaGradRefIdeal.main_arg2))
      ∧ r.2.sem = fun _ => 0)

def quiescent_AdaGradRefIdeal_pre_finite_ada [hAdaGradRefIdeal : Cert.AdaGradRefIdeal.Facts] [hPre_finite_ada : Cert.Pre_finite_ada.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal_finite_ada m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1)
      ∧ r.2.mem ((c.tc : Thread Cert.AdaGradRefIdeal.nD Cert.AdaGradRefIdeal.τ).loc Cert.AdaGradRefIdeal.main_arg2) = m ((c.tc : Thread Cert.AdaGradRefIdeal.nD Cert.AdaGradRefIdeal.τ).loc Cert.AdaGradRefIdeal.main_arg2))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModIdeal_pre_finite_mod [hAdaModIdeal : Cert.AdaModIdeal.Facts] [hPre_finite_mod : Cert.Pre_finite_mod.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal_finite_mod m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_AdaModRefIdeal_pre_finite_mod [hAdaModRefIdeal : Cert.AdaModRefIdeal.Facts] [hPre_finite_mod : Cert.Pre_finite_mod.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal_finite_mod m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4)
      ∧ r.2.mem ((c.tc : Thread Cert.Ln.nD Cert.Ln.τ).loc Cert.Ln.main_arg5) = m ((c.tc : Thread Cert.Ln.nD Cert.Ln.τ).loc Cert.Ln.main_arg5)
      ∧ r.2.mem ((c.tc : Thread Cert.Ln.nD Cert.Ln.τ).loc Cert.Ln.main_arg6) = m ((c.tc : Thread Cert.Ln.nD Cert.Ln.τ).loc Cert.Ln.main_arg6))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
      ∧ r.2.mem ((c.tc : Thread Cert.LnIdeal.nD Cert.LnIdeal.τ).loc Cert.LnIdeal.main_arg6) = m ((c.tc : Thread Cert.LnIdeal.nD Cert.LnIdeal.τ).loc Cert.LnIdeal.main_arg6))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4)
      ∧ r.2.mem ((c.tc : Thread Cert.LnRefIdeal.nD Cert.LnRefIdeal.τ).loc Cert.LnRefIdeal.main_arg5) = m ((c.tc : Thread Cert.LnRefIdeal.nD Cert.LnRefIdeal.τ).loc Cert.LnRefIdeal.main_arg5)
      ∧ r.2.mem ((c.tc : Thread Cert.LnRefIdeal.nD Cert.LnRefIdeal.τ).loc Cert.LnRefIdeal.main_arg6) = m ((c.tc : Thread Cert.LnRefIdeal.nD Cert.LnRefIdeal.τ).loc Cert.LnRefIdeal.main_arg6))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2)
      ∧ r.2.mem ((c.tc : Thread Cert.MixNorm.nD Cert.MixNorm.τ).loc Cert.MixNorm.main_arg3) = m ((c.tc : Thread Cert.MixNorm.nD Cert.MixNorm.τ).loc Cert.MixNorm.main_arg3)
      ∧ r.2.mem ((c.tc : Thread Cert.MixNorm.nD Cert.MixNorm.τ).loc Cert.MixNorm.main_arg4) = m ((c.tc : Thread Cert.MixNorm.nD Cert.MixNorm.τ).loc Cert.MixNorm.main_arg4))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)) (v3 : (c : Dev Cert.KernelIdeal.nD) → Buf (Elt Ideal) ((c.tc : Thread Cert.KernelIdeal.nD Cert.KernelIdeal.τ).loc Cert.KernelIdeal.main_v60_3)) (v4 : (c : Dev Cert.KernelIdeal.nD) → Buf (Elt Ideal) ((c.tc : Thread Cert.KernelIdeal.nD Cert.KernelIdeal.τ).loc Cert.KernelIdeal.main_v60_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_v60_3) = v3 c
          ∧ r.2.mem ((c.tc : Thread Cert.KernelIdeal.nD Cert.KernelIdeal.τ).loc Cert.KernelIdeal.main_v60_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_v240) = v1 c
          ∧ r.2.mem ((c.tc : Thread Cert.ReferenceIdeal.nD Cert.ReferenceIdeal.τ).loc Cert.ReferenceIdeal.main_v242) = v2 c
          ∧ r.2.mem ((c.tc : Thread Cert.ReferenceIdeal.nD Cert.ReferenceIdeal.τ).loc Cert.ReferenceIdeal.main_v244) = v3 c
          ∧ r.2.mem ((c.tc : Thread Cert.ReferenceIdeal.nD Cert.ReferenceIdeal.τ).loc Cert.ReferenceIdeal.main_v246) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)
      ∧ m' ((c.tc : Thread Cert.HiddenRefIdeal.nD Cert.HiddenRefIdeal.τ).loc Cert.HiddenRefIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v6)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v6) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v13) = v0 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2)
          ∧ r.2.mem ((c.tc : Thread Cert.HiddenRefIdeal.nD Cert.HiddenRefIdeal.τ).loc Cert.HiddenRefIdeal.main_arg3) = m' ((c.tc : Thread Cert.HiddenRefIdeal.nD Cert.HiddenRefIdeal.τ).loc Cert.HiddenRefIdeal.main_arg3))

def preserves_FfOut_FfOutIdeal : Prop :=
  True

def algebraic_FfOutIdeal_FfOutRefIdeal [hFfOutIdeal : Cert.FfOutIdeal.Facts] [hFfOutRefIdeal : Cert.FfOutRefIdeal.Facts] : Prop :=
  ∀ (m : (ℓ : Loc Cert.FfOutIdeal.nD Cert.FfOutIdeal.τ Cert.FfOutIdeal.sig) → Buf (Elt Ideal) ℓ) (g : Dev Cert.FfOutIdeal.nD → PrngReg)
    (m' : (ℓ : Loc Cert.FfOutRefIdeal.nD Cert.FfOutRefIdeal.τ Cert.FfOutRefIdeal.sig) → Buf (Elt Ideal) ℓ) (g' : Dev Cert.FfOutRefIdeal.nD → PrngReg), Pre_FfOutIdeal m →
    (∀ c : Dev Cert.FfOutIdeal.nD,
      m' ((c.tc : Thread Cert.FfOutRefIdeal.nD Cert.FfOutRefIdeal.τ).loc Cert.FfOutRefIdeal.main_arg0) = m ((c.tc : Thread Cert.FfOutIdeal.nD Cert.FfOutIdeal.τ).loc Cert.FfOutIdeal.main_arg0)
      ∧ m' ((c.tc : Thread Cert.FfOutRefIdeal.nD Cert.FfOutRefIdeal.τ).loc Cert.FfOutRefIdeal.main_arg1) = m ((c.tc : Thread Cert.FfOutIdeal.nD Cert.FfOutIdeal.τ).loc Cert.FfOutIdeal.main_arg1)
      ∧ m' ((c.tc : Thread Cert.FfOutRefIdeal.nD Cert.FfOutRefIdeal.τ).loc Cert.FfOutRefIdeal.main_arg2) = m ((c.tc : Thread Cert.FfOutIdeal.nD Cert.FfOutIdeal.τ).loc Cert.FfOutIdeal.main_arg2)
      ∧ m' ((c.tc : Thread Cert.FfOutRefIdeal.nD Cert.FfOutRefIdeal.τ).loc Cert.FfOutRefIdeal.main_arg3) = m ((c.tc : Thread Cert.FfOutIdeal.nD Cert.FfOutIdeal.τ).loc Cert.FfOutIdeal.main_arg3)) →
    ∃ (v0 : (c : Dev Cert.FfOutIdeal.nD) → Buf (Elt Ideal) ((c.tc : Thread Cert.FfOutIdeal.nD Cert.FfOutIdeal.τ).loc Cert.FfOutIdeal.main_v5)),
      θ_run (Cert.FfOutIdeal.defs (F := Ideal)) (onTc (τ := Cert.FfOutIdeal.τ) (Cert.FfOutIdeal.main (F := Ideal))) ⟨m, fun _ => 0, g⟩ (fun r => ∀ c : Dev Cert.FfOutIdeal.nD,
          r.2.mem ((c.tc : Thread Cert.FfOutIdeal.nD Cert.FfOutIdeal.τ).loc Cert.FfOutIdeal.main_v5) = v0 c
          ∧ r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
          ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
          ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2)
          ∧ r.2.mem ((c.tc : Thread Cert.FfOutIdeal.nD Cert.FfOutIdeal.τ).loc Cert.FfOutIdeal.main_arg3) = m ((c.tc : Thread Cert.FfOutIdeal.nD Cert.FfOutIdeal.τ).loc Cert.FfOutIdeal.main_arg3))
      ∧ θ_run (Cert.FfOutRefIdeal.defs (F := Ideal)) (onTc (τ := Cert.FfOutRefIdeal.τ) (Cert.FfOutRefIdeal.main (F := Ideal))) ⟨m', fun _ => 0, g'⟩ (fun r => ∀ c : Dev Cert.FfOutRefIdeal.nD,
          r.2.mem ((c.tc : Thread Cert.FfOutRefIdeal.nD Cert.FfOutRefIdeal.τ).loc Cert.FfOutRefIdeal.main_v6) = v0 c
          ∧ r.2.mem ((c.tc : Thread Cert.FfOutRefIdeal.nD Cert.FfOutRefIdeal.τ).loc Cert.FfOutRefIdeal.main_arg0) = m' ((c.tc : Thread Cert.FfOutRefIdeal.nD Cert.FfOutRefIdeal.τ).loc Cert.FfOutRefIdeal.main_arg0)
          ∧ r.2.mem ((c.tc : Thread Cert.FfOutRefIdeal.nD Cert.FfOutRefIdeal.τ).loc Cert.FfOutRefIdeal.main_arg1) = m' ((c.tc : Thread Cert.FfOutRefIdeal.nD Cert.FfOutRefIdeal.τ).loc Cert.FfOutRefIdeal.main_arg1)
          ∧ r.2.mem ((c.tc : Thread Cert.FfOutRefIdeal.nD Cert.FfOutRefIdeal.τ).loc Cert.FfOutRefIdeal.main_arg2) = m' ((c.tc : Thread Cert.FfOutRefIdeal.nD Cert.FfOutRefIdeal.τ).loc Cert.FfOutRefIdeal.main_arg2)
          ∧ r.2.mem ((c.tc : Thread Cert.FfOutRefIdeal.nD Cert.FfOutRefIdeal.τ).loc Cert.FfOutRefIdeal.main_arg3) = m' ((c.tc : Thread Cert.FfOutRefIdeal.nD Cert.FfOutRefIdeal.τ).loc Cert.FfOutRefIdeal.main_arg3))

def preserves_FfIn_FfInIdeal : Prop :=
  True

def algebraic_FfInIdeal_FfInRefIdeal [hFfInIdeal : Cert.FfInIdeal.Facts] [hFfInRefIdeal : Cert.FfInRefIdeal.Facts] : Prop :=
  ∀ (m : (ℓ : Loc Cert.FfInIdeal.nD Cert.FfInIdeal.τ Cert.FfInIdeal.sig) → Buf (Elt Ideal) ℓ) (g : Dev Cert.FfInIdeal.nD → PrngReg)
    (m' : (ℓ : Loc Cert.FfInRefIdeal.nD Cert.FfInRefIdeal.τ Cert.FfInRefIdeal.sig) → Buf (Elt Ideal) ℓ) (g' : Dev Cert.FfInRefIdeal.nD → PrngReg), Pre_FfInIdeal m →
    (∀ c : Dev Cert.FfInIdeal.nD,
      m' ((c.tc : Thread Cert.FfInRefIdeal.nD Cert.FfInRefIdeal.τ).loc Cert.FfInRefIdeal.main_arg0) = m ((c.tc : Thread Cert.FfInIdeal.nD Cert.FfInIdeal.τ).loc Cert.FfInIdeal.main_arg0)
      ∧ m' ((c.tc : Thread Cert.FfInRefIdeal.nD Cert.FfInRefIdeal.τ).loc Cert.FfInRefIdeal.main_arg1) = m ((c.tc : Thread Cert.FfInIdeal.nD Cert.FfInIdeal.τ).loc Cert.FfInIdeal.main_arg1)
      ∧ m' ((c.tc : Thread Cert.FfInRefIdeal.nD Cert.FfInRefIdeal.τ).loc Cert.FfInRefIdeal.main_arg2) = m ((c.tc : Thread Cert.FfInIdeal.nD Cert.FfInIdeal.τ).loc Cert.FfInIdeal.main_arg2)) →
    ∃ (v0 : (c : Dev Cert.FfInIdeal.nD) → Buf (Elt Ideal) ((c.tc : Thread Cert.FfInIdeal.nD Cert.FfInIdeal.τ).loc Cert.FfInIdeal.main_v2)),
      θ_run (Cert.FfInIdeal.defs (F := Ideal)) (onTc (τ := Cert.FfInIdeal.τ) (Cert.FfInIdeal.main (F := Ideal))) ⟨m, fun _ => 0, g⟩ (fun r => ∀ c : Dev Cert.FfInIdeal.nD,
          r.2.mem ((c.tc : Thread Cert.FfInIdeal.nD Cert.FfInIdeal.τ).loc Cert.FfInIdeal.main_v2) = v0 c
          ∧ r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
          ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1)
          ∧ r.2.mem ((c.tc : Thread Cert.FfInIdeal.nD Cert.FfInIdeal.τ).loc Cert.FfInIdeal.main_arg2) = m ((c.tc : Thread Cert.FfInIdeal.nD Cert.FfInIdeal.τ).loc Cert.FfInIdeal.main_arg2))
      ∧ θ_run (Cert.FfInRefIdeal.defs (F := Ideal)) (onTc (τ := Cert.FfInRefIdeal.τ) (Cert.FfInRefIdeal.main (F := Ideal))) ⟨m', fun _ => 0, g'⟩ (fun r => ∀ c : Dev Cert.FfInRefIdeal.nD,
          r.2.mem ((c.tc : Thread Cert.FfInRefIdeal.nD Cert.FfInRefIdeal.τ).loc Cert.FfInRefIdeal.main_v5) = v0 c
          ∧ r.2.mem ((c.tc : Thread Cert.FfInRefIdeal.nD Cert.FfInRefIdeal.τ).loc Cert.FfInRefIdeal.main_arg0) = m' ((c.tc : Thread Cert.FfInRefIdeal.nD Cert.FfInRefIdeal.τ).loc Cert.FfInRefIdeal.main_arg0)
          ∧ r.2.mem ((c.tc : Thread Cert.FfInRefIdeal.nD Cert.FfInRefIdeal.τ).loc Cert.FfInRefIdeal.main_arg1) = m' ((c.tc : Thread Cert.FfInRefIdeal.nD Cert.FfInRefIdeal.τ).loc Cert.FfInRefIdeal.main_arg1)
          ∧ r.2.mem ((c.tc : Thread Cert.FfInRefIdeal.nD Cert.FfInRefIdeal.τ).loc Cert.FfInRefIdeal.main_arg2) = m' ((c.tc : Thread Cert.FfInRefIdeal.nD Cert.FfInRefIdeal.τ).loc Cert.FfInRefIdeal.main_arg2))

def preserves_FfInput_FfInputIdeal : Prop :=
  True

def algebraic_FfInputIdeal_FfInputRefIdeal [hFfInputIdeal : Cert.FfInputIdeal.Facts] [hFfInputRefIdeal : Cert.FfInputRefIdeal.Facts] : Prop :=
  ∀ (m : (ℓ : Loc Cert.FfInputIdeal.nD Cert.FfInputIdeal.τ Cert.FfInputIdeal.sig) → Buf (Elt Ideal) ℓ) (g : Dev Cert.FfInputIdeal.nD → PrngReg)
    (m' : (ℓ : Loc Cert.FfInputRefIdeal.nD Cert.FfInputRefIdeal.τ Cert.FfInputRefIdeal.sig) → Buf (Elt Ideal) ℓ) (g' : Dev Cert.FfInputRefIdeal.nD → PrngReg), Pre_FfInputIdeal m →
    (∀ c : Dev Cert.FfInputIdeal.nD,
      m' ((c.tc : Thread Cert.FfInputRefIdeal.nD Cert.FfInputRefIdeal.τ).loc Cert.FfInputRefIdeal.main_arg0) = m ((c.tc : Thread Cert.FfInputIdeal.nD Cert.FfInputIdeal.τ).loc Cert.FfInputIdeal.main_arg0)
      ∧ m' ((c.tc : Thread Cert.FfInputRefIdeal.nD Cert.FfInputRefIdeal.τ).loc Cert.FfInputRefIdeal.main_arg1) = m ((c.tc : Thread Cert.FfInputIdeal.nD Cert.FfInputIdeal.τ).loc Cert.FfInputIdeal.main_arg1)
      ∧ m' ((c.tc : Thread Cert.FfInputRefIdeal.nD Cert.FfInputRefIdeal.τ).loc Cert.FfInputRefIdeal.main_arg2) = m ((c.tc : Thread Cert.FfInputIdeal.nD Cert.FfInputIdeal.τ).loc Cert.FfInputIdeal.main_arg2)) →
    ∃ (v0 : (c : Dev Cert.FfInputIdeal.nD) → Buf (Elt Ideal) ((c.tc : Thread Cert.FfInputIdeal.nD Cert.FfInputIdeal.τ).loc Cert.FfInputIdeal.main_v4)),
      θ_run (Cert.FfInputIdeal.defs (F := Ideal)) (onTc (τ := Cert.FfInputIdeal.τ) (Cert.FfInputIdeal.main (F := Ideal))) ⟨m, fun _ => 0, g⟩ (fun r => ∀ c : Dev Cert.FfInputIdeal.nD,
          r.2.mem ((c.tc : Thread Cert.FfInputIdeal.nD Cert.FfInputIdeal.τ).loc Cert.FfInputIdeal.main_v4) = v0 c
          ∧ r.2.mem ((c.tc : Thread Cert.FfInputIdeal.nD Cert.FfInputIdeal.τ).loc Cert.FfInputIdeal.main_arg0) = m ((c.tc : Thread Cert.FfInputIdeal.nD Cert.FfInputIdeal.τ).loc Cert.FfInputIdeal.main_arg0)
          ∧ r.2.mem ((c.tc : Thread Cert.FfInputIdeal.nD Cert.FfInputIdeal.τ).loc Cert.FfInputIdeal.main_arg1) = m ((c.tc : Thread Cert.FfInputIdeal.nD Cert.FfInputIdeal.τ).loc Cert.FfInputIdeal.main_arg1)
          ∧ r.2.mem ((c.tc : Thread Cert.FfInputIdeal.nD Cert.FfInputIdeal.τ).loc Cert.FfInputIdeal.main_arg2) = m ((c.tc : Thread Cert.FfInputIdeal.nD Cert.FfInputIdeal.τ).loc Cert.FfInputIdeal.main_arg2))
      ∧ θ_run (Cert.FfInputRefIdeal.defs (F := Ideal)) (onTc (τ := Cert.FfInputRefIdeal.τ) (Cert.FfInputRefIdeal.main (F := Ideal))) ⟨m', fun _ => 0, g'⟩ (fun r => ∀ c : Dev Cert.FfInputRefIdeal.nD,
          r.2.mem ((c.tc : Thread Cert.FfInputRefIdeal.nD Cert.FfInputRefIdeal.τ).loc Cert.FfInputRefIdeal.main_v1) = v0 c
          ∧ r.2.mem ((c.tc : Thread Cert.FfInputRefIdeal.nD Cert.FfInputRefIdeal.τ).loc Cert.FfInputRefIdeal.main_arg0) = m' ((c.tc : Thread Cert.FfInputRefIdeal.nD Cert.FfInputRefIdeal.τ).loc Cert.FfInputRefIdeal.main_arg0)
          ∧ r.2.mem ((c.tc : Thread Cert.FfInputRefIdeal.nD Cert.FfInputRefIdeal.τ).loc Cert.FfInputRefIdeal.main_arg1) = m' ((c.tc : Thread Cert.FfInputRefIdeal.nD Cert.FfInputRefIdeal.τ).loc Cert.FfInputRefIdeal.main_arg1)
          ∧ r.2.mem ((c.tc : Thread Cert.FfInputRefIdeal.nD Cert.FfInputRefIdeal.τ).loc Cert.FfInputRefIdeal.main_arg2) = m' ((c.tc : Thread Cert.FfInputRefIdeal.nD Cert.FfInputRefIdeal.τ).loc Cert.FfInputRefIdeal.main_arg2))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)
      ∧ m' ((c.tc : Thread Cert.DMixRefIdeal.nD Cert.DMixRefIdeal.τ).loc Cert.DMixRefIdeal.main_arg2) = m ((c.tc : Thread Cert.DMixIdeal.nD Cert.DMixIdeal.τ).loc Cert.DMixIdeal.main_arg2)) →
    ∃ (v0 : (c : Dev Cert.DMixIdeal.nD) → Buf (Elt Ideal) ((c.tc : Thread Cert.DMixIdeal.nD Cert.DMixIdeal.τ).loc Cert.DMixIdeal.main_v2)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v2) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1)
          ∧ r.2.mem ((c.tc : Thread Cert.DMixIdeal.nD Cert.DMixIdeal.τ).loc Cert.DMixIdeal.main_arg2) = m ((c.tc : Thread Cert.DMixIdeal.nD Cert.DMixIdeal.τ).loc Cert.DMixIdeal.main_arg2))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v1) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1)
          ∧ r.2.mem ((c.tc : Thread Cert.DMixRefIdeal.nD Cert.DMixRefIdeal.τ).loc Cert.DMixRefIdeal.main_arg2) = m' ((c.tc : Thread Cert.DMixRefIdeal.nD Cert.DMixRefIdeal.τ).loc Cert.DMixRefIdeal.main_arg2))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)
      ∧ m' ((c.tc : Thread Cert.DWOutRefIdeal.nD Cert.DWOutRefIdeal.τ).loc Cert.DWOutRefIdeal.main_arg2) = m ((c.tc : Thread Cert.DWOutIdeal.nD Cert.DWOutIdeal.τ).loc Cert.DWOutIdeal.main_arg2)) →
    ∃ (v0 : (c : Dev Cert.DWOutIdeal.nD) → Buf (Elt Ideal) ((c.tc : Thread Cert.DWOutIdeal.nD Cert.DWOutIdeal.τ).loc Cert.DWOutIdeal.main_v2)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v2) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1)
          ∧ r.2.mem ((c.tc : Thread Cert.DWOutIdeal.nD Cert.DWOutIdeal.τ).loc Cert.DWOutIdeal.main_arg2) = m ((c.tc : Thread Cert.DWOutIdeal.nD Cert.DWOutIdeal.τ).loc Cert.DWOutIdeal.main_arg2))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v3) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1)
          ∧ r.2.mem ((c.tc : Thread Cert.DWOutRefIdeal.nD Cert.DWOutRefIdeal.τ).loc Cert.DWOutRefIdeal.main_arg2) = m' ((c.tc : Thread Cert.DWOutRefIdeal.nD Cert.DWOutRefIdeal.τ).loc Cert.DWOutRefIdeal.main_arg2))

def preserves_DWIn_DWInIdeal : Prop :=
  True

def algebraic_DWInIdeal_DWInRefIdeal [hDWInIdeal : Cert.DWInIdeal.Facts] [hDWInRefIdeal : Cert.DWInRefIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInRefIdeal.nD Cert.DWInRefIdeal.τ Cert.DWInRefIdeal.sig) → Buf (Elt Ideal) ℓ) (g' : Dev Cert.DWInRefIdeal.nD → PrngReg), Pre_DWInIdeal m →
    (∀ c : Dev Cert.DWInIdeal.nD,
      m' ((c.tc : Thread Cert.DWInRefIdeal.nD Cert.DWInRefIdeal.τ).loc Cert.DWInRefIdeal.main_arg0) = m ((c.tc : Thread Cert.DWInIdeal.nD Cert.DWInIdeal.τ).loc Cert.DWInIdeal.main_arg0)
      ∧ m' ((c.tc : Thread Cert.DWInRefIdeal.nD Cert.DWInRefIdeal.τ).loc Cert.DWInRefIdeal.main_arg1) = m ((c.tc : Thread Cert.DWInIdeal.nD Cert.DWInIdeal.τ).loc Cert.DWInIdeal.main_arg1)
      ∧ m' ((c.tc : Thread Cert.DWInRefIdeal.nD Cert.DWInRefIdeal.τ).loc Cert.DWInRefIdeal.main_arg2) = m ((c.tc : Thread Cert.DWInIdeal.nD Cert.DWInIdeal.τ).loc Cert.DWInIdeal.main_arg2)) →
    ∃ (v0 : (c : Dev Cert.DWInIdeal.nD) → Buf (Elt Ideal) ((c.tc : Thread Cert.DWInIdeal.nD Cert.DWInIdeal.τ).loc Cert.DWInIdeal.main_v2)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v2) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1)
          ∧ r.2.mem ((c.tc : Thread Cert.DWInIdeal.nD Cert.DWInIdeal.τ).loc Cert.DWInIdeal.main_arg2) = m ((c.tc : Thread Cert.DWInIdeal.nD Cert.DWInIdeal.τ).loc Cert.DWInIdeal.main_arg2))
      ∧ θ_run (Cert.DWInRefIdeal.defs (F := Ideal)) (onTc (τ := Cert.DWInRefIdeal.τ) (Cert.DWInRefIdeal.main (F := Ideal))) ⟨m', fun _ => 0, g'⟩ (fun r => ∀ c : Dev Cert.DWInRefIdeal.nD,
          r.2.mem ((c.tc : Thread Cert.DWInRefIdeal.nD Cert.DWInRefIdeal.τ).loc Cert.DWInRefIdeal.main_v4) = v0 c
          ∧ r.2.mem ((c.tc : Thread Cert.DWInRefIdeal.nD Cert.DWInRefIdeal.τ).loc Cert.DWInRefIdeal.main_arg0) = m' ((c.tc : Thread Cert.DWInRefIdeal.nD Cert.DWInRefIdeal.τ).loc Cert.DWInRefIdeal.main_arg0)
          ∧ r.2.mem ((c.tc : Thread Cert.DWInRefIdeal.nD Cert.DWInRefIdeal.τ).loc Cert.DWInRefIdeal.main_arg1) = m' ((c.tc : Thread Cert.DWInRefIdeal.nD Cert.DWInRefIdeal.τ).loc Cert.DWInRefIdeal.main_arg1)
          ∧ r.2.mem ((c.tc : Thread Cert.DWInRefIdeal.nD Cert.DWInRefIdeal.τ).loc Cert.DWInRefIdeal.main_arg2) = m' ((c.tc : Thread Cert.DWInRefIdeal.nD Cert.DWInRefIdeal.τ).loc Cert.DWInRefIdeal.main_arg2))

def preserves_DWQ_DWQIdeal : Prop :=
  True

def algebraic_DWQIdeal_DWQRefIdeal [hDWQIdeal : Cert.DWQIdeal.Facts] [hDWQRefIdeal : Cert.DWQRefIdeal.Facts] : Prop :=
  ∀ (m : (ℓ : Loc Cert.DWQIdeal.nD Cert.DWQIdeal.τ Cert.DWQIdeal.sig) → Buf (Elt Ideal) ℓ) (g : Dev Cert.DWQIdeal.nD → PrngReg)
    (m' : (ℓ : Loc Cert.DWQRefIdeal.nD Cert.DWQRefIdeal.τ Cert.DWQRefIdeal.sig) → Buf (Elt Ideal) ℓ) (g' : Dev Cert.DWQRefIdeal.nD → PrngReg), Pre_DWQIdeal m →
    (∀ c : Dev Cert.DWQIdeal.nD,
      m' ((c.tc : Thread Cert.DWQRefIdeal.nD Cert.DWQRefIdeal.τ).loc Cert.DWQRefIdeal.main_arg0) = m ((c.tc : Thread Cert.DWQIdeal.nD Cert.DWQIdeal.τ).loc Cert.DWQIdeal.main_arg0)
      ∧ m' ((c.tc : Thread Cert.DWQRefIdeal.nD Cert.DWQRefIdeal.τ).loc Cert.DWQRefIdeal.main_arg1) = m ((c.tc : Thread Cert.DWQIdeal.nD Cert.DWQIdeal.τ).loc Cert.DWQIdeal.main_arg1)
      ∧ m' ((c.tc : Thread Cert.DWQRefIdeal.nD Cert.DWQRefIdeal.τ).loc Cert.DWQRefIdeal.main_arg2) = m ((c.tc : Thread Cert.DWQIdeal.nD Cert.DWQIdeal.τ).loc Cert.DWQIdeal.main_arg2)) →
    ∃ (v0 : (c : Dev Cert.DWQIdeal.nD) → Buf (Elt Ideal) ((c.tc : Thread Cert.DWQIdeal.nD Cert.DWQIdeal.τ).loc Cert.DWQIdeal.main_v1)),
      θ_run (Cert.DWQIdeal.defs (F := Ideal)) (onTc (τ := Cert.DWQIdeal.τ) (Cert.DWQIdeal.main (F := Ideal))) ⟨m, fun _ => 0, g⟩ (fun r => ∀ c : Dev Cert.DWQIdeal.nD,
          r.2.mem ((c.tc : Thread Cert.DWQIdeal.nD Cert.DWQIdeal.τ).loc Cert.DWQIdeal.main_v1) = v0 c
          ∧ r.2.mem ((c.tc : Thread Cert.DWQIdeal.nD Cert.DWQIdeal.τ).loc Cert.DWQIdeal.main_arg0) = m ((c.tc : Thread Cert.DWQIdeal.nD Cert.DWQIdeal.τ).loc Cert.DWQIdeal.main_arg0)
          ∧ r.2.mem ((c.tc : Thread Cert.DWQIdeal.nD Cert.DWQIdeal.τ).loc Cert.DWQIdeal.main_arg1) = m ((c.tc : Thread Cert.DWQIdeal.nD Cert.DWQIdeal.τ).loc Cert.DWQIdeal.main_arg1)
          ∧ r.2.mem ((c.tc : Thread Cert.DWQIdeal.nD Cert.DWQIdeal.τ).loc Cert.DWQIdeal.main_arg2) = m ((c.tc : Thread Cert.DWQIdeal.nD Cert.DWQIdeal.τ).loc Cert.DWQIdeal.main_arg2))
      ∧ θ_run (Cert.DWQRefIdeal.defs (F := Ideal)) (onTc (τ := Cert.DWQRefIdeal.τ) (Cert.DWQRefIdeal.main (F := Ideal))) ⟨m', fun _ => 0, g'⟩ (fun r => ∀ c : Dev Cert.DWQRefIdeal.nD,
          r.2.mem ((c.tc : Thread Cert.DWQRefIdeal.nD Cert.DWQRefIdeal.τ).loc Cert.DWQRefIdeal.main_v4) = v0 c
          ∧ r.2.mem ((c.tc : Thread Cert.DWQRefIdeal.nD Cert.DWQRefIdeal.τ).loc Cert.DWQRefIdeal.main_arg0) = m' ((c.tc : Thread Cert.DWQRefIdeal.nD Cert.DWQRefIdeal.τ).loc Cert.DWQRefIdeal.main_arg0)
          ∧ r.2.mem ((c.tc : Thread Cert.DWQRefIdeal.nD Cert.DWQRefIdeal.τ).loc Cert.DWQRefIdeal.main_arg1) = m' ((c.tc : Thread Cert.DWQRefIdeal.nD Cert.DWQRefIdeal.τ).loc Cert.DWQRefIdeal.main_arg1)
          ∧ r.2.mem ((c.tc : Thread Cert.DWQRefIdeal.nD Cert.DWQRefIdeal.τ).loc Cert.DWQRefIdeal.main_arg2) = m' ((c.tc : Thread Cert.DWQRefIdeal.nD Cert.DWQRefIdeal.τ).loc Cert.DWQRefIdeal.main_arg2))

def preserves_DWBc_DWBcIdeal : Prop :=
  True

def algebraic_DWBcIdeal_DWBcRefIdeal [hDWBcIdeal : Cert.DWBcIdeal.Facts] [hDWBcRefIdeal : Cert.DWBcRefIdeal.Facts] : Prop :=
  ∀ (m : (ℓ : Loc Cert.DWBcIdeal.nD Cert.DWBcIdeal.τ Cert.DWBcIdeal.sig) → Buf (Elt Ideal) ℓ) (g : Dev Cert.DWBcIdeal.nD → PrngReg)
    (m' : (ℓ : Loc Cert.DWBcRefIdeal.nD Cert.DWBcRefIdeal.τ Cert.DWBcRefIdeal.sig) → Buf (Elt Ideal) ℓ) (g' : Dev Cert.DWBcRefIdeal.nD → PrngReg), Pre_DWBcIdeal m →
    (∀ c : Dev Cert.DWBcIdeal.nD,
      m' ((c.tc : Thread Cert.DWBcRefIdeal.nD Cert.DWBcRefIdeal.τ).loc Cert.DWBcRefIdeal.main_arg0) = m ((c.tc : Thread Cert.DWBcIdeal.nD Cert.DWBcIdeal.τ).loc Cert.DWBcIdeal.main_arg0)
      ∧ m' ((c.tc : Thread Cert.DWBcRefIdeal.nD Cert.DWBcRefIdeal.τ).loc Cert.DWBcRefIdeal.main_arg1) = m ((c.tc : Thread Cert.DWBcIdeal.nD Cert.DWBcIdeal.τ).loc Cert.DWBcIdeal.main_arg1)
      ∧ m' ((c.tc : Thread Cert.DWBcRefIdeal.nD Cert.DWBcRefIdeal.τ).loc Cert.DWBcRefIdeal.main_arg2) = m ((c.tc : Thread Cert.DWBcIdeal.nD Cert.DWBcIdeal.τ).loc Cert.DWBcIdeal.main_arg2)) →
    ∃ (v0 : (c : Dev Cert.DWBcIdeal.nD) → Buf (Elt Ideal) ((c.tc : Thread Cert.DWBcIdeal.nD Cert.DWBcIdeal.τ).loc Cert.DWBcIdeal.main_v2)),
      θ_run (Cert.DWBcIdeal.defs (F := Ideal)) (onTc (τ := Cert.DWBcIdeal.τ) (Cert.DWBcIdeal.main (F := Ideal))) ⟨m, fun _ => 0, g⟩ (fun r => ∀ c : Dev Cert.DWBcIdeal.nD,
          r.2.mem ((c.tc : Thread Cert.DWBcIdeal.nD Cert.DWBcIdeal.τ).loc Cert.DWBcIdeal.main_v2) = v0 c
          ∧ r.2.mem ((c.tc : Thread Cert.DWBcIdeal.nD Cert.DWBcIdeal.τ).loc Cert.DWBcIdeal.main_arg0) = m ((c.tc : Thread Cert.DWBcIdeal.nD Cert.DWBcIdeal.τ).loc Cert.DWBcIdeal.main_arg0)
          ∧ r.2.mem ((c.tc : Thread Cert.DWBcIdeal.nD Cert.DWBcIdeal.τ).loc Cert.DWBcIdeal.main_arg1) = m ((c.tc : Thread Cert.DWBcIdeal.nD Cert.DWBcIdeal.τ).loc Cert.DWBcIdeal.main_arg1)
          ∧ r.2.mem ((c.tc : Thread Cert.DWBcIdeal.nD Cert.DWBcIdeal.τ).loc Cert.DWBcIdeal.main_arg2) = m ((c.tc : Thread Cert.DWBcIdeal.nD Cert.DWBcIdeal.τ).loc Cert.DWBcIdeal.main_arg2))
      ∧ θ_run (Cert.DWBcRefIdeal.defs (F := Ideal)) (onTc (τ := Cert.DWBcRefIdeal.τ) (Cert.DWBcRefIdeal.main (F := Ideal))) ⟨m', fun _ => 0, g'⟩ (fun r => ∀ c : Dev Cert.DWBcRefIdeal.nD,
          r.2.mem ((c.tc : Thread Cert.DWBcRefIdeal.nD Cert.DWBcRefIdeal.τ).loc Cert.DWBcRefIdeal.main_v4) = v0 c
          ∧ r.2.mem ((c.tc : Thread Cert.DWBcRefIdeal.nD Cert.DWBcRefIdeal.τ).loc Cert.DWBcRefIdeal.main_arg0) = m' ((c.tc : Thread Cert.DWBcRefIdeal.nD Cert.DWBcRefIdeal.τ).loc Cert.DWBcRefIdeal.main_arg0)
          ∧ r.2.mem ((c.tc : Thread Cert.DWBcRefIdeal.nD Cert.DWBcRefIdeal.τ).loc Cert.DWBcRefIdeal.main_arg1) = m' ((c.tc : Thread Cert.DWBcRefIdeal.nD Cert.DWBcRefIdeal.τ).loc Cert.DWBcRefIdeal.main_arg1)
          ∧ r.2.mem ((c.tc : Thread Cert.DWBcRefIdeal.nD Cert.DWBcRefIdeal.τ).loc Cert.DWBcRefIdeal.main_arg2) = m' ((c.tc : Thread Cert.DWBcRefIdeal.nD Cert.DWBcRefIdeal.τ).loc Cert.DWBcRefIdeal.main_arg2))

def preserves_DWGate_DWGateIdeal : Prop :=
  True

def algebraic_DWGateIdeal_DWGateRefIdeal [hDWGateIdeal : Cert.DWGateIdeal.Facts] [hDWGateRefIdeal : Cert.DWGateRefIdeal.Facts] : Prop :=
  ∀ (m : (ℓ : Loc Cert.DWGateIdeal.nD Cert.DWGateIdeal.τ Cert.DWGateIdeal.sig) → Buf (Elt Ideal) ℓ) (g : Dev Cert.DWGateIdeal.nD → PrngReg)
    (m' : (ℓ : Loc Cert.DWGateRefIdeal.nD Cert.DWGateRefIdeal.τ Cert.DWGateRefIdeal.sig) → Buf (Elt Ideal) ℓ) (g' : Dev Cert.DWGateRefIdeal.nD → PrngReg), Pre_DWGateIdeal m →
    (∀ c : Dev Cert.DWGateIdeal.nD,
      m' ((c.tc : Thread Cert.DWGateRefIdeal.nD Cert.DWGateRefIdeal.τ).loc Cert.DWGateRefIdeal.main_arg0) = m ((c.tc : Thread Cert.DWGateIdeal.nD Cert.DWGateIdeal.τ).loc Cert.DWGateIdeal.main_arg0)
      ∧ m' ((c.tc : Thread Cert.DWGateRefIdeal.nD Cert.DWGateRefIdeal.τ).loc Cert.DWGateRefIdeal.main_arg1) = m ((c.tc : Thread Cert.DWGateIdeal.nD Cert.DWGateIdeal.τ).loc Cert.DWGateIdeal.main_arg1)
      ∧ m' ((c.tc : Thread Cert.DWGateRefIdeal.nD Cert.DWGateRefIdeal.τ).loc Cert.DWGateRefIdeal.main_arg2) = m ((c.tc : Thread Cert.DWGateIdeal.nD Cert.DWGateIdeal.τ).loc Cert.DWGateIdeal.main_arg2)) →
    ∃ (v0 : (c : Dev Cert.DWGateIdeal.nD) → Buf (Elt Ideal) ((c.tc : Thread Cert.DWGateIdeal.nD Cert.DWGateIdeal.τ).loc Cert.DWGateIdeal.main_v2)),
      θ_run (Cert.DWGateIdeal.defs (F := Ideal)) (onTc (τ := Cert.DWGateIdeal.τ) (Cert.DWGateIdeal.main (F := Ideal))) ⟨m, fun _ => 0, g⟩ (fun r => ∀ c : Dev Cert.DWGateIdeal.nD,
          r.2.mem ((c.tc : Thread Cert.DWGateIdeal.nD Cert.DWGateIdeal.τ).loc Cert.DWGateIdeal.main_v2) = v0 c
          ∧ r.2.mem ((c.tc : Thread Cert.DWGateIdeal.nD Cert.DWGateIdeal.τ).loc Cert.DWGateIdeal.main_arg0) = m ((c.tc : Thread Cert.DWGateIdeal.nD Cert.DWGateIdeal.τ).loc Cert.DWGateIdeal.main_arg0)
          ∧ r.2.mem ((c.tc : Thread Cert.DWGateIdeal.nD Cert.DWGateIdeal.τ).loc Cert.DWGateIdeal.main_arg1) = m ((c.tc : Thread Cert.DWGateIdeal.nD Cert.DWGateIdeal.τ).loc Cert.DWGateIdeal.main_arg1)
          ∧ r.2.mem ((c.tc : Thread Cert.DWGateIdeal.nD Cert.DWGateIdeal.τ).loc Cert.DWGateIdeal.main_arg2) = m ((c.tc : Thread Cert.DWGateIdeal.nD Cert.DWGateIdeal.τ).loc Cert.DWGateIdeal.main_arg2))
      ∧ θ_run (Cert.DWGateRefIdeal.defs (F := Ideal)) (onTc (τ := Cert.DWGateRefIdeal.τ) (Cert.DWGateRefIdeal.main (F := Ideal))) ⟨m', fun _ => 0, g'⟩ (fun r => ∀ c : Dev Cert.DWGateRefIdeal.nD,
          r.2.mem ((c.tc : Thread Cert.DWGateRefIdeal.nD Cert.DWGateRefIdeal.τ).loc Cert.DWGateRefIdeal.main_v4) = v0 c
          ∧ r.2.mem ((c.tc : Thread Cert.DWGateRefIdeal.nD Cert.DWGateRefIdeal.τ).loc Cert.DWGateRefIdeal.main_arg0) = m' ((c.tc : Thread Cert.DWGateRefIdeal.nD Cert.DWGateRefIdeal.τ).loc Cert.DWGateRefIdeal.main_arg0)
          ∧ r.2.mem ((c.tc : Thread Cert.DWGateRefIdeal.nD Cert.DWGateRefIdeal.τ).loc Cert.DWGateRefIdeal.main_arg1) = m' ((c.tc : Thread Cert.DWGateRefIdeal.nD Cert.DWGateRefIdeal.τ).loc Cert.DWGateRefIdeal.main_arg1)
          ∧ r.2.mem ((c.tc : Thread Cert.DWGateRefIdeal.nD Cert.DWGateRefIdeal.τ).loc Cert.DWGateRefIdeal.main_arg2) = m' ((c.tc : Thread Cert.DWGateRefIdeal.nD Cert.DWGateRefIdeal.τ).loc Cert.DWGateRefIdeal.main_arg2))

def preserves_FfAct_FfActIdeal : Prop :=
  True

def algebraic_FfActIdeal_FfActRefIdeal [hFfActIdeal : Cert.FfActIdeal.Facts] [hFfActRefIdeal : Cert.FfActRefIdeal.Facts] : Prop :=
  ∀ (m : (ℓ : Loc Cert.FfActIdeal.nD Cert.FfActIdeal.τ Cert.FfActIdeal.sig) → Buf (Elt Ideal) ℓ) (g : Dev Cert.FfActIdeal.nD → PrngReg)
    (m' : (ℓ : Loc Cert.FfActRefIdeal.nD Cert.FfActRefIdeal.τ Cert.FfActRefIdeal.sig) → Buf (Elt Ideal) ℓ) (g' : Dev Cert.FfActRefIdeal.nD → PrngReg), Pre_FfActIdeal m →
    (∀ c : Dev Cert.FfActIdeal.nD,
      m' ((c.tc : Thread Cert.FfActRefIdeal.nD Cert.FfActRefIdeal.τ).loc Cert.FfActRefIdeal.main_arg0) = m ((c.tc : Thread Cert.FfActIdeal.nD Cert.FfActIdeal.τ).loc Cert.FfActIdeal.main_arg0)
      ∧ m' ((c.tc : Thread Cert.FfActRefIdeal.nD Cert.FfActRefIdeal.τ).loc Cert.FfActRefIdeal.main_arg1) = m ((c.tc : Thread Cert.FfActIdeal.nD Cert.FfActIdeal.τ).loc Cert.FfActIdeal.main_arg1)) →
    ∃ (v0 : (c : Dev Cert.FfActIdeal.nD) → Buf (Elt Ideal) ((c.tc : Thread Cert.FfActIdeal.nD Cert.FfActIdeal.τ).loc Cert.FfActIdeal.main_v4)),
      θ_run (Cert.FfActIdeal.defs (F := Ideal)) (onTc (τ := Cert.FfActIdeal.τ) (Cert.FfActIdeal.main (F := Ideal))) ⟨m, fun _ => 0, g⟩ (fun r => ∀ c : Dev Cert.FfActIdeal.nD,
          r.2.mem ((c.tc : Thread Cert.FfActIdeal.nD Cert.FfActIdeal.τ).loc Cert.FfActIdeal.main_v4) = v0 c
          ∧ r.2.mem ((c.tc : Thread Cert.FfActIdeal.nD Cert.FfActIdeal.τ).loc Cert.FfActIdeal.main_arg0) = m ((c.tc : Thread Cert.FfActIdeal.nD Cert.FfActIdeal.τ).loc Cert.FfActIdeal.main_arg0)
          ∧ r.2.mem ((c.tc : Thread Cert.FfActIdeal.nD Cert.FfActIdeal.τ).loc Cert.FfActIdeal.main_arg1) = m ((c.tc : Thread Cert.FfActIdeal.nD Cert.FfActIdeal.τ).loc Cert.FfActIdeal.main_arg1))
      ∧ θ_run (Cert.FfActRefIdeal.defs (F := Ideal)) (onTc (τ := Cert.FfActRefIdeal.τ) (Cert.FfActRefIdeal.main (F := Ideal))) ⟨m', fun _ => 0, g'⟩ (fun r => ∀ c : Dev Cert.FfActRefIdeal.nD,
          r.2.mem ((c.tc : Thread Cert.FfActRefIdeal.nD Cert.FfActRefIdeal.τ).loc Cert.FfActRefIdeal.main_v3) = v0 c
          ∧ r.2.mem ((c.tc : Thread Cert.FfActRefIdeal.nD Cert.FfActRefIdeal.τ).loc Cert.FfActRefIdeal.main_arg0) = m' ((c.tc : Thread Cert.FfActRefIdeal.nD Cert.FfActRefIdeal.τ).loc Cert.FfActRefIdeal.main_arg0)
          ∧ r.2.mem ((c.tc : Thread Cert.FfActRefIdeal.nD Cert.FfActRefIdeal.τ).loc Cert.FfActRefIdeal.main_arg1) = m' ((c.tc : Thread Cert.FfActRefIdeal.nD Cert.FfActRefIdeal.τ).loc Cert.FfActRefIdeal.main_arg1))

def preserves_FfSum_FfSumIdeal : Prop :=
  True

def algebraic_FfSumIdeal_FfSumRefIdeal [hFfSumIdeal : Cert.FfSumIdeal.Facts] [hFfSumRefIdeal : Cert.FfSumRefIdeal.Facts] : Prop :=
  ∀ (m : (ℓ : Loc Cert.FfSumIdeal.nD Cert.FfSumIdeal.τ Cert.FfSumIdeal.sig) → Buf (Elt Ideal) ℓ) (g : Dev Cert.FfSumIdeal.nD → PrngReg)
    (m' : (ℓ : Loc Cert.FfSumRefIdeal.nD Cert.FfSumRefIdeal.τ Cert.FfSumRefIdeal.sig) → Buf (Elt Ideal) ℓ) (g' : Dev Cert.FfSumRefIdeal.nD → PrngReg), Pre_FfSumIdeal m →
    (∀ c : Dev Cert.FfSumIdeal.nD,
      m' ((c.tc : Thread Cert.FfSumRefIdeal.nD Cert.FfSumRefIdeal.τ).loc Cert.FfSumRefIdeal.main_arg0) = m ((c.tc : Thread Cert.FfSumIdeal.nD Cert.FfSumIdeal.τ).loc Cert.FfSumIdeal.main_arg0)
      ∧ m' ((c.tc : Thread Cert.FfSumRefIdeal.nD Cert.FfSumRefIdeal.τ).loc Cert.FfSumRefIdeal.main_arg1) = m ((c.tc : Thread Cert.FfSumIdeal.nD Cert.FfSumIdeal.τ).loc Cert.FfSumIdeal.main_arg1)) →
    ∃ (v0 : (c : Dev Cert.FfSumIdeal.nD) → Buf (Elt Ideal) ((c.tc : Thread Cert.FfSumIdeal.nD Cert.FfSumIdeal.τ).loc Cert.FfSumIdeal.main_v2)),
      θ_run (Cert.FfSumIdeal.defs (F := Ideal)) (onTc (τ := Cert.FfSumIdeal.τ) (Cert.FfSumIdeal.main (F := Ideal))) ⟨m, fun _ => 0, g⟩ (fun r => ∀ c : Dev Cert.FfSumIdeal.nD,
          r.2.mem ((c.tc : Thread Cert.FfSumIdeal.nD Cert.FfSumIdeal.τ).loc Cert.FfSumIdeal.main_v2) = v0 c
          ∧ r.2.mem ((c.tc : Thread Cert.FfSumIdeal.nD Cert.FfSumIdeal.τ).loc Cert.FfSumIdeal.main_arg0) = m ((c.tc : Thread Cert.FfSumIdeal.nD Cert.FfSumIdeal.τ).loc Cert.FfSumIdeal.main_arg0)
          ∧ r.2.mem ((c.tc : Thread Cert.FfSumIdeal.nD Cert.FfSumIdeal.τ).loc Cert.FfSumIdeal.main_arg1) = m ((c.tc : Thread Cert.FfSumIdeal.nD Cert.FfSumIdeal.τ).loc Cert.FfSumIdeal.main_arg1))
      ∧ θ_run (Cert.FfSumRefIdeal.defs (F := Ideal)) (onTc (τ := Cert.FfSumRefIdeal.τ) (Cert.FfSumRefIdeal.main (F := Ideal))) ⟨m', fun _ => 0, g'⟩ (fun r => ∀ c : Dev Cert.FfSumRefIdeal.nD,
          r.2.mem ((c.tc : Thread Cert.FfSumRefIdeal.nD Cert.FfSumRefIdeal.τ).loc Cert.FfSumRefIdeal.main_v0) = v0 c
          ∧ r.2.mem ((c.tc : Thread Cert.FfSumRefIdeal.nD Cert.FfSumRefIdeal.τ).loc Cert.FfSumRefIdeal.main_arg0) = m' ((c.tc : Thread Cert.FfSumRefIdeal.nD Cert.FfSumRefIdeal.τ).loc Cert.FfSumRefIdeal.main_arg0)
          ∧ r.2.mem ((c.tc : Thread Cert.FfSumRefIdeal.nD Cert.FfSumRefIdeal.τ).loc Cert.FfSumRefIdeal.main_arg1) = m' ((c.tc : Thread Cert.FfSumRefIdeal.nD Cert.FfSumRefIdeal.τ).loc Cert.FfSumRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)
      ∧ m' ((c.tc : Thread Cert.DHRefIdeal.nD Cert.DHRefIdeal.τ).loc Cert.DHRefIdeal.main_arg2) = m ((c.tc : Thread Cert.DHIdeal.nD Cert.DHIdeal.τ).loc Cert.DHIdeal.main_arg2)
      ∧ m' ((c.tc : Thread Cert.DHRefIdeal.nD Cert.DHRefIdeal.τ).loc Cert.DHRefIdeal.main_arg3) = m ((c.tc : Thread Cert.DHIdeal.nD Cert.DHIdeal.τ).loc Cert.DHIdeal.main_arg3)
      ∧ m' ((c.tc : Thread Cert.DHRefIdeal.nD Cert.DHRefIdeal.τ).loc Cert.DHRefIdeal.main_arg4) = m ((c.tc : Thread Cert.DHIdeal.nD Cert.DHIdeal.τ).loc Cert.DHIdeal.main_arg4)
      ∧ m' ((c.tc : Thread Cert.DHRefIdeal.nD Cert.DHRefIdeal.τ).loc Cert.DHRefIdeal.main_arg5) = m ((c.tc : Thread Cert.DHIdeal.nD Cert.DHIdeal.τ).loc Cert.DHIdeal.main_arg5)
      ∧ m' ((c.tc : Thread Cert.DHRefIdeal.nD Cert.DHRefIdeal.τ).loc Cert.DHRefIdeal.main_arg6) = m ((c.tc : Thread Cert.DHIdeal.nD Cert.DHIdeal.τ).loc Cert.DHIdeal.main_arg6)
      ∧ m' ((c.tc : Thread Cert.DHRefIdeal.nD Cert.DHRefIdeal.τ).loc Cert.DHRefIdeal.main_arg7) = m ((c.tc : Thread Cert.DHIdeal.nD Cert.DHIdeal.τ).loc Cert.DHIdeal.main_arg7)
      ∧ m' ((c.tc : Thread Cert.DHRefIdeal.nD Cert.DHRefIdeal.τ).loc Cert.DHRefIdeal.main_arg8) = m ((c.tc : Thread Cert.DHIdeal.nD Cert.DHIdeal.τ).loc Cert.DHIdeal.main_arg8)) →
    ∃ (v0 : (c : Dev Cert.DHIdeal.nD) → Buf (Elt Ideal) ((c.tc : Thread Cert.DHIdeal.nD Cert.DHIdeal.τ).loc Cert.DHIdeal.main_v18)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v18) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
          ∧ r.2.mem ((c.tc : Thread Cert.DHIdeal.nD Cert.DHIdeal.τ).loc Cert.DHIdeal.main_arg2) = m ((c.tc : Thread Cert.DHIdeal.nD Cert.DHIdeal.τ).loc Cert.DHIdeal.main_arg2)
          ∧ r.2.mem ((c.tc : Thread Cert.DHIdeal.nD Cert.DHIdeal.τ).loc Cert.DHIdeal.main_arg3) = m ((c.tc : Thread Cert.DHIdeal.nD Cert.DHIdeal.τ).loc Cert.DHIdeal.main_arg3)
          ∧ r.2.mem ((c.tc : Thread Cert.DHIdeal.nD Cert.DHIdeal.τ).loc Cert.DHIdeal.main_arg4) = m ((c.tc : Thread Cert.DHIdeal.nD Cert.DHIdeal.τ).loc Cert.DHIdeal.main_arg4)
          ∧ r.2.mem ((c.tc : Thread Cert.DHIdeal.nD Cert.DHIdeal.τ).loc Cert.DHIdeal.main_arg5) = m ((c.tc : Thread Cert.DHIdeal.nD Cert.DHIdeal.τ).loc Cert.DHIdeal.main_arg5)
          ∧ r.2.mem ((c.tc : Thread Cert.DHIdeal.nD Cert.DHIdeal.τ).loc Cert.DHIdeal.main_arg6) = m ((c.tc : Thread Cert.DHIdeal.nD Cert.DHIdeal.τ).loc Cert.DHIdeal.main_arg6)
          ∧ r.2.mem ((c.tc : Thread Cert.DHIdeal.nD Cert.DHIdeal.τ).loc Cert.DHIdeal.main_arg7) = m ((c.tc : Thread Cert.DHIdeal.nD Cert.DHIdeal.τ).loc Cert.DHIdeal.main_arg7)
          ∧ r.2.mem ((c.tc : Thread Cert.DHIdeal.nD Cert.DHIdeal.τ).loc Cert.DHIdeal.main_arg8) = m ((c.tc : Thread Cert.DHIdeal.nD Cert.DHIdeal.τ).loc Cert.DHIdeal.main_arg8))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v12) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1)
          ∧ r.2.mem ((c.tc : Thread Cert.DHRefIdeal.nD Cert.DHRefIdeal.τ).loc Cert.DHRefIdeal.main_arg2) = m' ((c.tc : Thread Cert.DHRefIdeal.nD Cert.DHRefIdeal.τ).loc Cert.DHRefIdeal.main_arg2)
          ∧ r.2.mem ((c.tc : Thread Cert.DHRefIdeal.nD Cert.DHRefIdeal.τ).loc Cert.DHRefIdeal.main_arg3) = m' ((c.tc : Thread Cert.DHRefIdeal.nD Cert.DHRefIdeal.τ).loc Cert.DHRefIdeal.main_arg3)
          ∧ r.2.mem ((c.tc : Thread Cert.DHRefIdeal.nD Cert.DHRefIdeal.τ).loc Cert.DHRefIdeal.main_arg4) = m' ((c.tc : Thread Cert.DHRefIdeal.nD Cert.DHRefIdeal.τ).loc Cert.DHRefIdeal.main_arg4)
          ∧ r.2.mem ((c.tc : Thread Cert.DHRefIdeal.nD Cert.DHRefIdeal.τ).loc Cert.DHRefIdeal.main_arg5) = m' ((c.tc : Thread Cert.DHRefIdeal.nD Cert.DHRefIdeal.τ).loc Cert.DHRefIdeal.main_arg5)
          ∧ r.2.mem ((c.tc : Thread Cert.DHRefIdeal.nD Cert.DHRefIdeal.τ).loc Cert.DHRefIdeal.main_arg6) = m' ((c.tc : Thread Cert.DHRefIdeal.nD Cert.DHRefIdeal.τ).loc Cert.DHRefIdeal.main_arg6)
          ∧ r.2.mem ((c.tc : Thread Cert.DHRefIdeal.nD Cert.DHRefIdeal.τ).loc Cert.DHRefIdeal.main_arg7) = m' ((c.tc : Thread Cert.DHRefIdeal.nD Cert.DHRefIdeal.τ).loc Cert.DHRefIdeal.main_arg7)
          ∧ r.2.mem ((c.tc : Thread Cert.DHRefIdeal.nD Cert.DHRefIdeal.τ).loc Cert.DHRefIdeal.main_arg8) = m' ((c.tc : Thread Cert.DHRefIdeal.nD Cert.DHRefIdeal.τ).loc Cert.DHRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v13)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v10) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InputGrad_InputGradIdeal : Prop :=
  True

def algebraic_InputGradIdeal_InputGradRefIdeal [hInputGradIdeal : Cert.InputGradIdeal.Facts] [hInputGradRefIdeal : Cert.InputGradRefIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradRefIdeal.nD Cert.InputGradRefIdeal.τ Cert.InputGradRefIdeal.sig) → Buf (Elt Ideal) ℓ) (g' : Dev Cert.InputGradRefIdeal.nD → PrngReg), Pre_InputGradIdeal m →
    (∀ c : Dev Cert.InputGradIdeal.nD,
      m' ((c.tc : Thread Cert.InputGradRefIdeal.nD Cert.InputGradRefIdeal.τ).loc Cert.InputGradRefIdeal.main_arg0) = m ((c.tc : Thread Cert.InputGradIdeal.nD Cert.InputGradIdeal.τ).loc Cert.InputGradIdeal.main_arg0)
      ∧ m' ((c.tc : Thread Cert.InputGradRefIdeal.nD Cert.InputGradRefIdeal.τ).loc Cert.InputGradRefIdeal.main_arg1) = m ((c.tc : Thread Cert.InputGradIdeal.nD Cert.InputGradIdeal.τ).loc Cert.InputGradIdeal.main_arg1)
      ∧ m' ((c.tc : Thread Cert.InputGradRefIdeal.nD Cert.InputGradRefIdeal.τ).loc Cert.InputGradRefIdeal.main_arg2) = m ((c.tc : Thread Cert.InputGradIdeal.nD Cert.InputGradIdeal.τ).loc Cert.InputGradIdeal.main_arg2)
      ∧ m' ((c.tc : Thread Cert.InputGradRefIdeal.nD Cert.InputGradRefIdeal.τ).loc Cert.InputGradRefIdeal.main_arg3) = m ((c.tc : Thread Cert.InputGradIdeal.nD Cert.InputGradIdeal.τ).loc Cert.InputGradIdeal.main_arg3)
      ∧ m' ((c.tc : Thread Cert.InputGradRefIdeal.nD Cert.InputGradRefIdeal.τ).loc Cert.InputGradRefIdeal.main_arg4) = m ((c.tc : Thread Cert.InputGradIdeal.nD Cert.InputGradIdeal.τ).loc Cert.InputGradIdeal.main_arg4)) →
    ∃ (v0 : (c : Dev Cert.InputGradIdeal.nD) → Buf (Elt Ideal) ((c.tc : Thread Cert.InputGradIdeal.nD Cert.InputGradIdeal.τ).loc Cert.InputGradIdeal.main_v0_0)) (v1 : (c : Dev Cert.InputGradIdeal.nD) → Buf (Elt Ideal) ((c.tc : Thread Cert.InputGradIdeal.nD Cert.InputGradIdeal.τ).loc Cert.InputGradIdeal.main_v0_1)) (v2 : (c : Dev Cert.InputGradIdeal.nD) → Buf (Elt Ideal) ((c.tc : Thread Cert.InputGradIdeal.nD Cert.InputGradIdeal.τ).loc Cert.InputGradIdeal.main_v0_2)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v0_0) = v0 c
          ∧ r.2.mem ((c.tc : Thread Cert.InputGradIdeal.nD Cert.InputGradIdeal.τ).loc Cert.InputGradIdeal.main_v0_1) = v1 c
          ∧ r.2.mem ((c.tc : Thread Cert.InputGradIdeal.nD Cert.InputGradIdeal.τ).loc Cert.InputGradIdeal.main_v0_2) = v2 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
          ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
          ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3)
          ∧ r.2.mem ((c.tc : Thread Cert.InputGradIdeal.nD Cert.InputGradIdeal.τ).loc Cert.InputGradIdeal.main_arg4) = m ((c.tc : Thread Cert.InputGradIdeal.nD Cert.InputGradIdeal.τ).loc Cert.InputGradIdeal.main_arg4))
      ∧ θ_run (Cert.InputGradRefIdeal.defs (F := Ideal)) (onTc (τ := Cert.InputGradRefIdeal.τ) (Cert.InputGradRefIdeal.main (F := Ideal))) ⟨m', fun _ => 0, g'⟩ (fun r => ∀ c : Dev Cert.InputGradRefIdeal.nD,
          r.2.mem ((c.tc : Thread Cert.InputGradRefIdeal.nD Cert.InputGradRefIdeal.τ).loc Cert.InputGradRefIdeal.main_v18) = v0 c
          ∧ r.2.mem ((c.tc : Thread Cert.InputGradRefIdeal.nD Cert.InputGradRefIdeal.τ).loc Cert.InputGradRefIdeal.main_v13) = v1 c
          ∧ r.2.mem ((c.tc : Thread Cert.InputGradRefIdeal.nD Cert.InputGradRefIdeal.τ).loc Cert.InputGradRefIdeal.main_v10) = v2 c
          ∧ r.2.mem ((c.tc : Thread Cert.InputGradRefIdeal.nD Cert.InputGradRefIdeal.τ).loc Cert.InputGradRefIdeal.main_arg0) = m' ((c.tc : Thread Cert.InputGradRefIdeal.nD Cert.InputGradRefIdeal.τ).loc Cert.InputGradRefIdeal.main_arg0)
          ∧ r.2.mem ((c.tc : Thread Cert.InputGradRefIdeal.nD Cert.InputGradRefIdeal.τ).loc Cert.InputGradRefIdeal.main_arg1) = m' ((c.tc : Thread Cert.InputGradRefIdeal.nD Cert.InputGradRefIdeal.τ).loc Cert.InputGradRefIdeal.main_arg1)
          ∧ r.2.mem ((c.tc : Thread Cert.InputGradRefIdeal.nD Cert.InputGradRefIdeal.τ).loc Cert.InputGradRefIdeal.main_arg2) = m' ((c.tc : Thread Cert.InputGradRefIdeal.nD Cert.InputGradRefIdeal.τ).loc Cert.InputGradRefIdeal.main_arg2)
          ∧ r.2.mem ((c.tc : Thread Cert.InputGradRefIdeal.nD Cert.InputGradRefIdeal.τ).loc Cert.InputGradRefIdeal.main_arg3) = m' ((c.tc : Thread Cert.InputGradRefIdeal.nD Cert.InputGradRefIdeal.τ).loc Cert.InputGradRefIdeal.main_arg3)
          ∧ r.2.mem ((c.tc : Thread Cert.InputGradRefIdeal.nD Cert.InputGradRefIdeal.τ).loc Cert.InputGradRefIdeal.main_arg4) = m' ((c.tc : Thread Cert.InputGradRefIdeal.nD Cert.InputGradRefIdeal.τ).loc Cert.InputGradRefIdeal.main_arg4))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v8) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2))

def preserves_UpFfIn_UpFfInIdeal : Prop :=
  True

def algebraic_UpFfInIdeal_UpFfInRefIdeal [hUpFfInIdeal : Cert.UpFfInIdeal.Facts] [hUpFfInRefIdeal : Cert.UpFfInRefIdeal.Facts] : Prop :=
  ∀ (m : (ℓ : Loc Cert.UpFfInIdeal.nD Cert.UpFfInIdeal.τ Cert.UpFfInIdeal.sig) → Buf (Elt Ideal) ℓ) (g : Dev Cert.UpFfInIdeal.nD → PrngReg)
    (m' : (ℓ : Loc Cert.UpFfInRefIdeal.nD Cert.UpFfInRefIdeal.τ Cert.UpFfInRefIdeal.sig) → Buf (Elt Ideal) ℓ) (g' : Dev Cert.UpFfInRefIdeal.nD → PrngReg), Pre_UpFfInIdeal m →
    (∀ c : Dev Cert.UpFfInIdeal.nD,
      m' ((c.tc : Thread Cert.UpFfInRefIdeal.nD Cert.UpFfInRefIdeal.τ).loc Cert.UpFfInRefIdeal.main_arg0) = m ((c.tc : Thread Cert.UpFfInIdeal.nD Cert.UpFfInIdeal.τ).loc Cert.UpFfInIdeal.main_arg0)
      ∧ m' ((c.tc : Thread Cert.UpFfInRefIdeal.nD Cert.UpFfInRefIdeal.τ).loc Cert.UpFfInRefIdeal.main_arg1) = m ((c.tc : Thread Cert.UpFfInIdeal.nD Cert.UpFfInIdeal.τ).loc Cert.UpFfInIdeal.main_arg1)
      ∧ m' ((c.tc : Thread Cert.UpFfInRefIdeal.nD Cert.UpFfInRefIdeal.τ).loc Cert.UpFfInRefIdeal.main_arg2) = m ((c.tc : Thread Cert.UpFfInIdeal.nD Cert.UpFfInIdeal.τ).loc Cert.UpFfInIdeal.main_arg2)
      ∧ m' ((c.tc : Thread Cert.UpFfInRefIdeal.nD Cert.UpFfInRefIdeal.τ).loc Cert.UpFfInRefIdeal.main_arg3) = m ((c.tc : Thread Cert.UpFfInIdeal.nD Cert.UpFfInIdeal.τ).loc Cert.UpFfInIdeal.main_arg3)) →
    ∃ (v0 : (c : Dev Cert.UpFfInIdeal.nD) → Buf (Elt Ideal) ((c.tc : Thread Cert.UpFfInIdeal.nD Cert.UpFfInIdeal.τ).loc Cert.UpFfInIdeal.main_v0_0)) (v1 : (c : Dev Cert.UpFfInIdeal.nD) → Buf (Elt Ideal) ((c.tc : Thread Cert.UpFfInIdeal.nD Cert.UpFfInIdeal.τ).loc Cert.UpFfInIdeal.main_v0_1)) (v2 : (c : Dev Cert.UpFfInIdeal.nD) → Buf (Elt Ideal) ((c.tc : Thread Cert.UpFfInIdeal.nD Cert.UpFfInIdeal.τ).loc Cert.UpFfInIdeal.main_v0_2)) (v3 : (c : Dev Cert.UpFfInIdeal.nD) → Buf (Elt Ideal) ((c.tc : Thread Cert.UpFfInIdeal.nD Cert.UpFfInIdeal.τ).loc Cert.UpFfInIdeal.main_v0_3)),
      θ_run (Cert.UpFfInIdeal.defs (F := Ideal)) (onTc (τ := Cert.UpFfInIdeal.τ) (Cert.UpFfInIdeal.main (F := Ideal))) ⟨m, fun _ => 0, g⟩ (fun r => ∀ c : Dev Cert.UpFfInIdeal.nD,
          r.2.mem ((c.tc : Thread Cert.UpFfInIdeal.nD Cert.UpFfInIdeal.τ).loc Cert.UpFfInIdeal.main_v0_0) = v0 c
          ∧ r.2.mem ((c.tc : Thread Cert.UpFfInIdeal.nD Cert.UpFfInIdeal.τ).loc Cert.UpFfInIdeal.main_v0_1) = v1 c
          ∧ r.2.mem ((c.tc : Thread Cert.UpFfInIdeal.nD Cert.UpFfInIdeal.τ).loc Cert.UpFfInIdeal.main_v0_2) = v2 c
          ∧ r.2.mem ((c.tc : Thread Cert.UpFfInIdeal.nD Cert.UpFfInIdeal.τ).loc Cert.UpFfInIdeal.main_v0_3) = v3 c
          ∧ r.2.mem ((c.tc : Thread Cert.UpFfInIdeal.nD Cert.UpFfInIdeal.τ).loc Cert.UpFfInIdeal.main_arg0) = m ((c.tc : Thread Cert.UpFfInIdeal.nD Cert.UpFfInIdeal.τ).loc Cert.UpFfInIdeal.main_arg0)
          ∧ r.2.mem ((c.tc : Thread Cert.UpFfInIdeal.nD Cert.UpFfInIdeal.τ).loc Cert.UpFfInIdeal.main_arg1) = m ((c.tc : Thread Cert.UpFfInIdeal.nD Cert.UpFfInIdeal.τ).loc Cert.UpFfInIdeal.main_arg1)
          ∧ r.2.mem ((c.tc : Thread Cert.UpFfInIdeal.nD Cert.UpFfInIdeal.τ).loc Cert.UpFfInIdeal.main_arg2) = m ((c.tc : Thread Cert.UpFfInIdeal.nD Cert.UpFfInIdeal.τ).loc Cert.UpFfInIdeal.main_arg2)
          ∧ r.2.mem ((c.tc : Thread Cert.UpFfInIdeal.nD Cert.UpFfInIdeal.τ).loc Cert.UpFfInIdeal.main_arg3) = m ((c.tc : Thread Cert.UpFfInIdeal.nD Cert.UpFfInIdeal.τ).loc Cert.UpFfInIdeal.main_arg3))
      ∧ θ_run (Cert.UpFfInRefIdeal.defs (F := Ideal)) (onTc (τ := Cert.UpFfInRefIdeal.τ) (Cert.UpFfInRefIdeal.main (F := Ideal))) ⟨m', fun _ => 0, g'⟩ (fun r => ∀ c : Dev Cert.UpFfInRefIdeal.nD,
          r.2.mem ((c.tc : Thread Cert.UpFfInRefIdeal.nD Cert.UpFfInRefIdeal.τ).loc Cert.UpFfInRefIdeal.main_v1) = v0 c
          ∧ r.2.mem ((c.tc : Thread Cert.UpFfInRefIdeal.nD Cert.UpFfInRefIdeal.τ).loc Cert.UpFfInRefIdeal.main_v25) = v1 c
          ∧ r.2.mem ((c.tc : Thread Cert.UpFfInRefIdeal.nD Cert.UpFfInRefIdeal.τ).loc Cert.UpFfInRefIdeal.main_v6) = v2 c
          ∧ r.2.mem ((c.tc : Thread Cert.UpFfInRefIdeal.nD Cert.UpFfInRefIdeal.τ).loc Cert.UpFfInRefIdeal.main_v12) = v3 c
          ∧ r.2.mem ((c.tc : Thread Cert.UpFfInRefIdeal.nD Cert.UpFfInRefIdeal.τ).loc Cert.UpFfInRefIdeal.main_arg0) = m' ((c.tc : Thread Cert.UpFfInRefIdeal.nD Cert.UpFfInRefIdeal.τ).loc Cert.UpFfInRefIdeal.main_arg0)
          ∧ r.2.mem ((c.tc : Thread Cert.UpFfInRefIdeal.nD Cert.UpFfInRefIdeal.τ).loc Cert.UpFfInRefIdeal.main_arg1) = m' ((c.tc : Thread Cert.UpFfInRefIdeal.nD Cert.UpFfInRefIdeal.τ).loc Cert.UpFfInRefIdeal.main_arg1)
          ∧ r.2.mem ((c.tc : Thread Cert.UpFfInRefIdeal.nD Cert.UpFfInRefIdeal.τ).loc Cert.UpFfInRefIdeal.main_arg2) = m' ((c.tc : Thread Cert.UpFfInRefIdeal.nD Cert.UpFfInRefIdeal.τ).loc Cert.UpFfInRefIdeal.main_arg2)
          ∧ r.2.mem ((c.tc : Thread Cert.UpFfInRefIdeal.nD Cert.UpFfInRefIdeal.τ).loc Cert.UpFfInRefIdeal.main_arg3) = m' ((c.tc : Thread Cert.UpFfInRefIdeal.nD Cert.UpFfInRefIdeal.τ).loc Cert.UpFfInRefIdeal.main_arg3))

def preserves_UpFfOut_UpFfOutIdeal : Prop :=
  True

def algebraic_UpFfOutIdeal_UpFfOutRefIdeal [hUpFfOutIdeal : Cert.UpFfOutIdeal.Facts] [hUpFfOutRefIdeal : Cert.UpFfOutRefIdeal.Facts] : Prop :=
  ∀ (m : (ℓ : Loc Cert.UpFfOutIdeal.nD Cert.UpFfOutIdeal.τ Cert.UpFfOutIdeal.sig) → Buf (Elt Ideal) ℓ) (g : Dev Cert.UpFfOutIdeal.nD → PrngReg)
    (m' : (ℓ : Loc Cert.UpFfOutRefIdeal.nD Cert.UpFfOutRefIdeal.τ Cert.UpFfOutRefIdeal.sig) → Buf (Elt Ideal) ℓ) (g' : Dev Cert.UpFfOutRefIdeal.nD → PrngReg), Pre_UpFfOutIdeal m →
    (∀ c : Dev Cert.UpFfOutIdeal.nD,
      m' ((c.tc : Thread Cert.UpFfOutRefIdeal.nD Cert.UpFfOutRefIdeal.τ).loc Cert.UpFfOutRefIdeal.main_arg0) = m ((c.tc : Thread Cert.UpFfOutIdeal.nD Cert.UpFfOutIdeal.τ).loc Cert.UpFfOutIdeal.main_arg0)
      ∧ m' ((c.tc : Thread Cert.UpFfOutRefIdeal.nD Cert.UpFfOutRefIdeal.τ).loc Cert.UpFfOutRefIdeal.main_arg1) = m ((c.tc : Thread Cert.UpFfOutIdeal.nD Cert.UpFfOutIdeal.τ).loc Cert.UpFfOutIdeal.main_arg1)
      ∧ m' ((c.tc : Thread Cert.UpFfOutRefIdeal.nD Cert.UpFfOutRefIdeal.τ).loc Cert.UpFfOutRefIdeal.main_arg2) = m ((c.tc : Thread Cert.UpFfOutIdeal.nD Cert.UpFfOutIdeal.τ).loc Cert.UpFfOutIdeal.main_arg2)
      ∧ m' ((c.tc : Thread Cert.UpFfOutRefIdeal.nD Cert.UpFfOutRefIdeal.τ).loc Cert.UpFfOutRefIdeal.main_arg3) = m ((c.tc : Thread Cert.UpFfOutIdeal.nD Cert.UpFfOutIdeal.τ).loc Cert.UpFfOutIdeal.main_arg3)) →
    ∃ (v0 : (c : Dev Cert.UpFfOutIdeal.nD) → Buf (Elt Ideal) ((c.tc : Thread Cert.UpFfOutIdeal.nD Cert.UpFfOutIdeal.τ).loc Cert.UpFfOutIdeal.main_v0_0)) (v1 : (c : Dev Cert.UpFfOutIdeal.nD) → Buf (Elt Ideal) ((c.tc : Thread Cert.UpFfOutIdeal.nD Cert.UpFfOutIdeal.τ).loc Cert.UpFfOutIdeal.main_v0_1)) (v2 : (c : Dev Cert.UpFfOutIdeal.nD) → Buf (Elt Ideal) ((c.tc : Thread Cert.UpFfOutIdeal.nD Cert.UpFfOutIdeal.τ).loc Cert.UpFfOutIdeal.main_v0_2)) (v3 : (c : Dev Cert.UpFfOutIdeal.nD) → Buf (Elt Ideal) ((c.tc : Thread Cert.UpFfOutIdeal.nD Cert.UpFfOutIdeal.τ).loc Cert.UpFfOutIdeal.main_v0_3)),
      θ_run (Cert.UpFfOutIdeal.defs (F := Ideal)) (onTc (τ := Cert.UpFfOutIdeal.τ) (Cert.UpFfOutIdeal.main (F := Ideal))) ⟨m, fun _ => 0, g⟩ (fun r => ∀ c : Dev Cert.UpFfOutIdeal.nD,
          r.2.mem ((c.tc : Thread Cert.UpFfOutIdeal.nD Cert.UpFfOutIdeal.τ).loc Cert.UpFfOutIdeal.main_v0_0) = v0 c
          ∧ r.2.mem ((c.tc : Thread Cert.UpFfOutIdeal.nD Cert.UpFfOutIdeal.τ).loc Cert.UpFfOutIdeal.main_v0_1) = v1 c
          ∧ r.2.mem ((c.tc : Thread Cert.UpFfOutIdeal.nD Cert.UpFfOutIdeal.τ).loc Cert.UpFfOutIdeal.main_v0_2) = v2 c
          ∧ r.2.mem ((c.tc : Thread Cert.UpFfOutIdeal.nD Cert.UpFfOutIdeal.τ).loc Cert.UpFfOutIdeal.main_v0_3) = v3 c
          ∧ r.2.mem ((c.tc : Thread Cert.UpFfOutIdeal.nD Cert.UpFfOutIdeal.τ).loc Cert.UpFfOutIdeal.main_arg0) = m ((c.tc : Thread Cert.UpFfOutIdeal.nD Cert.UpFfOutIdeal.τ).loc Cert.UpFfOutIdeal.main_arg0)
          ∧ r.2.mem ((c.tc : Thread Cert.UpFfOutIdeal.nD Cert.UpFfOutIdeal.τ).loc Cert.UpFfOutIdeal.main_arg1) = m ((c.tc : Thread Cert.UpFfOutIdeal.nD Cert.UpFfOutIdeal.τ).loc Cert.UpFfOutIdeal.main_arg1)
          ∧ r.2.mem ((c.tc : Thread Cert.UpFfOutIdeal.nD Cert.UpFfOutIdeal.τ).loc Cert.UpFfOutIdeal.main_arg2) = m ((c.tc : Thread Cert.UpFfOutIdeal.nD Cert.UpFfOutIdeal.τ).loc Cert.UpFfOutIdeal.main_arg2)
          ∧ r.2.mem ((c.tc : Thread Cert.UpFfOutIdeal.nD Cert.UpFfOutIdeal.τ).loc Cert.UpFfOutIdeal.main_arg3) = m ((c.tc : Thread Cert.UpFfOutIdeal.nD Cert.UpFfOutIdeal.τ).loc Cert.UpFfOutIdeal.main_arg3))
      ∧ θ_run (Cert.UpFfOutRefIdeal.defs (F := Ideal)) (onTc (τ := Cert.UpFfOutRefIdeal.τ) (Cert.UpFfOutRefIdeal.main (F := Ideal))) ⟨m', fun _ => 0, g'⟩ (fun r => ∀ c : Dev Cert.UpFfOutRefIdeal.nD,
          r.2.mem ((c.tc : Thread Cert.UpFfOutRefIdeal.nD Cert.UpFfOutRefIdeal.τ).loc Cert.UpFfOutRefIdeal.main_v1) = v0 c
          ∧ r.2.mem ((c.tc : Thread Cert.UpFfOutRefIdeal.nD Cert.UpFfOutRefIdeal.τ).loc Cert.UpFfOutRefIdeal.main_v25) = v1 c
          ∧ r.2.mem ((c.tc : Thread Cert.UpFfOutRefIdeal.nD Cert.UpFfOutRefIdeal.τ).loc Cert.UpFfOutRefIdeal.main_v6) = v2 c
          ∧ r.2.mem ((c.tc : Thread Cert.UpFfOutRefIdeal.nD Cert.UpFfOutRefIdeal.τ).loc Cert.UpFfOutRefIdeal.main_v12) = v3 c
          ∧ r.2.mem ((c.tc : Thread Cert.UpFfOutRefIdeal.nD Cert.UpFfOutRefIdeal.τ).loc Cert.UpFfOutRefIdeal.main_arg0) = m' ((c.tc : Thread Cert.UpFfOutRefIdeal.nD Cert.UpFfOutRefIdeal.τ).loc Cert.UpFfOutRefIdeal.main_arg0)
          ∧ r.2.mem ((c.tc : Thread Cert.UpFfOutRefIdeal.nD Cert.UpFfOutRefIdeal.τ).loc Cert.UpFfOutRefIdeal.main_arg1) = m' ((c.tc : Thread Cert.UpFfOutRefIdeal.nD Cert.UpFfOutRefIdeal.τ).loc Cert.UpFfOutRefIdeal.main_arg1)
          ∧ r.2.mem ((c.tc : Thread Cert.UpFfOutRefIdeal.nD Cert.UpFfOutRefIdeal.τ).loc Cert.UpFfOutRefIdeal.main_arg2) = m' ((c.tc : Thread Cert.UpFfOutRefIdeal.nD Cert.UpFfOutRefIdeal.τ).loc Cert.UpFfOutRefIdeal.main_arg2)
          ∧ r.2.mem ((c.tc : Thread Cert.UpFfOutRefIdeal.nD Cert.UpFfOutRefIdeal.τ).loc Cert.UpFfOutRefIdeal.main_arg3) = m' ((c.tc : Thread Cert.UpFfOutRefIdeal.nD Cert.UpFfOutRefIdeal.τ).loc Cert.UpFfOutRefIdeal.main_arg3))

def preserves_UpOut_UpOutIdeal : Prop :=
  True

def algebraic_UpOutIdeal_UpOutRefIdeal [hUpOutIdeal : Cert.UpOutIdeal.Facts] [hUpOutRefIdeal : Cert.UpOutRefIdeal.Facts] : Prop :=
  ∀ (m : (ℓ : Loc Cert.UpOutIdeal.nD Cert.UpOutIdeal.τ Cert.UpOutIdeal.sig) → Buf (Elt Ideal) ℓ) (g : Dev Cert.UpOutIdeal.nD → PrngReg)
    (m' : (ℓ : Loc Cert.UpOutRefIdeal.nD Cert.UpOutRefIdeal.τ Cert.UpOutRefIdeal.sig) → Buf (Elt Ideal) ℓ) (g' : Dev Cert.UpOutRefIdeal.nD → PrngReg), Pre_UpOutIdeal m →
    (∀ c : Dev Cert.UpOutIdeal.nD,
      m' ((c.tc : Thread Cert.UpOutRefIdeal.nD Cert.UpOutRefIdeal.τ).loc Cert.UpOutRefIdeal.main_arg0) = m ((c.tc : Thread Cert.UpOutIdeal.nD Cert.UpOutIdeal.τ).loc Cert.UpOutIdeal.main_arg0)
      ∧ m' ((c.tc : Thread Cert.UpOutRefIdeal.nD Cert.UpOutRefIdeal.τ).loc Cert.UpOutRefIdeal.main_arg1) = m ((c.tc : Thread Cert.UpOutIdeal.nD Cert.UpOutIdeal.τ).loc Cert.UpOutIdeal.main_arg1)
      ∧ m' ((c.tc : Thread Cert.UpOutRefIdeal.nD Cert.UpOutRefIdeal.τ).loc Cert.UpOutRefIdeal.main_arg2) = m ((c.tc : Thread Cert.UpOutIdeal.nD Cert.UpOutIdeal.τ).loc Cert.UpOutIdeal.main_arg2)
      ∧ m' ((c.tc : Thread Cert.UpOutRefIdeal.nD Cert.UpOutRefIdeal.τ).loc Cert.UpOutRefIdeal.main_arg3) = m ((c.tc : Thread Cert.UpOutIdeal.nD Cert.UpOutIdeal.τ).loc Cert.UpOutIdeal.main_arg3)) →
    ∃ (v0 : (c : Dev Cert.UpOutIdeal.nD) → Buf (Elt Ideal) ((c.tc : Thread Cert.UpOutIdeal.nD Cert.UpOutIdeal.τ).loc Cert.UpOutIdeal.main_v0_0)) (v1 : (c : Dev Cert.UpOutIdeal.nD) → Buf (Elt Ideal) ((c.tc : Thread Cert.UpOutIdeal.nD Cert.UpOutIdeal.τ).loc Cert.UpOutIdeal.main_v0_1)) (v2 : (c : Dev Cert.UpOutIdeal.nD) → Buf (Elt Ideal) ((c.tc : Thread Cert.UpOutIdeal.nD Cert.UpOutIdeal.τ).loc Cert.UpOutIdeal.main_v0_2)) (v3 : (c : Dev Cert.UpOutIdeal.nD) → Buf (Elt Ideal) ((c.tc : Thread Cert.UpOutIdeal.nD Cert.UpOutIdeal.τ).loc Cert.UpOutIdeal.main_v0_3)),
      θ_run (Cert.UpOutIdeal.defs (F := Ideal)) (onTc (τ := Cert.UpOutIdeal.τ) (Cert.UpOutIdeal.main (F := Ideal))) ⟨m, fun _ => 0, g⟩ (fun r => ∀ c : Dev Cert.UpOutIdeal.nD,
          r.2.mem ((c.tc : Thread Cert.UpOutIdeal.nD Cert.UpOutIdeal.τ).loc Cert.UpOutIdeal.main_v0_0) = v0 c
          ∧ r.2.mem ((c.tc : Thread Cert.UpOutIdeal.nD Cert.UpOutIdeal.τ).loc Cert.UpOutIdeal.main_v0_1) = v1 c
          ∧ r.2.mem ((c.tc : Thread Cert.UpOutIdeal.nD Cert.UpOutIdeal.τ).loc Cert.UpOutIdeal.main_v0_2) = v2 c
          ∧ r.2.mem ((c.tc : Thread Cert.UpOutIdeal.nD Cert.UpOutIdeal.τ).loc Cert.UpOutIdeal.main_v0_3) = v3 c
          ∧ r.2.mem ((c.tc : Thread Cert.UpOutIdeal.nD Cert.UpOutIdeal.τ).loc Cert.UpOutIdeal.main_arg0) = m ((c.tc : Thread Cert.UpOutIdeal.nD Cert.UpOutIdeal.τ).loc Cert.UpOutIdeal.main_arg0)
          ∧ r.2.mem ((c.tc : Thread Cert.UpOutIdeal.nD Cert.UpOutIdeal.τ).loc Cert.UpOutIdeal.main_arg1) = m ((c.tc : Thread Cert.UpOutIdeal.nD Cert.UpOutIdeal.τ).loc Cert.UpOutIdeal.main_arg1)
          ∧ r.2.mem ((c.tc : Thread Cert.UpOutIdeal.nD Cert.UpOutIdeal.τ).loc Cert.UpOutIdeal.main_arg2) = m ((c.tc : Thread Cert.UpOutIdeal.nD Cert.UpOutIdeal.τ).loc Cert.UpOutIdeal.main_arg2)
          ∧ r.2.mem ((c.tc : Thread Cert.UpOutIdeal.nD Cert.UpOutIdeal.τ).loc Cert.UpOutIdeal.main_arg3) = m ((c.tc : Thread Cert.UpOutIdeal.nD Cert.UpOutIdeal.τ).loc Cert.UpOutIdeal.main_arg3))
      ∧ θ_run (Cert.UpOutRefIdeal.defs (F := Ideal)) (onTc (τ := Cert.UpOutRefIdeal.τ) (Cert.UpOutRefIdeal.main (F := Ideal))) ⟨m', fun _ => 0, g'⟩ (fun r => ∀ c : Dev Cert.UpOutRefIdeal.nD,
          r.2.mem ((c.tc : Thread Cert.UpOutRefIdeal.nD Cert.UpOutRefIdeal.τ).loc Cert.UpOutRefIdeal.main_v1) = v0 c
          ∧ r.2.mem ((c.tc : Thread Cert.UpOutRefIdeal.nD Cert.UpOutRefIdeal.τ).loc Cert.UpOutRefIdeal.main_v25) = v1 c
          ∧ r.2.mem ((c.tc : Thread Cert.UpOutRefIdeal.nD Cert.UpOutRefIdeal.τ).loc Cert.UpOutRefIdeal.main_v6) = v2 c
          ∧ r.2.mem ((c.tc : Thread Cert.UpOutRefIdeal.nD Cert.UpOutRefIdeal.τ).loc Cert.UpOutRefIdeal.main_v12) = v3 c
          ∧ r.2.mem ((c.tc : Thread Cert.UpOutRefIdeal.nD Cert.UpOutRefIdeal.τ).loc Cert.UpOutRefIdeal.main_arg0) = m' ((c.tc : Thread Cert.UpOutRefIdeal.nD Cert.UpOutRefIdeal.τ).loc Cert.UpOutRefIdeal.main_arg0)
          ∧ r.2.mem ((c.tc : Thread Cert.UpOutRefIdeal.nD Cert.UpOutRefIdeal.τ).loc Cert.UpOutRefIdeal.main_arg1) = m' ((c.tc : Thread Cert.UpOutRefIdeal.nD Cert.UpOutRefIdeal.τ).loc Cert.UpOutRefIdeal.main_arg1)
          ∧ r.2.mem ((c.tc : Thread Cert.UpOutRefIdeal.nD Cert.UpOutRefIdeal.τ).loc Cert.UpOutRefIdeal.main_arg2) = m' ((c.tc : Thread Cert.UpOutRefIdeal.nD Cert.UpOutRefIdeal.τ).loc Cert.UpOutRefIdeal.main_arg2)
          ∧ r.2.mem ((c.tc : Thread Cert.UpOutRefIdeal.nD Cert.UpOutRefIdeal.τ).loc Cert.UpOutRefIdeal.main_arg3) = m' ((c.tc : Thread Cert.UpOutRefIdeal.nD Cert.UpOutRefIdeal.τ).loc Cert.UpOutRefIdeal.main_arg3))

def preserves_UpIn_UpInIdeal : Prop :=
  True

def algebraic_UpInIdeal_UpInRefIdeal [hUpInIdeal : Cert.UpInIdeal.Facts] [hUpInRefIdeal : Cert.UpInRefIdeal.Facts] : Prop :=
  ∀ (m : (ℓ : Loc Cert.UpInIdeal.nD Cert.UpInIdeal.τ Cert.UpInIdeal.sig) → Buf (Elt Ideal) ℓ) (g : Dev Cert.UpInIdeal.nD → PrngReg)
    (m' : (ℓ : Loc Cert.UpInRefIdeal.nD Cert.UpInRefIdeal.τ Cert.UpInRefIdeal.sig) → Buf (Elt Ideal) ℓ) (g' : Dev Cert.UpInRefIdeal.nD → PrngReg), Pre_UpInIdeal m →
    (∀ c : Dev Cert.UpInIdeal.nD,
      m' ((c.tc : Thread Cert.UpInRefIdeal.nD Cert.UpInRefIdeal.τ).loc Cert.UpInRefIdeal.main_arg0) = m ((c.tc : Thread Cert.UpInIdeal.nD Cert.UpInIdeal.τ).loc Cert.UpInIdeal.main_arg0)
      ∧ m' ((c.tc : Thread Cert.UpInRefIdeal.nD Cert.UpInRefIdeal.τ).loc Cert.UpInRefIdeal.main_arg1) = m ((c.tc : Thread Cert.UpInIdeal.nD Cert.UpInIdeal.τ).loc Cert.UpInIdeal.main_arg1)
      ∧ m' ((c.tc : Thread Cert.UpInRefIdeal.nD Cert.UpInRefIdeal.τ).loc Cert.UpInRefIdeal.main_arg2) = m ((c.tc : Thread Cert.UpInIdeal.nD Cert.UpInIdeal.τ).loc Cert.UpInIdeal.main_arg2)
      ∧ m' ((c.tc : Thread Cert.UpInRefIdeal.nD Cert.UpInRefIdeal.τ).loc Cert.UpInRefIdeal.main_arg3) = m ((c.tc : Thread Cert.UpInIdeal.nD Cert.UpInIdeal.τ).loc Cert.UpInIdeal.main_arg3)) →
    ∃ (v0 : (c : Dev Cert.UpInIdeal.nD) → Buf (Elt Ideal) ((c.tc : Thread Cert.UpInIdeal.nD Cert.UpInIdeal.τ).loc Cert.UpInIdeal.main_v3_0)) (v1 : (c : Dev Cert.UpInIdeal.nD) → Buf (Elt Ideal) ((c.tc : Thread Cert.UpInIdeal.nD Cert.UpInIdeal.τ).loc Cert.UpInIdeal.main_v3_1)) (v2 : (c : Dev Cert.UpInIdeal.nD) → Buf (Elt Ideal) ((c.tc : Thread Cert.UpInIdeal.nD Cert.UpInIdeal.τ).loc Cert.UpInIdeal.main_v3_2)) (v3 : (c : Dev Cert.UpInIdeal.nD) → Buf (Elt Ideal) ((c.tc : Thread Cert.UpInIdeal.nD Cert.UpInIdeal.τ).loc Cert.UpInIdeal.main_v3_3)),
      θ_run (Cert.UpInIdeal.defs (F := Ideal)) (onTc (τ := Cert.UpInIdeal.τ) (Cert.UpInIdeal.main (F := Ideal))) ⟨m, fun _ => 0, g⟩ (fun r => ∀ c : Dev Cert.UpInIdeal.nD,
          r.2.mem ((c.tc : Thread Cert.UpInIdeal.nD Cert.UpInIdeal.τ).loc Cert.UpInIdeal.main_v3_0) = v0 c
          ∧ r.2.mem ((c.tc : Thread Cert.UpInIdeal.nD Cert.UpInIdeal.τ).loc Cert.UpInIdeal.main_v3_1) = v1 c
          ∧ r.2.mem ((c.tc : Thread Cert.UpInIdeal.nD Cert.UpInIdeal.τ).loc Cert.UpInIdeal.main_v3_2) = v2 c
          ∧ r.2.mem ((c.tc : Thread Cert.UpInIdeal.nD Cert.UpInIdeal.τ).loc Cert.UpInIdeal.main_v3_3) = v3 c
          ∧ r.2.mem ((c.tc : Thread Cert.UpInIdeal.nD Cert.UpInIdeal.τ).loc Cert.UpInIdeal.main_arg0) = m ((c.tc : Thread Cert.UpInIdeal.nD Cert.UpInIdeal.τ).loc Cert.UpInIdeal.main_arg0)
          ∧ r.2.mem ((c.tc : Thread Cert.UpInIdeal.nD Cert.UpInIdeal.τ).loc Cert.UpInIdeal.main_arg1) = m ((c.tc : Thread Cert.UpInIdeal.nD Cert.UpInIdeal.τ).loc Cert.UpInIdeal.main_arg1)
          ∧ r.2.mem ((c.tc : Thread Cert.UpInIdeal.nD Cert.UpInIdeal.τ).loc Cert.UpInIdeal.main_arg2) = m ((c.tc : Thread Cert.UpInIdeal.nD Cert.UpInIdeal.τ).loc Cert.UpInIdeal.main_arg2)
          ∧ r.2.mem ((c.tc : Thread Cert.UpInIdeal.nD Cert.UpInIdeal.τ).loc Cert.UpInIdeal.main_arg3) = m ((c.tc : Thread Cert.UpInIdeal.nD Cert.UpInIdeal.τ).loc Cert.UpInIdeal.main_arg3))
      ∧ θ_run (Cert.UpInRefIdeal.defs (F := Ideal)) (onTc (τ := Cert.UpInRefIdeal.τ) (Cert.UpInRefIdeal.main (F := Ideal))) ⟨m', fun _ => 0, g'⟩ (fun r => ∀ c : Dev Cert.UpInRefIdeal.nD,
          r.2.mem ((c.tc : Thread Cert.UpInRefIdeal.nD Cert.UpInRefIdeal.τ).loc Cert.UpInRefIdeal.main_v27) = v0 c
          ∧ r.2.mem ((c.tc : Thread Cert.UpInRefIdeal.nD Cert.UpInRefIdeal.τ).loc Cert.UpInRefIdeal.main_v28) = v1 c
          ∧ r.2.mem ((c.tc : Thread Cert.UpInRefIdeal.nD Cert.UpInRefIdeal.τ).loc Cert.UpInRefIdeal.main_v29) = v2 c
          ∧ r.2.mem ((c.tc : Thread Cert.UpInRefIdeal.nD Cert.UpInRefIdeal.τ).loc Cert.UpInRefIdeal.main_v30) = v3 c
          ∧ r.2.mem ((c.tc : Thread Cert.UpInRefIdeal.nD Cert.UpInRefIdeal.τ).loc Cert.UpInRefIdeal.main_arg0) = m' ((c.tc : Thread Cert.UpInRefIdeal.nD Cert.UpInRefIdeal.τ).loc Cert.UpInRefIdeal.main_arg0)
          ∧ r.2.mem ((c.tc : Thread Cert.UpInRefIdeal.nD Cert.UpInRefIdeal.τ).loc Cert.UpInRefIdeal.main_arg1) = m' ((c.tc : Thread Cert.UpInRefIdeal.nD Cert.UpInRefIdeal.τ).loc Cert.UpInRefIdeal.main_arg1)
          ∧ r.2.mem ((c.tc : Thread Cert.UpInRefIdeal.nD Cert.UpInRefIdeal.τ).loc Cert.UpInRefIdeal.main_arg2) = m' ((c.tc : Thread Cert.UpInRefIdeal.nD Cert.UpInRefIdeal.τ).loc Cert.UpInRefIdeal.main_arg2)
          ∧ r.2.mem ((c.tc : Thread Cert.UpInRefIdeal.nD Cert.UpInRefIdeal.τ).loc Cert.UpInRefIdeal.main_arg3) = m' ((c.tc : Thread Cert.UpInRefIdeal.nD Cert.UpInRefIdeal.τ).loc Cert.UpInRefIdeal.main_arg3))

def preserves_UpAda_UpAdaIdeal : Prop :=
  True

def algebraic_UpAdaIdeal_UpAdaRefIdeal [hUpAdaIdeal : Cert.UpAdaIdeal.Facts] [hUpAdaRefIdeal : Cert.UpAdaRefIdeal.Facts] : Prop :=
  ∀ (m : (ℓ : Loc Cert.UpAdaIdeal.nD Cert.UpAdaIdeal.τ Cert.UpAdaIdeal.sig) → Buf (Elt Ideal) ℓ) (g : Dev Cert.UpAdaIdeal.nD → PrngReg)
    (m' : (ℓ : Loc Cert.UpAdaRefIdeal.nD Cert.UpAdaRefIdeal.τ Cert.UpAdaRefIdeal.sig) → Buf (Elt Ideal) ℓ) (g' : Dev Cert.UpAdaRefIdeal.nD → PrngReg), Pre_UpAdaIdeal m →
    (∀ c : Dev Cert.UpAdaIdeal.nD,
      m' ((c.tc : Thread Cert.UpAdaRefIdeal.nD Cert.UpAdaRefIdeal.τ).loc Cert.UpAdaRefIdeal.main_arg0) = m ((c.tc : Thread Cert.UpAdaIdeal.nD Cert.UpAdaIdeal.τ).loc Cert.UpAdaIdeal.main_arg0)
      ∧ m' ((c.tc : Thread Cert.UpAdaRefIdeal.nD Cert.UpAdaRefIdeal.τ).loc Cert.UpAdaRefIdeal.main_arg1) = m ((c.tc : Thread Cert.UpAdaIdeal.nD Cert.UpAdaIdeal.τ).loc Cert.UpAdaIdeal.main_arg1)
      ∧ m' ((c.tc : Thread Cert.UpAdaRefIdeal.nD Cert.UpAdaRefIdeal.τ).loc Cert.UpAdaRefIdeal.main_arg2) = m ((c.tc : Thread Cert.UpAdaIdeal.nD Cert.UpAdaIdeal.τ).loc Cert.UpAdaIdeal.main_arg2)
      ∧ m' ((c.tc : Thread Cert.UpAdaRefIdeal.nD Cert.UpAdaRefIdeal.τ).loc Cert.UpAdaRefIdeal.main_arg3) = m ((c.tc : Thread Cert.UpAdaIdeal.nD Cert.UpAdaIdeal.τ).loc Cert.UpAdaIdeal.main_arg3)) →
    ∃ (v0 : (c : Dev Cert.UpAdaIdeal.nD) → Buf (Elt Ideal) ((c.tc : Thread Cert.UpAdaIdeal.nD Cert.UpAdaIdeal.τ).loc Cert.UpAdaIdeal.main_v0_0)) (v1 : (c : Dev Cert.UpAdaIdeal.nD) → Buf (Elt Ideal) ((c.tc : Thread Cert.UpAdaIdeal.nD Cert.UpAdaIdeal.τ).loc Cert.UpAdaIdeal.main_v0_1)) (v2 : (c : Dev Cert.UpAdaIdeal.nD) → Buf (Elt Ideal) ((c.tc : Thread Cert.UpAdaIdeal.nD Cert.UpAdaIdeal.τ).loc Cert.UpAdaIdeal.main_v0_2)) (v3 : (c : Dev Cert.UpAdaIdeal.nD) → Buf (Elt Ideal) ((c.tc : Thread Cert.UpAdaIdeal.nD Cert.UpAdaIdeal.τ).loc Cert.UpAdaIdeal.main_v0_3)),
      θ_run (Cert.UpAdaIdeal.defs (F := Ideal)) (onTc (τ := Cert.UpAdaIdeal.τ) (Cert.UpAdaIdeal.main (F := Ideal))) ⟨m, fun _ => 0, g⟩ (fun r => ∀ c : Dev Cert.UpAdaIdeal.nD,
          r.2.mem ((c.tc : Thread Cert.UpAdaIdeal.nD Cert.UpAdaIdeal.τ).loc Cert.UpAdaIdeal.main_v0_0) = v0 c
          ∧ r.2.mem ((c.tc : Thread Cert.UpAdaIdeal.nD Cert.UpAdaIdeal.τ).loc Cert.UpAdaIdeal.main_v0_1) = v1 c
          ∧ r.2.mem ((c.tc : Thread Cert.UpAdaIdeal.nD Cert.UpAdaIdeal.τ).loc Cert.UpAdaIdeal.main_v0_2) = v2 c
          ∧ r.2.mem ((c.tc : Thread Cert.UpAdaIdeal.nD Cert.UpAdaIdeal.τ).loc Cert.UpAdaIdeal.main_v0_3) = v3 c
          ∧ r.2.mem ((c.tc : Thread Cert.UpAdaIdeal.nD Cert.UpAdaIdeal.τ).loc Cert.UpAdaIdeal.main_arg0) = m ((c.tc : Thread Cert.UpAdaIdeal.nD Cert.UpAdaIdeal.τ).loc Cert.UpAdaIdeal.main_arg0)
          ∧ r.2.mem ((c.tc : Thread Cert.UpAdaIdeal.nD Cert.UpAdaIdeal.τ).loc Cert.UpAdaIdeal.main_arg1) = m ((c.tc : Thread Cert.UpAdaIdeal.nD Cert.UpAdaIdeal.τ).loc Cert.UpAdaIdeal.main_arg1)
          ∧ r.2.mem ((c.tc : Thread Cert.UpAdaIdeal.nD Cert.UpAdaIdeal.τ).loc Cert.UpAdaIdeal.main_arg2) = m ((c.tc : Thread Cert.UpAdaIdeal.nD Cert.UpAdaIdeal.τ).loc Cert.UpAdaIdeal.main_arg2)
          ∧ r.2.mem ((c.tc : Thread Cert.UpAdaIdeal.nD Cert.UpAdaIdeal.τ).loc Cert.UpAdaIdeal.main_arg3) = m ((c.tc : Thread Cert.UpAdaIdeal.nD Cert.UpAdaIdeal.τ).loc Cert.UpAdaIdeal.main_arg3))
      ∧ θ_run (Cert.UpAdaRefIdeal.defs (F := Ideal)) (onTc (τ := Cert.UpAdaRefIdeal.τ) (Cert.UpAdaRefIdeal.main (F := Ideal))) ⟨m', fun _ => 0, g'⟩ (fun r => ∀ c : Dev Cert.UpAdaRefIdeal.nD,
          r.2.mem ((c.tc : Thread Cert.UpAdaRefIdeal.nD Cert.UpAdaRefIdeal.τ).loc Cert.UpAdaRefIdeal.main_arg1) = v0 c
          ∧ r.2.mem ((c.tc : Thread Cert.UpAdaRefIdeal.nD Cert.UpAdaRefIdeal.τ).loc Cert.UpAdaRefIdeal.main_v23) = v1 c
          ∧ r.2.mem ((c.tc : Thread Cert.UpAdaRefIdeal.nD Cert.UpAdaRefIdeal.τ).loc Cert.UpAdaRefIdeal.main_v4) = v2 c
          ∧ r.2.mem ((c.tc : Thread Cert.UpAdaRefIdeal.nD Cert.UpAdaRefIdeal.τ).loc Cert.UpAdaRefIdeal.main_v10) = v3 c
          ∧ r.2.mem ((c.tc : Thread Cert.UpAdaRefIdeal.nD Cert.UpAdaRefIdeal.τ).loc Cert.UpAdaRefIdeal.main_arg0) = m' ((c.tc : Thread Cert.UpAdaRefIdeal.nD Cert.UpAdaRefIdeal.τ).loc Cert.UpAdaRefIdeal.main_arg0)
          ∧ r.2.mem ((c.tc : Thread Cert.UpAdaRefIdeal.nD Cert.UpAdaRefIdeal.τ).loc Cert.UpAdaRefIdeal.main_arg1) = m' ((c.tc : Thread Cert.UpAdaRefIdeal.nD Cert.UpAdaRefIdeal.τ).loc Cert.UpAdaRefIdeal.main_arg1)
          ∧ r.2.mem ((c.tc : Thread Cert.UpAdaRefIdeal.nD Cert.UpAdaRefIdeal.τ).loc Cert.UpAdaRefIdeal.main_arg2) = m' ((c.tc : Thread Cert.UpAdaRefIdeal.nD Cert.UpAdaRefIdeal.τ).loc Cert.UpAdaRefIdeal.main_arg2)
          ∧ r.2.mem ((c.tc : Thread Cert.UpAdaRefIdeal.nD Cert.UpAdaRefIdeal.τ).loc Cert.UpAdaRefIdeal.main_arg3) = m' ((c.tc : Thread Cert.UpAdaRefIdeal.nD Cert.UpAdaRefIdeal.τ).loc Cert.UpAdaRefIdeal.main_arg3))

def preserves_UpConv_UpConvIdeal : Prop :=
  True

def algebraic_UpConvIdeal_UpConvRefIdeal [hUpConvIdeal : Cert.UpConvIdeal.Facts] [hUpConvRefIdeal : Cert.UpConvRefIdeal.Facts] : Prop :=
  ∀ (m : (ℓ : Loc Cert.UpConvIdeal.nD Cert.UpConvIdeal.τ Cert.UpConvIdeal.sig) → Buf (Elt Ideal) ℓ) (g : Dev Cert.UpConvIdeal.nD → PrngReg)
    (m' : (ℓ : Loc Cert.UpConvRefIdeal.nD Cert.UpConvRefIdeal.τ Cert.UpConvRefIdeal.sig) → Buf (Elt Ideal) ℓ) (g' : Dev Cert.UpConvRefIdeal.nD → PrngReg), Pre_UpConvIdeal m →
    (∀ c : Dev Cert.UpConvIdeal.nD,
      m' ((c.tc : Thread Cert.UpConvRefIdeal.nD Cert.UpConvRefIdeal.τ).loc Cert.UpConvRefIdeal.main_arg0) = m ((c.tc : Thread Cert.UpConvIdeal.nD Cert.UpConvIdeal.τ).loc Cert.UpConvIdeal.main_arg0)
      ∧ m' ((c.tc : Thread Cert.UpConvRefIdeal.nD Cert.UpConvRefIdeal.τ).loc Cert.UpConvRefIdeal.main_arg1) = m ((c.tc : Thread Cert.UpConvIdeal.nD Cert.UpConvIdeal.τ).loc Cert.UpConvIdeal.main_arg1)
      ∧ m' ((c.tc : Thread Cert.UpConvRefIdeal.nD Cert.UpConvRefIdeal.τ).loc Cert.UpConvRefIdeal.main_arg2) = m ((c.tc : Thread Cert.UpConvIdeal.nD Cert.UpConvIdeal.τ).loc Cert.UpConvIdeal.main_arg2)
      ∧ m' ((c.tc : Thread Cert.UpConvRefIdeal.nD Cert.UpConvRefIdeal.τ).loc Cert.UpConvRefIdeal.main_arg3) = m ((c.tc : Thread Cert.UpConvIdeal.nD Cert.UpConvIdeal.τ).loc Cert.UpConvIdeal.main_arg3)) →
    ∃ (v0 : (c : Dev Cert.UpConvIdeal.nD) → Buf (Elt Ideal) ((c.tc : Thread Cert.UpConvIdeal.nD Cert.UpConvIdeal.τ).loc Cert.UpConvIdeal.main_v0_0)) (v1 : (c : Dev Cert.UpConvIdeal.nD) → Buf (Elt Ideal) ((c.tc : Thread Cert.UpConvIdeal.nD Cert.UpConvIdeal.τ).loc Cert.UpConvIdeal.main_v0_1)) (v2 : (c : Dev Cert.UpConvIdeal.nD) → Buf (Elt Ideal) ((c.tc : Thread Cert.UpConvIdeal.nD Cert.UpConvIdeal.τ).loc Cert.UpConvIdeal.main_v0_2)) (v3 : (c : Dev Cert.UpConvIdeal.nD) → Buf (Elt Ideal) ((c.tc : Thread Cert.UpConvIdeal.nD Cert.UpConvIdeal.τ).loc Cert.UpConvIdeal.main_v0_3)),
      θ_run (Cert.UpConvIdeal.defs (F := Ideal)) (onTc (τ := Cert.UpConvIdeal.τ) (Cert.UpConvIdeal.main (F := Ideal))) ⟨m, fun _ => 0, g⟩ (fun r => ∀ c : Dev Cert.UpConvIdeal.nD,
          r.2.mem ((c.tc : Thread Cert.UpConvIdeal.nD Cert.UpConvIdeal.τ).loc Cert.UpConvIdeal.main_v0_0) = v0 c
          ∧ r.2.mem ((c.tc : Thread Cert.UpConvIdeal.nD Cert.UpConvIdeal.τ).loc Cert.UpConvIdeal.main_v0_1) = v1 c
          ∧ r.2.mem ((c.tc : Thread Cert.UpConvIdeal.nD Cert.UpConvIdeal.τ).loc Cert.UpConvIdeal.main_v0_2) = v2 c
          ∧ r.2.mem ((c.tc : Thread Cert.UpConvIdeal.nD Cert.UpConvIdeal.τ).loc Cert.UpConvIdeal.main_v0_3) = v3 c
          ∧ r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
          ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
          ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
          ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ θ_run (Cert.UpConvRefIdeal.defs (F := Ideal)) (onTc (τ := Cert.UpConvRefIdeal.τ) (Cert.UpConvRefIdeal.main (F := Ideal))) ⟨m', fun _ => 0, g'⟩ (fun r => ∀ c : Dev Cert.UpConvRefIdeal.nD,
          r.2.mem ((c.tc : Thread Cert.UpConvRefIdeal.nD Cert.UpConvRefIdeal.τ).loc Cert.UpConvRefIdeal.main_arg1) = v0 c
          ∧ r.2.mem ((c.tc : Thread Cert.UpConvRefIdeal.nD Cert.UpConvRefIdeal.τ).loc Cert.UpConvRefIdeal.main_v23) = v1 c
          ∧ r.2.mem ((c.tc : Thread Cert.UpConvRefIdeal.nD Cert.UpConvRefIdeal.τ).loc Cert.UpConvRefIdeal.main_v4) = v2 c
          ∧ r.2.mem ((c.tc : Thread Cert.UpConvRefIdeal.nD Cert.UpConvRefIdeal.τ).loc Cert.UpConvRefIdeal.main_v10) = v3 c
          ∧ r.2.mem ((c.tc : Thread Cert.UpConvRefIdeal.nD Cert.UpConvRefIdeal.τ).loc Cert.UpConvRefIdeal.main_arg0) = m' ((c.tc : Thread Cert.UpConvRefIdeal.nD Cert.UpConvRefIdeal.τ).loc Cert.UpConvRefIdeal.main_arg0)
          ∧ r.2.mem ((c.tc : Thread Cert.UpConvRefIdeal.nD Cert.UpConvRefIdeal.τ).loc Cert.UpConvRefIdeal.main_arg1) = m' ((c.tc : Thread Cert.UpConvRefIdeal.nD Cert.UpConvRefIdeal.τ).loc Cert.UpConvRefIdeal.main_arg1)
          ∧ r.2.mem ((c.tc : Thread Cert.UpConvRefIdeal.nD Cert.UpConvRefIdeal.τ).loc Cert.UpConvRefIdeal.main_arg2) = m' ((c.tc : Thread Cert.UpConvRefIdeal.nD Cert.UpConvRefIdeal.τ).loc Cert.UpConvRefIdeal.main_arg2)
          ∧ r.2.mem ((c.tc : Thread Cert.UpConvRefIdeal.nD Cert.UpConvRefIdeal.τ).loc Cert.UpConvRefIdeal.main_arg3) = m' ((c.tc : Thread Cert.UpConvRefIdeal.nD Cert.UpConvRefIdeal.τ).loc Cert.UpConvRefIdeal.main_arg3))

def preserves_AdaGrad_AdaGradIdeal : Prop :=
  True

def algebraic_AdaGradIdeal_AdaGradRefIdeal_pre_finite_ada [hAdaGradIdeal : Cert.AdaGradIdeal.Facts] [hAdaGradRefIdeal : Cert.AdaGradRefIdeal.Facts] [hPre_finite_ada : Cert.Pre_finite_ada.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal_finite_ada m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)
      ∧ m' ((c.tc : Thread Cert.AdaGradRefIdeal.nD Cert.AdaGradRefIdeal.τ).loc Cert.AdaGradRefIdeal.main_arg2) = m ((c.tc : Thread Cert.AdaGradIdeal.nD Cert.AdaGradIdeal.τ).loc Cert.AdaGradIdeal.main_arg2)) →
    ∃ (v0 : (c : Dev Cert.AdaGradIdeal.nD) → Buf (Elt Ideal) ((c.tc : Thread Cert.AdaGradIdeal.nD Cert.AdaGradIdeal.τ).loc Cert.AdaGradIdeal.main_v0)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v0) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1)
          ∧ r.2.mem ((c.tc : Thread Cert.AdaGradIdeal.nD Cert.AdaGradIdeal.τ).loc Cert.AdaGradIdeal.main_arg2) = m ((c.tc : Thread Cert.AdaGradIdeal.nD Cert.AdaGradIdeal.τ).loc Cert.AdaGradIdeal.main_arg2))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v3) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1)
          ∧ r.2.mem ((c.tc : Thread Cert.AdaGradRefIdeal.nD Cert.AdaGradRefIdeal.τ).loc Cert.AdaGradRefIdeal.main_arg2) = m' ((c.tc : Thread Cert.AdaGradRefIdeal.nD Cert.AdaGradRefIdeal.τ).loc Cert.AdaGradRefIdeal.main_arg2))

def preserves_AdaMod_AdaModIdeal : Prop :=
  True

def algebraic_AdaModIdeal_AdaModRefIdeal_pre_finite_mod [hAdaModIdeal : Cert.AdaModIdeal.Facts] [hAdaModRefIdeal : Cert.AdaModRefIdeal.Facts] [hPre_finite_mod : Cert.Pre_finite_mod.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal_finite_mod m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v0)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v0) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v3) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)
      ∧ m' ((c.tc : Thread Cert.LnRefIdeal.nD Cert.LnRefIdeal.τ).loc Cert.LnRefIdeal.main_arg5) = m ((c.tc : Thread Cert.LnIdeal.nD Cert.LnIdeal.τ).loc Cert.LnIdeal.main_arg5)
      ∧ m' ((c.tc : Thread Cert.LnRefIdeal.nD Cert.LnRefIdeal.τ).loc Cert.LnRefIdeal.main_arg6) = m ((c.tc : Thread Cert.LnIdeal.nD Cert.LnIdeal.τ).loc Cert.LnIdeal.main_arg6)) →
    ∃ (v0 : (c : Dev Cert.LnIdeal.nD) → Buf (Elt Ideal) ((c.tc : Thread Cert.LnIdeal.nD Cert.LnIdeal.τ).loc Cert.LnIdeal.main_v0_0)) (v1 : (c : Dev Cert.LnIdeal.nD) → Buf (Elt Ideal) ((c.tc : Thread Cert.LnIdeal.nD Cert.LnIdeal.τ).loc Cert.LnIdeal.main_v0_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0_0) = v0 c
          ∧ r.2.mem ((c.tc : Thread Cert.LnIdeal.nD Cert.LnIdeal.τ).loc Cert.LnIdeal.main_v0_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
          ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
          ∧ r.2.mem ((c.tc : Thread Cert.LnIdeal.nD Cert.LnIdeal.τ).loc Cert.LnIdeal.main_arg6) = m ((c.tc : Thread Cert.LnIdeal.nD Cert.LnIdeal.τ).loc Cert.LnIdeal.main_arg6))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v28) = v0 c
          ∧ r.2.mem ((c.tc : Thread Cert.LnRefIdeal.nD Cert.LnRefIdeal.τ).loc Cert.LnRefIdeal.main_v35) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4)
          ∧ r.2.mem ((c.tc : Thread Cert.LnRefIdeal.nD Cert.LnRefIdeal.τ).loc Cert.LnRefIdeal.main_arg5) = m' ((c.tc : Thread Cert.LnRefIdeal.nD Cert.LnRefIdeal.τ).loc Cert.LnRefIdeal.main_arg5)
          ∧ r.2.mem ((c.tc : Thread Cert.LnRefIdeal.nD Cert.LnRefIdeal.τ).loc Cert.LnRefIdeal.main_arg6) = m' ((c.tc : Thread Cert.LnRefIdeal.nD Cert.LnRefIdeal.τ).loc Cert.LnRefIdeal.main_arg6))

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)
      ∧ m' ((c.tc : Thread Cert.MixNormRefIdeal.nD Cert.MixNormRefIdeal.τ).loc Cert.MixNormRefIdeal.main_arg3) = m ((c.tc : Thread Cert.MixNormIdeal.nD Cert.MixNormIdeal.τ).loc Cert.MixNormIdeal.main_arg3)
      ∧ m' ((c.tc : Thread Cert.MixNormRefIdeal.nD Cert.MixNormRefIdeal.τ).loc Cert.MixNormRefIdeal.main_arg4) = m ((c.tc : Thread Cert.MixNormIdeal.nD Cert.MixNormIdeal.τ).loc Cert.MixNormIdeal.main_arg4)) →
    ∃ (v0 : (c : Dev Cert.MixNormIdeal.nD) → Buf (Elt Ideal) ((c.tc : Thread Cert.MixNormIdeal.nD Cert.MixNormIdeal.τ).loc Cert.MixNormIdeal.main_v0)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v0) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
          ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
          ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v28) = v0 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2)
          ∧ r.2.mem ((c.tc : Thread Cert.MixNormRefIdeal.nD Cert.MixNormRefIdeal.τ).loc Cert.MixNormRefIdeal.main_arg3) = m' ((c.tc : Thread Cert.MixNormRefIdeal.nD Cert.MixNormRefIdeal.τ).loc Cert.MixNormRefIdeal.main_arg3)
          ∧ r.2.mem ((c.tc : Thread Cert.MixNormRefIdeal.nD Cert.MixNormRefIdeal.τ).loc Cert.MixNormRefIdeal.main_arg4) = m' ((c.tc : Thread Cert.MixNormRefIdeal.nD Cert.MixNormRefIdeal.τ).loc Cert.MixNormRefIdeal.main_arg4))

def Claim : Prop :=
  ∃ (hKernel : Cert.Kernel.Facts) (hKernelIdeal : Cert.KernelIdeal.Facts) (hReferenceIdeal : Cert.ReferenceIdeal.Facts) (hHidden : Cert.Hidden.Facts) (hHiddenIdeal : Cert.HiddenIdeal.Facts) (hHiddenRefIdeal : Cert.HiddenRefIdeal.Facts) (hFfOut : Cert.FfOut.Facts) (hFfOutIdeal : Cert.FfOutIdeal.Facts) (hFfOutRefIdeal : Cert.FfOutRefIdeal.Facts) (hFfIn : Cert.FfIn.Facts) (hFfInIdeal : Cert.FfInIdeal.Facts) (hFfInRefIdeal : Cert.FfInRefIdeal.Facts) (hFfInput : Cert.FfInput.Facts) (hFfInputIdeal : Cert.FfInputIdeal.Facts) (hFfInputRefIdeal : Cert.FfInputRefIdeal.Facts) (hDMix : Cert.DMix.Facts) (hDMixIdeal : Cert.DMixIdeal.Facts) (hDMixRefIdeal : Cert.DMixRefIdeal.Facts) (hDWOut : Cert.DWOut.Facts) (hDWOutIdeal : Cert.DWOutIdeal.Facts) (hDWOutRefIdeal : Cert.DWOutRefIdeal.Facts) (hDWIn : Cert.DWIn.Facts) (hDWInIdeal : Cert.DWInIdeal.Facts) (hDWInRefIdeal : Cert.DWInRefIdeal.Facts) (hDWQ : Cert.DWQ.Facts) (hDWQIdeal : Cert.DWQIdeal.Facts) (hDWQRefIdeal : Cert.DWQRefIdeal.Facts) (hDWBc : Cert.DWBc.Facts) (hDWBcIdeal : Cert.DWBcIdeal.Facts) (hDWBcRefIdeal : Cert.DWBcRefIdeal.Facts) (hDWGate : Cert.DWGate.Facts) (hDWGateIdeal : Cert.DWGateIdeal.Facts) (hDWGateRefIdeal : Cert.DWGateRefIdeal.Facts) (hFfAct : Cert.FfAct.Facts) (hFfActIdeal : Cert.FfActIdeal.Facts) (hFfActRefIdeal : Cert.FfActRefIdeal.Facts) (hFfSum : Cert.FfSum.Facts) (hFfSumIdeal : Cert.FfSumIdeal.Facts) (hFfSumRefIdeal : Cert.FfSumRefIdeal.Facts) (hOutProj : Cert.OutProj.Facts) (hOutProjIdeal : Cert.OutProjIdeal.Facts) (hOutProjRefIdeal : Cert.OutProjRefIdeal.Facts) (hDH : Cert.DH.Facts) (hDHIdeal : Cert.DHIdeal.Facts) (hDHRefIdeal : Cert.DHRefIdeal.Facts) (hInProj : Cert.InProj.Facts) (hInProjIdeal : Cert.InProjIdeal.Facts) (hInProjRefIdeal : Cert.InProjRefIdeal.Facts) (hInputGrad : Cert.InputGrad.Facts) (hInputGradIdeal : Cert.InputGradIdeal.Facts) (hInputGradRefIdeal : Cert.InputGradRefIdeal.Facts) (hModulate : Cert.Modulate.Facts) (hModulateIdeal : Cert.ModulateIdeal.Facts) (hModulateRefIdeal : Cert.ModulateRefIdeal.Facts) (hUpFfIn : Cert.UpFfIn.Facts) (hUpFfInIdeal : Cert.UpFfInIdeal.Facts) (hUpFfInRefIdeal : Cert.UpFfInRefIdeal.Facts) (hUpFfOut : Cert.UpFfOut.Facts) (hUpFfOutIdeal : Cert.UpFfOutIdeal.Facts) (hUpFfOutRefIdeal : Cert.UpFfOutRefIdeal.Facts) (hUpOut : Cert.UpOut.Facts) (hUpOutIdeal : Cert.UpOutIdeal.Facts) (hUpOutRefIdeal : Cert.UpOutRefIdeal.Facts) (hUpIn : Cert.UpIn.Facts) (hUpInIdeal : Cert.UpInIdeal.Facts) (hUpInRefIdeal : Cert.UpInRefIdeal.Facts) (hUpAda : Cert.UpAda.Facts) (hUpAdaIdeal : Cert.UpAdaIdeal.Facts) (hUpAdaRefIdeal : Cert.UpAdaRefIdeal.Facts) (hUpConv : Cert.UpConv.Facts) (hUpConvIdeal : Cert.UpConvIdeal.Facts) (hUpConvRefIdeal : Cert.UpConvRefIdeal.Facts) (hAdaGrad : Cert.AdaGrad.Facts) (hAdaGradIdeal : Cert.AdaGradIdeal.Facts) (hAdaGradRefIdeal : Cert.AdaGradRefIdeal.Facts) (hAdaMod : Cert.AdaMod.Facts) (hAdaModIdeal : Cert.AdaModIdeal.Facts) (hAdaModRefIdeal : Cert.AdaModRefIdeal.Facts) (hLn : Cert.Ln.Facts) (hLnIdeal : Cert.LnIdeal.Facts) (hLnRefIdeal : Cert.LnRefIdeal.Facts) (hMixNorm : Cert.MixNorm.Facts) (hMixNormIdeal : Cert.MixNormIdeal.Facts) (hMixNormRefIdeal : Cert.MixNormRefIdeal.Facts) (hPre_finite : Cert.Pre_finite.Facts) (hPre_finite_ada : Cert.Pre_finite_ada.Facts) (hPre_finite_mod : Cert.Pre_finite_mod.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Hidden (hHidden := hHidden)
    ∧ quiescent_HiddenIdeal (hHiddenIdeal := hHiddenIdeal)
    ∧ quiescent_HiddenRefIdeal (hHiddenRefIdeal := hHiddenRefIdeal)
    ∧ quiescent_FfOut (hFfOut := hFfOut)
    ∧ quiescent_FfOutIdeal (hFfOutIdeal := hFfOutIdeal)
    ∧ quiescent_FfOutRefIdeal (hFfOutRefIdeal := hFfOutRefIdeal)
    ∧ quiescent_FfIn (hFfIn := hFfIn)
    ∧ quiescent_FfInIdeal (hFfInIdeal := hFfInIdeal)
    ∧ quiescent_FfInRefIdeal (hFfInRefIdeal := hFfInRefIdeal)
    ∧ quiescent_FfInput (hFfInput := hFfInput)
    ∧ quiescent_FfInputIdeal (hFfInputIdeal := hFfInputIdeal)
    ∧ quiescent_FfInputRefIdeal (hFfInputRefIdeal := hFfInputRefIdeal)
    ∧ quiescent_DMix (hDMix := hDMix)
    ∧ quiescent_DMixIdeal (hDMixIdeal := hDMixIdeal)
    ∧ quiescent_DMixRefIdeal (hDMixRefIdeal := hDMixRefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_DWIn (hDWIn := hDWIn)
    ∧ quiescent_DWInIdeal (hDWInIdeal := hDWInIdeal)
    ∧ quiescent_DWInRefIdeal (hDWInRefIdeal := hDWInRefIdeal)
    ∧ quiescent_DWQ (hDWQ := hDWQ)
    ∧ quiescent_DWQIdeal (hDWQIdeal := hDWQIdeal)
    ∧ quiescent_DWQRefIdeal (hDWQRefIdeal := hDWQRefIdeal)
    ∧ quiescent_DWBc (hDWBc := hDWBc)
    ∧ quiescent_DWBcIdeal (hDWBcIdeal := hDWBcIdeal)
    ∧ quiescent_DWBcRefIdeal (hDWBcRefIdeal := hDWBcRefIdeal)
    ∧ quiescent_DWGate (hDWGate := hDWGate)
    ∧ quiescent_DWGateIdeal (hDWGateIdeal := hDWGateIdeal)
    ∧ quiescent_DWGateRefIdeal (hDWGateRefIdeal := hDWGateRefIdeal)
    ∧ quiescent_FfAct (hFfAct := hFfAct)
    ∧ quiescent_FfActIdeal (hFfActIdeal := hFfActIdeal)
    ∧ quiescent_FfActRefIdeal (hFfActRefIdeal := hFfActRefIdeal)
    ∧ quiescent_FfSum (hFfSum := hFfSum)
    ∧ quiescent_FfSumIdeal (hFfSumIdeal := hFfSumIdeal)
    ∧ quiescent_FfSumRefIdeal (hFfSumRefIdeal := hFfSumRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DH (hDH := hDH)
    ∧ quiescent_DHIdeal (hDHIdeal := hDHIdeal)
    ∧ quiescent_DHRefIdeal (hDHRefIdeal := hDHRefIdeal)
    ∧ quiescent_InProj (hInProj := hInProj)
    ∧ quiescent_InProjIdeal (hInProjIdeal := hInProjIdeal)
    ∧ quiescent_InProjRefIdeal (hInProjRefIdeal := hInProjRefIdeal)
    ∧ quiescent_InputGrad (hInputGrad := hInputGrad)
    ∧ quiescent_InputGradIdeal (hInputGradIdeal := hInputGradIdeal)
    ∧ quiescent_InputGradRefIdeal (hInputGradRefIdeal := hInputGradRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_UpFfIn (hUpFfIn := hUpFfIn)
    ∧ quiescent_UpFfInIdeal (hUpFfInIdeal := hUpFfInIdeal)
    ∧ quiescent_UpFfInRefIdeal (hUpFfInRefIdeal := hUpFfInRefIdeal)
    ∧ quiescent_UpFfOut (hUpFfOut := hUpFfOut)
    ∧ quiescent_UpFfOutIdeal (hUpFfOutIdeal := hUpFfOutIdeal)
    ∧ quiescent_UpFfOutRefIdeal (hUpFfOutRefIdeal := hUpFfOutRefIdeal)
    ∧ quiescent_UpOut (hUpOut := hUpOut)
    ∧ quiescent_UpOutIdeal (hUpOutIdeal := hUpOutIdeal)
    ∧ quiescent_UpOutRefIdeal (hUpOutRefIdeal := hUpOutRefIdeal)
    ∧ quiescent_UpIn (hUpIn := hUpIn)
    ∧ quiescent_UpInIdeal (hUpInIdeal := hUpInIdeal)
    ∧ quiescent_UpInRefIdeal (hUpInRefIdeal := hUpInRefIdeal)
    ∧ quiescent_UpAda (hUpAda := hUpAda)
    ∧ quiescent_UpAdaIdeal (hUpAdaIdeal := hUpAdaIdeal)
    ∧ quiescent_UpAdaRefIdeal (hUpAdaRefIdeal := hUpAdaRefIdeal)
    ∧ quiescent_UpConv (hUpConv := hUpConv)
    ∧ quiescent_UpConvIdeal (hUpConvIdeal := hUpConvIdeal)
    ∧ quiescent_UpConvRefIdeal (hUpConvRefIdeal := hUpConvRefIdeal)
    ∧ quiescent_AdaGrad (hAdaGrad := hAdaGrad)
    ∧ quiescent_AdaGradIdeal (hAdaGradIdeal := hAdaGradIdeal)
    ∧ quiescent_AdaGradIdeal_pre_finite_ada (hAdaGradIdeal := hAdaGradIdeal) (hPre_finite_ada := hPre_finite_ada)
    ∧ quiescent_AdaGradRefIdeal (hAdaGradRefIdeal := hAdaGradRefIdeal)
    ∧ quiescent_AdaGradRefIdeal_pre_finite_ada (hAdaGradRefIdeal := hAdaGradRefIdeal) (hPre_finite_ada := hPre_finite_ada)
    ∧ quiescent_AdaMod (hAdaMod := hAdaMod)
    ∧ quiescent_AdaModIdeal (hAdaModIdeal := hAdaModIdeal)
    ∧ quiescent_AdaModIdeal_pre_finite_mod (hAdaModIdeal := hAdaModIdeal) (hPre_finite_mod := hPre_finite_mod)
    ∧ quiescent_AdaModRefIdeal (hAdaModRefIdeal := hAdaModRefIdeal)
    ∧ quiescent_AdaModRefIdeal_pre_finite_mod (hAdaModRefIdeal := hAdaModRefIdeal) (hPre_finite_mod := hPre_finite_mod)
    ∧ quiescent_Ln (hLn := hLn)
    ∧ quiescent_LnIdeal (hLnIdeal := hLnIdeal)
    ∧ quiescent_LnRefIdeal (hLnRefIdeal := hLnRefIdeal)
    ∧ quiescent_MixNorm (hMixNorm := hMixNorm)
    ∧ quiescent_MixNormIdeal (hMixNormIdeal := hMixNormIdeal)
    ∧ quiescent_MixNormRefIdeal (hMixNormRefIdeal := hMixNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Hidden_HiddenIdeal
    ∧ algebraic_HiddenIdeal_HiddenRefIdeal (hHiddenIdeal := hHiddenIdeal) (hHiddenRefIdeal := hHiddenRefIdeal)
    ∧ preserves_FfOut_FfOutIdeal
    ∧ algebraic_FfOutIdeal_FfOutRefIdeal (hFfOutIdeal := hFfOutIdeal) (hFfOutRefIdeal := hFfOutRefIdeal)
    ∧ preserves_FfIn_FfInIdeal
    ∧ algebraic_FfInIdeal_FfInRefIdeal (hFfInIdeal := hFfInIdeal) (hFfInRefIdeal := hFfInRefIdeal)
    ∧ preserves_FfInput_FfInputIdeal
    ∧ algebraic_FfInputIdeal_FfInputRefIdeal (hFfInputIdeal := hFfInputIdeal) (hFfInputRefIdeal := hFfInputRefIdeal)
    ∧ preserves_DMix_DMixIdeal
    ∧ algebraic_DMixIdeal_DMixRefIdeal (hDMixIdeal := hDMixIdeal) (hDMixRefIdeal := hDMixRefIdeal)
    ∧ preserves_DWOut_DWOutIdeal
    ∧ algebraic_DWOutIdeal_DWOutRefIdeal (hDWOutIdeal := hDWOutIdeal) (hDWOutRefIdeal := hDWOutRefIdeal)
    ∧ preserves_DWIn_DWInIdeal
    ∧ algebraic_DWInIdeal_DWInRefIdeal (hDWInIdeal := hDWInIdeal) (hDWInRefIdeal := hDWInRefIdeal)
    ∧ preserves_DWQ_DWQIdeal
    ∧ algebraic_DWQIdeal_DWQRefIdeal (hDWQIdeal := hDWQIdeal) (hDWQRefIdeal := hDWQRefIdeal)
    ∧ preserves_DWBc_DWBcIdeal
    ∧ algebraic_DWBcIdeal_DWBcRefIdeal (hDWBcIdeal := hDWBcIdeal) (hDWBcRefIdeal := hDWBcRefIdeal)
    ∧ preserves_DWGate_DWGateIdeal
    ∧ algebraic_DWGateIdeal_DWGateRefIdeal (hDWGateIdeal := hDWGateIdeal) (hDWGateRefIdeal := hDWGateRefIdeal)
    ∧ preserves_FfAct_FfActIdeal
    ∧ algebraic_FfActIdeal_FfActRefIdeal (hFfActIdeal := hFfActIdeal) (hFfActRefIdeal := hFfActRefIdeal)
    ∧ preserves_FfSum_FfSumIdeal
    ∧ algebraic_FfSumIdeal_FfSumRefIdeal (hFfSumIdeal := hFfSumIdeal) (hFfSumRefIdeal := hFfSumRefIdeal)
    ∧ preserves_OutProj_OutProjIdeal
    ∧ algebraic_OutProjIdeal_OutProjRefIdeal (hOutProjIdeal := hOutProjIdeal) (hOutProjRefIdeal := hOutProjRefIdeal)
    ∧ preserves_DH_DHIdeal
    ∧ algebraic_DHIdeal_DHRefIdeal (hDHIdeal := hDHIdeal) (hDHRefIdeal := hDHRefIdeal)
    ∧ preserves_InProj_InProjIdeal
    ∧ algebraic_InProjIdeal_InProjRefIdeal (hInProjIdeal := hInProjIdeal) (hInProjRefIdeal := hInProjRefIdeal)
    ∧ preserves_InputGrad_InputGradIdeal
    ∧ algebraic_InputGradIdeal_InputGradRefIdeal (hInputGradIdeal := hInputGradIdeal) (hInputGradRefIdeal := hInputGradRefIdeal)
    ∧ preserves_Modulate_ModulateIdeal
    ∧ algebraic_ModulateIdeal_ModulateRefIdeal (hModulateIdeal := hModulateIdeal) (hModulateRefIdeal := hModulateRefIdeal)
    ∧ preserves_UpFfIn_UpFfInIdeal
    ∧ algebraic_UpFfInIdeal_UpFfInRefIdeal (hUpFfInIdeal := hUpFfInIdeal) (hUpFfInRefIdeal := hUpFfInRefIdeal)
    ∧ preserves_UpFfOut_UpFfOutIdeal
    ∧ algebraic_UpFfOutIdeal_UpFfOutRefIdeal (hUpFfOutIdeal := hUpFfOutIdeal) (hUpFfOutRefIdeal := hUpFfOutRefIdeal)
    ∧ preserves_UpOut_UpOutIdeal
    ∧ algebraic_UpOutIdeal_UpOutRefIdeal (hUpOutIdeal := hUpOutIdeal) (hUpOutRefIdeal := hUpOutRefIdeal)
    ∧ preserves_UpIn_UpInIdeal
    ∧ algebraic_UpInIdeal_UpInRefIdeal (hUpInIdeal := hUpInIdeal) (hUpInRefIdeal := hUpInRefIdeal)
    ∧ preserves_UpAda_UpAdaIdeal
    ∧ algebraic_UpAdaIdeal_UpAdaRefIdeal (hUpAdaIdeal := hUpAdaIdeal) (hUpAdaRefIdeal := hUpAdaRefIdeal)
    ∧ preserves_UpConv_UpConvIdeal
    ∧ algebraic_UpConvIdeal_UpConvRefIdeal (hUpConvIdeal := hUpConvIdeal) (hUpConvRefIdeal := hUpConvRefIdeal)
    ∧ preserves_AdaGrad_AdaGradIdeal
    ∧ algebraic_AdaGradIdeal_AdaGradRefIdeal_pre_finite_ada (hAdaGradIdeal := hAdaGradIdeal) (hAdaGradRefIdeal := hAdaGradRefIdeal) (hPre_finite_ada := hPre_finite_ada)
    ∧ preserves_AdaMod_AdaModIdeal
    ∧ algebraic_AdaModIdeal_AdaModRefIdeal_pre_finite_mod (hAdaModIdeal := hAdaModIdeal) (hAdaModRefIdeal := hAdaModRefIdeal) (hPre_finite_mod := hPre_finite_mod)
    ∧ preserves_Ln_LnIdeal
    ∧ algebraic_LnIdeal_LnRefIdeal (hLnIdeal := hLnIdeal) (hLnRefIdeal := hLnRefIdeal)
    ∧ preserves_MixNorm_MixNormIdeal
    ∧ algebraic_MixNormIdeal_MixNormRefIdeal (hMixNormIdeal := hMixNormIdeal) (hMixNormRefIdeal := hMixNormRefIdeal)
-- ==== Pre_finite.lean ====
abbrev S4096x1024 : Shape := ⟨2, ![4096, 1024]⟩
abbrev S4096x512 : Shape := ⟨2, ![4096, 512]⟩
abbrev S4096x5760 : Shape := ⟨2, ![4096, 5760]⟩
abbrev S1x16 : Shape := ⟨2, ![1, 16]⟩
abbrev S4096x16 : Shape := ⟨2, ![4096, 16]⟩
abbrev S_ : Shape := ⟨0, ![]⟩

class Facts : Prop where
  slices_S4096x5760_S4096x16_0_5632 : S4096x5760.Slices ![0, 5632] S4096x16
  bcast_S_S4096x1024 : S_.BroadcastsInDim S4096x1024 (![] : Fin 0 → Fin S4096x1024.rank)
  bcast_S_S4096x512 : S_.BroadcastsInDim S4096x512 (![] : Fin 0 → Fin S4096x512.rank)
  bcast_S_S4096x16 : S_.BroadcastsInDim S4096x16 (![] : Fin 0 → Fin S4096x16.rank)
  bcast_S_S1x16 : S_.BroadcastsInDim S1x16 (![] : Fin 0 → Fin S1x16.rank)

variable [Facts]

def fn_part1 {F : FTy → Type} [FloatOps F] (main_arg7 : FVec F S1x16 .f32) (main_v3 : IVec S4096x1024 1) (main_v6 : IVec S4096x1024 1) (main_v9 : IVec S4096x512 1) (main_v12 : IVec S4096x16 1) (main_v15 : IVec S1x16 1) (main_v16 : FVec F S1x16 .f32) (main_v17 : FVec F S1x16 .f32) : IVec S4096x1024 1 × IVec S4096x1024 1 × IVec S4096x512 1 × IVec S4096x16 1 × IVec S1x16 1 × IVec S1x16 1 × IVec S1x16 1 :=
  let main_v18 : IVec S1x16 1 := cmpf .olt main_v16 main_v17
  let main_v19 : FVec F S1x16 .f32 := Host.absf main_arg7
  let main_cst_5 : FVec F S_ .f32 := constant S_ .f32 0x7F800000#32
  let main_v20 : FVec F S1x16 .f32 := broadcastInDim S1x16 ![] bcast_S_S1x16 main_cst_5
  let main_v21 : IVec S1x16 1 := cmpf .olt main_v19 main_v20
  (main_v3, main_v6, main_v9, main_v12, main_v15, main_v18, main_v21)

def fn {F : FTy → Type} [FloatOps F] (main_arg0 : FVec F S4096x1024 .f32) (main_arg1 : FVec F S4096x1024 .f32) (main_arg2 : FVec F S4096x512 .f32) (main_arg3 : FVec F S4096x5760 .f32) (main_arg4 : FVec F S1x16 .f32) (main_arg5 : FVec F S1x16 .f32) (main_arg6 : FVec F S1x16 .f32) (main_arg7 : FVec F S1x16 .f32) : IVec S4096x1024 1 × IVec S4096x1024 1 × IVec S4096x512 1 × IVec S4096x16 1 × IVec S1x16 1 × IVec S1x16 1 × IVec S1x16 1 :=
  let main_v0 : FVec F S4096x16 .f32 := (extractStridedSlice S4096x16 ![0, 5632] · slices_S4096x5760_S4096x16_0_5632) main_arg3
  let main_v1 : FVec F S4096x1024 .f32 := Host.absf main_arg0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S4096x512 .f32 := Host.absf main_arg2
  let main_cst_1 : FVec F S_ .f32 := constant S_ .f32 0x7F800000#32
  let main_v8 : FVec F S4096x512 .f32 := broadcastInDim S4096x512 ![] bcast_S_S4096x512 main_cst_1
  let main_v9 : IVec S4096x512 1 := cmpf .olt main_v7 main_v8
  let main_v10 : FVec F S4096x16 .f32 := Host.absf main_v0
  let main_cst_2 : FVec F S_ .f32 := constant S_ .f32 0x7F800000#32
  let main_v11 : FVec F S4096x16 .f32 := broadcastInDim S4096x16 ![] bcast_S_S4096x16 main_cst_2
  let main_v12 : IVec S4096x16 1 := cmpf .olt main_v10 main_v11
  let main_v13 : FVec F S1x16 .f32 := Host.absf main_arg4
  let main_cst_3 : FVec F S_ .f32 := constant S_ .f32 0x7F800000#32
  let main_v14 : FVec F S1x16 .f32 := broadcastInDim S1x16 ![] bcast_S_S1x16 main_cst_3
  let main_v15 : IVec S1x16 1 := cmpf .olt main_v13 main_v14
  let main_v16 : FVec F S1x16 .f32 := Host.absf main_arg6
  let main_cst_4 : FVec F S_ .f32 := constant S_ .f32 0x7F800000#32
  let main_v17 : FVec F S1x16 .f32 := broadcastInDim S1x16 ![] bcast_S_S1x16 main_cst_4
  fn_part1 (F := F) main_arg7 main_v3 main_v6 main_v9 main_v12 main_v15 main_v16 main_v17
-- ==== Pre_finite_ada.lean ====
abbrev S8x1024 : Shape := ⟨2, ![8, 1024]⟩
abbrev S8x768 : Shape := ⟨2, ![8, 768]⟩
abbrev S1024x768 : Shape := ⟨2, ![1024, 768]⟩
abbrev S_ : Shape := ⟨0, ![]⟩

class Facts : Prop where
  bcast_S_S8x1024 : S_.BroadcastsInDim S8x1024 (![] : Fin 0 → Fin S8x1024.rank)
  bcast_S_S8x768 : S_.BroadcastsInDim S8x768 (![] : Fin 0 → Fin S8x768.rank)

variable [Facts]

def fn {F : FTy → Type} [FloatOps F] (main_arg0 : FVec F S8x1024 .f32) (main_arg1 : FVec F S8x768 .f32) (main_arg2 : FVec F S1024x768 .f32) : IVec S8x1024 1 × IVec S8x768 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S8x768 .f32 := Host.absf main_arg1
  let main_cst_0 : FVec F S_ .f32 := constant S_ .f32 0x7F800000#32
  let main_v4 : FVec F S8x768 .f32 := broadcastInDim S8x768 ![] bcast_S_S8x768 main_cst_0
  let main_v5 : IVec S8x768 1 := cmpf .olt main_v3 main_v4
  (main_v2, main_v5)
-- ==== Pre_finite_mod.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩

class Facts : Prop where
  bcast_S_S8x1024 : S_.BroadcastsInDim S8x1024 (![] : Fin 0 → Fin S8x1024.rank)
  bcast_S_S1024x768 : S_.BroadcastsInDim S1024x768 (![] : Fin 0 → Fin S1024x768.rank)

variable [Facts]

def fn {F : FTy → Type} [FloatOps F] (main_arg0 : FVec F S8x1024 .f32) (main_arg1 : FVec F S1024x768 .f32) (main_arg2 : FVec F S1x768 .f32) : IVec S8x1024 1 × IVec S1024x768 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1024x768 .f32 := Host.absf main_arg1
  let main_cst_0 : FVec F S_ .f32 := constant S_ .f32 0x7F800000#32
  let main_v4 : FVec F S1024x768 .f32 := broadcastInDim S1024x768 ![] bcast_S_S1024x768 main_cst_0
  let main_v5 : IVec S1024x768 1 := cmpf .olt main_v3 main_v4
  (main_v2, main_v5)
-- ==== Kernel.lean ====
abbrev S4096x1024 : Shape := ⟨2, ![4096, 1024]⟩
abbrev S4096x512 : Shape := ⟨2, ![4096, 512]⟩
abbrev S4096x5760 : Shape := ⟨2, ![4096, 5760]⟩
abbrev S1x16 : Shape := ⟨2, ![1, 16]⟩
abbrev S_ : Shape := ⟨0, ![]⟩
abbrev S1x96 : Shape := ⟨2, ![1, 96]⟩
abbrev S1x128 : Shape := ⟨2, ![1, 128]⟩
abbrev S1x112 : Shape := ⟨2, ![1, 112]⟩
abbrev S1x16x64 : Shape := ⟨3, ![1, 16, 64]⟩
abbrev S1x1024 : Shape := ⟨2, ![1, 1024]⟩
abbrev S4096x16 : Shape := ⟨2, ![4096, 16]⟩
abbrev S16 : Shape := ⟨1, ![16]⟩
abbrev S4096x16x64 : Shape := ⟨3, ![4096, 16, 64]⟩
abbrev S4096x256 : Shape := ⟨2, ![4096, 256]⟩
abbrev S4096x2x128 : Shape := ⟨3, ![4096, 2, 128]⟩
abbrev S4096x16x1 : Shape := ⟨3, ![4096, 16, 1]⟩
abbrev S32x128x2x8x64 : Shape := ⟨5, ![32, 128, 2, 8, 64]⟩
abbrev S32x128x2x128 : Shape := ⟨4, ![32, 128, 2, 128]⟩
abbrev S32x128x2x8 : Shape := ⟨4, ![32, 128, 2, 8]⟩
abbrev S2x8x32x128 : Shape := ⟨4, ![2, 8, 32, 128]⟩
abbrev S2x8x32x1 : Shape := ⟨4, ![2, 8, 32, 1]⟩
abbrev S32x128x2x8x1 : Shape := ⟨5, ![32, 128, 2, 8, 1]⟩
abbrev S32x2x8x64x128 : Shape := ⟨5, ![32, 2, 8, 64, 128]⟩
abbrev S2x8x1 : Shape := ⟨3, ![2, 8, 1]⟩
abbrev S2x8x32 : Shape := ⟨3, ![2, 8, 32]⟩
abbrev S2x8x33 : Shape := ⟨3, ![2, 8, 33]⟩
abbrev S2x8x33x1 : Shape := ⟨4, ![2, 8, 33, 1]⟩
abbrev S2x8x1x33 : Shape := ⟨4, ![2, 8, 1, 33]⟩
abbrev S2x8x33x33 : Shape := ⟨4, ![2, 8, 33, 33]⟩
abbrev S33x33 : Shape := ⟨2, ![33, 33]⟩
abbrev S1x2x8x64x128 : Shape := ⟨5, ![1, 2, 8, 64, 128]⟩
abbrev S33x2x8x64x128 : Shape := ⟨5, ![33, 2, 8, 64, 128]⟩
abbrev S2x8x64x128x33 : Shape := ⟨5, ![2, 8, 64, 128, 33]⟩
abbrev S32x128x1024 : Shape := ⟨3, ![32, 128, 1024]⟩
abbrev S4096x128 : Shape := ⟨2, ![4096, 128]⟩
abbrev S128x1024 : Shape := ⟨2, ![128, 1024]⟩
abbrev S128x512 : Shape := ⟨2, ![128, 512]⟩
abbrev S128x128 : Shape := ⟨2, ![128, 128]⟩
abbrev S1x128x1024 : Shape := ⟨3, ![1, 128, 1024]⟩
abbrev S1024x128 : Shape := ⟨2, ![1024, 128]⟩
abbrev S384x128 : Shape := ⟨2, ![384, 128]⟩
abbrev S384x1024 : Shape := ⟨2, ![384, 1024]⟩
abbrev S8x128 : Shape := ⟨2, ![8, 128]⟩
abbrev S8x1024 : Shape := ⟨2, ![8, 1024]⟩
abbrev S128x1 : Shape := ⟨2, ![128, 1]⟩
abbrev S1x512 : Shape := ⟨2, ![1, 512]⟩
abbrev S128x64 : Shape := ⟨2, ![128, 64]⟩
abbrev S128 : Shape := ⟨1, ![128]⟩
abbrev S1024 : Shape := ⟨1, ![1024]⟩

abbrev nBuf : Space → Nat
  | .hbm => 107
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x5760, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S_, .f32⟩
  | .hbm, ⟨9, _⟩ => ⟨S1x96, .f32⟩
  | .hbm, ⟨10, _⟩ => ⟨S1x128, .f32⟩
  | .hbm, ⟨11, _⟩ => ⟨S_, .f32⟩
  | .hbm, ⟨12, _⟩ => ⟨S1x112, .f32⟩
  | .hbm, ⟨13, _⟩ => ⟨S1x128, .f32⟩
  | .hbm, ⟨14, _⟩ => ⟨S1x16x64, .f32⟩
  | .hbm, ⟨15, _⟩ => ⟨S1x1024, .f32⟩
  | .hbm, ⟨16, _⟩ => ⟨S4096x16, .f32⟩
  | .hbm, ⟨17, _⟩ => ⟨S16, .f32⟩
  | .hbm, ⟨18, _⟩ => ⟨S1x16, .f32⟩
  | .hbm, ⟨19, _⟩ => ⟨S4096x16, .f32⟩
  | .hbm, ⟨20, _⟩ => ⟨S4096x16, .f32⟩
  | .hbm, ⟨21, _⟩ => ⟨S_, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x16, .i1⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16x64, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S4096x256, .f32⟩
  | .hbm, ⟨40, _⟩ => ⟨S4096x2x128, .f32⟩
  | .hbm, ⟨41, _⟩ => ⟨S4096x16x1, .f32⟩
  | .hbm, ⟨42, _⟩ => ⟨S4096x16x64, .f32⟩
  | .hbm, ⟨43, _⟩ => ⟨S4096x16x64, .f32⟩
  | .hbm, ⟨44, _⟩ => ⟨S32x128x2x8x64, .f32⟩
  | .hbm, ⟨45, _⟩ => ⟨S32x128x2x128, .f32⟩
  | .hbm, ⟨46, _⟩ => ⟨S1x16, .f32⟩
  | .hbm, ⟨47, _⟩ => ⟨S4096x16, .f32⟩
  | .hbm, ⟨48, _⟩ => ⟨S4096x16, .f32⟩
  | .hbm, ⟨49, _⟩ => ⟨S32x128x2x8, .f32⟩
  | .hbm, ⟨50, _⟩ => ⟨S2x8x32x128, .f32⟩
  | .hbm, ⟨51, _⟩ => ⟨S_, .f32⟩
  | .hbm, ⟨52, _⟩ => ⟨S_, .f32⟩
  | .hbm, ⟨53, _⟩ => ⟨S2x8x32x128, .f32⟩
  | .hbm, ⟨54, _⟩ => ⟨S2x8x32x1, .f32⟩
  | .hbm, ⟨55, _⟩ => ⟨S2x8x32x128, .f32⟩
  | .hbm, ⟨56, _⟩ => ⟨S2x8x32x128, .f32⟩
  | .hbm, ⟨57, _⟩ => ⟨S2x8x32x128, .f32⟩
  | .hbm, ⟨58, _⟩ => ⟨S32x128x2x8, .f32⟩
  | .hbm, ⟨59, _⟩ => ⟨S32x128x2x8x1, .f32⟩
  | .hbm, ⟨60, _⟩ => ⟨S32x128x2x8x64, .f32⟩
  | .hbm, ⟨61, _⟩ => ⟨S32x128x2x8x64, .f32⟩
  | .hbm, ⟨62, _⟩ => ⟨S32x2x8x64x128, .f32⟩
  | .hbm, ⟨63, _⟩ => ⟨S_, .f32⟩
  | .hbm, ⟨64, _⟩ => ⟨S2x8x1, .f32⟩
  | .hbm, ⟨65, _⟩ => ⟨S2x8x32x1, .f32⟩
  | .hbm, ⟨66, _⟩ => ⟨S2x8x32, .f32⟩
  | .hbm, ⟨67, _⟩ => ⟨S2x8x33, .f32⟩
  | .hbm, ⟨68, _⟩ => ⟨S_, .f32⟩
  | .hbm, ⟨69, _⟩ => ⟨S_, .f32⟩
  | .hbm, ⟨70, _⟩ => ⟨S2x8x33, .f32⟩
  | .hbm, ⟨71, _⟩ => ⟨S2x8x33x1, .f32⟩
  | .hbm, ⟨72, _⟩ => ⟨S2x8x1x33, .f32⟩
  | .hbm, ⟨73, _⟩ => ⟨S2x8x33x33, .f32⟩
  | .hbm, ⟨74, _⟩ => ⟨S2x8x33x33, .f32⟩
  | .hbm, ⟨75, _⟩ => ⟨S2x8x33x33, .f32⟩
  | .hbm, ⟨76, _⟩ => ⟨S_, .i1⟩
  | .hbm, ⟨77, _⟩ => ⟨S33x33, .i1⟩
  | .hbm, ⟨78, _⟩ => ⟨S33x33, .i32⟩
  | .hbm, ⟨79, _⟩ => ⟨S_, .i32⟩
  | .hbm, ⟨80, _⟩ => ⟨S33x33, .i32⟩
  | .hbm, ⟨81, _⟩ => ⟨S33x33, .i32⟩
  | .hbm, ⟨82, _⟩ => ⟨S33x33, .i32⟩
  | .hbm, ⟨83, _⟩ => ⟨S33x33, .i1⟩
  | .hbm, ⟨84, _⟩ => ⟨S_, .i1⟩
  | .hbm, ⟨85, _⟩ => ⟨S33x33, .i1⟩
  | .hbm, ⟨86, _⟩ => ⟨S33x33, .i1⟩
  | .hbm, ⟨87, _⟩ => ⟨S_, .f32⟩
  | .hbm, ⟨88, _⟩ => ⟨S_, .f32⟩
  | .hbm, ⟨89, _⟩ => ⟨S2x8x33x33, .i1⟩
  | .hbm, ⟨90, _⟩ => ⟨S2x8x33x33, .f32⟩
  | .hbm, ⟨91, _⟩ => ⟨S2x8x33x33, .f32⟩
  | .hbm, ⟨92, _⟩ => ⟨S2x8x33x33, .f32⟩
  | .hbm, ⟨93, _⟩ => ⟨S1x2x8x64x128, .f32⟩
  | .hbm, ⟨94, _⟩ => ⟨S_, .f32⟩
  | .hbm, ⟨95, _⟩ => ⟨S1x2x8x64x128, .f32⟩
  | .hbm, ⟨96, _⟩ => ⟨S33x2x8x64x128, .f32⟩
  | .hbm, ⟨97, _⟩ => ⟨S2x8x64x128x33, .f32⟩
  | .hbm, ⟨98, _⟩ => ⟨S33x2x8x64x128, .f32⟩
  | .hbm, ⟨99, _⟩ => ⟨S32x2x8x64x128, .f32⟩
  | .hbm, ⟨100, _⟩ => ⟨S32x128x2x8x64, .f32⟩
  | .hbm, ⟨101, _⟩ => ⟨S32x128x1024, .f32⟩
  | .hbm, ⟨102, _⟩ => ⟨S4096x1024, .f32⟩
  | .hbm, ⟨103, _⟩ => ⟨S4096x512, .f32⟩
  | .hbm, ⟨104, _⟩ => ⟨S4096x128, .f32⟩
  | .hbm, ⟨105, _⟩ => ⟨S1x128, .f32⟩
  | .hbm, ⟨106, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S1x128x1024, .f32⟩
  | .local _ .vmem, ⟨9, _⟩ => ⟨S1x128x1024, .f32⟩
  | .local _ .vmem, ⟨10, _⟩ => ⟨S1x128, .f32⟩
  | .local _ .vmem, ⟨11, _⟩ => ⟨S1x128, .f32⟩
  | .local _ .vmem, ⟨12, _⟩ => ⟨S1x1024, .f32⟩
  | .local _ .vmem, ⟨13, _⟩ => ⟨S128x1024, .f32⟩
  | .local _ .vmem, ⟨14, _⟩ => ⟨S128x1024, .f32⟩
  | .local _ .vmem, ⟨15, _⟩ => ⟨S128x512, .f32⟩
  | .local _ .vmem, ⟨16, _⟩ => ⟨S128x512, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S128x1024, .f32⟩
  | .local _ .vmem, ⟨22, _⟩ => ⟨S128x1024, .bf16⟩
  | .local _ .vmem, ⟨23, _⟩ => ⟨S128x1024, .bf16⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_call0_cst : Ref sig .tc := ⟨.hbm, 51, rfl⟩
abbrev main_call1_call0_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_1 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call2_call0_cst : Ref sig .tc := ⟨.hbm, 68, rfl⟩
abbrev main_call2_call0_v0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c : Ref sig .tc := ⟨.hbm, 76, rfl⟩
abbrev main_v48 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_0 : Ref sig .tc := ⟨.hbm, 84, rfl⟩
abbrev main_call3_v5 : Ref sig .tc := ⟨.hbm, 85, rfl⟩
abbrev main_v49 : Ref sig .tc := ⟨.hbm, 86, rfl⟩
abbrev main_cst_2 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_3 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60_0 : Ref sig .tc := ⟨.hbm, 102, rfl⟩
abbrev main_v60_1 : Ref sig .tc := ⟨.hbm, 103, rfl⟩
abbrev main_v60_2 : Ref sig .tc := ⟨.hbm, 104, rfl⟩
abbrev main_v60_3 : Ref sig .tc := ⟨.hbm, 105, rfl⟩
abbrev main_v60_4 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c44_i32 : BitVec 32 := 44#32
  let c0_i32 : BitVec 32 := 0#32
  ![v0.toNat, c44_i32.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x1024 : Shape := ⟨2, ![4096, 1024]⟩
abbrev S4096x512 : Shape := ⟨2, ![4096, 512]⟩
abbrev S4096x5760 : Shape := ⟨2, ![4096, 5760]⟩
abbrev S1x16 : Shape := ⟨2, ![1, 16]⟩
abbrev S4096x16 : Shape := ⟨2, ![4096, 16]⟩
abbrev S16 : Shape := ⟨1, ![16]⟩
abbrev S4096x16x64 : Shape := ⟨3, ![4096, 16, 64]⟩
abbrev S4096x256 : Shape := ⟨2, ![4096, 256]⟩
abbrev S4096x2x128 : Shape := ⟨3, ![4096, 2, 128]⟩
abbrev S_ : Shape := ⟨0, ![]⟩
abbrev S4096x16x1 : Shape := ⟨3, ![4096, 16, 1]⟩
abbrev S32x128x2x8x64 : Shape := ⟨5, ![32, 128, 2, 8, 64]⟩
abbrev S32x128x2x128 : Shape := ⟨4, ![32, 128, 2, 128]⟩
abbrev S32x128x2x8 : Shape := ⟨4, ![32, 128, 2, 8]⟩
abbrev S2x8x32x128 : Shape := ⟨4, ![2, 8, 32, 128]⟩
abbrev S2x8x32x128x1 : Shape := ⟨5, ![2, 8, 32, 128, 1]⟩
abbrev S2x8x32x1x128 : Shape := ⟨5, ![2, 8, 32, 1, 128]⟩
abbrev S2x8x32x128x128 : Shape := ⟨5, ![2, 8, 32, 128, 128]⟩
abbrev S128x128 : Shape := ⟨2, ![128, 128]⟩
abbrev S2x32x128x128 : Shape := ⟨4, ![2, 32, 128, 128]⟩
abbrev S2x1x32x128x128 : Shape := ⟨5, ![2, 1, 32, 128, 128]⟩
abbrev S32x2x8x64x128 : Shape := ⟨5, ![32, 2, 8, 64, 128]⟩
abbrev S2x8x32x1 : Shape := ⟨4, ![2, 8, 32, 1]⟩
abbrev S32x128x2x8x1 : Shape := ⟨5, ![32, 128, 2, 8, 1]⟩
abbrev S2x8x1 : Shape := ⟨3, ![2, 8, 1]⟩
abbrev S2x8x32 : Shape := ⟨3, ![2, 8, 32]⟩
abbrev S2x8x33 : Shape := ⟨3, ![2, 8, 33]⟩
abbrev S2x8x33x1 : Shape := ⟨4, ![2, 8, 33, 1]⟩
abbrev S2x8x1x33 : Shape := ⟨4, ![2, 8, 1, 33]⟩
abbrev S2x8x33x33 : Shape := ⟨4, ![2, 8, 33, 33]⟩
abbrev S33x33 : Shape := ⟨2, ![33, 33]⟩
abbrev S1x2x8x64x128 : Shape := ⟨5, ![1, 2, 8, 64, 128]⟩
abbrev S33x2x8x64x128 : Shape := ⟨5, ![33, 2, 8, 64, 128]⟩
abbrev S2x8x64x128x33 : Shape := ⟨5, ![2, 8, 64, 128, 33]⟩
abbrev S16x1 : Shape := ⟨2, ![16, 1]⟩
abbrev S1x16x1 : Shape := ⟨3, ![1, 16, 1]⟩
abbrev S32x2x128x128 : Shape := ⟨4, ![32, 2, 128, 128]⟩
abbrev S32x2x8x128x128 : Shape := ⟨5, ![32, 2, 8, 128, 128]⟩
abbrev S4096x128 : Shape := ⟨2, ![4096, 128]⟩
abbrev S1x128 : Shape := ⟨2, ![1, 128]⟩

abbrev nBuf : Space → Nat
  | .hbm => 391
  | .vmem => 0
  | .smem => 0
  | _ => 0

abbrev hbmTy0_0 (i : Nat) : BufTy := match i % 128 with
  | 0 => ⟨S4096x1024, .f32⟩
  | 1 => ⟨S4096x1024, .f32⟩
  | 2 => ⟨S4096x512, .f32⟩
  | 3 => ⟨S4096x5760, .f32⟩
  | 4 => ⟨S1x16, .f32⟩
  | 5 => ⟨S1x16, .f32⟩
  | 6 => ⟨S1x16, .f32⟩
  | 7 => ⟨S1x16, .f32⟩
  | 8 => ⟨S4096x16, .f32⟩
  | 9 => ⟨S16, .f32⟩
  | 10 => ⟨S16, .f32⟩
  | 11 => ⟨S16, .f32⟩
  | 12 => ⟨S4096x16x64, .f32⟩
  | 13 => ⟨S4096x256, .f32⟩
  | 14 => ⟨S4096x256, .f32⟩
  | 15 => ⟨S4096x2x128, .f32⟩
  | 16 => ⟨S4096x2x128, .f32⟩
  | 17 => ⟨S1x16, .f32⟩
  | 18 => ⟨S4096x16, .f32⟩
  | 19 => ⟨S4096x16, .f32⟩
  | 20 => ⟨S_, .f32⟩
  | 21 => ⟨S4096x16, .f32⟩
  | 22 => ⟨S4096x16, .f32⟩
  | 23 => ⟨S4096x16, .f32⟩
  | 24 => ⟨S4096x16, .f32⟩
  | 25 => ⟨S4096x16, .i1⟩
  | 26 => ⟨S4096x16, .f32⟩
  | 27 => ⟨S4096x16, .f32⟩
  | 28 => ⟨S4096x16, .f32⟩
  | 29 => ⟨S4096x16, .f32⟩
  | 30 => ⟨S4096x16, .f32⟩
  | 31 => ⟨S4096x16, .f32⟩
  | 32 => ⟨S4096x16, .f32⟩
  | 33 => ⟨S4096x16, .f32⟩
  | 34 => ⟨S_, .f32⟩
  | 35 => ⟨S4096x16, .f32⟩
  | 36 => ⟨S4096x16, .i1⟩
  | 37 => ⟨S_, .f32⟩
  | 38 => ⟨S4096x16, .f32⟩
  | 39 => ⟨S4096x16, .f32⟩
  | 40 => ⟨S_, .f32⟩
  | 41 => ⟨S4096x16, .f32⟩
  | 42 => ⟨S4096x16, .i1⟩
  | 43 => ⟨S_, .f32⟩
  | 44 => ⟨S4096x16, .f32⟩
  | 45 => ⟨S4096x16, .f32⟩
  | 46 => ⟨S4096x16, .f32⟩
  | 47 => ⟨S4096x16, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S4096x16, .f32⟩
  | 56 => ⟨S4096x16, .i1⟩
  | 57 => ⟨S_, .f32⟩
  | 58 => ⟨S4096x16, .f32⟩
  | 59 => ⟨S4096x16, .f32⟩
  | 60 => ⟨S4096x16, .f32⟩
  | 61 => ⟨S4096x16, .f32⟩
  | 62 => ⟨S4096x16, .f32⟩
  | 63 => ⟨S_, .f32⟩
  | 64 => ⟨S4096x16, .f32⟩
  | 65 => ⟨S4096x16, .f32⟩
  | 66 => ⟨S16, .f32⟩
  | 67 => ⟨S16, .f32⟩
  | 68 => ⟨S4096x16x1, .f32⟩
  | 69 => ⟨S4096x16x64, .f32⟩
  | 70 => ⟨S4096x16x64, .f32⟩
  | 71 => ⟨S32x128x2x8x64, .f32⟩
  | 72 => ⟨S32x128x2x128, .f32⟩
  | 73 => ⟨S32x128x2x128, .f32⟩
  | 74 => ⟨S1x16, .f32⟩
  | 75 => ⟨S4096x16, .f32⟩
  | 76 => ⟨S4096x16, .f32⟩
  | 77 => ⟨S32x128x2x8, .f32⟩
  | 78 => ⟨S2x8x32x128, .f32⟩
  | 79 => ⟨S_, .f32⟩
  | 80 => ⟨S_, .f32⟩
  | 81 => ⟨S2x8x32x128, .f32⟩
  | 82 => ⟨S_, .f32⟩
  | 83 => ⟨S_, .f32⟩
  | 84 => ⟨S2x8x32x128, .f32⟩
  | 85 => ⟨S2x8x32x128x1, .f32⟩
  | 86 => ⟨S2x8x32x1x128, .f32⟩
  | 87 => ⟨S2x8x32x128x128, .f32⟩
  | 88 => ⟨S2x8x32x128x128, .f32⟩
  | 89 => ⟨S2x8x32x128x128, .f32⟩
  | 90 => ⟨S_, .i1⟩
  | 91 => ⟨S128x128, .i1⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .i1⟩
  | 99 => ⟨S128x128, .i1⟩
  | 100 => ⟨S128x128, .i1⟩
  | 101 => ⟨S_, .f32⟩
  | 102 => ⟨S_, .f32⟩
  | 103 => ⟨S2x8x32x128x128, .i1⟩
  | 104 => ⟨S2x8x32x128x128, .f32⟩
  | 105 => ⟨S2x8x32x128x128, .f32⟩
  | 106 => ⟨S_, .f32⟩
  | 107 => ⟨S2x8x32x128x128, .f32⟩
  | 108 => ⟨S2x8x32x128x128, .f32⟩
  | 109 => ⟨S2x32x128x128, .f32⟩
  | 110 => ⟨S2x1x32x128x128, .f32⟩
  | 111 => ⟨S2x8x32x128x128, .f32⟩
  | 112 => ⟨S2x8x32x128x128, .f32⟩
  | 113 => ⟨S32x2x8x64x128, .f32⟩
  | 114 => ⟨S32x128x2x8x64, .f32⟩
  | 115 => ⟨S4096x16x1, .f32⟩
  | 116 => ⟨S4096x16x64, .f32⟩
  | 117 => ⟨S4096x16x64, .f32⟩
  | 118 => ⟨S32x128x2x8x64, .f32⟩
  | 119 => ⟨S32x128x2x128, .f32⟩
  | 120 => ⟨S1x16, .f32⟩
  | 121 => ⟨S4096x16, .f32⟩
  | 122 => ⟨S4096x16, .f32⟩
  | 123 => ⟨S32x128x2x8, .f32⟩
  | 124 => ⟨S2x8x32x128, .f32⟩
  | 125 => ⟨S_, .f32⟩
  | 126 => ⟨S_, .f32⟩
  | 127 => ⟨S2x8x32x128, .f32⟩
  | _ => ⟨S4096x1024, .f32⟩

abbrev hbmTy0_1 (i : Nat) : BufTy := match i % 128 with
  | 0 => ⟨S2x8x32x1, .f32⟩
  | 1 => ⟨S2x8x32x128, .f32⟩
  | 2 => ⟨S2x8x32x128, .f32⟩
  | 3 => ⟨S2x8x32x128, .f32⟩
  | 4 => ⟨S32x128x2x8, .f32⟩
  | 5 => ⟨S32x128x2x8x1, .f32⟩
  | 6 => ⟨S32x128x2x8x64, .f32⟩
  | 7 => ⟨S32x128x2x8x64, .f32⟩
  | 8 => ⟨S32x2x8x64x128, .f32⟩
  | 9 => ⟨S_, .f32⟩
  | 10 => ⟨S2x8x1, .f32⟩
  | 11 => ⟨S2x8x32x1, .f32⟩
  | 12 => ⟨S2x8x32, .f32⟩
  | 13 => ⟨S2x8x33, .f32⟩
  | 14 => ⟨S_, .f32⟩
  | 15 => ⟨S2x8x1, .f32⟩
  | 16 => ⟨S_, .f32⟩
  | 17 => ⟨S_, .f32⟩
  | 18 => ⟨S2x8x33, .f32⟩
  | 19 => ⟨S2x8x33x1, .f32⟩
  | 20 => ⟨S2x8x1x33, .f32⟩
  | 21 => ⟨S2x8x33x33, .f32⟩
  | 22 => ⟨S2x8x33x33, .f32⟩
  | 23 => ⟨S2x8x33x33, .f32⟩
  | 24 => ⟨S_, .i1⟩
  | 25 => ⟨S33x33, .i1⟩
  | 26 => ⟨S33x33, .i32⟩
  | 27 => ⟨S_, .i32⟩
  | 28 => ⟨S33x33, .i32⟩
  | 29 => ⟨S33x33, .i32⟩
  | 30 => ⟨S33x33, .i32⟩
  | 31 => ⟨S33x33, .i1⟩
  | 32 => ⟨S_, .i1⟩
  | 33 => ⟨S33x33, .i1⟩
  | 34 => ⟨S33x33, .i1⟩
  | 35 => ⟨S_, .f32⟩
  | 36 => ⟨S_, .f32⟩
  | 37 => ⟨S2x8x33x33, .i1⟩
  | 38 => ⟨S2x8x33x33, .f32⟩
  | 39 => ⟨S2x8x33x33, .f32⟩
  | 40 => ⟨S_, .f32⟩
  | 41 => ⟨S2x8x33x33, .f32⟩
  | 42 => ⟨S2x8x33x33, .f32⟩
  | 43 => ⟨S1x2x8x64x128, .f32⟩
  | 44 => ⟨S_, .f32⟩
  | 45 => ⟨S1x2x8x64x128, .f32⟩
  | 46 => ⟨S33x2x8x64x128, .f32⟩
  | 47 => ⟨S_, .f32⟩
  | 48 => ⟨S1x2x8x64x128, .f32⟩
  | 49 => ⟨S2x8x64x128x33, .f32⟩
  | 50 => ⟨S33x2x8x64x128, .f32⟩
  | 51 => ⟨S32x2x8x64x128, .f32⟩
  | 52 => ⟨S2x8x32x128, .f32⟩
  | 53 => ⟨S32x128x2x8, .f32⟩
  | 54 => ⟨S32x2x8x64x128, .f32⟩
  | 55 => ⟨S32x128x2x8x64, .f32⟩
  | 56 => ⟨S32x128x2x8x1, .f32⟩
  | 57 => ⟨S32x128x2x8x64, .f32⟩
  | 58 => ⟨S32x128x2x8x64, .f32⟩
  | 59 => ⟨S32x128x2x8x64, .f32⟩
  | 60 => ⟨S4096x16x64, .f32⟩
  | 61 => ⟨S16x1, .f32⟩
  | 62 => ⟨S1x16x1, .f32⟩
  | 63 => ⟨S4096x16x64, .f32⟩
  | 64 => ⟨S4096x16x64, .f32⟩
  | 65 => ⟨S4096x16x64, .f32⟩
  | 66 => ⟨S4096x1024, .f32⟩
  | 67 => ⟨S4096x16x64, .f32⟩
  | 68 => ⟨S4096x16x64, .f32⟩
  | 69 => ⟨S4096x16x64, .f32⟩
  | 70 => ⟨S4096x16x64, .f32⟩
  | 71 => ⟨S_, .f32⟩
  | 72 => ⟨S16, .f32⟩
  | 73 => ⟨S1x16x1, .f32⟩
  | 74 => ⟨S_, .f32⟩
  | 75 => ⟨S16, .f32⟩
  | 76 => ⟨S16x1, .f32⟩
  | 77 => ⟨S_, .f32⟩
  | 78 => ⟨S16, .f32⟩
  | 79 => ⟨S32x128x2x8x64, .f32⟩
  | 80 => ⟨S32x128x2x8x64, .f32⟩
  | 81 => ⟨S_, .f32⟩
  | 82 => ⟨S32x128x2x8, .f32⟩
  | 83 => ⟨S32x128x2x8x1, .f32⟩
  | 84 => ⟨S32x128x2x8x64, .f32⟩
  | 85 => ⟨S32x128x2x8x64, .f32⟩
  | 86 => ⟨S_, .f32⟩
  | 87 => ⟨S32x128x2x8, .f32⟩
  | 88 => ⟨S32x2x8x64x128, .f32⟩
  | 89 => ⟨S32x2x128x128, .f32⟩
  | 90 => ⟨S32x128x2x128, .f32⟩
  | 91 => ⟨S32x2x8x64x128, .f32⟩
  | 92 => ⟨S2x8x32x128, .f32⟩
  | 93 => ⟨S2x8x32x128, .f32⟩
  | 94 => ⟨S_, .f32⟩
  | 95 => ⟨S33x2x8x64x128, .f32⟩
  | 96 => ⟨S2x8x64x128x33, .f32⟩
  | 97 => ⟨S2x8x33x33, .f32⟩
  | 98 => ⟨S2x8x64x128x33, .f32⟩
  | 99 => ⟨S33x2x8x64x128, .f32⟩
  | 100 => ⟨S1x2x8x64x128, .f32⟩
  | 101 => ⟨S32x2x8x64x128, .f32⟩
  | 102 => ⟨S2x8x33x33, .f32⟩
  | 103 => ⟨S_, .f32⟩
  | 104 => ⟨S2x8x33x33, .f32⟩
  | 105 => ⟨S2x8x33x33, .f32⟩
  | 106 => ⟨S_, .f32⟩
  | 107 => ⟨S2x8x33, .f32⟩
  | 108 => ⟨S2x8x33x1, .f32⟩
  | 109 => ⟨S2x8x33x33, .f32⟩
  | 110 => ⟨S_, .f32⟩
  | 111 => ⟨S2x8x33, .f32⟩
  | 112 => ⟨S2x8x1x33, .f32⟩
  | 113 => ⟨S_, .f32⟩
  | 114 => ⟨S2x8x33, .f32⟩
  | 115 => ⟨S_, .f32⟩
  | 116 => ⟨S2x8x33, .f32⟩
  | 117 => ⟨S2x8x33, .f32⟩
  | 118 => ⟨S_, .f32⟩
  | 119 => ⟨S_, .f32⟩
  | 120 => ⟨S2x8x33, .f32⟩
  | 121 => ⟨S2x8x1, .f32⟩
  | 122 => ⟨S2x8x32, .f32⟩
  | 123 => ⟨S2x8x32x1, .f32⟩
  | 124 => ⟨S_, .f32⟩
  | 125 => ⟨S2x8x32x128, .f32⟩
  | 126 => ⟨S32x2x128x128, .f32⟩
  | 127 => ⟨S32x128x2x128, .f32⟩
  | _ => ⟨S4096x1024, .f32⟩

abbrev hbmTy0_2 (i : Nat) : BufTy := match i % 128 with
  | 0 => ⟨S32x2x8x64x128, .f32⟩
  | 1 => ⟨S32x128x2x8x64, .f32⟩
  | 2 => ⟨S32x128x2x8x64, .f32⟩
  | 3 => ⟨S_, .f32⟩
  | 4 => ⟨S32x128x2x8, .f32⟩
  | 5 => ⟨S32x128x2x8x1, .f32⟩
  | 6 => ⟨S32x128x2x8x64, .f32⟩
  | 7 => ⟨S32x128x2x8x64, .f32⟩
  | 8 => ⟨S_, .f32⟩
  | 9 => ⟨S32x128x2x8, .f32⟩
  | 10 => ⟨S2x8x32x128, .f32⟩
  | 11 => ⟨S2x8x32x128, .f32⟩
  | 12 => ⟨S_, .f32⟩
  | 13 => ⟨S2x8x32, .f32⟩
  | 14 => ⟨S2x8x32x1, .f32⟩
  | 15 => ⟨S2x8x32x128, .f32⟩
  | 16 => ⟨S2x8x32x128, .f32⟩
  | 17 => ⟨S_, .f32⟩
  | 18 => ⟨S2x8x32x128, .f32⟩
  | 19 => ⟨S2x8x32x128, .f32⟩
  | 20 => ⟨S_, .f32⟩
  | 21 => ⟨S_, .f32⟩
  | 22 => ⟨S2x8x32x128, .f32⟩
  | 23 => ⟨S32x128x2x8, .f32⟩
  | 24 => ⟨S4096x16, .f32⟩
  | 25 => ⟨S4096x16, .f32⟩
  | 26 => ⟨S_, .f32⟩
  | 27 => ⟨S16, .f32⟩
  | 28 => ⟨S1x16, .f32⟩
  | 29 => ⟨S4096x16, .f32⟩
  | 30 => ⟨S4096x16, .f32⟩
  | 31 => ⟨S_, .f32⟩
  | 32 => ⟨S16, .f32⟩
  | 33 => ⟨S4096x2x128, .f32⟩
  | 34 => ⟨S4096x16x64, .f32⟩
  | 35 => ⟨S4096x16x64, .f32⟩
  | 36 => ⟨S_, .f32⟩
  | 37 => ⟨S4096x16, .f32⟩
  | 38 => ⟨S4096x16x1, .f32⟩
  | 39 => ⟨S4096x16x64, .f32⟩
  | 40 => ⟨S4096x16x64, .f32⟩
  | 41 => ⟨S4096x16x64, .f32⟩
  | 42 => ⟨S_, .f32⟩
  | 43 => ⟨S4096x16, .f32⟩
  | 44 => ⟨S4096x16, .f32⟩
  | 45 => ⟨S32x2x8x64x128, .f32⟩
  | 46 => ⟨S32x2x8x128x128, .f32⟩
  | 47 => ⟨S2x8x32x128x128, .f32⟩
  | 48 => ⟨S32x2x8x64x128, .f32⟩
  | 49 => ⟨S32x128x2x8x64, .f32⟩
  | 50 => ⟨S2x8x32x128x128, .f32⟩
  | 51 => ⟨S2x8x32x128x128, .f32⟩
  | 52 => ⟨S2x8x32x128x128, .f32⟩
  | 53 => ⟨S_, .f32⟩
  | 54 => ⟨S2x32x128x128, .f32⟩
  | 55 => ⟨S2x1x32x128x128, .f32⟩
  | 56 => ⟨S_, .f32⟩
  | 57 => ⟨S2x32x128x128, .f32⟩
  | 58 => ⟨S2x32x128x128, .f32⟩
  | 59 => ⟨S32x128x2x128, .f32⟩
  | 60 => ⟨S2x32x128x128, .f32⟩
  | 61 => ⟨S32x128x2x128, .f32⟩
  | 62 => ⟨S32x128x2x128, .f32⟩
  | 63 => ⟨S2x8x32x128x128, .f32⟩
  | 64 => ⟨S_, .f32⟩
  | 65 => ⟨S2x8x32x128x128, .f32⟩
  | 66 => ⟨S2x8x32x128x128, .f32⟩
  | 67 => ⟨S_, .f32⟩
  | 68 => ⟨S2x8x32x128, .f32⟩
  | 69 => ⟨S2x8x32x128x1, .f32⟩
  | 70 => ⟨S2x8x32x128x128, .f32⟩
  | 71 => ⟨S_, .f32⟩
  | 72 => ⟨S2x8x32x128, .f32⟩
  | 73 => ⟨S2x8x32x1x128, .f32⟩
  | 74 => ⟨S_, .f32⟩
  | 75 => ⟨S2x8x32x128, .f32⟩
  | 76 => ⟨S_, .f32⟩
  | 77 => ⟨S2x8x32x128, .f32⟩
  | 78 => ⟨S2x8x32x128, .f32⟩
  | 79 => ⟨S_, .f32⟩
  | 80 => ⟨S_, .f32⟩
  | 81 => ⟨S2x8x32x128, .f32⟩
  | 82 => ⟨S_, .f32⟩
  | 83 => ⟨S_, .f32⟩
  | 84 => ⟨S2x8x32x128, .f32⟩
  | 85 => ⟨S2x8x32x128, .f32⟩
  | 86 => ⟨S32x128x2x8, .f32⟩
  | 87 => ⟨S4096x16, .f32⟩
  | 88 => ⟨S4096x16, .f32⟩
  | 89 => ⟨S_, .f32⟩
  | 90 => ⟨S16, .f32⟩
  | 91 => ⟨S1x16, .f32⟩
  | 92 => ⟨S4096x16, .f32⟩
  | 93 => ⟨S4096x16, .f32⟩
  | 94 => ⟨S4096x16, .f32⟩
  | 95 => ⟨S_, .f32⟩
  | 96 => ⟨S16, .f32⟩
  | 97 => ⟨S16, .f32⟩
  | 98 => ⟨S4096x2x128, .f32⟩
  | 99 => ⟨S4096x2x128, .f32⟩
  | 100 => ⟨S4096x2x128, .f32⟩
  | 101 => ⟨S4096x16x64, .f32⟩
  | 102 => ⟨S4096x16x64, .f32⟩
  | 103 => ⟨S_, .f32⟩
  | 104 => ⟨S4096x16, .f32⟩
  | 105 => ⟨S4096x16x1, .f32⟩
  | 106 => ⟨S4096x16x64, .f32⟩
  | 107 => ⟨S4096x16x64, .f32⟩
  | 108 => ⟨S4096x16x64, .f32⟩
  | 109 => ⟨S_, .f32⟩
  | 110 => ⟨S4096x16, .f32⟩
  | 111 => ⟨S4096x16, .f32⟩
  | 112 => ⟨S16, .f32⟩
  | 113 => ⟨S16, .f32⟩
  | 114 => ⟨S4096x16, .f32⟩
  | 115 => ⟨S_, .f32⟩
  | 116 => ⟨S16, .f32⟩
  | 117 => ⟨S1x16, .f32⟩
  | 118 => ⟨S_, .f32⟩
  | 119 => ⟨S16, .f32⟩
  | 120 => ⟨S4096x256, .f32⟩
  | 121 => ⟨S4096x256, .f32⟩
  | 122 => ⟨S4096x512, .f32⟩
  | 123 => ⟨S4096x1024, .f32⟩
  | 124 => ⟨S_, .i32⟩
  | 125 => ⟨S_, .f32⟩
  | 126 => ⟨S4096x128, .f32⟩
  | 127 => ⟨S1x16, .f32⟩
  | _ => ⟨S4096x1024, .f32⟩

abbrev hbmTy0_3 (i : Nat) : BufTy := match i % 128 with
  | 0 => ⟨S_, .i32⟩
  | 1 => ⟨S_, .f32⟩
  | 2 => ⟨S1x128, .f32⟩
  | 3 => ⟨S1x16, .f32⟩
  | 4 => ⟨S_, .i32⟩
  | 5 => ⟨S_, .f32⟩
  | 6 => ⟨S1x128, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v12_0 : Ref sig .tc := ⟨.hbm, 33, rfl⟩
abbrev main_call0_cst_0 : Ref sig .tc := ⟨.hbm, 34, rfl⟩
abbrev main_call0_v13 : Ref sig .tc := ⟨.hbm, 35, rfl⟩
abbrev main_call0_v14 : Ref sig .tc := ⟨.hbm, 36, rfl⟩
abbrev main_call0_cst_1 : Ref sig .tc := ⟨.hbm, 37, rfl⟩
abbrev main_call0_v15 : Ref sig .tc := ⟨.hbm, 38, rfl⟩
abbrev main_call0_v16 : Ref sig .tc := ⟨.hbm, 39, rfl⟩
abbrev main_call0_cst_2 : Ref sig .tc := ⟨.hbm, 40, rfl⟩
abbrev main_call0_v17 : Ref sig .tc := ⟨.hbm, 41, rfl⟩
abbrev main_call0_v18 : Ref sig .tc := ⟨.hbm, 42, rfl⟩
abbrev main_call0_cst_3 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_v12_1 : Ref sig .tc := ⟨.hbm, 47, rfl⟩
abbrev main_call0_cst_4 : Ref sig .tc := ⟨.hbm, 48, rfl⟩
abbrev main_call0_cst_5 : Ref sig .tc := ⟨.hbm, 49, rfl⟩
abbrev main_call0_v23 : Ref sig .tc := ⟨.hbm, 50, rfl⟩
abbrev main_call0_cst_6 : Ref sig .tc := ⟨.hbm, 51, rfl⟩
abbrev main_call0_cst_7 : Ref sig .tc := ⟨.hbm, 52, rfl⟩
abbrev main_call0_v24 : Ref sig .tc := ⟨.hbm, 53, rfl⟩
abbrev main_call0_cst_8 : Ref sig .tc := ⟨.hbm, 54, rfl⟩
abbrev main_call0_v25 : Ref sig .tc := ⟨.hbm, 55, rfl⟩
abbrev main_call0_v26 : Ref sig .tc := ⟨.hbm, 56, rfl⟩
abbrev main_call0_cst_9 : Ref sig .tc := ⟨.hbm, 57, rfl⟩
abbrev main_call0_v27 : Ref sig .tc := ⟨.hbm, 58, rfl⟩
abbrev main_call0_v28 : Ref sig .tc := ⟨.hbm, 59, rfl⟩
abbrev main_call0_v29 : Ref sig .tc := ⟨.hbm, 60, rfl⟩
abbrev main_call0_v30 : Ref sig .tc := ⟨.hbm, 61, rfl⟩
abbrev main_call0_v31 : Ref sig .tc := ⟨.hbm, 62, rfl⟩
abbrev main_call0_cst_10 : Ref sig .tc := ⟨.hbm, 63, rfl⟩
abbrev main_call0_v32 : Ref sig .tc := ⟨.hbm, 64, rfl⟩
abbrev main_v12_2 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_call1_call0_cst : Ref sig .tc := ⟨.hbm, 79, rfl⟩
abbrev main_call1_call0_v0 : Ref sig .tc := ⟨.hbm, 80, rfl⟩
abbrev main_v26 : Ref sig .tc := ⟨.hbm, 81, rfl⟩
abbrev main_call2_call0_cst : Ref sig .tc := ⟨.hbm, 82, rfl⟩
abbrev main_call2_call0_v0 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_c : Ref sig .tc := ⟨.hbm, 90, rfl⟩
abbrev main_v33 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_c_0 : Ref sig .tc := ⟨.hbm, 98, rfl⟩
abbrev main_call3_v5 : Ref sig .tc := ⟨.hbm, 99, rfl⟩
abbrev main_v34 : Ref sig .tc := ⟨.hbm, 100, rfl⟩
abbrev main_cst : Ref sig .tc := ⟨.hbm, 101, rfl⟩
abbrev main_call4_v0 : Ref sig .tc := ⟨.hbm, 102, rfl⟩
abbrev main_v35_1 : Ref sig .tc := ⟨.hbm, 103, rfl⟩
abbrev main_call4_v2 : Ref sig .tc := ⟨.hbm, 104, rfl⟩
abbrev main_v35_0 : Ref sig .tc := ⟨.hbm, 105, rfl⟩
abbrev main_call4_cst : Ref sig .tc := ⟨.hbm, 106, rfl⟩
abbrev main_v35_2 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_call5_call0_cst : Ref sig .tc := ⟨.hbm, 125, rfl⟩
abbrev main_call5_call0_v0 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_cst_0 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_1 : Ref sig .tc := ⟨.hbm, 142, rfl⟩
abbrev main_v67 : Ref sig .tc := ⟨.hbm, 143, rfl⟩
abbrev main_call6_call0_cst : Ref sig .tc := ⟨.hbm, 144, rfl⟩
abbrev main_call6_call0_v0 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_c_2 : Ref sig .tc := ⟨.hbm, 152, rfl⟩
abbrev main_v74 : Ref sig .tc := ⟨.hbm, 153, rfl⟩
abbrev main_call7_v0 : Ref sig .tc := ⟨.hbm, 154, rfl⟩
abbrev main_call7_c : Ref sig .tc := ⟨.hbm, 155, rfl⟩
abbrev main_call7_v1 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_call7_c_0 : Ref sig .tc := ⟨.hbm, 160, rfl⟩
abbrev main_call7_v5 : Ref sig .tc := ⟨.hbm, 161, rfl⟩
abbrev main_v75 : Ref sig .tc := ⟨.hbm, 162, rfl⟩
abbrev main_cst_3 : Ref sig .tc := ⟨.hbm, 163, rfl⟩
abbrev main_call8_v0 : Ref sig .tc := ⟨.hbm, 164, rfl⟩
abbrev main_v76_1 : Ref sig .tc := ⟨.hbm, 165, rfl⟩
abbrev main_call8_v2 : Ref sig .tc := ⟨.hbm, 166, rfl⟩
abbrev main_v76_0 : Ref sig .tc := ⟨.hbm, 167, rfl⟩
abbrev main_call8_cst : Ref sig .tc := ⟨.hbm, 168, rfl⟩
abbrev main_v76_2 : Ref sig .tc := ⟨.hbm, 169, rfl⟩
abbrev main_v77 : Ref sig .tc := ⟨.hbm, 170, rfl⟩
abbrev main_v78 : Ref sig .tc := ⟨.hbm, 171, rfl⟩
abbrev main_cst_4 : Ref sig .tc := ⟨.hbm, 172, rfl⟩
abbrev main_v79 : Ref sig .tc := ⟨.hbm, 173, rfl⟩
abbrev main_v80 : Ref sig .tc := ⟨.hbm, 174, rfl⟩
abbrev main_cst_5 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_cst_6 : Ref sig .tc := ⟨.hbm, 199, rfl⟩
abbrev main_v104 : Ref sig .tc := ⟨.hbm, 200, rfl⟩
abbrev main_v105 : Ref sig .tc := ⟨.hbm, 201, rfl⟩
abbrev main_cst_7 : Ref sig .tc := ⟨.hbm, 202, rfl⟩
abbrev main_v106 : Ref sig .tc := ⟨.hbm, 203, rfl⟩
abbrev main_v107 : Ref sig .tc := ⟨.hbm, 204, rfl⟩
abbrev main_cst_8 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_cst_9 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_cst_10 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_cst_11 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_call9_cst : Ref sig .tc := ⟨.hbm, 231, rfl⟩
abbrev main_call9_v0 : Ref sig .tc := ⟨.hbm, 232, rfl⟩
abbrev main_v130 : Ref sig .tc := ⟨.hbm, 233, rfl⟩
abbrev main_cst_12 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_cst_13 : Ref sig .tc := ⟨.hbm, 238, rfl⟩
abbrev main_v134 : Ref sig .tc := ⟨.hbm, 239, rfl⟩
abbrev main_v135 : Ref sig .tc := ⟨.hbm, 240, rfl⟩
abbrev main_cst_14 : Ref sig .tc := ⟨.hbm, 241, rfl⟩
abbrev main_v136 : Ref sig .tc := ⟨.hbm, 242, rfl⟩
abbrev main_cst_15 : Ref sig .tc := ⟨.hbm, 243, rfl⟩
abbrev main_v137 : Ref sig .tc := ⟨.hbm, 244, rfl⟩
abbrev main_v138 : Ref sig .tc := ⟨.hbm, 245, rfl⟩
abbrev main_call10_call0_cst : Ref sig .tc := ⟨.hbm, 246, rfl⟩
abbrev main_call10_call0_v0 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_cst_16 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_cst_17 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_cst_18 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_cst_19 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_cst_20 : Ref sig .tc := ⟨.hbm, 273, rfl⟩
abbrev main_v160 : Ref sig .tc := ⟨.hbm, 274, rfl⟩
abbrev main_v161 : Ref sig .tc := ⟨.hbm, 275, rfl⟩
abbrev main_call11_call0_cst : Ref sig .tc := ⟨.hbm, 276, rfl⟩
abbrev main_call11_call0_v0 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_cst_21 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_cst_22 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_v173 : Ref sig .tc := ⟨.hbm, 291, rfl⟩
abbrev main_cst_23 : Ref sig .tc := ⟨.hbm, 292, rfl⟩
abbrev main_v174 : Ref sig .tc := ⟨.hbm, 293, rfl⟩
abbrev main_v175 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_24 : Ref sig .tc := ⟨.hbm, 298, rfl⟩
abbrev main_v179 : Ref sig .tc := ⟨.hbm, 299, rfl⟩
abbrev main_v180 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_v184 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩
abbrev main_cst_25 : Ref sig .tc := ⟨.hbm, 309, rfl⟩
abbrev main_v189 : Ref sig .tc := ⟨.hbm, 310, rfl⟩
abbrev main_v190 : Ref sig .tc := ⟨.hbm, 311, rfl⟩
abbrev main_cst_26 : Ref sig .tc := ⟨.hbm, 312, rfl⟩
abbrev main_v191 : Ref sig .tc := ⟨.hbm, 313, rfl⟩
abbrev main_v192 : Ref sig .tc := ⟨.hbm, 314, rfl⟩
abbrev main_v193 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_v197 : Ref sig .tc := ⟨.hbm, 319, rfl⟩
abbrev main_call12_cst : Ref sig .tc := ⟨.hbm, 320, rfl⟩
abbrev main_call12_v0 : Ref sig .tc := ⟨.hbm, 321, rfl⟩
abbrev main_v198 : Ref sig .tc := ⟨.hbm, 322, rfl⟩
abbrev main_cst_27 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_cst_28 : Ref sig .tc := ⟨.hbm, 327, rfl⟩
abbrev main_v202 : Ref sig .tc := ⟨.hbm, 328, rfl⟩
abbrev main_v203 : Ref sig .tc := ⟨.hbm, 329, rfl⟩
abbrev main_cst_29 : Ref sig .tc := ⟨.hbm, 330, rfl⟩
abbrev main_v204 : Ref sig .tc := ⟨.hbm, 331, rfl⟩
abbrev main_cst_30 : Ref sig .tc := ⟨.hbm, 332, rfl⟩
abbrev main_v205 : Ref sig .tc := ⟨.hbm, 333, rfl⟩
abbrev main_v206 : Ref sig .tc := ⟨.hbm, 334, rfl⟩
abbrev main_call13_call0_cst : Ref sig .tc := ⟨.hbm, 335, rfl⟩
abbrev main_call13_call0_v0 : Ref sig .tc := ⟨.hbm, 336, rfl⟩
abbrev main_v207 : Ref sig .tc := ⟨.hbm, 337, rfl⟩
abbrev main_call14_call0_cst : Ref sig .tc := ⟨.hbm, 338, rfl⟩
abbrev main_call14_call0_v0 : Ref sig .tc := ⟨.hbm, 339, rfl⟩
abbrev main_v208 : Ref sig .tc := ⟨.hbm, 340, rfl⟩
abbrev main_v209 : Ref sig .tc := ⟨.hbm, 341, rfl⟩
abbrev main_v210 : Ref sig .tc := ⟨.hbm, 342, rfl⟩
abbrev main_v211 : Ref sig .tc := ⟨.hbm, 343, rfl⟩
abbrev main_v212 : Ref sig .tc := ⟨.hbm, 344, rfl⟩
abbrev main_cst_31 : Ref sig .tc := ⟨.hbm, 345, rfl⟩
abbrev main_v213 : Ref sig .tc := ⟨.hbm, 346, rfl⟩
abbrev main_v214 : Ref sig .tc := ⟨.hbm, 347, rfl⟩
abbrev main_v215 : Ref sig .tc := ⟨.hbm, 348, rfl⟩
abbrev main_v216 : Ref sig .tc := ⟨.hbm, 349, rfl⟩
abbrev main_v217 : Ref sig .tc := ⟨.hbm, 350, rfl⟩
abbrev main_cst_32 : Ref sig .tc := ⟨.hbm, 351, rfl⟩
abbrev main_v218 : Ref sig .tc := ⟨.hbm, 352, rfl⟩
abbrev main_v219 : Ref sig .tc := ⟨.hbm, 353, rfl⟩
abbrev main_v220 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_v224 : Ref sig .tc := ⟨.hbm, 358, rfl⟩
abbrev main_cst_33 : Ref sig .tc := ⟨.hbm, 359, rfl⟩
abbrev main_v225 : Ref sig .tc := ⟨.hbm, 360, rfl⟩
abbrev main_v226 : Ref sig .tc := ⟨.hbm, 361, rfl⟩
abbrev main_v227 : Ref sig .tc := ⟨.hbm, 362, rfl⟩
abbrev main_v228 : Ref sig .tc := ⟨.hbm, 363, rfl⟩
abbrev main_v229 : Ref sig .tc := ⟨.hbm, 364, rfl⟩
abbrev main_cst_34 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_35 : Ref sig .tc := ⟨.hbm, 371, rfl⟩
abbrev main_v235 : Ref sig .tc := ⟨.hbm, 372, rfl⟩
abbrev main_v236 : Ref sig .tc := ⟨.hbm, 373, rfl⟩
abbrev main_cst_36 : Ref sig .tc := ⟨.hbm, 374, rfl⟩
abbrev main_v237 : Ref sig .tc := ⟨.hbm, 375, rfl⟩
abbrev main_v238 : Ref sig .tc := ⟨.hbm, 376, rfl⟩
abbrev main_v239 : Ref sig .tc := ⟨.hbm, 377, rfl⟩
abbrev main_v240 : Ref sig .tc := ⟨.hbm, 378, rfl⟩
abbrev main_v241 : Ref sig .tc := ⟨.hbm, 379, rfl⟩
abbrev main_c_37 : Ref sig .tc := ⟨.hbm, 380, rfl⟩
abbrev main_call16_v0 : Ref sig .tc := ⟨.hbm, 381, rfl⟩
abbrev main_v242 : Ref sig .tc := ⟨.hbm, 382, rfl⟩
abbrev main_v243 : Ref sig .tc := ⟨.hbm, 383, rfl⟩
abbrev main_c_38 : Ref sig .tc := ⟨.hbm, 384, rfl⟩
abbrev main_call17_v0 : Ref sig .tc := ⟨.hbm, 385, rfl⟩
abbrev main_v244 : Ref sig .tc := ⟨.hbm, 386, rfl⟩
abbrev main_v245 : Ref sig .tc := ⟨.hbm, 387, rfl⟩
abbrev main_c_39 : Ref sig .tc := ⟨.hbm, 388, rfl⟩
abbrev main_call18_v0 : Ref sig .tc := ⟨.hbm, 389, rfl⟩
abbrev main_v246 : Ref sig .tc := ⟨.hbm, 390, rfl⟩

abbrev nD : Nat := 1
abbrev τ : Topo := Topo.v7x

variable {F : FTy → Type} [FloatOps F]
-- ==== Hidden.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .hbm, ⟨11, _⟩ => ⟨S4096x1024, .bf16⟩
  | .hbm, ⟨12, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HiddenRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== FfOut.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .hbm, ⟨11, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfOutRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== FfIn.lean ====
abbrev S4096x1024 : Shape := ⟨2, ![4096, 1024]⟩
abbrev S1024x4096 : Shape := ⟨2, ![1024, 4096]⟩
abbrev S4096x4096 : Shape := ⟨2, ![4096, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfInRefIdeal.lean ====
abbrev S4096x1024 : Shape := ⟨2, ![4096, 1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfInput.lean ====
abbrev S4096x1024 : Shape := ⟨2, ![4096, 1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 8
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .bf16⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1024x1024, .f32⟩
  | .local _ .vmem, ⟨25, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![c6_i32.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![c7_i32.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1x1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1x1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 1 → Memref sig .tc .vmem S1x1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 1 → Memref sig .tc .vmem S1x1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true]

abbrev stage0_14 : Fin 1 → Memref sig .tc .vmem S1x1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, true]

abbrev stage0_15 : Fin 1 → Memref sig .tc .vmem S1x1024x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, true]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== FfInputRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DMix.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .bf16⟩
  | .hbm, ⟨4, _⟩ => ⟨S2048x1024, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DMixRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DWOut.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S4096x1024, .bf16⟩
  | .hbm, ⟨5, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWOutRefIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DWIn.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWInIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWInRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWQ.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWQRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWBc.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x512, .bf16⟩
  | .hbm, ⟨4, _⟩ => ⟨S4096x1024, .bf16⟩
  | .hbm, ⟨5, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWBcIdeal.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x512, .bf16⟩
  | .hbm, ⟨4, _⟩ => ⟨S4096x1024, .bf16⟩
  | .hbm, ⟨5, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWBcRefIdeal.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x512, .f32⟩
  | .hbm, ⟨4, _⟩ => ⟨S512x1024, .f32⟩
  | .hbm, ⟨5, _⟩ => ⟨S1024x512, .f32⟩
  | .hbm, ⟨6, _⟩ => ⟨S1024x512, .bf16⟩
  | .hbm, ⟨7, _⟩ => ⟨S512x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWGate.lean ====
abbrev S4096x1024 : Shape := ⟨2, ![4096, 1024]⟩
abbrev S1024x128 : Shape := ⟨2, ![1024, 128]⟩
abbrev S4096x128 : Shape := ⟨2, ![4096, 128]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x128, .f32⟩
  | .hbm, ⟨2, _⟩ => ⟨S4096x128, .f32⟩
  | .hbm, ⟨3, _⟩ => ⟨S4096x128, .bf16⟩
  | .hbm, ⟨4, _⟩ => ⟨S4096x1024, .bf16⟩
  | .hbm, ⟨5, _⟩ => ⟨S128x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWGateRefIdeal.lean ====
abbrev S4096x1024 : Shape := ⟨2, ![4096, 1024]⟩
abbrev S1024x128 : Shape := ⟨2, ![1024, 128]⟩
abbrev S4096x128 : Shape := ⟨2, ![4096, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x128, .f32⟩
  | .hbm, ⟨2, _⟩ => ⟨S4096x128, .f32⟩
  | .hbm, ⟨3, _⟩ => ⟨S4096x128, .f32⟩
  | .hbm, ⟨4, _⟩ => ⟨S128x1024, .f32⟩
  | .hbm, ⟨5, _⟩ => ⟨S1024x128, .f32⟩
  | .hbm, ⟨6, _⟩ => ⟨S1024x128, .bf16⟩
  | .hbm, ⟨7, _⟩ => ⟨S128x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfAct.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S2048x1024 : Shape := ⟨2, ![2048, 1024]⟩
abbrev S2x1024x512 : Shape := ⟨3, ![2, 1024, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S2048x1024, .bf16⟩
  | .local _ .vmem, ⟨5, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfActRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FfSum.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfSumRefIdeal.lean ====
abbrev S4096x4096 : Shape := ⟨2, ![4096, 4096]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x2048, .bf16⟩
  | .hbm, ⟨3, _⟩ => ⟨S2048x1024, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DH.lean ====
abbrev S4096x1024 : Shape := ⟨2, ![4096, 1024]⟩
abbrev S1024x5664 : Shape := ⟨2, ![1024, 5664]⟩
abbrev S4096x512 : Shape := ⟨2, ![4096, 512]⟩
abbrev S4096x128 : Shape := ⟨2, ![4096, 128]⟩
abbrev S5664x1024 : Shape := ⟨2, ![5664, 1024]⟩
abbrev S1024x1024 : Shape := ⟨2, ![1024, 1024]⟩
abbrev S512x1024 : Shape := ⟨2, ![512, 1024]⟩
abbrev S16x1024 : Shape := ⟨2, ![16, 1024]⟩
abbrev S_ : Shape := ⟨0, ![]⟩
abbrev S96x1024 : Shape := ⟨2, ![96, 1024]⟩
abbrev S5760x1024 : Shape := ⟨2, ![5760, 1024]⟩
abbrev S512x512 : Shape := ⟨2, ![512, 512]⟩
abbrev S512x128 : Shape := ⟨2, ![512, 128]⟩
abbrev S128x1024 : Shape := ⟨2, ![128, 1024]⟩

abbrev nBuf : Space → Nat
  | .hbm => 29
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024x5664, .f32⟩
  | .hbm, ⟨2, _⟩ => ⟨S4096x1024, .f32⟩
  | .hbm, ⟨3, _⟩ => ⟨S4096x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x128, .f32⟩
  | .hbm, ⟨9, _⟩ => ⟨S5664x1024, .f32⟩
  | .hbm, ⟨10, _⟩ => ⟨S5664x1024, .bf16⟩
  | .hbm, ⟨11, _⟩ => ⟨S1024x1024, .bf16⟩
  | .hbm, ⟨12, _⟩ => ⟨S1024x1024, .bf16⟩
  | .hbm, ⟨13, _⟩ => ⟨S512x1024, .bf16⟩
  | .hbm, ⟨14, _⟩ => ⟨S16x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S16x1024, .bf16⟩
  | .hbm, ⟨19, _⟩ => ⟨S_, .bf16⟩
  | .hbm, ⟨20, _⟩ => ⟨S96x1024, .bf16⟩
  | .hbm, ⟨21, _⟩ => ⟨S5760x1024, .bf16⟩
  | .hbm, ⟨22, _⟩ => ⟨S4096x1024, .bf16⟩
  | .hbm, ⟨23, _⟩ => ⟨S4096x1024, .bf16⟩
  | .hbm, ⟨24, _⟩ => ⟨S4096x512, .bf16⟩
  | .hbm, ⟨25, _⟩ => ⟨S4096x1024, .bf16⟩
  | .hbm, ⟨26, _⟩ => ⟨S4096x1024, .bf16⟩
  | .hbm, ⟨27, _⟩ => ⟨S4096x128, .bf16⟩
  | .hbm, ⟨28, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S512x1024, .bf16⟩
  | .local _ .vmem, ⟨20, _⟩ => ⟨S128x1024, .bf16⟩
  | .local _ .vmem, ⟨21, _⟩ => ⟨S512x1024, .f32⟩
  | .local _ .vmem, ⟨22, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![c4_i32.toNat, arg1.toNat]

def cc0_transform_12 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![c10_i32.toNat, arg1.toNat]

def cc0_transform_13 (i : grid0.Coords) : Fin 2 → Nat :=
  let arg0 : BitVec 32 := BitVec.ofNat 32 (i 0).val
  let arg1 : BitVec 32 := BitVec.ofNat 32 (i 1).val
  let c44_i32 : BitVec 32 := 44#32
  let c0_i32 : BitVec 32 := 0#32
  ![c44_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== DHRefIdeal.lean ====
abbrev S4096x1024 : Shape := ⟨2, ![4096, 1024]⟩
abbrev S1024x5664 : Shape := ⟨2, ![1024, 5664]⟩
abbrev S4096x512 : Shape := ⟨2, ![4096, 512]⟩
abbrev S4096x128 : Shape := ⟨2, ![4096, 128]⟩
abbrev S4096x5664 : Shape := ⟨2, ![4096, 5664]⟩
abbrev S4096x16 : Shape := ⟨2, ![4096, 16]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5664, .f32⟩
  | .hbm, ⟨2, _⟩ => ⟨S4096x1024, .f32⟩
  | .hbm, ⟨3, _⟩ => ⟨S4096x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x128, .f32⟩
  | .hbm, ⟨9, _⟩ => ⟨S4096x5664, .f32⟩
  | .hbm, ⟨10, _⟩ => ⟨S4096x1024, .f32⟩
  | .hbm, ⟨11, _⟩ => ⟨S4096x1024, .f32⟩
  | .hbm, ⟨12, _⟩ => ⟨S4096x512, .f32⟩
  | .hbm, ⟨13, _⟩ => ⟨S4096x16, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x5664, .f32⟩
  | .hbm, ⟨21, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== InProj.lean ====
abbrev S4096x1024 : Shape := ⟨2, ![4096, 1024]⟩
abbrev S1024x5664 : Shape := ⟨2, ![1024, 5664]⟩
abbrev S5664x1024 : Shape := ⟨2, ![5664, 1024]⟩
abbrev S1024x1024 : Shape := ⟨2, ![1024, 1024]⟩
abbrev S512x1024 : Shape := ⟨2, ![512, 1024]⟩
abbrev S16x1024 : Shape := ⟨2, ![16, 1024]⟩
abbrev S_ : Shape := ⟨0, ![]⟩
abbrev S96x1024 : Shape := ⟨2, ![96, 1024]⟩
abbrev S5760x1024 : Shape := ⟨2, ![5760, 1024]⟩
abbrev S4096x5760 : Shape := ⟨2, ![4096, 5760]⟩
abbrev S1152x1024 : Shape := ⟨2, ![1152, 1024]⟩
abbrev S1024x1152 : Shape := ⟨2, ![1024, 1152]⟩

abbrev nBuf : Space → Nat
  | .hbm => 17
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5664, .f32⟩
  | .hbm, ⟨2, _⟩ => ⟨S5664x1024, .f32⟩
  | .hbm, ⟨3, _⟩ => ⟨S5664x1024, .bf16⟩
  | .hbm, ⟨4, _⟩ => ⟨S1024x1024, .bf16⟩
  | .hbm, ⟨5, _⟩ => ⟨S1024x1024, .bf16⟩
  | .hbm, ⟨6, _⟩ => ⟨S512x1024, .bf16⟩
  | .hbm, ⟨7, _⟩ => ⟨S16x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S16x1024, .bf16⟩
  | .hbm, ⟨12, _⟩ => ⟨S_, .bf16⟩
  | .hbm, ⟨13, _⟩ => ⟨S96x1024, .bf16⟩
  | .hbm, ⟨14, _⟩ => ⟨S5760x1024, .bf16⟩
  | .hbm, ⟨15, _⟩ => ⟨S4096x1024, .bf16⟩
  | .hbm, ⟨16, _⟩ => ⟨S4096x5760, .f32⟩
  | .local _ .vmem, ⟨0, _⟩ => ⟨S1024x1024, .bf16⟩
  | .local _ .vmem, ⟨1, _⟩ => ⟨S1024x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1152, .f32⟩
  | .local _ .vmem, ⟨5, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4096x1024 : Shape := ⟨2, ![4096, 1024]⟩
abbrev S1024x5664 : Shape := ⟨2, ![1024, 5664]⟩
abbrev S4096x5664 : Shape := ⟨2, ![4096, 5664]⟩
abbrev S4096x512 : Shape := ⟨2, ![4096, 512]⟩
abbrev S4096x16 : Shape := ⟨2, ![4096, 16]⟩
abbrev S_ : Shape := ⟨0, ![]⟩
abbrev S4096x96 : Shape := ⟨2, ![4096, 96]⟩
abbrev S4096x5760 : Shape := ⟨2, ![4096, 5760]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5664, .f32⟩
  | .hbm, ⟨2, _⟩ => ⟨S4096x5664, .f32⟩
  | .hbm, ⟨3, _⟩ => ⟨S4096x1024, .f32⟩
  | .hbm, ⟨4, _⟩ => ⟨S4096x1024, .f32⟩
  | .hbm, ⟨5, _⟩ => ⟨S4096x512, .f32⟩
  | .hbm, ⟨6, _⟩ => ⟨S4096x16, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x16, .f32⟩
  | .hbm, ⟨11, _⟩ => ⟨S_, .f32⟩
  | .hbm, ⟨12, _⟩ => ⟨S4096x96, .f32⟩
  | .hbm, ⟨13, _⟩ => ⟨S4096x5760, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InputGrad.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InputGradRefIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S4096x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Modulate.lean ====
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateRefIdeal.lean ====
abbrev S4096x1024 : Shape := ⟨2, ![4096, 1024]⟩
abbrev S1x1024 : Shape := ⟨2, ![1, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== UpFfIn.lean ====
abbrev S1024x512 : Shape := ⟨2, ![1024, 512]⟩
abbrev S8x1024x512 : Shape := ⟨3, ![8, 1024, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpFfInIdeal.lean ====
abbrev S1024x512 : Shape := ⟨2, ![1024, 512]⟩
abbrev S8x1024x512 : Shape := ⟨3, ![8, 1024, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpFfInRefIdeal.lean ====
abbrev S1024x512 : Shape := ⟨2, ![1024, 512]⟩
abbrev S8x1024x512 : Shape := ⟨3, ![8, 1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpFfOut.lean ====
abbrev S512x1024 : Shape := ⟨2, ![512, 1024]⟩
abbrev S8x512x1024 : Shape := ⟨3, ![8, 512, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpFfOutIdeal.lean ====
abbrev S512x1024 : Shape := ⟨2, ![512, 1024]⟩
abbrev S8x512x1024 : Shape := ⟨3, ![8, 512, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpFfOutRefIdeal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpOut.lean ====
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S8x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpOutRefIdeal.lean ====
abbrev S256x1024 : Shape := ⟨2, ![256, 1024]⟩
abbrev S8x256x1024 : Shape := ⟨3, ![8, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x256x1024, .bf16⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpIn.lean ====
abbrev S1024x708 : Shape := ⟨2, ![1024, 708]⟩
abbrev S8x708x1024 : Shape := ⟨3, ![8, 708, 1024]⟩
abbrev S708x1024 : Shape := ⟨2, ![708, 1024]⟩
abbrev S708x256 : Shape := ⟨2, ![708, 256]⟩
abbrev S8x708x256 : Shape := ⟨3, ![8, 708, 256]⟩
abbrev S1x708x256 : Shape := ⟨3, ![1, 708, 256]⟩

abbrev nBuf : Space → Nat
  | .hbm => 11
  | .vmem => 16
  | .smem => 0
  | _ => 0

abbrev bufTy : (tb : Table) → Fin (tcTables nBuf tb) → BufTy
  | .hbm, ⟨0, _⟩ => ⟨S1024x708, .f32⟩
  | .hbm, ⟨1, _⟩ => ⟨S8x708x1024, .bf16⟩
  | .hbm, ⟨2, _⟩ => ⟨S1024x708, .f32⟩
  | .hbm, ⟨3, _⟩ => ⟨S1024x708, .f32⟩
  | .hbm, ⟨4, _⟩ => ⟨S708x1024, .f32⟩
  | .hbm, ⟨5, _⟩ => ⟨S708x1024, .f32⟩
  | .hbm, ⟨6, _⟩ => ⟨S708x1024, .f32⟩
  | .hbm, ⟨7, _⟩ => ⟨S708x1024, .f32⟩
  | .hbm, ⟨8, _⟩ => ⟨S708x1024, .f32⟩
  | .hbm, ⟨9, _⟩ => ⟨S708x1024, .f32⟩
  | .hbm, ⟨10, _⟩ => ⟨S708x1024, .f32⟩
  | .local _ .vmem, ⟨0, _⟩ => ⟨S708x256, .f32⟩
  | .local _ .vmem, ⟨1, _⟩ => ⟨S708x256, .f32⟩
  | .local _ .vmem, ⟨2, _⟩ => ⟨S8x708x256, .bf16⟩
  | .local _ .vmem, ⟨3, _⟩ => ⟨S8x708x256, .bf16⟩
  | .local _ .vmem, ⟨4, _⟩ => ⟨S708x256, .f32⟩
  | .local _ .vmem, ⟨5, _⟩ => ⟨S708x256, .f32⟩
  | .local _ .vmem, ⟨6, _⟩ => ⟨S708x256, .f32⟩
  | .local _ .vmem, ⟨7, _⟩ => ⟨S708x256, .f32⟩
  | .local _ .vmem, ⟨8, _⟩ => ⟨S708x256, .f32⟩
  | .local _ .vmem, ⟨9, _⟩ => ⟨S708x256, .f32⟩
  | .local _ .vmem, ⟨10, _⟩ => ⟨S708x256, .f32⟩
  | .local _ .vmem, ⟨11, _⟩ => ⟨S708x256, .f32⟩
  | .local _ .vmem, ⟨12, _⟩ => ⟨S708x256, .f32⟩
  | .local _ .vmem, ⟨13, _⟩ => ⟨S708x256, .f32⟩
  | .local _ .vmem, ⟨14, _⟩ => ⟨S708x256, .f32⟩
  | .local _ .vmem, ⟨15, _⟩ => ⟨S708x256, .f32⟩
  | _, _ => ⟨S1024x708, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S708x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x708x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S708x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S708x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S708x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S708x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S708x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S708x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpInRefIdeal.lean ====
abbrev S1024x708 : Shape := ⟨2, ![1024, 708]⟩
abbrev S8x708x1024 : Shape := ⟨3, ![8, 708, 1024]⟩
abbrev S_ : Shape := ⟨0, ![]⟩
abbrev S708x1024 : Shape := ⟨2, ![708, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1024x708, .f32⟩
  | .hbm, ⟨1, _⟩ => ⟨S8x708x1024, .bf16⟩
  | .hbm, ⟨2, _⟩ => ⟨S1024x708, .f32⟩
  | .hbm, ⟨3, _⟩ => ⟨S1024x708, .f32⟩
  | .hbm, ⟨4, _⟩ => ⟨S8x708x1024, .f32⟩
  | .hbm, ⟨5, _⟩ => ⟨S_, .f32⟩
  | .hbm, ⟨6, _⟩ => ⟨S708x1024, .f32⟩
  | .hbm, ⟨7, _⟩ => ⟨S1024x708, .f32⟩
  | .hbm, ⟨8, _⟩ => ⟨S_, .f32⟩
  | .hbm, ⟨9, _⟩ => ⟨S1024x708, .f32⟩
  | .hbm, ⟨10, _⟩ => ⟨S1024x708, .f32⟩
  | .hbm, ⟨11, _⟩ => ⟨S_, .f32⟩
  | .hbm, ⟨12, _⟩ => ⟨S1024x708, .f32⟩
  | .hbm, ⟨13, _⟩ => ⟨S1024x708, .f32⟩
  | .hbm, ⟨14, _⟩ => ⟨S1024x708, .f32⟩
  | .hbm, ⟨15, _⟩ => ⟨S_, .f32⟩
  | .hbm, ⟨16, _⟩ => ⟨S1024x708, .f32⟩
  | .hbm, ⟨17, _⟩ => ⟨S1024x708, .f32⟩
  | .hbm, ⟨18, _⟩ => ⟨S1024x708, .f32⟩
  | .hbm, ⟨19, _⟩ => ⟨S_, .f32⟩
  | .hbm, ⟨20, _⟩ => ⟨S1024x708, .f32⟩
  | .hbm, ⟨21, _⟩ => ⟨S1024x708, .f32⟩
  | .hbm, ⟨22, _⟩ => ⟨S1024x708, .f32⟩
  | .hbm, ⟨23, _⟩ => ⟨S_, .f32⟩
  | .hbm, ⟨24, _⟩ => ⟨S1024x708, .f32⟩
  | .hbm, ⟨25, _⟩ => ⟨S1024x708, .f32⟩
  | .hbm, ⟨26, _⟩ => ⟨S_, .f32⟩
  | .hbm, ⟨27, _⟩ => ⟨S1024x708, .f32⟩
  | .hbm, ⟨28, _⟩ => ⟨S1024x708, .f32⟩
  | .hbm, ⟨29, _⟩ => ⟨S1024x708, .f32⟩
  | .hbm, ⟨30, _⟩ => ⟨S_, .f32⟩
  | .hbm, ⟨31, _⟩ => ⟨S1024x708, .f32⟩
  | .hbm, ⟨32, _⟩ => ⟨S1024x708, .f32⟩
  | .hbm, ⟨33, _⟩ => ⟨S1024x708, .f32⟩
  | .hbm, ⟨34, _⟩ => ⟨S_, .f32⟩
  | .hbm, ⟨35, _⟩ => ⟨S1024x708, .f32⟩
  | .hbm, ⟨36, _⟩ => ⟨S1024x708, .f32⟩
  | .hbm, ⟨37, _⟩ => ⟨S1024x708, .f32⟩
  | .hbm, ⟨38, _⟩ => ⟨S_, .f32⟩
  | .hbm, ⟨39, _⟩ => ⟨S1024x708, .f32⟩
  | .hbm, ⟨40, _⟩ => ⟨S1024x708, .f32⟩
  | .hbm, ⟨41, _⟩ => ⟨S708x1024, .f32⟩
  | .hbm, ⟨42, _⟩ => ⟨S708x1024, .f32⟩
  | .hbm, ⟨43, _⟩ => ⟨S708x1024, .f32⟩
  | .hbm, ⟨44, _⟩ => ⟨S708x1024, .f32⟩
  | _, _ => ⟨S1024x708, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== UpAda.lean ====
abbrev S1024x768 : Shape := ⟨2, ![1024, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpAdaRefIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpConv.lean ====
abbrev S4x192 : Shape := ⟨2, ![4, 192]⟩

abbrev nBuf : Space → Nat
  | .hbm => 8
  | .vmem => 8
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .local _ .vmem, ⟨0, _⟩ => ⟨S4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | .local _ .vmem, ⟨7, _⟩ => ⟨S4x192, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpConvRefIdeal.lean ====
abbrev S4x192 : Shape := ⟨2, ![4, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S_, .f32⟩
  | .hbm, ⟨5, _⟩ => ⟨S4x192, .f32⟩
  | .hbm, ⟨6, _⟩ => ⟨S4x192, .f32⟩
  | .hbm, ⟨7, _⟩ => ⟨S_, .f32⟩
  | .hbm, ⟨8, _⟩ => ⟨S4x192, .f32⟩
  | .hbm, ⟨9, _⟩ => ⟨S4x192, .f32⟩
  | .hbm, ⟨10, _⟩ => ⟨S4x192, .f32⟩
  | .hbm, ⟨11, _⟩ => ⟨S_, .f32⟩
  | .hbm, ⟨12, _⟩ => ⟨S4x192, .f32⟩
  | .hbm, ⟨13, _⟩ => ⟨S4x192, .f32⟩
  | .hbm, ⟨14, _⟩ => ⟨S4x192, .f32⟩
  | .hbm, ⟨15, _⟩ => ⟨S_, .f32⟩
  | .hbm, ⟨16, _⟩ => ⟨S4x192, .f32⟩
  | .hbm, ⟨17, _⟩ => ⟨S4x192, .f32⟩
  | .hbm, ⟨18, _⟩ => ⟨S4x192, .f32⟩
  | .hbm, ⟨19, _⟩ => ⟨S_, .f32⟩
  | .hbm, ⟨20, _⟩ => ⟨S4x192, .f32⟩
  | .hbm, ⟨21, _⟩ => ⟨S4x192, .f32⟩
  | .hbm, ⟨22, _⟩ => ⟨S_, .f32⟩
  | .hbm, ⟨23, _⟩ => ⟨S4x192, .f32⟩
  | .hbm, ⟨24, _⟩ => ⟨S4x192, .f32⟩
  | .hbm, ⟨25, _⟩ => ⟨S4x192, .f32⟩
  | .hbm, ⟨26, _⟩ => ⟨S_, .f32⟩
  | .hbm, ⟨27, _⟩ => ⟨S4x192, .f32⟩
  | .hbm, ⟨28, _⟩ => ⟨S4x192, .f32⟩
  | .hbm, ⟨29, _⟩ => ⟨S4x192, .f32⟩
  | .hbm, ⟨30, _⟩ => ⟨S_, .f32⟩
  | .hbm, ⟨31, _⟩ => ⟨S4x192, .f32⟩
  | .hbm, ⟨32, _⟩ => ⟨S4x192, .f32⟩
  | .hbm, ⟨33, _⟩ => ⟨S4x192, .f32⟩
  | .hbm, ⟨34, _⟩ => ⟨S_, .f32⟩
  | .hbm, ⟨35, _⟩ => ⟨S4x192, .f32⟩
  | .hbm, ⟨36, _⟩ => ⟨S4x192, .f32⟩
  | _, _ => ⟨S4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaGrad.lean ====
abbrev S8x1024 : Shape := ⟨2, ![8, 1024]⟩
abbrev S8x768 : Shape := ⟨2, ![8, 768]⟩
abbrev S1024x768 : Shape := ⟨2, ![1024, 768]⟩
abbrev S16x1024 : Shape := ⟨2, ![16, 1024]⟩
abbrev S16x768 : Shape := ⟨2, ![16, 768]⟩

abbrev nBuf : Space → Nat
  | .hbm => 4
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .local _ .vmem, ⟨0, _⟩ => ⟨S8x1024, .f32⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaGradRefIdeal.lean ====
abbrev S8x1024 : Shape := ⟨2, ![8, 1024]⟩
abbrev S8x768 : Shape := ⟨2, ![8, 768]⟩
abbrev S1024x768 : Shape := ⟨2, ![1024, 768]⟩
abbrev S_ : Shape := ⟨0, ![]⟩
abbrev S768x1024 : Shape := ⟨2, ![768, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S768x1024, .f32⟩
  | .hbm, ⟨14, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== AdaMod.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩
abbrev S16x1024 : Shape := ⟨2, ![16, 1024]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaModRefIdeal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Ln.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LnRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== MixNorm.lean ====
abbrev S4096x1024 : Shape := ⟨2, ![4096, 1024]⟩
abbrev S4096x5760 : Shape := ⟨2, ![4096, 5760]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x5760, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x2048, .bf16⟩
  | .local _ .vmem, ⟨9, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixNormRefIdeal.lean ====
abbrev S4096x1024 : Shape := ⟨2, ![4096, 1024]⟩
abbrev S4096x5760 : Shape := ⟨2, ![4096, 5760]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5760, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x2048, .f32⟩
  | .hbm, ⟨47, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Proof.Ssd.Spec.lean ====
module

public import Mathlib.Analysis.SpecialFunctions.Log.Basic
public import Mathlib.Algebra.BigOperators.Intervals
public import Mathlib.Tactic.Ring
public import Mathlib.Tactic.Linarith
public import Mathlib.Tactic.FieldSimp

/-! # The gradient of the chunked state-space recurrence over the reals

The quantities of the backward pass of one group of heads, as sums of real numbers over natural indices. A token is
`128 * c + l` (chunk `c < 32`, row `l < 128`), a lane is `64 * h + p` (head `h < 16`, channel `p < 64`), a group of eight
heads has 512 lanes. Nothing here mentions a program: both programs are shown to compute these numbers, and the two
identities at the end are where they differ in method. -/

@[expose] public section

noncomputable section

namespace Cert.Ssd

open Finset

/-- The arguments as real numbers: the cotangent, the inputs of the heads, the concatenated `B` and `C`, the raw step
    size with its bias added, the logarithm of the decay rate, and the skip weight. -/
structure Data where
  dy : ℕ → ℕ → ℝ
  xs : ℕ → ℕ → ℝ
  bc : ℕ → ℕ → ℝ
  u : ℕ → ℕ → ℝ
  al : ℕ → ℝ
  ds : ℕ → ℝ

/-- The softplus function as both programs evaluate it. -/
def sp (v : ℝ) : ℝ := max v 0 + Real.log (1 + Real.exp (-|v|))

/-- The logistic function, the derivative of `sp`. -/
def sig (v : ℝ) : ℝ := 1 / (1 + Real.exp (-v))

/-- The sum of a row of lanes over the channels of head `h`; there are sixteen heads. -/
def hsum (f : ℕ → ℝ) (h : ℕ) : ℝ := if h < 16 then ∑ p ∈ range 64, f (64 * h + p) else 0

namespace Data

variable (D : Data)

/-- The step size. -/
def dt (t h : ℕ) : ℝ := if h < 16 then sp (D.u t h) else 0
/-- The decay rate, a negative number. -/
def A (h : ℕ) : ℝ := if h < 16 then -Real.exp (D.al h) else 0
/-- The logarithm of one token's decay. -/
def a (t h : ℕ) : ℝ := D.dt t h * D.A h
/-- Its running sum in chunk `c`, rows `0` to `l`. -/
def cs (c l h : ℕ) : ℝ := ∑ i ∈ range (l + 1), D.a (128 * c + i) h
/-- The whole chunk's. -/
def tot (c h : ℕ) : ℝ := D.cs c 127 h
/-- The inputs times the step size. -/
def x (t j : ℕ) : ℝ := D.xs t j * D.dt t (j / 64)
/-- `B` of group `g`. -/
def Bm (t g n : ℕ) : ℝ := D.bc t (128 * g + n)
/-- `C` of group `g`. -/
def Cm (t g n : ℕ) : ℝ := D.bc t (256 + 128 * g + n)
/-- The scores `C B^T` inside chunk `c`. -/
def G (c g l s : ℕ) : ℝ := ∑ n ∈ range 128, D.Cm (128 * c + l) g n * D.Bm (128 * c + s) g n
/-- The decay from row `s` to row `l` of a chunk. -/
def L (c h l s : ℕ) : ℝ := if s ≤ l then Real.exp (D.cs c l h - D.cs c s h) else 0
/-- The decay from the chunk's start to row `l`. -/
def eo (c l h : ℕ) : ℝ := Real.exp (D.cs c l h)
/-- The decay from row `l` to the chunk's end. -/
def we (c l h : ℕ) : ℝ := Real.exp (D.tot c h - D.cs c l h)
/-- What chunk `c` adds to the state. -/
def S (c j n : ℕ) : ℝ := ∑ l ∈ range 128, D.x (128 * c + l) j * D.we c l (j / 64) * D.Bm (128 * c + l) (j / 512) n
/-- The same, one chunk later, with nothing before the first chunk. -/
def S' (z j n : ℕ) : ℝ := if z = 0 then 0 else D.S (z - 1) j n
/-- The logarithm of the decay of the first `z` chunks. -/
def T (z h : ℕ) : ℝ := ∑ k ∈ range z, D.tot k h
/-- The decay from the start of chunk `c` to the start of chunk `z`. -/
def Dk (z c h : ℕ) : ℝ := if c ≤ z then Real.exp (D.T z h - D.T c h) else 0
/-- The state that enters chunk `z`. -/
def prev (z j n : ℕ) : ℝ := ∑ c ∈ range 33, D.S' c j n * D.Dk z c (j / 64)
/-- What chunk `z` asks of the state that enters it. -/
def dprev (z j n : ℕ) : ℝ :=
  ∑ l ∈ range 128, D.dy (128 * z + l) j * D.eo z l (j / 64) * D.Cm (128 * z + l) (j / 512) n
/-- The same, with nothing asked of the state after the last chunk. -/
def E (z j n : ℕ) : ℝ := if z < 32 then D.dprev z j n else 0
/-- The gradient of the state that leaves chunk `c`. -/
def dn (c j n : ℕ) : ℝ := ∑ z ∈ range 33, D.E z j n * D.Dk z (c + 1) (j / 64)
/-- One term of the gradient of the chunk decays. -/
def V (z c h : ℕ) : ℝ :=
  (∑ p ∈ range 64, ∑ n ∈ range 128, D.E z (64 * h + p) n * D.S' c (64 * h + p) n) * D.Dk z c h
/-- `B` times the gradient of the leaving state. -/
def bds (c s j : ℕ) : ℝ := ∑ n ∈ range 128, D.Bm (128 * c + s) (j / 512) n * D.dn c j n
/-- `C` times the entering state. -/
def csn (c l j : ℕ) : ℝ := ∑ n ∈ range 128, D.Cm (128 * c + l) (j / 512) n * D.prev c j n
/-- The gradient of the masked scores. -/
def dM (c h l s : ℕ) : ℝ :=
  ∑ p ∈ range 64, D.dy (128 * c + l) (64 * h + p) * D.x (128 * c + s) (64 * h + p)
/-- The gradient of the scores of group `g`. -/
def dG (c g l s : ℕ) : ℝ := ∑ e ∈ range 8, D.dM c (8 * g + e) l s * D.L c (8 * g + e) l s
/-- The masked scores. -/
def M (c h l s : ℕ) : ℝ := D.G c (h / 8) l s * D.L c h l s
/-- The gradient of `x` inside the chunk. -/
def dxd (c s j : ℕ) : ℝ := ∑ l ∈ range 128, D.M c (j / 64) l s * D.dy (128 * c + l) j
/-- The gradient of `x`. -/
def dx (c s j : ℕ) : ℝ := D.bds c s j * D.we c s (j / 64) + D.dxd c s j
/-- The gradient of the masked scores times the masked scores. -/
def qm (c h l s : ℕ) : ℝ := D.dM c h l s * D.M c h l s
/-- Its sum over a row. -/
def dcol (c l h : ℕ) : ℝ := if h < 16 then ∑ s ∈ range 128, D.qm c h l s else 0
/-- Its sum over a column. -/
def drow (c s h : ℕ) : ℝ := if h < 16 then ∑ l ∈ range 128, D.qm c h l s else 0
/-- The gradient of `eo`. -/
def deo (c l h : ℕ) : ℝ := hsum (fun j => D.dy (128 * c + l) j * D.csn c l j) h
/-- The gradient of `we`. -/
def dwe (c l h : ℕ) : ℝ := hsum (fun j => D.bds c l j * D.x (128 * c + l) j) h
/-- The gradient of the whole chunk's decay. -/
def dgend (c h : ℕ) : ℝ := hsum (fun j => ∑ n ∈ range 128, D.dn c j n * D.prev c j n) h
/-- The gradient of the running sums. -/
def dcs (c l h : ℕ) : ℝ :=
  D.dcol c l h - D.drow c l h + D.deo c l h * D.eo c l h - D.dwe c l h * D.we c l h
    + (if l = 127 then ∑ i ∈ range 128, D.dwe c i h * D.we c i h + D.dgend c h * Real.exp (D.tot c h) else 0)
/-- The gradient of `a`: of every later row of the chunk. -/
def da (c l h : ℕ) : ℝ := ∑ i ∈ Ico l 128, D.dcs c i h

/-- Result: the gradient of the inputs. -/
def rDxs (c l j : ℕ) : ℝ := D.dx c l j * D.dt (128 * c + l) (j / 64) + D.ds (j / 64) * D.dy (128 * c + l) j
/-- Result: the gradient of `B`. -/
def rDB (c l g n : ℕ) : ℝ :=
  (∑ q ∈ range 512, D.x (128 * c + l) (512 * g + q) * D.we c l ((512 * g + q) / 64) * D.dn c (512 * g + q) n)
    + ∑ i ∈ range 128, D.dG c g i l * D.Cm (128 * c + i) g n
/-- Result: the gradient of `C`. -/
def rDC (c l g n : ℕ) : ℝ :=
  (∑ q ∈ range 512, D.dy (128 * c + l) (512 * g + q) * D.eo c l ((512 * g + q) / 64) * D.prev c (512 * g + q) n)
    + ∑ i ∈ range 128, D.dG c g l i * D.Bm (128 * c + i) g n
/-- Result: the gradient of the lanes that hold `B` and `C`. -/
def rDbc (c l j : ℕ) : ℝ := if j < 256 then D.rDB c l (j / 128) (j % 128) else D.rDC c l ((j - 256) / 128) (j % 128)
/-- The gradient of the step size. -/
def ddt (c l h : ℕ) : ℝ :=
  hsum (fun j => D.dx c l j * D.xs (128 * c + l) j) h + D.da c l h * D.A h
/-- Result: the gradient of the raw step size. -/
def rDdt (c l h : ℕ) : ℝ := if h < 16 then D.ddt c l h * sig (D.u (128 * c + l) h) else 0
/-- One chunk's part of the gradient of the logarithm of the decay rate. -/
def pAlog (c h : ℕ) : ℝ := (∑ l ∈ range 128, D.da c l h * D.dt (128 * c + l) h) * D.A h
/-- One chunk's part of the gradient of the skip weight. -/
def pSkip (c h : ℕ) : ℝ := hsum (fun j => ∑ l ∈ range 128, D.dy (128 * c + l) j * D.xs (128 * c + l) j) h

/-- The decay of a token is at most one, so the running sum falls. -/
theorem sp_nonneg (v : ℝ) : 0 ≤ sp v := by
  unfold sp
  have h1 : 0 ≤ Real.log (1 + Real.exp (-|v|)) := Real.log_nonneg (by have := Real.exp_pos (-|v|); linarith)
  have h2 : 0 ≤ max v 0 := le_max_right _ _
  linarith

theorem a_nonpos (t h : ℕ) : D.a t h ≤ 0 := by
  unfold a dt A
  split_ifs
  · exact mul_nonpos_of_nonneg_of_nonpos (sp_nonneg _) (by have := Real.exp_pos (D.al h); linarith)
  · simp

theorem cs_anti (c h : ℕ) {s l : ℕ} (hsl : s ≤ l) : D.cs c l h - D.cs c s h ≤ 0 := by
  unfold cs
  have hs : range (s + 1) ⊆ range (l + 1) := range_subset_range.mpr (by omega)
  rw [← sum_sdiff hs, add_sub_cancel_right]
  exact sum_nonpos fun i _ => D.a_nonpos _ _

/-- The programs clip the exponent at zero before they mask it: nothing is clipped. -/
theorem L_clip (c h l s : ℕ) :
    (if s ≤ l then Real.exp (min (D.cs c l h - D.cs c s h) 0) else 0) = D.L c h l s := by
  unfold L
  split_ifs with hsl
  · rw [min_eq_left (D.cs_anti c h hsl)]
  · rfl

/-- The logarithm of `1 + e^v` is the softplus. -/
theorem sp_eq (v : ℝ) : sp v = Real.log (1 + Real.exp v) := by
  unfold sp
  have he : 0 < Real.exp v := Real.exp_pos v
  rcases le_total 0 v with hv | hv
  · rw [max_eq_left hv, abs_of_nonneg hv]
    have h : 1 + Real.exp v = Real.exp v * (1 + Real.exp (-v)) := by
      rw [mul_add, mul_one, ← Real.exp_add, add_neg_cancel, Real.exp_zero, add_comm]
    have h' : (1 + Real.exp (-v)) ≠ 0 := by have := Real.exp_pos (-v); linarith
    rw [h, Real.log_mul he.ne' h', Real.log_exp]
  · rw [max_eq_right hv, abs_of_nonpos hv, neg_neg, zero_add]

/-- The derivative of the softplus, as the reference forms it. -/
theorem exp_sub_sp (v : ℝ) : Real.exp (v - sp v) = sig v := by
  unfold sig
  have he : 0 < Real.exp v := Real.exp_pos v
  have hp : 0 < 1 + Real.exp v := by linarith
  rw [sp_eq, Real.exp_sub, Real.exp_log hp, Real.exp_neg]
  field_simp
  ring

/-- A row of lanes summed against the indicator of head `h`. -/
theorem sum_lanes (f : ℕ → ℝ) (h : ℕ) :
    (∑ j ∈ range 1024, f j * (if j / 64 = h then 1 else 0)) = hsum f h := by
  unfold hsum
  simp only [mul_ite, mul_one, mul_zero]
  rw [← sum_filter]
  split_ifs with hh
  · symm
    refine sum_bij (fun p _ => 64 * h + p) ?_ ?_ ?_ ?_
    · intro p hp
      simp only [mem_range, mem_filter] at hp ⊢
      omega
    · intro p _ q _ hpq
      omega
    · intro j hj
      simp only [mem_range, mem_filter] at hj
      exact ⟨j % 64, by simp only [mem_range]; omega, by omega⟩
    · intro p _
      rfl
  · refine sum_eq_zero fun j hj => ?_
    simp only [mem_range, mem_filter] at hj
    omega

/-- The gradient of the state that leaves the last chunk is zero. -/
theorem dn_last (j n : ℕ) : D.dn 31 j n = 0 := by
  unfold dn
  refine sum_eq_zero fun z hz => ?_
  have hz := mem_range.mp hz
  by_cases h : z < 32
  · have : D.Dk z (31 + 1) (j / 64) = 0 := by unfold Dk; rw [if_neg (by omega)]
    rw [this, mul_zero]
  · have : D.E z j n = 0 := by unfold E; rw [if_neg h]
    rw [this, zero_mul]

theorem T_succ (z h : ℕ) : D.T (z + 1) h = D.T z h + D.tot z h := by
  unfold T; rw [sum_range_succ]

theorem Dk_step (z c h : ℕ) (hz : c + 1 ≤ z) : D.Dk z c h = Real.exp (D.tot c h) * D.Dk z (c + 1) h := by
  unfold Dk
  rw [if_pos (by omega), if_pos hz, ← Real.exp_add, T_succ]
  congr 1; ring

/-- The recursion by which the kernel carries the gradient of the state from chunk to chunk, backwards. -/
theorem dn_step (c j n : ℕ) (hc : c + 1 < 32) :
    D.dn c j n = Real.exp (D.tot (c + 1) (j / 64)) * D.dn (c + 1) j n + D.dprev (c + 1) j n := by
  unfold dn
  rw [mul_sum]
  have hmem : c + 1 ∈ range 33 := mem_range.mpr (by omega)
  rw [← add_sum_erase _ _ hmem, ← add_sum_erase (range 33)
    (fun z => Real.exp (D.tot (c + 1) (j / 64)) * (D.E z j n * D.Dk z (c + 1 + 1) (j / 64))) hmem]
  have h0 : D.Dk (c + 1) (c + 1 + 1) (j / 64) = 0 := by unfold Dk; rw [if_neg (by omega)]
  have h1 : D.Dk (c + 1) (c + 1) (j / 64) = 1 := by unfold Dk; rw [if_pos le_rfl, sub_self, Real.exp_zero]
  have h2 : D.E (c + 1) j n = D.dprev (c + 1) j n := by unfold E; rw [if_pos hc]
  rw [h0, h1, h2, mul_zero, mul_zero, mul_one, zero_add, add_comm]
  congr 1
  refine sum_congr rfl fun z hz => ?_
  have hne : z ≠ c + 1 := (mem_erase.mp hz).1
  rcases Nat.lt_or_ge z (c + 1) with hlt | hge
  · have e1 : D.Dk z (c + 1) (j / 64) = 0 := by unfold Dk; rw [if_neg (by omega)]
    have e2 : D.Dk z (c + 1 + 1) (j / 64) = 0 := by unfold Dk; rw [if_neg (by omega)]
    rw [e1, e2, mul_zero, mul_zero]
  · rw [D.Dk_step z (c + 1) (j / 64) (by omega)]
    ring

/-- Row sums minus column sums of a lower triangle, from row `m` on: only the rectangle left of column `m` remains. -/
theorem rows_sub_cols (W : ℕ → ℕ → ℝ) (hW : ∀ z c, z < c → W z c = 0) (m N : ℕ) (hm : m ≤ N) :
    (∑ z ∈ Ico m N, (∑ z' ∈ range N, -(W z' z) + ∑ c ∈ range N, W z c)) = ∑ z ∈ Ico m N, ∑ c ∈ range m, W z c := by
  have split : ∀ f : ℕ → ℝ, ∑ i ∈ range N, f i = ∑ i ∈ range m, f i + ∑ i ∈ Ico m N, f i := fun f =>
    (sum_range_add_sum_Ico f hm).symm
  have h1 : ∀ z ∈ Ico m N, (∑ z' ∈ range N, -(W z' z) + ∑ c ∈ range N, W z c)
      = ∑ c ∈ range m, W z c + (∑ c ∈ Ico m N, W z c - ∑ z' ∈ Ico m N, W z' z) := by
    intro z hz
    have hz := mem_Ico.mp hz
    rw [split (fun z' => -(W z' z)), split (fun c => W z c)]
    have h0 : ∑ z' ∈ range m, -(W z' z) = 0 := sum_eq_zero fun z' hz' => by
      rw [hW z' z (by have := mem_range.mp hz'; omega), neg_zero]
    rw [h0, sum_neg_distrib]
    ring
  rw [sum_congr rfl h1, sum_add_distrib, sum_sub_distrib]
  rw [sum_comm (s := Ico m N) (t := Ico m N) (f := fun z z' => W z' z), sub_self, add_zero]

/-- A sum over pairs whose weight is a product of one factor for each. -/
theorem pair_sum (I Z C : Finset ℕ) (J : ℕ → Finset ℕ) (e s : ℕ → ℕ → ℕ → ℝ) (d f : ℕ → ℝ) (r : ℝ) :
    (∑ z ∈ Z, ∑ c ∈ C, (∑ p ∈ I, ∑ n ∈ J p, e z p n * s c p n) * (d z * r * f c))
      = (∑ p ∈ I, ∑ n ∈ J p, (∑ z ∈ Z, e z p n * d z) * (∑ c ∈ C, s c p n * f c)) * r := by
  have hR : ∀ p ∈ I, ∀ n ∈ J p, (∑ z ∈ Z, e z p n * d z) * (∑ c ∈ C, s c p n * f c) * r
      = ∑ z ∈ Z, ∑ c ∈ C, e z p n * s c p n * (d z * r * f c) := fun p _ n _ => by
    rw [sum_mul_sum, sum_mul]
    refine sum_congr rfl fun z _ => ?_
    rw [sum_mul]
    exact sum_congr rfl fun c _ => by ring
  have hL : ∀ z ∈ Z, ∀ c ∈ C, (∑ p ∈ I, ∑ n ∈ J p, e z p n * s c p n) * (d z * r * f c)
      = ∑ p ∈ I, ∑ n ∈ J p, e z p n * s c p n * (d z * r * f c) := fun z _ c _ => by
    rw [sum_mul]
    exact sum_congr rfl fun p _ => by rw [sum_mul]
  rw [sum_congr rfl fun z hz => sum_congr rfl fun c hc => hL z hz c hc, sum_mul]
  rw [sum_congr rfl fun p hp => (by rw [sum_mul]; exact sum_congr rfl fun n hn => hR p hp n hn :
    (∑ n ∈ J p, (∑ z ∈ Z, e z p n * d z) * (∑ c ∈ C, s c p n * f c)) * r
      = ∑ n ∈ J p, ∑ z ∈ Z, ∑ c ∈ C, e z p n * s c p n * (d z * r * f c))]
  rw [sum_congr rfl fun z _ => sum_comm, sum_comm]
  refine sum_congr rfl fun p _ => ?_
  rw [sum_congr rfl fun z _ => sum_comm, sum_comm]

/-- The gradient of the logarithm of chunk `k`'s decay: the reference sums the differences of row and column sums of
    its chunk-to-chunk decays, the kernel takes one inner product of the carried gradient with the entering state. -/
theorem dtot_eq (k h : ℕ) (hk : k < 32) (hh : h < 16) :
    (∑ z ∈ Ico (k + 1) 33, (∑ z' ∈ range 33, -(D.V z' z h) + ∑ c ∈ range 33, D.V z c h))
      = D.dgend k h * Real.exp (D.tot k h) := by
  rw [rows_sub_cols (fun z c => D.V z c h) (fun z c hzc => by
    unfold V Dk; rw [if_neg (by omega), mul_zero]) (k + 1) 33 (by omega)]
  have h1 : ∀ z ∈ Ico (k + 1) 33, ∀ c ∈ range (k + 1), D.V z c h
      = (∑ p ∈ range 64, ∑ n ∈ range 128, D.E z (64 * h + p) n * D.S' c (64 * h + p) n)
        * (D.Dk z (k + 1) h * Real.exp (D.tot k h) * D.Dk k c h) := by
    intro z hz c hc
    have hz := mem_Ico.mp hz
    have hc := mem_range.mp hc
    unfold V Dk
    rw [if_pos (by omega), if_pos (by omega), if_pos (by omega), ← Real.exp_add, ← Real.exp_add, T_succ]
    congr 2; ring
  rw [sum_congr rfl fun z hz => sum_congr rfl (h1 z hz)]
  rw [pair_sum (range 64) (Ico (k + 1) 33) (range (k + 1)) (fun _ => range 128)
    (fun z p n => D.E z (64 * h + p) n) (fun c p n => D.S' c (64 * h + p) n)
    (fun z => D.Dk z (k + 1) h) (fun c => D.Dk k c h)]
  congr 1
  unfold dgend hsum
  rw [if_pos hh]
  refine sum_congr rfl fun p hp => sum_congr rfl fun n _ => ?_
  have hp := mem_range.mp hp
  have hd : (64 * h + p) / 64 = h := by omega
  unfold dn prev
  rw [hd]
  congr 1
  · rw [← sum_range_add_sum_Ico (fun z => D.E z (64 * h + p) n * D.Dk z (k + 1) h) (show k + 1 ≤ 33 by omega)]
    have h0 : ∑ z ∈ range (k + 1), D.E z (64 * h + p) n * D.Dk z (k + 1) h = 0 := sum_eq_zero fun z hz => by
      have hz := mem_range.mp hz
      have : D.Dk z (k + 1) h = 0 := by unfold Dk; rw [if_neg (by omega)]
      rw [this, mul_zero]
    rw [h0, zero_add]
  · rw [← sum_range_add_sum_Ico (fun c => D.S' c (64 * h + p) n * D.Dk k c h) (show k + 1 ≤ 33 by omega)]
    have h0 : ∑ c ∈ Ico (k + 1) 33, D.S' c (64 * h + p) n * D.Dk k c h = 0 := sum_eq_zero fun c hc => by
      have hc := mem_Ico.mp hc
      have : D.Dk k c h = 0 := by unfold Dk; rw [if_neg (by omega)]
      rw [this, mul_zero]
    rw [h0, add_zero]

end Data

end Cert.Ssd
-- ==== Proof.Ssd.Model.lean ====
/- One grid point of the kernel as a function of its blocks: what each named value of the body is, with the sixteen
   heads written as one function of the head's number. -/
module

public import proofs.«01_k».proof.Proof.Gen.KernelIdeal.Skeleton
public import Idealize.ShloMosaic.Lib.Pipeline.FrameBody
public import Idealize.ShloMosaic.Lib.Pointwise

@[expose] public section

noncomputable section

namespace Cert.Ssd

open Cert.KernelIdeal Cert.KernelIdeal.Gen Idealize.ShloMosaic

/-- The blocks one grid point reads: a chunk's output gradient, inputs, `B`/`C` lanes, raw time steps, the state that
    enters it, the biases, the logarithms of the decay rates, the skip weights, and the gradient `dn` of the state that
    leaves it. -/
structure Blk where
  dy : Vec Ideal S128x1024 .f32
  xs : Vec Ideal S128x1024 .f32
  bc : Vec Ideal S128x512 .f32
  dtf : Vec Ideal S128x128 .f32
  prev : Vec Ideal S1x128x1024 .f32
  bias : Vec Ideal S1x128 .f32
  alog : Vec Ideal S1x128 .f32
  dsk : Vec Ideal S1x1024 .f32
  dn : Vec Ideal S128x1024 .f32

/-! ## The head's operations -/

/-- The masked decay between two positions of a chunk, from the decay sums as a column and as a row. -/
def hL (cl : Vec Ideal S128x1 .f32) (rw : Vec Ideal S1x128 .f32) : FVec Ideal S128x128 .f32 :=
  select (cmpi .sle (iota .tc S128x128 32 [1] iota_S128x128_d1_w32) (iota .tc S128x128 32 [0] iota_S128x128_d0_w32))
    (exp (minimumf (subf (broadcastTo S128x128 cl broadcasts_S128x1_S128x128) (broadcastTo S128x128 rw broadcasts_S1x128_S128x128))
      (broadcast S128x128 (Scalar.ofBits .f32 0x00000000#32))))
    (broadcast S128x128 (Scalar.ofBits .f32 0x00000000#32))

/-- The product of the output gradient's rows with the inputs' rows. -/
def hD (dy x : FVec Ideal S128x64 .bf16) : FVec Ideal S128x128 .f32 :=
  matmul dot_S128x64_S128x64_S128x128_1_1_0_0_n_n none dy x (constant S128x128 .f32 0x00000000#32)

/-- The head's lanes of the input gradient, with the chunk's own part added. -/
def hX (old : FVec Ideal S128x64 .f32) (m : FVec Ideal S128x128 .f32) (dy : FVec Ideal S128x64 .bf16) : FVec Ideal S128x64 .f32 :=
  addf old (matmul dot_S128x128_S128x64_S128x64_0_0_1_1_n_n none (truncf .bf16 m bitsLt_bf16_f32) dy (constant S128x64 .f32 0x00000000#32))

/-- The row sums of `q`, put into column `n`. -/
def hCol (n : ℕ) (old q : FVec Ideal S128x128 .f32) : FVec Ideal S128x128 .f32 :=
  addf old (mulf
    (broadcastTo S128x128 (shapeCast S128x1 (multiReduction .add [1] S128 q 0x00000000#32 reduces_S128x128_S128 (.inl rfl) rfl) shapeCasts_S128_S128x1) broadcasts_S128x1_S128x128)
    (broadcastTo S128x128 (sitofp .f32 (extui 32 (cmpi .eq (iota .tc S1x128 32 [1] iota_S1x128_d1_w32) (broadcast S1x128 (BitVec.ofNat 32 n))) natLt_1_32)) broadcasts_S1x128_S128x128))

/-- The column sums of `q`, put into row `n`. -/
def hRow (n : ℕ) (old q : FVec Ideal S128x128 .f32) : FVec Ideal S128x128 .f32 :=
  addf old (mulf
    (broadcastTo S128x128 (sitofp .f32 (extui 32 (cmpi .eq (iota .tc S128x1 32 [0] iota_S128x1_d0_w32) (broadcast S128x1 (BitVec.ofNat 32 n))) natLt_1_32)) broadcasts_S128x1_S128x128)
    (broadcastTo S128x128 (shapeCast S1x128 (multiReduction .add [0] S128 q 0x00000000#32 reduces_S128x128_S128_2 (.inl rfl) rfl) shapeCasts_S128_S1x128) broadcasts_S1x128_S128x128))

namespace Blk

variable (b : Blk)

/-! ## What all heads share -/

def dt : FVec Ideal S128x128 .f32 := k0_pay5 b.dtf b.bias
def aneg : FVec Ideal S1x128 .f32 := k0_pay6 b.alog
def a : FVec Ideal S128x128 .f32 := k0_pay7 b.dtf b.bias b.alog
def ahi : FVec Ideal S128x128 .bf16 := k0_pay9 b.dtf b.bias b.alog
def cs : FVec Ideal S128x128 .f32 := k0_pay11 b.a k0_pay8 b.ahi
def csT : FVec Ideal S128x128 .f32 := k0_pay12 b.a k0_pay8 b.ahi
def eo : FVec Ideal S128x128 .f32 := k0_pay14 b.a k0_pay8 b.ahi
def we : FVec Ideal S128x128 .f32 := k0_pay15 b.a k0_pay8 b.ahi
def gend : FVec Ideal S1x128 .f32 := k0_pay16 b.a k0_pay8 b.ahi
def hi : FVec Ideal S384x128 .bf16 := k0_pay20 b.dt b.a k0_pay8 b.ahi
def lo : FVec Ideal S384x128 .bf16 := k0_pay21 b.dt b.a k0_pay8 b.ahi
def dtx : FVec Ideal S128x1024 .f32 := k0_pay23 k0_pay17 b.hi b.lo (constant S384x1024 .f32 0x00000000#32)
def wex : FVec Ideal S128x1024 .f32 := k0_pay24 k0_pay17 b.hi b.lo (constant S384x1024 .f32 0x00000000#32)
def gx : FVec Ideal S1x1024 .f32 := k0_pay25 b.gend k0_pay17
def x : FVec Ideal S128x1024 .f32 := k0_pay26 k0_pay17 b.hi b.lo (constant S384x1024 .f32 0x00000000#32) b.xs
def xsc : FVec Ideal S128x1024 .bf16 := k0_pay27 k0_pay17 b.hi b.lo (constant S384x1024 .f32 0x00000000#32) b.xs
def dysc : FVec Ideal S128x1024 .bf16 := k0_pay28 b.dy
def dyo : FVec Ideal S128x1024 .bf16 := k0_pay29 k0_pay17 b.hi b.lo (constant S384x1024 .f32 0x00000000#32) b.dy
def xw : FVec Ideal S128x1024 .bf16 := k0_pay30 k0_pay17 b.hi b.lo (constant S384x1024 .f32 0x00000000#32) b.xs
def prevf : FVec Ideal S128x1024 .f32 := k0_pay31 b.prev
def prevb : FVec Ideal S128x1024 .bf16 := k0_pay32 b.prev
def dnb : FVec Ideal S128x1024 .bf16 := k0_pay33 b.dn
def B0 : FVec Ideal S128x128 .f32 := View.ld (Val := Elt Ideal) (e' := .f32) b.bc (Rect.unit ![0, 0] S128x128.size inb_S128x512_S128x128_0_0)
def B1 : FVec Ideal S128x128 .f32 := View.ld (Val := Elt Ideal) (e' := .f32) b.bc (Rect.unit ![0, 128] S128x128.size inb_S128x512_S128x128_0_128)
def C0 : FVec Ideal S128x128 .f32 := View.ld (Val := Elt Ideal) (e' := .f32) b.bc (Rect.unit ![0, 256] S128x128.size inb_S128x512_S128x128_0_256)
def C1 : FVec Ideal S128x128 .f32 := View.ld (Val := Elt Ideal) (e' := .f32) b.bc (Rect.unit ![0, 384] S128x128.size inb_S128x512_S128x128_0_384)
def G (h : ℕ) : FVec Ideal S128x128 .f32 := if h < 8 then k0_pay38 b.B0 b.C0 else k0_pay123 b.B1 b.C1

/-! ## Head `h` -/

def col (h : ℕ) (hh : h < 16) : Vec Ideal S128x1 .f32 :=
  View.ld (Val := Elt Ideal) (e' := .f32) b.cs (Rect.unit ![0, h] S128x1.size (by
    intro a; match a with | 0 => show 0 + 128 ≤ 128; omega | 1 => show h + 1 ≤ 128; omega))
def row (h : ℕ) (hh : h < 16) : Vec Ideal S1x128 .f32 :=
  View.ld (Val := Elt Ideal) (e' := .f32) b.csT (Rect.unit ![h, 0] S1x128.size (by
    intro a; match a with | 0 => show h + 1 ≤ 128; omega | 1 => show 0 + 128 ≤ 128; omega))

/-- The bounds of head `h`'s lanes. -/
theorem lanes_inb (h : ℕ) (hh : h < 16) : ∀ a, (![0, 64 * h] : Fin 2 → Nat) a + S128x64.size a ≤ S128x1024.size a := by
  intro a; match a with | 0 => show 0 + 128 ≤ 128; omega | 1 => show 64 * h + 64 ≤ 1024; omega

def dyh (h : ℕ) (hh : h < 16) : FVec Ideal S128x64 .bf16 :=
  View.ld (Val := Elt Ideal) (e' := .bf16) b.dysc (Rect.unit ![0, 64 * h] S128x64.size (lanes_inb h hh))
def xh (h : ℕ) (hh : h < 16) : FVec Ideal S128x64 .bf16 :=
  View.ld (Val := Elt Ideal) (e' := .bf16) b.xsc (Rect.unit ![0, 64 * h] S128x64.size (lanes_inb h hh))
def L (h : ℕ) (hh : h < 16) : FVec Ideal S128x128 .f32 := hL (b.col h hh) (b.row h hh)
def M (h : ℕ) (hh : h < 16) : FVec Ideal S128x128 .f32 := mulf (b.G h) (b.L h hh)
def dM (h : ℕ) (hh : h < 16) : FVec Ideal S128x128 .f32 := hD (b.dyh h hh) (b.xh h hh)
def qm (h : ℕ) (hh : h < 16) : FVec Ideal S128x128 .f32 := mulf (b.dM h hh) (b.M h hh)

/-- The gradient of the group's products `C·B`, with the first `k` heads of the group `g` summed. -/
def dG (g : ℕ) (hg : g < 2) : (k : ℕ) → k ≤ 8 → FVec Ideal S128x128 .f32
  | 0, _ => broadcast S128x128 (Scalar.ofBits .f32 0x00000000#32)
  | k + 1, hk => addf (dG g hg k (by omega)) (mulf (b.dM (8 * g + k) (by omega)) (b.L (8 * g + k) (by omega)))

/-- The row sums of the first `h` heads' products. -/
def dcol : (h : ℕ) → h ≤ 16 → FVec Ideal S128x128 .f32
  | 0, _ => broadcast S128x128 (Scalar.ofBits .f32 0x00000000#32)
  | h + 1, hh => hCol h (dcol h (by omega)) (b.qm h (by omega))

/-- The column sums of the first `h` heads' products. -/
def drow : (h : ℕ) → h ≤ 16 → FVec Ideal S128x128 .f32
  | 0, _ => broadcast S128x128 (Scalar.ofBits .f32 0x00000000#32)
  | h + 1, hh => hRow h (drow h (by omega)) (b.qm h (by omega))

/-- The input gradient that comes through the state, one group's lanes. -/
def dx0 : FVec Ideal S128x512 .f32 := k0_pay40 b.wex b.dn b.B0
def dx1 : FVec Ideal S128x512 .f32 := k0_pay126 b.wex b.dnb b.B1

/-- The stores into the input gradient's scratch after the first `h` heads, last first. -/
def dxL : (h : ℕ) → h ≤ 16 → List (View.Piece (Elt Ideal) S128x1024 .f32)
  | 0, _ => [⟨Rect.unit ![0, 0] S128x512.size inb_S128x1024_S128x512_0_0, b.dx0⟩]
  | h + 1, hh =>
    let r : Rect S128x1024 := Rect.unit ![0, 64 * h] S128x64.size (lanes_inb h (by omega))
    let L := dxL h (by omega)
    let L' := if h = 7 then [⟨Rect.unit ![0, 512] S128x512.size inb_S128x1024_S128x512_0_512, b.dx1⟩] else []
    L' ++ ⟨r, hX (View.ld (Val := Elt Ideal) (View.canon L) r) (b.M h (by omega)) (b.dyh h (by omega))⟩ :: L

def dxd : FVec Ideal S128x1024 .f32 := View.canon (b.dxL 16 le_rfl)

/-! ## The sums over lanes -/

def deo : FVec Ideal S128x1024 .f32 :=
  View.canon (Val := Elt Ideal) (e := .f32) [⟨Rect.unit ![0, 512] S128x512.size inb_S128x1024_S128x512_0_512, k0_pay128 (k0_pay125 b.prevb b.C1) (k0_pay127 b.dy)⟩,
    ⟨Rect.unit ![0, 0] S128x512.size inb_S128x1024_S128x512_0_0, k0_pay41 b.dy b.prev b.C0⟩]
def dwe : FVec Ideal S128x1024 .f32 :=
  View.canon (Val := Elt Ideal) (e := .f32) [⟨Rect.unit ![0, 512] S128x512.size inb_S128x1024_S128x512_0_512, k0_pay129 b.x (k0_pay124 b.dnb b.B1)⟩,
    ⟨Rect.unit ![0, 0] S128x512.size inb_S128x1024_S128x512_0_0, k0_pay43 (k0_pay42 b.x b.dn b.B0)⟩]

def dcs : FVec Ideal S128x128 .f32 :=
  k0_pay218 b.eo b.we k0_pay18 (k0_pay215 k0_pay18 b.deo) (k0_pay216 k0_pay18 b.deo) b.dwe (b.dcol 16 le_rfl) (b.drow 16 le_rfl)
def last : FVec Ideal S1x128 .f32 := k0_pay219 b.we b.gend k0_pay18 b.prevf b.dn b.dwe
def da : FVec Ideal S128x128 .f32 := k0_pay220 b.dcs b.last (iota .tc S128x128 32 [0] iota_S128x128_d0_w32)
def ddt : FVec Ideal S128x128 .f32 := k0_pay221 b.aneg k0_pay18 b.xs b.dcs b.last (iota .tc S128x128 32 [0] iota_S128x128_d0_w32) b.dxd

/-! ## What the point leaves -/

def out8 : FVec Ideal S128x1024 .f32 := k0_pay222 b.dtx b.dy b.dxd b.dsk
def out9 : FVec Ideal S128x512 .f32 :=
  View.canon (Val := Elt Ideal) (e := .f32) [⟨Rect.unit ![0, 384] S128x128.size inb_S128x512_S128x128_0_384, k0_pay213 (k0_pay121 b.B1) (k0_pay131 b.dyo b.prevb) (b.dG 1 (by omega) 8 le_rfl)⟩,
    ⟨Rect.unit ![0, 128] S128x128.size inb_S128x512_S128x128_0_128, k0_pay212 (k0_pay122 b.C1) (k0_pay130 b.xw b.dnb) (b.dG 1 (by omega) 8 le_rfl)⟩,
    ⟨Rect.unit ![0, 256] S128x128.size inb_S128x512_S128x128_0_256, k0_pay120 (k0_pay36 b.B0) (k0_pay45 b.dyo b.prevb) (b.dG 0 (by omega) 8 le_rfl)⟩,
    ⟨Rect.unit ![0, 0] S128x128.size inb_S128x512_S128x128_0_0, k0_pay119 (k0_pay37 b.C0) (k0_pay44 b.xw b.dnb) (b.dG 0 (by omega) 8 le_rfl)⟩]
def out10 : FVec Ideal S128x128 .f32 := k0_pay223 b.dtf b.ddt b.bias
def out11 (old : Vec Ideal S1x128 .f32) : FVec Ideal S1x128 .f32 := k0_pay224 b.dt b.aneg b.da old
def out12 (old : Vec Ideal S1x128 .f32) : FVec Ideal S1x128 .f32 :=
  k0_pay1 k0_pay18 (k0_pay225 old) (k0_pay227 b.xs b.dy) (k0_pay228 b.xs b.dy) (k0_pay229 b.xs b.dy)
def next : FVec Ideal S128x1024 .f32 :=
  View.canon (Val := Elt Ideal) (e := .f32) [⟨Rect.unit ![0, 512] S128x512.size inb_S128x1024_S128x512_0_512, k0_pay132 b.gx b.dyo b.dn (k0_pay122 b.C1)⟩,
    ⟨Rect.unit ![0, 0] S128x512.size inb_S128x1024_S128x512_0_0, k0_pay46 b.gx b.dyo b.dn (k0_pay37 b.C0)⟩]

end Blk

end Cert.Ssd

end
-- ==== Proof.Ssd.Real.lean ====
/- Reading blocks of real numbers: sums, products and functions of extended reals that are real, and the contents of a
   buffer stored rectangle by rectangle of lanes. -/
module

public import Idealize.ShloMosaic.Lib.Pipeline.FrameBody
public import Idealize.ShloMosaic.Lib.Pointwise
public import Idealize.ShloMosaic.Lib.WordCmp
public import Mathlib.Tactic.Linarith

@[expose] public section

noncomputable section

namespace Cert.Ssd

open Finset Idealize.ShloMosaic

/-- A sum of real entries is the real sum. -/
theorem sum_coe {n : ℕ} {f : Fin n → EReal} (g : ℕ → ℝ) (h : ∀ k : Fin n, f k = ((g k : ℝ) : EReal)) :
    ∑ k, f k = ((∑ k ∈ range n, g k : ℝ) : EReal) := by
  rw [sum_congr rfl fun k _ => h k]
  induction n with
  | zero => simp
  | succ n ih =>
    rw [Fin.sum_univ_castSucc, sum_range_succ, EReal.coe_add]
    congr 1
    exact ih (f := fun k => ((g k : ℝ) : EReal)) fun _ => rfl

theorem max_coe (a b : ℝ) : max (a : EReal) (b : EReal) = ((max a b : ℝ) : EReal) :=
  ((EReal.coe_strictMono.monotone).map_max).symm
theorem min_coe (a b : ℝ) : min (a : EReal) (b : EReal) = ((min a b : ℝ) : EReal) :=
  ((EReal.coe_strictMono.monotone).map_min).symm

theorem abs_coe (a : ℝ) : max (a : EReal) (-(a : EReal)) = ((|a| : ℝ) : EReal) := by
  rw [← EReal.coe_neg, max_coe]; rfl

theorem zero_coe : (0 : EReal) = ((0 : ℝ) : EReal) := rfl
theorem one_coe : (1 : EReal) = ((1 : ℝ) : EReal) := rfl

theorem ite_coe (p : Prop) [Decidable p] (a b : ℝ) : (if p then (a : EReal) else (b : EReal)) = (((if p then a else b) : ℝ) : EReal) := by
  split_ifs <;> rfl

theorem sum_coe' {n : ℕ} (g : Fin n → ℝ) : ∑ k, ((g k : ℝ) : EReal) = ((∑ k, g k : ℝ) : EReal) := by
  rw [sum_coe (fun k => if h : k < n then g ⟨k, h⟩ else 0) fun k => by simp, Finset.sum_range]
  simp

theorem sub_self_coe (a : ℝ) : (a : EReal) - (a : EReal) = 0 := by rw [← EReal.coe_sub, sub_self]; rfl

theorem log_coe {a : ℝ} (h : 0 < a) : Ideal.log (a : EReal) = ((Real.log a : ℝ) : EReal) := by
  exact (Ideal.log_coe a).trans (if_neg h.not_ge)

theorem div_coe_coe {a b : ℝ} (h : b ≠ 0) : Ideal.div (a : EReal) (b : EReal) = ((a / b : ℝ) : EReal) := by
  rw [Ideal.div_coe h, ← EReal.coe_mul, mul_one_div]

theorem zero_sub_zero : (0 : EReal) - 0 = 0 := by simp

/-- A sum against the mask of the indices up to `r`. -/
theorem sum_le_mask (n r : ℕ) (hr : r < n) (f : ℕ → ℝ) :
    ∑ i ∈ range n, (if i ≤ r then 1 else 0) * f i = ∑ i ∈ range (r + 1), f i := by
  simp only [ite_mul, one_mul, zero_mul]
  rw [← sum_filter]
  refine sum_congr ?_ fun _ _ => rfl
  ext i
  simp only [mem_filter, mem_range]
  omega

/-- A sum against the mask of the indices from `r`. -/
theorem sum_ge_mask (n r : ℕ) (f : ℕ → ℝ) :
    ∑ i ∈ range n, (if r ≤ i then 1 else 0) * f i = ∑ i ∈ Ico r n, f i := by
  simp only [ite_mul, one_mul, zero_mul]
  rw [← sum_filter]
  refine sum_congr ?_ fun _ _ => rfl
  ext i
  simp only [mem_filter, mem_range, mem_Ico]
  omega

/-- A sum against the indicator of one index. -/
theorem sum_one_mask (n j : ℕ) (hj : j < n) (f : ℕ → ℝ) :
    ∑ i ∈ range n, f i * (if j = i then 1 else 0) = f j := by
  simp [hj]

/-! ## Comparisons of lane numbers -/

theorem sel_ofBool {α : Type} (p : Prop) [Decidable p] (x y : α) :
    Scalar.select (BitVec.ofBool (decide p)) x y = if p then x else y := by
  by_cases h : p <;> simp [h, Scalar.select]

theorem sitofp_ofBool (p : Prop) [Decidable p] :
    FloatOps.sitofp (F := Ideal) FTy.f32 (BitVec.setWidth 32 (BitVec.ofBool (decide p))) = (((if p then 1 else 0) : ℝ) : EReal) := by
  by_cases h : p
  · simp only [h, decide_true, if_true]
    show ((((BitVec.setWidth 32 (BitVec.ofBool true)).toInt : ℤ) : ℝ) : EReal) = _
    have : (BitVec.setWidth 32 (BitVec.ofBool true)).toInt = 1 := by decide
    rw [this]; norm_num
  · simp only [h, decide_false, if_false]
    show ((((BitVec.setWidth 32 (BitVec.ofBool false)).toInt : ℤ) : ℝ) : EReal) = _
    have : (BitVec.setWidth 32 (BitVec.ofBool false)).toInt = 0 := by decide
    rw [this]; norm_num

theorem cmp_slt (a b : ℕ) (ha : a < 2 ^ 31) (hb : b < 2 ^ 31) :
    IntOp.cmpi .slt (BitVec.ofNat 32 a) (BitVec.ofNat 32 b) = BitVec.ofBool (decide (a < b)) := WordCmp.cmpi_slt_ofNat ha hb
theorem cmp_sle (a b : ℕ) (ha : a < 2 ^ 31) (hb : b < 2 ^ 31) :
    IntOp.cmpi .sle (BitVec.ofNat 32 a) (BitVec.ofNat 32 b) = BitVec.ofBool (decide (a ≤ b)) := WordCmp.cmpi_sle_ofNat ha hb
theorem cmp_sge (a b : ℕ) (ha : a < 2 ^ 31) (hb : b < 2 ^ 31) :
    IntOp.cmpi .sge (BitVec.ofNat 32 a) (BitVec.ofNat 32 b) = BitVec.ofBool (decide (b ≤ a)) := WordCmp.cmpi_sge_ofNat ha hb
theorem cmp_eq (a b : ℕ) (ha : a < 2 ^ 31) (hb : b < 2 ^ 31) :
    IntOp.cmpi .eq (BitVec.ofNat 32 a) (BitVec.ofNat 32 b) = BitVec.ofBool (decide (a = b)) :=
  WordCmp.cmpi_eq_ofNat (w := 32) (by omega) (by omega)
theorem shr6 (a : ℕ) (ha : a < 2 ^ 31) : IntOp.shrui .vector (BitVec.ofNat 32 a) 6#32 = BitVec.ofNat 32 (a / 64) := by
  apply BitVec.eq_of_toNat_eq
  unfold IntOp.shrui
  simp [Nat.shiftRight_eq_div_pow]
  omega

/-- The reference's softplus and the kernel's, at a number. -/
theorem softplus_coe (v : ℝ) :
    max (v : EReal) 0 + Ideal.log (1 + Ideal.exp (0 - FloatOps.absf (F := Ideal) (φ := .f32) (v : EReal)))
      = ((max v 0 + Real.log (1 + Real.exp (-|v|)) : ℝ) : EReal) := by
  have habs : FloatOps.absf (F := Ideal) (φ := .f32) (v : EReal) = ((|v| : ℝ) : EReal) := abs_coe v
  rw [habs, zero_coe, one_coe, max_coe, ← EReal.coe_sub, Ideal.exp_coe, ← EReal.coe_add, log_coe (by have := Real.exp_pos (0 - |v|); linarith),
    ← EReal.coe_add, zero_sub]

section Canon
variable {Val : EltTy → Type} [∀ e, Nonempty (Val e)] {e : EltTy} {m n : ℕ}

/-- What a store of `w` lanes from lane `o` leaves: its own entries there, and what was before elsewhere. -/
theorem canon_lanes (o w : ℕ) (inb : ∀ a, (![0, o] : Fin 2 → Nat) a + (![m, w] : Fin 2 → Nat) a ≤ (⟨2, ![m, n]⟩ : Shape).size a)
    (p : (⟨2, ![m, w]⟩ : Shape).Idx → Val e) (L : List (View.Piece Val (⟨2, ![m, n]⟩ : Shape) e)) (r : Fin m) (j : Fin n) :
    View.canon ((⟨Rect.unit (s := (⟨2, ![m, n]⟩ : Shape)) ![0, o] ![m, w] inb, p⟩ : View.Piece Val (⟨2, ![m, n]⟩ : Shape) e) :: L) (ix2 r j)
      = if h : o ≤ j.val ∧ j.val < o + w then p (ix2 r ⟨j.val - o, by omega⟩) else View.canon L (ix2 r j) := by
  split_ifs with h
  · have he : (Rect.unit (s := (⟨2, ![m, n]⟩ : Shape)) ![0, o] ![m, w] inb).emb (ix2 r (⟨j.val - o, by omega⟩ : Fin w)) = ix2 r j := by
      funext x; apply Fin.ext
      match x with
      | 0 => show 0 + 1 * r.val = r.val; omega
      | 1 => show o + 1 * (j.val - o) = j.val; omega
    rw [← he]
    exact View.canon_cons_emb (Rect.unit (s := (⟨2, ![m, n]⟩ : Shape)) ![0, o] ![m, w] inb) p L (ix2 r (⟨j.val - o, by omega⟩ : Fin w))
  · refine View.canon_cons_of_not_mem _ L fun hm => h ?_
    obtain ⟨i, hi, he⟩ := (LoadRect.mem_set _).mp hm (1 : Fin 2)
    have hi : i < w := hi
    have he : j.val = o + 1 * i := he
    omega

/-- A load of `w` lanes from lane `o`. -/
theorem ld_lanes (r₀ m' o w : ℕ) (inb : ∀ a, (![r₀, o] : Fin 2 → Nat) a + (![m', w] : Fin 2 → Nat) a ≤ (⟨2, ![m, n]⟩ : Shape).size a)
    (X : (⟨2, ![m, n]⟩ : Shape).Idx → Val e) (r : Fin m') (j : Fin w) (hr : r₀ + r.val < m) (hj : o + j.val < n) :
    View.ld X (Rect.unit (s := (⟨2, ![m, n]⟩ : Shape)) ![r₀, o] ![m', w] inb) (ix2 r j) = X (ix2 ⟨r₀ + r.val, hr⟩ ⟨o + j.val, hj⟩) := by
  unfold View.ld
  congr 1
  funext x; apply Fin.ext
  match x with
  | 0 => show r₀ + 1 * r.val = r₀ + r.val; omega
  | 1 => show o + 1 * j.val = o + j.val; omega

end Canon

end Cert.Ssd

end
-- ==== Proof.Ssd.Sem.lean ====
/- The model's values at an index, in numbers: if the blocks of one grid point are those of chunk `k` of the real data,
   each named value of the point is the number of Proof/Ssd/Spec.lean. This file: what the heads share. -/
module

public import proofs.«01_k».proof.Proof.Ssd.Spec
public import proofs.«01_k».proof.Proof.Ssd.Model
public import proofs.«01_k».proof.Proof.Ssd.Real

@[expose] public section

noncomputable section

namespace Cert.Ssd

open Finset Cert.KernelIdeal Cert.KernelIdeal.Gen Idealize.ShloMosaic

/-- The blocks hold chunk `k` of the data. -/
structure Holds (b : Blk) (D : Data) (k : ℕ) : Prop where
  dy : ∀ (r : Fin 128) (j : Fin 1024), b.dy (ix2 r j) = ((D.dy (128 * k + r) j : ℝ) : EReal)
  xs : ∀ (r : Fin 128) (j : Fin 1024), b.xs (ix2 r j) = ((D.xs (128 * k + r) j : ℝ) : EReal)
  bc : ∀ (r : Fin 128) (j : Fin 512), b.bc (ix2 r j) = ((D.bc (128 * k + r) j : ℝ) : EReal)
  u : ∀ (r l : Fin 128), l.val < 16 → b.dtf (ix2 r l) + b.bias (ix2 0 l) = ((D.u (128 * k + r) l : ℝ) : EReal)
  prev : ∀ (n : Fin 128) (j : Fin 1024), b.prev (ix3 0 n j) = ((D.prev k j n : ℝ) : EReal)
  alog : ∀ l : Fin 128, b.alog (ix2 0 l) = ((D.al l : ℝ) : EReal)
  dsk : ∀ j : Fin 1024, b.dsk (ix2 0 j) = ((D.ds (j / 64) : ℝ) : EReal)
  dn : ∀ (n : Fin 128) (j : Fin 1024), b.dn (ix2 n j) = ((D.dn k j n : ℝ) : EReal)

namespace Holds

variable {b : Blk} {D : Data} {k : ℕ} (H : Holds b D k)
include H

theorem dt (r l : Fin 128) : b.dt (ix2 r l) = ((D.dt (128 * k + r) l : ℝ) : EReal) := by
  unfold Blk.dt
  pointwise [k0_pay5]
  rw [cmp_slt _ 16 (by omega) (by omega), sel_ofBool]
  by_cases h : l.val < 16
  · rw [if_pos h, H.u r l h, softplus_coe]
    exact congrArg _ (if_pos h).symm
  · rw [if_neg h, zero_coe]
    exact congrArg _ (if_neg h).symm

theorem aneg (l : Fin 128) : b.aneg (ix2 0 l) = ((D.A l : ℝ) : EReal) := by
  unfold Blk.aneg
  pointwise [k0_pay6]
  rw [H.alog, cmp_slt _ 16 (by omega) (by omega), sel_ofBool, Ideal.exp_coe, zero_coe, ← EReal.coe_sub, ite_coe, zero_sub]
  rfl

theorem a (r l : Fin 128) : b.a (ix2 r l) = ((D.a (128 * k + r) l : ℝ) : EReal) := by
  have h1 := H.dt r l
  have h2 := H.aneg l
  unfold Blk.dt at h1
  unfold Blk.aneg at h2
  unfold Blk.a
  pointwise [k0_pay7]
  rw [h1, h2, ← EReal.coe_mul]
  rfl

theorem cs' (r l : Fin 128) : k0_pay10 b.a k0_pay8 b.ahi (ix2 r l) = ((D.cs k r l : ℝ) : EReal) := by
  have ha : ∀ x : Fin 128, k0_pay7 b.dtf b.bias b.alog (ix2 x l) = ((D.a (128 * k + x) l : ℝ) : EReal) := fun x => H.a x l
  have hm : ∀ x : Fin 128, FloatOps.sitofp (F := Ideal) FTy.f32
      (BitVec.setWidth 32 (IntOp.cmpi CmpIPredicate.sle (BitVec.ofNat 32 ↑x) (BitVec.ofNat 32 ↑r)))
        = (((if x.val ≤ r.val then 1 else 0) : ℝ) : EReal) := fun x => by
    rw [cmp_sle _ _ (by omega) (by omega), sitofp_ofBool]
  unfold Blk.ahi
  pointwise [k0_pay10, k0_pay8, k0_pay9]
  simp only [ha, hm, H.a, sub_self_coe, zero_sub_zero, mul_zero, sum_const_zero, add_zero, ← EReal.coe_mul]
  rw [sum_coe (fun x => (if x ≤ r.val then 1 else 0) * D.a (128 * k + x) l) fun _ => rfl, sum_le_mask 128 r r.isLt]
  rfl

theorem cs (r l : Fin 128) : b.cs (ix2 r l) = ((D.cs k r l : ℝ) : EReal) := by
  rw [← H.cs' r l]
  unfold Blk.cs
  pointwise [k0_pay11]

theorem csT (r l : Fin 128) : b.csT (ix2 l r) = ((D.cs k r l : ℝ) : EReal) := by
  rw [← H.cs' r l]
  unfold Blk.csT
  pointwise [k0_pay12]

theorem tot (l : Fin 128) : k0_pay13 b.a k0_pay8 b.ahi (ix2 0 l) = ((D.tot k l : ℝ) : EReal) := by
  refine Eq.trans ?_ (H.cs' 127 l)
  pointwise [k0_pay13]

theorem eo (r l : Fin 128) : b.eo (ix2 r l) = ((D.eo k r l : ℝ) : EReal) := by
  unfold Blk.eo
  pointwise [k0_pay14]
  rw [H.cs', Ideal.exp_coe]
  rfl

theorem we (r l : Fin 128) : b.we (ix2 r l) = ((D.we k r l : ℝ) : EReal) := by
  unfold Blk.we
  pointwise [k0_pay15]
  rw [H.cs', H.tot, ← EReal.coe_sub, Ideal.exp_coe]
  rfl

theorem gend (l : Fin 128) : b.gend (ix2 0 l) = ((Real.exp (D.tot k l) : ℝ) : EReal) := by
  unfold Blk.gend
  pointwise [k0_pay16]
  rw [H.tot, Ideal.exp_coe]

omit H in
/-- The matrix that repeats a head's number on its lanes. -/
theorem expand (r : Fin 128) (j : Fin 1024) :
    k0_pay17 (F := Ideal) (ix2 r j) = (((if j.val / 64 = r.val then 1 else 0) : ℝ) : EReal) := by
  pointwise [k0_pay17]
  rw [shr6 _ (by omega), cmp_eq _ _ (by omega) (by omega), sitofp_ofBool]

omit H in
/-- The matrix that sums a head's lanes. -/
theorem collect (j : Fin 1024) (h : Fin 128) :
    k0_pay18 (F := Ideal) (ix2 j h) = (((if j.val / 64 = h.val then 1 else 0) : ℝ) : EReal) := by
  pointwise [k0_pay18]
  rw [shr6 _ (by omega), cmp_eq _ _ (by omega) (by omega), sitofp_ofBool]

omit H in
/-- A number of the head, repeated on its lanes. -/
theorem sum_expand (f : ℕ → ℝ) (j : Fin 1024) :
    ∑ x : Fin 128, ((f x : ℝ) : EReal) * k0_pay17 (F := Ideal) (ix2 x j) = ((f (j / 64) : ℝ) : EReal) := by
  simp only [expand, ← EReal.coe_mul]
  rw [sum_coe (fun x => f x * (if j.val / 64 = x then 1 else 0)) fun _ => rfl, sum_one_mask 128 _ (by omega)]

omit H in
/-- The sum of a head's lanes. -/
theorem sum_collect (f : ℕ → ℝ) (h : Fin 128) :
    ∑ x : Fin 1024, ((f x : ℝ) : EReal) * k0_pay18 (F := Ideal) (ix2 x h) = ((hsum f h : ℝ) : EReal) := by
  simp only [collect, ← EReal.coe_mul]
  rw [sum_coe (fun x => f x * (if x / 64 = h.val then 1 else 0)) fun _ => rfl, Data.sum_lanes]

theorem dtx (r : Fin 128) (j : Fin 1024) : b.dtx (ix2 r j) = ((D.dt (128 * k + r) (j / 64) : ℝ) : EReal) := by
  unfold Blk.dtx Blk.hi Blk.lo
  pointwise [k0_pay23, k0_pay22, k0_pay20, k0_pay21, k0_pay19]
  simp only [H.dt, sub_self_coe, zero_mul, sum_const_zero, add_zero]
  exact sum_expand (fun x => D.dt (128 * k + r) x) j

theorem third (r x : Fin 128) :
    k0_pay19 b.dt b.a k0_pay8 b.ahi (ix2 (⟨256 + r.val, by omega⟩ : Fin 384) x) = ((D.we k r x : ℝ) : EReal) := by
  refine Eq.trans ?_ (H.we r x)
  unfold Blk.we
  pointwise [k0_pay19]
  rw [dif_neg (by omega), dif_neg (by omega)]
  congr 2
  apply Fin.ext
  show 256 + r.val - 128 - 128 = r.val
  omega

theorem wex (r : Fin 128) (j : Fin 1024) : b.wex (ix2 r j) = ((D.we k r (j / 64) : ℝ) : EReal) := by
  unfold Blk.wex Blk.hi Blk.lo
  pointwise [k0_pay24, k0_pay22, k0_pay20, k0_pay21]
  simp only [H.third, sub_self_coe, zero_mul, sum_const_zero, add_zero]
  exact sum_expand (fun x => D.we k r x) j

theorem x (r : Fin 128) (j : Fin 1024) : b.x (ix2 r j) = ((D.x (128 * k + r) j : ℝ) : EReal) := by
  have hd := H.dtx r j
  unfold Blk.dtx at hd
  unfold Blk.x
  pointwise [k0_pay26]
  rw [H.xs, hd, ← EReal.coe_mul]
  rfl

theorem xsc (r : Fin 128) (j : Fin 1024) : b.xsc (ix2 r j) = ((D.x (128 * k + r) j : ℝ) : EReal) := by
  rw [← H.x r j]
  unfold Blk.xsc Blk.x
  pointwise [k0_pay27]

theorem dysc (r : Fin 128) (j : Fin 1024) : b.dysc (ix2 r j) = ((D.dy (128 * k + r) j : ℝ) : EReal) := by
  rw [← H.dy r j]
  unfold Blk.dysc
  pointwise [k0_pay28]

theorem dyo (r : Fin 128) (j : Fin 1024) : b.dyo (ix2 r j) = ((D.dy (128 * k + r) j * D.eo k r (j / 64) : ℝ) : EReal) := by
  have hw : ∀ x : Fin 128, k0_pay14 b.a k0_pay8 b.ahi (ix2 r x) = ((D.eo k r x : ℝ) : EReal) := fun x => H.eo r x
  unfold Blk.dyo Blk.hi Blk.lo
  pointwise [k0_pay29, k0_pay22, k0_pay20, k0_pay21, k0_pay19]
  simp only [hw, sub_self_coe, zero_mul, sum_const_zero, add_zero]
  rw [sum_expand (fun x => D.eo k r x) j, H.dy, ← EReal.coe_mul]

theorem xw (r : Fin 128) (j : Fin 1024) : b.xw (ix2 r j) = ((D.x (128 * k + r) j * D.we k r (j / 64) : ℝ) : EReal) := by
  have h1 := H.x r j
  have h2 := H.wex r j
  unfold Blk.x at h1
  unfold Blk.wex at h2
  unfold Blk.xw
  pointwise [k0_pay30]
  rw [h1, h2, ← EReal.coe_mul]

theorem gx (j : Fin 1024) : b.gx (ix2 0 j) = ((Real.exp (D.tot k (j / 64)) : ℝ) : EReal) := by
  unfold Blk.gx
  pointwise [k0_pay25]
  simp only [H.gend, sub_self_coe, zero_sub_zero, zero_mul, sum_const_zero, add_zero]
  exact sum_expand (fun x => Real.exp (D.tot k x)) j

theorem prevf (n : Fin 128) (j : Fin 1024) : b.prevf (ix2 n j) = ((D.prev k j n : ℝ) : EReal) := by
  rw [← H.prev n j]
  unfold Blk.prevf
  pointwise [k0_pay31]

theorem prevb (n : Fin 128) (j : Fin 1024) : b.prevb (ix2 n j) = ((D.prev k j n : ℝ) : EReal) := by
  rw [← H.prev n j]
  unfold Blk.prevb
  pointwise [k0_pay32, k0_pay31]

theorem dnb (n : Fin 128) (j : Fin 1024) : b.dnb (ix2 n j) = ((D.dn k j n : ℝ) : EReal) := by
  rw [← H.dn n j]
  unfold Blk.dnb
  pointwise [k0_pay33]

theorem B0 (r n : Fin 128) : b.B0 (ix2 r n) = ((D.Bm (128 * k + r) 0 n : ℝ) : EReal) := by
  refine (ld_lanes 0 128 0 128 _ b.bc r n (by omega) (by omega)).trans ((H.bc _ _).trans ?_)
  simp [Data.Bm]

theorem B1 (r n : Fin 128) : b.B1 (ix2 r n) = ((D.Bm (128 * k + r) 1 n : ℝ) : EReal) := by
  refine (ld_lanes 0 128 128 128 _ b.bc r n (by omega) (by omega)).trans ((H.bc _ _).trans ?_)
  simp [Data.Bm]

theorem C0 (r n : Fin 128) : b.C0 (ix2 r n) = ((D.Cm (128 * k + r) 0 n : ℝ) : EReal) := by
  refine (ld_lanes 0 128 256 128 _ b.bc r n (by omega) (by omega)).trans ((H.bc _ _).trans ?_)
  simp [Data.Cm]

theorem C1 (r n : Fin 128) : b.C1 (ix2 r n) = ((D.Cm (128 * k + r) 1 n : ℝ) : EReal) := by
  refine (ld_lanes 0 128 384 128 _ b.bc r n (by omega) (by omega)).trans ((H.bc _ _).trans ?_)
  simp [Data.Cm]

theorem G (h : ℕ) (hh : h < 16) (l s : Fin 128) : b.G h (ix2 l s) = ((D.G k (h / 8) l s : ℝ) : EReal) := by
  unfold Blk.G
  split_ifs with h8
  · pointwise [k0_pay38, k0_pay37, k0_pay36]
    simp only [H.B0, H.C0, ← EReal.coe_mul]
    rw [sum_coe (fun n => D.Cm (128 * k + l) 0 n * D.Bm (128 * k + s) 0 n) fun _ => rfl, show h / 8 = 0 by omega]
    rfl
  · pointwise [k0_pay123, k0_pay122, k0_pay121]
    simp only [H.B1, H.C1, ← EReal.coe_mul]
    rw [sum_coe (fun n => D.Cm (128 * k + l) 1 n * D.Bm (128 * k + s) 1 n) fun _ => rfl, show h / 8 = 1 by omega]
    rfl

end Holds

end Cert.Ssd

end
-- ==== Proof.Ssd.Heads.lean ====
/- The values of one head at an index, in numbers, and the sums over the heads by induction on the head's number. -/
module

public import proofs.«01_k».proof.Proof.Ssd.Sem

@[expose] public section

noncomputable section

namespace Cert.Ssd

open Finset Cert.KernelIdeal Cert.KernelIdeal.Gen Idealize.ShloMosaic

/-- The sum of one more head, put into its own column. -/
theorem add_head (h : ℕ) (f : ℕ → ℝ) (m : ℕ) :
    (if h < m then f h else 0) + f m * (if h = m then 1 else 0) = if h < m + 1 then f h else 0 := by
  by_cases h1 : h = m
  · subst h1; simp
  · by_cases h2 : h < m
    · rw [if_pos h2, if_neg h1, if_pos (by omega), mul_zero, add_zero]
    · rw [if_neg h2, if_neg h1, if_neg (by omega), mul_zero, add_zero]

namespace Holds

variable {b : Blk} {D : Data} {k : ℕ} (H : Holds b D k)
include H

theorem col (h : ℕ) (hh : h < 16) (l : Fin 128) : b.col h hh (ix2 l 0) = ((D.cs k l h : ℝ) : EReal) := by
  have h1 : 0 + l.val < 128 := by omega
  have h2 : h + 0 < 128 := by omega
  refine (ld_lanes (Val := Elt Ideal) (e := .f32) 0 128 (h) 1 _ b.cs l 0 h1 h2).trans ((H.cs ⟨_, h1⟩ ⟨_, h2⟩).trans ?_)
  simp

theorem row (h : ℕ) (hh : h < 16) (l : Fin 128) : b.row h hh (ix2 0 l) = ((D.cs k l h : ℝ) : EReal) := by
  have h1 : h + 0 < 128 := by omega
  have h2 : 0 + l.val < 128 := by omega
  refine (ld_lanes (Val := Elt Ideal) (e := .f32) h 1 (0) 128 _ b.csT 0 l h1 h2).trans ((H.csT ⟨_, h2⟩ ⟨_, h1⟩).trans ?_)
  simp

theorem dyh (h : ℕ) (hh : h < 16) (l : Fin 128) (p : Fin 64) : b.dyh h hh (ix2 l p) = ((D.dy (128 * k + l) (64 * h + p) : ℝ) : EReal) := by
  have h1 : 0 + l.val < 128 := by omega
  have h2 : 64 * h + p.val < 1024 := by omega
  refine (ld_lanes (Val := Elt Ideal) (e := .bf16) 0 128 (64 * h) 64 _ b.dysc l p h1 h2).trans ((H.dysc ⟨_, h1⟩ ⟨_, h2⟩).trans ?_)
  simp

theorem xh (h : ℕ) (hh : h < 16) (l : Fin 128) (p : Fin 64) : b.xh h hh (ix2 l p) = ((D.x (128 * k + l) (64 * h + p) : ℝ) : EReal) := by
  have h1 : 0 + l.val < 128 := by omega
  have h2 : 64 * h + p.val < 1024 := by omega
  refine (ld_lanes (Val := Elt Ideal) (e := .bf16) 0 128 (64 * h) 64 _ b.xsc l p h1 h2).trans ((H.xsc ⟨_, h1⟩ ⟨_, h2⟩).trans ?_)
  simp

theorem L (h : ℕ) (hh : h < 16) (l s : Fin 128) : b.L h hh (ix2 l s) = ((D.L k h l s : ℝ) : EReal) := by
  unfold Blk.L
  pointwise [hL]
  rw [H.col, H.row, cmp_sle _ _ (by omega) (by omega), sel_ofBool, ← EReal.coe_sub, zero_coe, min_coe, Ideal.exp_coe, ite_coe, D.L_clip]

theorem M (h : ℕ) (hh : h < 16) (l s : Fin 128) : b.M h hh (ix2 l s) = ((D.M k h l s : ℝ) : EReal) := by
  unfold Blk.M
  pointwise
  rw [H.G h hh, H.L, ← EReal.coe_mul]
  rfl

theorem dM (h : ℕ) (hh : h < 16) (l s : Fin 128) : b.dM h hh (ix2 l s) = ((D.dM k h l s : ℝ) : EReal) := by
  unfold Blk.dM
  pointwise [hD]
  simp only [H.dyh, H.xh, ← EReal.coe_mul]
  exact sum_coe (fun p => D.dy (128 * k + l) (64 * h + p) * D.x (128 * k + s) (64 * h + p)) fun _ => rfl

theorem qm (h : ℕ) (hh : h < 16) (l s : Fin 128) : b.qm h hh (ix2 l s) = ((D.qm k h l s : ℝ) : EReal) := by
  unfold Blk.qm
  pointwise
  rw [H.dM, H.M, ← EReal.coe_mul]
  rfl

theorem dG_upto (g : ℕ) (hg : g < 2) (l s : Fin 128) : (m : ℕ) → (hm : m ≤ 8) →
    b.dG g hg m hm (ix2 l s) = ((∑ e ∈ range m, D.dM k (8 * g + e) l s * D.L k (8 * g + e) l s : ℝ) : EReal)
  | 0, _ => by
    unfold Blk.dG
    pointwise
    simp
  | m + 1, hm => by
    have ih := dG_upto g hg l s m (by omega)
    unfold Blk.dG
    pointwise
    rw [ih, H.dM, H.L, ← EReal.coe_mul, ← EReal.coe_add, sum_range_succ]

theorem dG (g : ℕ) (hg : g < 2) (l s : Fin 128) : b.dG g hg 8 le_rfl (ix2 l s) = ((D.dG k g l s : ℝ) : EReal) :=
  H.dG_upto g hg l s 8 le_rfl

theorem dcol_upto (l h : Fin 128) : (m : ℕ) → (hm : m ≤ 16) →
    b.dcol m hm (ix2 l h) = (((if h.val < m then ∑ s ∈ range 128, D.qm k h l s else 0) : ℝ) : EReal)
  | 0, _ => by
    unfold Blk.dcol
    pointwise
    simp
  | m + 1, hm => by
    have ih := dcol_upto l h m (by omega)
    unfold Blk.dcol
    pointwise [hCol]
    simp only [H.qm]
    rw [ih, sum_coe (fun s => D.qm k m l s) fun _ => rfl, cmp_eq _ _ (by omega) (by omega), sitofp_ofBool, ← EReal.coe_mul, ← EReal.coe_add]
    exact congrArg _ (add_head _ (fun h => ∑ s ∈ range 128, D.qm k h l s) m)

theorem drow_upto (l h : Fin 128) : (m : ℕ) → (hm : m ≤ 16) →
    b.drow m hm (ix2 h l) = (((if h.val < m then ∑ s ∈ range 128, D.qm k h s l else 0) : ℝ) : EReal)
  | 0, _ => by
    unfold Blk.drow
    pointwise
    simp
  | m + 1, hm => by
    have ih := drow_upto l h m (by omega)
    unfold Blk.drow
    pointwise [hRow]
    simp only [H.qm]
    rw [ih, sum_coe (fun s => D.qm k m s l) fun _ => rfl, cmp_eq _ _ (by omega) (by omega), sitofp_ofBool, ← EReal.coe_mul, ← EReal.coe_add,
      mul_comm]
    exact congrArg _ (add_head _ (fun h => ∑ s ∈ range 128, D.qm k h s l) m)

theorem dx0 (r : Fin 128) (j : Fin 512) : b.dx0 (ix2 r j) = ((D.bds k r j * D.we k r (j / 64) : ℝ) : EReal) := by
  unfold Blk.dx0
  pointwise [k0_pay40, k0_pay39, k0_pay36, k0_pay33]
  simp only [H.B0, H.dn, H.wex, ← EReal.coe_mul]
  rw [sum_coe (fun n => D.Bm (128 * k + r) 0 n * D.dn k j n) fun _ => rfl, ← EReal.coe_mul]
  unfold Data.bds
  rw [show j.val / 512 = 0 by omega]

theorem dx1 (r : Fin 128) (j : Fin 512) : b.dx1 (ix2 r j) = ((D.bds k r (512 + j) * D.we k r ((512 + j) / 64) : ℝ) : EReal) := by
  unfold Blk.dx1
  pointwise [k0_pay126, k0_pay124, k0_pay121]
  simp only [H.B1, H.dnb, H.wex, ← EReal.coe_mul]
  rw [sum_coe (fun n => D.Bm (128 * k + r) 1 n * D.dn k (512 + j) n) fun _ => rfl, ← EReal.coe_mul]
  unfold Data.bds
  rw [show (512 + j.val) / 512 = 1 by omega]

/-- The scratch of the input gradient after `m` heads: the lanes of those heads are finished. -/
theorem dx_upto (r : Fin 128) : (m : ℕ) → (hm : m ≤ 16) → (j : Fin 1024) → (j.val < 512 ∨ 8 ≤ m) →
    View.canon (Val := Elt Ideal) (b.dxL m hm) (ix2 r j)
      = ((D.bds k r j * D.we k r (j / 64) + (if j.val / 64 < m then D.dxd k r j else 0) : ℝ) : EReal)
  | 0, _, j, hj => by
    unfold Blk.dxL
    refine (canon_lanes (Val := Elt Ideal) (e := .f32) 0 512 _ b.dx0 _ r j).trans ?_
    rw [dif_pos (by omega), H.dx0, if_neg (by omega), add_zero]
    simp
  | m + 1, hm, j, hj => by
    have step : ∀ hj' : j.val < 512 ∨ 8 ≤ m, View.canon (Val := Elt Ideal)
        ((⟨Rect.unit (s := S128x1024) ![0, 64 * m] S128x64.size (Blk.lanes_inb m (by omega)),
          hX (View.ld (Val := Elt Ideal) (View.canon (b.dxL m (by omega))) (Rect.unit (s := S128x1024) ![0, 64 * m] S128x64.size (Blk.lanes_inb m (by omega))))
            (b.M m (by omega)) (b.dyh m (by omega))⟩ : View.Piece (Elt Ideal) S128x1024 .f32) :: b.dxL m (by omega)) (ix2 r j)
        = ((D.bds k r j * D.we k r (j / 64) + (if j.val / 64 < m + 1 then D.dxd k r j else 0) : ℝ) : EReal) := fun hj' => by
      refine (canon_lanes (Val := Elt Ideal) (e := .f32) (64 * m) 64 _ _ _ r j).trans ?_
      split_ifs with hin hlt hlt
      · have h2 : 64 * m + (j.val - 64 * m) < 1024 := by omega
        have hjj : (⟨64 * m + (j.val - 64 * m), h2⟩ : Fin 1024) = j := Fin.ext (by show 64 * m + (j.val - 64 * m) = j.val; omega)
        pointwise [hX]
        rw [hjj, dx_upto r m (by omega) j hj', if_neg (by omega)]
        simp only [H.M, H.dyh, ← EReal.coe_mul]
        rw [sum_coe (fun x => D.M k m x r * D.dy (128 * k + x) (64 * m + (j.val - 64 * m))) fun _ => rfl, ← EReal.coe_add, add_zero]
        unfold Data.dxd
        rw [show 64 * m + (j.val - 64 * m) = j.val by omega, show j.val / 64 = m by omega]
      · omega
      · rw [dx_upto r m (by omega) j hj', if_pos (by omega)]
      · rw [dx_upto r m (by omega) j hj', if_neg (by omega)]
    unfold Blk.dxL
    by_cases h7 : m = 7
    · subst h7
      rw [if_pos rfl]
      refine (canon_lanes (Val := Elt Ideal) (e := .f32) 512 512 _ b.dx1 _ r j).trans ?_
      split_ifs with hin hlt hlt
      · omega
      · rw [H.dx1]
        simp only [add_zero]
        rw [show 512 + (j.val - 512) = j.val by omega]
      · exact (step (by omega)).trans (by rw [if_pos hlt])
      · exact (step (by omega)).trans (by rw [if_neg hlt])
    · rw [if_neg h7]
      exact step (by omega)

theorem dxd (r : Fin 128) (j : Fin 1024) : b.dxd (ix2 r j) = ((D.dx k r j : ℝ) : EReal) := by
  refine (H.dx_upto r 16 le_rfl j (by omega)).trans ?_
  rw [if_pos (by omega)]
  rfl

end Holds

end Cert.Ssd

end
-- ==== Proof.Ssd.Outs.lean ====
/- What one grid point leaves, in numbers: the five result blocks and the state gradient it hands on. -/
module

public import proofs.«01_k».proof.Proof.Ssd.Heads

@[expose] public section

noncomputable section

namespace Cert.Ssd

open Finset Cert.KernelIdeal Cert.KernelIdeal.Gen Idealize.ShloMosaic

/-- A buffer filled in two halves of its lanes. -/
theorem halves_at (i1 i2) (p q : FVec Ideal S128x512 .f32) (f : ℕ → ℕ → ℝ)
    (hp : ∀ (r : Fin 128) (j : Fin 512), p (ix2 r j) = ((f r (512 + j) : ℝ) : EReal))
    (hq : ∀ (r : Fin 128) (j : Fin 512), q (ix2 r j) = ((f r j : ℝ) : EReal)) (r : Fin 128) (j : Fin 1024) :
    View.canon (Val := Elt Ideal) (e := .f32) (s := S128x1024) [⟨Rect.unit ![0, 512] S128x512.size i1, p⟩, ⟨Rect.unit ![0, 0] S128x512.size i2, q⟩] (ix2 r j)
      = ((f r j : ℝ) : EReal) := by
  refine (canon_lanes (Val := Elt Ideal) (e := .f32) 512 512 i1 p _ r j).trans ?_
  split_ifs with h
  · rw [hp]
    simp only []
    rw [show 512 + (j.val - 512) = j.val by omega]
  · refine (canon_lanes (Val := Elt Ideal) (e := .f32) 0 512 i2 q _ r j).trans ?_
    rw [dif_pos (by omega), hq]
    simp

namespace Holds

variable {b : Blk} {D : Data} {k : ℕ} (H : Holds b D k)
include H

theorem deo (r : Fin 128) (j : Fin 1024) : b.deo (ix2 r j) = ((D.dy (128 * k + r) j * D.csn k r j : ℝ) : EReal) := by
  refine halves_at _ _ _ _ (fun r j => D.dy (128 * k + r) j * D.csn k r j) (fun r j => ?_) (fun r j => ?_) r j
  · pointwise [k0_pay128, k0_pay125, k0_pay127, k0_pay122]
    simp only [H.C1, H.prevb, H.dy, ← EReal.coe_mul]
    rw [sum_coe (fun n => D.Cm (128 * k + r) 1 n * D.prev k (512 + j) n) fun _ => rfl, ← EReal.coe_mul]
    unfold Data.csn
    rw [show (512 + j.val) / 512 = 1 by omega]
  · pointwise [k0_pay41, k0_pay37, k0_pay32, k0_pay31]
    simp only [H.C0, H.prev, H.dy, ← EReal.coe_mul]
    rw [sum_coe (fun n => D.Cm (128 * k + r) 0 n * D.prev k j n) fun _ => rfl, ← EReal.coe_mul]
    unfold Data.csn
    rw [show j.val / 512 = 0 by omega]

theorem dwe (r : Fin 128) (j : Fin 1024) : b.dwe (ix2 r j) = ((D.bds k r j * D.x (128 * k + r) j : ℝ) : EReal) := by
  refine halves_at _ _ _ _ (fun r j => D.bds k r j * D.x (128 * k + r) j) (fun r j => ?_) (fun r j => ?_) r j
  · pointwise [k0_pay129, k0_pay124, k0_pay121]
    simp only [H.B1, H.dnb, H.x, ← EReal.coe_mul]
    rw [sum_coe (fun n => D.Bm (128 * k + r) 1 n * D.dn k (512 + j) n) fun _ => rfl, ← EReal.coe_mul]
    unfold Data.bds
    rw [show (512 + j.val) / 512 = 1 by omega]
  · pointwise [k0_pay43, k0_pay42, k0_pay39, k0_pay36, k0_pay33]
    simp only [H.B0, H.dn, H.x, ← EReal.coe_mul]
    rw [sum_coe (fun n => D.Bm (128 * k + r) 0 n * D.dn k j n) fun _ => rfl, ← EReal.coe_mul]
    unfold Data.bds
    rw [show j.val / 512 = 0 by omega]

theorem deo_lanes (r h : Fin 128) :
    k0_pay215 (F := Ideal) k0_pay18 b.deo (ix2 r h) + k0_pay216 (F := Ideal) k0_pay18 b.deo (ix2 r h) = ((D.deo k r h : ℝ) : EReal) := by
  have hd := H.deo r
  generalize b.deo = v at hd ⊢
  pointwise [k0_pay215, k0_pay216, k0_pay214]
  simp only [hd, sub_self_coe, zero_mul, sum_const_zero, add_zero]
  exact sum_collect (fun j => D.dy (128 * k + r) j * D.csn k r j) h

theorem dwe_lanes (r h : Fin 128) : k0_pay217 (F := Ideal) k0_pay18 b.dwe (ix2 r h) = ((D.dwe k r h : ℝ) : EReal) := by
  have hd := H.dwe r
  generalize b.dwe = v at hd ⊢
  pointwise [k0_pay217]
  simp only [hd, sub_self_coe, zero_mul, sum_const_zero, add_zero]
  exact sum_collect (fun j => D.bds k r j * D.x (128 * k + r) j) h

theorem dcs (r h : Fin 128) : b.dcs (ix2 r h)
    = ((D.dcol k r h - D.drow k r h + D.deo k r h * D.eo k r h - D.dwe k r h * D.we k r h : ℝ) : EReal) := by
  have hc : b.dcol 16 le_rfl (ix2 r h) = ((D.dcol k r h : ℝ) : EReal) := H.dcol_upto r h 16 le_rfl
  have hr : b.drow 16 le_rfl (ix2 h r) = ((D.drow k r h : ℝ) : EReal) := H.drow_upto r h 16 le_rfl
  unfold Blk.dcs
  pointwise [k0_pay218]
  rw [H.deo_lanes, H.dwe_lanes, hc, hr, H.eo, H.we]
  simp only [← EReal.coe_mul, ← EReal.coe_add, ← EReal.coe_sub]

theorem last (h : Fin 128) : b.last (ix2 0 h)
    = ((∑ i ∈ range 128, D.dwe k i h * D.we k i h + D.dgend k h * Real.exp (D.tot k h) : ℝ) : EReal) := by
  unfold Blk.last
  pointwise [k0_pay219]
  simp only [H.dwe_lanes, H.we, H.gend, H.dn, H.prevf, ← EReal.coe_mul]
  have hs : ∀ x : Fin 1024, ∑ n : Fin 128, ((D.dn k x n * D.prev k x n : ℝ) : EReal)
      = ((∑ n ∈ range 128, D.dn k x n * D.prev k x n : ℝ) : EReal) := fun x => sum_coe (fun n => D.dn k x n * D.prev k x n) fun _ => rfl
  simp only [hs, sub_self_coe, zero_sub_zero, zero_mul, sum_const_zero, add_zero]
  rw [sum_collect (fun j => ∑ n ∈ range 128, D.dn k j n * D.prev k j n) h, sum_coe (fun i => D.dwe k i h * D.we k i h) fun _ => rfl,
    ← EReal.coe_mul, ← EReal.coe_add]
  rfl

theorem da (r h : Fin 128) : b.da (ix2 r h) = ((D.da k r h : ℝ) : EReal) := by
  unfold Blk.da
  pointwise [k0_pay220]
  have hm : ∀ x : Fin 128, FloatOps.sitofp (F := Ideal) FTy.f32
      (BitVec.setWidth 32 (IntOp.cmpi CmpIPredicate.sge (BitVec.ofNat 32 ↑x) (BitVec.ofNat 32 ↑r)))
        = (((if r.val ≤ x.val then 1 else 0) : ℝ) : EReal) := fun x => by
    rw [cmp_sge _ _ (by omega) (by omega), sitofp_ofBool]
  have hv : ∀ x : Fin 128, b.dcs (ix2 x h) + Scalar.select (IntOp.cmpi CmpIPredicate.eq (BitVec.ofNat 32 ↑x) 127#32) (b.last (ix2 0 h)) 0
      = ((D.dcs k x h : ℝ) : EReal) := fun x => by
    rw [H.dcs, H.last, cmp_eq _ 127 (by omega) (by omega), sel_ofBool, zero_coe, ite_coe, ← EReal.coe_add]
    rfl
  simp only [hm, hv, sub_self_coe, zero_sub_zero, mul_zero, sum_const_zero, add_zero, ← EReal.coe_mul]
  rw [sum_coe (fun x => (if r.val ≤ x then 1 else 0) * D.dcs k x h) fun _ => rfl, sum_ge_mask]
  rfl

theorem ddt (r h : Fin 128) : b.ddt (ix2 r h) = ((D.ddt k r h : ℝ) : EReal) := by
  have hd : k0_pay220 b.dcs b.last (iota .tc S128x128 32 [0] iota_S128x128_d0_w32) (ix2 r h) = _ := H.da r h
  unfold Blk.ddt
  pointwise [k0_pay221]
  simp only [hd, H.aneg, H.dxd, H.xs, ← EReal.coe_mul, sub_self_coe, zero_mul, sum_const_zero, add_zero]
  rw [sum_collect (fun j => D.dx k r j * D.xs (128 * k + r) j) h, ← EReal.coe_add]
  rfl

theorem out8 (r : Fin 128) (j : Fin 1024) : b.out8 (ix2 r j) = ((D.rDxs k r j : ℝ) : EReal) := by
  unfold Blk.out8
  pointwise [k0_pay222]
  rw [H.dxd, H.dtx, H.dsk, H.dy, ← EReal.coe_mul, ← EReal.coe_mul, ← EReal.coe_add]
  rfl

theorem out10 (r h : Fin 128) : b.out10 (ix2 r h) = ((D.rDdt k r h : ℝ) : EReal) := by
  unfold Blk.out10
  pointwise [k0_pay223]
  have hpos : (1 + Real.exp (0 - D.u (128 * k + r) h)) ≠ 0 := by have := Real.exp_pos (0 - D.u (128 * k + r) h); linarith
  rw [cmp_slt _ 16 (by omega) (by omega), sel_ofBool]
  unfold Data.rDdt sig
  by_cases hh : h.val < 16
  · rw [if_pos hh, if_pos hh, H.u r h hh, H.ddt, zero_coe, one_coe, ← EReal.coe_sub, Ideal.exp_coe, ← EReal.coe_add,
      div_coe_coe hpos, ← EReal.coe_mul, zero_sub]
  · rw [if_neg hh, if_neg hh, zero_coe]

theorem out11 (old : Vec Ideal S1x128 .f32) (h : Fin 128) (o : ℝ) (ho : old (ix2 0 h) = (o : EReal)) :
    b.out11 old (ix2 0 h) = ((o + D.pAlog k h : ℝ) : EReal) := by
  unfold Blk.out11
  pointwise [k0_pay224]
  simp only [H.da, H.dt, H.aneg, ho, ← EReal.coe_mul]
  rw [sum_coe (fun l => D.da k l h * D.dt (128 * k + l) h) fun _ => rfl, ← EReal.coe_mul, ← EReal.coe_add]
  rfl

theorem out12 (old : Vec Ideal S1x128 .f32) (h : Fin 128) (o : ℝ) (ho : old (ix2 0 h) = (o : EReal)) :
    b.out12 old (ix2 0 h) = ((o + D.pSkip k h : ℝ) : EReal) := by
  unfold Blk.out12
  pointwise [k0_pay1, k0_pay225, k0_pay227, k0_pay228, k0_pay229, k0_pay226]
  simp only [H.dy, H.xs, ho, ← EReal.coe_mul]
  have hs : ∀ x : Fin 1024, ∑ l : Fin 128, ((D.dy (128 * k + l) x * D.xs (128 * k + l) x : ℝ) : EReal)
      = ((∑ l ∈ range 128, D.dy (128 * k + l) x * D.xs (128 * k + l) x : ℝ) : EReal) :=
    fun x => sum_coe (fun l => D.dy (128 * k + l) x * D.xs (128 * k + l) x) fun _ => rfl
  simp only [hs, sub_self_coe, zero_sub_zero, zero_mul, sum_const_zero, add_zero]
  rw [sum_collect (fun j => ∑ l ∈ range 128, D.dy (128 * k + l) j * D.xs (128 * k + l) j) h, ← EReal.coe_add]
  rfl

theorem dB0 (r n : Fin 128) :
    k0_pay119 (F := Ideal) (k0_pay37 b.C0) (k0_pay44 b.xw b.dnb) (b.dG 0 (by omega) 8 le_rfl) (ix2 r n) = ((D.rDB k r 0 n : ℝ) : EReal) := by
  have hG := H.dG 0 (by omega)
  generalize b.dG 0 (by omega) 8 le_rfl = v at hG ⊢
  pointwise [k0_pay119, k0_pay118, k0_pay37, k0_pay44]
  simp only [hG, H.xw, H.dnb, H.C0, ← EReal.coe_mul]
  rw [sum_coe (fun q => D.x (128 * k + r) (q) * D.we k r ((q) / 64) * D.dn k (q) n) fun _ => rfl,
    sum_coe (fun i => D.dG k 0 i r * D.Cm (128 * k + i) 0 n) fun _ => rfl, ← EReal.coe_add]
  unfold Data.rDB
  simp only [Nat.mul_zero, Nat.mul_one, zero_add]

theorem dB1 (r n : Fin 128) :
    k0_pay212 (F := Ideal) (k0_pay122 b.C1) (k0_pay130 b.xw b.dnb) (b.dG 1 (by omega) 8 le_rfl) (ix2 r n) = ((D.rDB k r 1 n : ℝ) : EReal) := by
  have hG := H.dG 1 (by omega)
  generalize b.dG 1 (by omega) 8 le_rfl = v at hG ⊢
  pointwise [k0_pay212, k0_pay211, k0_pay122, k0_pay130]
  simp only [hG, H.xw, H.dnb, H.C1, ← EReal.coe_mul]
  rw [sum_coe (fun q => D.x (128 * k + r) (512 + q) * D.we k r ((512 + q) / 64) * D.dn k (512 + q) n) fun _ => rfl,
    sum_coe (fun i => D.dG k 1 i r * D.Cm (128 * k + i) 1 n) fun _ => rfl, ← EReal.coe_add]
  unfold Data.rDB
  simp only [Nat.mul_zero, Nat.mul_one, zero_add]

theorem dC0 (r n : Fin 128) :
    k0_pay120 (F := Ideal) (k0_pay36 b.B0) (k0_pay45 b.dyo b.prevb) (b.dG 0 (by omega) 8 le_rfl) (ix2 r n) = ((D.rDC k r 0 n : ℝ) : EReal) := by
  have hG := H.dG 0 (by omega)
  generalize b.dG 0 (by omega) 8 le_rfl = v at hG ⊢
  pointwise [k0_pay120, k0_pay118, k0_pay36, k0_pay45]
  simp only [hG, H.dyo, H.prevb, H.B0, ← EReal.coe_mul]
  rw [sum_coe (fun q => D.dy (128 * k + r) (q) * D.eo k r ((q) / 64) * D.prev k (q) n) fun _ => rfl,
    sum_coe (fun i => D.dG k 0 r i * D.Bm (128 * k + i) 0 n) fun _ => rfl, ← EReal.coe_add]
  unfold Data.rDC
  simp only [Nat.mul_zero, Nat.mul_one, zero_add]

theorem dC1 (r n : Fin 128) :
    k0_pay213 (F := Ideal) (k0_pay121 b.B1) (k0_pay131 b.dyo b.prevb) (b.dG 1 (by omega) 8 le_rfl) (ix2 r n) = ((D.rDC k r 1 n : ℝ) : EReal) := by
  have hG := H.dG 1 (by omega)
  generalize b.dG 1 (by omega) 8 le_rfl = v at hG ⊢
  pointwise [k0_pay213, k0_pay211, k0_pay121, k0_pay131]
  simp only [hG, H.dyo, H.prevb, H.B1, ← EReal.coe_mul]
  rw [sum_coe (fun q => D.dy (128 * k + r) (512 + q) * D.eo k r ((512 + q) / 64) * D.prev k (512 + q) n) fun _ => rfl,
    sum_coe (fun i => D.dG k 1 r i * D.Bm (128 * k + i) 1 n) fun _ => rfl, ← EReal.coe_add]
  unfold Data.rDC
  simp only [Nat.mul_zero, Nat.mul_one, zero_add]

theorem out9 (r : Fin 128) (j : Fin 512) : b.out9 (ix2 r j) = ((D.rDbc k r j : ℝ) : EReal) := by
  unfold Blk.out9
  refine (canon_lanes (Val := Elt Ideal) (e := .f32) 384 128 _ _ _ r j).trans ?_
  unfold Data.rDbc
  split_ifs with h1 h2
  · omega
  · rw [H.dC1]
    simp only []
    rw [show (j.val - 256) / 128 = 1 by omega, show j.val % 128 = j.val - 384 by omega]
  · refine (canon_lanes (Val := Elt Ideal) (e := .f32) 128 128 _ _ _ r j).trans ?_
    split_ifs with h3
    · rw [H.dB1]
      simp only []
      rw [show j.val / 128 = 1 by omega, show j.val % 128 = j.val - 128 by omega]
    · refine (canon_lanes (Val := Elt Ideal) (e := .f32) 256 128 _ _ _ r j).trans ?_
      rw [dif_neg (by omega)]
      refine (canon_lanes (Val := Elt Ideal) (e := .f32) 0 128 _ _ _ r j).trans ?_
      rw [dif_pos (by omega), H.dB0]
      simp only []
      rw [show j.val / 128 = 0 by omega, show j.val % 128 = j.val - 0 by omega]
  · refine (canon_lanes (Val := Elt Ideal) (e := .f32) 128 128 _ _ _ r j).trans ?_
    rw [dif_neg (by omega)]
    refine (canon_lanes (Val := Elt Ideal) (e := .f32) 256 128 _ _ _ r j).trans ?_
    rw [dif_pos (by omega), H.dC0]
    simp only []
    rw [show (j.val - 256) / 128 = 0 by omega, show j.val % 128 = j.val - 256 by omega]

theorem next (hk : 0 < k) (hk' : k < 32) (n : Fin 128) (j : Fin 1024) : b.next (ix2 n j) = ((D.dn (k - 1) j n : ℝ) : EReal) := by
  refine halves_at _ _ _ _ (fun n j => D.dn (k - 1) j n) (fun n j => ?_) (fun n j => ?_) n j
  · pointwise [k0_pay132, k0_pay122]
    simp only [H.gx, H.dn, H.C1, H.dyo, ← EReal.coe_mul]
    rw [sum_coe (fun x => D.Cm (128 * k + x) 1 n * (D.dy (128 * k + x) (512 + j.val) * D.eo k x ((512 + j.val) / 64))) fun _ => rfl, ← EReal.coe_add]
    obtain ⟨c, rfl⟩ : ∃ c, k = c + 1 := ⟨k - 1, by omega⟩
    rw [Nat.add_sub_cancel, D.dn_step c _ _ hk']
    unfold Data.dprev
    rw [show (512 + j.val) / 512 = 1 by omega]
    exact congrArg _ (congrArg _ (sum_congr rfl fun x _ => mul_comm _ _))
  · pointwise [k0_pay46, k0_pay37]
    simp only [H.gx, H.dn, H.C0, H.dyo, ← EReal.coe_mul]
    rw [sum_coe (fun x => D.Cm (128 * k + x) 0 n * (D.dy (128 * k + x) j.val * D.eo k x (j.val / 64))) fun _ => rfl, ← EReal.coe_add]
    obtain ⟨c, rfl⟩ : ∃ c, k = c + 1 := ⟨k - 1, by omega⟩
    rw [Nat.add_sub_cancel, D.dn_step c _ _ hk']
    unfold Data.dprev
    rw [show j.val / 512 = 0 by omega]
    exact congrArg _ (congrArg _ (sum_congr rfl fun x _ => mul_comm _ _))

end Holds

end Cert.Ssd

end
-- ==== Proof.Ssd.TieA.lean ====
/- The first grid point (the last chunk), which clears the carried gradient and the two running sums: what it leaves in every
   result block and in the carried scratch is the model of Proof/Ssd/Model.lean at its blocks. -/
module

public import proofs.«01_k».proof.Proof.Gen.KernelIdeal.Frame
public import proofs.«01_k».proof.Proof.Ssd.Model
public import proofs.«01_k».proof.Proof.Ssd.Real
public import Idealize.ShloMosaic.Lib.Pipeline.ReadBack
public import Idealize.ShloMosaic.Lib.Pipeline.ValueKit.Acc

@[expose] public section

set_option maxRecDepth 16384

noncomputable section

namespace Cert.Ssd

open Cert.KernelIdeal Cert.KernelIdeal.Gen Idealize.ShloMosaic Idealize.ShloMosaic.TcCoe

/-- A load of a rectangle after any stores reads what the stores leave there. -/
theorem readCov_ld {sig : RefSig} {κ : Kind} {sp : Space} {s : Shape} {e : EltTy} {Val : EltTy → Type} [∀ e, Nonempty (Val e)]
    (v : View sig κ sp s e) (L : List (View.Piece Val s e)) (r : Rect s) : v.readCov L r.toLoadRect = View.ld (View.canon L) r :=
  View.readCov_eq_canon' v L _

/-- Two stores that fill the two halves of the lanes leave nothing of what was before. -/
theorem canon_halves (i1 i2) (p q : Vec Ideal S128x512 .f32) (L L' : List (View.Piece (Elt Ideal) S128x1024 .f32)) :
    View.canon (⟨Rect.unit ![0, 512] ![128, 512] i1, p⟩ :: ⟨Rect.unit ![0, 0] ![128, 512] i2, q⟩ :: L)
      = View.canon (⟨Rect.unit ![0, 512] ![128, 512] i1, p⟩ :: ⟨Rect.unit ![0, 0] ![128, 512] i2, q⟩ :: L') := by
  funext y
  have hy : ∃ (r : Fin 128) (j : Fin 1024), ∀ M : (⟨2, ![128, 1024]⟩ : Shape).Idx → EReal, M y = M (ix2 r j) :=
    ⟨y 0, y 1, fun M => congrArg M (eq_ix2 y)⟩
  obtain ⟨r, j, hy⟩ := hy
  refine (hy _).trans (((canon_lanes 512 512 i1 p _ r j).trans ?_).trans (hy _).symm)
  refine Eq.trans ?_ (canon_lanes 512 512 i1 p _ r j).symm
  split_ifs with h
  · rfl
  · refine (canon_lanes 0 512 i2 q _ r j).trans (Eq.trans ?_ (canon_lanes 0 512 i2 q _ r j).symm)
    rw [dif_pos (by omega), dif_pos (by omega)]

variable (c : Dev nD) (i : grid0.Coords)
  (arg1 : Memref sig .tc .vmem S128x1024 .f32) (harg1 : arg1.IsWhole) (arg2 : Memref sig .tc .vmem S128x1024 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S1x128x1024 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S128x1024 .f32) (harg9 : arg9.IsWhole) (arg10 : Memref sig .tc .vmem S128x512 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x1024 .f32) (harg14 : arg14.IsWhole) (arg15 : Memref sig .tc .vmem S128x1024 .bf16) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole)

set_option maxHeartbeats 8000000 in
/-- The first grid point (the last chunk), which clears the carried gradient and the two running sums. -/
theorem tieA (hc0 : _) (x0 : Vec Ideal S128x1024 .f32) (x1 : Vec Ideal S128x1024 .f32) (x2 : Vec Ideal S128x512 .f32) (x3 : Vec Ideal S128x128 .f32) (x4 : Vec Ideal S1x128x1024 .f32) (x5 : Vec Ideal S1x128 .f32) (x6 : Vec Ideal S1x128 .f32) (x7 : Vec Ideal S1x1024 .f32) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 = (Blk.mk x0 x1 x2 x3 x4 x5 x6 x7 (k0_pay2 (F := Ideal))).out8
    ∧ out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 = (Blk.mk x0 x1 x2 x3 x4 x5 x6 x7 (k0_pay2 (F := Ideal))).out9
    ∧ out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 = (Blk.mk x0 x1 x2 x3 x4 x5 x6 x7 (k0_pay2 (F := Ideal))).out10
    ∧ out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 = (Blk.mk x0 x1 x2 x3 x4 x5 x6 x7 (k0_pay2 (F := Ideal))).out11 (k0_pay3 (F := Ideal))
    ∧ out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 = (Blk.mk x0 x1 x2 x3 x4 x5 x6 x7 (k0_pay2 (F := Ideal))).out12 (k0_pay4 (F := Ideal))
    ∧ sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 = (Blk.mk x0 x1 x2 x3 x4 x5 x6 x7 (k0_pay2 (F := Ideal))).next := by
  unfold out0_A_8 out0_A_9 out0_A_10 out0_A_11 out0_A_12 sout0_A_0
  simp only [View.read_writes_junk_eq_canon]
  unfold kernelRun0_A
  simp (disch := decide) only [
    kernelRun0_A.sl.H11_1, kernelRun0_A.sl.H12_1, kernelRun0_A.sl.HS0_1, kernelRun0_A.sl.HS1_1, kernelRun0_A.sl.HS2_1, kernelRun0_A.sl.HS3_1,
    kernelRun0_A.sl.HS3_10, kernelRun0_A.sl.HS3_11, kernelRun0_A.sl.HS3_12, kernelRun0_A.sl.HS3_13, kernelRun0_A.sl.HS3_14, kernelRun0_A.sl.HS3_15,
    kernelRun0_A.sl.HS3_16, kernelRun0_A.sl.HS3_17, kernelRun0_A.sl.HS3_18, kernelRun0_A.sl.HS3_2, kernelRun0_A.sl.HS3_3, kernelRun0_A.sl.HS3_4,
    kernelRun0_A.sl.HS3_5, kernelRun0_A.sl.HS3_6, kernelRun0_A.sl.HS3_7, kernelRun0_A.sl.HS3_8, kernelRun0_A.sl.HS4_2, kernelRun0_A.sl.HS5_2,
    kernelRun0_A.sl.HS6_1, kernelRun0_A.sl.HS7_1, kernelRun0_A.sl.HS8_1, kernelRun0_A.sl.HS8_10, kernelRun0_A.sl.HS8_11, kernelRun0_A.sl.HS8_12,
    kernelRun0_A.sl.HS8_13, kernelRun0_A.sl.HS8_14, kernelRun0_A.sl.HS8_15, kernelRun0_A.sl.HS8_16, kernelRun0_A.sl.HS8_17, kernelRun0_A.sl.HS8_2,
    kernelRun0_A.sl.HS8_3, kernelRun0_A.sl.HS8_4, kernelRun0_A.sl.HS8_5, kernelRun0_A.sl.HS8_6, kernelRun0_A.sl.HS8_7, kernelRun0_A.sl.HS8_8,
    kernelRun0_A.sl.HS8_9, kernelRun0_A.sl.HS9_1, kernelRun0_A.sl.HS9_10, kernelRun0_A.sl.HS9_11, kernelRun0_A.sl.HS9_12, kernelRun0_A.sl.HS9_13,
    kernelRun0_A.sl.HS9_14, kernelRun0_A.sl.HS9_15, kernelRun0_A.sl.HS9_16, kernelRun0_A.sl.HS9_17, kernelRun0_A.sl.HS9_2, kernelRun0_A.sl.HS9_3,
    kernelRun0_A.sl.HS9_4, kernelRun0_A.sl.HS9_5, kernelRun0_A.sl.HS9_6, kernelRun0_A.sl.HS9_7, kernelRun0_A.sl.HS9_8, kernelRun0_A.sl.HS9_9,
    kernelRun0_A.sl.cst_21, kernelRun0_A.sl.r, kernelRun0_A.sl.r_1, kernelRun0_A.sl.r_10, kernelRun0_A.sl.r_100, kernelRun0_A.sl.r_101,
    kernelRun0_A.sl.r_102, kernelRun0_A.sl.r_103, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19, kernelRun0_A.sl.r_2,
    kernelRun0_A.sl.r_20, kernelRun0_A.sl.r_21, kernelRun0_A.sl.r_22, kernelRun0_A.sl.r_23, kernelRun0_A.sl.r_24, kernelRun0_A.sl.r_25,
    kernelRun0_A.sl.r_26, kernelRun0_A.sl.r_27, kernelRun0_A.sl.r_28, kernelRun0_A.sl.r_29, kernelRun0_A.sl.r_3, kernelRun0_A.sl.r_30,
    kernelRun0_A.sl.r_31, kernelRun0_A.sl.r_32, kernelRun0_A.sl.r_33, kernelRun0_A.sl.r_34, kernelRun0_A.sl.r_35, kernelRun0_A.sl.r_36,
    kernelRun0_A.sl.r_37, kernelRun0_A.sl.r_38, kernelRun0_A.sl.r_39, kernelRun0_A.sl.r_4, kernelRun0_A.sl.r_40, kernelRun0_A.sl.r_41,
    kernelRun0_A.sl.r_42, kernelRun0_A.sl.r_43, kernelRun0_A.sl.r_44, kernelRun0_A.sl.r_45, kernelRun0_A.sl.r_46, kernelRun0_A.sl.r_47,
    kernelRun0_A.sl.r_48, kernelRun0_A.sl.r_49, kernelRun0_A.sl.r_5, kernelRun0_A.sl.r_50, kernelRun0_A.sl.r_51, kernelRun0_A.sl.r_52,
    kernelRun0_A.sl.r_53, kernelRun0_A.sl.r_54, kernelRun0_A.sl.r_55, kernelRun0_A.sl.r_56, kernelRun0_A.sl.r_57, kernelRun0_A.sl.r_58,
    kernelRun0_A.sl.r_59, kernelRun0_A.sl.r_6, kernelRun0_A.sl.r_60, kernelRun0_A.sl.r_61, kernelRun0_A.sl.r_62, kernelRun0_A.sl.r_63,
    kernelRun0_A.sl.r_64, kernelRun0_A.sl.r_65, kernelRun0_A.sl.r_66, kernelRun0_A.sl.r_67, kernelRun0_A.sl.r_68, kernelRun0_A.sl.r_69,
    kernelRun0_A.sl.r_7, kernelRun0_A.sl.r_70, kernelRun0_A.sl.r_71, kernelRun0_A.sl.r_72, kernelRun0_A.sl.r_73, kernelRun0_A.sl.r_74,
    kernelRun0_A.sl.r_75, kernelRun0_A.sl.r_76, kernelRun0_A.sl.r_77, kernelRun0_A.sl.r_78, kernelRun0_A.sl.r_79, kernelRun0_A.sl.r_8,
    kernelRun0_A.sl.r_80, kernelRun0_A.sl.r_81, kernelRun0_A.sl.r_82, kernelRun0_A.sl.r_83, kernelRun0_A.sl.r_84, kernelRun0_A.sl.r_85,
    kernelRun0_A.sl.r_86, kernelRun0_A.sl.r_87, kernelRun0_A.sl.r_88, kernelRun0_A.sl.r_89, kernelRun0_A.sl.r_9, kernelRun0_A.sl.r_90,
    kernelRun0_A.sl.r_91, kernelRun0_A.sl.r_92, kernelRun0_A.sl.r_93, kernelRun0_A.sl.r_94, kernelRun0_A.sl.r_95, kernelRun0_A.sl.r_96,
    kernelRun0_A.sl.r_97, kernelRun0_A.sl.r_98, kernelRun0_A.sl.r_99, kernelRun0_A.sl.v1003, kernelRun0_A.sl.v1017, kernelRun0_A.sl.v1018,
    kernelRun0_A.sl.v1031, kernelRun0_A.sl.v1033, kernelRun0_A.sl.v1040, kernelRun0_A.sl.v1045, kernelRun0_A.sl.v1059, kernelRun0_A.sl.v1073,
    kernelRun0_A.sl.v1074, kernelRun0_A.sl.v1087, kernelRun0_A.sl.v1089, kernelRun0_A.sl.v1096, kernelRun0_A.sl.v1101, kernelRun0_A.sl.v1115,
    kernelRun0_A.sl.v1136, kernelRun0_A.sl.v1146, kernelRun0_A.sl.v1176, kernelRun0_A.sl.v1177, kernelRun0_A.sl.v1189, kernelRun0_A.sl.v1217,
    kernelRun0_A.sl.v1256, kernelRun0_A.sl.v1264, kernelRun0_A.sl.v132, kernelRun0_A.sl.v142, kernelRun0_A.sl.v143, kernelRun0_A.sl.v185,
    kernelRun0_A.sl.v186, kernelRun0_A.sl.v199, kernelRun0_A.sl.v201, kernelRun0_A.sl.v208, kernelRun0_A.sl.v213, kernelRun0_A.sl.v227,
    kernelRun0_A.sl.v241, kernelRun0_A.sl.v242, kernelRun0_A.sl.v255, kernelRun0_A.sl.v257, kernelRun0_A.sl.v264, kernelRun0_A.sl.v269,
    kernelRun0_A.sl.v283, kernelRun0_A.sl.v297, kernelRun0_A.sl.v298, kernelRun0_A.sl.v311, kernelRun0_A.sl.v313, kernelRun0_A.sl.v320,
    kernelRun0_A.sl.v325, kernelRun0_A.sl.v339, kernelRun0_A.sl.v353, kernelRun0_A.sl.v354, kernelRun0_A.sl.v367, kernelRun0_A.sl.v369,
    kernelRun0_A.sl.v376, kernelRun0_A.sl.v381, kernelRun0_A.sl.v395, kernelRun0_A.sl.v409, kernelRun0_A.sl.v410, kernelRun0_A.sl.v423,
    kernelRun0_A.sl.v425, kernelRun0_A.sl.v432, kernelRun0_A.sl.v437, kernelRun0_A.sl.v451, kernelRun0_A.sl.v465, kernelRun0_A.sl.v466,
    kernelRun0_A.sl.v479, kernelRun0_A.sl.v481, kernelRun0_A.sl.v488, kernelRun0_A.sl.v493, kernelRun0_A.sl.v507, kernelRun0_A.sl.v521,
    kernelRun0_A.sl.v522, kernelRun0_A.sl.v535, kernelRun0_A.sl.v537, kernelRun0_A.sl.v544, kernelRun0_A.sl.v549, kernelRun0_A.sl.v563,
    kernelRun0_A.sl.v577, kernelRun0_A.sl.v578, kernelRun0_A.sl.v591, kernelRun0_A.sl.v593, kernelRun0_A.sl.v600, kernelRun0_A.sl.v605,
    kernelRun0_A.sl.v619, kernelRun0_A.sl.v681, kernelRun0_A.sl.v682, kernelRun0_A.sl.v695, kernelRun0_A.sl.v697, kernelRun0_A.sl.v704,
    kernelRun0_A.sl.v709, kernelRun0_A.sl.v723, kernelRun0_A.sl.v737, kernelRun0_A.sl.v738, kernelRun0_A.sl.v751, kernelRun0_A.sl.v753,
    kernelRun0_A.sl.v760, kernelRun0_A.sl.v765, kernelRun0_A.sl.v779, kernelRun0_A.sl.v793, kernelRun0_A.sl.v794, kernelRun0_A.sl.v807,
    kernelRun0_A.sl.v809, kernelRun0_A.sl.v816, kernelRun0_A.sl.v821, kernelRun0_A.sl.v835, kernelRun0_A.sl.v849, kernelRun0_A.sl.v850,
    kernelRun0_A.sl.v863, kernelRun0_A.sl.v865, kernelRun0_A.sl.v872, kernelRun0_A.sl.v877, kernelRun0_A.sl.v891, kernelRun0_A.sl.v905,
    kernelRun0_A.sl.v906, kernelRun0_A.sl.v919, kernelRun0_A.sl.v921, kernelRun0_A.sl.v928, kernelRun0_A.sl.v933, kernelRun0_A.sl.v947,
    kernelRun0_A.sl.v961, kernelRun0_A.sl.v962, kernelRun0_A.sl.v975, kernelRun0_A.sl.v977, kernelRun0_A.sl.v984, kernelRun0_A.sl.v989,
    View.readCov_fill, View.readCov_cons_toLoadRect, View.readAt_eq_ld, Memref.IsWhole.read_unread, View.ld_unit_lit', View.canon_cons_unit_lit', shapeCast_id]
  simp (disch := decide) only [
    k0_pay47, k0_pay48, k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112, k0_pay113, k0_pay114, k0_pay115,
    k0_pay116, k0_pay117, k0_pay133, k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208,
    k0_pay209, k0_pay210, k0_pay34, k0_pay35,
    readCov_ld, shapeCast_id, View.ld_unit_lit']
  refine ⟨?_, ?_, ?_, ?_, ?_, ?_⟩ <;> (simp (disch := decide) only [hL, hD, hX, hCol, hRow,
    Blk.dt, Blk.aneg, Blk.a, Blk.ahi, Blk.cs, Blk.csT, Blk.eo, Blk.we, Blk.gend, Blk.hi, Blk.lo, Blk.dtx, Blk.wex, Blk.gx, Blk.x, Blk.xsc, Blk.dysc,
    Blk.dyo, Blk.xw, Blk.prevf, Blk.prevb, Blk.dnb, Blk.B0, Blk.B1, Blk.C0, Blk.C1, Blk.G, Blk.col, Blk.row, Blk.dyh, Blk.xh, Blk.L, Blk.M, Blk.dM,
    Blk.qm, Blk.dG, Blk.dcol, Blk.drow, Blk.dx0, Blk.dx1, Blk.dxL, Blk.dxd, Blk.deo, Blk.dwe, Blk.dcs, Blk.last, Blk.da, Blk.ddt, Blk.out8, Blk.out9,
    Blk.out10, Blk.out11, Blk.out12, Blk.next,
    View.ld_unit_lit'] <;> try rfl)
  exact canon_halves _ _ _ _ _ _

end Cert.Ssd

end
-- ==== Proof.Ssd.TieB.lean ====
/- A later grid point, which reads what the point before left: what it leaves in every
   result block and in the carried scratch is the model of Proof/Ssd/Model.lean at its blocks. -/
module

public import proofs.«01_k».proof.Proof.Gen.KernelIdeal.Frame
public import proofs.«01_k».proof.Proof.Ssd.TieA
public import proofs.«01_k».proof.Proof.Ssd.Real
public import Idealize.ShloMosaic.Lib.Pipeline.ReadBack
public import Idealize.ShloMosaic.Lib.Pipeline.ValueKit.Acc

@[expose] public section

set_option maxRecDepth 16384

noncomputable section

namespace Cert.Ssd

open Cert.KernelIdeal Cert.KernelIdeal.Gen Idealize.ShloMosaic Idealize.ShloMosaic.TcCoe

variable (c : Dev nD) (i : grid0.Coords)
  (arg1 : Memref sig .tc .vmem S128x1024 .f32) (harg1 : arg1.IsWhole) (arg2 : Memref sig .tc .vmem S128x1024 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S1x128x1024 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S128x1024 .f32) (harg9 : arg9.IsWhole) (arg10 : Memref sig .tc .vmem S128x512 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x1024 .f32) (harg14 : arg14.IsWhole) (arg15 : Memref sig .tc .vmem S128x1024 .bf16) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole)

set_option maxHeartbeats 8000000 in
/-- A later grid point, which reads what the point before left. -/
theorem tieB (hc0 : _) (x0 : Vec Ideal S128x1024 .f32) (x1 : Vec Ideal S128x1024 .f32) (x2 : Vec Ideal S128x512 .f32) (x3 : Vec Ideal S128x128 .f32) (x4 : Vec Ideal S1x128x1024 .f32) (x5 : Vec Ideal S1x128 .f32) (x6 : Vec Ideal S1x128 .f32) (x7 : Vec Ideal S1x1024 .f32) (xo11 xo12 : Vec Ideal S1x128 .f32) (xs0 : Vec Ideal S128x1024 .f32) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 xo11 xo12 xs0 = (Blk.mk x0 x1 x2 x3 x4 x5 x6 x7 xs0).out8
    ∧ out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 xo11 xo12 xs0 = (Blk.mk x0 x1 x2 x3 x4 x5 x6 x7 xs0).out9
    ∧ out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 xo11 xo12 xs0 = (Blk.mk x0 x1 x2 x3 x4 x5 x6 x7 xs0).out10
    ∧ out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 xo11 xo12 xs0 = (Blk.mk x0 x1 x2 x3 x4 x5 x6 x7 xs0).out11 xo11
    ∧ out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 xo11 xo12 xs0 = (Blk.mk x0 x1 x2 x3 x4 x5 x6 x7 xs0).out12 xo12
    ∧ sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 xo11 xo12 xs0 = (Blk.mk x0 x1 x2 x3 x4 x5 x6 x7 xs0).next := by
  unfold out0_B_8 out0_B_9 out0_B_10 out0_B_11 out0_B_12 sout0_B_0
  simp only [View.read_writes_junk_eq_canon]
  unfold kernelRun0_B
  simp (disch := decide) only [
    kernelRun0_B.sl.HS1_1, kernelRun0_B.sl.HS2_1, kernelRun0_B.sl.HS3_1, kernelRun0_B.sl.HS3_10, kernelRun0_B.sl.HS3_11, kernelRun0_B.sl.HS3_12,
    kernelRun0_B.sl.HS3_13, kernelRun0_B.sl.HS3_14, kernelRun0_B.sl.HS3_15, kernelRun0_B.sl.HS3_16, kernelRun0_B.sl.HS3_17, kernelRun0_B.sl.HS3_18,
    kernelRun0_B.sl.HS3_2, kernelRun0_B.sl.HS3_3, kernelRun0_B.sl.HS3_4, kernelRun0_B.sl.HS3_5, kernelRun0_B.sl.HS3_6, kernelRun0_B.sl.HS3_7,
    kernelRun0_B.sl.HS3_8, kernelRun0_B.sl.HS4_2, kernelRun0_B.sl.HS5_2, kernelRun0_B.sl.HS6_1, kernelRun0_B.sl.HS7_1, kernelRun0_B.sl.HS8_1,
    kernelRun0_B.sl.HS8_10, kernelRun0_B.sl.HS8_11, kernelRun0_B.sl.HS8_12, kernelRun0_B.sl.HS8_13, kernelRun0_B.sl.HS8_14, kernelRun0_B.sl.HS8_15,
    kernelRun0_B.sl.HS8_16, kernelRun0_B.sl.HS8_17, kernelRun0_B.sl.HS8_2, kernelRun0_B.sl.HS8_3, kernelRun0_B.sl.HS8_4, kernelRun0_B.sl.HS8_5,
    kernelRun0_B.sl.HS8_6, kernelRun0_B.sl.HS8_7, kernelRun0_B.sl.HS8_8, kernelRun0_B.sl.HS8_9, kernelRun0_B.sl.HS9_1, kernelRun0_B.sl.HS9_10,
    kernelRun0_B.sl.HS9_11, kernelRun0_B.sl.HS9_12, kernelRun0_B.sl.HS9_13, kernelRun0_B.sl.HS9_14, kernelRun0_B.sl.HS9_15, kernelRun0_B.sl.HS9_16,
    kernelRun0_B.sl.HS9_17, kernelRun0_B.sl.HS9_2, kernelRun0_B.sl.HS9_3, kernelRun0_B.sl.HS9_4, kernelRun0_B.sl.HS9_5, kernelRun0_B.sl.HS9_6,
    kernelRun0_B.sl.HS9_7, kernelRun0_B.sl.HS9_8, kernelRun0_B.sl.HS9_9, kernelRun0_B.sl.cst_21, kernelRun0_B.sl.r, kernelRun0_B.sl.r_1,
    kernelRun0_B.sl.r_10, kernelRun0_B.sl.r_100, kernelRun0_B.sl.r_101, kernelRun0_B.sl.r_102, kernelRun0_B.sl.r_103, kernelRun0_B.sl.r_104,
    kernelRun0_B.sl.r_11, kernelRun0_B.sl.r_12, kernelRun0_B.sl.r_13, kernelRun0_B.sl.r_14, kernelRun0_B.sl.r_15, kernelRun0_B.sl.r_16,
    kernelRun0_B.sl.r_17, kernelRun0_B.sl.r_18, kernelRun0_B.sl.r_19, kernelRun0_B.sl.r_2, kernelRun0_B.sl.r_20, kernelRun0_B.sl.r_21,
    kernelRun0_B.sl.r_22, kernelRun0_B.sl.r_23, kernelRun0_B.sl.r_24, kernelRun0_B.sl.r_25, kernelRun0_B.sl.r_26, kernelRun0_B.sl.r_27,
    kernelRun0_B.sl.r_28, kernelRun0_B.sl.r_29, kernelRun0_B.sl.r_3, kernelRun0_B.sl.r_30, kernelRun0_B.sl.r_31, kernelRun0_B.sl.r_32,
    kernelRun0_B.sl.r_33, kernelRun0_B.sl.r_34, kernelRun0_B.sl.r_35, kernelRun0_B.sl.r_36, kernelRun0_B.sl.r_37, kernelRun0_B.sl.r_38,
    kernelRun0_B.sl.r_39, kernelRun0_B.sl.r_4, kernelRun0_B.sl.r_40, kernelRun0_B.sl.r_41, kernelRun0_B.sl.r_42, kernelRun0_B.sl.r_43,
    kernelRun0_B.sl.r_44, kernelRun0_B.sl.r_45, kernelRun0_B.sl.r_46, kernelRun0_B.sl.r_47, kernelRun0_B.sl.r_48, kernelRun0_B.sl.r_49,
    kernelRun0_B.sl.r_5, kernelRun0_B.sl.r_50, kernelRun0_B.sl.r_51, kernelRun0_B.sl.r_52, kernelRun0_B.sl.r_53, kernelRun0_B.sl.r_54,
    kernelRun0_B.sl.r_55, kernelRun0_B.sl.r_56, kernelRun0_B.sl.r_57, kernelRun0_B.sl.r_58, kernelRun0_B.sl.r_59, kernelRun0_B.sl.r_6,
    kernelRun0_B.sl.r_60, kernelRun0_B.sl.r_61, kernelRun0_B.sl.r_62, kernelRun0_B.sl.r_63, kernelRun0_B.sl.r_64, kernelRun0_B.sl.r_65,
    kernelRun0_B.sl.r_66, kernelRun0_B.sl.r_67, kernelRun0_B.sl.r_68, kernelRun0_B.sl.r_69, kernelRun0_B.sl.r_7, kernelRun0_B.sl.r_70,
    kernelRun0_B.sl.r_71, kernelRun0_B.sl.r_72, kernelRun0_B.sl.r_73, kernelRun0_B.sl.r_74, kernelRun0_B.sl.r_75, kernelRun0_B.sl.r_76,
    kernelRun0_B.sl.r_77, kernelRun0_B.sl.r_78, kernelRun0_B.sl.r_79, kernelRun0_B.sl.r_8, kernelRun0_B.sl.r_80, kernelRun0_B.sl.r_81,
    kernelRun0_B.sl.r_82, kernelRun0_B.sl.r_83, kernelRun0_B.sl.r_84, kernelRun0_B.sl.r_85, kernelRun0_B.sl.r_86, kernelRun0_B.sl.r_87,
    kernelRun0_B.sl.r_88, kernelRun0_B.sl.r_89, kernelRun0_B.sl.r_9, kernelRun0_B.sl.r_90, kernelRun0_B.sl.r_91, kernelRun0_B.sl.r_92,
    kernelRun0_B.sl.r_93, kernelRun0_B.sl.r_94, kernelRun0_B.sl.r_95, kernelRun0_B.sl.r_96, kernelRun0_B.sl.r_97, kernelRun0_B.sl.r_98,
    kernelRun0_B.sl.r_99, kernelRun0_B.sl.v1003, kernelRun0_B.sl.v1017, kernelRun0_B.sl.v1018, kernelRun0_B.sl.v1031, kernelRun0_B.sl.v1033,
    kernelRun0_B.sl.v1040, kernelRun0_B.sl.v1045, kernelRun0_B.sl.v1059, kernelRun0_B.sl.v1073, kernelRun0_B.sl.v1074, kernelRun0_B.sl.v1087,
    kernelRun0_B.sl.v1089, kernelRun0_B.sl.v1096, kernelRun0_B.sl.v1101, kernelRun0_B.sl.v1115, kernelRun0_B.sl.v1136, kernelRun0_B.sl.v1146,
    kernelRun0_B.sl.v1176, kernelRun0_B.sl.v1177, kernelRun0_B.sl.v1189, kernelRun0_B.sl.v1217, kernelRun0_B.sl.v142, kernelRun0_B.sl.v143,
    kernelRun0_B.sl.v185, kernelRun0_B.sl.v186, kernelRun0_B.sl.v199, kernelRun0_B.sl.v201, kernelRun0_B.sl.v208, kernelRun0_B.sl.v213,
    kernelRun0_B.sl.v227, kernelRun0_B.sl.v241, kernelRun0_B.sl.v242, kernelRun0_B.sl.v255, kernelRun0_B.sl.v257, kernelRun0_B.sl.v264,
    kernelRun0_B.sl.v269, kernelRun0_B.sl.v283, kernelRun0_B.sl.v297, kernelRun0_B.sl.v298, kernelRun0_B.sl.v311, kernelRun0_B.sl.v313,
    kernelRun0_B.sl.v320, kernelRun0_B.sl.v325, kernelRun0_B.sl.v339, kernelRun0_B.sl.v353, kernelRun0_B.sl.v354, kernelRun0_B.sl.v367,
    kernelRun0_B.sl.v369, kernelRun0_B.sl.v376, kernelRun0_B.sl.v381, kernelRun0_B.sl.v395, kernelRun0_B.sl.v409, kernelRun0_B.sl.v410,
    kernelRun0_B.sl.v423, kernelRun0_B.sl.v425, kernelRun0_B.sl.v432, kernelRun0_B.sl.v437, kernelRun0_B.sl.v451, kernelRun0_B.sl.v465,
    kernelRun0_B.sl.v466, kernelRun0_B.sl.v479, kernelRun0_B.sl.v481, kernelRun0_B.sl.v488, kernelRun0_B.sl.v493, kernelRun0_B.sl.v507,
    kernelRun0_B.sl.v521, kernelRun0_B.sl.v522, kernelRun0_B.sl.v535, kernelRun0_B.sl.v537, kernelRun0_B.sl.v544, kernelRun0_B.sl.v549,
    kernelRun0_B.sl.v563, kernelRun0_B.sl.v577, kernelRun0_B.sl.v578, kernelRun0_B.sl.v591, kernelRun0_B.sl.v593, kernelRun0_B.sl.v600,
    kernelRun0_B.sl.v605, kernelRun0_B.sl.v619, kernelRun0_B.sl.v681, kernelRun0_B.sl.v682, kernelRun0_B.sl.v695, kernelRun0_B.sl.v697,
    kernelRun0_B.sl.v704, kernelRun0_B.sl.v709, kernelRun0_B.sl.v723, kernelRun0_B.sl.v737, kernelRun0_B.sl.v738, kernelRun0_B.sl.v751,
    kernelRun0_B.sl.v753, kernelRun0_B.sl.v760, kernelRun0_B.sl.v765, kernelRun0_B.sl.v779, kernelRun0_B.sl.v793, kernelRun0_B.sl.v794,
    kernelRun0_B.sl.v807, kernelRun0_B.sl.v809, kernelRun0_B.sl.v816, kernelRun0_B.sl.v821, kernelRun0_B.sl.v835, kernelRun0_B.sl.v849,
    kernelRun0_B.sl.v850, kernelRun0_B.sl.v863, kernelRun0_B.sl.v865, kernelRun0_B.sl.v872, kernelRun0_B.sl.v877, kernelRun0_B.sl.v891,
    kernelRun0_B.sl.v905, kernelRun0_B.sl.v906, kernelRun0_B.sl.v919, kernelRun0_B.sl.v921, kernelRun0_B.sl.v928, kernelRun0_B.sl.v933,
    kernelRun0_B.sl.v947, kernelRun0_B.sl.v961, kernelRun0_B.sl.v962, kernelRun0_B.sl.v975, kernelRun0_B.sl.v977, kernelRun0_B.sl.v984,
    kernelRun0_B.sl.v989,
    View.readCov_fill, View.readCov_cons_toLoadRect, View.readAt_eq_ld, Memref.IsWhole.read_unread, View.ld_unit_lit', View.canon_cons_unit_lit', shapeCast_id]
  simp (disch := decide) only [
    k0_pay47, k0_pay48, k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112, k0_pay113, k0_pay114, k0_pay115,
    k0_pay116, k0_pay117, k0_pay133, k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208,
    k0_pay209, k0_pay210, k0_pay34, k0_pay35,
    readCov_ld, shapeCast_id, View.ld_unit_lit']
  refine ⟨?_, ?_, ?_, ?_, ?_, ?_⟩ <;> (simp (disch := decide) only [hL, hD, hX, hCol, hRow,
    Blk.dt, Blk.aneg, Blk.a, Blk.ahi, Blk.cs, Blk.csT, Blk.eo, Blk.we, Blk.gend, Blk.hi, Blk.lo, Blk.dtx, Blk.wex, Blk.gx, Blk.x, Blk.xsc, Blk.dysc,
    Blk.dyo, Blk.xw, Blk.prevf, Blk.prevb, Blk.dnb, Blk.B0, Blk.B1, Blk.C0, Blk.C1, Blk.G, Blk.col, Blk.row, Blk.dyh, Blk.xh, Blk.L, Blk.M, Blk.dM,
    Blk.qm, Blk.dG, Blk.dcol, Blk.drow, Blk.dx0, Blk.dx1, Blk.dxL, Blk.dxd, Blk.deo, Blk.dwe, Blk.dcs, Blk.last, Blk.da, Blk.ddt, Blk.out8, Blk.out9,
    Blk.out10, Blk.out11, Blk.out12, Blk.next,
    View.ld_unit_lit'] <;> try rfl)

end Cert.Ssd

end
-- ==== Proof.Ssd.Blocks.lean ====
/- The blocks of a grid point: point `t` works on chunk `31 - t` of the arrays the grid reads, and what it reads there if
   the arrays hold the real data. -/
module

public import proofs.«01_k».proof.Proof.Ssd.Outs
public import proofs.«01_k».proof.Proof.Ssd.TieB
public import proofs.«01_k».proof.Proof.Gen.KernelIdeal.Value
public import Idealize.ShloMosaic.Lib.Pipeline.ValueKit
public import Idealize.ShloMosaic.Lib.Claim

@[expose] public section

noncomputable section

namespace Cert.SsdGrid

open Cert.KernelIdeal Cert.KernelIdeal.Gen Idealize.ShloMosaic Idealize.ShloMosaic.TcCoe
open Cert.Ssd (Data Blk Holds)

variable (m : (ℓ : Loc nD τ sig) → Buf (Elt Ideal) ℓ)

/-! ## The blocks of a point -/

theorem i0 : ∀ t : Fin cfg0.N, win0_0.index t = ![31 - t.val, 0] := by decide +kernel
theorem i1 : ∀ t : Fin cfg0.N, win0_1.index t = ![31 - t.val, 0] := by decide +kernel
theorem i2 : ∀ t : Fin cfg0.N, win0_2.index t = ![31 - t.val, 0] := by decide +kernel
theorem i3 : ∀ t : Fin cfg0.N, win0_3.index t = ![31 - t.val, 44] := by decide +kernel
theorem i4 : ∀ t : Fin cfg0.N, win0_4.index t = ![31 - t.val, 0, 0] := by decide +kernel
theorem i5 : ∀ t : Fin cfg0.N, win0_5.index t = ![0, 0] := by decide +kernel
theorem i6 : ∀ t : Fin cfg0.N, win0_6.index t = ![0, 0] := by decide +kernel
theorem i7 : ∀ t : Fin cfg0.N, win0_7.index t = ![0, 0] := by decide +kernel
theorem i8 : ∀ t : Fin cfg0.N, win0_8.index t = ![31 - t.val, 0] := by decide +kernel
theorem i9 : ∀ t : Fin cfg0.N, win0_9.index t = ![31 - t.val, 0] := by decide +kernel
theorem i10 : ∀ t : Fin cfg0.N, win0_10.index t = ![31 - t.val, 0] := by decide +kernel

section
variable (c : Dev nD) (t : Fin cfg0.N)

/-! The eight input blocks of point `t`. -/

@[irreducible] def x0 : Vec Ideal S128x1024 .f32 := iblk m c 0 t
@[irreducible] def x1 : Vec Ideal S128x1024 .f32 := iblk m c 1 t
@[irreducible] def x2 : Vec Ideal S128x512 .f32 := iblk m c 2 t
@[irreducible] def x3 : Vec Ideal S128x128 .f32 := iblk m c 3 t
@[irreducible] def x4 : Vec Ideal S1x128x1024 .f32 := iblk m c 4 t
@[irreducible] def x5 : Vec Ideal S1x128 .f32 := iblk m c 5 t
@[irreducible] def x6 : Vec Ideal S1x128 .f32 := iblk m c 6 t
@[irreducible] def x7 : Vec Ideal S1x1024 .f32 := iblk m c 7 t

theorem b0 (r : Fin 128) (j : Fin 1024) (h : 128 * (31 - t.val) + r.val < 4096) :
    x0 m c t (ix2 r j) = V m c main_arg0 (ix2 ⟨128 * (31 - t.val) + r.val, h⟩ j) := by
  unfold x0; blk_ext [iblk, i0 t]

theorem b1 (r : Fin 128) (j : Fin 1024) (h : 128 * (31 - t.val) + r.val < 4096) :
    x1 m c t (ix2 r j) = V m c main_arg1 (ix2 ⟨128 * (31 - t.val) + r.val, h⟩ j) := by
  unfold x1; blk_ext [iblk, i1 t]

theorem b2 (r : Fin 128) (j : Fin 512) (h : 128 * (31 - t.val) + r.val < 4096) :
    x2 m c t (ix2 r j) = V m c main_arg2 (ix2 ⟨128 * (31 - t.val) + r.val, h⟩ j) := by
  unfold x2; blk_ext [iblk, i2 t]

theorem b3 (r : Fin 128) (l : Fin 128) (h : 128 * (31 - t.val) + r.val < 4096) (h' : 5632 + l.val < 5760) :
    x3 m c t (ix2 r l) = V m c main_arg3 (ix2 ⟨128 * (31 - t.val) + r.val, h⟩ ⟨5632 + l.val, h'⟩) := by
  unfold x3; blk_ext [iblk, i3 t]

theorem b4 (n : Fin 128) (j : Fin 1024) (h : 31 - t.val < 32) :
    x4 m c t (ix3 0 n j) = V m c main_v59 (ix3 ⟨31 - t.val, h⟩ n j) := by
  unfold x4; blk_ext [iblk, i4 t]

theorem b5 (l : Fin 128) : x5 m c t (ix2 0 l) = V m c main_v1 (ix2 0 l) := by
  unfold x5; blk_ext [iblk, i5 t]

theorem b6 (l : Fin 128) : x6 m c t (ix2 0 l) = V m c main_v3 (ix2 0 l) := by
  unfold x6; blk_ext [iblk, i6 t]

theorem b7 (j : Fin 1024) : x7 m c t (ix2 0 j) = V m c main_v5 (ix2 0 j) := by
  unfold x7; blk_ext [iblk, i7 t]

end

/-- The buffers the grid reads hold the real data. -/
structure Entry (c : Dev nD) (D : Data) : Prop where
  dy : ∀ (i : Fin 4096) (j : Fin 1024), V m c main_arg0 (ix2 i j) = ((D.dy i j : ℝ) : EReal)
  xs : ∀ (i : Fin 4096) (j : Fin 1024), V m c main_arg1 (ix2 i j) = ((D.xs i j : ℝ) : EReal)
  bc : ∀ (i : Fin 4096) (j : Fin 512), V m c main_arg2 (ix2 i j) = ((D.bc i j : ℝ) : EReal)
  u : ∀ (i : Fin 4096) (l : Fin 128) (h : 5632 + l.val < 5760), l.val < 16 → ∃ p b : ℝ,
    V m c main_arg3 (ix2 i ⟨5632 + l.val, h⟩) = (p : EReal) ∧ V m c main_v1 (ix2 0 l) = (b : EReal) ∧ p + b = D.u i l
  prev : ∀ (k : Fin 32) (n : Fin 128) (j : Fin 1024), V m c main_v59 (ix3 k n j) = ((D.prev k j n : ℝ) : EReal)
  alog : ∀ l : Fin 128, V m c main_v3 (ix2 0 l) = ((D.al l : ℝ) : EReal)
  dsk : ∀ j : Fin 1024, V m c main_v5 (ix2 0 j) = ((D.ds (j / 64) : ℝ) : EReal)

/-- What a point works on: its input blocks and the gradient `dn` it finds in the scratch. -/
@[irreducible] def blk (c : Dev nD) (t : Fin cfg0.N) (dn : Vec Ideal S128x1024 .f32) : Blk :=
  Blk.mk (x0 m c t) (x1 m c t) (x2 m c t) (x3 m c t) (x4 m c t) (x5 m c t) (x6 m c t) (x7 m c t) dn

end Cert.SsdGrid
-- ==== Proof.Ssd.Cumsum.lean ====
/- Running sums of the reference over the last axis of an array, at an index: the sum of the entries up to the index, and
   the sum of the entries from it on. -/
module

public import proofs.«01_k».proof.Proof.Ssd.Real

@[expose] public section

noncomputable section

namespace Cert.SsdGrid
open Idealize.ShloMosaic

/-- A fold that adds `g n` for each `n` is the start plus the sum. -/
theorem foldl_add {α : Type} (g : α → EReal) : ∀ (l : List α) (v : EReal),
    l.foldl (fun r n => r + g n) v = v + (l.map g).sum
  | [], v => by simp
  | a :: l, v => by rw [List.foldl_cons, foldl_add g l, List.map_cons, List.sum_cons, add_assoc]

/-- The positions of a window that is 1 on all axes but the last. -/
def win4 (N : ℕ) : Fin N ≃ (⟨4, ![1, 1, 1, N]⟩ : Shape).Idx where
  toFun n := ix4 (0 : Fin 1) (0 : Fin 1) (0 : Fin 1) n
  invFun p := p 3
  left_inv _ := rfl
  right_inv p := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The same with three axes. -/
def win3 (N : ℕ) : Fin N ≃ (⟨3, ![1, 1, N]⟩ : Shape).Idx where
  toFun n := ix3 (0 : Fin 1) (0 : Fin 1) n
  invFun p := p 2
  left_inv _ := rfl
  right_inv p := by
    funext a
    match a with
    | ⟨0, _⟩ => exact Subsingleton.elim (α := Fin 1) _ _
    | ⟨1, _⟩ => exact Subsingleton.elim (α := Fin 1) _ _
    | ⟨2, _⟩ => rfl

/-- A windowed sum with a zero start is the sum over the positions of the window. -/
theorem window_sum {s t : Shape} (window strides lo hi : Fin s.rank → ℕ) (x : s.Idx → EReal)
    (h : s.ReduceWindows window strides lo hi t) (j : t.Idx) {N : ℕ} (e : Fin N ≃ (⟨s.rank, window⟩ : Shape).Idx)
    (g : Fin N → EReal)
    (hg : ∀ n, (if hin : ∀ a, lo a ≤ (j (a.cast h.1.symm)).val * strides a + (e n a).val
        ∧ (j (a.cast h.1.symm)).val * strides a + (e n a).val - lo a < s.size a
      then x (fun a => ⟨(j (a.cast h.1.symm)).val * strides a + (e n a).val - lo a, (hin a).2⟩) else 0) = g n) :
    Ideal.hostReduceWindowAdd window strides lo hi h x 0 j = ∑ n, g n := by
  unfold Ideal.hostReduceWindowAdd Host.reduceWindow
  dsimp only
  rw [foldl_add, zero_add, ← List.ofFn_eq_map, List.sum_ofFn]
  rw [← Equiv.sum_comp (e.trans (⟨s.rank, window⟩ : Shape).rowMajor)]
  refine Finset.sum_congr rfl fun n _ => ?_
  rw [← hg n, Equiv.trans_apply]
  simp only [Equiv.symm_apply_apply]

/-- Summing `g` over the window positions that reach the array is summing over the entries up to `i`. -/
theorem shift_le {N : ℕ} (i : Fin N) (f : ℕ → EReal) :
    (∑ n : Fin N, if N - 1 ≤ i.val + n.val then f (i.val + n.val - (N - 1)) else 0)
      = ∑ j ∈ Finset.range (i.val + 1), f j := by
  rw [Fin.sum_univ_eq_sum_range (fun n => if N - 1 ≤ i.val + n then f (i.val + n - (N - 1)) else 0), ← Finset.sum_filter]
  have hi := i.isLt
  refine Finset.sum_bij' (fun n _ => i.val + n - (N - 1)) (fun j _ => j + (N - 1) - i.val) ?_ ?_ ?_ ?_ ?_
  all_goals intro n hn
  all_goals simp only [Finset.mem_filter, Finset.mem_range] at hn ⊢
  all_goals omega

/-- The running sum over the last of four axes. -/
theorem cum4 {A B C N M : ℕ} (hM : M = N - 1) (x : (⟨4, ![A, B, C, N]⟩ : Shape).Idx → EReal)
    (h : (⟨4, ![A, B, C, N]⟩ : Shape).ReduceWindows (![1, 1, 1, N] : Fin 4 → ℕ) ![1, 1, 1, 1] ![0, 0, 0, M] ![0, 0, 0, 0]
      ⟨4, ![A, B, C, N]⟩) (a : Fin A) (b : Fin B) (c : Fin C) (i : Fin N) (f : ℕ → EReal)
    (hf : ∀ j : Fin N, x (ix4 a b c j) = f j) :
    Ideal.hostReduceWindowAdd ![1, 1, 1, N] ![1, 1, 1, 1] ![0, 0, 0, M] ![0, 0, 0, 0] h x 0 (ix4 a b c i)
      = ∑ j ∈ Finset.range (i.val + 1), f j := by
  subst hM
  rw [← shift_le]
  refine window_sum _ _ _ _ x h _ (win4 N) _ fun n => ?_
  have hn := n.isLt
  have hi := i.isLt
  have ha := a.isLt
  have hb := b.isLt
  have hc := c.isLt
  split
  · next hin =>
    have h3 : N - 1 ≤ i.val * 1 + n.val ∧ i.val * 1 + n.val - (N - 1) < N := hin 3
    rw [if_pos (by omega), ← hf ⟨i.val + n.val - (N - 1), by omega⟩]
    congr 1
    funext q
    apply Fin.ext
    match q with
    | ⟨0, _⟩ => show a.val * 1 + 0 - 0 = a.val; omega
    | ⟨1, _⟩ => show b.val * 1 + 0 - 0 = b.val; omega
    | ⟨2, _⟩ => show c.val * 1 + 0 - 0 = c.val; omega
    | ⟨3, _⟩ => show i.val * 1 + n.val - (N - 1) = i.val + n.val - (N - 1); omega
  · next hin =>
    rw [if_neg]
    intro hle
    refine hin fun q => ?_
    match q with
    | ⟨0, _⟩ => show 0 ≤ a.val * 1 + 0 ∧ a.val * 1 + 0 - 0 < A; omega
    | ⟨1, _⟩ => show 0 ≤ b.val * 1 + 0 ∧ b.val * 1 + 0 - 0 < B; omega
    | ⟨2, _⟩ => show 0 ≤ c.val * 1 + 0 ∧ c.val * 1 + 0 - 0 < C; omega
    | ⟨3, _⟩ => show N - 1 ≤ i.val * 1 + n.val ∧ i.val * 1 + n.val - (N - 1) < N; omega

/-- The running sum over the last of three axes. -/
theorem cum3 {A B N M : ℕ} (hM : M = N - 1) (x : (⟨3, ![A, B, N]⟩ : Shape).Idx → EReal)
    (h : (⟨3, ![A, B, N]⟩ : Shape).ReduceWindows (![1, 1, N] : Fin 3 → ℕ) ![1, 1, 1] ![0, 0, M] ![0, 0, 0]
      ⟨3, ![A, B, N]⟩) (a : Fin A) (b : Fin B) (i : Fin N) (f : ℕ → EReal)
    (hf : ∀ j : Fin N, x (ix3 a b j) = f j) :
    Ideal.hostReduceWindowAdd ![1, 1, N] ![1, 1, 1] ![0, 0, M] ![0, 0, 0] h x 0 (ix3 a b i)
      = ∑ j ∈ Finset.range (i.val + 1), f j := by
  subst hM
  rw [← shift_le]
  refine window_sum _ _ _ _ x h _ (win3 N) _ fun n => ?_
  have hn := n.isLt
  have hi := i.isLt
  have ha := a.isLt
  have hb := b.isLt
  split
  · next hin =>
    have h3 : N - 1 ≤ i.val * 1 + n.val ∧ i.val * 1 + n.val - (N - 1) < N := hin 2
    rw [if_pos (by omega), ← hf ⟨i.val + n.val - (N - 1), by omega⟩]
    congr 1
    funext q
    apply Fin.ext
    match q with
    | ⟨0, _⟩ => show a.val * 1 + 0 - 0 = a.val; omega
    | ⟨1, _⟩ => show b.val * 1 + 0 - 0 = b.val; omega
    | ⟨2, _⟩ => show i.val * 1 + n.val - (N - 1) = i.val + n.val - (N - 1); omega
  · next hin =>
    rw [if_neg]
    intro hle
    refine hin fun q => ?_
    match q with
    | ⟨0, _⟩ => show 0 ≤ a.val * 1 + 0 ∧ a.val * 1 + 0 - 0 < A; omega
    | ⟨1, _⟩ => show 0 ≤ b.val * 1 + 0 ∧ b.val * 1 + 0 - 0 < B; omega
    | ⟨2, _⟩ => show N - 1 ≤ i.val * 1 + n.val ∧ i.val * 1 + n.val - (N - 1) < N; omega

/-- Summing over the window positions that stay in the array is summing over the entries from `i` on. -/
theorem shift_ge {N : ℕ} (i : Fin N) (f : ℕ → EReal) :
    (∑ n : Fin N, if i.val + n.val < N then f (i.val + n.val) else 0)
      = ∑ j ∈ Finset.range N, if i.val ≤ j then f j else 0 := by
  rw [Fin.sum_univ_eq_sum_range (fun n => if i.val + n < N then f (i.val + n) else 0), ← Finset.sum_filter, ← Finset.sum_filter]
  have hi := i.isLt
  refine Finset.sum_bij' (fun n _ => i.val + n) (fun j _ => j - i.val) ?_ ?_ ?_ ?_ ?_
  all_goals intro n hn
  all_goals simp only [Finset.mem_filter, Finset.mem_range] at hn ⊢
  all_goals omega

/-- The running sum from the end over the last of four axes. -/
theorem rev4 {A B C N M : ℕ} (x : (⟨4, ![A, B, C, N]⟩ : Shape).Idx → EReal)
    (h : (⟨4, ![A, B, C, N]⟩ : Shape).ReduceWindows (![1, 1, 1, N] : Fin 4 → ℕ) ![1, 1, 1, 1] ![0, 0, 0, 0] ![0, 0, 0, M]
      ⟨4, ![A, B, C, N]⟩) (a : Fin A) (b : Fin B) (c : Fin C) (i : Fin N) (f : ℕ → EReal)
    (hf : ∀ j : Fin N, x (ix4 a b c j) = f j) :
    Ideal.hostReduceWindowAdd ![1, 1, 1, N] ![1, 1, 1, 1] ![0, 0, 0, 0] ![0, 0, 0, M] h x 0 (ix4 a b c i)
      = ∑ j ∈ Finset.range N, if i.val ≤ j then f j else 0 := by
  rw [← shift_ge]
  refine window_sum _ _ _ _ x h _ (win4 N) _ fun n => ?_
  have hn := n.isLt
  have hi := i.isLt
  have ha := a.isLt
  have hb := b.isLt
  have hc := c.isLt
  split
  · next hin =>
    have h3 : 0 ≤ i.val * 1 + n.val ∧ i.val * 1 + n.val - 0 < N := hin 3
    rw [if_pos (by omega), ← hf ⟨i.val + n.val, by omega⟩]
    congr 1
    funext q
    apply Fin.ext
    match q with
    | ⟨0, _⟩ => show a.val * 1 + 0 - 0 = a.val; omega
    | ⟨1, _⟩ => show b.val * 1 + 0 - 0 = b.val; omega
    | ⟨2, _⟩ => show c.val * 1 + 0 - 0 = c.val; omega
    | ⟨3, _⟩ => show i.val * 1 + n.val - 0 = i.val + n.val; omega
  · next hin =>
    rw [if_neg]
    intro hle
    refine hin fun q => ?_
    match q with
    | ⟨0, _⟩ => show 0 ≤ a.val * 1 + 0 ∧ a.val * 1 + 0 - 0 < A; omega
    | ⟨1, _⟩ => show 0 ≤ b.val * 1 + 0 ∧ b.val * 1 + 0 - 0 < B; omega
    | ⟨2, _⟩ => show 0 ≤ c.val * 1 + 0 ∧ c.val * 1 + 0 - 0 < C; omega
    | ⟨3, _⟩ => show 0 ≤ i.val * 1 + n.val ∧ i.val * 1 + n.val - 0 < N; omega

/-- The running sum from the end over the last of three axes. -/
theorem rev3 {A B N M : ℕ} (x : (⟨3, ![A, B, N]⟩ : Shape).Idx → EReal)
    (h : (⟨3, ![A, B, N]⟩ : Shape).ReduceWindows (![1, 1, N] : Fin 3 → ℕ) ![1, 1, 1] ![0, 0, 0] ![0, 0, M]
      ⟨3, ![A, B, N]⟩) (a : Fin A) (b : Fin B) (i : Fin N) (f : ℕ → EReal)
    (hf : ∀ j : Fin N, x (ix3 a b j) = f j) :
    Ideal.hostReduceWindowAdd ![1, 1, N] ![1, 1, 1] ![0, 0, 0] ![0, 0, M] h x 0 (ix3 a b i)
      = ∑ j ∈ Finset.range N, if i.val ≤ j then f j else 0 := by
  rw [← shift_ge]
  refine window_sum _ _ _ _ x h _ (win3 N) _ fun n => ?_
  have hn := n.isLt
  have hi := i.isLt
  have ha := a.isLt
  have hb := b.isLt
  split
  · next hin =>
    have h3 : 0 ≤ i.val * 1 + n.val ∧ i.val * 1 + n.val - 0 < N := hin 2
    rw [if_pos (by omega), ← hf ⟨i.val + n.val, by omega⟩]
    congr 1
    funext q
    apply Fin.ext
    match q with
    | ⟨0, _⟩ => show a.val * 1 + 0 - 0 = a.val; omega
    | ⟨1, _⟩ => show b.val * 1 + 0 - 0 = b.val; omega
    | ⟨2, _⟩ => show i.val * 1 + n.val - 0 = i.val + n.val; omega
  · next hin =>
    rw [if_neg]
    intro hle
    refine hin fun q => ?_
    match q with
    | ⟨0, _⟩ => show 0 ≤ a.val * 1 + 0 ∧ a.val * 1 + 0 - 0 < A; omega
    | ⟨1, _⟩ => show 0 ≤ b.val * 1 + 0 ∧ b.val * 1 + 0 - 0 < B; omega
    | ⟨2, _⟩ => show 0 ≤ i.val * 1 + n.val ∧ i.val * 1 + n.val - 0 < N; omega

end Cert.SsdGrid

end
-- ==== Proof.Ssd.Ref.lean ====
/- The reference at an index, up to the states that enter the chunks: every intermediate array of the forward part holds
   the real number Proof/Ssd/Spec.lean gives for it. A head is `8 * g + e` (group `g`, head `e` of the group). -/
module

public import proofs.«01_k».proof.Proof.Gen.ReferenceIdeal.Read
public import proofs.«01_k».proof.Proof.Ssd.Spec
public import proofs.«01_k».proof.Proof.Ssd.Cumsum

@[expose] public section

noncomputable section

namespace Cert.SsdRef

open Cert.ReferenceIdeal Cert.ReferenceIdeal.Gen Cert.ReferenceIdeal.Read Idealize.ShloMosaic Idealize.ShloMosaic.TcCoe
open Cert.Ssd hiding sig
open Finset

/-- The word of `+∞`. -/
theorem inf_word : Ideal.ofBits FTy.f32 2139095040#32 = (⊤ : EReal) := by
  simp [Ideal.ofBits, Ideal.ieee]

/-- The word of `-∞`. -/
theorem ninf_word : Ideal.ofBits FTy.f32 4286578688#32 = (⊥ : EReal) := by
  simp [Ideal.ofBits, Ideal.ieee]

/-- The exponential of a difference where a mask holds, and of `-∞` elsewhere. -/
theorem exp_mask (q : Prop) [Decidable q] (x : ℝ) :
    Ideal.exp (if q then ((x : ℝ) : EReal) else ⊥) = (((if q then Real.exp x else 0) : ℝ) : EReal) := by
  split_ifs
  · rw [Ideal.exp_coe]
  · rw [Ideal.exp_bot]; rfl

/-- The mask word of `b ≤ a`, as a selection between the words 1 and 0. -/
theorem mask_word (a b : ℕ) (ha : a < 2 ^ 31) (hb : b < 2 ^ 31) :
    Scalar.select (IntOp.cmpi .sge (IntOp.addi (BitVec.ofNat 32 a) 0#32) (BitVec.ofNat 32 b)) (1#1 : BitVec 1) 0#1
      = BitVec.ofBool (decide (b ≤ a)) := by
  have h0 : IntOp.addi (BitVec.ofNat 32 a) 0#32 = BitVec.ofNat 32 a := by simp [IntOp.addi]
  rw [h0, cmp_sge a b ha hb, sel_ofBool]
  by_cases h : b ≤ a <;> simp [h]

/-- An array of one of the arguments. -/
abbrev Arr (s : Shape) : Type := BufTy.Contents (Elt Ideal) ⟨s, EltTy.f32⟩

/-- The arguments of the reference hold the real data. -/
structure Args (x0 x1 : Arr S4096x1024) (x2 : Arr S4096x512) (x3 : Arr S4096x5760) (x4 x6 x7 : Arr S1x16) (D : Data) : Prop where
  dy : ∀ (i : Fin 4096) (j : Fin 1024), x0 (ix2 i j) = ((D.dy i j : ℝ) : EReal)
  xs : ∀ (i : Fin 4096) (j : Fin 1024), x1 (ix2 i j) = ((D.xs i j : ℝ) : EReal)
  bc : ∀ (i : Fin 4096) (j : Fin 512), x2 (ix2 i j) = ((D.bc i j : ℝ) : EReal)
  u : ∀ (i : Fin 4096) (h : Fin 16), ∃ p b : ℝ, x3 (ix2 i ⟨5632 + h.val, by omega⟩) = (p : EReal) ∧ x4 (ix2 0 h) = (b : EReal) ∧ p + b = D.u i h
  al : ∀ h : Fin 16, x6 (ix2 0 h) = ((D.al h : ℝ) : EReal)
  ds : ∀ h : Fin 16, x7 (ix2 0 h) = ((D.ds h : ℝ) : EReal)

variable {x0 x1 : Arr S4096x1024} {x2 : Arr S4096x512} {x3 : Arr S4096x5760} {x4 x6 x7 : Arr S1x16} {D : Data}
  (H : Args x0 x1 x2 x3 x4 x6 x7 D)
include H

theorem v11 (t : Fin 4096) (h : Fin 16) : val_main_v11 (F := Ideal) x3 x4 (ix2 t h) = ((D.u t h : ℝ) : EReal) := by
  obtain ⟨p, b, h3, h4, h5⟩ := H.u t h
  pointwise [val_main_v11, val_main_v10, val_main_v9, val_main_v1, val_main_v0]
  rw [h3, h4, ← EReal.coe_add, h5]

theorem v12_0 (t : Fin 4096) (h : Fin 16) : val_main_v12_0 (F := Ideal) x3 x4 (ix2 t h) = ((D.dt t h : ℝ) : EReal) := by
  have h11 := v11 H t h
  unfold val_main_v12_0 val_main_call0_v4 val_main_call0_v11 val_main_call0_v6 val_main_call0_v1 val_main_call0_v10 val_main_call0_v9 val_main_call0_v8 val_main_call0_v7 val_main_call0_v3
  generalize val_main_v11 (F := Ideal) x3 x4 = v at h11 ⊢
  pointwise [val_main_call0_v0, val_main_call0_v2, val_main_call0_v5, val_main_call0_cst]
  rw [h11, if_neg (by simp)]
  have e := Cert.Ssd.softplus_coe (D.u t h)
  rw [zero_sub] at e
  refine e.trans ?_
  unfold Data.dt
  rw [if_pos h.isLt]
  rfl

theorem v12_1 (t : Fin 4096) (h : Fin 16) : val_main_v12_1 (F := Ideal) x3 x4 (ix2 t h) = ((Cert.Ssd.sig (D.u t h) : ℝ) : EReal) := by
  have h11 := v11 H t h
  have h12 := v12_0 H t h
  unfold val_main_v12_1 val_main_call0_v21 val_main_call0_v16 val_main_call0_v20 val_main_call0_v14 val_main_call0_v18
  generalize val_main_v11 (F := Ideal) x3 x4 = v at h11 ⊢
  generalize val_main_v12_0 (F := Ideal) x3 x4 = w at h12 ⊢
  pointwise [val_main_call0_v13, val_main_call0_v15, val_main_call0_v17, val_main_call0_v19, val_main_call0_cst_0, val_main_call0_cst_1, val_main_call0_cst_2, val_main_call0_cst_3]
  rw [h11, h12, inf_word, if_neg (EReal.coe_ne_top _), if_neg (EReal.coe_ne_top _), ← EReal.coe_sub, Ideal.exp_coe, ← Data.exp_sub_sp]
  unfold Data.dt
  rw [if_pos h.isLt]

theorem v17 (t : Fin 4096) (h : Fin 16) (p : Fin 64) : val_main_v17 (F := Ideal) x1 x3 x4 (ix3 t h p)
    = ((D.x t (64 * h + p) : ℝ) : EReal) := by
  pointwise [val_main_v17, val_main_v16, val_main_v15, val_main_v4]
  rw [H.xs, v12_0 H, ← EReal.coe_mul]
  unfold Data.x
  rw [show (64 * h.val + p.val) / 64 = h.val by omega]
  simp only [Nat.mul_comm]

theorem v18 (c : Fin 32) (l : Fin 128) (g : Fin 2) (e : Fin 8) (p : Fin 64) : val_main_v18 (F := Ideal) x1 x3 x4 (ix5 c l g e p)
    = ((D.x (128 * c + l) (64 * (8 * g + e) + p) : ℝ) : EReal) := by
  pointwise [val_main_v18]
  rw [v17 H]
  simp only [Nat.mul_comm]

theorem v14 (h : Fin 16) : val_main_v14 (F := Ideal) x6 (ix1 h) = ((D.A h : ℝ) : EReal) := by
  pointwise [val_main_v14, val_main_v13, val_main_v2]
  rw [H.al, Ideal.exp_coe, ← EReal.coe_neg]
  unfold Data.A
  rw [if_pos h.isLt]

theorem v25 (c : Fin 32) (l : Fin 128) (g : Fin 2) (e : Fin 8) : val_main_v25 (F := Ideal) x3 x4 x6 (ix4 g e c l)
    = ((D.a (128 * c + l) (8 * g + e) : ℝ) : EReal) := by
  pointwise [val_main_v25, val_main_v24, val_main_v23, val_main_v22, val_main_v21]
  rw [v12_0 H, v14 H, ← EReal.coe_mul]
  simp only [Nat.mul_comm]
  rfl

theorem v20 (c : Fin 32) (l : Fin 128) (g : Fin 2) (n : Fin 128) : val_main_v20 (F := Ideal) x2 (ix4 c l g n)
    = ((D.Cm (128 * c + l) g n : ℝ) : EReal) := by
  pointwise [val_main_v20, val_main_v8, val_main_v6]
  rw [H.bc]
  unfold Data.Cm
  simp only [Nat.mul_comm, Nat.add_assoc]

theorem v26 (c : Fin 32) (l : Fin 128) (g : Fin 2) (e : Fin 8) : val_main_v26 (F := Ideal) x3 x4 x6 (ix4 g e c l)
    = ((D.cs c l (8 * g + e) : ℝ) : EReal) := by
  have h25 := fun l' => v25 H c l' g e
  unfold val_main_v26 Host.reduceWindowAdd
  generalize val_main_v25 (F := Ideal) x3 x4 x6 = v at h25 ⊢
  refine (congrArg (fun q => Ideal.hostReduceWindowAdd _ _ _ _ _ v q (ix4 g e c l)) (?_ : _ = (0 : EReal))).trans ((Cert.SsdGrid.cum4 rfl v _ g e c l (fun i => ((D.a (128 * c + i) (8 * g + e) : ℝ) : EReal)) h25).trans ?_)
  · pointwise [val_main_call1_call0_v0, val_main_call1_call0_cst]
  · rw [Finset.sum_range, sum_coe (fun i => D.a (128 * c + i) (8 * g + e)) fun _ => rfl]
    rfl

omit H in
theorem v27 : val_main_v27 (F := Ideal) x3 x4 x6 = val_main_v26 (F := Ideal) x3 x4 x6 := rfl
omit H in
theorem v53 : val_main_v53 (F := Ideal) x3 x4 x6 = val_main_v26 (F := Ideal) x3 x4 x6 := rfl
omit H in
theorem v46 : val_main_v46 (F := Ideal) x1 x3 x4 = val_main_v18 (F := Ideal) x1 x3 x4 := rfl

theorem v19 (c : Fin 32) (l : Fin 128) (g : Fin 2) (n : Fin 128) : val_main_v19 (F := Ideal) x2 (ix4 c l g n)
    = ((D.Bm (128 * c + l) g n : ℝ) : EReal) := by
  pointwise [val_main_v19, val_main_v7, val_main_v5]
  rw [H.bc]
  unfold Data.Bm
  simp only [Nat.mul_comm]
omit H in
theorem v47 : val_main_v47 (F := Ideal) x2 = val_main_v19 (F := Ideal) x2 := rfl

theorem v57 (c : Fin 32) (l : Fin 128) (g : Fin 2) (e : Fin 8) : val_main_v57 (F := Ideal) x3 x4 x6 (ix4 g e c l)
    = ((D.we c l (8 * g + e) : ℝ) : EReal) := by
  unfold val_main_v57 val_main_v56 val_main_v55 val_main_v54
  rw [v53]
  have h26 := fun l => v26 H c l g e
  generalize val_main_v26 (F := Ideal) x3 x4 x6 = v at h26 ⊢
  pointwise []
  rw [h26, h26, ← EReal.coe_sub, Ideal.exp_coe]
  rfl

theorem v62 (c : Fin 32) (g : Fin 2) (e : Fin 8) (p : Fin 64) (n : Fin 128) : val_main_v62 (F := Ideal) x1 x2 x3 x4 x6 (ix5 c g e p n)
    = ((D.S c (64 * (8 * g + e) + p) n : ℝ) : EReal) := by
  pointwise [val_main_v62, val_main_v61, val_main_v60, val_main_v59, val_main_v58]
  rw [v46, v47]
  simp only [v18 H, v57 H, v19 H, ← EReal.coe_mul]
  rw [sum_coe (fun l => D.x (128 * c + l) (64 * (8 * g + e) + p) * D.we c l (8 * g + e) * D.Bm (128 * c + l) g n) fun _ => rfl]
  unfold Data.S
  rw [show (64 * (8 * g.val + e.val) + p.val) / 64 = 8 * g.val + e.val by omega, show (64 * (8 * g.val + e.val) + p.val) / 512 = g.val by omega]

/-- The logarithms of the chunk decays, with a zero in front. -/
theorem v66 (z : Fin 33) (g : Fin 2) (e : Fin 8) : val_main_v66 (F := Ideal) x3 x4 x6 (ix3 g e z)
    = (((if z.val = 0 then 0 else D.tot (z - 1) (8 * g + e)) : ℝ) : EReal) := by
  pointwise [val_main_v66, val_main_v65, val_main_v64, val_main_v63, val_main_cst_0]
  by_cases hz : z.val = 0
  · rw [if_pos hz]
    exact dif_pos (show z.val < 1 by omega)
  · rw [if_neg hz]
    exact (dif_neg (show ¬ z.val < 1 by omega)).trans ((congrFun v53 _).trans (v26 H _ _ _ _))

theorem v68 (z : Fin 33) (g : Fin 2) (e : Fin 8) : val_main_v68 (F := Ideal) x3 x4 x6 (ix3 g e z)
    = ((D.T z (8 * g + e) : ℝ) : EReal) := by
  have h66 := fun z => v66 H z g e
  unfold val_main_v68 Host.reduceWindowAdd
  generalize val_main_v66 (F := Ideal) x3 x4 x6 = v at h66 ⊢
  refine (congrArg (fun q => Ideal.hostReduceWindowAdd _ _ _ _ _ v q (ix3 g e z)) (?_ : _ = (0 : EReal))).trans ((Cert.SsdGrid.cum3 rfl v _ g e z (fun i => (((if i = 0 then 0 else D.tot (i - 1) (8 * g + e)) : ℝ) : EReal)) h66).trans ?_)
  · pointwise [val_main_call6_call0_v0, val_main_call6_call0_cst]
  · rw [Finset.sum_range, sum_coe (fun i => if i = 0 then 0 else D.tot (i - 1) (8 * g + e)) fun _ => rfl, Finset.sum_range_succ']
    simp [Data.T]

omit H in
/-- The mask of the chunks not after a chunk. -/
theorem v76 (z c : Fin 33) (g : Fin 2) (e : Fin 8) : val_main_v76_1 (F := Ideal) (ix4 g e z c) = BitVec.ofBool (decide (c.val ≤ z.val)) := by
  pointwise [val_main_v76_1, val_main_v75, val_main_v74, val_main_c_2, val_main_call7_v4, val_main_call7_v5, val_main_call7_v2, val_main_call7_v3, val_main_call7_v0, val_main_call7_v1, val_main_call7_c, val_main_call7_c_0]
  exact mask_word _ _ (by omega) (by omega)

theorem v77 (z c : Fin 33) (g : Fin 2) (e : Fin 8) : val_main_v77 (F := Ideal) x3 x4 x6 (ix4 g e z c)
    = ((D.Dk z c (8 * g + e) : ℝ) : EReal) := by
  unfold val_main_v77 val_main_v76_0
  have h76 := v76 z c g e
  generalize val_main_v76_1 (F := Ideal) = w at h76 ⊢
  pointwise [val_main_call8_v2, val_main_call8_v0, val_main_cst_3, val_main_v73, val_main_v72, val_main_v71, val_main_v70, val_main_v69]
  rw [h76, sel_ofBool, v68 H, v68 H, ← EReal.coe_sub]
  refine (congrArg (fun q => Ideal.exp (if c.val ≤ z.val then _ else q)) ninf_word).trans ?_
  exact exp_mask _ _

theorem v80 (z : Fin 33) (g : Fin 2) (e : Fin 8) (p : Fin 64) (n : Fin 128) : val_main_v80 (F := Ideal) x1 x2 x3 x4 x6 (ix5 z g e p n)
    = ((D.S' z (64 * (8 * g + e) + p) n : ℝ) : EReal) := by
  pointwise [val_main_v80, val_main_v79, val_main_cst_4]
  unfold Data.S'
  by_cases hz : z.val = 0
  · rw [if_pos hz]
    exact dif_pos (show z.val < 1 by omega)
  · rw [if_neg hz]
    exact (dif_neg (show ¬ z.val < 1 by omega)).trans (v62 H _ _ _ _ _)

/-- The states that enter the chunks. -/
theorem v84 (z : Fin 32) (g : Fin 2) (e : Fin 8) (p : Fin 64) (n : Fin 128) : val_main_v84 (F := Ideal) x1 x2 x3 x4 x6 (ix5 z g e p n)
    = ((D.prev z (64 * (8 * g + e) + p) n : ℝ) : EReal) := by
  pointwise [val_main_v84, val_main_v83, val_main_v82]
  simp only [v80 H, v77 H, ← EReal.coe_mul]
  rw [sum_coe (fun c => D.S' c (64 * (8 * g + e) + p) n * D.Dk z c (8 * g + e)) fun _ => rfl]
  unfold Data.prev
  rw [show (64 * (8 * g.val + e.val) + p.val) / 64 = 8 * g.val + e.val by omega]

omit H in
/-- The mask of the rows not after a row. -/
theorem v35 (c : Fin 32) (g : Fin 2) (e : Fin 8) (l s : Fin 128) : val_main_v35_1 (F := Ideal) (ix5 g e c l s) = BitVec.ofBool (decide (s.val ≤ l.val)) := by
  pointwise [val_main_v35_1, val_main_v34, val_main_v33, val_main_c, val_main_call3_v4, val_main_call3_v5, val_main_call3_v2, val_main_call3_v3, val_main_call3_v0, val_main_call3_v1, val_main_call3_c, val_main_call3_c_0]
  exact mask_word _ _ (by omega) (by omega)

/-- The decay inside a chunk. -/
theorem v36 (c : Fin 32) (g : Fin 2) (e : Fin 8) (l s : Fin 128) : val_main_v36 (F := Ideal) x3 x4 x6 (ix5 g e c l s)
    = ((D.L c (8 * g + e) l s : ℝ) : EReal) := by
  unfold val_main_v36 val_main_v35_0
  have h35 := v35 c g e l s
  generalize val_main_v35_1 (F := Ideal) = w at h35 ⊢
  pointwise [val_main_call4_v2, val_main_call4_v0, val_main_cst, val_main_v32, val_main_v31, val_main_v30, val_main_v29, val_main_v28]
  rw [v27, h35, sel_ofBool, v26 H, v26 H, ← EReal.coe_sub]
  refine (congrArg (fun q => Ideal.exp (if s.val ≤ l.val then _ else q)) ninf_word).trans ?_
  exact exp_mask _ _

theorem v38 (c : Fin 32) (g : Fin 2) (l s : Fin 128) : val_main_v38 (F := Ideal) x2 (ix5 g 0 c l s)
    = ((D.G c g l s : ℝ) : EReal) := by
  pointwise [val_main_v38, val_main_v37]
  simp only [v20 H, v19 H, ← EReal.coe_mul]
  rw [sum_coe (fun n => D.Cm (128 * c + l) g n * D.Bm (128 * c + s) g n) fun _ => rfl]
  rfl

/-- The masked scores. -/
theorem v40 (c : Fin 32) (g : Fin 2) (e : Fin 8) (l s : Fin 128) : val_main_v40 (F := Ideal) x2 x3 x4 x6 (ix5 g e c l s)
    = ((D.M c (8 * g + e) l s : ℝ) : EReal) := by
  pointwise [val_main_v40, val_main_v39]
  rw [v36 H]
  refine (congrArg (· * _) (v38 H c g l s)).trans ?_
  rw [← EReal.coe_mul]
  unfold Data.M
  rw [show (8 * g.val + e.val) / 8 = g.val by omega]

end Cert.SsdRef

end
-- ==== Proof.Ssd.Finite.lean ====
module

public import proofs.«01_k».proof.Defs
public import Idealize.ShloMosaic.Lib.ValueIdx
public import Idealize.ShloMosaic.Lib.Pipeline.ValueKit
public import Idealize.ShloMosaic.PureOps.Ideal.Laws

@[expose] public section

noncomputable section

/-! # The precondition, read at the extended reals

`finite` says of every entry that its absolute value is below infinity; over the extended reals such an entry is the
image of a real number. -/

namespace Cert.SsdHost

open Idealize.ShloMosaic

instance preFacts : Cert.Pre_finite.Facts := by constructor <;> decide

/-- The word of the bound is infinity. -/
theorem top_word : Ideal.ofBits FTy.f32 0x7F800000#32 = (⊤ : EReal) := by
  simp [Ideal.ofBits, Ideal.ieee]

/-- An extended real whose absolute value is below infinity is a real number. -/
theorem real_of_abs_lt (x : EReal) (h : max x (-x) < ⊤) : ∃ r : ℝ, x = (r : EReal) := by
  induction x with
  | bot => simp at h
  | coe r => exact ⟨r, rfl⟩
  | top => simp at h

/-- Where the comparison of an array's absolute value with infinity is all ones, every entry is a real number. -/
theorem real_entries {s : Shape} (x : FVec Ideal s .f32) (hb : Cert.Pre_finite.S_.BroadcastsInDim s ![])
    (h : cmpf .olt (Host.absf x) (broadcastInDim s ![] hb (constant Cert.Pre_finite.S_ .f32 0x7F800000#32)) = fun _ => 1#1) (i : s.Idx) :
    ∃ r : ℝ, x i = (r : EReal) := by
  have e : Ideal.cmp .olt (max (x i) (-(x i))) (Ideal.ofBits FTy.f32 0x7F800000#32) = 1#1 := congrFun h i
  rw [top_word] at e
  refine real_of_abs_lt _ ?_
  by_contra n
  simp [Ideal.cmp, n] at e

/-- The precondition's results over the seven arrays it reads: every entry that is read is a real number. -/
structure Reals (x0 x1 : FVec Ideal Cert.Pre_finite.S4096x1024 .f32) (x2 : FVec Ideal Cert.Pre_finite.S4096x512 .f32)
    (x3 : FVec Ideal Cert.Pre_finite.S4096x5760 .f32) (x4 x6 x7 : FVec Ideal Cert.Pre_finite.S1x16 .f32) : Prop where
  x0 : ∀ i, ∃ r : ℝ, x0 i = (r : EReal)
  x1 : ∀ i, ∃ r : ℝ, x1 i = (r : EReal)
  x2 : ∀ i, ∃ r : ℝ, x2 i = (r : EReal)
  x3 : ∀ i (l : Fin 16), ∃ r : ℝ, x3 (ix2 i ⟨5632 + l.val, by omega⟩) = (r : EReal)
  x4 : ∀ i, ∃ r : ℝ, x4 i = (r : EReal)
  x6 : ∀ i, ∃ r : ℝ, x6 i = (r : EReal)
  x7 : ∀ i, ∃ r : ℝ, x7 i = (r : EReal)

/-- The precondition read: its seven results are all ones exactly where the entries are real numbers. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) :
    Reals (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) := by
  obtain ⟨h0, h1, h2, h3, h4, h6, h7⟩ := h c
  refine ⟨real_entries _ _ h0, real_entries _ _ h1, real_entries _ _ h2, ?_, real_entries _ _ h4, real_entries _ _ h6, real_entries _ _ h7⟩
  intro i l
  have e := real_entries _ _ h3 (ix2 i l)
  have r : (extractStridedSlice Cert.Pre_finite.S4096x16 ![0, 5632]
      (m ((c.tc : Thread Cert.KernelIdeal.nD Cert.KernelIdeal.τ).loc Cert.KernelIdeal.main_arg3))
      Cert.Pre_finite.Facts.slices_S4096x5760_S4096x16_0_5632) (ix2 i l)
      = (m ((c.tc : Thread Cert.KernelIdeal.nD Cert.KernelIdeal.τ).loc Cert.KernelIdeal.main_arg3)) (ix2 i ⟨5632 + l.val, by omega⟩) := by
    pointwise []
  exact r ▸ e

end Cert.SsdHost

end
-- ==== Proof.Ssd.Host.lean ====
/- What the host hands the call, at an index: the padded bias and rate rows, the skip row spread over its head's columns, and
   the states entering the chunks. From them: arguments that are real numbers meet the two descriptions of the real data,
   the kernel's (`Entry`) and the reference's (`Args`). -/
module

public import proofs.«01_k».proof.Proof.Ssd.Blocks
public import proofs.«01_k».proof.Proof.Ssd.Ref
public import proofs.«01_k».proof.Proof.Ssd.Finite
public import Idealize.ShloMosaic.Lib.StableHlo.ReadAt

@[expose] public section

set_option maxRecDepth 16384

noncomputable section

namespace Cert.SsdHost

open Cert.KernelIdeal Cert.KernelIdeal.Gen Idealize.ShloMosaic Idealize.ShloMosaic.TcCoe
open Cert.Ssd (Data)
open Cert.SsdGrid (Entry)
open Cert.SsdRef (Args)

variable (m : (ℓ : Loc nD τ Cert.KernelIdeal.sig) → Buf (Elt Ideal) ℓ) (c : Dev nD)

/-- The skip row. -/
theorem V5 : V m c main_v5 = shapeCast S1x1024 (broadcastInDim S1x16x64 ![0, 1] bcast_S1x16_S1x16x64_0_1 (m ((c : Thread nD τ).loc main_arg7))) shapeCasts_S1x16x64_S1x1024 := by
  unfold V
  after_reads_simp
  rfl

/-- The states that enter the chunks, in the kernel's layout, are the reference's in that layout. -/
theorem V59 : V m c main_v59 = shapeCast S32x128x1024 (transpose S32x128x2x8x64 [0, 4, 1, 2, 3]
     (Cert.ReferenceIdeal.Read.val_main_v84 (F := Ideal) (m ((c : Thread nD τ).loc main_arg1)) (m ((c : Thread nD τ).loc main_arg2)) (m ((c : Thread nD τ).loc main_arg3)) (m ((c : Thread nD τ).loc main_arg4)) (m ((c : Thread nD τ).loc main_arg6))) transposes_S32x2x8x64x128_S32x128x2x8x64_0_4_1_2_3) shapeCasts_S32x128x2x8x64_S32x128x1024 := by
  unfold V
  after_reads_simp
  simp -implicitDefEqProofs only [StableHlo.TRef.toBuf, StableHlo.TRef.ofBuf, cast_cast, cast_eq]
  rfl

/-- The bias row: the two biases, then zeros. -/
theorem V1 : V m c main_v1 = concatenate S1x128 1
    [⟨S1x16, m ((c : Thread nD τ).loc main_arg4)⟩, ⟨S1x16, m ((c : Thread nD τ).loc main_arg5)⟩,
      ⟨S1x96, broadcastInDim S1x96 ![] bcast_S_S1x96 (constant (F := Ideal) S_ .f32 0x00000000#32)⟩]
    concatenates_S1x16_S1x16_S1x96_S1x128_d1 := by
  unfold V
  after_reads_simp
  rfl

/-- The rate row: the rates, then zeros. -/
theorem V3 : V m c main_v3 = concatenate S1x128 1
    [⟨S1x16, m ((c : Thread nD τ).loc main_arg6)⟩,
      ⟨S1x112, broadcastInDim S1x112 ![] bcast_S_S1x112 (constant (F := Ideal) S_ .f32 0x00000000#32)⟩]
    concatenates_S1x16_S1x112_S1x128_d1 := by
  unfold V
  after_reads_simp
  rfl

/-- An array's entry as a real number, zero outside its extents. -/
def at2 {a b : ℕ} (x : FVec Ideal ⟨2, ![a, b]⟩ .f32) (i j : ℕ) : ℝ :=
  if h : i < a ∧ j < b then EReal.toReal (x (ix2 ⟨i, h.1⟩ ⟨j, h.2⟩)) else 0

theorem at2_eq {a b : ℕ} (x : FVec Ideal ⟨2, ![a, b]⟩ .f32) (i : Fin a) (j : Fin b)
    (h : ∃ r : ℝ, x (ix2 i j) = (r : EReal)) : x (ix2 i j) = ((at2 x i j : ℝ) : EReal) := by
  obtain ⟨r, hr⟩ := h
  rw [at2, dif_pos ⟨i.isLt, j.isLt⟩]
  show x (ix2 i j) = ((EReal.toReal (x (ix2 i j)) : ℝ) : EReal)
  rw [hr, EReal.toReal_coe]

/-- The real data the arguments hold. -/
def data (x0 x1 : FVec Ideal S4096x1024 .f32) (x2 : FVec Ideal S4096x512 .f32) (x3 : FVec Ideal S4096x5760 .f32)
    (x4 x6 x7 : FVec Ideal S1x16 .f32) : Data where
  dy := at2 x0
  xs := at2 x1
  bc := at2 x2
  u i l := at2 x3 i (5632 + l) + at2 x4 0 l
  al := at2 x6 0
  ds := at2 x7 0

end Cert.SsdHost

end
-- ==== Proof.Ssd.Points.lean ====
/- The grid: point `t` works on chunk `31 - t`, so the 32 points run through the sequence backwards. If the buffers the
   grid reads hold the real data, every point leaves the numbers of its chunk, the carried scratch the gradient of the
   state before the chunk, and the two summed results the sums over the chunks so far. -/
module

public import proofs.«01_k».proof.Proof.Ssd.Blocks
public import proofs.«01_k».proof.Proof.Gen.KernelIdeal.Value
public import Idealize.ShloMosaic.Lib.Pipeline.ValueKit
public import Idealize.ShloMosaic.Lib.Claim

@[expose] public section

noncomputable section

namespace Cert.SsdGrid

open Cert.KernelIdeal Cert.KernelIdeal.Gen Idealize.ShloMosaic Idealize.ShloMosaic.TcCoe
open Cert.Ssd (Data Blk Holds)

variable {m : (ℓ : Loc nD τ sig) → Buf (Elt Ideal) ℓ} {c : Dev nD} {D : Data}

theorem Entry.holds (E : Entry m c D) (t : Fin cfg0.N) (dn : Vec Ideal S128x1024 .f32)
    (hd : ∀ (n : Fin 128) (j : Fin 1024), dn (ix2 n j) = ((D.dn (31 - t.val) j n : ℝ) : EReal)) :
    Holds (blk m c t dn) D (31 - t.val) := by
  unfold blk
  constructor
  · intro r j
    show x0 m c t (ix2 r j) = _
    rw [b0 m c t r j (by omega), E.dy]
  · intro r j
    show x1 m c t (ix2 r j) = _
    rw [b1 m c t r j (by omega), E.xs]
  · intro r j
    show x2 m c t (ix2 r j) = _
    rw [b2 m c t r j (by omega), E.bc]
  · intro r l hl
    obtain ⟨p, b, hp, hb, hu⟩ := E.u ⟨128 * (31 - t.val) + r.val, by omega⟩ l (by omega) hl
    show HAdd.hAdd (α := EReal) (β := EReal) (γ := EReal) (x3 m c t (ix2 r l)) (x5 m c t (ix2 0 l)) = _
    rw [b3 m c t r l (by omega) (by omega), b5, hp, hb, ← EReal.coe_add, hu]
  · intro n j
    show x4 m c t (ix3 0 n j) = _
    rw [b4 m c t n j (by omega), E.prev]
  · intro l
    show x6 m c t (ix2 0 l) = _
    rw [b6, E.alog]
  · intro j
    show x7 m c t (ix2 0 j) = _
    rw [b7, E.dsk]
  · exact hd

/-- What a point leaves: the five result blocks and the scratch, from its blocks and what the sums held. -/
def left (b : Blk) (old11 old12 : Vec Ideal S1x128 .f32) :
    Vec Ideal S128x1024 .f32 × Vec Ideal S128x512 .f32 × Vec Ideal S128x128 .f32 × Vec Ideal S1x128 .f32 × Vec Ideal S1x128 .f32 × Vec Ideal S128x1024 .f32 :=
  (b.out8, b.out9, b.out10, b.out11 old11, b.out12 old12, b.next)

theorem outs_A (t : Fin cfg0.N) (h0 : t.val % 32 = 0) :
    outsAt0 m c t.val t.isLt = left (blk m c t (k0_pay2 (F := Ideal))) (k0_pay3 (F := Ideal)) (k0_pay4 (F := Ideal)) := by
  rw [outsAt0_A m c t h0]
  obtain ⟨e8, e9, e10, e11, e12, es⟩ := Cert.Ssd.tieA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t)
  rw [e8, e9, e10, e11, e12, es]
  unfold left blk x0 x1 x2 x3 x4 x5 x6 x7
  with_reducible rfl

theorem outs_B (t : Fin cfg0.N) (h0 : ¬t.val % 32 = 0)
    (q : Vec Ideal S128x1024 .f32 × Vec Ideal S128x512 .f32 × Vec Ideal S128x128 .f32 × Vec Ideal S1x128 .f32 × Vec Ideal S1x128 .f32 × Vec Ideal S128x1024 .f32)
    (hq : outsAt0 m c (t.val - 1) (by omega) = q) :
    outsAt0 m c t.val t.isLt = left (blk m c t q.2.2.2.2.2) q.2.2.2.1 q.2.2.2.2.1 := by
  rw [outsAt0_B m c t h0, hq]
  obtain ⟨e8, e9, e10, e11, e12, es⟩ := Cert.Ssd.tieB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) q.2.2.2.1 q.2.2.2.2.1 q.2.2.2.2.2
  rw [e8, e9, e10, e11, e12, es]
  unfold left blk x0 x1 x2 x3 x4 x5 x6 x7
  with_reducible rfl

/-- What point `n` leaves, in numbers: the results of chunk `31 - n`, the sums over the chunks so far, and in the
    scratch the gradient of the state between chunk `30 - n` and chunk `31 - n`. -/
structure Good (D : Data) (n : ℕ)
    (p : Vec Ideal S128x1024 .f32 × Vec Ideal S128x512 .f32 × Vec Ideal S128x128 .f32 × Vec Ideal S1x128 .f32 × Vec Ideal S1x128 .f32 × Vec Ideal S128x1024 .f32) : Prop where
  o8 : ∀ (r : Fin 128) (j : Fin 1024), p.1 (ix2 r j) = ((D.rDxs (31 - n) r j : ℝ) : EReal)
  o9 : ∀ (r : Fin 128) (j : Fin 512), p.2.1 (ix2 r j) = ((D.rDbc (31 - n) r j : ℝ) : EReal)
  o10 : ∀ (r h : Fin 128), p.2.2.1 (ix2 r h) = ((D.rDdt (31 - n) r h : ℝ) : EReal)
  o11 : ∀ h : Fin 128, p.2.2.2.1 (ix2 0 h) = ((∑ k ∈ Finset.range (n + 1), D.pAlog (31 - k) h : ℝ) : EReal)
  o12 : ∀ h : Fin 128, p.2.2.2.2.1 (ix2 0 h) = ((∑ k ∈ Finset.range (n + 1), D.pSkip (31 - k) h : ℝ) : EReal)
  sc : n < 31 → ∀ (x : Fin 128) (j : Fin 1024), p.2.2.2.2.2 (ix2 x j) = ((D.dn (31 - (n + 1)) j x : ℝ) : EReal)

theorem good_A (E : Entry m c D) (t : Fin cfg0.N) (h0 : t.val % 32 = 0) : Good D t.val (outsAt0 m c t.val t.isLt) := by
  have hN : cfg0.N = 32 := N_0
  have ht : t.val = 0 := by have := t.isLt; omega
  have H := E.holds t (k0_pay2 (F := Ideal)) (fun n j => by
    rw [ht, D.dn_last]; pointwise [k0_pay2]; exact Cert.Ssd.zero_coe)
  rw [outs_A t h0]
  generalize blk m c t (k0_pay2 (F := Ideal)) = b at H
  refine ⟨H.out8, H.out9, H.out10, fun h => ?_, fun h => ?_, fun hn x j => ?_⟩
  · have := H.out11 (k0_pay3 (F := Ideal)) h 0 (by pointwise [k0_pay3]; exact Cert.Ssd.zero_coe)
    rw [zero_add] at this
    rw [ht] at this ⊢
    rw [Finset.sum_range_one]; exact this
  · have := H.out12 (k0_pay4 (F := Ideal)) h 0 (by pointwise [k0_pay4]; exact Cert.Ssd.zero_coe)
    rw [zero_add] at this
    rw [ht] at this ⊢
    rw [Finset.sum_range_one]; exact this
  · have e : 31 - (t.val + 1) = 31 - t.val - 1 := by omega
    have h1 : 0 < 31 - t.val := by omega
    have h2 : 31 - t.val < 32 := by omega
    have := H.next h1 h2 x j
    rw [e]
    dsimp only [left]
    rw [this]

theorem good_B (E : Entry m c D) (t : Fin cfg0.N) (h0 : ¬t.val % 32 = 0)
    (G : Good D (t.val - 1) (outsAt0 m c (t.val - 1) (by omega))) : Good D t.val (outsAt0 m c t.val t.isLt) := by
  have hN : cfg0.N = 32 := N_0
  have hlt := t.isLt
  rw [outs_B t h0 _ rfl]
  generalize outsAt0 m c (t.val - 1) (by omega) = q at G
  have H := E.holds t q.2.2.2.2.2 (fun n j => by
    rw [G.sc (by omega) n j, show t.val - 1 + 1 = t.val by omega])
  generalize blk m c t q.2.2.2.2.2 = b at H
  refine ⟨H.out8, H.out9, H.out10, fun h => ?_, fun h => ?_, fun hn x j => ?_⟩
  · have := H.out11 _ h _ (G.o11 h)
    rw [show t.val - 1 + 1 = t.val by omega] at this
    rw [Finset.sum_range_succ]
    exact this
  · have := H.out12 _ h _ (G.o12 h)
    rw [show t.val - 1 + 1 = t.val by omega] at this
    rw [Finset.sum_range_succ]
    exact this
  · have e : 31 - (t.val + 1) = 31 - t.val - 1 := by omega
    have h1 : 0 < 31 - t.val := by omega
    have h2 : 31 - t.val < 32 := by omega
    have := H.next h1 h2 x j
    rw [e]
    dsimp only [left]
    rw [this]

/-- Every point leaves its numbers: by induction along the grid. -/
theorem good (E : Entry m c D) : ∀ (n : ℕ) (hn : n < cfg0.N), Good D n (outsAt0 m c n hn)
  | 0, hn => good_A E ⟨0, hn⟩ rfl
  | n + 1, hn => by
    have hN : cfg0.N = 32 := N_0
    exact good_B E ⟨n + 1, hn⟩ (by show ¬(n + 1) % 32 = 0; omega) (good E n (by omega))

/-! ## The result arrays -/

/-- A sum over the points, read as a sum over the chunks. -/
theorem sum_rev (f : ℕ → ℝ) : ∑ k ∈ Finset.range (31 + 1), f (31 - k) = ∑ k ∈ Finset.range 32, f k :=
  Finset.sum_range_reflect f 32

/-- The last point. -/
def last : Fin cfg0.N := ⟨31, by decide +kernel⟩

theorem dxs_value (E : Entry m c D) (i : Fin 4096) (j : Fin 1024) :
    (dats m 0 c).arrAt 8 cfg0.N (ix2 i j) = ((D.rDxs (i / 128) (i % 128) j : ℝ) : EReal) := by
  have hN : cfg0.N = 32 := N_0
  have h := (dats m 0 c).arrAt_eq_of_covers 8 (fun x => ((D.rDxs ((x 0 : ℕ) / 128) ((x 0 : ℕ) % 128) (x 1 : ℕ) : ℝ) : EReal)) (by decide +kernel) fun t hf y => by
    have G := (good E t.val t.isLt).o8
    blk_simp [i8 t]
    rw [after0_8]
    generalize outsAt0 m c t.val t.isLt = q at G ⊢
    idx_vars y
    rw [G, show ((31 - t.val) * 128 + y0.val) / 128 = 31 - t.val by omega, show ((31 - t.val) * 128 + y0.val) % 128 = y0.val by omega]
  rw [h]
  rfl

theorem dbc_value (E : Entry m c D) (i : Fin 4096) (j : Fin 512) :
    (dats m 0 c).arrAt 9 cfg0.N (ix2 i j) = ((D.rDbc (i / 128) (i % 128) j : ℝ) : EReal) := by
  have hN : cfg0.N = 32 := N_0
  have h := (dats m 0 c).arrAt_eq_of_covers 9 (fun x => ((D.rDbc ((x 0 : ℕ) / 128) ((x 0 : ℕ) % 128) (x 1 : ℕ) : ℝ) : EReal)) (by decide +kernel) fun t hf y => by
    have G := (good E t.val t.isLt).o9
    blk_simp [i9 t]
    rw [after0_9]
    generalize outsAt0 m c t.val t.isLt = q at G ⊢
    idx_vars y
    rw [G, show ((31 - t.val) * 128 + y0.val) / 128 = 31 - t.val by omega, show ((31 - t.val) * 128 + y0.val) % 128 = y0.val by omega]
  rw [h]
  rfl

theorem ddt_value (E : Entry m c D) (i : Fin 4096) (j : Fin 128) :
    (dats m 0 c).arrAt 10 cfg0.N (ix2 i j) = ((D.rDdt (i / 128) (i % 128) j : ℝ) : EReal) := by
  have hN : cfg0.N = 32 := N_0
  have h := (dats m 0 c).arrAt_eq_of_covers 10 (fun x => ((D.rDdt ((x 0 : ℕ) / 128) ((x 0 : ℕ) % 128) (x 1 : ℕ) : ℝ) : EReal)) (by decide +kernel) fun t hf y => by
    have G := (good E t.val t.isLt).o10
    blk_simp [i10 t]
    rw [after0_10]
    generalize outsAt0 m c t.val t.isLt = q at G ⊢
    idx_vars y
    rw [G, show ((31 - t.val) * 128 + y0.val) / 128 = 31 - t.val by omega, show ((31 - t.val) * 128 + y0.val) % 128 = y0.val by omega]
  rw [h]
  rfl

theorem dalog_value (E : Entry m c D) (l : Fin 128) :
    (dats m 0 c).arrAt 11 cfg0.N (ix2 0 l) = ((∑ k ∈ Finset.range 32, D.pAlog k l : ℝ) : EReal) := by
  have h := (dats m 0 c).arrAt_eq_of_after_last 11 last (by decide +kernel)
    (fun x => ((∑ k ∈ Finset.range 32, D.pAlog k (x 1 : ℕ) : ℝ) : EReal)) fun y => by
    have G := (good E last.val last.isLt).o11
    rw [after0_11]
    generalize outsAt0 m c last.val last.isLt = q at G ⊢
    idx_vars y
    refine Eq.trans (congrArg q.2.2.2.1 (?_ : _ = ix2 0 y1)) ((G y1).trans ?_)
    · funext a; fin_cases a
      · exact Fin.ext (by show y0.val = 0; omega)
      · rfl
    · exact congrArg _ (sum_rev fun k => D.pAlog k y1)
  rw [h]
  rfl

theorem dskip_value (E : Entry m c D) (l : Fin 128) :
    (dats m 0 c).arrAt 12 cfg0.N (ix2 0 l) = ((∑ k ∈ Finset.range 32, D.pSkip k l : ℝ) : EReal) := by
  have h := (dats m 0 c).arrAt_eq_of_after_last 12 last (by decide +kernel)
    (fun x => ((∑ k ∈ Finset.range 32, D.pSkip k (x 1 : ℕ) : ℝ) : EReal)) fun y => by
    have G := (good E last.val last.isLt).o12
    rw [after0_12]
    generalize outsAt0 m c last.val last.isLt = q at G ⊢
    idx_vars y
    refine Eq.trans (congrArg q.2.2.2.2.1 (?_ : _ = ix2 0 y1)) ((G y1).trans ?_)
    · funext a; fin_cases a
      · exact Fin.ext (by show y0.val = 0; omega)
      · rfl
    · exact congrArg _ (sum_rev fun k => D.pSkip k y1)
  rw [h]
  rfl

end Cert.SsdGrid
-- ==== Proof.Ssd.RefB.lean ====
/- The reference at an index, the backward part: the gradients of the states, of the decays and of the arrays inside the
   chunks hold the real numbers Proof/Ssd/Spec.lean gives for them. -/
module

public import proofs.«01_k».proof.Proof.Ssd.Ref

@[expose] public section

noncomputable section

namespace Cert.SsdRef

open Cert.ReferenceIdeal Cert.ReferenceIdeal.Gen Cert.ReferenceIdeal.Read Idealize.ShloMosaic Idealize.ShloMosaic.TcCoe
open Cert.Ssd hiding sig
open Finset
/-- A sum over `m` blocks of `w` numbers. -/
theorem sum_blocks (f : ℕ → ℝ) (w m : ℕ) : ∑ e ∈ range m, ∑ p ∈ range w, f (w * e + p) = ∑ q ∈ range (w * m), f q := by
  induction m with
  | zero => simp
  | succ m ih => rw [sum_range_succ, ih, Nat.mul_succ, sum_range_add]

/-- A sum over two axes of real numbers. -/
theorem sum_coe2 {a b : ℕ} {f : Fin a → Fin b → EReal} (F : ℕ → ℕ → ℝ) (h : ∀ i j, f i j = ((F i j : ℝ) : EReal)) :
    ∑ i, ∑ j, f i j = ((∑ i ∈ range a, ∑ j ∈ range b, F i j : ℝ) : EReal) :=
  sum_coe (fun i => ∑ j ∈ range b, F i j) fun i => sum_coe (F i) (h i)

/-- Keeping the terms from `m` on. -/
theorem sum_from (m N : ℕ) (f : ℕ → ℝ) : (∑ j ∈ range N, if m ≤ j then ((f j : ℝ) : EReal) else 0) = ((∑ j ∈ Ico m N, f j : ℝ) : EReal) := by
  rw [Finset.sum_range, sum_coe (fun j => if m ≤ j then f j else 0) fun k => by split_ifs <;> rfl, ← sum_filter]
  congr 2
  ext i
  simp only [mem_filter, mem_range, mem_Ico]
  omega

theorem lane_head (g : Fin 2) (e : Fin 8) (p : ℕ) (hp : p < 64) : (64 * (8 * g.val + e.val) + p) / 64 = 8 * g.val + e.val := by omega
theorem lane_group (g : Fin 2) (e : Fin 8) (p : ℕ) (hp : p < 64) : (64 * (8 * g.val + e.val) + p) / 512 = g.val := by omega

/-- A sum over the channels of a head. -/
theorem hsum_eq (g : Fin 2) (e : Fin 8) (f : ℕ → ℝ) : hsum f (8 * g + e) = ∑ p ∈ range 64, f (64 * (8 * g + e) + p) := by
  unfold hsum
  rw [if_pos (by omega)]

variable {x0 x1 : Arr S4096x1024} {x2 : Arr S4096x512} {x3 : Arr S4096x5760} {x4 x6 x7 : Arr S1x16} {D : Data}
  (H : Args x0 x1 x2 x3 x4 x6 x7 D)
include H
variable (c : Fin 32) (z z' : Fin 33) (g : Fin 2) (e : Fin 8) (p : Fin 64) (n l s : Fin 128) (t : Fin 4096) (h : Fin 16)

theorem v109 : val_main_v109 (F := Ideal) x0 (ix5 c l g e p) = ((D.dy (128 * c + l) (64 * (8 * g + e) + p) : ℝ) : EReal) := by
  pointwise [val_main_v109, val_main_v100]
  rw [H.dy]
  simp only [Nat.mul_comm]

theorem v102 : val_main_v102 (F := Ideal) x0 x7 (ix3 t h p) = ((D.ds h * D.dy t (64 * h + p) : ℝ) : EReal) := by
  pointwise [val_main_v102, val_main_v101, val_main_v95, val_main_v94, val_main_v3, val_main_v100]
  rw [H.dy, H.ds, ← EReal.coe_mul]
  simp only [Nat.mul_comm]

theorem v85 : val_main_v85 (F := Ideal) x3 x4 x6 (ix4 g e c l) = ((D.eo c l (8 * g + e) : ℝ) : EReal) := by
  pointwise [val_main_v85]
  rw [v26 H, Ideal.exp_coe]
  rfl

theorem v88 : val_main_v88 (F := Ideal) x1 x2 x3 x4 x6 (ix5 c l g e p) = ((D.csn c l (64 * (8 * g + e) + p) : ℝ) : EReal) := by
  pointwise [val_main_v88, val_main_v87]
  simp only [v84 H, v20 H, ← EReal.coe_mul]
  rw [sum_coe (fun n => D.prev c (64 * (8 * g + e) + p) n * D.Cm (128 * c + l) g n) fun _ => rfl]
  unfold Data.csn
  rw [lane_group g e p p.isLt]
  simp only [mul_comm]

theorem v115 : val_main_v115 (F := Ideal) x0 x1 x2 x3 x4 x6 (ix4 c l g e) = ((D.deo c l (8 * g + e) : ℝ) : EReal) := by
  pointwise [val_main_v115, val_main_v112, val_main_v111, val_main_v110, val_main_cst_9, val_main_cst_10]
  simp only [v88 H, v109 H, ← EReal.coe_mul, Finset.univ_unique, sum_singleton]
  rw [sum_coe (fun p => D.csn c l (64 * (8 * g + e) + p) * D.dy (128 * c + l) (64 * (8 * g + e) + p)) fun _ => rfl]
  unfold Data.deo
  rw [hsum_eq]
  simp only [mul_comm]

theorem v114 : val_main_v114 (F := Ideal) x0 x3 x4 x6 (ix5 c l g e p) = ((D.dy (128 * c + l) (64 * (8 * g + e) + p) * D.eo c l (8 * g + e) : ℝ) : EReal) := by
  pointwise [val_main_v114, val_main_v113, val_main_v89, val_main_v86]
  rw [v109 H, v85 H, ← EReal.coe_mul]

/-- The state's part of the gradient of `C`. -/
theorem v118 : val_main_v118 (F := Ideal) x0 x1 x2 x3 x4 x6 (ix4 c l g n)
    = ((∑ q ∈ range 512, D.dy (128 * c + l) (512 * g + q) * D.eo c l ((512 * g + q) / 64) * D.prev c (512 * g + q) n : ℝ) : EReal) := by
  pointwise [val_main_v118, val_main_v117, val_main_v116]
  simp only [v114 H, v84 H, ← EReal.coe_mul]
  rw [sum_coe2 (fun e p => D.dy (128 * c + l) (64 * (8 * g + e) + p) * D.eo c l (8 * g + e) * D.prev c (64 * (8 * g + e) + p) n) fun _ _ => rfl,
    ← sum_blocks _ 64 8]
  refine congrArg _ (sum_congr rfl fun e he => sum_congr rfl fun p hp => ?_)
  have hp := mem_range.mp hp
  rw [show 512 * g.val + (64 * e + p) = 64 * (8 * g.val + e) + p by ring, show (64 * (8 * g.val + e) + p) / 64 = 8 * g.val + e by omega]

theorem v119 : val_main_v119 (F := Ideal) x0 x2 x3 x4 x6 (ix5 c g e p n) = ((D.dprev c (64 * (8 * g + e) + p) n : ℝ) : EReal) := by
  pointwise [val_main_v119, val_main_v116]
  simp only [v114 H, v20 H, ← EReal.coe_mul]
  rw [sum_coe (fun l => D.dy (128 * c + l) (64 * (8 * g + e) + p) * D.eo c l (8 * g + e) * D.Cm (128 * c + l) g n) fun _ => rfl]
  unfold Data.dprev
  rw [lane_group g e p p.isLt, lane_head g e p p.isLt]

theorem v123 : val_main_v123 (F := Ideal) x0 x2 x3 x4 x6 (ix5 g e p n z) = ((D.E z (64 * (8 * g + e) + p) n : ℝ) : EReal) := by
  pointwise [val_main_v123, val_main_v122, val_main_cst_11]
  unfold Data.E
  by_cases hz : z.val < 32
  · rw [if_pos hz]
    exact (dif_pos hz).trans (v119 H _ _ _ _ _)
  · rw [if_neg hz]
    exact dif_neg hz

theorem v130 : val_main_v130 (F := Ideal) x0 x1 x2 x3 x4 x6 (ix4 g e z z') = ((D.V z z' (8 * g + e) : ℝ) : EReal) := by
  unfold val_main_v130
  have h76 := v76 z z' g e
  generalize val_main_v76_1 (F := Ideal) = w at h76 ⊢
  pointwise [val_main_v129, val_main_v124, val_main_call9_v0, val_main_call9_cst]
  rw [h76, sel_ofBool]
  unfold Data.V
  by_cases hz : z'.val ≤ z.val
  · rw [if_pos hz]
    simp only [v123 H, v80 H, v77 H, ← EReal.coe_mul]
    rw [sum_coe2 (fun p n => D.E z (64 * (8 * g + e) + p) n * D.S' z' (64 * (8 * g + e) + p) n) fun _ _ => rfl, ← EReal.coe_mul]
  · rw [if_neg hz, show D.Dk z z' (8 * g + e) = 0 from if_neg hz, mul_zero]
    rfl

/-- The gradient of the state that leaves a chunk. -/
theorem v128 : val_main_v128 (F := Ideal) x0 x2 x3 x4 x6 (ix5 c g e p n) = ((D.dn c (64 * (8 * g + e) + p) n : ℝ) : EReal) := by
  pointwise [val_main_v128, val_main_v126, val_main_v125]
  simp only [v123 H, v77 H, ← EReal.coe_mul]
  rw [sum_coe (fun z => D.E z (64 * (8 * g + e) + p) n * D.Dk z (1 + c) (8 * g + e)) fun _ => rfl]
  unfold Data.dn
  rw [lane_head g e p p.isLt, Nat.add_comm 1]

/-- Row sums less column sums of the gradient of the chunk-to-chunk decays. -/
theorem v138 : val_main_v138 (F := Ideal) x0 x1 x2 x3 x4 x6 (ix3 g e z)
    = ((∑ z' ∈ range 33, -(D.V z' z (8 * g + e)) + ∑ c ∈ range 33, D.V z c (8 * g + e) : ℝ) : EReal) := by
  pointwise [val_main_v138, val_main_v137, val_main_v136, val_main_v135, val_main_v134, val_main_v133, val_main_v132, val_main_v131, val_main_cst_12, val_main_cst_13, val_main_cst_14, val_main_cst_15]
  simp only [v130 H, ← EReal.coe_neg, Finset.univ_unique, sum_singleton]
  rw [sum_coe (fun z' => -(D.V z' z (8 * g + e))) fun _ => rfl, sum_coe (fun c => D.V z c (8 * g + e)) fun _ => rfl, ← EReal.coe_add]

/-- The gradient of the logarithm of a chunk's decay. -/
theorem v139 : val_main_v139 (F := Ideal) x0 x1 x2 x3 x4 x6 (ix3 g e ⟨1 + c.val, by omega⟩)
    = ((D.dgend c (8 * g + e) * Real.exp (D.tot c (8 * g + e)) : ℝ) : EReal) := by
  have h138 := fun z => v138 H z g e
  unfold val_main_v139 Host.reduceWindowAdd
  generalize val_main_v138 (F := Ideal) x0 x1 x2 x3 x4 x6 = v at h138 ⊢
  refine (congrArg (fun q => Ideal.hostReduceWindowAdd _ _ _ _ _ v q (ix3 g e ⟨1 + c.val, by omega⟩)) (?_ : _ = (0 : EReal))).trans
    ((Cert.SsdGrid.rev3 v _ g e ⟨1 + c.val, by omega⟩ (fun z => ((∑ z' ∈ range 33, -(D.V z' z (8 * g + e)) + ∑ c ∈ range 33, D.V z c (8 * g + e) : ℝ) : EReal)) h138).trans ?_)
  · pointwise [val_main_call10_call0_v0, val_main_call10_call0_cst]
  · rw [sum_from, ← D.dtot_eq c (8 * g + e) c.isLt (by omega)]
    exact congrArg (fun m => ((∑ j ∈ Ico m 33, (∑ z' ∈ range 33, -(D.V z' j (8 * g + e)) + ∑ c ∈ range 33, D.V j c (8 * g + e)) : ℝ) : EReal)) (Nat.add_comm 1 c.val)

theorem v143 : val_main_v143 (F := Ideal) x0 x1 x2 x3 x4 x6 (ix4 g e c l)
    = (((if l.val = 127 then D.dgend c (8 * g + e) * Real.exp (D.tot c (8 * g + e)) else 0) : ℝ) : EReal) := by
  pointwise [val_main_v143, val_main_v142, val_main_v141, val_main_cst_16]
  by_cases hl : l.val = 127
  · rw [if_pos hl]
    exact (dif_pos (show 127 ≤ l.val ∧ l.val - 127 < 1 by omega)).trans (v139 H c g e)
  · rw [if_neg hl]
    exact dif_neg (show ¬ (127 ≤ l.val ∧ l.val - 127 < 1) by omega)

theorem v61 : val_main_v61 (F := Ideal) x1 x3 x4 x6 (ix5 c l g e p) = ((D.x (128 * c + l) (64 * (8 * g + e) + p) * D.we c l (8 * g + e) : ℝ) : EReal) := by
  pointwise [val_main_v61, val_main_v60, val_main_v59, val_main_v58]
  rw [v46, v18 H, v57 H, ← EReal.coe_mul]

/-- The state's part of the gradient of `B`. -/
theorem v145 : val_main_v145 (F := Ideal) x0 x1 x2 x3 x4 x6 (ix4 c l g n)
    = ((∑ q ∈ range 512, D.x (128 * c + l) (512 * g + q) * D.we c l ((512 * g + q) / 64) * D.dn c (512 * g + q) n : ℝ) : EReal) := by
  pointwise [val_main_v145, val_main_v144]
  simp only [v128 H, v61 H, ← EReal.coe_mul]
  rw [sum_coe2 (fun e p => D.dn c (64 * (8 * g + e) + p) n * (D.x (128 * c + l) (64 * (8 * g + e) + p) * D.we c l (8 * g + e))) fun _ _ => rfl,
    ← sum_blocks _ 64 8]
  refine congrArg _ (sum_congr rfl fun e he => sum_congr rfl fun p hp => ?_)
  have hp := mem_range.mp hp
  rw [show 512 * g.val + (64 * e + p) = 64 * (8 * g.val + e) + p by ring, show (64 * (8 * g.val + e) + p) / 64 = 8 * g.val + e by omega]
  ring

theorem v147 : val_main_v147 (F := Ideal) x0 x2 x3 x4 x6 (ix5 c l g e p) = ((D.bds c l (64 * (8 * g + e) + p) : ℝ) : EReal) := by
  pointwise [val_main_v147, val_main_v146]
  rw [v47]
  simp only [v128 H, v19 H, ← EReal.coe_mul]
  rw [sum_coe (fun n => D.dn c (64 * (8 * g + e) + p) n * D.Bm (128 * c + l) g n) fun _ => rfl]
  unfold Data.bds
  rw [lane_group g e p p.isLt]
  simp only [mul_comm]

theorem v152 : val_main_v152 (F := Ideal) x0 x2 x3 x4 x6 (ix5 c l g e p) = ((D.bds c l (64 * (8 * g + e) + p) * D.we c l (8 * g + e) : ℝ) : EReal) := by
  pointwise [val_main_v152, val_main_v151, val_main_v59, val_main_v58]
  rw [v147 H, v57 H, ← EReal.coe_mul]

theorem v155 : val_main_v155 (F := Ideal) x0 x1 x2 x3 x4 x6 (ix4 g e c l) = ((D.dwe c l (8 * g + e) * D.we c l (8 * g + e) : ℝ) : EReal) := by
  pointwise [val_main_v155, val_main_v154, val_main_v153, val_main_v150, val_main_v149, val_main_v148, val_main_cst_17, val_main_cst_18]
  rw [v46]
  simp only [v18 H, v147 H, v57 H, ← EReal.coe_mul, Finset.univ_unique, sum_singleton]
  rw [sum_coe (fun p => D.x (128 * c + l) (64 * (8 * g + e) + p) * D.bds c l (64 * (8 * g + e) + p)) fun _ => rfl, ← EReal.coe_mul]
  unfold Data.dwe
  rw [hsum_eq]
  simp only [mul_comm]

/-- The gradient of the running sums that comes from the states. -/
theorem v161 : val_main_v161 (F := Ideal) x0 x1 x2 x3 x4 x6 (ix4 g e c l)
    = (((if l.val = 127 then D.dgend c (8 * g + e) * Real.exp (D.tot c (8 * g + e)) else 0) + -(D.dwe c l (8 * g + e) * D.we c l (8 * g + e))
      + (if l.val = 127 then ∑ i ∈ range 128, D.dwe c i (8 * g + e) * D.we c i (8 * g + e) else 0) : ℝ) : EReal) := by
  pointwise [val_main_v161, val_main_v160, val_main_v159, val_main_v158, val_main_v157, val_main_v156,val_main_cst_19,val_main_cst_20]
  simp only [v143 H, v155 H, ← EReal.coe_neg, ← EReal.coe_add]
  rw [EReal.coe_add _ (if l.val = 127 then ∑ i ∈ range 128, D.dwe c i (8 * g + e) * D.we c i (8 * g + e) else 0)]
  congr 1
  by_cases hl : l.val = 127
  · rw [if_pos hl]
    exact (dif_pos (show 127 ≤ l.val ∧ l.val - 127 < 1 by omega)).trans (sum_coe (fun i => D.dwe c i (8 * g + e) * D.we c i (8 * g + e)) fun _ => rfl)
  · rw [if_neg hl]
    exact dif_neg (show ¬ (127 ≤ l.val ∧ l.val - 127 < 1) by omega)

/-- The gradient of the masked scores. -/
theorem v183 : val_main_v183 (F := Ideal) x0 x1 x3 x4 (ix5 g e c l s) = ((D.dM c (8 * g + e) l s : ℝ) : EReal) := by
  pointwise [val_main_v183, val_main_v182, val_main_v181]
  simp only [v109 H, v18 H, ← EReal.coe_mul]
  exact sum_coe (fun p => D.dy (128 * c + l) (64 * (8 * g + e) + p) * D.x (128 * c + s) (64 * (8 * g + e) + p)) fun _ => rfl

theorem v185 : val_main_v185 (F := Ideal) x0 x2 x3 x4 x6 (ix5 c l g e p) = ((D.dxd c l (64 * (8 * g + e) + p) : ℝ) : EReal) := by
  pointwise [val_main_v185, val_main_v184, val_main_v181]
  simp only [v109 H, v40 H, ← EReal.coe_mul]
  rw [sum_coe (fun i => D.dy (128 * c + i) (64 * (8 * g + e) + p) * D.M c (8 * g + e) i l) fun _ => rfl]
  unfold Data.dxd
  rw [lane_head g e p p.isLt]
  simp only [mul_comm]

theorem v191 : val_main_v191 (F := Ideal) x0 x1 x3 x4 x6 (ix4 g c l s) = ((D.dG c g l s : ℝ) : EReal) := by
  pointwise [val_main_v191, val_main_v190, val_main_v189, val_main_v188, val_main_cst_25, val_main_cst_26]
  simp only [v183 H, v36 H, ← EReal.coe_mul, Finset.univ_unique, sum_singleton]
  exact sum_coe (fun e => D.dM c (8 * g + e) l s * D.L c (8 * g + e) l s) fun _ => rfl

/-- The part of the gradient of `B` from inside the chunk. -/
theorem v193 : val_main_v193 (F := Ideal) x0 x1 x2 x3 x4 x6 (ix4 c l g n) = ((∑ i ∈ range 128, D.dG c g i l * D.Cm (128 * c + i) g n : ℝ) : EReal) := by
  pointwise [val_main_v193, val_main_v192]
  simp only [v191 H, v20 H, ← EReal.coe_mul]
  exact sum_coe (fun i => D.dG c g i l * D.Cm (128 * c + i) g n) fun _ => rfl

/-- The part of the gradient of `C` from inside the chunk. -/
theorem v195 : val_main_v195 (F := Ideal) x0 x1 x2 x3 x4 x6 (ix4 c l g n) = ((∑ i ∈ range 128, D.dG c g l i * D.Bm (128 * c + i) g n : ℝ) : EReal) := by
  pointwise [val_main_v195, val_main_v194]
  simp only [v191 H, v19 H, ← EReal.coe_mul]
  exact sum_coe (fun i => D.dG c g l i * D.Bm (128 * c + i) g n) fun _ => rfl

theorem v198 : val_main_v198 (F := Ideal) x0 x1 x2 x3 x4 x6 (ix5 g e c l s) = ((D.qm c (8 * g + e) l s : ℝ) : EReal) := by
  unfold val_main_v198
  have h35 := v35 c g e l s
  generalize val_main_v35_1 (F := Ideal) = w at h35 ⊢
  pointwise [val_main_v197, val_main_v187, val_main_v186, val_main_call12_v0, val_main_call12_cst]
  rw [h35, sel_ofBool]
  unfold Data.qm Data.M
  by_cases hs : s.val ≤ l.val
  · rw [if_pos hs]
    refine (congrArg (fun q => q * _ * _) (v38 H c g l s)).trans ?_
    rw [v183 H, v36 H, ← EReal.coe_mul, ← EReal.coe_mul, show (8 * g.val + e.val) / 8 = g.val by omega]
    congr 1
    ring
  · rw [if_neg hs, show D.L c (8 * g + e) l s = 0 from if_neg hs, mul_zero, mul_zero]
    rfl

theorem v206 : val_main_v206 (F := Ideal) x0 x1 x2 x3 x4 x6 (ix4 g e c l) = ((-D.drow c l (8 * g + e) + D.dcol c l (8 * g + e) : ℝ) : EReal) := by
  pointwise [val_main_v206, val_main_v205, val_main_v204, val_main_v203, val_main_v202, val_main_v201, val_main_v200, val_main_v199, val_main_cst_27, val_main_cst_28, val_main_cst_29, val_main_cst_30]
  simp only [v198 H, ← EReal.coe_neg, Finset.univ_unique, sum_singleton]
  rw [sum_coe (fun i => -D.qm c (8 * g + e) i l) fun _ => rfl, sum_coe (fun i => D.qm c (8 * g + e) l i) fun _ => rfl, ← EReal.coe_add]
  unfold Data.drow Data.dcol
  rw [if_pos (by omega), if_pos (by omega), sum_neg_distrib]

end Cert.SsdRef

end
-- ==== Proof.Ssd.RefC.lean ====
/- The results of the reference at an index, in real numbers. -/
module

public import proofs.«01_k».proof.Proof.Ssd.RefB

@[expose] public section

noncomputable section

namespace Cert.SsdRef

open Cert.ReferenceIdeal Cert.ReferenceIdeal.Gen Cert.ReferenceIdeal.Read Idealize.ShloMosaic Idealize.ShloMosaic.TcCoe
open Cert.Ssd hiding sig
open Finset

/-- The sum over the first and the last of three axes. -/
theorem reduce_outer {A B C : ℕ} (hr : (⟨3, ![A, B, C]⟩ : Shape).ReducesTo [0, 2] ⟨1, ![B]⟩) (x : (⟨3, ![A, B, C]⟩ : Shape).Idx → EReal) (b : Fin B) :
    Ideal.hostReduceAdd hr x 0 (ix1 b) = ∑ a : Fin A, ∑ c : Fin C, x (ix3 a b c) := by
  have hd : ∀ i : (⟨3, ![A, B, C]⟩ : Shape).Idx, hr.drop i = ix1 b ↔ i 1 = b := fun i => by
    have hv : (hr.drop i 0 : ℕ) = i 1 := Shape.ReducesTo.drop_apply_val hr i 0
    constructor
    · intro h
      rw [h] at hv
      exact Fin.ext hv.symm
    · intro h
      funext q
      match q with
      | ⟨0, _⟩ => exact Fin.ext (hv.trans (congrArg Fin.val h))
  unfold Ideal.hostReduceAdd
  rw [zero_add, ← Fintype.sum_prod_type' (f := fun a c => x (ix3 a b c))]
  symm
  refine sum_bij' (fun (q : Fin A × Fin C) _ => ix3 q.1 b q.2) (fun i _ => ((i 0 : Fin A), (i 2 : Fin C))) ?_ ?_ ?_ ?_ ?_
  · intro q _
    rw [mem_filter]
    exact ⟨mem_univ _, (hd _).2 rfl⟩
  · intro i _
    exact mem_univ _
  · intro q _
    rfl
  · intro i hi
    have h1 := (hd i).1 (mem_filter.mp hi).2
    funext q
    match q with
    | ⟨0, _⟩ => rfl
    | ⟨1, _⟩ => exact h1.symm
    | ⟨2, _⟩ => rfl
  · intro q _
    rfl

/-- The word 0 as a number. -/
theorem zero_int : FloatOps.sitofp (F := Ideal) FTy.f32 (0#32) = (0 : EReal) := by
  show ((((0#32 : BitVec 32).toInt : ℤ) : ℝ) : EReal) = 0
  simp

namespace Sum
variable (D : Data)

/-- The gradient of `a` that comes from the states. -/
def da1 (c l h : ℕ) : ℝ := ∑ i ∈ Ico l 128, ((if i = 127 then D.dgend c h * Real.exp (D.tot c h) else 0) + -(D.dwe c i h * D.we c i h)
  + (if i = 127 then ∑ i ∈ range 128, D.dwe c i h * D.we c i h else 0))
/-- The gradient of `a` that comes from inside the chunk and from the decay of the entering state. -/
def da2 (c l h : ℕ) : ℝ := ∑ i ∈ Ico l 128, (-D.drow c i h + D.dcol c i h) + ∑ i ∈ Ico l 128, D.deo c i h * D.eo c i h

theorem da_eq (c l h : ℕ) : da1 D c l h + da2 D c l h = D.da c l h := by
  unfold da1 da2 Data.da Data.dcs
  rw [← sum_add_distrib, ← sum_add_distrib]
  refine sum_congr rfl fun i _ => ?_
  split_ifs <;> ring

end Sum

variable {x0 x1 : Arr S4096x1024} {x2 : Arr S4096x512} {x3 : Arr S4096x5760} {x4 x6 x7 : Arr S1x16} {D : Data}
  (H : Args x0 x1 x2 x3 x4 x6 x7 D)
include H
variable (c : Fin 32) (g : Fin 2) (e : Fin 8) (p : Fin 64) (n l s : Fin 128) (t : Fin 4096) (h : Fin 16)

theorem v162 : val_main_v162 (F := Ideal) x0 x1 x2 x3 x4 x6 (ix4 g e c l) = ((Sum.da1 D c l (8 * g + e) : ℝ) : EReal) := by
  have hx := fun l => v161 H c g e l
  unfold val_main_v162 Host.reduceWindowAdd
  generalize val_main_v161 (F := Ideal) x0 x1 x2 x3 x4 x6 = v at hx ⊢
  refine (congrArg (fun q => Ideal.hostReduceWindowAdd _ _ _ _ _ v q (ix4 g e c l)) (?_ : _ = (0 : EReal))).trans
    ((Cert.SsdGrid.rev4 v _ g e c l (fun i => (((if i = 127 then D.dgend c (8 * g + e) * Real.exp (D.tot c (8 * g + e)) else 0) + -(D.dwe c i (8 * g + e) * D.we c i (8 * g + e))
      + (if i = 127 then ∑ i ∈ range 128, D.dwe c i (8 * g + e) * D.we c i (8 * g + e) else 0) : ℝ) : EReal)) hx).trans ?_)
  · pointwise [val_main_call11_call0_v0, val_main_call11_call0_cst]
  · rw [sum_from]
    rfl

theorem v207 : val_main_v207 (F := Ideal) x0 x1 x2 x3 x4 x6 (ix4 g e c l) = ((∑ i ∈ Ico l.val 128, (-D.drow c i (8 * g + e) + D.dcol c i (8 * g + e)) : ℝ) : EReal) := by
  have hx := fun l => v206 H c g e l
  unfold val_main_v207 Host.reduceWindowAdd
  generalize val_main_v206 (F := Ideal) x0 x1 x2 x3 x4 x6 = v at hx ⊢
  refine (congrArg (fun q => Ideal.hostReduceWindowAdd _ _ _ _ _ v q (ix4 g e c l)) (?_ : _ = (0 : EReal))).trans
    ((Cert.SsdGrid.rev4 v _ g e c l (fun i => ((-D.drow c i (8 * g + e) + D.dcol c i (8 * g + e) : ℝ) : EReal)) hx).trans ?_)
  · pointwise [val_main_call13_call0_v0, val_main_call13_call0_cst]
  · rw [sum_from]

theorem v121 : val_main_v121 (F := Ideal) x0 x1 x2 x3 x4 x6 (ix4 g e c l) = ((D.deo c l (8 * g + e) * D.eo c l (8 * g + e) : ℝ) : EReal) := by
  pointwise [val_main_v121, val_main_v120]
  rw [v115 H, v85 H, ← EReal.coe_mul]

theorem v208 : val_main_v208 (F := Ideal) x0 x1 x2 x3 x4 x6 (ix4 g e c l) = ((∑ i ∈ Ico l.val 128, D.deo c i (8 * g + e) * D.eo c i (8 * g + e) : ℝ) : EReal) := by
  have hx := fun l => v121 H c g e l
  unfold val_main_v208 Host.reduceWindowAdd
  generalize val_main_v121 (F := Ideal) x0 x1 x2 x3 x4 x6 = v at hx ⊢
  refine (congrArg (fun q => Ideal.hostReduceWindowAdd _ _ _ _ _ v q (ix4 g e c l)) (?_ : _ = (0 : EReal))).trans
    ((Cert.SsdGrid.rev4 v _ g e c l (fun i => ((D.deo c i (8 * g + e) * D.eo c i (8 * g + e) : ℝ) : EReal)) hx).trans ?_)
  · pointwise [val_main_call14_call0_v0, val_main_call14_call0_cst]
  · rw [sum_from]

omit H in
theorem head_split : 8 * (h.val / 8) + h.val % 8 = h.val := by omega

theorem v164 : val_main_v164 (F := Ideal) x0 x1 x2 x3 x4 x6 (ix2 t h) = ((Sum.da1 D (t.val / 128) (t.val % 128) h : ℝ) : EReal) := by
  pointwise [val_main_v164, val_main_v163]
  rw [v162 H]
  simp only [head_split]

theorem v211 : val_main_v211 (F := Ideal) x0 x1 x2 x3 x4 x6 (ix2 t h) = ((Sum.da2 D (t.val / 128) (t.val % 128) h : ℝ) : EReal) := by
  pointwise [val_main_v211, val_main_v210, val_main_v209]
  rw [v207 H, v208 H, ← EReal.coe_add]
  simp only [head_split]
  rfl

omit H in
theorem lane_split : 64 * (8 * (h.val / 8) + h.val % 8) + p.val = 64 * h.val + p.val := by omega

theorem v172 : val_main_v172 (F := Ideal) x0 x2 x3 x4 x6 (ix3 t h p)
    = ((D.bds (t.val / 128) (t.val % 128) (64 * h + p) * D.we (t.val / 128) (t.val % 128) h : ℝ) : EReal) := by
  pointwise [val_main_v172]
  rw [v152 H]
  simp only [head_split]

theorem v223 : val_main_v223 (F := Ideal) x0 x2 x3 x4 x6 (ix3 t h p) = ((D.dxd (t.val / 128) (t.val % 128) (64 * h + p) : ℝ) : EReal) := by
  pointwise [val_main_v223]
  rw [v185 H]
  simp only [head_split]

/-- Result: the gradient of the inputs. -/
theorem dxs_ref (j : Fin 1024) : val_main_v241 (F := Ideal) x0 x2 x3 x4 x6 x7 (ix2 t j) = ((D.rDxs (t.val / 128) (t.val % 128) j : ℝ) : EReal) := by
  pointwise [val_main_v241, val_main_v229, val_main_v228, val_main_v227, val_main_v178, val_main_v177, val_main_v176, val_main_v43, val_main_v15]
  rw [v102 H, v172 H, v223 H, v12_0 H, ← EReal.coe_mul, ← EReal.coe_mul, ← EReal.coe_add, ← EReal.coe_add]
  dsimp only
  rw [show 64 * (j.val / 64) + j.val % 64 = j.val by omega]
  unfold Data.rDxs Data.dx
  rw [show 128 * (t.val / 128) + t.val % 128 = t.val by omega]
  congr 1
  ring

theorem v231 : val_main_v231 (F := Ideal) x0 x1 x2 x3 x4 x6 (ix2 t h) = ((D.ddt (t.val / 128) (t.val % 128) h : ℝ) : EReal) := by
  pointwise [val_main_v231, val_main_v230, val_main_v226, val_main_v225, val_main_v224, val_main_v217, val_main_v216, val_main_v215, val_main_v180,  val_main_v179, val_main_v175, val_main_v174, val_main_v173, val_main_v169, val_main_v168, val_main_v48, val_main_v4, val_main_v21, val_main_cst_23, val_main_cst_24, val_main_cst_33, val_main_cst_34]
  simp only [v164 H, v211 H, v14 H, v172 H, v223 H, H.xs, ← EReal.coe_mul, Finset.univ_unique, sum_singleton]
  rw [sum_coe (fun p => D.xs t (h * 64 + p) * (D.bds (t.val / 128) (t.val % 128) (64 * h + p) * D.we (t.val / 128) (t.val % 128) h)) fun _ => rfl,
    sum_coe (fun p => D.xs t (h * 64 + p) * D.dxd (t.val / 128) (t.val % 128) (64 * h + p)) fun _ => rfl, ← EReal.coe_add, ← EReal.coe_add, ← EReal.coe_add]
  unfold Data.ddt hsum
  rw [if_pos h.isLt, ← Sum.da_eq, show 128 * (t.val / 128) + t.val % 128 = t.val by omega]
  have e : ∑ p ∈ range 64, D.dx (t.val / 128) (t.val % 128) (64 * h + p) * D.xs t (64 * h + p)
      = ∑ p ∈ range 64, D.xs t (h * 64 + p) * (D.bds (t.val / 128) (t.val % 128) (64 * h + p) * D.we (t.val / 128) (t.val % 128) h)
        + ∑ p ∈ range 64, D.xs t (h * 64 + p) * D.dxd (t.val / 128) (t.val % 128) (64 * h + p) := by
    rw [← sum_add_distrib]
    refine sum_congr rfl fun p hp => ?_
    have hp := mem_range.mp hp
    unfold Data.dx
    rw [show (64 * h.val + p) / 64 = h.val by omega, Nat.mul_comm h.val 64]
    ring
  rw [e]
  congr 1
  ring

/-- Result: the gradient of the raw step size. -/
theorem ddt_ref : val_main_v242 (F := Ideal) x0 x1 x2 x3 x4 x6 (ix2 t n) = ((D.rDdt (t.val / 128) (t.val % 128) n : ℝ) : EReal) := by
  pointwise [val_main_v242, val_main_v234, val_main_call16_v0, val_main_c_37]
  unfold Data.rDdt
  by_cases hn : n.val < 16
  · rw [if_pos hn]
    refine (dif_pos hn).trans ?_
    rw [v231 H, v12_1 H, ← EReal.coe_mul, show 128 * (t.val / 128) + t.val % 128 = t.val by omega]
  · rw [if_neg hn]
    exact (dif_neg hn).trans zero_int

omit H in
/-- A sum over the tokens, chunk by chunk. -/
theorem sum_tokens (f : ℕ → ℕ → ℝ) (F : ℕ → ℝ) (hF : ∀ t, F t = f (t / 128) (t % 128)) :
    ∑ t ∈ range 4096, F t = ∑ c ∈ range 32, ∑ l ∈ range 128, f c l := by
  rw [show 4096 = 128 * 32 from rfl, ← sum_blocks]
  refine sum_congr rfl fun c _ => sum_congr rfl fun l hl => ?_
  have hl := mem_range.mp hl
  rw [hF, show (128 * c + l) / 128 = c by omega, show (128 * c + l) % 128 = l by omega]

/-- Result: the gradient of the logarithm of the decay rate. -/
theorem dalog_ref : val_main_v244 (F := Ideal) x0 x1 x2 x3 x4 x6 (ix2 0 n) = ((∑ k ∈ range 32, D.pAlog k n : ℝ) : EReal) := by
  pointwise [val_main_v244, val_main_v243, val_main_v233, val_main_v232, val_main_v219, val_main_v218, val_main_v214, val_main_v213, val_main_v212, val_main_v170, val_main_v167, val_main_v166, val_main_v165, val_main_v13, val_main_v2, val_main_call17_v0, val_main_c_38, val_main_cst_21, val_main_cst_22, val_main_cst_31, val_main_cst_32]
  by_cases hn : n.val < 16
  · refine (dif_pos hn).trans ?_
    simp only [v164 H, v211 H, v12_0 H, H.al, ← EReal.coe_mul, Finset.univ_unique, sum_singleton, Ideal.exp_coe]
    rw [sum_coe (fun t => D.dt t n * Sum.da1 D (t / 128) (t % 128) n) fun _ => rfl,
      sum_coe (fun t => D.dt t n * Sum.da2 D (t / 128) (t % 128) n) fun _ => rfl, ← EReal.coe_add, ← EReal.coe_neg, ← EReal.coe_mul, ← sum_add_distrib,
      sum_tokens (fun c l => D.dt (128 * c + l) n * D.da c l n) _ fun t => by
        rw [← Sum.da_eq, show 128 * (t / 128) + t % 128 = t by omega]; ring]
    unfold Data.pAlog
    rw [← sum_mul]
    unfold Data.A
    rw [if_pos hn]
    simp only [mul_comm (D.dt _ _)]
    congr 1
    ring
  · refine (dif_neg hn).trans (zero_int.trans ?_)
    unfold Data.pAlog Data.A
    simp [hn]

theorem v104 : val_main_v104 (F := Ideal) x0 x1 (ix1 h) = ((∑ t ∈ range 4096, ∑ p ∈ range 64, D.dy t (64 * h + p) * D.xs t (64 * h + p) : ℝ) : EReal) := by
  pointwise [val_main_v104, val_main_cst_6]
  refine (reduce_outer _ _ h).trans ?_
  pointwise [val_main_v103, val_main_v100, val_main_v4]
  simp only [H.dy, H.xs, ← EReal.coe_mul]
  rw [sum_coe2 (fun t p => D.dy t (h * 64 + p) * D.xs t (h * 64 + p)) fun _ _ => rfl]
  simp only [Nat.mul_comm h.val 64]

theorem v106 : val_main_v106 (F := Ideal) x0 x1 (ix1 h) = val_main_v104 (F := Ideal) x0 x1 (ix1 h) := by
  pointwise [val_main_v106, val_main_v105, val_main_cst_7]
  refine (reduce_outer _ _ h).trans ?_
  simp only [Finset.univ_unique, sum_singleton]
  pointwise []

/-- Result: the gradient of the skip weight. -/
theorem dskip_ref : val_main_v246 (F := Ideal) x0 x1 (ix2 0 n) = ((∑ k ∈ range 32, D.pSkip k n : ℝ) : EReal) := by
  pointwise [val_main_v246, val_main_v245, val_main_v108, val_main_v107, val_main_call18_v0, val_main_c_39, val_main_cst_8]
  by_cases hn : n.val < 16
  · refine (dif_pos hn).trans ?_
    simp only [Finset.univ_unique, sum_singleton]
    rw [v106 H, v104 H, sum_tokens (fun c l => ∑ p ∈ range 64, D.dy (128 * c + l) (64 * n + p) * D.xs (128 * c + l) (64 * n + p)) _ fun t => by
        rw [show 128 * (t / 128) + t % 128 = t by omega]]
    unfold Data.pSkip hsum
    simp only [if_pos hn]
    exact congrArg _ (sum_congr rfl fun c _ => sum_comm)
  · refine (dif_neg hn).trans (zero_int.trans ?_)
    unfold Data.pSkip hsum
    simp [hn]

/-- Result: the gradient of the lanes that hold `B` and `C`. -/
theorem dbc_ref (j : Fin 512) : val_main_v240 (F := Ideal) x0 x1 x2 x3 x4 x6 (ix2 t j) = ((D.rDbc (t.val / 128) (t.val % 128) j : ℝ) : EReal) := by
  pointwise [val_main_v240, val_main_v239, val_main_v238, val_main_v222, val_main_v221, val_main_v220, val_main_v171, val_main_v196]
  unfold Data.rDbc Data.rDB Data.rDC
  by_cases hj : j.val < 256
  · rw [if_pos hj]
    refine (dif_pos hj).trans ?_
    rw [v145 H, v193 H, ← EReal.coe_add]
  · rw [if_neg hj]
    refine (dif_neg hj).trans ?_
    rw [v118 H, v195 H, ← EReal.coe_add]
    dsimp only
    rw [show (j.val - 256) % 128 = j.val % 128 by omega]

end Cert.SsdRef

end
-- ==== Proof.Ssd.Entry.lean ====
/- Arguments that are real numbers meet the two descriptions of the real data, the kernel's (`Entry`) and the reference's
   (`Args`), and the kernel's five results are then the reference's. -/
module

public import proofs.«01_k».proof.Proof.Ssd.Host
public import proofs.«01_k».proof.Proof.Ssd.Points
public import proofs.«01_k».proof.Proof.Ssd.RefC

@[expose] public section

noncomputable section

namespace Cert.SsdHost

open Cert.KernelIdeal Cert.KernelIdeal.Gen Idealize.ShloMosaic Idealize.ShloMosaic.TcCoe
open Cert.Ssd (Data)
open Cert.SsdGrid (Entry)
open Cert.SsdRef (Args)

/-- Past the extents the entry read is zero. -/
theorem at2_out {a b : ℕ} (x : FVec Ideal ⟨2, ![a, b]⟩ .f32) (i j : ℕ) (h : ¬ j < b) : at2 x i j = 0 :=
  dif_neg fun e => h e.2

/-- The bias row at a lane of the step sizes. -/
theorem row_bias (x4 x5 : FVec Ideal S1x16 .f32) (h4 : ∀ i, ∃ r : ℝ, x4 i = (r : EReal)) (l : Fin 128) (h : l.val < 16) :
    (concatenate S1x128 1 [⟨S1x16, x4⟩, ⟨S1x16, x5⟩,
      ⟨S1x96, broadcastInDim S1x96 ![] bcast_S_S1x96 (constant (F := Ideal) S_ .f32 0x00000000#32)⟩]
      concatenates_S1x16_S1x16_S1x96_S1x128_d1) (ix2 0 l) = ((at2 x4 0 l : ℝ) : EReal) := by
  pointwise []
  rw [dif_pos h]
  exact at2_eq x4 0 ⟨l, h⟩ (h4 _)

/-- The rate row at a lane. -/
theorem row_rate (x6 : FVec Ideal S1x16 .f32) (h6 : ∀ i, ∃ r : ℝ, x6 i = (r : EReal)) (l : Fin 128) :
    (concatenate S1x128 1 [⟨S1x16, x6⟩,
      ⟨S1x112, broadcastInDim S1x112 ![] bcast_S_S1x112 (constant (F := Ideal) S_ .f32 0x00000000#32)⟩]
      concatenates_S1x16_S1x112_S1x128_d1) (ix2 0 l) = ((at2 x6 0 l : ℝ) : EReal) := by
  pointwise []
  by_cases h : l.val < 16
  · rw [dif_pos h]
    exact at2_eq x6 0 ⟨l, h⟩ (h6 _)
  · rw [dif_neg h, at2_out x6 0 _ h]
    rfl

/-- The skip row at a column. -/
theorem row_skip (x7 : FVec Ideal S1x16 .f32) (h7 : ∀ i, ∃ r : ℝ, x7 i = (r : EReal)) (j : Fin 1024) :
    (shapeCast S1x1024 (broadcastInDim S1x16x64 ![0, 1] bcast_S1x16_S1x16x64_0_1 x7) shapeCasts_S1x16x64_S1x1024) (ix2 0 j)
      = ((at2 x7 0 (j / 64) : ℝ) : EReal) := by
  pointwise []
  exact at2_eq x7 0 ⟨j / 64, by omega⟩ (h7 _)

/-- The states in the kernel's layout, at an index. -/
theorem states_read (v : FVec Ideal S32x2x8x64x128 .f32) (k : Fin 32) (n : Fin 128) (j : Fin 1024) :
    (shapeCast S32x128x1024 (transpose S32x128x2x8x64 [0, 4, 1, 2, 3] v transposes_S32x2x8x64x128_S32x128x2x8x64_0_4_1_2_3)
      shapeCasts_S32x128x2x8x64_S32x128x1024) (ix3 k n j)
      = v (ix5 k (⟨j / 512, by omega⟩ : Fin 2) (⟨j / 64 % 8, by omega⟩ : Fin 8) (⟨j % 64, by omega⟩ : Fin 64) n) := by
  pointwise []

variable (m : (ℓ : Loc nD τ Cert.KernelIdeal.sig) → Buf (Elt Ideal) ℓ) (c : Dev nD)

/-- The real data that a memory's arguments hold on a device. -/
def dataOf : Data :=
  data (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg6)) (m ((c : Thread nD τ).loc main_arg7))

/-- What the reference takes from those arguments. -/
theorem args (h : Cert.Pre_KernelIdeal_finite m) :
    Args (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg6))
      (m ((c : Thread nD τ).loc main_arg7)) (dataOf m c) where
  dy i j := at2_eq _ i j ((reals m h c).x0 _)
  xs i j := at2_eq _ i j ((reals m h c).x1 _)
  bc i j := at2_eq _ i j ((reals m h c).x2 _)
  u i l := ⟨_, _, at2_eq _ i ⟨5632 + l.val, by omega⟩ ((reals m h c).x3 i l), at2_eq _ 0 l ((reals m h c).x4 _), rfl⟩
  al l := at2_eq _ 0 l ((reals m h c).x6 _)
  ds l := at2_eq _ 0 l ((reals m h c).x7 _)

/-- What the kernel's grid takes from those arguments. -/
theorem entry (h : Cert.Pre_KernelIdeal_finite m) : Entry m c (dataOf m c) where
  dy i j := (congrFun (V_main_arg0 m c) _).trans (at2_eq _ i j ((reals m h c).x0 _))
  xs i j := (congrFun (V_main_arg1 m c) _).trans (at2_eq _ i j ((reals m h c).x1 _))
  bc i j := (congrFun (V_main_arg2 m c) _).trans (at2_eq _ i j ((reals m h c).x2 _))
  u i l hl h16 := ⟨_, _, (congrFun (V_main_arg3 m c) _).trans (at2_eq _ i ⟨5632 + l.val, hl⟩ ((reals m h c).x3 i ⟨l.val, h16⟩)),
    (congrFun (V1 m c) _).trans (row_bias _ _ (reals m h c).x4 l h16), rfl⟩
  prev k n j := by
    rw [V59, states_read, Cert.SsdRef.v84 (args m c h)]
    have e : 64 * (8 * (j.val / 512) + j.val / 64 % 8) + j.val % 64 = j.val := by omega
    exact congrArg (fun q => (((dataOf m c).prev k q n : ℝ) : EReal)) e
  alog l := (congrFun (V3 m c) _).trans (row_rate _ (reals m h c).x6 l)
  dsk j := (congrFun (V5 m c) _).trans (row_skip _ (reals m h c).x7 j)

/-- The gradient of the scan's inputs: the kernel's result array is the reference's. -/
theorem dxs_eq (h : Cert.Pre_KernelIdeal_finite m) {y0 : FVec Ideal S4096x1024 .f32} {y2 : FVec Ideal S4096x512 .f32} {y3 : FVec Ideal S4096x5760 .f32} {y4 : FVec Ideal S1x16 .f32} {y6 : FVec Ideal S1x16 .f32} {y7 : FVec Ideal S1x16 .f32}
    (e0 : y0 = m ((c : Thread nD τ).loc main_arg0)) (e2 : y2 = m ((c : Thread nD τ).loc main_arg2)) (e3 : y3 = m ((c : Thread nD τ).loc main_arg3)) (e4 : y4 = m ((c : Thread nD τ).loc main_arg4)) (e6 : y6 = m ((c : Thread nD τ).loc main_arg6)) (e7 : y7 = m ((c : Thread nD τ).loc main_arg7)) :
    Cert.ReferenceIdeal.Read.val_main_v241 (F := Ideal) y0 y2 y3 y4 y6 y7 = (dats m 0 c).arrAt 8 cfg0.N := by
  subst e0 e2 e3 e4 e6 e7
  symm
  funext i
  idx_vars i
  exact (Cert.SsdGrid.dxs_value (entry m c h) _ _).trans (Cert.SsdRef.dxs_ref (args m c h) _ _).symm

/-- The gradient of the keys and queries of the scan. -/
theorem dbc_eq (h : Cert.Pre_KernelIdeal_finite m) {y0 : FVec Ideal S4096x1024 .f32} {y1 : FVec Ideal S4096x1024 .f32} {y2 : FVec Ideal S4096x512 .f32} {y3 : FVec Ideal S4096x5760 .f32} {y4 : FVec Ideal S1x16 .f32} {y6 : FVec Ideal S1x16 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) (e4 : y4 = m ((c : Thread nD τ).loc main_arg4)) (e6 : y6 = m ((c : Thread nD τ).loc main_arg6)) :
    Cert.ReferenceIdeal.Read.val_main_v240 (F := Ideal) y0 y1 y2 y3 y4 y6 = (dats m 0 c).arrAt 9 cfg0.N := by
  subst e0 e1 e2 e3 e4 e6
  symm
  funext i
  idx_vars i
  exact (Cert.SsdGrid.dbc_value (entry m c h) _ _).trans (Cert.SsdRef.dbc_ref (args m c h) _ _).symm

/-- The gradient of the step sizes before their bias and softplus. -/
theorem ddt_eq (h : Cert.Pre_KernelIdeal_finite m) {y0 : FVec Ideal S4096x1024 .f32} {y1 : FVec Ideal S4096x1024 .f32} {y2 : FVec Ideal S4096x512 .f32} {y3 : FVec Ideal S4096x5760 .f32} {y4 : FVec Ideal S1x16 .f32} {y6 : FVec Ideal S1x16 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) (e4 : y4 = m ((c : Thread nD τ).loc main_arg4)) (e6 : y6 = m ((c : Thread nD τ).loc main_arg6)) :
    Cert.ReferenceIdeal.Read.val_main_v242 (F := Ideal) y0 y1 y2 y3 y4 y6 = (dats m 0 c).arrAt 10 cfg0.N := by
  subst e0 e1 e2 e3 e4 e6
  symm
  funext i
  idx_vars i
  exact (Cert.SsdGrid.ddt_value (entry m c h) _ _).trans (Cert.SsdRef.ddt_ref (args m c h) _ _).symm

/-- The gradient of the rates. -/
theorem dalog_eq (h : Cert.Pre_KernelIdeal_finite m) {y0 : FVec Ideal S4096x1024 .f32} {y1 : FVec Ideal S4096x1024 .f32} {y2 : FVec Ideal S4096x512 .f32} {y3 : FVec Ideal S4096x5760 .f32} {y4 : FVec Ideal S1x16 .f32} {y6 : FVec Ideal S1x16 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) (e4 : y4 = m ((c : Thread nD τ).loc main_arg4)) (e6 : y6 = m ((c : Thread nD τ).loc main_arg6)) :
    Cert.ReferenceIdeal.Read.val_main_v244 (F := Ideal) y0 y1 y2 y3 y4 y6 = (dats m 0 c).arrAt 11 cfg0.N := by
  subst e0 e1 e2 e3 e4 e6
  symm
  funext i
  idx_vars i
  obtain rfl : i0 = (0 : Fin 1) := Fin.fin_one_eq_zero i0
  exact (Cert.SsdGrid.dalog_value (entry m c h) _).trans (Cert.SsdRef.dalog_ref (args m c h) _).symm

/-- The gradient of the skip weights. -/
theorem dskip_eq (h : Cert.Pre_KernelIdeal_finite m) {y0 : FVec Ideal S4096x1024 .f32} {y1 : FVec Ideal S4096x1024 .f32}
    (e0 : y0 = m ((c : Thread nD τ).loc main_arg0)) (e1 : y1 = m ((c : Thread nD τ).loc main_arg1)) :
    Cert.ReferenceIdeal.Read.val_main_v246 (F := Ideal) y0 y1 = (dats m 0 c).arrAt 12 cfg0.N := by
  subst e0 e1
  symm
  funext i
  idx_vars i
  obtain rfl : i0 = (0 : Fin 1) := Fin.fin_one_eq_zero i0
  exact (Cert.SsdGrid.dskip_value (entry m c h) _).trans (Cert.SsdRef.dskip_ref (args m c h) _).symm

end Cert.SsdHost

end
-- ==== Proof.Mlp.Square.lean ====
/- What the products share: a sum in parts, and the gradient of the squared rectifier, written with the square root of the
   value it was given and written as a selection. -/
module

public import Idealize.ShloMosaic.Lib.ValueIdx
public import Idealize.ShloMosaic.Lib.Pipeline.ValueKit
public import Idealize.ShloMosaic.PureOps.Ideal.Laws

@[expose] public section

noncomputable section

namespace Cert.Mlp

open Idealize.ShloMosaic

/-- The square root of a rectified number's square is the rectified number. -/
theorem sqrt_sq_relu (a : EReal) : Ideal.sqrt (max a 0 * max a 0) = max a 0 := by
  have z : Ideal.sqrt 0 = 0 := by
    rw [← EReal.coe_zero, Ideal.sqrt_coe, if_neg (lt_irrefl 0), Real.sqrt_zero]
  induction a with
  | bot => simpa using z
  | top => simp
  | coe x =>
    have h : max (x : EReal) 0 = ((max x 0 : ℝ) : EReal) := (EReal.coe_strictMono.monotone.map_max (a := x) (b := 0)).symm
    rw [h, ← EReal.coe_mul, Ideal.sqrt_coe, if_neg (not_lt.mpr (mul_self_nonneg _)), Real.sqrt_mul_self (le_max_right x 0)]

/-- A sum in equal parts. -/
theorem sum_parts (a b : ℕ) {n : ℕ} (h : a * b = n) (f : Fin n → EReal) :
    ∑ k, f k = ∑ s : Fin a, ∑ k : Fin b, f ⟨b * s.val + k.val, by
      have := s.isLt; have := k.isLt; subst h
      calc b * s.val + k.val < b * s.val + b := by omega
        _ = b * (s.val + 1) := by ring
        _ ≤ b * a := Nat.mul_le_mul_left _ (by omega)
        _ = a * b := Nat.mul_comm _ _⟩ := by
  subst h
  rw [← Equiv.sum_comp finProdFinEquiv, Fintype.sum_prod_type]
  refine Finset.sum_congr rfl fun s _ => Finset.sum_congr rfl fun k _ => congrArg f (Fin.ext ?_)
  exact Nat.add_comm k.val (b * s.val)

/-- The gradient handed back: `g` times twice the root of the rectified square is `g` times twice the rectified number
    where the number is positive, and zero elsewhere. -/
theorem relu2_grad (g a : EReal) :
    g * (2 * Ideal.sqrt (max a 0 * max a 0)) = if 0 < a then g * (2 * max a 0) else 0 := by
  rw [sqrt_sq_relu]
  split_ifs with h
  · rfl
  · rw [max_eq_right (not_lt.mp h), mul_zero, mul_zero]

/-- The word of two. -/
theorem two_word : Ideal.ofBits FTy.f32 1073741824#32 = (2 : EReal) := by
  have h : Ideal.ofBits FTy.f32 1073741824#32 = (((8388608 : ℝ) * (1 / 4194304) : ℝ) : EReal) := by
    rw [EReal.coe_mul]
    simp [Ideal.ofBits, Ideal.ieee]
    norm_num
  rw [h, show (8388608 : ℝ) * (1 / 4194304) = 2 by norm_num]
  rfl

/-- A sum in two parts. -/
theorem sum_split (a b : ℕ) {n : ℕ} (h : a + b = n) (f : Fin n → EReal) :
    ∑ k, f k = ∑ k : Fin a, f ⟨k.val, by omega⟩ + ∑ k : Fin b, f ⟨a + k.val, by omega⟩ := by
  subst h
  rw [Fin.sum_univ_add]
  rfl

end Cert.Mlp
end
-- ==== Proof.Mlp.Hidden.lean ====
/- The gradient of the hidden activation: what the grid leaves in its result, and that the reference computes it. -/
module

public import proofs.«01_k».proof.Proof.Mlp.Square
public import proofs.«01_k».proof.Proof.Gen.HiddenIdeal.Value
public import proofs.«01_k».proof.Proof.Gen.HiddenRefIdeal.Read
public import Idealize.ShloMosaic.Lib.StableHlo.ReadAt

@[expose] public section

set_option maxRecDepth 16384

noncomputable section

namespace Cert.Mlp.Hidden

open Cert.HiddenIdeal Cert.HiddenIdeal.Gen Idealize.ShloMosaic Idealize.ShloMosaic.TcCoe
open Cert.HiddenRefIdeal.Read

variable (m : (ℓ : Loc nD τ sig) → Buf (Elt Ideal) ℓ) (c : Dev nD)

/-! ## The arrays the grid reads -/

theorem V3 : V m c main_v3 = truncf (F := Ideal) .bf16 (val_main_v5 (F := Ideal) (m ((c : Thread nD τ).loc main_arg0)) (m ((c : Thread nD τ).loc main_arg1))) bitsLt_bf16_f32 := by
  unfold V
  after_reads_simp
  simp -implicitDefEqProofs only [StableHlo.TRef.toBuf, StableHlo.TRef.ofBuf, cast_cast, cast_eq]
  rfl

theorem V4 : V m c main_v4 = truncf (F := Ideal) .bf16 (m ((c : Thread nD τ).loc main_arg3)) bitsLt_bf16_f32 := by
  unfold V
  after_reads_simp

theorem V5 : V m c main_v5 = truncf (F := Ideal) .bf16 (m ((c : Thread nD τ).loc main_arg2)) bitsLt_bf16_f32 := by
  unfold V
  after_reads_simp

/-! The three arrays the grid reads. -/

@[irreducible] def G : FVec Ideal S4096x1024 .bf16 := V m c main_v4
@[irreducible] def W : FVec Ideal S4096x1024 .bf16 := V m c main_v5
@[irreducible] def R : FVec Ideal S4096x4096 .bf16 := V m c main_v3

/-! ## The blocks of a point -/

theorem w0 : ∀ t : Fin cfg0.N, win0_0.index t = ![t.val / 4, 0] := by decide +kernel
theorem w1 : ∀ t : Fin cfg0.N, win0_1.index t = ![t.val % 4, 0] := by decide +kernel
theorem w2 : ∀ t : Fin cfg0.N, win0_2.index t = ![t.val / 4, t.val % 4] := by decide +kernel
theorem w3 : ∀ t : Fin cfg0.N, win0_3.index t = ![t.val / 4, t.val % 4] := by decide +kernel

theorem b0 (t : Fin cfg0.N) (r k : Fin 1024) (h : 1024 * (t.val / 4) + r.val < 4096) :
    (iblk m c 0 t : Vec Ideal S1024x1024 .bf16) (ix2 r k) = G m c (ix2 ⟨1024 * (t.val / 4) + r.val, h⟩ k) := by
  unfold G; blk_ext [iblk, w0 t]

theorem b1 (t : Fin cfg0.N) (r k : Fin 1024) (h : 1024 * (t.val % 4) + r.val < 4096) :
    (iblk m c 1 t : Vec Ideal S1024x1024 .bf16) (ix2 r k) = W m c (ix2 ⟨1024 * (t.val % 4) + r.val, h⟩ k) := by
  unfold W; blk_ext [iblk, w1 t]

theorem b2 (t : Fin cfg0.N) (r k : Fin 1024) (h : 1024 * (t.val / 4) + r.val < 4096) (h' : 1024 * (t.val % 4) + k.val < 4096) :
    (iblk m c 2 t : Vec Ideal S1024x1024 .bf16) (ix2 r k) = R m c (ix2 ⟨1024 * (t.val / 4) + r.val, h⟩ ⟨1024 * (t.val % 4) + k.val, h'⟩) := by
  unfold R; blk_ext [iblk, w2 t]

theorem hz : (![0, 0] : Fin 2 → Nat) = fun _ => 0 := funext fun a => by fin_cases a <;> rfl

/-- The place of a block's entry in the result. -/
theorem emb3 (t : Fin cfg0.N) (r k : Fin 1024) (h : 1024 * (t.val / 4) + r.val < 4096) (h' : 1024 * (t.val % 4) + k.val < 4096) :
    ((View.whole main_v6).slice (win0_3.rect t)).emb (ix2 r k) = ix2 ⟨1024 * (t.val / 4) + r.val, h⟩ ⟨1024 * (t.val % 4) + k.val, h'⟩ := by
  have e := w3 t
  funext a; fin_cases a
  · refine Fin.ext (show win0_3.index t 0 * 1024 + 1 * r.val = 1024 * (t.val / 4) + r.val from ?_)
    rw [e]; show t.val / 4 * 1024 + 1 * r.val = _; omega
  · refine Fin.ext (show win0_3.index t 1 * 1024 + 1 * k.val = 1024 * (t.val % 4) + k.val from ?_)
    rw [e]; show t.val % 4 * 1024 + 1 * k.val = _; omega

/-- What the body leaves in its output block. -/
theorem out_apply (a b r : Vec Ideal S1024x1024 .bf16) (i j : Fin 1024) :
    out0_3 a b r (ix2 i j) = (∑ k : Fin 1024, a (ix2 i k) * b (ix2 j k)) * (2 * Ideal.sqrt (r (ix2 i j))) := by
  unfold out0_3
  rw [View.canon_unit_zero hz]
  simp only [View.ld_unit_zero (S := S1024x1024) hz]
  pointwise [k0_pay1]
  rw [two_word]

/-- The result after the run, at an index. -/
theorem value (i j : Fin 4096) :
    (dats m 0 c).arrAt 3 cfg0.N (ix2 i j)
      = (∑ k : Fin 1024, G m c (ix2 i k) * W m c (ix2 j k)) * (2 * Ideal.sqrt (R m c (ix2 i j))) := by
  have hN : cfg0.N = 16 := N_0
  have h := (dats m 0 c).arrAt_eq_of_covers 3 (fun x => (∑ k : Fin 1024, G m c (ix2 (x 0) k) * W m c (ix2 (x 1) k)) * (2 * Ideal.sqrt (R m c (ix2 (x 0) (x 1))))) (by decide +kernel) fun t hf y => by
    have ht : t.val < 16 := lt_of_lt_of_eq t.isLt N_0
    idx_vars y
    have p := emb3 t y0 y1 (by omega) (by omega)
    blk_simp [w3 t]
    rw [after0_3, p]
    refine (out_apply _ _ _ y0 y1).trans ?_
    rw [b2 m c t _ _ (by omega) (by omega)]
    simp only [b0 m c t _ _ (show 1024 * (t.val / 4) + y0.val < 4096 by omega), b1 m c t _ _ (show 1024 * (t.val % 4) + y1.val < 4096 by omega)]
    rfl
  rw [h]
  rfl

/-- The reference's result at an index. -/
theorem ref_value (x0 : FVec Ideal S4096x1024 .f32) (x1 : FVec Ideal S1024x4096 .f32) (x2 x3 : FVec Ideal S4096x1024 .f32) (i j : Fin 4096) :
    val_main_v13 (F := Ideal) x0 x1 x2 x3 (ix2 i j)
      = (∑ k : Fin 1024, x3 (ix2 i k) * x2 (ix2 j k)) * (2 * Ideal.sqrt (val_main_v5 (F := Ideal) x0 x1 (ix2 i j))) := by
  generalize e : val_main_v0 (F := Ideal) x0 x1 (ix2 i j) = a
  pointwise [val_main_v13, val_main_v12, val_main_v11, val_main_v10, val_main_v9, val_main_v7, val_main_v6, val_main_v5, val_main_v3, val_main_v2, val_main_v1, val_main_cst, val_main_cst_0, val_main_cst_1, val_main_cst_2, val_main_call0_v0, val_main_call0_cst]
  rw [e, two_word, relu2_grad]

/-- The reference's result is what the grid leaves. -/
theorem result_eq {x0 x2 x3 : FVec Ideal S4096x1024 .f32} {x1 : FVec Ideal S1024x4096 .f32}
    (e0 : x0 = m ((c : Thread nD τ).loc main_arg0)) (e1 : x1 = m ((c : Thread nD τ).loc main_arg1))
    (e2 : x2 = m ((c : Thread nD τ).loc main_arg2)) (e3 : x3 = m ((c : Thread nD τ).loc main_arg3)) :
    val_main_v13 (F := Ideal) x0 x1 x2 x3 = (dats m 0 c).arrAt 3 cfg0.N := by
  subst e0 e1 e2 e3
  have h := value m c
  have g := ref_value (m ((c : Thread nD τ).loc main_arg0)) (m ((c : Thread nD τ).loc main_arg1)) (m ((c : Thread nD τ).loc main_arg2)) (m ((c : Thread nD τ).loc main_arg3))
  have hG : ∀ (i : Fin 4096) (k : Fin 1024), G m c (ix2 i k) = m ((c : Thread nD τ).loc main_arg3) (ix2 i k) := fun i k => by
    unfold G; rw [V4]; rfl
  have hW : ∀ (i : Fin 4096) (k : Fin 1024), W m c (ix2 i k) = m ((c : Thread nD τ).loc main_arg2) (ix2 i k) := fun i k => by
    unfold W; rw [V5]; rfl
  have hR : ∀ (i j : Fin 4096), R m c (ix2 i j) = val_main_v5 (F := Ideal) (m ((c : Thread nD τ).loc main_arg0)) (m ((c : Thread nD τ).loc main_arg1)) (ix2 i j) := fun i k => by
    unfold R; rw [V3]; rfl
  simp only [hG, hW, hR] at h
  generalize (dats m 0 c).arrAt 3 cfg0.N = o at h ⊢
  generalize val_main_v13 (F := Ideal) (m ((c : Thread nD τ).loc main_arg0)) (m ((c : Thread nD τ).loc main_arg1)) (m ((c : Thread nD τ).loc main_arg2)) (m ((c : Thread nD τ).loc main_arg3)) = q at g ⊢
  funext y
  idx_vars y
  exact (g y0 y1).trans (h y0 y1).symm

end Cert.Mlp.Hidden
end
-- ==== Proof.Mlp.FfOut.lean ====
/- The gradient of the second weight: what the grid leaves in its result, and that the reference computes it. Two points
   share a block: the first stores the product of the first half of the rows, the second adds the second half. -/
module

public import proofs.«01_k».proof.Proof.Mlp.Square
public import proofs.«01_k».proof.Proof.Gen.FfOutIdeal.Value
public import proofs.«01_k».proof.Proof.Gen.FfOutRefIdeal.Read
public import Idealize.ShloMosaic.Lib.StableHlo.ReadAt

@[expose] public section

set_option maxRecDepth 16384

noncomputable section

namespace Cert.Mlp.FfOut

open Cert.FfOutIdeal Cert.FfOutIdeal.Gen Idealize.ShloMosaic Idealize.ShloMosaic.TcCoe
open Cert.FfOutRefIdeal.Read

variable (m : (ℓ : Loc nD τ sig) → Buf (Elt Ideal) ℓ) (c : Dev nD)

/-! ## The arrays the grid reads -/

theorem V3 : V m c main_v3 = truncf (F := Ideal) .bf16 (val_main_v2 (F := Ideal) (m ((c : Thread nD τ).loc main_arg0)) (m ((c : Thread nD τ).loc main_arg1))) bitsLt_bf16_f32 := by
  unfold V
  after_reads_simp
  simp -implicitDefEqProofs only [StableHlo.TRef.toBuf, StableHlo.TRef.ofBuf, cast_cast, cast_eq]
  rfl

theorem V4 : V m c main_v4 = truncf (F := Ideal) .bf16 (m ((c : Thread nD τ).loc main_arg3)) bitsLt_bf16_f32 := by
  unfold V
  after_reads_simp

@[irreducible] def R : FVec Ideal S4096x4096 .bf16 := V m c main_v3
@[irreducible] def G : FVec Ideal S4096x1024 .bf16 := V m c main_v4

/-! ## The blocks of a point -/

theorem w0 : ∀ t : Fin cfg0.N, win0_0.index t = ![t.val % 2, t.val / 2] := by decide +kernel
theorem w1 : ∀ t : Fin cfg0.N, win0_1.index t = ![t.val % 2, 0] := by decide +kernel
theorem w2 : ∀ t : Fin cfg0.N, win0_2.index t = ![t.val / 2, 0] := by decide +kernel

theorem b0 (t : Fin cfg0.N) (r : Fin 2048) (k : Fin 1024) (h : 2048 * (t.val % 2) + r.val < 4096) (h' : 1024 * (t.val / 2) + k.val < 4096) :
    (iblk m c 0 t : Vec Ideal S2048x1024 .bf16) (ix2 r k) = R m c (ix2 ⟨2048 * (t.val % 2) + r.val, h⟩ ⟨1024 * (t.val / 2) + k.val, h'⟩) := by
  unfold R; blk_ext [iblk, w0 t]

theorem b1 (t : Fin cfg0.N) (r : Fin 2048) (k : Fin 1024) (h : 2048 * (t.val % 2) + r.val < 4096) :
    (iblk m c 1 t : Vec Ideal S2048x1024 .bf16) (ix2 r k) = G m c (ix2 ⟨2048 * (t.val % 2) + r.val, h⟩ k) := by
  unfold G; blk_ext [iblk, w1 t]

/-- The place of a block's entry in the result. -/
theorem emb2 (t : Fin cfg0.N) (r k : Fin 1024) (h : 1024 * (t.val / 2) + r.val < 4096) :
    ((View.whole main_v5).slice (win0_2.rect t)).emb (ix2 r k) = ix2 ⟨1024 * (t.val / 2) + r.val, h⟩ k := by
  have e := w2 t
  funext a; fin_cases a
  · refine Fin.ext (show win0_2.index t 0 * 1024 + 1 * r.val = 1024 * (t.val / 2) + r.val from ?_)
    rw [e]; show t.val / 2 * 1024 + 1 * r.val = _; omega
  · refine Fin.ext (show win0_2.index t 1 * 1024 + 1 * k.val = k.val from ?_)
    rw [e]; show 0 * 1024 + 1 * k.val = _; omega

theorem hz : (![0, 0] : Fin 2 → Nat) = fun _ => 0 := funext fun a => by fin_cases a <;> rfl

/-! ## What the two points of a block leave -/

section
variable (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)

theorem tieA (hc0 : cond0_0 i) (hc1 : ¬cond0_1 i) (hc2 : ¬cond0_2 i) (x y : Vec Ideal S2048x1024 .bf16) :
    sout0_A_0 (F := Ideal) c i a3 h3 a4 h4 a5 h5 a6 h6 hc0 hc1 hc2 x y = k0_pay2 x y := by
  unfold sout0_A_0
  simp only [View.read_writes_junk_eq_canon]
  unfold kernelRun0_A
  dsimp only
  rw [View.canon_unit_zero hz]
  simp only [View.readAt_eq_ld, h3.read_unread, h4.read_unread, View.ld_unit_zero (S := S2048x1024) hz]

theorem tieB (hc0 : ¬cond0_0 i) (hc1 : cond0_1 i) (hc2 : cond0_2 i) (x y : Vec Ideal S2048x1024 .bf16) (s : Vec Ideal S1024x1024 .f32) :
    out0_B_2 (F := Ideal) c i a3 h3 a4 h4 a5 h5 a6 h6 hc0 hc1 hc2 x y s = k0_pay4 (k0_pay3 x y s) := by
  unfold out0_B_2
  simp only [View.read_writes_junk_eq_canon]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S1024x1024) hz]
end

theorem pay2_apply (x y : Vec Ideal S2048x1024 .bf16) (i j : Fin 1024) :
    k0_pay2 x y (ix2 i j) = ∑ k : Fin 2048, x (ix2 k i) * y (ix2 k j) := by
  pointwise [k0_pay2, k0_pay1]

theorem pay4_apply (x y : Vec Ideal S2048x1024 .bf16) (s : Vec Ideal S1024x1024 .f32) (i j : Fin 1024) :
    k0_pay4 (k0_pay3 x y s) (ix2 i j) = s (ix2 i j) + ∑ k : Fin 2048, x (ix2 k i) * y (ix2 k j) := by
  pointwise [k0_pay4, k0_pay3, k0_pay1]

/-- What the second point of a block leaves in it. -/
theorem out_apply (t : Fin cfg0.N) (ho : t.val % 2 = 1) (i j : Fin 1024) (h : 1024 * (t.val / 2) + i.val < 4096) :
    (outsAt0 m c t.val t.isLt).1 (ix2 i j) = ∑ k : Fin 4096, R m c (ix2 k ⟨1024 * (t.val / 2) + i.val, h⟩) * G m c (ix2 k j) := by
  have ht : t.val < 8 := lt_of_lt_of_eq t.isLt N_0
  let u : Fin cfg0.N := ⟨t.val - 1, lt_of_le_of_lt (Nat.sub_le _ _) t.isLt⟩
  have hu : u.val = t.val - 1 := rfl
  have e := outsAt0_B m c t (by omega) ho ho
  have e' := outsAt0_A m c u (by omega) (by omega) (by omega)
  rw [tieB] at e
  rw [tieA] at e'
  rw [e]
  show k0_pay4 (k0_pay3 (iblk m c 0 t) (iblk m c 1 t) (outsAt0 m c u.val u.isLt).2) (ix2 i j) = _
  rw [e']
  refine (pay4_apply _ _ _ i j).trans ((congrArg (· + _) (pay2_apply _ _ i j)).trans ?_)
  rw [sum_split 2048 2048 rfl]
  refine congrArg₂ (· + ·) (Finset.sum_congr rfl fun k _ => ?_) (Finset.sum_congr rfl fun k _ => ?_)
  · refine congrArg₂ (· * ·) ((b0 m c u k i (by omega) (by omega)).trans ?_) ((b1 m c u k j (by omega)).trans ?_)
    · exact congrArg (R m c) (congrArg₂ ix2 (Fin.ext (by show 2048 * (u.val % 2) + k.val = k.val; omega)) (Fin.ext (by show 1024 * (u.val / 2) + i.val = 1024 * (t.val / 2) + i.val; omega)))
    · exact congrArg (G m c) (congrArg₂ ix2 (Fin.ext (by show 2048 * (u.val % 2) + k.val = k.val; omega)) rfl)
  · refine congrArg₂ (· * ·) ((b0 m c t k i (by omega) (by omega)).trans ?_) ((b1 m c t k j (by omega)).trans ?_)
    · exact congrArg (R m c) (congrArg₂ ix2 (Fin.ext (by show 2048 * (t.val % 2) + k.val = 2048 + k.val; omega)) rfl)
    · exact congrArg (G m c) (congrArg₂ ix2 (Fin.ext (by show 2048 * (t.val % 2) + k.val = 2048 + k.val; omega)) rfl)

/-- The result after the run, at an index. -/
theorem value (i : Fin 4096) (j : Fin 1024) :
    (dats m 0 c).arrAt 2 cfg0.N (ix2 i j) = ∑ k : Fin 4096, R m c (ix2 k i) * G m c (ix2 k j) := by
  have h := (dats m 0 c).arrAt_eq_of_covers 2 (fun x => (∑ k : Fin 4096, R m c (ix2 k (x 0)) * G m c (ix2 k (x 1)) : EReal)) (by decide +kernel) fun t hf y => by
    have ht : t.val < 8 := lt_of_lt_of_eq t.isLt N_0
    idx_vars y
    have p := emb2 t y0 y1 (by omega)
    blk_simp [w2 t]
    rw [after0_2, p]
    exact out_apply m c t ((flush0_2 t).mp hf) y0 y1 (by omega)
  rw [h]
  rfl

/-- The reference's result at an index. -/
theorem ref_value (x0 : FVec Ideal S4096x1024 .f32) (x1 : FVec Ideal S1024x4096 .f32) (x3 : FVec Ideal S4096x1024 .f32) (i : Fin 4096) (j : Fin 1024) :
    val_main_v6 (F := Ideal) x0 x1 x3 (ix2 i j) = ∑ k : Fin 4096, val_main_v2 (F := Ideal) x0 x1 (ix2 k i) * x3 (ix2 k j) := by
  generalize e : val_main_v2 (F := Ideal) x0 x1 = r
  pointwise [val_main_v6, val_main_v5, val_main_v4]
  rw [e]
  exact Finset.sum_congr rfl fun k _ => mul_comm _ _

/-- The reference's result is what the grid leaves. -/
theorem result_eq {x0 x3 : FVec Ideal S4096x1024 .f32} {x1 : FVec Ideal S1024x4096 .f32}
    (e0 : x0 = m ((c : Thread nD τ).loc main_arg0)) (e1 : x1 = m ((c : Thread nD τ).loc main_arg1))
    (e3 : x3 = m ((c : Thread nD τ).loc main_arg3)) :
    val_main_v6 (F := Ideal) x0 x1 x3 = (dats m 0 c).arrAt 2 cfg0.N := by
  subst e0 e1 e3
  have h := value m c
  have g := ref_value (m ((c : Thread nD τ).loc main_arg0)) (m ((c : Thread nD τ).loc main_arg1)) (m ((c : Thread nD τ).loc main_arg3))
  have hG : ∀ (i : Fin 4096) (k : Fin 1024), G m c (ix2 i k) = m ((c : Thread nD τ).loc main_arg3) (ix2 i k) := fun i k => by
    unfold G; rw [V4]; rfl
  have hR : ∀ (i j : Fin 4096), R m c (ix2 i j) = val_main_v2 (F := Ideal) (m ((c : Thread nD τ).loc main_arg0)) (m ((c : Thread nD τ).loc main_arg1)) (ix2 i j) := fun i k => by
    unfold R; rw [V3]; rfl
  simp only [hG, hR] at h
  generalize (dats m 0 c).arrAt 2 cfg0.N = o at h ⊢
  generalize val_main_v6 (F := Ideal) (m ((c : Thread nD τ).loc main_arg0)) (m ((c : Thread nD τ).loc main_arg1)) (m ((c : Thread nD τ).loc main_arg3)) = q at g ⊢
  funext y
  idx_vars y
  exact (g y0 y1).trans (h y0 y1).symm

end Cert.Mlp.FfOut
end
-- ==== Proof.Mlp.FfIn.lean ====
/- The gradient of the first weight, shard by shard: what the grid leaves in its result, and that the reference computes it.
   Two points share a block: the first stores the product of the first half of the rows, the second adds the second half and
   writes the two shards of the block's columns. -/
module

public import proofs.«01_k».proof.Proof.Mlp.Square
public import proofs.«01_k».proof.Proof.Gen.FfInIdeal.Value
public import proofs.«01_k».proof.Proof.Gen.FfInRefIdeal.Read
public import Idealize.ShloMosaic.Lib.StableHlo.ReadAt

@[expose] public section

set_option maxRecDepth 16384

noncomputable section

namespace Cert.Mlp.FfIn

open Cert.FfInIdeal Cert.FfInIdeal.Gen Idealize.ShloMosaic Idealize.ShloMosaic.TcCoe
open Cert.FfInRefIdeal.Read

variable (m : (ℓ : Loc nD τ sig) → Buf (Elt Ideal) ℓ) (c : Dev nD)

/-! ## The arrays the grid reads -/

theorem V0 : V m c main_v0 = truncf (F := Ideal) .bf16 (m ((c : Thread nD τ).loc main_arg0)) bitsLt_bf16_f32 := by
  unfold V
  after_reads_simp

theorem V1 : V m c main_v1 = truncf (F := Ideal) .bf16 (m ((c : Thread nD τ).loc main_arg2)) bitsLt_bf16_f32 := by
  unfold V
  after_reads_simp

@[irreducible] def H : FVec Ideal S4096x1024 .bf16 := V m c main_v0
@[irreducible] def G : FVec Ideal S4096x4096 .bf16 := V m c main_v1

/-! ## The blocks of a point -/

theorem w0 : ∀ t : Fin cfg0.N, win0_0.index t = ![t.val % 2, 0] := by decide +kernel
theorem w1 : ∀ t : Fin cfg0.N, win0_1.index t = ![t.val % 2, t.val / 2] := by decide +kernel
theorem w2 : ∀ t : Fin cfg0.N, win0_2.index t = ![t.val / 2, 0, 0] := by decide +kernel

theorem b0 (t : Fin cfg0.N) (r : Fin 2048) (k : Fin 1024) (h : 2048 * (t.val % 2) + r.val < 4096) :
    (iblk m c 0 t : Vec Ideal S2048x1024 .bf16) (ix2 r k) = H m c (ix2 ⟨2048 * (t.val % 2) + r.val, h⟩ k) := by
  unfold H; blk_ext [iblk, w0 t]

theorem b1 (t : Fin cfg0.N) (r : Fin 2048) (k : Fin 1024) (h : 2048 * (t.val % 2) + r.val < 4096) (h' : 1024 * (t.val / 2) + k.val < 4096) :
    (iblk m c 1 t : Vec Ideal S2048x1024 .bf16) (ix2 r k) = G m c (ix2 ⟨2048 * (t.val % 2) + r.val, h⟩ ⟨1024 * (t.val / 2) + k.val, h'⟩) := by
  unfold G; blk_ext [iblk, w1 t]

/-- The place of a block's entry in the result. -/
theorem emb2 (t : Fin cfg0.N) (s : Fin 2) (r : Fin 1024) (k : Fin 512) (h : 2 * (t.val / 2) + s.val < 8) :
    ((View.whole main_v2).slice (win0_2.rect t)).emb (ix3 s r k) = ix3 ⟨2 * (t.val / 2) + s.val, h⟩ r k := by
  have e := w2 t
  funext a; fin_cases a
  · refine Fin.ext (show win0_2.index t 0 * 2 + 1 * s.val = 2 * (t.val / 2) + s.val from ?_)
    rw [e]; show t.val / 2 * 2 + 1 * s.val = _; omega
  · refine Fin.ext (show win0_2.index t 1 * 1024 + 1 * r.val = r.val from ?_)
    rw [e]; show 0 * 1024 + 1 * r.val = _; omega
  · refine Fin.ext (show win0_2.index t 2 * 512 + 1 * k.val = k.val from ?_)
    rw [e]; show 0 * 512 + 1 * k.val = _; omega

/-- The columns of a product, laid out as two planes of 512 columns each. -/
@[irreducible] def planes (q : Vec Ideal S1024x1024 .f32) : Vec Ideal S2x1024x512 .bf16 :=
  fun y => q (ix2 (y 1) ⟨512 * (y 0).val + (y 2).val, by have h0 : (y 0).val < 2 := (y 0).isLt; have h2 : (y 2).val < 512 := (y 2).isLt; omega⟩)

theorem planes_apply (q : Vec Ideal S1024x1024 .f32) (s : Fin 2) (r : Fin 1024) (k : Fin 512) :
    planes q (ix3 s r k) = q (ix2 r ⟨512 * s.val + k.val, by omega⟩) := by
  unfold planes; rfl

/-- A column of the second factor, by its shard. -/
def Gs (k : Fin 4096) (s : Fin 8) (l : Fin 512) : EReal := G m c (ix2 k ⟨512 * s.val + l.val, by omega⟩)

theorem hz : (![0, 0] : Fin 2 → Nat) = fun _ => 0 := funext fun a => by fin_cases a <;> rfl

/-! ## What the two points of a block leave -/

/-- A block of two planes stored plane by plane. -/
theorem canon_planes (i1 i0) (p q : Vec Ideal S1x1024x512 .bf16) (s : Fin 2) (r : Fin 1024) (k : Fin 512) :
    View.canon (Val := Elt Ideal) (s := S2x1024x512) (e := .bf16) [⟨Rect.unit (s := S2x1024x512) ![1, 0, 0] S1x1024x512.size i1, p⟩, ⟨Rect.unit (s := S2x1024x512) ![0, 0, 0] S1x1024x512.size i0, q⟩] (ix3 s r k)
      = if s.val = 1 then p (ix3 0 r k) else q (ix3 0 r k) := by
  split_ifs with h
  · have he : (Rect.unit (s := S2x1024x512) ![1, 0, 0] S1x1024x512.size i1).emb (ix3 (0 : Fin 1) r k) = ix3 s r k := by
      funext x; apply Fin.ext
      match x with
      | 0 => show 1 + 1 * 0 = s.val; omega
      | 1 => show 0 + 1 * r.val = r.val; omega
      | 2 => show 0 + 1 * k.val = k.val; omega
    rw [← he]
    exact View.canon_cons_emb _ _ _ _
  · have he : (Rect.unit (s := S2x1024x512) ![0, 0, 0] S1x1024x512.size i0).emb (ix3 (0 : Fin 1) r k) = ix3 s r k := by
      funext x; apply Fin.ext
      match x with
      | 0 => show 0 + 1 * 0 = s.val; omega
      | 1 => show 0 + 1 * r.val = r.val; omega
      | 2 => show 0 + 1 * k.val = k.val; omega
    rw [View.canon_cons_of_not_mem _ _ (by
      rw [Rect.mem_set_unit]
      intro hm
      have : 1 ≤ s.val := (hm 0).1
      omega), ← he]
    exact View.canon_cons_emb _ _ _ _

section
variable (i : grid0.Coords) (a3 : Memref sig .tc .vmem S2048x1024 .bf16) (h3 : a3.IsWhole)
  (a4 : Memref sig .tc .vmem S2048x1024 .bf16) (h4 : a4.IsWhole) (a5 : Memref sig .tc .vmem S2x1024x512 .bf16) (h5 : a5.IsWhole)
  (a6 : Memref sig .tc .vmem S1024x1024 .f32) (h6 : a6.IsWhole)

theorem tieA (hc0 : cond0_0 i) (hc1 : ¬cond0_1 i) (hc2 : ¬cond0_2 i) (x y : Vec Ideal S2048x1024 .bf16) :
    sout0_A_0 (F := Ideal) c i a3 h3 a4 h4 a5 h5 a6 h6 hc0 hc1 hc2 x y = k0_pay2 x y := by
  unfold sout0_A_0
  simp only [View.read_writes_junk_eq_canon]
  unfold kernelRun0_A
  dsimp only
  rw [View.canon_unit_zero hz]
  simp only [View.readAt_eq_ld, h3.read_unread, h4.read_unread, View.ld_unit_zero (S := S2048x1024) hz]

theorem tieB (hc0 : ¬cond0_0 i) (hc1 : cond0_1 i) (hc2 : cond0_2 i) (x y : Vec Ideal S2048x1024 .bf16) (z : Vec Ideal S1024x1024 .f32) :
    out0_B_2 (F := Ideal) c i a3 h3 a4 h4 a5 h5 a6 h6 hc0 hc1 hc2 x y z = planes (k0_pay3 x y z) := by
  unfold out0_B_2
  simp only [View.read_writes_junk_eq_canon]
  unfold kernelRun0_B
  dsimp only
  sl_unfold_words
  funext w
  idx_vars w
  rw [canon_planes, planes_apply]
  simp only [View.readCov_eq_canon', View.canon_unit_zero (S := S1024x1024) hz, View.readAt_eq_ld, h3.read_unread, h4.read_unread, h6.read_unread, View.ld_unit_zero (S := S2048x1024) hz, View.ld_unit_zero (S := S1024x1024) hz]
  generalize k0_pay3 x y z = q
  unfold k0_pay4 k0_pay5
  split_ifs with h
  · pointwise
    exact congrArg q (congrArg (ix2 w1) (Fin.ext (by show 512 + w2.val = 512 * w0.val + w2.val; omega)))
  · pointwise
    exact congrArg q (congrArg (ix2 w1) (Fin.ext (by show w2.val = 512 * w0.val + w2.val; omega)))
end

theorem pay2_apply (x y : Vec Ideal S2048x1024 .bf16) (i j : Fin 1024) :
    k0_pay2 x y (ix2 i j) = ∑ k : Fin 2048, x (ix2 k i) * y (ix2 k j) := by
  pointwise [k0_pay2, k0_pay1]

theorem pay3_apply (x y : Vec Ideal S2048x1024 .bf16) (s : Vec Ideal S1024x1024 .f32) (i j : Fin 1024) :
    k0_pay3 x y s (ix2 i j) = s (ix2 i j) + ∑ k : Fin 2048, x (ix2 k i) * y (ix2 k j) := by
  pointwise [k0_pay3, k0_pay1]

/-- What the second point of a block leaves in it. -/
theorem out_apply (t : Fin cfg0.N) (ho : t.val % 2 = 1) (s : Fin 2) (i : Fin 1024) (l : Fin 512) (h : 1024 * (t.val / 2) + (512 * s.val + l.val) < 4096) :
    (outsAt0 m c t.val t.isLt).1 (ix3 s i l) = ∑ k : Fin 4096, H m c (ix2 k i) * G m c (ix2 k ⟨1024 * (t.val / 2) + (512 * s.val + l.val), h⟩) := by
  have ht : t.val < 8 := lt_of_lt_of_eq t.isLt N_0
  let u : Fin cfg0.N := ⟨t.val - 1, lt_of_le_of_lt (Nat.sub_le _ _) t.isLt⟩
  have hu : u.val = t.val - 1 := rfl
  have e := outsAt0_B m c t (by omega) ho ho
  have e' := outsAt0_A m c u (by omega) (by omega) (by omega)
  rw [tieB] at e
  rw [tieA] at e'
  rw [e]
  refine (planes_apply _ s i l).trans ?_
  change k0_pay3 (iblk m c 0 t) (iblk m c 1 t) (outsAt0 m c u.val u.isLt).2 _ = _
  rw [e']
  refine (pay3_apply _ _ _ i _).trans ((congrArg (· + _) (pay2_apply _ _ i _)).trans ?_)
  rw [sum_split 2048 2048 rfl]
  refine congrArg₂ (· + ·) (Finset.sum_congr rfl fun k _ => ?_) (Finset.sum_congr rfl fun k _ => ?_)
  · refine congrArg₂ (· * ·) ((b0 m c u k i (by omega)).trans ?_) ((b1 m c u k _ (by omega) (by show 1024 * (u.val / 2) + (512 * s.val + l.val) < 4096; omega)).trans ?_)
    · exact congrArg (H m c) (congrArg₂ ix2 (Fin.ext (by show 2048 * (u.val % 2) + k.val = k.val; omega)) rfl)
    · exact congrArg (G m c) (congrArg₂ ix2 (Fin.ext (by show 2048 * (u.val % 2) + k.val = k.val; omega)) (Fin.ext (by show 1024 * (u.val / 2) + (512 * s.val + l.val) = 1024 * (t.val / 2) + (512 * s.val + l.val); omega)))
  · refine congrArg₂ (· * ·) ((b0 m c t k i (by omega)).trans ?_) ((b1 m c t k _ (by omega) h).trans ?_)
    · exact congrArg (H m c) (congrArg₂ ix2 (Fin.ext (by show 2048 * (t.val % 2) + k.val = 2048 + k.val; omega)) rfl)
    · exact congrArg (G m c) (congrArg₂ ix2 (Fin.ext (by show 2048 * (t.val % 2) + k.val = 2048 + k.val; omega)) rfl)

/-- The result after the run, at an index. -/
theorem value (s : Fin 8) (i : Fin 1024) (l : Fin 512) :
    (dats m 0 c).arrAt 2 cfg0.N (ix3 s i l) = ∑ k : Fin 4096, H m c (ix2 k i) * G m c (ix2 k ⟨512 * s.val + l.val, by omega⟩) := by
  have h := (dats m 0 c).arrAt_eq_of_covers 2 (fun x => (∑ k : Fin 4096, H m c (ix2 k (x 1)) * Gs m c k (x 0) (x 2) : EReal)) (by decide +kernel) fun t hf y => by
    have ht : t.val < 8 := lt_of_lt_of_eq t.isLt N_0
    idx_vars y
    have p := emb2 t y0 y1 y2 (by omega)
    blk_simp [w2 t]
    rw [after0_2, p]
    refine (out_apply m c t ((flush0_2 t).mp hf) y0 y1 y2 (by omega)).trans ?_
    refine Finset.sum_congr rfl fun k _ => congrArg (H m c (ix2 k y1) * ·) (congrArg (G m c) (congrArg (ix2 k) (Fin.ext ?_)))
    show 1024 * (t.val / 2) + (512 * y0.val + y2.val) = 512 * (2 * (t.val / 2) + y0.val) + y2.val
    omega
  rw [h]
  rfl

/-- The reference's result at an index. -/
theorem ref_value (x0 : FVec Ideal S4096x1024 .f32) (x2 : FVec Ideal S4096x4096 .f32) (s : Fin 8) (i : Fin 1024) (l : Fin 512) :
    val_main_v5 (F := Ideal) x0 x2 (ix3 s i l) = ∑ k : Fin 4096, x0 (ix2 k i) * x2 (ix2 k ⟨512 * s.val + l.val, by omega⟩) := by
  pointwise [val_main_v5, val_main_v4, val_main_v3, val_main_v2, val_main_v1]
  refine Finset.sum_congr rfl fun k _ => (mul_comm _ _).trans (congrArg (x0 (ix2 k i) * x2 ·) (congrArg (ix2 k) (Fin.ext ?_)))
  show s.val * 512 + l.val = 512 * s.val + l.val
  omega

/-- The reference's result is what the grid leaves. -/
theorem result_eq {x0 : FVec Ideal S4096x1024 .f32} {x2 : FVec Ideal S4096x4096 .f32}
    (e0 : x0 = m ((c : Thread nD τ).loc main_arg0)) (e2 : x2 = m ((c : Thread nD τ).loc main_arg2)) :
    val_main_v5 (F := Ideal) x0 x2 = (dats m 0 c).arrAt 2 cfg0.N := by
  subst e0 e2
  have h := value m c
  have g := ref_value (m ((c : Thread nD τ).loc main_arg0)) (m ((c : Thread nD τ).loc main_arg2))
  have hH : ∀ (i : Fin 4096) (k : Fin 1024), H m c (ix2 i k) = m ((c : Thread nD τ).loc main_arg0) (ix2 i k) := fun i k => by
    unfold H; rw [V0]; rfl
  have hG : ∀ (i k : Fin 4096), G m c (ix2 i k) = m ((c : Thread nD τ).loc main_arg2) (ix2 i k) := fun i k => by
    unfold G; rw [V1]; rfl
  simp only [hH, hG] at h
  generalize (dats m 0 c).arrAt 2 cfg0.N = o at h ⊢
  generalize val_main_v5 (F := Ideal) (m ((c : Thread nD τ).loc main_arg0)) (m ((c : Thread nD τ).loc main_arg2)) = q at g ⊢
  funext y
  idx_vars y
  exact (g y0 y1 y2).trans (h y0 y1 y2).symm

end Cert.Mlp.FfIn
end
-- ==== Proof.Mlp.FfInput.lean ====
/- The gradient of the input of the first product: what the grid leaves in its result, and that the reference computes it.
   The eight pairs of blocks of a point are the eight shards of the weight's columns. -/
module

public import proofs.«01_k».proof.Proof.Mlp.Square
public import proofs.«01_k».proof.Proof.Gen.FfInputIdeal.Value
public import proofs.«01_k».proof.Proof.Gen.FfInputRefIdeal.Read
public import Idealize.ShloMosaic.Lib.StableHlo.ReadAt

@[expose] public section

set_option maxRecDepth 16384

noncomputable section

namespace Cert.Mlp.FfInput

open Cert.FfInputIdeal Cert.FfInputIdeal.Gen Idealize.ShloMosaic Idealize.ShloMosaic.TcCoe
open Cert.FfInputRefIdeal.Read

variable (m : (ℓ : Loc nD τ sig) → Buf (Elt Ideal) ℓ) (c : Dev nD)

/-! ## The arrays the grid reads -/

theorem V0 : V m c main_v0 = truncf (F := Ideal) .bf16 (m ((c : Thread nD τ).loc main_arg2)) bitsLt_bf16_f32 := by
  unfold V
  after_reads_simp

theorem V3 : V m c main_v3 = transpose S8x1024x512 [1, 0, 2] (shapeCast S1024x8x512 (truncf (F := Ideal) .bf16 (m ((c : Thread nD τ).loc main_arg1)) bitsLt_bf16_f32) shapeCasts_S1024x4096_S1024x8x512) transposes_S1024x8x512_S8x1024x512_1_0_2 := by
  unfold V
  after_reads_simp
  rfl

@[irreducible] def G : FVec Ideal S4096x4096 .bf16 := V m c main_v0
@[irreducible] def W : FVec Ideal S8x1024x512 .bf16 := V m c main_v3

/-! ## The blocks of a point -/

theorem w0 : ∀ t : Fin cfg0.N, win0_0.index t = ![t.val, 0] := by decide +kernel
theorem w1 : ∀ t : Fin cfg0.N, win0_1.index t = ![t.val, 1] := by decide +kernel
theorem w2 : ∀ t : Fin cfg0.N, win0_2.index t = ![t.val, 2] := by decide +kernel
theorem w3 : ∀ t : Fin cfg0.N, win0_3.index t = ![t.val, 3] := by decide +kernel
theorem w4 : ∀ t : Fin cfg0.N, win0_4.index t = ![t.val, 4] := by decide +kernel
theorem w5 : ∀ t : Fin cfg0.N, win0_5.index t = ![t.val, 5] := by decide +kernel
theorem w6 : ∀ t : Fin cfg0.N, win0_6.index t = ![t.val, 6] := by decide +kernel
theorem w7 : ∀ t : Fin cfg0.N, win0_7.index t = ![t.val, 7] := by decide +kernel
theorem w8 : ∀ t : Fin cfg0.N, win0_8.index t = ![0, 0, 0] := by decide +kernel
theorem w9 : ∀ t : Fin cfg0.N, win0_9.index t = ![1, 0, 0] := by decide +kernel
theorem w10 : ∀ t : Fin cfg0.N, win0_10.index t = ![2, 0, 0] := by decide +kernel
theorem w11 : ∀ t : Fin cfg0.N, win0_11.index t = ![3, 0, 0] := by decide +kernel
theorem w12 : ∀ t : Fin cfg0.N, win0_12.index t = ![4, 0, 0] := by decide +kernel
theorem w13 : ∀ t : Fin cfg0.N, win0_13.index t = ![5, 0, 0] := by decide +kernel
theorem w14 : ∀ t : Fin cfg0.N, win0_14.index t = ![6, 0, 0] := by decide +kernel
theorem w15 : ∀ t : Fin cfg0.N, win0_15.index t = ![7, 0, 0] := by decide +kernel
theorem w16 : ∀ t : Fin cfg0.N, win0_16.index t = ![t.val, 0] := by decide +kernel

theorem b0 (t : Fin cfg0.N) (r : Fin 1024) (k : Fin 512) (h : 1024 * t.val + r.val < 4096) :
    (iblk m c 0 t : Vec Ideal S1024x512 .bf16) (ix2 r k) = G m c (ix2 ⟨1024 * t.val + r.val, h⟩ ⟨512 * 0 + k.val, by omega⟩) := by
  unfold G; blk_ext [iblk, w0 t]

theorem b1 (t : Fin cfg0.N) (r : Fin 1024) (k : Fin 512) (h : 1024 * t.val + r.val < 4096) :
    (iblk m c 1 t : Vec Ideal S1024x512 .bf16) (ix2 r k) = G m c (ix2 ⟨1024 * t.val + r.val, h⟩ ⟨512 * 1 + k.val, by omega⟩) := by
  unfold G; blk_ext [iblk, w1 t]

theorem b2 (t : Fin cfg0.N) (r : Fin 1024) (k : Fin 512) (h : 1024 * t.val + r.val < 4096) :
    (iblk m c 2 t : Vec Ideal S1024x512 .bf16) (ix2 r k) = G m c (ix2 ⟨1024 * t.val + r.val, h⟩ ⟨512 * 2 + k.val, by omega⟩) := by
  unfold G; blk_ext [iblk, w2 t]

theorem b3 (t : Fin cfg0.N) (r : Fin 1024) (k : Fin 512) (h : 1024 * t.val + r.val < 4096) :
    (iblk m c 3 t : Vec Ideal S1024x512 .bf16) (ix2 r k) = G m c (ix2 ⟨1024 * t.val + r.val, h⟩ ⟨512 * 3 + k.val, by omega⟩) := by
  unfold G; blk_ext [iblk, w3 t]

theorem b4 (t : Fin cfg0.N) (r : Fin 1024) (k : Fin 512) (h : 1024 * t.val + r.val < 4096) :
    (iblk m c 4 t : Vec Ideal S1024x512 .bf16) (ix2 r k) = G m c (ix2 ⟨1024 * t.val + r.val, h⟩ ⟨512 * 4 + k.val, by omega⟩) := by
  unfold G; blk_ext [iblk, w4 t]

theorem b5 (t : Fin cfg0.N) (r : Fin 1024) (k : Fin 512) (h : 1024 * t.val + r.val < 4096) :
    (iblk m c 5 t : Vec Ideal S1024x512 .bf16) (ix2 r k) = G m c (ix2 ⟨1024 * t.val + r.val, h⟩ ⟨512 * 5 + k.val, by omega⟩) := by
  unfold G; blk_ext [iblk, w5 t]

theorem b6 (t : Fin cfg0.N) (r : Fin 1024) (k : Fin 512) (h : 1024 * t.val + r.val < 4096) :
    (iblk m c 6 t : Vec Ideal S1024x512 .bf16) (ix2 r k) = G m c (ix2 ⟨1024 * t.val + r.val, h⟩ ⟨512 * 6 + k.val, by omega⟩) := by
  unfold G; blk_ext [iblk, w6 t]

theorem b7 (t : Fin cfg0.N) (r : Fin 1024) (k : Fin 512) (h : 1024 * t.val + r.val < 4096) :
    (iblk m c 7 t : Vec Ideal S1024x512 .bf16) (ix2 r k) = G m c (ix2 ⟨1024 * t.val + r.val, h⟩ ⟨512 * 7 + k.val, by omega⟩) := by
  unfold G; blk_ext [iblk, w7 t]

theorem b8 (t : Fin cfg0.N) (n : Fin 1024) (k : Fin 512) :
    (iblk m c 8 t : Vec Ideal S1x1024x512 .bf16) (ix3 0 n k) = W m c (ix3 0 n k) := by
  unfold W; blk_ext [iblk, w8 t]

theorem b9 (t : Fin cfg0.N) (n : Fin 1024) (k : Fin 512) :
    (iblk m c 9 t : Vec Ideal S1x1024x512 .bf16) (ix3 0 n k) = W m c (ix3 1 n k) := by
  unfold W; blk_ext [iblk, w9 t]

theorem b10 (t : Fin cfg0.N) (n : Fin 1024) (k : Fin 512) :
    (iblk m c 10 t : Vec Ideal S1x1024x512 .bf16) (ix3 0 n k) = W m c (ix3 2 n k) := by
  unfold W; blk_ext [iblk, w10 t]

theorem b11 (t : Fin cfg0.N) (n : Fin 1024) (k : Fin 512) :
    (iblk m c 11 t : Vec Ideal S1x1024x512 .bf16) (ix3 0 n k) = W m c (ix3 3 n k) := by
  unfold W; blk_ext [iblk, w11 t]

theorem b12 (t : Fin cfg0.N) (n : Fin 1024) (k : Fin 512) :
    (iblk m c 12 t : Vec Ideal S1x1024x512 .bf16) (ix3 0 n k) = W m c (ix3 4 n k) := by
  unfold W; blk_ext [iblk, w12 t]

theorem b13 (t : Fin cfg0.N) (n : Fin 1024) (k : Fin 512) :
    (iblk m c 13 t : Vec Ideal S1x1024x512 .bf16) (ix3 0 n k) = W m c (ix3 5 n k) := by
  unfold W; blk_ext [iblk, w13 t]

theorem b14 (t : Fin cfg0.N) (n : Fin 1024) (k : Fin 512) :
    (iblk m c 14 t : Vec Ideal S1x1024x512 .bf16) (ix3 0 n k) = W m c (ix3 6 n k) := by
  unfold W; blk_ext [iblk, w14 t]

theorem b15 (t : Fin cfg0.N) (n : Fin 1024) (k : Fin 512) :
    (iblk m c 15 t : Vec Ideal S1x1024x512 .bf16) (ix3 0 n k) = W m c (ix3 7 n k) := by
  unfold W; blk_ext [iblk, w15 t]

/-- The place of a block's entry in the result. -/
theorem emb16 (t : Fin cfg0.N) (r k : Fin 1024) (h : 1024 * t.val + r.val < 4096) :
    ((View.whole main_v4).slice (win0_16.rect t)).emb (ix2 r k) = ix2 ⟨1024 * t.val + r.val, h⟩ k := by
  have e := w16 t
  funext a; fin_cases a
  · refine Fin.ext (show win0_16.index t 0 * 1024 + 1 * r.val = 1024 * t.val + r.val from ?_)
    rw [e]; show t.val * 1024 + 1 * r.val = _; omega
  · refine Fin.ext (show win0_16.index t 1 * 1024 + 1 * k.val = k.val from ?_)
    rw [e]; show 0 * 1024 + 1 * k.val = _; omega

theorem hz : (![0, 0] : Fin 2 → Nat) = fun _ => 0 := funext fun a => by fin_cases a <;> rfl
theorem hz3 : (![0, 0, 0] : Fin 3 → Nat) = fun _ => 0 := funext fun a => by fin_cases a <;> rfl

/-- One of the eight products of a point. -/
def prod (x : Vec Ideal S1024x512 .bf16) (y : Vec Ideal S1x1024x512 .bf16) (i j : Fin 1024) : EReal :=
  ∑ k : Fin 512, x (ix2 i k) * y (ix3 0 j k)

/-- What the body leaves in its output block. -/
theorem out_apply (x0 x1 x2 x3 x4 x5 x6 x7 : Vec Ideal S1024x512 .bf16) (y0 y1 y2 y3 y4 y5 y6 y7 : Vec Ideal S1x1024x512 .bf16) (i j : Fin 1024) :
    out0_16 x0 x1 x2 x3 x4 x5 x6 x7 y0 y1 y2 y3 y4 y5 y6 y7 (ix2 i j)
      = prod x0 y0 i j + prod x1 y1 i j + prod x2 y2 i j + prod x3 y3 i j + prod x4 y4 i j + prod x5 y5 i j + prod x6 y6 i j + prod x7 y7 i j := by
  unfold out0_16
  rw [View.canon_unit_zero hz]
  simp only [View.ld_unit_zero (S := S1024x512) hz, View.ld_unit_zero (S := S1x1024x512) hz3]
  unfold prod
  pointwise [k0_pay1, k0_pay2, k0_pay3]

/-- The sum over the columns, shard by shard. -/
theorem sum_eight (f : Fin 4096 → EReal) :
    ∑ k, f k = (∑ k : Fin 512, f ⟨512 * 0 + k.val, by omega⟩) + (∑ k : Fin 512, f ⟨512 * 1 + k.val, by omega⟩)
      + (∑ k : Fin 512, f ⟨512 * 2 + k.val, by omega⟩) + (∑ k : Fin 512, f ⟨512 * 3 + k.val, by omega⟩)
      + (∑ k : Fin 512, f ⟨512 * 4 + k.val, by omega⟩) + (∑ k : Fin 512, f ⟨512 * 5 + k.val, by omega⟩)
      + (∑ k : Fin 512, f ⟨512 * 6 + k.val, by omega⟩) + (∑ k : Fin 512, f ⟨512 * 7 + k.val, by omega⟩) := by
  rw [sum_parts 8 512 rfl, Fin.sum_univ_eight]
  rfl

/-- The result after the run, at an index, if the shards hold the weight `B`. -/
theorem value (B : Fin 1024 → Fin 4096 → EReal) (hB : ∀ (s : Fin 8) (n : Fin 1024) (k : Fin 512), W m c (ix3 s n k) = B n ⟨512 * s.val + k.val, by omega⟩)
    (i : Fin 4096) (j : Fin 1024) :
    (dats m 0 c).arrAt 16 cfg0.N (ix2 i j) = ∑ k : Fin 4096, G m c (ix2 i k) * B j k := by
  have h := (dats m 0 c).arrAt_eq_of_covers 16 (fun x => (∑ k : Fin 4096, G m c (ix2 (x 0) k) * B (x 1) k : EReal)) (by decide +kernel) fun t hf y => by
    have ht : t.val < 4 := lt_of_lt_of_eq t.isLt N_0
    idx_vars y
    have p := emb16 t y0 y1 (by omega)
    blk_simp [w16 t]
    rw [after0_16, p]
    refine (out_apply _ _ _ _ _ _ _ _ _ _ _ _ _ _ _ _ y0 y1).trans (Eq.trans ?_ (sum_eight _).symm)
    have q : 1024 * t.val + y0.val < 4096 := by omega
    unfold prod
    refine congrArg₂ (· + ·) (congrArg₂ (· + ·) (congrArg₂ (· + ·) (congrArg₂ (· + ·) (congrArg₂ (· + ·) (congrArg₂ (· + ·) (congrArg₂ (· + ·)
      (Finset.sum_congr rfl fun k _ => congrArg₂ (· * ·) (b0 m c t y0 k q) ((b8 m c t y1 k).trans (hB 0 y1 k)))
      (Finset.sum_congr rfl fun k _ => congrArg₂ (· * ·) (b1 m c t y0 k q) ((b9 m c t y1 k).trans (hB 1 y1 k))))
      (Finset.sum_congr rfl fun k _ => congrArg₂ (· * ·) (b2 m c t y0 k q) ((b10 m c t y1 k).trans (hB 2 y1 k))))
      (Finset.sum_congr rfl fun k _ => congrArg₂ (· * ·) (b3 m c t y0 k q) ((b11 m c t y1 k).trans (hB 3 y1 k))))
      (Finset.sum_congr rfl fun k _ => congrArg₂ (· * ·) (b4 m c t y0 k q) ((b12 m c t y1 k).trans (hB 4 y1 k))))
      (Finset.sum_congr rfl fun k _ => congrArg₂ (· * ·) (b5 m c t y0 k q) ((b13 m c t y1 k).trans (hB 5 y1 k))))
      (Finset.sum_congr rfl fun k _ => congrArg₂ (· * ·) (b6 m c t y0 k q) ((b14 m c t y1 k).trans (hB 6 y1 k))))
      (Finset.sum_congr rfl fun k _ => congrArg₂ (· * ·) (b7 m c t y0 k q) ((b15 m c t y1 k).trans (hB 7 y1 k)))
  rw [h]
  rfl

/-- The reference's result at an index. -/
theorem ref_value (x1 : FVec Ideal S1024x4096 .f32) (x2 : FVec Ideal S4096x4096 .f32) (i : Fin 4096) (j : Fin 1024) :
    val_main_v1 (F := Ideal) x1 x2 (ix2 i j) = ∑ k : Fin 4096, x2 (ix2 i k) * x1 (ix2 j k) := by
  pointwise [val_main_v1]

/-- The reference's result is what the grid leaves. -/
theorem result_eq {x1 : FVec Ideal S1024x4096 .f32} {x2 : FVec Ideal S4096x4096 .f32}
    (e1 : x1 = m ((c : Thread nD τ).loc main_arg1)) (e2 : x2 = m ((c : Thread nD τ).loc main_arg2)) :
    val_main_v1 (F := Ideal) x1 x2 = (dats m 0 c).arrAt 16 cfg0.N := by
  subst e1 e2
  have hW : ∀ (s : Fin 8) (n : Fin 1024) (k : Fin 512), W m c (ix3 s n k) = m ((c : Thread nD τ).loc main_arg1) (ix2 n ⟨512 * s.val + k.val, by omega⟩) := fun s n k => by
    unfold W; rw [V3]
    generalize (m ((c : Thread nD τ).loc main_arg1) : FVec Ideal S1024x4096 .f32) = x
    pointwise
    exact congrArg x (congrArg₂ ix2 rfl (Fin.ext (by show s.val * 512 + k.val = 512 * s.val + k.val; omega)))
  have h := value m c (fun n k => m ((c : Thread nD τ).loc main_arg1) (ix2 n k)) hW
  have g := ref_value (m ((c : Thread nD τ).loc main_arg1)) (m ((c : Thread nD τ).loc main_arg2))
  have hG : ∀ (i k : Fin 4096), G m c (ix2 i k) = m ((c : Thread nD τ).loc main_arg2) (ix2 i k) := fun i k => by
    unfold G; rw [V0]; rfl
  simp only [hG] at h
  generalize (dats m 0 c).arrAt 16 cfg0.N = o at h ⊢
  generalize val_main_v1 (F := Ideal) (m ((c : Thread nD τ).loc main_arg1)) (m ((c : Thread nD τ).loc main_arg2)) = q at g ⊢
  funext y
  idx_vars y
  exact (g y0 y1).trans (h y0 y1).symm

end Cert.Mlp.FfInput
end
-- ==== Proof.Mlp.DMix.lean ====
/- The gradient at the output projection's input: what the grid leaves in its result, and that the reference computes it. -/
module

public import proofs.«01_k».proof.Proof.Mlp.Square
public import proofs.«01_k».proof.Proof.Gen.DMixIdeal.Value
public import proofs.«01_k».proof.Proof.Gen.DMixRefIdeal.Read
public import Idealize.ShloMosaic.Lib.StableHlo.ReadAt

@[expose] public section

set_option maxRecDepth 16384

noncomputable section

namespace Cert.Mlp.DMix

open Cert.DMixIdeal Cert.DMixIdeal.Gen Idealize.ShloMosaic Idealize.ShloMosaic.TcCoe
open Cert.DMixRefIdeal.Read

variable (m : (ℓ : Loc nD τ sig) → Buf (Elt Ideal) ℓ) (c : Dev nD)

/-! ## The arrays the grid reads -/

theorem V0 : V m c main_v0 = truncf (F := Ideal) .bf16 (m ((c : Thread nD τ).loc main_arg2)) bitsLt_bf16_f32 := by
  unfold V
  after_reads_simp

theorem V1 : V m c main_v1 = truncf (F := Ideal) .bf16 (m ((c : Thread nD τ).loc main_arg1)) bitsLt_bf16_f32 := by
  unfold V
  after_reads_simp

@[irreducible] def G : FVec Ideal S4096x1024 .bf16 := V m c main_v0
@[irreducible] def W : FVec Ideal S2048x1024 .bf16 := V m c main_v1

/-! ## The blocks of a point -/

theorem w0 : ∀ t : Fin cfg0.N, win0_0.index t = ![t.val / 2, 0] := by decide +kernel
theorem w1 : ∀ t : Fin cfg0.N, win0_1.index t = ![t.val % 2, 0] := by decide +kernel
theorem w2 : ∀ t : Fin cfg0.N, win0_2.index t = ![t.val / 2, t.val % 2] := by decide +kernel

theorem b0 (t : Fin cfg0.N) (r : Fin 1024) (k : Fin 1024) (h : 1024 * (t.val / 2) + r.val < 4096) :
    (iblk m c 0 t : Vec Ideal S1024x1024 .bf16) (ix2 r k) = G m c (ix2 ⟨1024 * (t.val / 2) + r.val, h⟩ k) := by
  unfold G; blk_ext [iblk, w0 t]

theorem b1 (t : Fin cfg0.N) (r : Fin 1024) (k : Fin 1024) (h : 1024 * (t.val % 2) + r.val < 2048) :
    (iblk m c 1 t : Vec Ideal S1024x1024 .bf16) (ix2 r k) = W m c (ix2 ⟨1024 * (t.val % 2) + r.val, h⟩ k) := by
  unfold W; blk_ext [iblk, w1 t]

/-- The place of a block's entry in the result. -/
theorem emb2 (t : Fin cfg0.N) (r : Fin 1024) (k : Fin 1024) (h : 1024 * (t.val / 2) + r.val < 4096) (h' : 1024 * (t.val % 2) + k.val < 2048) :
    ((View.whole main_v2).slice (win0_2.rect t)).emb (ix2 r k) = ix2 ⟨1024 * (t.val / 2) + r.val, h⟩ ⟨1024 * (t.val % 2) + k.val, h'⟩ := by
  have e := w2 t
  funext a; fin_cases a
  · refine Fin.ext (show win0_2.index t 0 * 1024 + 1 * r.val = 1024 * (t.val / 2) + r.val from ?_)
    rw [e]; show t.val / 2 * 1024 + 1 * r.val = _; omega
  · refine Fin.ext (show win0_2.index t 1 * 1024 + 1 * k.val = 1024 * (t.val % 2) + k.val from ?_)
    rw [e]; show t.val % 2 * 1024 + 1 * k.val = _; omega

theorem hz : (![0, 0] : Fin 2 → Nat) = fun _ => 0 := funext fun a => by fin_cases a <;> rfl

/-- What the body leaves in its output block. -/
theorem out_apply (a : Vec Ideal S1024x1024 .bf16) (b : Vec Ideal S1024x1024 .bf16) (i : Fin 1024) (j : Fin 1024) :
    out0_2 a b (ix2 i j) = ∑ k : Fin 1024, a (ix2 i k) * b (ix2 j k) := by
  unfold out0_2
  rw [View.canon_unit_zero hz]
  simp only [View.ld_unit_zero (S := S1024x1024) hz]
  pointwise [k0_pay1]

/-- The result after the run, at an index. -/
theorem value (i : Fin 4096) (j : Fin 2048) :
    (dats m 0 c).arrAt 2 cfg0.N (ix2 i j) = ∑ k : Fin 1024, G m c (ix2 i k) * W m c (ix2 j k) := by
  have h := (dats m 0 c).arrAt_eq_of_covers 2 (fun x => (∑ k : Fin 1024, G m c (ix2 (x 0) k) * W m c (ix2 (x 1) k) : EReal)) (by decide +kernel) fun t hf y => by
    have ht : t.val < 8 := lt_of_lt_of_eq t.isLt N_0
    idx_vars y
    have p := emb2 t y0 y1 (by omega) (by omega)
    blk_simp [w2 t]
    rw [after0_2, p]
    refine (out_apply _ _ y0 y1).trans ?_
    simp only [b0 m c t _ _ (show 1024 * (t.val / 2) + y0.val < 4096 by omega), b1 m c t _ _ (show 1024 * (t.val % 2) + y1.val < 2048 by omega)]
    rfl
  rw [h]
  rfl

/-- The reference's result at an index. -/
theorem ref_value (x1 : FVec Ideal S2048x1024 .f32) (x2 : FVec Ideal S4096x1024 .f32) (i : Fin 4096) (j : Fin 2048) :
    val_main_v1 (F := Ideal) x1 x2 (ix2 i j) = ∑ k : Fin 1024, x2 (ix2 i k) * x1 (ix2 j k) := by
  pointwise [val_main_v1]

/-- The reference's result is what the grid leaves. -/
theorem result_eq {x1 : FVec Ideal S2048x1024 .f32} {x2 : FVec Ideal S4096x1024 .f32}
    (e1 : x1 = m ((c : Thread nD τ).loc main_arg1)) (e2 : x2 = m ((c : Thread nD τ).loc main_arg2)) :
    val_main_v1 (F := Ideal) x1 x2 = (dats m 0 c).arrAt 2 cfg0.N := by
  subst e1 e2
  have h := value m c
  have g := ref_value (m ((c : Thread nD τ).loc main_arg1)) (m ((c : Thread nD τ).loc main_arg2))
  have hG : ∀ (i : Fin 4096) (k : Fin 1024), G m c (ix2 i k) = m ((c : Thread nD τ).loc main_arg2) (ix2 i k) := fun i k => by
    unfold G; rw [V0]; rfl
  have hW : ∀ (i : Fin 2048) (k : Fin 1024), W m c (ix2 i k) = m ((c : Thread nD τ).loc main_arg1) (ix2 i k) := fun i k => by
    unfold W; rw [V1]; rfl
  simp only [hG, hW] at h
  generalize (dats m 0 c).arrAt 2 cfg0.N = o at h ⊢
  generalize val_main_v1 (F := Ideal) (m ((c : Thread nD τ).loc main_arg1)) (m ((c : Thread nD τ).loc main_arg2)) = q at g ⊢
  funext y
  idx_vars y
  exact (g y0 y1).trans (h y0 y1).symm

end Cert.Mlp.DMix
end
-- ==== Proof.Mlp.DWOut.lean ====
/- The gradient of the output projection's weight: what the grid leaves, and that the reference computes it. Two points share a block: the first stores the product of the
   first half of the rows, the second adds the second half. -/
module

public import proofs.«01_k».proof.Proof.Mlp.Square
public import proofs.«01_k».proof.Proof.Gen.DWOutIdeal.Value
public import proofs.«01_k».proof.Proof.Gen.DWOutRefIdeal.Read
public import Idealize.ShloMosaic.Lib.StableHlo.ReadAt

@[expose] public section

set_option maxRecDepth 16384

noncomputable section

namespace Cert.Mlp.DWOut

open Cert.DWOutIdeal Cert.DWOutIdeal.Gen Idealize.ShloMosaic Idealize.ShloMosaic.TcCoe
open Cert.DWOutRefIdeal.Read

variable (m : (ℓ : Loc nD τ sig) → Buf (Elt Ideal) ℓ) (c : Dev nD)

/-! ## The arrays the grid reads -/

theorem V0 : V m c main_v0 = truncf (F := Ideal) .bf16 (m ((c : Thread nD τ).loc main_arg0)) bitsLt_bf16_f32 := by
  unfold V
  after_reads_simp

theorem V1 : V m c main_v1 = truncf (F := Ideal) .bf16 (m ((c : Thread nD τ).loc main_arg2)) bitsLt_bf16_f32 := by
  unfold V
  after_reads_simp

@[irreducible] def R : FVec Ideal S4096x2048 .bf16 := V m c main_v0
@[irreducible] def G : FVec Ideal S4096x1024 .bf16 := V m c main_v1

/-! ## The blocks of a point -/

theorem w0 : ∀ t : Fin cfg0.N, win0_0.index t = ![t.val % 2, t.val / 2] := by decide +kernel
theorem w1 : ∀ t : Fin cfg0.N, win0_1.index t = ![t.val % 2, 0] := by decide +kernel
theorem w2 : ∀ t : Fin cfg0.N, win0_2.index t = ![t.val / 2, 0] := by decide +kernel

theorem b0 (t : Fin cfg0.N) (r : Fin 2048) (k : Fin 1024) (h : 2048 * (t.val % 2) + r.val < 4096) (h' : 1024 * (t.val / 2) + k.val < 2048) :
    (iblk m c 0 t : Vec Ideal S2048x1024 .bf16) (ix2 r k) = R m c (ix2 ⟨2048 * (t.val % 2) + r.val, h⟩ ⟨1024 * (t.val / 2) + k.val, h'⟩) := by
  unfold R; blk_ext [iblk, w0 t]

theorem b1 (t : Fin cfg0.N) (r : Fin 2048) (k : Fin 1024) (h : 2048 * (t.val % 2) + r.val < 4096) :
    (iblk m c 1 t : Vec Ideal S2048x1024 .bf16) (ix2 r k) = G m c (ix2 ⟨2048 * (t.val % 2) + r.val, h⟩ k) := by
  unfold G; blk_ext [iblk, w1 t]

/-- The place of a block's entry in the result. -/
theorem emb2 (t : Fin cfg0.N) (r : Fin 1024) (k : Fin 1024) (h : 1024 * (t.val / 2) + r.val < 2048) :
    ((View.whole main_v2).slice (win0_2.rect t)).emb (ix2 r k) = ix2 ⟨1024 * (t.val / 2) + r.val, h⟩ k := by
  have e := w2 t
  funext a; fin_cases a
  · refine Fin.ext (show win0_2.index t 0 * 1024 + 1 * r.val = 1024 * (t.val / 2) + r.val from ?_)
    rw [e]; show t.val / 2 * 1024 + 1 * r.val = _; omega
  · refine Fin.ext (show win0_2.index t 1 * 1024 + 1 * k.val = k.val from ?_)
    rw [e]; show 0 * 1024 + 1 * k.val = _; omega

theorem hz : (![0, 0] : Fin 2 → Nat) = fun _ => 0 := funext fun a => by fin_cases a <;> rfl

/-! ## What the two points of a block leave -/

section
variable (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)

theorem tieA (hc0 : cond0_0 i) (hc1 : ¬cond0_1 i) (hc2 : ¬cond0_2 i) (x : Vec Ideal S2048x1024 .bf16) (y : Vec Ideal S2048x1024 .bf16) :
    sout0_A_0 (F := Ideal) c i a3 h3 a4 h4 a5 h5 a6 h6 hc0 hc1 hc2 x y = k0_pay2 x y := by
  unfold sout0_A_0
  simp only [View.read_writes_junk_eq_canon]
  unfold kernelRun0_A
  dsimp only
  rw [View.canon_unit_zero hz]
  simp only [View.readAt_eq_ld, h3.read_unread, h4.read_unread, View.ld_unit_zero (S := S2048x1024) hz]

theorem tieB (hc0 : ¬cond0_0 i) (hc1 : cond0_1 i) (hc2 : cond0_2 i) (x : Vec Ideal S2048x1024 .bf16) (y : Vec Ideal S2048x1024 .bf16) (s : Vec Ideal S1024x1024 .f32) :
    out0_B_2 (F := Ideal) c i a3 h3 a4 h4 a5 h5 a6 h6 hc0 hc1 hc2 x y s = k0_pay4 (k0_pay3 x y s) := by
  unfold out0_B_2
  simp only [View.read_writes_junk_eq_canon]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S1024x1024) hz]
end

theorem pay2_apply (x : Vec Ideal S2048x1024 .bf16) (y : Vec Ideal S2048x1024 .bf16) (i : Fin 1024) (j : Fin 1024) :
    k0_pay2 x y (ix2 i j) = ∑ k : Fin 2048, x (ix2 k i) * y (ix2 k j) := by
  pointwise [k0_pay2, k0_pay1]

theorem pay4_apply (x : Vec Ideal S2048x1024 .bf16) (y : Vec Ideal S2048x1024 .bf16) (s : Vec Ideal S1024x1024 .f32) (i : Fin 1024) (j : Fin 1024) :
    k0_pay4 (k0_pay3 x y s) (ix2 i j) = s (ix2 i j) + ∑ k : Fin 2048, x (ix2 k i) * y (ix2 k j) := by
  pointwise [k0_pay4, k0_pay3, k0_pay1]

/-- What the second point of a block leaves in it. -/
theorem out_apply (t : Fin cfg0.N) (ho : t.val % 2 = 1) (i : Fin 1024) (j : Fin 1024) (h : 1024 * (t.val / 2) + i.val < 2048) :
    (outsAt0 m c t.val t.isLt).1 (ix2 i j) = ∑ k : Fin 4096, R m c (ix2 k ⟨1024 * (t.val / 2) + i.val, h⟩) * G m c (ix2 k j) := by
  have ht : t.val < 4 := lt_of_lt_of_eq t.isLt N_0
  let u : Fin cfg0.N := ⟨t.val - 1, lt_of_le_of_lt (Nat.sub_le _ _) t.isLt⟩
  have hu : u.val = t.val - 1 := rfl
  have e := outsAt0_B m c t (by omega) ho ho
  have e' := outsAt0_A m c u (by omega) (by omega) (by omega)
  rw [tieB] at e
  rw [tieA] at e'
  rw [e]
  show k0_pay4 (k0_pay3 (iblk m c 0 t) (iblk m c 1 t) (outsAt0 m c u.val u.isLt).2) (ix2 i j) = _
  rw [e']
  refine (pay4_apply _ _ _ i j).trans ((congrArg (· + _) (pay2_apply _ _ i j)).trans ?_)
  rw [sum_split 2048 2048 rfl]
  refine congrArg₂ (· + ·) (Finset.sum_congr rfl fun k _ => ?_) (Finset.sum_congr rfl fun k _ => ?_)
  · refine congrArg₂ (· * ·) ((b0 m c u k i (by omega) (by omega)).trans ?_) ((b1 m c u k j (by omega)).trans ?_)
    · exact congrArg (R m c) (congrArg₂ ix2 (Fin.ext (by show 2048 * (u.val % 2) + k.val = k.val; omega)) (Fin.ext (by show 1024 * (u.val / 2) + i.val = 1024 * (t.val / 2) + i.val; omega)))
    · exact congrArg (G m c) (congrArg₂ ix2 (Fin.ext (by show 2048 * (u.val % 2) + k.val = k.val; omega)) rfl)
  · refine congrArg₂ (· * ·) ((b0 m c t k i (by omega) (by omega)).trans ?_) ((b1 m c t k j (by omega)).trans ?_)
    · exact congrArg (R m c) (congrArg₂ ix2 (Fin.ext (by show 2048 * (t.val % 2) + k.val = 2048 + k.val; omega)) rfl)
    · exact congrArg (G m c) (congrArg₂ ix2 (Fin.ext (by show 2048 * (t.val % 2) + k.val = 2048 + k.val; omega)) rfl)

/-- The result after the run, at an index. -/
theorem value (i : Fin 2048) (j : Fin 1024) :
    (dats m 0 c).arrAt 2 cfg0.N (ix2 i j) = ∑ k : Fin 4096, R m c (ix2 k i) * G m c (ix2 k j) := by
  have h := (dats m 0 c).arrAt_eq_of_covers 2 (fun x => (∑ k : Fin 4096, R m c (ix2 k (x 0)) * G m c (ix2 k (x 1)) : EReal)) (by decide +kernel) fun t hf y => by
    have ht : t.val < 4 := lt_of_lt_of_eq t.isLt N_0
    idx_vars y
    have p := emb2 t y0 y1 (by omega)
    blk_simp [w2 t]
    rw [after0_2, p]
    exact out_apply m c t ((flush0_2 t).mp hf) y0 y1 (by omega)
  rw [h]
  rfl

/-- The reference's result at an index. -/
theorem ref_value (x0 : FVec Ideal S4096x2048 .f32) (x2 : FVec Ideal S4096x1024 .f32) (i : Fin 2048) (j : Fin 1024) :
    val_main_v3 (F := Ideal) x0 x2 (ix2 i j) = ∑ k : Fin 4096, x0 (ix2 k i) * x2 (ix2 k j) := by
  pointwise [val_main_v3, val_main_v2, val_main_v1]
  exact Finset.sum_congr rfl fun k _ => mul_comm _ _

/-- The reference's result is what the grid leaves. -/
theorem result_eq {x0 : FVec Ideal S4096x2048 .f32} {x2 : FVec Ideal S4096x1024 .f32}
    (e0 : x0 = m ((c : Thread nD τ).loc main_arg0)) (e2 : x2 = m ((c : Thread nD τ).loc main_arg2)) :
    val_main_v3 (F := Ideal) x0 x2 = (dats m 0 c).arrAt 2 cfg0.N := by
  subst e0 e2
  have h := value m c
  have g := ref_value (m ((c : Thread nD τ).loc main_arg0)) (m ((c : Thread nD τ).loc main_arg2))
  have hR : ∀ (i : Fin 4096) (k : Fin 2048), R m c (ix2 i k) = m ((c : Thread nD τ).loc main_arg0) (ix2 i k) := fun i k => by
    unfold R; rw [V0]; rfl
  have hG : ∀ (i : Fin 4096) (k : Fin 1024), G m c (ix2 i k) = m ((c : Thread nD τ).loc main_arg2) (ix2 i k) := fun i k => by
    unfold G; rw [V1]; rfl
  simp only [hR, hG] at h
  generalize (dats m 0 c).arrAt 2 cfg0.N = o at h ⊢
  generalize val_main_v3 (F := Ideal) (m ((c : Thread nD τ).loc main_arg0)) (m ((c : Thread nD τ).loc main_arg2)) = q at g ⊢
  funext y
  idx_vars y
  exact (g y0 y1).trans (h y0 y1).symm

end Cert.Mlp.DWOut
end
-- ==== Proof.Mlp.DWIn.lean ====
/- The gradient of 1024 columns of the input projection's weight: what the grid leaves, and that the reference computes it.
   Two points share a block: the first stores the product of the
   first half of the rows, the second adds the second half. -/
module

public import proofs.«01_k».proof.Proof.Mlp.Square
public import proofs.«01_k».proof.Proof.Gen.DWInIdeal.Value
public import proofs.«01_k».proof.Proof.Gen.DWInRefIdeal.Read
public import Idealize.ShloMosaic.Lib.StableHlo.ReadAt

@[expose] public section

set_option maxRecDepth 16384

noncomputable section

namespace Cert.Mlp.DWIn

open Cert.DWInIdeal Cert.DWInIdeal.Gen Idealize.ShloMosaic Idealize.ShloMosaic.TcCoe
open Cert.DWInRefIdeal.Read

variable (m : (ℓ : Loc nD τ sig) → Buf (Elt Ideal) ℓ) (c : Dev nD)

/-! ## The arrays the grid reads -/

theorem V0 : V m c main_v0 = truncf (F := Ideal) .bf16 (m ((c : Thread nD τ).loc main_arg2)) bitsLt_bf16_f32 := by
  unfold V
  after_reads_simp

theorem V1 : V m c main_v1 = truncf (F := Ideal) .bf16 (m ((c : Thread nD τ).loc main_arg0)) bitsLt_bf16_f32 := by
  unfold V
  after_reads_simp

@[irreducible] def R : FVec Ideal S4096x1024 .bf16 := V m c main_v0
@[irreducible] def G : FVec Ideal S4096x1024 .bf16 := V m c main_v1

/-! ## The blocks of a point -/

theorem w0 : ∀ t : Fin cfg0.N, win0_0.index t = ![t.val % 2, t.val / 2] := by decide +kernel
theorem w1 : ∀ t : Fin cfg0.N, win0_1.index t = ![t.val % 2, 0] := by decide +kernel
theorem w2 : ∀ t : Fin cfg0.N, win0_2.index t = ![t.val / 2, 0] := by decide +kernel

theorem b0 (t : Fin cfg0.N) (r : Fin 2048) (k : Fin 1024) (h : 2048 * (t.val % 2) + r.val < 4096) (h' : 1024 * (t.val / 2) + k.val < 1024) :
    (iblk m c 0 t : Vec Ideal S2048x1024 .bf16) (ix2 r k) = R m c (ix2 ⟨2048 * (t.val % 2) + r.val, h⟩ ⟨1024 * (t.val / 2) + k.val, h'⟩) := by
  unfold R; blk_ext [iblk, w0 t]

theorem b1 (t : Fin cfg0.N) (r : Fin 2048) (k : Fin 1024) (h : 2048 * (t.val % 2) + r.val < 4096) :
    (iblk m c 1 t : Vec Ideal S2048x1024 .bf16) (ix2 r k) = G m c (ix2 ⟨2048 * (t.val % 2) + r.val, h⟩ k) := by
  unfold G; blk_ext [iblk, w1 t]

/-- The place of a block's entry in the result. -/
theorem emb2 (t : Fin cfg0.N) (r : Fin 1024) (k : Fin 1024) (h : 1024 * (t.val / 2) + r.val < 1024) :
    ((View.whole main_v2).slice (win0_2.rect t)).emb (ix2 r k) = ix2 ⟨1024 * (t.val / 2) + r.val, h⟩ k := by
  have e := w2 t
  funext a; fin_cases a
  · refine Fin.ext (show win0_2.index t 0 * 1024 + 1 * r.val = 1024 * (t.val / 2) + r.val from ?_)
    rw [e]; show t.val / 2 * 1024 + 1 * r.val = _; omega
  · refine Fin.ext (show win0_2.index t 1 * 1024 + 1 * k.val = k.val from ?_)
    rw [e]; show 0 * 1024 + 1 * k.val = _; omega

theorem hz : (![0, 0] : Fin 2 → Nat) = fun _ => 0 := funext fun a => by fin_cases a <;> rfl

/-! ## What the two points of a block leave -/

section
variable (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)

theorem tieA (hc0 : cond0_0 i) (hc1 : ¬cond0_1 i) (hc2 : ¬cond0_2 i) (x : Vec Ideal S2048x1024 .bf16) (y : Vec Ideal S2048x1024 .bf16) :
    sout0_A_0 (F := Ideal) c i a3 h3 a4 h4 a5 h5 a6 h6 hc0 hc1 hc2 x y = k0_pay2 x y := by
  unfold sout0_A_0
  simp only [View.read_writes_junk_eq_canon]
  unfold kernelRun0_A
  dsimp only
  rw [View.canon_unit_zero hz]
  simp only [View.readAt_eq_ld, h3.read_unread, h4.read_unread, View.ld_unit_zero (S := S2048x1024) hz]

theorem tieB (hc0 : ¬cond0_0 i) (hc1 : cond0_1 i) (hc2 : cond0_2 i) (x : Vec Ideal S2048x1024 .bf16) (y : Vec Ideal S2048x1024 .bf16) (s : Vec Ideal S1024x1024 .f32) :
    out0_B_2 (F := Ideal) c i a3 h3 a4 h4 a5 h5 a6 h6 hc0 hc1 hc2 x y s = k0_pay4 (k0_pay3 x y s) := by
  unfold out0_B_2
  simp only [View.read_writes_junk_eq_canon]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S1024x1024) hz]
end

theorem pay2_apply (x : Vec Ideal S2048x1024 .bf16) (y : Vec Ideal S2048x1024 .bf16) (i : Fin 1024) (j : Fin 1024) :
    k0_pay2 x y (ix2 i j) = ∑ k : Fin 2048, x (ix2 k i) * y (ix2 k j) := by
  pointwise [k0_pay2, k0_pay1]

theorem pay4_apply (x : Vec Ideal S2048x1024 .bf16) (y : Vec Ideal S2048x1024 .bf16) (s : Vec Ideal S1024x1024 .f32) (i : Fin 1024) (j : Fin 1024) :
    k0_pay4 (k0_pay3 x y s) (ix2 i j) = s (ix2 i j) + ∑ k : Fin 2048, x (ix2 k i) * y (ix2 k j) := by
  pointwise [k0_pay4, k0_pay3, k0_pay1]

/-- What the second point of a block leaves in it. -/
theorem out_apply (t : Fin cfg0.N) (ho : t.val % 2 = 1) (i : Fin 1024) (j : Fin 1024) (h : 1024 * (t.val / 2) + i.val < 1024) :
    (outsAt0 m c t.val t.isLt).1 (ix2 i j) = ∑ k : Fin 4096, R m c (ix2 k ⟨1024 * (t.val / 2) + i.val, h⟩) * G m c (ix2 k j) := by
  have ht : t.val < 2 := lt_of_lt_of_eq t.isLt N_0
  let u : Fin cfg0.N := ⟨t.val - 1, lt_of_le_of_lt (Nat.sub_le _ _) t.isLt⟩
  have hu : u.val = t.val - 1 := rfl
  have e := outsAt0_B m c t (by omega) ho ho
  have e' := outsAt0_A m c u (by omega) (by omega) (by omega)
  rw [tieB] at e
  rw [tieA] at e'
  rw [e]
  show k0_pay4 (k0_pay3 (iblk m c 0 t) (iblk m c 1 t) (outsAt0 m c u.val u.isLt).2) (ix2 i j) = _
  rw [e']
  refine (pay4_apply _ _ _ i j).trans ((congrArg (· + _) (pay2_apply _ _ i j)).trans ?_)
  rw [sum_split 2048 2048 rfl]
  refine congrArg₂ (· + ·) (Finset.sum_congr rfl fun k _ => ?_) (Finset.sum_congr rfl fun k _ => ?_)
  · refine congrArg₂ (· * ·) ((b0 m c u k i (by omega) (by omega)).trans ?_) ((b1 m c u k j (by omega)).trans ?_)
    · exact congrArg (R m c) (congrArg₂ ix2 (Fin.ext (by show 2048 * (u.val % 2) + k.val = k.val; omega)) (Fin.ext (by show 1024 * (u.val / 2) + i.val = 1024 * (t.val / 2) + i.val; omega)))
    · exact congrArg (G m c) (congrArg₂ ix2 (Fin.ext (by show 2048 * (u.val % 2) + k.val = k.val; omega)) rfl)
  · refine congrArg₂ (· * ·) ((b0 m c t k i (by omega) (by omega)).trans ?_) ((b1 m c t k j (by omega)).trans ?_)
    · exact congrArg (R m c) (congrArg₂ ix2 (Fin.ext (by show 2048 * (t.val % 2) + k.val = 2048 + k.val; omega)) rfl)
    · exact congrArg (G m c) (congrArg₂ ix2 (Fin.ext (by show 2048 * (t.val % 2) + k.val = 2048 + k.val; omega)) rfl)

/-- The result after the run, at an index. -/
theorem value (i : Fin 1024) (j : Fin 1024) :
    (dats m 0 c).arrAt 2 cfg0.N (ix2 i j) = ∑ k : Fin 4096, R m c (ix2 k i) * G m c (ix2 k j) := by
  have h := (dats m 0 c).arrAt_eq_of_covers 2 (fun x => (∑ k : Fin 4096, R m c (ix2 k (x 0)) * G m c (ix2 k (x 1)) : EReal)) (by decide +kernel) fun t hf y => by
    have ht : t.val < 2 := lt_of_lt_of_eq t.isLt N_0
    idx_vars y
    have p := emb2 t y0 y1 (by omega)
    blk_simp [w2 t]
    rw [after0_2, p]
    exact out_apply m c t ((flush0_2 t).mp hf) y0 y1 (by omega)
  rw [h]
  rfl

/-- The reference's result at an index. -/
theorem ref_value (x0 : FVec Ideal S4096x1024 .f32) (x2 : FVec Ideal S4096x1024 .f32) (i : Fin 1024) (j : Fin 1024) :
    val_main_v4 (F := Ideal) x0 x2 (ix2 i j) = ∑ k : Fin 4096, x2 (ix2 k i) * x0 (ix2 k j) := by
  pointwise [val_main_v4, val_main_v3, val_main_v2, val_main_v1]

/-- The reference's result is what the grid leaves. -/
theorem result_eq {x0 : FVec Ideal S4096x1024 .f32} {x2 : FVec Ideal S4096x1024 .f32}
    (e0 : x0 = m ((c : Thread nD τ).loc main_arg0)) (e2 : x2 = m ((c : Thread nD τ).loc main_arg2)) :
    val_main_v4 (F := Ideal) x0 x2 = (dats m 0 c).arrAt 2 cfg0.N := by
  subst e0 e2
  have h := value m c
  have g := ref_value (m ((c : Thread nD τ).loc main_arg0)) (m ((c : Thread nD τ).loc main_arg2))
  have hR : ∀ (i : Fin 4096) (k : Fin 1024), R m c (ix2 i k) = m ((c : Thread nD τ).loc main_arg2) (ix2 i k) := fun i k => by
    unfold R; rw [V0]; rfl
  have hG : ∀ (i : Fin 4096) (k : Fin 1024), G m c (ix2 i k) = m ((c : Thread nD τ).loc main_arg0) (ix2 i k) := fun i k => by
    unfold G; rw [V1]; rfl
  simp only [hR, hG] at h
  generalize (dats m 0 c).arrAt 2 cfg0.N = o at h ⊢
  generalize val_main_v4 (F := Ideal) (m ((c : Thread nD τ).loc main_arg0)) (m ((c : Thread nD τ).loc main_arg2)) = q at g ⊢
  funext y
  idx_vars y
  exact (g y0 y1).trans (h y0 y1).symm

end Cert.Mlp.DWIn
end
-- ==== Proof.Mlp.DWQ.lean ====
/- The gradient of the queries' columns of the input projection's weight, from a gradient in float32: what the grid leaves, and
   that the reference computes it. Two points share a block: the first stores the product of the
   first half of the rows, the second adds the second half. -/
module

public import proofs.«01_k».proof.Proof.Mlp.Square
public import proofs.«01_k».proof.Proof.Gen.DWQIdeal.Value
public import proofs.«01_k».proof.Proof.Gen.DWQRefIdeal.Read
public import Idealize.ShloMosaic.Lib.StableHlo.ReadAt

@[expose] public section

set_option maxRecDepth 16384

noncomputable section

namespace Cert.Mlp.DWQ

open Cert.DWQIdeal Cert.DWQIdeal.Gen Idealize.ShloMosaic Idealize.ShloMosaic.TcCoe
open Cert.DWQRefIdeal.Read

variable (m : (ℓ : Loc nD τ sig) → Buf (Elt Ideal) ℓ) (c : Dev nD)

/-! ## The arrays the grid reads -/

theorem VA : V m c main_arg2 = m ((c : Thread nD τ).loc main_arg2) := by
  unfold V
  after_reads_simp

theorem V0 : V m c main_v0 = truncf (F := Ideal) .bf16 (m ((c : Thread nD τ).loc main_arg0)) bitsLt_bf16_f32 := by
  unfold V
  after_reads_simp

@[irreducible] def R : FVec Ideal S4096x1024 .f32 := V m c main_arg2
@[irreducible] def G : FVec Ideal S4096x1024 .bf16 := V m c main_v0

/-! ## The blocks of a point -/

theorem w0 : ∀ t : Fin cfg0.N, win0_0.index t = ![t.val % 2, t.val / 2] := by decide +kernel
theorem w1 : ∀ t : Fin cfg0.N, win0_1.index t = ![t.val % 2, 0] := by decide +kernel
theorem w2 : ∀ t : Fin cfg0.N, win0_2.index t = ![t.val / 2, 0] := by decide +kernel

theorem b0 (t : Fin cfg0.N) (r : Fin 2048) (k : Fin 1024) (h : 2048 * (t.val % 2) + r.val < 4096) (h' : 1024 * (t.val / 2) + k.val < 1024) :
    (iblk m c 0 t : Vec Ideal S2048x1024 .f32) (ix2 r k) = R m c (ix2 ⟨2048 * (t.val % 2) + r.val, h⟩ ⟨1024 * (t.val / 2) + k.val, h'⟩) := by
  unfold R; blk_ext [iblk, w0 t]

theorem b1 (t : Fin cfg0.N) (r : Fin 2048) (k : Fin 1024) (h : 2048 * (t.val % 2) + r.val < 4096) :
    (iblk m c 1 t : Vec Ideal S2048x1024 .bf16) (ix2 r k) = G m c (ix2 ⟨2048 * (t.val % 2) + r.val, h⟩ k) := by
  unfold G; blk_ext [iblk, w1 t]

/-- The place of a block's entry in the result. -/
theorem emb2 (t : Fin cfg0.N) (r : Fin 1024) (k : Fin 1024) (h : 1024 * (t.val / 2) + r.val < 1024) :
    ((View.whole main_v1).slice (win0_2.rect t)).emb (ix2 r k) = ix2 ⟨1024 * (t.val / 2) + r.val, h⟩ k := by
  have e := w2 t
  funext a; fin_cases a
  · refine Fin.ext (show win0_2.index t 0 * 1024 + 1 * r.val = 1024 * (t.val / 2) + r.val from ?_)
    rw [e]; show t.val / 2 * 1024 + 1 * r.val = _; omega
  · refine Fin.ext (show win0_2.index t 1 * 1024 + 1 * k.val = k.val from ?_)
    rw [e]; show 0 * 1024 + 1 * k.val = _; omega

theorem hz : (![0, 0] : Fin 2 → Nat) = fun _ => 0 := funext fun a => by fin_cases a <;> rfl

/-! ## What the two points of a block leave -/

section
variable (i : grid0.Coords) (a3 : Memref sig .tc .vmem S2048x1024 .f32) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)

theorem tieA (hc0 : cond0_0 i) (hc1 : ¬cond0_1 i) (hc2 : ¬cond0_2 i) (x : Vec Ideal S2048x1024 .f32) (y : Vec Ideal S2048x1024 .bf16) :
    sout0_A_0 (F := Ideal) c i a3 h3 a4 h4 a5 h5 a6 h6 hc0 hc1 hc2 x y = k0_pay2 x y := by
  unfold sout0_A_0
  simp only [View.read_writes_junk_eq_canon]
  unfold kernelRun0_A
  dsimp only
  rw [View.canon_unit_zero hz]
  simp only [View.readAt_eq_ld, h3.read_unread, h4.read_unread, View.ld_unit_zero (S := S2048x1024) hz]

theorem tieB (hc0 : ¬cond0_0 i) (hc1 : cond0_1 i) (hc2 : cond0_2 i) (x : Vec Ideal S2048x1024 .f32) (y : Vec Ideal S2048x1024 .bf16) (s : Vec Ideal S1024x1024 .f32) :
    out0_B_2 (F := Ideal) c i a3 h3 a4 h4 a5 h5 a6 h6 hc0 hc1 hc2 x y s = k0_pay4 (k0_pay3 x y s) := by
  unfold out0_B_2
  simp only [View.read_writes_junk_eq_canon]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S1024x1024) hz]
end

theorem pay2_apply (x : Vec Ideal S2048x1024 .f32) (y : Vec Ideal S2048x1024 .bf16) (i : Fin 1024) (j : Fin 1024) :
    k0_pay2 x y (ix2 i j) = ∑ k : Fin 2048, x (ix2 k i) * y (ix2 k j) := by
  pointwise [k0_pay2, k0_pay1]

theorem pay4_apply (x : Vec Ideal S2048x1024 .f32) (y : Vec Ideal S2048x1024 .bf16) (s : Vec Ideal S1024x1024 .f32) (i : Fin 1024) (j : Fin 1024) :
    k0_pay4 (k0_pay3 x y s) (ix2 i j) = s (ix2 i j) + ∑ k : Fin 2048, x (ix2 k i) * y (ix2 k j) := by
  pointwise [k0_pay4, k0_pay3, k0_pay1]

/-- What the second point of a block leaves in it. -/
theorem out_apply (t : Fin cfg0.N) (ho : t.val % 2 = 1) (i : Fin 1024) (j : Fin 1024) (h : 1024 * (t.val / 2) + i.val < 1024) :
    (outsAt0 m c t.val t.isLt).1 (ix2 i j) = ∑ k : Fin 4096, R m c (ix2 k ⟨1024 * (t.val / 2) + i.val, h⟩) * G m c (ix2 k j) := by
  have ht : t.val < 2 := lt_of_lt_of_eq t.isLt N_0
  let u : Fin cfg0.N := ⟨t.val - 1, lt_of_le_of_lt (Nat.sub_le _ _) t.isLt⟩
  have hu : u.val = t.val - 1 := rfl
  have e := outsAt0_B m c t (by omega) ho ho
  have e' := outsAt0_A m c u (by omega) (by omega) (by omega)
  rw [tieB] at e
  rw [tieA] at e'
  rw [e]
  show k0_pay4 (k0_pay3 (iblk m c 0 t) (iblk m c 1 t) (outsAt0 m c u.val u.isLt).2) (ix2 i j) = _
  rw [e']
  refine (pay4_apply _ _ _ i j).trans ((congrArg (· + _) (pay2_apply _ _ i j)).trans ?_)
  rw [sum_split 2048 2048 rfl]
  refine congrArg₂ (· + ·) (Finset.sum_congr rfl fun k _ => ?_) (Finset.sum_congr rfl fun k _ => ?_)
  · refine congrArg₂ (· * ·) ((b0 m c u k i (by omega) (by omega)).trans ?_) ((b1 m c u k j (by omega)).trans ?_)
    · exact congrArg (R m c) (congrArg₂ ix2 (Fin.ext (by show 2048 * (u.val % 2) + k.val = k.val; omega)) (Fin.ext (by show 1024 * (u.val / 2) + i.val = 1024 * (t.val / 2) + i.val; omega)))
    · exact congrArg (G m c) (congrArg₂ ix2 (Fin.ext (by show 2048 * (u.val % 2) + k.val = k.val; omega)) rfl)
  · refine congrArg₂ (· * ·) ((b0 m c t k i (by omega) (by omega)).trans ?_) ((b1 m c t k j (by omega)).trans ?_)
    · exact congrArg (R m c) (congrArg₂ ix2 (Fin.ext (by show 2048 * (t.val % 2) + k.val = 2048 + k.val; omega)) rfl)
    · exact congrArg (G m c) (congrArg₂ ix2 (Fin.ext (by show 2048 * (t.val % 2) + k.val = 2048 + k.val; omega)) rfl)

/-- The result after the run, at an index. -/
theorem value (i : Fin 1024) (j : Fin 1024) :
    (dats m 0 c).arrAt 2 cfg0.N (ix2 i j) = ∑ k : Fin 4096, R m c (ix2 k i) * G m c (ix2 k j) := by
  have h := (dats m 0 c).arrAt_eq_of_covers 2 (fun x => (∑ k : Fin 4096, R m c (ix2 k (x 0)) * G m c (ix2 k (x 1)) : EReal)) (by decide +kernel) fun t hf y => by
    have ht : t.val < 2 := lt_of_lt_of_eq t.isLt N_0
    idx_vars y
    have p := emb2 t y0 y1 (by omega)
    blk_simp [w2 t]
    rw [after0_2, p]
    exact out_apply m c t ((flush0_2 t).mp hf) y0 y1 (by omega)
  rw [h]
  rfl

/-- The reference's result at an index. -/
theorem ref_value (x0 : FVec Ideal S4096x1024 .f32) (x2 : FVec Ideal S4096x1024 .f32) (i : Fin 1024) (j : Fin 1024) :
    val_main_v4 (F := Ideal) x0 x2 (ix2 i j) = ∑ k : Fin 4096, x2 (ix2 k i) * x0 (ix2 k j) := by
  pointwise [val_main_v4, val_main_v3, val_main_v2, val_main_v1]

/-- The reference's result is what the grid leaves. -/
theorem result_eq {x0 : FVec Ideal S4096x1024 .f32} {x2 : FVec Ideal S4096x1024 .f32}
    (e0 : x0 = m ((c : Thread nD τ).loc main_arg0)) (e2 : x2 = m ((c : Thread nD τ).loc main_arg2)) :
    val_main_v4 (F := Ideal) x0 x2 = (dats m 0 c).arrAt 2 cfg0.N := by
  subst e0 e2
  have h := value m c
  have g := ref_value (m ((c : Thread nD τ).loc main_arg0)) (m ((c : Thread nD τ).loc main_arg2))
  have hR : ∀ (i : Fin 4096) (k : Fin 1024), R m c (ix2 i k) = m ((c : Thread nD τ).loc main_arg2) (ix2 i k) := fun i k => by
    unfold R; rw [VA]
  have hG : ∀ (i : Fin 4096) (k : Fin 1024), G m c (ix2 i k) = m ((c : Thread nD τ).loc main_arg0) (ix2 i k) := fun i k => by
    unfold G; rw [V0]; rfl
  simp only [hR, hG] at h
  generalize (dats m 0 c).arrAt 2 cfg0.N = o at h ⊢
  generalize val_main_v4 (F := Ideal) (m ((c : Thread nD τ).loc main_arg0)) (m ((c : Thread nD τ).loc main_arg2)) = q at g ⊢
  funext y
  idx_vars y
  exact (g y0 y1).trans (h y0 y1).symm

end Cert.Mlp.DWQ
end
-- ==== Proof.Mlp.DWBc.lean ====
/- The gradient of the keys' and queries' columns of the scan, in the input projection's weight: what the grid leaves, and that
   the reference computes it. Two points share a block: the first stores the product of the
   first half of the rows, the second adds the second half. -/
module

public import proofs.«01_k».proof.Proof.Mlp.Square
public import proofs.«01_k».proof.Proof.Gen.DWBcIdeal.Value
public import proofs.«01_k».proof.Proof.Gen.DWBcRefIdeal.Read
public import Idealize.ShloMosaic.Lib.StableHlo.ReadAt

@[expose] public section

set_option maxRecDepth 16384

noncomputable section

namespace Cert.Mlp.DWBc

open Cert.DWBcIdeal Cert.DWBcIdeal.Gen Idealize.ShloMosaic Idealize.ShloMosaic.TcCoe
open Cert.DWBcRefIdeal.Read

variable (m : (ℓ : Loc nD τ sig) → Buf (Elt Ideal) ℓ) (c : Dev nD)

/-! ## The arrays the grid reads -/

theorem V0 : V m c main_v0 = truncf (F := Ideal) .bf16 (m ((c : Thread nD τ).loc main_arg2)) bitsLt_bf16_f32 := by
  unfold V
  after_reads_simp

theorem V1 : V m c main_v1 = truncf (F := Ideal) .bf16 (m ((c : Thread nD τ).loc main_arg0)) bitsLt_bf16_f32 := by
  unfold V
  after_reads_simp

@[irreducible] def R : FVec Ideal S4096x512 .bf16 := V m c main_v0
@[irreducible] def G : FVec Ideal S4096x1024 .bf16 := V m c main_v1

/-! ## The blocks of a point -/

theorem w0 : ∀ t : Fin cfg0.N, win0_0.index t = ![t.val % 2, t.val / 2] := by decide +kernel
theorem w1 : ∀ t : Fin cfg0.N, win0_1.index t = ![t.val % 2, 0] := by decide +kernel
theorem w2 : ∀ t : Fin cfg0.N, win0_2.index t = ![t.val / 2, 0] := by decide +kernel

theorem b0 (t : Fin cfg0.N) (r : Fin 2048) (k : Fin 512) (h : 2048 * (t.val % 2) + r.val < 4096) (h' : 512 * (t.val / 2) + k.val < 512) :
    (iblk m c 0 t : Vec Ideal S2048x512 .bf16) (ix2 r k) = R m c (ix2 ⟨2048 * (t.val % 2) + r.val, h⟩ ⟨512 * (t.val / 2) + k.val, h'⟩) := by
  unfold R; blk_ext [iblk, w0 t]

theorem b1 (t : Fin cfg0.N) (r : Fin 2048) (k : Fin 1024) (h : 2048 * (t.val % 2) + r.val < 4096) :
    (iblk m c 1 t : Vec Ideal S2048x1024 .bf16) (ix2 r k) = G m c (ix2 ⟨2048 * (t.val % 2) + r.val, h⟩ k) := by
  unfold G; blk_ext [iblk, w1 t]

/-- The place of a block's entry in the result. -/
theorem emb2 (t : Fin cfg0.N) (r : Fin 512) (k : Fin 1024) (h : 512 * (t.val / 2) + r.val < 512) :
    ((View.whole main_v2).slice (win0_2.rect t)).emb (ix2 r k) = ix2 ⟨512 * (t.val / 2) + r.val, h⟩ k := by
  have e := w2 t
  funext a; fin_cases a
  · refine Fin.ext (show win0_2.index t 0 * 512 + 1 * r.val = 512 * (t.val / 2) + r.val from ?_)
    rw [e]; show t.val / 2 * 512 + 1 * r.val = _; omega
  · refine Fin.ext (show win0_2.index t 1 * 1024 + 1 * k.val = k.val from ?_)
    rw [e]; show 0 * 1024 + 1 * k.val = _; omega

theorem hz : (![0, 0] : Fin 2 → Nat) = fun _ => 0 := funext fun a => by fin_cases a <;> rfl

/-! ## What the two points of a block leave -/

section
variable (i : grid0.Coords) (a3 : Memref sig .tc .vmem S2048x512 .bf16) (h3 : a3.IsWhole)
  (a4 : Memref sig .tc .vmem S2048x1024 .bf16) (h4 : a4.IsWhole) (a5 : Memref sig .tc .vmem S512x1024 .bf16) (h5 : a5.IsWhole)
  (a6 : Memref sig .tc .vmem S512x1024 .f32) (h6 : a6.IsWhole)

theorem tieA (hc0 : cond0_0 i) (hc1 : ¬cond0_1 i) (hc2 : ¬cond0_2 i) (x : Vec Ideal S2048x512 .bf16) (y : Vec Ideal S2048x1024 .bf16) :
    sout0_A_0 (F := Ideal) c i a3 h3 a4 h4 a5 h5 a6 h6 hc0 hc1 hc2 x y = k0_pay2 x y := by
  unfold sout0_A_0
  simp only [View.read_writes_junk_eq_canon]
  unfold kernelRun0_A
  dsimp only
  rw [View.canon_unit_zero hz]
  simp only [View.readAt_eq_ld, h3.read_unread, h4.read_unread, View.ld_unit_zero (S := S2048x512) hz, View.ld_unit_zero (S := S2048x1024) hz]

theorem tieB (hc0 : ¬cond0_0 i) (hc1 : cond0_1 i) (hc2 : cond0_2 i) (x : Vec Ideal S2048x512 .bf16) (y : Vec Ideal S2048x1024 .bf16) (s : Vec Ideal S512x1024 .f32) :
    out0_B_2 (F := Ideal) c i a3 h3 a4 h4 a5 h5 a6 h6 hc0 hc1 hc2 x y s = k0_pay4 (k0_pay3 x y s) := by
  unfold out0_B_2
  simp only [View.read_writes_junk_eq_canon]
  unfold kernelRun0_B
  dsimp only
  sl_unfold_words
  rw [View.canon_unit_zero hz, View.readCov_unit_zero (S := S512x1024) _ hz]
  simp only [View.readAt_eq_ld, h3.read_unread, h4.read_unread, h6.read_unread, View.ld_unit_zero (S := S2048x512) hz, View.ld_unit_zero (S := S2048x1024) hz, View.ld_unit_zero (S := S512x1024) hz]
end

theorem pay2_apply (x : Vec Ideal S2048x512 .bf16) (y : Vec Ideal S2048x1024 .bf16) (i : Fin 512) (j : Fin 1024) :
    k0_pay2 x y (ix2 i j) = ∑ k : Fin 2048, x (ix2 k i) * y (ix2 k j) := by
  pointwise [k0_pay2, k0_pay1]

theorem pay4_apply (x : Vec Ideal S2048x512 .bf16) (y : Vec Ideal S2048x1024 .bf16) (s : Vec Ideal S512x1024 .f32) (i : Fin 512) (j : Fin 1024) :
    k0_pay4 (k0_pay3 x y s) (ix2 i j) = s (ix2 i j) + ∑ k : Fin 2048, x (ix2 k i) * y (ix2 k j) := by
  pointwise [k0_pay4, k0_pay3, k0_pay1]

/-- What the second point of a block leaves in it. -/
theorem out_apply (t : Fin cfg0.N) (ho : t.val % 2 = 1) (i : Fin 512) (j : Fin 1024) (h : 512 * (t.val / 2) + i.val < 512) :
    (outsAt0 m c t.val t.isLt).1 (ix2 i j) = ∑ k : Fin 4096, R m c (ix2 k ⟨512 * (t.val / 2) + i.val, h⟩) * G m c (ix2 k j) := by
  have ht : t.val < 2 := lt_of_lt_of_eq t.isLt N_0
  let u : Fin cfg0.N := ⟨t.val - 1, lt_of_le_of_lt (Nat.sub_le _ _) t.isLt⟩
  have hu : u.val = t.val - 1 := rfl
  have e := outsAt0_B m c t (by omega) ho ho
  have e' := outsAt0_A m c u (by omega) (by omega) (by omega)
  rw [tieB] at e
  rw [tieA] at e'
  rw [e]
  show k0_pay4 (k0_pay3 (iblk m c 0 t) (iblk m c 1 t) (outsAt0 m c u.val u.isLt).2) (ix2 i j) = _
  rw [e']
  refine (pay4_apply _ _ _ i j).trans ((congrArg (· + _) (pay2_apply _ _ i j)).trans ?_)
  rw [sum_split 2048 2048 rfl]
  refine congrArg₂ (· + ·) (Finset.sum_congr rfl fun k _ => ?_) (Finset.sum_congr rfl fun k _ => ?_)
  · refine congrArg₂ (· * ·) ((b0 m c u k i (by omega) (by omega)).trans ?_) ((b1 m c u k j (by omega)).trans ?_)
    · exact congrArg (R m c) (congrArg₂ ix2 (Fin.ext (by show 2048 * (u.val % 2) + k.val = k.val; omega)) (Fin.ext (by show 512 * (u.val / 2) + i.val = 512 * (t.val / 2) + i.val; omega)))
    · exact congrArg (G m c) (congrArg₂ ix2 (Fin.ext (by show 2048 * (u.val % 2) + k.val = k.val; omega)) rfl)
  · refine congrArg₂ (· * ·) ((b0 m c t k i (by omega) (by omega)).trans ?_) ((b1 m c t k j (by omega)).trans ?_)
    · exact congrArg (R m c) (congrArg₂ ix2 (Fin.ext (by show 2048 * (t.val % 2) + k.val = 2048 + k.val; omega)) rfl)
    · exact congrArg (G m c) (congrArg₂ ix2 (Fin.ext (by show 2048 * (t.val % 2) + k.val = 2048 + k.val; omega)) rfl)

/-- The result after the run, at an index. -/
theorem value (i : Fin 512) (j : Fin 1024) :
    (dats m 0 c).arrAt 2 cfg0.N (ix2 i j) = ∑ k : Fin 4096, R m c (ix2 k i) * G m c (ix2 k j) := by
  have h := (dats m 0 c).arrAt_eq_of_covers 2 (fun x => (∑ k : Fin 4096, R m c (ix2 k (x 0)) * G m c (ix2 k (x 1)) : EReal)) (by decide +kernel) fun t hf y => by
    have ht : t.val < 2 := lt_of_lt_of_eq t.isLt N_0
    idx_vars y
    have p := emb2 t y0 y1 (by omega)
    blk_simp [w2 t]
    rw [after0_2, p]
    exact out_apply m c t ((flush0_2 t).mp hf) y0 y1 (by omega)
  rw [h]
  rfl

/-- The reference's result at an index. -/
theorem ref_value (x0 : FVec Ideal S4096x1024 .f32) (x2 : FVec Ideal S4096x512 .f32) (i : Fin 512) (j : Fin 1024) :
    val_main_v4 (F := Ideal) x0 x2 (ix2 i j) = ∑ k : Fin 4096, x2 (ix2 k i) * x0 (ix2 k j) := by
  pointwise [val_main_v4, val_main_v3, val_main_v2, val_main_v1]

/-- The reference's result is what the grid leaves. -/
theorem result_eq {x0 : FVec Ideal S4096x1024 .f32} {x2 : FVec Ideal S4096x512 .f32}
    (e0 : x0 = m ((c : Thread nD τ).loc main_arg0)) (e2 : x2 = m ((c : Thread nD τ).loc main_arg2)) :
    val_main_v4 (F := Ideal) x0 x2 = (dats m 0 c).arrAt 2 cfg0.N := by
  subst e0 e2
  have h := value m c
  have g := ref_value (m ((c : Thread nD τ).loc main_arg0)) (m ((c : Thread nD τ).loc main_arg2))
  have hR : ∀ (i : Fin 4096) (k : Fin 512), R m c (ix2 i k) = m ((c : Thread nD τ).loc main_arg2) (ix2 i k) := fun i k => by
    unfold R; rw [V0]; rfl
  have hG : ∀ (i : Fin 4096) (k : Fin 1024), G m c (ix2 i k) = m ((c : Thread nD τ).loc main_arg0) (ix2 i k) := fun i k => by
    unfold G; rw [V1]; rfl
  simp only [hR, hG] at h
  generalize (dats m 0 c).arrAt 2 cfg0.N = o at h ⊢
  generalize val_main_v4 (F := Ideal) (m ((c : Thread nD τ).loc main_arg0)) (m ((c : Thread nD τ).loc main_arg2)) = q at g ⊢
  funext y
  idx_vars y
  exact (g y0 y1).trans (h y0 y1).symm

end Cert.Mlp.DWBc
end
-- ==== Proof.Mlp.DWGate.lean ====
/- The gradient of the gates' columns of the input projection's weight: what the grid leaves, and that the reference computes
   it. Two points share a block: the first stores the product of the
   first half of the rows, the second adds the second half. -/
module

public import proofs.«01_k».proof.Proof.Mlp.Square
public import proofs.«01_k».proof.Proof.Gen.DWGateIdeal.Value
public import proofs.«01_k».proof.Proof.Gen.DWGateRefIdeal.Read
public import Idealize.ShloMosaic.Lib.StableHlo.ReadAt

@[expose] public section

set_option maxRecDepth 16384

noncomputable section

namespace Cert.Mlp.DWGate

open Cert.DWGateIdeal Cert.DWGateIdeal.Gen Idealize.ShloMosaic Idealize.ShloMosaic.TcCoe
open Cert.DWGateRefIdeal.Read

variable (m : (ℓ : Loc nD τ sig) → Buf (Elt Ideal) ℓ) (c : Dev nD)

/-! ## The arrays the grid reads -/

theorem V0 : V m c main_v0 = truncf (F := Ideal) .bf16 (m ((c : Thread nD τ).loc main_arg2)) bitsLt_bf16_f32 := by
  unfold V
  after_reads_simp

theorem V1 : V m c main_v1 = truncf (F := Ideal) .bf16 (m ((c : Thread nD τ).loc main_arg0)) bitsLt_bf16_f32 := by
  unfold V
  after_reads_simp

@[irreducible] def R : FVec Ideal S4096x128 .bf16 := V m c main_v0
@[irreducible] def G : FVec Ideal S4096x1024 .bf16 := V m c main_v1

/-! ## The blocks of a point -/

theorem w0 : ∀ t : Fin cfg0.N, win0_0.index t = ![t.val % 2, t.val / 2] := by decide +kernel
theorem w1 : ∀ t : Fin cfg0.N, win0_1.index t = ![t.val % 2, 0] := by decide +kernel
theorem w2 : ∀ t : Fin cfg0.N, win0_2.index t = ![t.val / 2, 0] := by decide +kernel

theorem b0 (t : Fin cfg0.N) (r : Fin 2048) (k : Fin 128) (h : 2048 * (t.val % 2) + r.val < 4096) (h' : 128 * (t.val / 2) + k.val < 128) :
    (iblk m c 0 t : Vec Ideal S2048x128 .bf16) (ix2 r k) = R m c (ix2 ⟨2048 * (t.val % 2) + r.val, h⟩ ⟨128 * (t.val / 2) + k.val, h'⟩) := by
  unfold R; blk_ext [iblk, w0 t]

theorem b1 (t : Fin cfg0.N) (r : Fin 2048) (k : Fin 1024) (h : 2048 * (t.val % 2) + r.val < 4096) :
    (iblk m c 1 t : Vec Ideal S2048x1024 .bf16) (ix2 r k) = G m c (ix2 ⟨2048 * (t.val % 2) + r.val, h⟩ k) := by
  unfold G; blk_ext [iblk, w1 t]

/-- The place of a block's entry in the result. -/
theorem emb2 (t : Fin cfg0.N) (r : Fin 128) (k : Fin 1024) (h : 128 * (t.val / 2) + r.val < 128) :
    ((View.whole main_v2).slice (win0_2.rect t)).emb (ix2 r k) = ix2 ⟨128 * (t.val / 2) + r.val, h⟩ k := by
  have e := w2 t
  funext a; fin_cases a
  · refine Fin.ext (show win0_2.index t 0 * 128 + 1 * r.val = 128 * (t.val / 2) + r.val from ?_)
    rw [e]; show t.val / 2 * 128 + 1 * r.val = _; omega
  · refine Fin.ext (show win0_2.index t 1 * 1024 + 1 * k.val = k.val from ?_)
    rw [e]; show 0 * 1024 + 1 * k.val = _; omega

theorem hz : (![0, 0] : Fin 2 → Nat) = fun _ => 0 := funext fun a => by fin_cases a <;> rfl

/-! ## What the two points of a block leave -/

section
variable (i : grid0.Coords) (a3 : Memref sig .tc .vmem S2048x128 .bf16) (h3 : a3.IsWhole)
  (a4 : Memref sig .tc .vmem S2048x1024 .bf16) (h4 : a4.IsWhole) (a5 : Memref sig .tc .vmem S128x1024 .bf16) (h5 : a5.IsWhole)
  (a6 : Memref sig .tc .vmem S128x1024 .f32) (h6 : a6.IsWhole)

theorem tieA (hc0 : cond0_0 i) (hc1 : ¬cond0_1 i) (hc2 : ¬cond0_2 i) (x : Vec Ideal S2048x128 .bf16) (y : Vec Ideal S2048x1024 .bf16) :
    sout0_A_0 (F := Ideal) c i a3 h3 a4 h4 a5 h5 a6 h6 hc0 hc1 hc2 x y = k0_pay2 x y := by
  unfold sout0_A_0
  simp only [View.read_writes_junk_eq_canon]
  unfold kernelRun0_A
  dsimp only
  rw [View.canon_unit_zero hz]
  simp only [View.readAt_eq_ld, h3.read_unread, h4.read_unread, View.ld_unit_zero (S := S2048x128) hz, View.ld_unit_zero (S := S2048x1024) hz]

theorem tieB (hc0 : ¬cond0_0 i) (hc1 : cond0_1 i) (hc2 : cond0_2 i) (x : Vec Ideal S2048x128 .bf16) (y : Vec Ideal S2048x1024 .bf16) (s : Vec Ideal S128x1024 .f32) :
    out0_B_2 (F := Ideal) c i a3 h3 a4 h4 a5 h5 a6 h6 hc0 hc1 hc2 x y s = k0_pay4 (k0_pay3 x y s) := by
  unfold out0_B_2
  simp only [View.read_writes_junk_eq_canon]
  unfold kernelRun0_B
  dsimp only
  sl_unfold_words
  rw [View.canon_unit_zero hz, View.readCov_unit_zero (S := S128x1024) _ hz]
  simp only [View.readAt_eq_ld, h3.read_unread, h4.read_unread, h6.read_unread, View.ld_unit_zero (S := S2048x128) hz, View.ld_unit_zero (S := S2048x1024) hz, View.ld_unit_zero (S := S128x1024) hz]
end

theorem pay2_apply (x : Vec Ideal S2048x128 .bf16) (y : Vec Ideal S2048x1024 .bf16) (i : Fin 128) (j : Fin 1024) :
    k0_pay2 x y (ix2 i j) = ∑ k : Fin 2048, x (ix2 k i) * y (ix2 k j) := by
  pointwise [k0_pay2, k0_pay1]

theorem pay4_apply (x : Vec Ideal S2048x128 .bf16) (y : Vec Ideal S2048x1024 .bf16) (s : Vec Ideal S128x1024 .f32) (i : Fin 128) (j : Fin 1024) :
    k0_pay4 (k0_pay3 x y s) (ix2 i j) = s (ix2 i j) + ∑ k : Fin 2048, x (ix2 k i) * y (ix2 k j) := by
  pointwise [k0_pay4, k0_pay3, k0_pay1]

/-- What the second point of a block leaves in it. -/
theorem out_apply (t : Fin cfg0.N) (ho : t.val % 2 = 1) (i : Fin 128) (j : Fin 1024) (h : 128 * (t.val / 2) + i.val < 128) :
    (outsAt0 m c t.val t.isLt).1 (ix2 i j) = ∑ k : Fin 4096, R m c (ix2 k ⟨128 * (t.val / 2) + i.val, h⟩) * G m c (ix2 k j) := by
  have ht : t.val < 2 := lt_of_lt_of_eq t.isLt N_0
  let u : Fin cfg0.N := ⟨t.val - 1, lt_of_le_of_lt (Nat.sub_le _ _) t.isLt⟩
  have hu : u.val = t.val - 1 := rfl
  have e := outsAt0_B m c t (by omega) ho ho
  have e' := outsAt0_A m c u (by omega) (by omega) (by omega)
  rw [tieB] at e
  rw [tieA] at e'
  rw [e]
  show k0_pay4 (k0_pay3 (iblk m c 0 t) (iblk m c 1 t) (outsAt0 m c u.val u.isLt).2) (ix2 i j) = _
  rw [e']
  refine (pay4_apply _ _ _ i j).trans ((congrArg (· + _) (pay2_apply _ _ i j)).trans ?_)
  rw [sum_split 2048 2048 rfl]
  refine congrArg₂ (· + ·) (Finset.sum_congr rfl fun k _ => ?_) (Finset.sum_congr rfl fun k _ => ?_)
  · refine congrArg₂ (· * ·) ((b0 m c u k i (by omega) (by omega)).trans ?_) ((b1 m c u k j (by omega)).trans ?_)
    · exact congrArg (R m c) (congrArg₂ ix2 (Fin.ext (by show 2048 * (u.val % 2) + k.val = k.val; omega)) (Fin.ext (by show 128 * (u.val / 2) + i.val = 128 * (t.val / 2) + i.val; omega)))
    · exact congrArg (G m c) (congrArg₂ ix2 (Fin.ext (by show 2048 * (u.val % 2) + k.val = k.val; omega)) rfl)
  · refine congrArg₂ (· * ·) ((b0 m c t k i (by omega) (by omega)).trans ?_) ((b1 m c t k j (by omega)).trans ?_)
    · exact congrArg (R m c) (congrArg₂ ix2 (Fin.ext (by show 2048 * (t.val % 2) + k.val = 2048 + k.val; omega)) rfl)
    · exact congrArg (G m c) (congrArg₂ ix2 (Fin.ext (by show 2048 * (t.val % 2) + k.val = 2048 + k.val; omega)) rfl)

/-- The result after the run, at an index. -/
theorem value (i : Fin 128) (j : Fin 1024) :
    (dats m 0 c).arrAt 2 cfg0.N (ix2 i j) = ∑ k : Fin 4096, R m c (ix2 k i) * G m c (ix2 k j) := by
  have h := (dats m 0 c).arrAt_eq_of_covers 2 (fun x => (∑ k : Fin 4096, R m c (ix2 k (x 0)) * G m c (ix2 k (x 1)) : EReal)) (by decide +kernel) fun t hf y => by
    have ht : t.val < 2 := lt_of_lt_of_eq t.isLt N_0
    idx_vars y
    have p := emb2 t y0 y1 (by omega)
    blk_simp [w2 t]
    rw [after0_2, p]
    exact out_apply m c t ((flush0_2 t).mp hf) y0 y1 (by omega)
  rw [h]
  rfl

/-- The reference's result at an index. -/
theorem ref_value (x0 : FVec Ideal S4096x1024 .f32) (x2 : FVec Ideal S4096x128 .f32) (i : Fin 128) (j : Fin 1024) :
    val_main_v4 (F := Ideal) x0 x2 (ix2 i j) = ∑ k : Fin 4096, x2 (ix2 k i) * x0 (ix2 k j) := by
  pointwise [val_main_v4, val_main_v3, val_main_v2, val_main_v1]

/-- The reference's result is what the grid leaves. -/
theorem result_eq {x0 : FVec Ideal S4096x1024 .f32} {x2 : FVec Ideal S4096x128 .f32}
    (e0 : x0 = m ((c : Thread nD τ).loc main_arg0)) (e2 : x2 = m ((c : Thread nD τ).loc main_arg2)) :
    val_main_v4 (F := Ideal) x0 x2 = (dats m 0 c).arrAt 2 cfg0.N := by
  subst e0 e2
  have h := value m c
  have g := ref_value (m ((c : Thread nD τ).loc main_arg0)) (m ((c : Thread nD τ).loc main_arg2))
  have hR : ∀ (i : Fin 4096) (k : Fin 128), R m c (ix2 i k) = m ((c : Thread nD τ).loc main_arg2) (ix2 i k) := fun i k => by
    unfold R; rw [V0]; rfl
  have hG : ∀ (i : Fin 4096) (k : Fin 1024), G m c (ix2 i k) = m ((c : Thread nD τ).loc main_arg0) (ix2 i k) := fun i k => by
    unfold G; rw [V1]; rfl
  simp only [hR, hG] at h
  generalize (dats m 0 c).arrAt 2 cfg0.N = o at h ⊢
  generalize val_main_v4 (F := Ideal) (m ((c : Thread nD τ).loc main_arg0)) (m ((c : Thread nD τ).loc main_arg2)) = q at g ⊢
  funext y
  idx_vars y
  exact (g y0 y1).trans (h y0 y1).symm

end Cert.Mlp.DWGate
end
-- ==== Proof.Mlp.FfAct.lean ====
/- The feed forward part's first product and its squared rectifier: what the grid leaves in its result, and that the reference
   computes it. A point's block of the weight is two shards of its columns. -/
module

public import proofs.«01_k».proof.Proof.Mlp.Square
public import proofs.«01_k».proof.Proof.Gen.FfActIdeal.Value
public import proofs.«01_k».proof.Proof.Gen.FfActRefIdeal.Read
public import Idealize.ShloMosaic.Lib.StableHlo.ReadAt

@[expose] public section

set_option maxRecDepth 16384

noncomputable section

namespace Cert.Mlp.FfAct

open Cert.FfActIdeal Cert.FfActIdeal.Gen Idealize.ShloMosaic Idealize.ShloMosaic.TcCoe
open Cert.FfActRefIdeal.Read

variable (m : (ℓ : Loc nD τ sig) → Buf (Elt Ideal) ℓ) (c : Dev nD)

/-! ## The arrays the grid reads -/

theorem V0 : V m c main_v0 = truncf (F := Ideal) .bf16 (m ((c : Thread nD τ).loc main_arg0)) bitsLt_bf16_f32 := by
  unfold V
  after_reads_simp

theorem V3 : V m c main_v3 = transpose S8x1024x512 [1, 0, 2] (shapeCast S1024x8x512 (truncf (F := Ideal) .bf16 (m ((c : Thread nD τ).loc main_arg1)) bitsLt_bf16_f32) shapeCasts_S1024x4096_S1024x8x512) transposes_S1024x8x512_S8x1024x512_1_0_2 := by
  unfold V
  after_reads_simp
  rfl

@[irreducible] def G : FVec Ideal S4096x1024 .bf16 := V m c main_v0
@[irreducible] def W : FVec Ideal S8x1024x512 .bf16 := V m c main_v3

/-- A column of the weight. -/
def col (k : Fin 1024) (j : Fin 4096) : EReal := W m c (ix3 ⟨j.val / 512, by omega⟩ k ⟨j.val % 512, by omega⟩)

/-! ## The blocks of a point -/

theorem w0 : ∀ t : Fin cfg0.N, win0_0.index t = ![t.val / 4, 0] := by decide +kernel
theorem w1 : ∀ t : Fin cfg0.N, win0_1.index t = ![t.val % 4, 0, 0] := by decide +kernel
theorem w2 : ∀ t : Fin cfg0.N, win0_2.index t = ![t.val / 4, t.val % 4] := by decide +kernel

theorem b0 (t : Fin cfg0.N) (r : Fin 2048) (k : Fin 1024) (h : 2048 * (t.val / 4) + r.val < 4096) :
    (iblk m c 0 t : Vec Ideal S2048x1024 .bf16) (ix2 r k) = G m c (ix2 ⟨2048 * (t.val / 4) + r.val, h⟩ k) := by
  unfold G; blk_ext [iblk, w0 t]

theorem b1 (t : Fin cfg0.N) (s : Fin 2) (k : Fin 1024) (l : Fin 512) (h : 2 * (t.val % 4) + s.val < 8) :
    (iblk m c 1 t : Vec Ideal S2x1024x512 .bf16) (ix3 s k l) = W m c (ix3 ⟨2 * (t.val % 4) + s.val, h⟩ k l) := by
  unfold W; blk_ext [iblk, w1 t]

/-- The place of a block's entry in the result. -/
theorem emb2 (t : Fin cfg0.N) (r : Fin 2048) (k : Fin 1024) (h : 2048 * (t.val / 4) + r.val < 4096) (h' : 1024 * (t.val % 4) + k.val < 4096) :
    ((View.whole main_v4).slice (win0_2.rect t)).emb (ix2 r k) = ix2 ⟨2048 * (t.val / 4) + r.val, h⟩ ⟨1024 * (t.val % 4) + k.val, h'⟩ := by
  have e := w2 t
  funext a; fin_cases a
  · refine Fin.ext (show win0_2.index t 0 * 2048 + 1 * r.val = 2048 * (t.val / 4) + r.val from ?_)
    rw [e]; show t.val / 4 * 2048 + 1 * r.val = _; omega
  · refine Fin.ext (show win0_2.index t 1 * 1024 + 1 * k.val = 1024 * (t.val % 4) + k.val from ?_)
    rw [e]; show t.val % 4 * 1024 + 1 * k.val = _; omega

theorem hz : (![0, 0] : Fin 2 → Nat) = fun _ => 0 := funext fun a => by fin_cases a <;> rfl

/-- The square of a rectified number. -/
def act (a : EReal) : EReal := max a 0 * max a 0

/-- What the body leaves in its output block: in each half of the columns, the shard's own product. -/
theorem out_apply (a : Vec Ideal S2048x1024 .bf16) (b : Vec Ideal S2x1024x512 .bf16) (i : Fin 2048) (j : Fin 1024) :
    out0_2 a b (ix2 i j) = act (∑ k : Fin 1024, a (ix2 i k) * b (ix3 ⟨j.val / 512, by omega⟩ k ⟨j.val % 512, by omega⟩)) := by
  unfold out0_2
  rw [View.canon_unit_zero hz]
  simp only [View.ld_unit_zero (S := S2048x1024) hz]
  have e : (if h : j.val < 512 then ∑ k : Fin 1024, a (ix2 i k) * b (ix3 0 k ⟨j.val, h⟩) else ∑ k : Fin 1024, a (ix2 i k) * b (ix3 1 k ⟨j.val - 512, by omega⟩))
      = ∑ k : Fin 1024, a (ix2 i k) * b (ix3 ⟨j.val / 512, by omega⟩ k ⟨j.val % 512, by omega⟩) := by
    split_ifs with h
    · refine Finset.sum_congr rfl fun k _ => congrArg (a (ix2 i k) * b ·) (congrArg₂ (ix3 · k ·) (Fin.ext ?_) (Fin.ext ?_))
      · show 0 = j.val / 512; omega
      · show j.val = j.val % 512; omega
    · refine Finset.sum_congr rfl fun k _ => congrArg (a (ix2 i k) * b ·) (congrArg₂ (ix3 · k ·) (Fin.ext ?_) (Fin.ext ?_))
      · show 1 = j.val / 512; omega
      · show j.val - 512 = j.val % 512; omega
  rw [← e]
  unfold act
  pointwise [k0_pay1]

/-- The result after the run, at an index. -/
theorem value (i j : Fin 4096) :
    (dats m 0 c).arrAt 2 cfg0.N (ix2 i j) = act (∑ k : Fin 1024, G m c (ix2 i k) * col m c k j) := by
  have h := (dats m 0 c).arrAt_eq_of_covers 2 (fun x => act (∑ k : Fin 1024, G m c (ix2 (x 0) k) * col m c k (x 1))) (by decide +kernel) fun t hf y => by
    have ht : t.val < 8 := lt_of_lt_of_eq t.isLt N_0
    idx_vars y
    have p := emb2 t y0 y1 (by omega) (by omega)
    blk_simp [w2 t]
    rw [after0_2, p]
    refine (out_apply _ _ y0 y1).trans (congrArg act (Finset.sum_congr rfl fun k _ => congrArg₂ (· * ·) (b0 m c t y0 k (by omega)) ((b1 m c t _ k _ (by show 2 * (t.val % 4) + y1.val / 512 < 8; omega)).trans ?_)))
    refine congrArg (W m c) (congrArg₂ (ix3 · k ·) (Fin.ext ?_) (Fin.ext ?_))
    · show 2 * (t.val % 4) + y1.val / 512 = (1024 * (t.val % 4) + y1.val) / 512; omega
    · show y1.val % 512 = (1024 * (t.val % 4) + y1.val) % 512; omega
  rw [h]
  rfl

/-- The reference's result at an index. -/
theorem ref_value (x0 : FVec Ideal S4096x1024 .f32) (x1 : FVec Ideal S1024x4096 .f32) (i j : Fin 4096) :
    val_main_v3 (F := Ideal) x0 x1 (ix2 i j) = act (∑ k : Fin 1024, x0 (ix2 i k) * x1 (ix2 k j)) := by
  unfold act
  pointwise [val_main_v3, val_main_v2, val_main_v1, val_main_v0, val_main_call0_v0, val_main_call0_cst]

/-- The reference's result is what the grid leaves. -/
theorem result_eq {x0 : FVec Ideal S4096x1024 .f32} {x1 : FVec Ideal S1024x4096 .f32}
    (e0 : x0 = m ((c : Thread nD τ).loc main_arg0)) (e1 : x1 = m ((c : Thread nD τ).loc main_arg1)) :
    val_main_v3 (F := Ideal) x0 x1 = (dats m 0 c).arrAt 2 cfg0.N := by
  subst e0 e1
  have h := value m c
  have g := ref_value (m ((c : Thread nD τ).loc main_arg0)) (m ((c : Thread nD τ).loc main_arg1))
  have hG : ∀ (i : Fin 4096) (k : Fin 1024), G m c (ix2 i k) = m ((c : Thread nD τ).loc main_arg0) (ix2 i k) := fun i k => by
    unfold G; rw [V0]; rfl
  have hW : ∀ (k : Fin 1024) (j : Fin 4096), col m c k j = m ((c : Thread nD τ).loc main_arg1) (ix2 k j) := fun k j => by
    unfold col W; rw [V3]
    generalize m ((c : Thread nD τ).loc main_arg1) = x
    pointwise
  simp only [hG, hW] at h
  generalize (dats m 0 c).arrAt 2 cfg0.N = o at h ⊢
  generalize val_main_v3 (F := Ideal) (m ((c : Thread nD τ).loc main_arg0)) (m ((c : Thread nD τ).loc main_arg1)) = q at g ⊢
  funext y
  idx_vars y
  exact (g y0 y1).trans (h y0 y1).symm

end Cert.Mlp.FfAct
end
-- ==== Proof.Mlp.FfSum.lean ====
/- The feed forward part's second product: what the grid leaves in its result, and that the reference computes it. Four points share
   a block: the first stores the product of its quarter of the inner axis, the others add theirs. -/
module

public import proofs.«01_k».proof.Proof.Mlp.Square
public import proofs.«01_k».proof.Proof.Gen.FfSumIdeal.Value
public import proofs.«01_k».proof.Proof.Gen.FfSumRefIdeal.Read
public import Idealize.ShloMosaic.Lib.StableHlo.ReadAt

@[expose] public section

set_option maxRecDepth 16384

noncomputable section

namespace Cert.Mlp.FfSum

open Cert.FfSumIdeal Cert.FfSumIdeal.Gen Idealize.ShloMosaic Idealize.ShloMosaic.TcCoe
open Cert.FfSumRefIdeal.Read

variable (m : (ℓ : Loc nD τ sig) → Buf (Elt Ideal) ℓ) (c : Dev nD)

/-! ## The arrays the grid reads -/

theorem V0 : V m c main_v0 = truncf (F := Ideal) .bf16 (m ((c : Thread nD τ).loc main_arg0)) bitsLt_bf16_f32 := by
  unfold V
  after_reads_simp

theorem V1 : V m c main_v1 = truncf (F := Ideal) .bf16 (m ((c : Thread nD τ).loc main_arg1)) bitsLt_bf16_f32 := by
  unfold V
  after_reads_simp

@[irreducible] def R : FVec Ideal S4096x4096 .bf16 := V m c main_v0
@[irreducible] def G : FVec Ideal S4096x1024 .bf16 := V m c main_v1

/-! ## The blocks of a point -/

theorem w0 : ∀ t : Fin cfg0.N, win0_0.index t = ![t.val / 4, t.val % 4] := by decide +kernel
theorem w1 : ∀ t : Fin cfg0.N, win0_1.index t = ![t.val % 4, 0] := by decide +kernel
theorem w2 : ∀ t : Fin cfg0.N, win0_2.index t = ![t.val / 4, 0] := by decide +kernel

theorem b0 (t : Fin cfg0.N) (r : Fin 2048) (k : Fin 1024) (h : 2048 * (t.val / 4) + r.val < 4096) (h' : 1024 * (t.val % 4) + k.val < 4096) :
    (iblk m c 0 t : Vec Ideal S2048x1024 .bf16) (ix2 r k) = R m c (ix2 ⟨2048 * (t.val / 4) + r.val, h⟩ ⟨1024 * (t.val % 4) + k.val, h'⟩) := by
  unfold R; blk_ext [iblk, w0 t]

theorem b1 (t : Fin cfg0.N) (r k : Fin 1024) (h : 1024 * (t.val % 4) + r.val < 4096) :
    (iblk m c 1 t : Vec Ideal S1024x1024 .bf16) (ix2 r k) = G m c (ix2 ⟨1024 * (t.val % 4) + r.val, h⟩ k) := by
  unfold G; blk_ext [iblk, w1 t]

/-- The place of a block's entry in the result. -/
theorem emb2 (t : Fin cfg0.N) (r : Fin 2048) (k : Fin 1024) (h : 2048 * (t.val / 4) + r.val < 4096) :
    ((View.whole main_v2).slice (win0_2.rect t)).emb (ix2 r k) = ix2 ⟨2048 * (t.val / 4) + r.val, h⟩ k := by
  have e := w2 t
  funext a; fin_cases a
  · refine Fin.ext (show win0_2.index t 0 * 2048 + 1 * r.val = 2048 * (t.val / 4) + r.val from ?_)
    rw [e]; show t.val / 4 * 2048 + 1 * r.val = _; omega
  · refine Fin.ext (show win0_2.index t 1 * 1024 + 1 * k.val = k.val from ?_)
    rw [e]; show 0 * 1024 + 1 * k.val = _; omega

theorem hz : (![0, 0] : Fin 2 → Nat) = fun _ => 0 := funext fun a => by fin_cases a <;> rfl

/-! ## What the four points of a block leave -/

section
variable (i : grid0.Coords) (a3 : Memref sig .tc .vmem S2048x1024 .bf16) (h3 : a3.IsWhole)
  (a4 : Memref sig .tc .vmem S1024x1024 .bf16) (h4 : a4.IsWhole) (a5 : Memref sig .tc .vmem S2048x1024 .f32) (h5 : a5.IsWhole)
  (a6 : Memref sig .tc .vmem S2048x1024 .f32) (h6 : a6.IsWhole)

theorem tieA (hc0 : cond0_0 i) (hc1 : ¬cond0_1 i) (hc2 : ¬cond0_2 i) (x : Vec Ideal S2048x1024 .bf16) (y : Vec Ideal S1024x1024 .bf16) :
    sout0_A_0 (F := Ideal) c i a3 h3 a4 h4 a5 h5 a6 h6 hc0 hc1 hc2 x y = k0_pay2 x y := by
  unfold sout0_A_0
  simp only [View.read_writes_junk_eq_canon]
  unfold kernelRun0_A
  dsimp only
  rw [View.canon_unit_zero hz]
  simp only [View.readAt_eq_ld, h3.read_unread, h4.read_unread, View.ld_unit_zero (S := S2048x1024) hz, View.ld_unit_zero (S := S1024x1024) hz]

theorem tieB (hc0 : ¬cond0_0 i) (hc1 : cond0_1 i) (hc2 : ¬cond0_2 i) (x : Vec Ideal S2048x1024 .bf16) (y : Vec Ideal S1024x1024 .bf16) (s : Vec Ideal S2048x1024 .f32) :
    sout0_B_0 (F := Ideal) c i a3 h3 a4 h4 a5 h5 a6 h6 hc0 hc1 hc2 x y s = k0_pay3 x y s := by
  unfold sout0_B_0
  simp only [View.read_writes_junk_eq_canon]
  unfold kernelRun0_B
  dsimp only
  rw [View.canon_unit_zero hz]
  simp only [View.readAt_eq_ld, h3.read_unread, h4.read_unread, h6.read_unread, View.ld_unit_zero (S := S2048x1024) hz, View.ld_unit_zero (S := S1024x1024) hz]

theorem tieC (hc0 : ¬cond0_0 i) (hc1 : cond0_1 i) (hc2 : cond0_2 i) (x : Vec Ideal S2048x1024 .bf16) (y : Vec Ideal S1024x1024 .bf16) (s : Vec Ideal S2048x1024 .f32) :
    out0_C_2 (F := Ideal) c i a3 h3 a4 h4 a5 h5 a6 h6 hc0 hc1 hc2 x y s = k0_pay3 x y s := by
  unfold out0_C_2
  simp only [View.read_writes_junk_eq_canon]
  unfold kernelRun0_C
  dsimp only
  sl_unfold_words
  rw [View.canon_unit_zero hz, View.readCov_unit_zero (S := S2048x1024) _ hz]
  simp only [View.readAt_eq_ld, h3.read_unread, h4.read_unread, h6.read_unread, View.ld_unit_zero (S := S2048x1024) hz, View.ld_unit_zero (S := S1024x1024) hz]
end

theorem pay2_apply (x : Vec Ideal S2048x1024 .bf16) (y : Vec Ideal S1024x1024 .bf16) (i : Fin 2048) (j : Fin 1024) :
    k0_pay2 x y (ix2 i j) = ∑ k : Fin 1024, x (ix2 i k) * y (ix2 k j) := by
  pointwise [k0_pay2, k0_pay1]

theorem pay3_apply (x : Vec Ideal S2048x1024 .bf16) (y : Vec Ideal S1024x1024 .bf16) (s : Vec Ideal S2048x1024 .f32) (i : Fin 2048) (j : Fin 1024) :
    k0_pay3 x y s (ix2 i j) = s (ix2 i j) + ∑ k : Fin 1024, x (ix2 i k) * y (ix2 k j) := by
  pointwise [k0_pay3, k0_pay1]

/-- The product of one quarter of the inner axis, in one of the two blocks. -/
def part (b : Fin 2) (q : Fin 4) (i : Fin 2048) (j : Fin 1024) : EReal :=
  ∑ k : Fin 1024, R m c (ix2 ⟨2048 * b.val + i.val, by omega⟩ ⟨1024 * q.val + k.val, by omega⟩) * G m c (ix2 ⟨1024 * q.val + k.val, by omega⟩ j)

/-- A point's blocks give the quarter of its place. -/
theorem part_eq (t : Fin cfg0.N) (b : Fin 2) (q : Fin 4) (hb : t.val / 4 = b.val) (hq : t.val % 4 = q.val) (i : Fin 2048) (j : Fin 1024) :
    ∀ (x : Vec Ideal S2048x1024 .bf16) (y : Vec Ideal S1024x1024 .bf16), x = iblk m c 0 t → y = iblk m c 1 t →
      ∑ k : Fin 1024, x (ix2 i k) * y (ix2 k j) = part m c b q i j := by
  rintro x y rfl rfl
  refine Finset.sum_congr rfl fun k _ => congrArg₂ (· * ·) ((b0 m c t i k (by omega) (by omega)).trans ?_) ((b1 m c t k j (by omega)).trans ?_)
  · exact congrArg (R m c) (congrArg₂ ix2 (Fin.ext (by show 2048 * (t.val / 4) + i.val = 2048 * b.val + i.val; omega)) (Fin.ext (by show 1024 * (t.val % 4) + k.val = 1024 * q.val + k.val; omega)))
  · exact congrArg (G m c) (congrArg₂ ix2 (Fin.ext (by show 1024 * (t.val % 4) + k.val = 1024 * q.val + k.val; omega)) rfl)

theorem scratch_first (t : Fin cfg0.N) (h : t.val % 4 = 0) (b : Fin 2) (hb : t.val / 4 = b.val) (i : Fin 2048) (j : Fin 1024) :
    (outsAt0 m c t.val t.isLt).2 (ix2 i j) = part m c b 0 i j := by
  have e := outsAt0_A m c t h (by omega) (by omega)
  rw [tieA] at e
  rw [e]
  exact (pay2_apply _ _ i j).trans (part_eq m c t b 0 hb h i j _ _ rfl rfl)

theorem scratch_next (t u : Fin cfg0.N) (hu : u.val = t.val - 1) (b : Fin 2) (q : Fin 4) (hb : t.val / 4 = b.val) (hq : t.val % 4 = q.val) (h0 : q.val ≠ 0) (h3 : q.val ≠ 3) (i : Fin 2048) (j : Fin 1024) :
    (outsAt0 m c t.val t.isLt).2 (ix2 i j) = (outsAt0 m c u.val u.isLt).2 (ix2 i j) + part m c b q i j := by
  obtain ⟨u, hu'⟩ := u
  obtain rfl : u = t.val - 1 := hu
  have e := outsAt0_B m c t (by omega) (by omega) (by omega)
  rw [tieB] at e
  rw [e]
  exact (pay3_apply _ _ _ i j).trans (congrArg (_ + ·) (part_eq m c t b q hb hq i j _ _ rfl rfl))

theorem out_last (t u : Fin cfg0.N) (hu : u.val = t.val - 1) (b : Fin 2) (hb : t.val / 4 = b.val) (hq : t.val % 4 = 3) (i : Fin 2048) (j : Fin 1024) :
    (outsAt0 m c t.val t.isLt).1 (ix2 i j) = (outsAt0 m c u.val u.isLt).2 (ix2 i j) + part m c b 3 i j := by
  obtain ⟨u, hu'⟩ := u
  obtain rfl : u = t.val - 1 := hu
  have e := outsAt0_C m c t (by omega) (by omega) hq
  rw [tieC] at e
  rw [e]
  exact (pay3_apply _ _ _ i j).trans (congrArg (_ + ·) (part_eq m c t b 3 hb hq i j _ _ rfl rfl))

/-- What the last point of a block leaves in it. -/
theorem out_apply (t : Fin cfg0.N) (ho : t.val % 4 = 3) (i : Fin 2048) (j : Fin 1024) (h : 2048 * (t.val / 4) + i.val < 4096) :
    (outsAt0 m c t.val t.isLt).1 (ix2 i j) = ∑ k : Fin 4096, R m c (ix2 ⟨2048 * (t.val / 4) + i.val, h⟩ k) * G m c (ix2 k j) := by
  have ht : t.val < 8 := lt_of_lt_of_eq t.isLt N_0
  let b : Fin 2 := ⟨t.val / 4, by omega⟩
  let u1 : Fin cfg0.N := ⟨t.val - 1, lt_of_le_of_lt (Nat.sub_le _ _) t.isLt⟩
  let u2 : Fin cfg0.N := ⟨t.val - 2, lt_of_le_of_lt (Nat.sub_le _ _) t.isLt⟩
  let u3 : Fin cfg0.N := ⟨t.val - 3, lt_of_le_of_lt (Nat.sub_le _ _) t.isLt⟩
  have e1 := out_last m c t u1 rfl b rfl ho i j
  have e2 := scratch_next m c u1 u2 (by show t.val - 2 = t.val - 1 - 1; omega) b 2 (by show (t.val - 1) / 4 = t.val / 4; omega) (by show (t.val - 1) % 4 = 2; omega) (by decide) (by decide) i j
  have e3 := scratch_next m c u2 u3 (by show t.val - 3 = t.val - 2 - 1; omega) b 1 (by show (t.val - 2) / 4 = t.val / 4; omega) (by show (t.val - 2) % 4 = 1; omega) (by decide) (by decide) i j
  have e4 := scratch_first m c u3 (by show (t.val - 3) % 4 = 0; omega) b (by show (t.val - 3) / 4 = t.val / 4; omega) i j
  refine e1.trans ?_
  rw [e2, e3, e4, sum_parts 4 1024 rfl, Fin.sum_univ_four]
  rfl

/-- The result after the run, at an index. -/
theorem value (i : Fin 4096) (j : Fin 1024) :
    (dats m 0 c).arrAt 2 cfg0.N (ix2 i j) = ∑ k : Fin 4096, R m c (ix2 i k) * G m c (ix2 k j) := by
  have h := (dats m 0 c).arrAt_eq_of_covers 2 (fun x => (∑ k : Fin 4096, R m c (ix2 (x 0) k) * G m c (ix2 k (x 1)) : EReal)) (by decide +kernel) fun t hf y => by
    have ht : t.val < 8 := lt_of_lt_of_eq t.isLt N_0
    idx_vars y
    have p := emb2 t y0 y1 (by omega)
    blk_simp [w2 t]
    rw [after0_2, p]
    exact out_apply m c t ((flush0_2 t).mp hf) y0 y1 (by omega)
  rw [h]
  rfl

/-- The reference's result at an index. -/
theorem ref_value (x0 : FVec Ideal S4096x4096 .f32) (x1 : FVec Ideal S4096x1024 .f32) (i : Fin 4096) (j : Fin 1024) :
    val_main_v0 (F := Ideal) x0 x1 (ix2 i j) = ∑ k : Fin 4096, x0 (ix2 i k) * x1 (ix2 k j) := by
  pointwise [val_main_v0]

/-- The reference's result is what the grid leaves. -/
theorem result_eq {x0 : FVec Ideal S4096x4096 .f32} {x1 : FVec Ideal S4096x1024 .f32}
    (e0 : x0 = m ((c : Thread nD τ).loc main_arg0)) (e1 : x1 = m ((c : Thread nD τ).loc main_arg1)) :
    val_main_v0 (F := Ideal) x0 x1 = (dats m 0 c).arrAt 2 cfg0.N := by
  subst e0 e1
  have h := value m c
  have g := ref_value (m ((c : Thread nD τ).loc main_arg0)) (m ((c : Thread nD τ).loc main_arg1))
  have hR : ∀ (i : Fin 4096) (k : Fin 4096), R m c (ix2 i k) = m ((c : Thread nD τ).loc main_arg0) (ix2 i k) := fun i k => by
    unfold R; rw [V0]; rfl
  have hG : ∀ (i : Fin 4096) (k : Fin 1024), G m c (ix2 i k) = m ((c : Thread nD τ).loc main_arg1) (ix2 i k) := fun i k => by
    unfold G; rw [V1]; rfl
  simp only [hR, hG] at h
  generalize (dats m 0 c).arrAt 2 cfg0.N = o at h ⊢
  generalize val_main_v0 (F := Ideal) (m ((c : Thread nD τ).loc main_arg0)) (m ((c : Thread nD τ).loc main_arg1)) = q at g ⊢
  funext y
  idx_vars y
  exact (g y0 y1).trans (h y0 y1).symm

end Cert.Mlp.FfSum
end
-- ==== Proof.Mlp.OutProj.lean ====
/- The output projection: what the grid leaves in its result, and that the reference computes it. -/
module

public import proofs.«01_k».proof.Proof.Mlp.Square
public import proofs.«01_k».proof.Proof.Gen.OutProjIdeal.Value
public import proofs.«01_k».proof.Proof.Gen.OutProjRefIdeal.Read
public import Idealize.ShloMosaic.Lib.StableHlo.ReadAt

@[expose] public section

set_option maxRecDepth 16384

noncomputable section

namespace Cert.Mlp.OutProj

open Cert.OutProjIdeal Cert.OutProjIdeal.Gen Idealize.ShloMosaic Idealize.ShloMosaic.TcCoe
open Cert.OutProjRefIdeal.Read

variable (m : (ℓ : Loc nD τ sig) → Buf (Elt Ideal) ℓ) (c : Dev nD)

/-! ## The arrays the grid reads -/

theorem V0 : V m c main_v0 = truncf (F := Ideal) .bf16 (m ((c : Thread nD τ).loc main_arg0)) bitsLt_bf16_f32 := by
  unfold V
  after_reads_simp

theorem V1 : V m c main_v1 = truncf (F := Ideal) .bf16 (m ((c : Thread nD τ).loc main_arg1)) bitsLt_bf16_f32 := by
  unfold V
  after_reads_simp

@[irreducible] def G : FVec Ideal S4096x2048 .bf16 := V m c main_v0
@[irreducible] def W : FVec Ideal S2048x1024 .bf16 := V m c main_v1

/-! ## The blocks of a point -/

theorem w0 : ∀ t : Fin cfg0.N, win0_0.index t = ![t.val, 0] := by decide +kernel
theorem w1 : ∀ t : Fin cfg0.N, win0_1.index t = ![0, 0] := by decide +kernel
theorem w2 : ∀ t : Fin cfg0.N, win0_2.index t = ![t.val, 0] := by decide +kernel

theorem b0 (t : Fin cfg0.N) (r : Fin 1024) (k : Fin 2048) (h : 1024 * (t.val) + r.val < 4096) :
    (iblk m c 0 t : Vec Ideal S1024x2048 .bf16) (ix2 r k) = G m c (ix2 ⟨1024 * (t.val) + r.val, h⟩ k) := by
  unfold G; blk_ext [iblk, w0 t]

theorem b1 (t : Fin cfg0.N) (r : Fin 2048) (k : Fin 1024) :
    (iblk m c 1 t : Vec Ideal S2048x1024 .bf16) (ix2 r k) = W m c (ix2 r k) := by
  unfold W; blk_ext [iblk, w1 t]

/-- The place of a block's entry in the result. -/
theorem emb2 (t : Fin cfg0.N) (r : Fin 1024) (k : Fin 1024) (h : 1024 * (t.val) + r.val < 4096) :
    ((View.whole main_v2).slice (win0_2.rect t)).emb (ix2 r k) = ix2 ⟨1024 * (t.val) + r.val, h⟩ k := by
  have e := w2 t
  funext a; fin_cases a
  · refine Fin.ext (show win0_2.index t 0 * 1024 + 1 * r.val = 1024 * (t.val) + r.val from ?_)
    rw [e]; show t.val * 1024 + 1 * r.val = _; omega
  · refine Fin.ext (show win0_2.index t 1 * 1024 + 1 * k.val = k.val from ?_)
    rw [e]; show 0 * 1024 + 1 * k.val = _; omega

theorem hz : (![0, 0] : Fin 2 → Nat) = fun _ => 0 := funext fun a => by fin_cases a <;> rfl

/-- What the body leaves in its output block. -/
theorem out_apply (a : Vec Ideal S1024x2048 .bf16) (b : Vec Ideal S2048x1024 .bf16) (i : Fin 1024) (j : Fin 1024) :
    out0_2 a b (ix2 i j) = ∑ k : Fin 2048, a (ix2 i k) * b (ix2 k j) := by
  unfold out0_2
  rw [View.canon_unit_zero hz]
  simp only [View.ld_unit_zero (S := S1024x2048) hz, View.ld_unit_zero (S := S2048x1024) hz]
  pointwise [k0_pay1]

/-- The result after the run, at an index. -/
theorem value (i : Fin 4096) (j : Fin 1024) :
    (dats m 0 c).arrAt 2 cfg0.N (ix2 i j) = ∑ k : Fin 2048, G m c (ix2 i k) * W m c (ix2 k j) := by
  have h := (dats m 0 c).arrAt_eq_of_covers 2 (fun x => (∑ k : Fin 2048, G m c (ix2 (x 0) k) * W m c (ix2 k (x 1)) : EReal)) (by decide +kernel) fun t hf y => by
    have ht : t.val < 4 := lt_of_lt_of_eq t.isLt N_0
    idx_vars y
    have p := emb2 t y0 y1 (by omega)
    blk_simp [w2 t]
    rw [after0_2, p]
    refine (out_apply _ _ y0 y1).trans ?_
    simp only [b0 m c t _ _ (show 1024 * (t.val) + y0.val < 4096 by omega), b1 m c t]
    rfl
  rw [h]
  rfl

/-- The reference's result at an index. -/
theorem ref_value (x0 : FVec Ideal S4096x2048 .f32) (x1 : FVec Ideal S2048x1024 .f32) (i : Fin 4096) (j : Fin 1024) :
    val_main_v0 (F := Ideal) x0 x1 (ix2 i j) = ∑ k : Fin 2048, x0 (ix2 i k) * x1 (ix2 k j) := by
  pointwise [val_main_v0]

/-- The reference's result is what the grid leaves. -/
theorem result_eq {x0 : FVec Ideal S4096x2048 .f32} {x1 : FVec Ideal S2048x1024 .f32}
    (e0 : x0 = m ((c : Thread nD τ).loc main_arg0)) (e1 : x1 = m ((c : Thread nD τ).loc main_arg1)) :
    val_main_v0 (F := Ideal) x0 x1 = (dats m 0 c).arrAt 2 cfg0.N := by
  subst e0 e1
  have h := value m c
  have g := ref_value (m ((c : Thread nD τ).loc main_arg0)) (m ((c : Thread nD τ).loc main_arg1))
  have hG : ∀ (i : Fin 4096) (k : Fin 2048), G m c (ix2 i k) = m ((c : Thread nD τ).loc main_arg0) (ix2 i k) := fun i k => by
    unfold G; rw [V0]; rfl
  have hW : ∀ (i : Fin 2048) (k : Fin 1024), W m c (ix2 i k) = m ((c : Thread nD τ).loc main_arg1) (ix2 i k) := fun i k => by
    unfold W; rw [V1]; rfl
  simp only [hG, hW] at h
  generalize (dats m 0 c).arrAt 2 cfg0.N = o at h ⊢
  generalize val_main_v0 (F := Ideal) (m ((c : Thread nD τ).loc main_arg0)) (m ((c : Thread nD τ).loc main_arg1)) = q at g ⊢
  funext y
  idx_vars y
  exact (g y0 y1).trans (h y0 y1).symm

end Cert.Mlp.OutProj
end
-- ==== Proof.Mlp.Packed.lean ====
/- The input projection's weight with its segments in the order in which the calls read them, and its entries. -/
module

public import proofs.«01_k».proof.Proof.Mlp.Square
public import proofs.«01_k».proof.Proof.Gen.InProjIdeal.Value
public import Idealize.ShloMosaic.Lib.StableHlo.ReadAt

@[expose] public section

set_option maxRecDepth 16384

noncomputable section

namespace Cert.Mlp.Packed

open Cert.InProjIdeal Cert.InProjIdeal.Gen Idealize.ShloMosaic Idealize.ShloMosaic.TcCoe

/-- The transposed weight's segments in the order gate, value, query, key, value, state, step, forget; then rows of zeros. -/
def pack (y : FVec Ideal S5664x1024 .bf16) : FVec Ideal S5760x1024 .bf16 :=
  concatenate S5760x1024 0 [⟨S1024x1024, extractStridedSlice S1024x1024 ![0, 0] y slices_S5664x1024_S1024x1024_0_0⟩,
    ⟨S1024x1024, extractStridedSlice S1024x1024 ![1024, 0] y slices_S5664x1024_S1024x1024_1024_0⟩,
    ⟨S1024x1024, extractStridedSlice S1024x1024 ![2576, 0] y slices_S5664x1024_S1024x1024_2576_0⟩,
    ⟨S1024x1024, extractStridedSlice S1024x1024 ![3600, 0] y slices_S5664x1024_S1024x1024_3600_0⟩,
    ⟨S1024x1024, extractStridedSlice S1024x1024 ![4624, 0] y slices_S5664x1024_S1024x1024_4624_0⟩,
    ⟨S512x1024, extractStridedSlice S512x1024 ![2048, 0] y slices_S5664x1024_S512x1024_2048_0⟩,
    ⟨S16x1024, extractStridedSlice S16x1024 ![2560, 0] y slices_S5664x1024_S16x1024_2560_0⟩,
    ⟨S16x1024, extractStridedSlice S16x1024 ![5648, 0] y slices_S5664x1024_S16x1024_5648_0⟩,
    ⟨S96x1024, broadcastInDim S96x1024 ![] bcast_S_S96x1024 (constant (F := Ideal) S_ .bf16 0x0000#16)⟩]
    concatenates_S1024x1024_S1024x1024_S1024x1024_S1024x1024_S1024x1024_S512x1024_S16x1024_S16x1024_S96x1024_S5760x1024_d0

/-- The column of the weight that a row holds, of the rows that hold one. -/
def src (p : Nat) : Nat := if p < 2048 then p else if p < 5120 then p + 528 else if p < 5648 then p - 3072 else p

theorem src_lt {p : Nat} (h : p < 5664) : src p < 5664 := by
  unfold src; split_ifs <;> omega

/-- A row of the transposed weight, zero past its end. -/
def row (y : FVec Ideal S5664x1024 .bf16) (k : Fin 1024) (a : Nat) : EReal := if h : a < 5664 then y (ix2 ⟨a, h⟩ k) else 0

theorem row_of (y : FVec Ideal S5664x1024 .bf16) (k : Fin 1024) (a : Nat) (h : a < 5664) : y (ix2 ⟨a, h⟩ k) = row y k a := by
  unfold row; rw [dif_pos h]

/-- The pieces laid end to end, by place. -/
theorem ladder (f : Nat → EReal) (p : Nat) :
    (if p < 1024 then f p else if p - 1024 < 1024 then f (1024 + (p - 1024)) else if p - 1024 - 1024 < 1024 then f (2576 + (p - 1024 - 1024))
      else if p - 1024 - 1024 - 1024 < 1024 then f (3600 + (p - 1024 - 1024 - 1024))
      else if p - 1024 - 1024 - 1024 - 1024 < 1024 then f (4624 + (p - 1024 - 1024 - 1024 - 1024))
      else if p - 1024 - 1024 - 1024 - 1024 - 1024 < 512 then f (2048 + (p - 1024 - 1024 - 1024 - 1024 - 1024))
      else if p - 1024 - 1024 - 1024 - 1024 - 1024 - 512 < 16 then f (2560 + (p - 1024 - 1024 - 1024 - 1024 - 1024 - 512))
      else if p - 1024 - 1024 - 1024 - 1024 - 1024 - 512 - 16 < 16 then f (5648 + (p - 1024 - 1024 - 1024 - 1024 - 1024 - 512 - 16)) else 0)
      = if p < 5664 then f (src p) else 0 := by
  unfold src
  split_ifs <;> first | omega | exact congrArg f (by omega) | rfl

/-- A row's entries: its column's of the weight, or zero. -/
theorem pack_apply (y : FVec Ideal S5664x1024 .bf16) (p : Fin 5760) (k : Fin 1024) :
    pack y (ix2 p k) = if p.val < 5664 then row y k (src p.val) else 0 := by
  unfold pack
  pointwise
  simp only [row_of y k, dite_eq_ite]
  exact ladder (row y k) p.val

/-- The entry of the weight that a row holds, or zero. -/
def entry (x : FVec Ideal S1024x5664 .f32) (p : Nat) (k : Fin 1024) : EReal :=
  if p < 5664 then (if h : src p < 5664 then x (ix2 k ⟨src p, h⟩) else 0) else 0

theorem entry_of (x : FVec Ideal S1024x5664 .f32) {p : Nat} (k : Fin 1024) (h : p < 5664) : entry x p k = x (ix2 k ⟨src p, src_lt h⟩) := by
  unfold entry; rw [if_pos h, dif_pos (src_lt h)]

theorem entry_zero (x : FVec Ideal S1024x5664 .f32) {p : Nat} (k : Fin 1024) (h : ¬p < 5664) : entry x p k = 0 := by
  unfold entry; rw [if_neg h]

/-- The packed array of the transposed weight, at an index. -/
theorem packed_apply (x : FVec Ideal S1024x5664 .f32) (p : Fin 5760) (k : Fin 1024) :
    pack (truncf (F := Ideal) .bf16 (transpose S5664x1024 [1, 0] x transposes_S1024x5664_S5664x1024_1_0) bitsLt_bf16_f32) (ix2 p k) = entry x p.val k := by
  refine (pack_apply _ p k).trans ?_
  unfold row entry
  pointwise

end Cert.Mlp.Packed
end
-- ==== Proof.Mlp.DH.lean ====
/- The gradient at the input projection's input: what the grid leaves in its result, and that the reference computes it. A point adds
   up seven products, one for each segment of the columns. -/
module

public import proofs.«01_k».proof.Proof.Mlp.Packed
public import proofs.«01_k».proof.Proof.Gen.DHIdeal.Value
public import proofs.«01_k».proof.Proof.Gen.DHRefIdeal.Read
public import Idealize.ShloMosaic.Lib.StableHlo.ReadAt

@[expose] public section

set_option maxRecDepth 16384

noncomputable section

namespace Cert.Mlp.DH

open Cert.DHIdeal Cert.DHIdeal.Gen Idealize.ShloMosaic Idealize.ShloMosaic.TcCoe
open Cert.DHRefIdeal.Read

variable (m : (ℓ : Loc nD τ sig) → Buf (Elt Ideal) ℓ) (c : Dev nD)

/-! ## The arrays the grid reads -/

theorem V12 : V m c main_v12 = truncf (F := Ideal) .bf16 (m ((c : Thread nD τ).loc main_arg2)) bitsLt_bf16_f32 := by
  unfold V
  after_reads_simp

theorem V13 : V m c main_v13 = truncf (F := Ideal) .bf16 (m ((c : Thread nD τ).loc main_arg3)) bitsLt_bf16_f32 := by
  unfold V
  after_reads_simp

theorem V15 : V m c main_v15 = truncf (F := Ideal) .bf16 (m ((c : Thread nD τ).loc main_arg6)) bitsLt_bf16_f32 := by
  unfold V
  after_reads_simp

theorem V16 : V m c main_v16 = truncf (F := Ideal) .bf16 (m ((c : Thread nD τ).loc main_arg7)) bitsLt_bf16_f32 := by
  unfold V
  after_reads_simp

theorem V14 : V m c main_v14 = truncf (F := Ideal) .bf16 (m ((c : Thread nD τ).loc main_arg4)) bitsLt_bf16_f32 := by
  unfold V
  after_reads_simp

theorem V17 : V m c main_v17 = truncf (F := Ideal) .bf16 (m ((c : Thread nD τ).loc main_arg8)) bitsLt_bf16_f32 := by
  unfold V
  after_reads_simp

theorem V11 : V m c main_v11 = Packed.pack (truncf (F := Ideal) .bf16 (transpose S5664x1024 [1, 0] (m ((c : Thread nD τ).loc main_arg1)) transposes_S1024x5664_S5664x1024_1_0) bitsLt_bf16_f32) := by
  unfold V Packed.pack
  after_reads_simp
  refine StableHlo.concatenate_congr _ _ ?_ _ _
  simp only [Matrix.cons_val]
  after_reads_simp

@[irreducible] def Z : FVec Ideal S4096x1024 .bf16 := V m c main_v12
@[irreducible] def X : FVec Ideal S4096x1024 .bf16 := V m c main_v13
@[irreducible] def Q : FVec Ideal S4096x1024 .f32 := V m c main_arg5
@[irreducible] def K : FVec Ideal S4096x1024 .bf16 := V m c main_v15
@[irreducible] def U : FVec Ideal S4096x1024 .bf16 := V m c main_v16
@[irreducible] def B : FVec Ideal S4096x512 .bf16 := V m c main_v14
@[irreducible] def D : FVec Ideal S4096x128 .bf16 := V m c main_v17
@[irreducible] def W : FVec Ideal S5760x1024 .bf16 := V m c main_v11

theorem Z_apply (i : Fin 4096) (k : Fin 1024) : Z m c (ix2 i k) = m ((c : Thread nD τ).loc main_arg2) (ix2 i k) := by
  unfold Z; rw [V12]; rfl

theorem X_apply (i : Fin 4096) (k : Fin 1024) : X m c (ix2 i k) = m ((c : Thread nD τ).loc main_arg3) (ix2 i k) := by
  unfold X; rw [V13]; rfl

theorem Q_apply (i : Fin 4096) (k : Fin 1024) : Q m c (ix2 i k) = m ((c : Thread nD τ).loc main_arg5) (ix2 i k) := by
  unfold Q V; after_reads_simp

theorem K_apply (i : Fin 4096) (k : Fin 1024) : K m c (ix2 i k) = m ((c : Thread nD τ).loc main_arg6) (ix2 i k) := by
  unfold K; rw [V15]; rfl

theorem U_apply (i : Fin 4096) (k : Fin 1024) : U m c (ix2 i k) = m ((c : Thread nD τ).loc main_arg7) (ix2 i k) := by
  unfold U; rw [V16]; rfl

theorem B_apply (i : Fin 4096) (k : Fin 512) : B m c (ix2 i k) = m ((c : Thread nD τ).loc main_arg4) (ix2 i k) := by
  unfold B; rw [V14]; rfl

theorem D_apply (i : Fin 4096) (k : Fin 128) : D m c (ix2 i k) = m ((c : Thread nD τ).loc main_arg8) (ix2 i k) := by
  unfold D; rw [V17]; rfl

theorem W_apply (p : Fin 5760) (k : Fin 1024) : W m c (ix2 p k) = Packed.entry (m ((c : Thread nD τ).loc main_arg1)) p.val k := by
  unfold W; rw [V11]
  exact Packed.packed_apply _ p k

/-! ## The blocks of a point -/

theorem w0 : ∀ t : Fin cfg0.N, win0_0.index t = ![t.val, 0] := by decide +kernel
theorem b0 (t : Fin cfg0.N) (r : Fin 512) (k : Fin 1024) (h : 512 * t.val + r.val < 4096) :
    (iblk m c 0 t : Vec Ideal S512x1024 .bf16) (ix2 r k) = Z m c (ix2 ⟨512 * t.val + r.val, h⟩ k) := by
  unfold Z; blk_ext [iblk, w0 t]

theorem w1 : ∀ t : Fin cfg0.N, win0_1.index t = ![t.val, 0] := by decide +kernel
theorem b1 (t : Fin cfg0.N) (r : Fin 512) (k : Fin 1024) (h : 512 * t.val + r.val < 4096) :
    (iblk m c 1 t : Vec Ideal S512x1024 .bf16) (ix2 r k) = X m c (ix2 ⟨512 * t.val + r.val, h⟩ k) := by
  unfold X; blk_ext [iblk, w1 t]

theorem w2 : ∀ t : Fin cfg0.N, win0_2.index t = ![t.val, 0] := by decide +kernel
theorem b2 (t : Fin cfg0.N) (r : Fin 512) (k : Fin 1024) (h : 512 * t.val + r.val < 4096) :
    (iblk m c 2 t : Vec Ideal S512x1024 .f32) (ix2 r k) = Q m c (ix2 ⟨512 * t.val + r.val, h⟩ k) := by
  unfold Q; blk_ext [iblk, w2 t]

theorem w3 : ∀ t : Fin cfg0.N, win0_3.index t = ![t.val, 0] := by decide +kernel
theorem b3 (t : Fin cfg0.N) (r : Fin 512) (k : Fin 1024) (h : 512 * t.val + r.val < 4096) :
    (iblk m c 3 t : Vec Ideal S512x1024 .bf16) (ix2 r k) = K m c (ix2 ⟨512 * t.val + r.val, h⟩ k) := by
  unfold K; blk_ext [iblk, w3 t]

theorem w4 : ∀ t : Fin cfg0.N, win0_4.index t = ![t.val, 0] := by decide +kernel
theorem b4 (t : Fin cfg0.N) (r : Fin 512) (k : Fin 1024) (h : 512 * t.val + r.val < 4096) :
    (iblk m c 4 t : Vec Ideal S512x1024 .bf16) (ix2 r k) = U m c (ix2 ⟨512 * t.val + r.val, h⟩ k) := by
  unfold U; blk_ext [iblk, w4 t]

theorem w5 : ∀ t : Fin cfg0.N, win0_5.index t = ![t.val, 0] := by decide +kernel
theorem b5 (t : Fin cfg0.N) (r : Fin 512) (k : Fin 512) (h : 512 * t.val + r.val < 4096) :
    (iblk m c 5 t : Vec Ideal S512x512 .bf16) (ix2 r k) = B m c (ix2 ⟨512 * t.val + r.val, h⟩ k) := by
  unfold B; blk_ext [iblk, w5 t]

theorem w6 : ∀ t : Fin cfg0.N, win0_6.index t = ![t.val, 0] := by decide +kernel
theorem b6 (t : Fin cfg0.N) (r : Fin 512) (k : Fin 128) (h : 512 * t.val + r.val < 4096) :
    (iblk m c 6 t : Vec Ideal S512x128 .bf16) (ix2 r k) = D m c (ix2 ⟨512 * t.val + r.val, h⟩ k) := by
  unfold D; blk_ext [iblk, w6 t]

theorem w7 : ∀ t : Fin cfg0.N, win0_7.index t = ![0, 0] := by decide +kernel
theorem b7 (t : Fin cfg0.N) (r : Fin 1024) (k : Fin 1024) :
    (X0_7 m c t : Vec Ideal S1024x1024 .bf16) (ix2 r k) = W m c (ix2 ⟨0 + r.val, by omega⟩ k) := by
  unfold W X0_7 Pipeline.Window.fill; rw [dif_pos (moved0_7 t _)]; blk_ext [iblk, w7 t]

theorem w8 : ∀ t : Fin cfg0.N, win0_8.index t = ![1, 0] := by decide +kernel
theorem b8 (t : Fin cfg0.N) (r : Fin 1024) (k : Fin 1024) :
    (X0_8 m c t : Vec Ideal S1024x1024 .bf16) (ix2 r k) = W m c (ix2 ⟨1024 + r.val, by omega⟩ k) := by
  unfold W X0_8 Pipeline.Window.fill; rw [dif_pos (moved0_8 t _)]; blk_ext [iblk, w8 t]

theorem w9 : ∀ t : Fin cfg0.N, win0_9.index t = ![2, 0] := by decide +kernel
theorem b9 (t : Fin cfg0.N) (r : Fin 1024) (k : Fin 1024) :
    (X0_9 m c t : Vec Ideal S1024x1024 .bf16) (ix2 r k) = W m c (ix2 ⟨2048 + r.val, by omega⟩ k) := by
  unfold W X0_9 Pipeline.Window.fill; rw [dif_pos (moved0_9 t _)]; blk_ext [iblk, w9 t]

theorem w10 : ∀ t : Fin cfg0.N, win0_10.index t = ![3, 0] := by decide +kernel
theorem b10 (t : Fin cfg0.N) (r : Fin 1024) (k : Fin 1024) :
    (X0_10 m c t : Vec Ideal S1024x1024 .bf16) (ix2 r k) = W m c (ix2 ⟨3072 + r.val, by omega⟩ k) := by
  unfold W X0_10 Pipeline.Window.fill; rw [dif_pos (moved0_10 t _)]; blk_ext [iblk, w10 t]

theorem w11 : ∀ t : Fin cfg0.N, win0_11.index t = ![4, 0] := by decide +kernel
theorem b11 (t : Fin cfg0.N) (r : Fin 1024) (k : Fin 1024) :
    (X0_11 m c t : Vec Ideal S1024x1024 .bf16) (ix2 r k) = W m c (ix2 ⟨4096 + r.val, by omega⟩ k) := by
  unfold W X0_11 Pipeline.Window.fill; rw [dif_pos (moved0_11 t _)]; blk_ext [iblk, w11 t]

theorem w12 : ∀ t : Fin cfg0.N, win0_12.index t = ![10, 0] := by decide +kernel
theorem b12 (t : Fin cfg0.N) (r : Fin 512) (k : Fin 1024) :
    (X0_12 m c t : Vec Ideal S512x1024 .bf16) (ix2 r k) = W m c (ix2 ⟨5120 + r.val, by omega⟩ k) := by
  unfold W X0_12 Pipeline.Window.fill; rw [dif_pos (moved0_12 t _)]; blk_ext [iblk, w12 t]

theorem w13 : ∀ t : Fin cfg0.N, win0_13.index t = ![44, 0] := by decide +kernel
theorem b13 (t : Fin cfg0.N) (r : Fin 128) (k : Fin 1024) :
    (iblk m c 13 t : Vec Ideal S128x1024 .bf16) (ix2 r k) = W m c (ix2 ⟨5632 + r.val, by omega⟩ k) := by
  unfold W; blk_ext [iblk, w13 t]

theorem w14 : ∀ t : Fin cfg0.N, win0_14.index t = ![t.val, 0] := by decide +kernel

/-- The place of a block's entry in the result. -/
theorem emb14 (t : Fin cfg0.N) (r : Fin 512) (k : Fin 1024) (h : 512 * t.val + r.val < 4096) :
    ((View.whole main_v18).slice (win0_14.rect t)).emb (ix2 r k) = ix2 ⟨512 * t.val + r.val, h⟩ k := by
  have e := w14 t
  funext a; fin_cases a
  · refine Fin.ext (show win0_14.index t 0 * 512 + 1 * r.val = 512 * t.val + r.val from ?_)
    rw [e]; show t.val * 512 + 1 * r.val = _; omega
  · refine Fin.ext (show win0_14.index t 1 * 1024 + 1 * k.val = k.val from ?_)
    rw [e]; show 0 * 1024 + 1 * k.val = _; omega

theorem hz : (![0, 0] : Fin 2 → Nat) = fun _ => 0 := funext fun a => by fin_cases a <;> rfl

section
variable (i : grid0.Coords) (a2 : Memref sig .tc .vmem S512x1024 .bf16) (h2 : a2.IsWhole)
  (a3 : Memref sig .tc .vmem S512x1024 .bf16) (h3 : a3.IsWhole)
  (a4 : Memref sig .tc .vmem S512x1024 .f32) (h4 : a4.IsWhole)
  (a5 : Memref sig .tc .vmem S512x1024 .bf16) (h5 : a5.IsWhole)
  (a6 : Memref sig .tc .vmem S512x1024 .bf16) (h6 : a6.IsWhole)
  (a7 : Memref sig .tc .vmem S512x512 .bf16) (h7 : a7.IsWhole)
  (a8 : Memref sig .tc .vmem S512x128 .bf16) (h8 : a8.IsWhole)
  (a9 : Memref sig .tc .vmem S1024x1024 .bf16) (h9 : a9.IsWhole)
  (a10 : Memref sig .tc .vmem S1024x1024 .bf16) (h10 : a10.IsWhole)
  (a11 : Memref sig .tc .vmem S1024x1024 .bf16) (h11 : a11.IsWhole)
  (a12 : Memref sig .tc .vmem S1024x1024 .bf16) (h12 : a12.IsWhole)
  (a13 : Memref sig .tc .vmem S1024x1024 .bf16) (h13 : a13.IsWhole)
  (a14 : Memref sig .tc .vmem S512x1024 .bf16) (h14 : a14.IsWhole)
  (a15 : Memref sig .tc .vmem S128x1024 .bf16) (h15 : a15.IsWhole)
  (a16 : Memref sig .tc .vmem S512x1024 .f32) (h16 : a16.IsWhole)

/-- What the body leaves in its output block. -/
theorem tie (x0 : Vec Ideal S512x1024 .bf16) (x1 : Vec Ideal S512x1024 .bf16) (x2 : Vec Ideal S512x1024 .f32) (x3 : Vec Ideal S512x1024 .bf16) (x4 : Vec Ideal S512x1024 .bf16) (x5 : Vec Ideal S512x512 .bf16) (x6 : Vec Ideal S512x128 .bf16) (x7 : Vec Ideal S1024x1024 .bf16) (x8 : Vec Ideal S1024x1024 .bf16) (x9 : Vec Ideal S1024x1024 .bf16) (x10 : Vec Ideal S1024x1024 .bf16) (x11 : Vec Ideal S1024x1024 .bf16) (x12 : Vec Ideal S512x1024 .bf16) (x13 : Vec Ideal S128x1024 .bf16) :
    out0_A_14 (F := Ideal) c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 x13
      = k0_pay1 (k0_pay2 x0 x7 x1 x8 x2 x9 x3 x10 x4 x11) (k0_pay3 x5) x12 x6 x13 := by
  unfold out0_A_14
  simp only [View.read_writes_junk_eq_canon]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S512x1024) hz, View.ld_unit_zero (S := S1024x1024) hz, View.ld_unit_zero (S := S512x512) hz, View.ld_unit_zero (S := S512x128) hz, View.ld_unit_zero (S := S128x1024) hz]
end

/-- The seven products, added in the body's order. -/
theorem pay_apply (x0 : Vec Ideal S512x1024 .bf16) (x1 : Vec Ideal S512x1024 .bf16) (x2 : Vec Ideal S512x1024 .f32) (x3 : Vec Ideal S512x1024 .bf16) (x4 : Vec Ideal S512x1024 .bf16) (x5 : Vec Ideal S512x512 .bf16) (x6 : Vec Ideal S512x128 .bf16) (x7 : Vec Ideal S1024x1024 .bf16) (x8 : Vec Ideal S1024x1024 .bf16) (x9 : Vec Ideal S1024x1024 .bf16) (x10 : Vec Ideal S1024x1024 .bf16) (x11 : Vec Ideal S1024x1024 .bf16) (x12 : Vec Ideal S512x1024 .bf16) (x13 : Vec Ideal S128x1024 .bf16) (i : Fin 512) (j : Fin 1024) :
    k0_pay1 (k0_pay2 x0 x7 x1 x8 x2 x9 x3 x10 x4 x11) (k0_pay3 x5) x12 x6 x13 (ix2 i j)
      = ∑ k : Fin 1024, x0 (ix2 i k) * x7 (ix2 k j) + ∑ k : Fin 1024, x1 (ix2 i k) * x8 (ix2 k j) + ∑ k : Fin 1024, x2 (ix2 i k) * x9 (ix2 k j)
        + ∑ k : Fin 1024, x3 (ix2 i k) * x10 (ix2 k j) + ∑ k : Fin 1024, x4 (ix2 i k) * x11 (ix2 k j) + ∑ k : Fin 512, x5 (ix2 i k) * x12 (ix2 k j)
        + ∑ k : Fin 128, x6 (ix2 i k) * x13 (ix2 k j) := by
  pointwise [k0_pay1, k0_pay2, k0_pay3]

/-- The seven products of a row. -/
def total (i : Fin 4096) (j : Fin 1024) : EReal :=
  ∑ k : Fin 1024, Z m c (ix2 i k) * W m c (ix2 ⟨0 + k.val, by omega⟩ j) + ∑ k : Fin 1024, X m c (ix2 i k) * W m c (ix2 ⟨1024 + k.val, by omega⟩ j)
    + ∑ k : Fin 1024, Q m c (ix2 i k) * W m c (ix2 ⟨2048 + k.val, by omega⟩ j) + ∑ k : Fin 1024, K m c (ix2 i k) * W m c (ix2 ⟨3072 + k.val, by omega⟩ j)
    + ∑ k : Fin 1024, U m c (ix2 i k) * W m c (ix2 ⟨4096 + k.val, by omega⟩ j) + ∑ k : Fin 512, B m c (ix2 i k) * W m c (ix2 ⟨5120 + k.val, by omega⟩ j)
    + ∑ k : Fin 128, D m c (ix2 i k) * W m c (ix2 ⟨5632 + k.val, by omega⟩ j)

/-- What a point leaves in its block. -/
theorem out_apply (t : Fin cfg0.N) (i : Fin 512) (j : Fin 1024) (h : 512 * t.val + i.val < 4096) :
    outsAt0 m c t (ix2 i j) = total m c ⟨512 * t.val + i.val, h⟩ j := by
  unfold outsAt0
  rw [tie]
  refine (pay_apply _ _ _ _ _ _ _ _ _ _ _ _ _ _ i j).trans ?_
  simp only [b0 m c t i _ h, b1 m c t i _ h, b2 m c t i _ h, b3 m c t i _ h, b4 m c t i _ h, b5 m c t i _ h, b6 m c t i _ h, b7 m c t, b8 m c t, b9 m c t, b10 m c t, b11 m c t, b12 m c t, b13 m c t]
  rfl

/-- The result after the run, at an index. -/
theorem value (i : Fin 4096) (j : Fin 1024) : (dats m 0 c).arrAt 14 cfg0.N (ix2 i j) = total m c i j := by
  have h := (dats m 0 c).arrAt_eq_of_covers 14 (fun x => total m c (x 0) (x 1)) (by decide +kernel) fun t hf y => by
    have ht : t.val < 8 := lt_of_lt_of_eq t.isLt N_0
    idx_vars y
    have p := emb14 t y0 y1 (by omega)
    blk_simp [w14 t]
    rw [after0_14, p]
    exact out_apply m c t y0 y1 (by omega)
  rw [h]
  rfl

/-- A sum of products whose first factor changes at a place, cut there. -/
theorem peel (a b : Nat) {n : Nat} (h : a + b = n) (f g w : Nat → EReal) :
    ∑ x : Fin n, (if x.val < a then f x else g (x - a)) * w x = ∑ k : Fin a, f k * w k + ∑ k : Fin b, g k * w (a + k) := by
  rw [sum_split a b h]
  refine congrArg₂ (· + ·) (Finset.sum_congr rfl fun k _ => ?_) (Finset.sum_congr rfl fun k _ => ?_)
  · dsimp only; rw [if_pos k.isLt]
  · dsimp only; rw [if_neg (by omega), Nat.add_sub_cancel_left]

/-- A sum over the columns of products with segments laid end to end, cut at the segments' ends. -/
theorem sum_segments (f1 f2 f3 f4 f5 f6 f7 f8 w : Nat → EReal) :
    ∑ x : Fin 5664, (if x.val < 1024 then f1 x else if x.val - 1024 < 1024 then f2 (x - 1024) else if x.val - 1024 - 1024 < 512 then f3 (x - 1024 - 1024)
        else if x.val - 1024 - 1024 - 512 < 16 then f4 (x - 1024 - 1024 - 512)
        else if x.val - 1024 - 1024 - 512 - 16 < 1024 then f5 (x - 1024 - 1024 - 512 - 16)
        else if x.val - 1024 - 1024 - 512 - 16 - 1024 < 1024 then f6 (x - 1024 - 1024 - 512 - 16 - 1024)
        else if x.val - 1024 - 1024 - 512 - 16 - 1024 - 1024 < 1024 then f7 (x - 1024 - 1024 - 512 - 16 - 1024 - 1024)
        else f8 (16 + (x - 1024 - 1024 - 512 - 16 - 1024 - 1024 - 1024))) * w x
      = ∑ k : Fin 1024, f1 k * w (0 + k) + (∑ k : Fin 1024, f2 k * w (1024 + k) + (∑ k : Fin 512, f3 k * w (2048 + k) + (∑ k : Fin 16, f4 k * w (2560 + k)
        + (∑ k : Fin 1024, f5 k * w (2576 + k) + (∑ k : Fin 1024, f6 k * w (3600 + k) + (∑ k : Fin 1024, f7 k * w (4624 + k) + ∑ k : Fin 16, f8 (16 + k) * w (5648 + k))))))) := by
  refine (peel 1024 4640 rfl f1 (fun n => if n < 1024 then f2 n else if n - 1024 < 512 then f3 (n - 1024) else if n - 1024 - 512 < 16 then f4 (n - 1024 - 512) else if n - 1024 - 512 - 16 < 1024 then f5 (n - 1024 - 512 - 16) else if n - 1024 - 512 - 16 - 1024 < 1024 then f6 (n - 1024 - 512 - 16 - 1024) else if n - 1024 - 512 - 16 - 1024 - 1024 < 1024 then f7 (n - 1024 - 512 - 16 - 1024 - 1024) else f8 (16 + (n - 1024 - 512 - 16 - 1024 - 1024 - 1024))) w).trans (congrArg₂ (· + ·) (by simp only [Nat.zero_add]) ?_)
  refine (peel 1024 3616 rfl f2 (fun n => if n < 512 then f3 n else if n - 512 < 16 then f4 (n - 512) else if n - 512 - 16 < 1024 then f5 (n - 512 - 16) else if n - 512 - 16 - 1024 < 1024 then f6 (n - 512 - 16 - 1024) else if n - 512 - 16 - 1024 - 1024 < 1024 then f7 (n - 512 - 16 - 1024 - 1024) else f8 (16 + (n - 512 - 16 - 1024 - 1024 - 1024))) (fun n => w (1024 + n))).trans (congrArg₂ (· + ·) rfl ?_)
  simp only [← Nat.add_assoc, Nat.reduceAdd]
  refine (peel 512 3104 rfl f3 (fun n => if n < 16 then f4 n else if n - 16 < 1024 then f5 (n - 16) else if n - 16 - 1024 < 1024 then f6 (n - 16 - 1024) else if n - 16 - 1024 - 1024 < 1024 then f7 (n - 16 - 1024 - 1024) else f8 (16 + (n - 16 - 1024 - 1024 - 1024))) (fun n => w (2048 + n))).trans (congrArg₂ (· + ·) rfl ?_)
  simp only [← Nat.add_assoc, Nat.reduceAdd]
  refine (peel 16 3088 rfl f4 (fun n => if n < 1024 then f5 n else if n - 1024 < 1024 then f6 (n - 1024) else if n - 1024 - 1024 < 1024 then f7 (n - 1024 - 1024) else f8 (16 + (n - 1024 - 1024 - 1024))) (fun n => w (2560 + n))).trans (congrArg₂ (· + ·) rfl ?_)
  simp only [← Nat.add_assoc, Nat.reduceAdd]
  refine (peel 1024 2064 rfl f5 (fun n => if n < 1024 then f6 n else if n - 1024 < 1024 then f7 (n - 1024) else f8 (16 + (n - 1024 - 1024))) (fun n => w (2576 + n))).trans (congrArg₂ (· + ·) rfl ?_)
  simp only [← Nat.add_assoc, Nat.reduceAdd]
  refine (peel 1024 1040 rfl f6 (fun n => if n < 1024 then f7 n else f8 (16 + (n - 1024))) (fun n => w (3600 + n))).trans (congrArg₂ (· + ·) rfl ?_)
  simp only [← Nat.add_assoc, Nat.reduceAdd]
  refine (peel 1024 16 rfl f7 (fun n => f8 (16 + n)) (fun n => w (4624 + n))).trans (congrArg₂ (· + ·) rfl ?_)
  simp only [← Nat.add_assoc, Nat.reduceAdd]

/-- A number for each index, zero past the end. -/
theorem exists_upto {n : Nat} (f : Fin n → EReal) : ∃ g : Nat → EReal, ∀ (a : Nat) (h : a < n), f ⟨a, h⟩ = g a :=
  ⟨fun a => if h : a < n then f ⟨a, h⟩ else 0, fun a h => by dsimp only; rw [dif_pos h]⟩

/-- The reference's result at an index: its one sum cut at the segments' ends. -/
theorem ref_value (x1 : FVec Ideal S1024x5664 .f32) (x2 x3 : FVec Ideal S4096x1024 .f32) (x4 : FVec Ideal S4096x512 .f32) (x5 x6 x7 : FVec Ideal S4096x1024 .f32)
    (x8 : FVec Ideal S4096x128 .f32) (i : Fin 4096) (j : Fin 1024) :
    val_main_v12 (F := Ideal) x1 x2 x3 x4 x5 x6 x7 x8 (ix2 i j)
      = ∑ k : Fin 1024, x2 (ix2 i k) * x1 (ix2 j ⟨0 + k.val, by omega⟩) + (∑ k : Fin 1024, x3 (ix2 i k) * x1 (ix2 j ⟨1024 + k.val, by omega⟩)
        + (∑ k : Fin 512, x4 (ix2 i k) * x1 (ix2 j ⟨2048 + k.val, by omega⟩) + (∑ k : Fin 16, x8 (ix2 i ⟨k.val, by omega⟩) * x1 (ix2 j ⟨2560 + k.val, by omega⟩)
        + (∑ k : Fin 1024, x5 (ix2 i k) * x1 (ix2 j ⟨2576 + k.val, by omega⟩) + (∑ k : Fin 1024, x6 (ix2 i k) * x1 (ix2 j ⟨3600 + k.val, by omega⟩)
        + (∑ k : Fin 1024, x7 (ix2 i k) * x1 (ix2 j ⟨4624 + k.val, by omega⟩) + ∑ k : Fin 16, x8 (ix2 i ⟨16 + k.val, by omega⟩) * x1 (ix2 j ⟨5648 + k.val, by omega⟩))))))) := by
  obtain ⟨w, hw⟩ := exists_upto fun k => x1 (ix2 j k)
  obtain ⟨f2, h2⟩ := exists_upto fun k => x2 (ix2 i k)
  obtain ⟨f3, h3⟩ := exists_upto fun k => x3 (ix2 i k)
  obtain ⟨f4, h4⟩ := exists_upto fun k => x4 (ix2 i k)
  obtain ⟨f5, h5⟩ := exists_upto fun k => x5 (ix2 i k)
  obtain ⟨f6, h6⟩ := exists_upto fun k => x6 (ix2 i k)
  obtain ⟨f7, h7⟩ := exists_upto fun k => x7 (ix2 i k)
  obtain ⟨f8, h8⟩ := exists_upto fun k => x8 (ix2 i k)
  have k1 (k : Fin 5664) : x1 (ix2 j k) = w k := hw k.val k.isLt
  have k2 (k : Fin 1024) : x2 (ix2 i k) = f2 k := h2 k.val k.isLt
  have k3 (k : Fin 1024) : x3 (ix2 i k) = f3 k := h3 k.val k.isLt
  have k4 (k : Fin 512) : x4 (ix2 i k) = f4 k := h4 k.val k.isLt
  have k5 (k : Fin 1024) : x5 (ix2 i k) = f5 k := h5 k.val k.isLt
  have k6 (k : Fin 1024) : x6 (ix2 i k) = f6 k := h6 k.val k.isLt
  have k7 (k : Fin 1024) : x7 (ix2 i k) = f7 k := h7 k.val k.isLt
  have k8 (k : Fin 128) : x8 (ix2 i k) = f8 k := h8 k.val k.isLt
  simp only [k1, k2, k3, k4, k5, k6, k7, k8]
  refine Eq.trans ?_ (sum_segments f2 f3 f4 f8 f5 f6 f7 f8 w)
  pointwise [val_main_v12, val_main_v11, val_main_v10, val_main_v9]
  simp only [k1, k2, k3, k4, k5, k6, k7, k8, dite_eq_ite]

/-- A row of the packed weight, by the column that it holds. -/
theorem W_at (p q : Nat) (hp : p < 5664) (hq : q < 5664) (e : Packed.src p = q) (j : Fin 1024) :
    W m c (ix2 ⟨p, by omega⟩ j) = m ((c : Thread nD τ).loc main_arg1) (ix2 j ⟨q, hq⟩) := by
  subst e
  exact (W_apply m c ⟨p, by omega⟩ j).trans (Packed.entry_of _ j hp)

/-- The reference's result is what the grid leaves. -/
theorem result_eq {x1 : FVec Ideal S1024x5664 .f32} {x2 x3 : FVec Ideal S4096x1024 .f32} {x4 : FVec Ideal S4096x512 .f32} {x5 x6 x7 : FVec Ideal S4096x1024 .f32}
    {x8 : FVec Ideal S4096x128 .f32} (e1 : x1 = m ((c : Thread nD τ).loc main_arg1)) (e2 : x2 = m ((c : Thread nD τ).loc main_arg2)) (e3 : x3 = m ((c : Thread nD τ).loc main_arg3)) (e4 : x4 = m ((c : Thread nD τ).loc main_arg4)) (e5 : x5 = m ((c : Thread nD τ).loc main_arg5)) (e6 : x6 = m ((c : Thread nD τ).loc main_arg6)) (e7 : x7 = m ((c : Thread nD τ).loc main_arg7)) (e8 : x8 = m ((c : Thread nD τ).loc main_arg8)) :
    val_main_v12 (F := Ideal) x1 x2 x3 x4 x5 x6 x7 x8 = (dats m 0 c).arrAt 14 cfg0.N := by
  have h := value m c
  have g := ref_value x1 x2 x3 x4 x5 x6 x7 x8
  have hW : ∀ (p q : Nat) (hp : p < 5664) (hq : q < 5664) (e : Packed.src p = q) (j : Fin 1024), W m c (ix2 ⟨p, by omega⟩ j) = x1 (ix2 j ⟨q, hq⟩) := by
    subst e1; exact W_at m c
  have z (p : Nat) (hp : p < 5760) (h : ¬p < 5664) (j : Fin 1024) : W m c (ix2 ⟨p, hp⟩ j) = (0 : EReal) :=
    (W_apply m c ⟨p, hp⟩ j).trans (Packed.entry_zero _ j h)
  have a2 (i : Fin 4096) (k : Fin 1024) : Z m c (ix2 i k) = x2 (ix2 i k) := by subst e2; exact Z_apply m c i k
  have a3 (i : Fin 4096) (k : Fin 1024) : X m c (ix2 i k) = x3 (ix2 i k) := by subst e3; exact X_apply m c i k
  have a5 (i : Fin 4096) (k : Fin 1024) : Q m c (ix2 i k) = x5 (ix2 i k) := by subst e5; exact Q_apply m c i k
  have a6 (i : Fin 4096) (k : Fin 1024) : K m c (ix2 i k) = x6 (ix2 i k) := by subst e6; exact K_apply m c i k
  have a7 (i : Fin 4096) (k : Fin 1024) : U m c (ix2 i k) = x7 (ix2 i k) := by subst e7; exact U_apply m c i k
  have a4 (i : Fin 4096) (k : Fin 512) : B m c (ix2 i k) = x4 (ix2 i k) := by subst e4; exact B_apply m c i k
  have a8 (i : Fin 4096) (k : Fin 128) : D m c (ix2 i k) = x8 (ix2 i k) := by subst e8; exact D_apply m c i k
  clear e1 e2 e3 e4 e5 e6 e7 e8
  generalize (dats m 0 c).arrAt 14 cfg0.N = o at h ⊢
  generalize val_main_v12 (F := Ideal) x1 x2 x3 x4 x5 x6 x7 x8 = q at g ⊢
  funext y
  idx_vars y
  refine (g y0 y1).trans (Eq.trans ?_ (h y0 y1).symm)
  unfold total
  have s1 : ∑ k : Fin 1024, Z m c (ix2 y0 k) * W m c (ix2 ⟨0 + k.val, by omega⟩ y1) = ∑ k : Fin 1024, x2 (ix2 y0 k) * x1 (ix2 y1 ⟨0 + k.val, by omega⟩) :=
    Finset.sum_congr rfl fun k _ => congrArg₂ (· * ·) (a2 y0 k) (hW _ _ (by omega) (by omega) (by unfold Packed.src; split_ifs <;> omega) y1)
  have s2 : ∑ k : Fin 1024, X m c (ix2 y0 k) * W m c (ix2 ⟨1024 + k.val, by omega⟩ y1) = ∑ k : Fin 1024, x3 (ix2 y0 k) * x1 (ix2 y1 ⟨1024 + k.val, by omega⟩) :=
    Finset.sum_congr rfl fun k _ => congrArg₂ (· * ·) (a3 y0 k) (hW _ _ (by omega) (by omega) (by unfold Packed.src; split_ifs <;> omega) y1)
  have s3 : ∑ k : Fin 1024, Q m c (ix2 y0 k) * W m c (ix2 ⟨2048 + k.val, by omega⟩ y1) = ∑ k : Fin 1024, x5 (ix2 y0 k) * x1 (ix2 y1 ⟨2576 + k.val, by omega⟩) :=
    Finset.sum_congr rfl fun k _ => congrArg₂ (· * ·) (a5 y0 k) (hW _ _ (by omega) (by omega) (by unfold Packed.src; split_ifs <;> omega) y1)
  have s4 : ∑ k : Fin 1024, K m c (ix2 y0 k) * W m c (ix2 ⟨3072 + k.val, by omega⟩ y1) = ∑ k : Fin 1024, x6 (ix2 y0 k) * x1 (ix2 y1 ⟨3600 + k.val, by omega⟩) :=
    Finset.sum_congr rfl fun k _ => congrArg₂ (· * ·) (a6 y0 k) (hW _ _ (by omega) (by omega) (by unfold Packed.src; split_ifs <;> omega) y1)
  have s5 : ∑ k : Fin 1024, U m c (ix2 y0 k) * W m c (ix2 ⟨4096 + k.val, by omega⟩ y1) = ∑ k : Fin 1024, x7 (ix2 y0 k) * x1 (ix2 y1 ⟨4624 + k.val, by omega⟩) :=
    Finset.sum_congr rfl fun k _ => congrArg₂ (· * ·) (a7 y0 k) (hW _ _ (by omega) (by omega) (by unfold Packed.src; split_ifs <;> omega) y1)
  have s6 : ∑ k : Fin 512, B m c (ix2 y0 k) * W m c (ix2 ⟨5120 + k.val, by omega⟩ y1) = ∑ k : Fin 512, x4 (ix2 y0 k) * x1 (ix2 y1 ⟨2048 + k.val, by omega⟩) :=
    Finset.sum_congr rfl fun k _ => congrArg₂ (· * ·) (a4 y0 k) (hW _ _ (by omega) (by omega) (by unfold Packed.src; split_ifs <;> omega) y1)
  have s7 : ∑ k : Fin 128, D m c (ix2 y0 k) * W m c (ix2 ⟨5632 + k.val, by omega⟩ y1)
      = ∑ k : Fin 16, x8 (ix2 y0 ⟨k.val, by omega⟩) * x1 (ix2 y1 ⟨2560 + k.val, by omega⟩) + ∑ k : Fin 16, x8 (ix2 y0 ⟨16 + k.val, by omega⟩) * x1 (ix2 y1 ⟨5648 + k.val, by omega⟩) := by
    rw [sum_split 16 112 rfl, sum_split 16 96 rfl]
    refine congrArg₂ (· + ·) (Finset.sum_congr rfl fun k _ => congrArg₂ (· * ·) (a8 y0 _) (hW _ _ (by dsimp only; omega) (by omega) (by dsimp only; unfold Packed.src; split_ifs <;> omega) y1)) ?_
    refine Eq.trans (congrArg₂ (· + ·) (Finset.sum_congr rfl fun k _ => congrArg₂ (· * ·) (a8 y0 _) (hW _ _ (by dsimp only; omega) (by omega) (by dsimp only; unfold Packed.src; split_ifs <;> omega) y1)) ?_) (add_zero _)
    exact Finset.sum_eq_zero fun k _ => (congrArg (_ * ·) (z _ _ (by dsimp only; omega) y1)).trans (mul_zero _)
  rw [s1, s2, s3, s4, s5, s6, s7]
  ac_rfl

end Cert.Mlp.DH
end
-- ==== Proof.Mlp.InProj.lean ====
/- The input projection: what the grid leaves in its result, and that the reference computes it. -/
module

public import proofs.«01_k».proof.Proof.Mlp.Packed
public import proofs.«01_k».proof.Proof.Gen.InProjIdeal.Value
public import proofs.«01_k».proof.Proof.Gen.InProjRefIdeal.Read
public import Idealize.ShloMosaic.Lib.StableHlo.ReadAt

@[expose] public section

set_option maxRecDepth 16384

noncomputable section

namespace Cert.Mlp.InProj

open Cert.InProjIdeal Cert.InProjIdeal.Gen Idealize.ShloMosaic Idealize.ShloMosaic.TcCoe
open Cert.InProjRefIdeal.Read

variable (m : (ℓ : Loc nD τ sig) → Buf (Elt Ideal) ℓ) (c : Dev nD)

/-! ## The arrays the grid reads -/

theorem V12 : V m c main_v12 = truncf (F := Ideal) .bf16 (m ((c : Thread nD τ).loc main_arg0)) bitsLt_bf16_f32 := by
  unfold V
  after_reads_simp

theorem V11 : V m c main_v11 = Packed.pack (truncf (F := Ideal) .bf16 (transpose S5664x1024 [1, 0] (m ((c : Thread nD τ).loc main_arg1)) transposes_S1024x5664_S5664x1024_1_0) bitsLt_bf16_f32) := by
  unfold V Packed.pack
  after_reads_simp
  refine StableHlo.concatenate_congr _ _ ?_ _ _
  simp only [Matrix.cons_val]
  after_reads_simp

@[irreducible] def G : FVec Ideal S4096x1024 .bf16 := V m c main_v12
@[irreducible] def W : FVec Ideal S5760x1024 .bf16 := V m c main_v11

/-! ## The blocks of a point -/

theorem w0 : ∀ t : Fin cfg0.N, win0_0.index t = ![t.val / 5, 0] := by decide +kernel
theorem w1 : ∀ t : Fin cfg0.N, win0_1.index t = ![t.val % 5, 0] := by decide +kernel
theorem w2 : ∀ t : Fin cfg0.N, win0_2.index t = ![t.val / 5, t.val % 5] := by decide +kernel

theorem b0 (t : Fin cfg0.N) (r : Fin 1024) (k : Fin 1024) (h : 1024 * (t.val / 5) + r.val < 4096) :
    (iblk m c 0 t : Vec Ideal S1024x1024 .bf16) (ix2 r k) = G m c (ix2 ⟨1024 * (t.val / 5) + r.val, h⟩ k) := by
  unfold G; blk_ext [iblk, w0 t]

theorem b1 (t : Fin cfg0.N) (r : Fin 1152) (k : Fin 1024) (h : 1152 * (t.val % 5) + r.val < 5760) :
    (iblk m c 1 t : Vec Ideal S1152x1024 .bf16) (ix2 r k) = W m c (ix2 ⟨1152 * (t.val % 5) + r.val, h⟩ k) := by
  unfold W; blk_ext [iblk, w1 t]

/-- The place of a block's entry in the result. -/
theorem emb2 (t : Fin cfg0.N) (r : Fin 1024) (k : Fin 1152) (h : 1024 * (t.val / 5) + r.val < 4096) (h' : 1152 * (t.val % 5) + k.val < 5760) :
    ((View.whole main_v13).slice (win0_2.rect t)).emb (ix2 r k) = ix2 ⟨1024 * (t.val / 5) + r.val, h⟩ ⟨1152 * (t.val % 5) + k.val, h'⟩ := by
  have e := w2 t
  funext a; fin_cases a
  · refine Fin.ext (show win0_2.index t 0 * 1024 + 1 * r.val = 1024 * (t.val / 5) + r.val from ?_)
    rw [e]; show t.val / 5 * 1024 + 1 * r.val = _; omega
  · refine Fin.ext (show win0_2.index t 1 * 1152 + 1 * k.val = 1152 * (t.val % 5) + k.val from ?_)
    rw [e]; show t.val % 5 * 1152 + 1 * k.val = _; omega

theorem hz : (![0, 0] : Fin 2 → Nat) = fun _ => 0 := funext fun a => by fin_cases a <;> rfl

/-- What the body leaves in its output block. -/
theorem out_apply (a : Vec Ideal S1024x1024 .bf16) (b : Vec Ideal S1152x1024 .bf16) (i : Fin 1024) (j : Fin 1152) :
    out0_2 a b (ix2 i j) = ∑ k : Fin 1024, a (ix2 i k) * b (ix2 j k) := by
  unfold out0_2
  rw [View.canon_unit_zero hz]
  simp only [View.ld_unit_zero (S := S1024x1024) hz, View.ld_unit_zero (S := S1152x1024) hz]
  pointwise [k0_pay1]

/-- The result after the run, at an index. -/
theorem value (i : Fin 4096) (j : Fin 5760) :
    (dats m 0 c).arrAt 2 cfg0.N (ix2 i j) = ∑ k : Fin 1024, G m c (ix2 i k) * W m c (ix2 j k) := by
  have h := (dats m 0 c).arrAt_eq_of_covers 2 (fun x => (∑ k : Fin 1024, G m c (ix2 (x 0) k) * W m c (ix2 (x 1) k) : EReal)) (by decide +kernel) fun t hf y => by
    have ht : t.val < 20 := lt_of_lt_of_eq t.isLt N_0
    idx_vars y
    have p := emb2 t y0 y1 (by omega) (by omega)
    blk_simp [w2 t]
    rw [after0_2, p]
    refine (out_apply _ _ y0 y1).trans ?_
    simp only [b0 m c t _ _ (show 1024 * (t.val / 5) + y0.val < 4096 by omega), b1 m c t _ _ (show 1152 * (t.val % 5) + y1.val < 5760 by omega)]
    rfl
  rw [h]
  rfl

/-- The reference's result at an index: the product with the column of that place, or zero. -/
theorem ref_value (x0 : FVec Ideal S4096x1024 .f32) (x1 : FVec Ideal S1024x5664 .f32) (i : Fin 4096) (j : Fin 5760) :
    val_main_v10 (F := Ideal) x0 x1 (ix2 i j)
      = if j.val < 5664 then (if h : Packed.src j.val < 5664 then ∑ k : Fin 1024, x0 (ix2 i k) * x1 (ix2 k ⟨Packed.src j.val, h⟩) else 0) else 0 := by
  let f : Nat → EReal := fun a => if h : a < 5664 then ∑ k : Fin 1024, x0 (ix2 i k) * x1 (ix2 k ⟨a, h⟩) else 0
  have hf : ∀ a (h : a < 5664), ∑ k : Fin 1024, x0 (ix2 i k) * x1 (ix2 k ⟨a, h⟩) = f a := fun a h => by
    show _ = dite _ _ _; rw [dif_pos h]
  refine Eq.trans ?_ (Packed.ladder f j.val)
  pointwise [val_main_v10, val_main_v9, val_main_v8, val_main_v7, val_main_v6, val_main_v5, val_main_v4, val_main_v3, val_main_v2, val_main_v1, val_main_v0, val_main_cst]
  simp only [hf, dite_eq_ite]

/-- The reference's result is what the grid leaves. -/
theorem result_eq {x0 : FVec Ideal S4096x1024 .f32} {x1 : FVec Ideal S1024x5664 .f32}
    (e0 : x0 = m ((c : Thread nD τ).loc main_arg0)) (e1 : x1 = m ((c : Thread nD τ).loc main_arg1)) :
    val_main_v10 (F := Ideal) x0 x1 = (dats m 0 c).arrAt 2 cfg0.N := by
  subst e0 e1
  have h := value m c
  have g := ref_value (m ((c : Thread nD τ).loc main_arg0)) (m ((c : Thread nD τ).loc main_arg1))
  have hG : ∀ (i : Fin 4096) (k : Fin 1024), G m c (ix2 i k) = m ((c : Thread nD τ).loc main_arg0) (ix2 i k) := fun i k => by
    unfold G; rw [V12]; rfl
  have hW : ∀ (p : Fin 5760) (k : Fin 1024), W m c (ix2 p k) = Packed.entry (m ((c : Thread nD τ).loc main_arg1)) p.val k := fun p k => by
    unfold W; rw [V11]
    exact Packed.packed_apply _ p k
  simp only [hG, hW] at h
  generalize (dats m 0 c).arrAt 2 cfg0.N = o at h ⊢
  generalize val_main_v10 (F := Ideal) (m ((c : Thread nD τ).loc main_arg0)) (m ((c : Thread nD τ).loc main_arg1)) = q at g ⊢
  funext y
  idx_vars y
  refine (g y0 y1).trans (Eq.trans ?_ (h y0 y1).symm)
  by_cases hj : y1.val < 5664
  · simp only [if_pos hj, dif_pos (Packed.src_lt hj), Packed.entry_of _ _ hj]
  · simp only [if_neg hj, Packed.entry_zero _ _ hj, mul_zero, Finset.sum_const_zero]

end Cert.Mlp.InProj
end
-- ==== Proof.Mlp.Claims.lean ====
/- The claims of the matrix products, from what their modules prove. A reference has no semaphore and runs to its end; a
   kernel's result is what its grid leaves, which is the reference's result. -/
module

public import proofs.«01_k».proof.Defs
public import proofs.«01_k».proof.Proof.Gen.Hidden.Frame
public import proofs.«01_k».proof.Proof.Gen.HiddenIdeal.Frame
public import proofs.«01_k».proof.Proof.Gen.HiddenRefIdeal.Run
public import proofs.«01_k».proof.Proof.Gen.HiddenRefIdeal.Read
public import proofs.«01_k».proof.Proof.Mlp.Hidden
public import proofs.«01_k».proof.Proof.Gen.FfOut.Frame
public import proofs.«01_k».proof.Proof.Gen.FfOutIdeal.Frame
public import proofs.«01_k».proof.Proof.Gen.FfOutRefIdeal.Run
public import proofs.«01_k».proof.Proof.Gen.FfOutRefIdeal.Read
public import proofs.«01_k».proof.Proof.Mlp.FfOut
public import proofs.«01_k».proof.Proof.Gen.FfIn.Frame
public import proofs.«01_k».proof.Proof.Gen.FfInIdeal.Frame
public import proofs.«01_k».proof.Proof.Gen.FfInRefIdeal.Run
public import proofs.«01_k».proof.Proof.Gen.FfInRefIdeal.Read
public import proofs.«01_k».proof.Proof.Mlp.FfIn
public import proofs.«01_k».proof.Proof.Gen.FfInput.Frame
public import proofs.«01_k».proof.Proof.Gen.FfInputIdeal.Frame
public import proofs.«01_k».proof.Proof.Gen.FfInputRefIdeal.Run
public import proofs.«01_k».proof.Proof.Gen.FfInputRefIdeal.Read
public import proofs.«01_k».proof.Proof.Mlp.FfInput
public import proofs.«01_k».proof.Proof.Gen.DMix.Frame
public import proofs.«01_k».proof.Proof.Gen.DMixIdeal.Frame
public import proofs.«01_k».proof.Proof.Gen.DMixRefIdeal.Run
public import proofs.«01_k».proof.Proof.Gen.DMixRefIdeal.Read
public import proofs.«01_k».proof.Proof.Mlp.DMix
public import proofs.«01_k».proof.Proof.Gen.DWOut.Frame
public import proofs.«01_k».proof.Proof.Gen.DWOutIdeal.Frame
public import proofs.«01_k».proof.Proof.Gen.DWOutRefIdeal.Run
public import proofs.«01_k».proof.Proof.Gen.DWOutRefIdeal.Read
public import proofs.«01_k».proof.Proof.Mlp.DWOut
public import proofs.«01_k».proof.Proof.Gen.DWIn.Frame
public import proofs.«01_k».proof.Proof.Gen.DWInIdeal.Frame
public import proofs.«01_k».proof.Proof.Gen.DWInRefIdeal.Run
public import proofs.«01_k».proof.Proof.Gen.DWInRefIdeal.Read
public import proofs.«01_k».proof.Proof.Mlp.DWIn
public import proofs.«01_k».proof.Proof.Gen.DWQ.Frame
public import proofs.«01_k».proof.Proof.Gen.DWQIdeal.Frame
public import proofs.«01_k».proof.Proof.Gen.DWQRefIdeal.Run
public import proofs.«01_k».proof.Proof.Gen.DWQRefIdeal.Read
public import proofs.«01_k».proof.Proof.Mlp.DWQ
public import proofs.«01_k».proof.Proof.Gen.DWBc.Frame
public import proofs.«01_k».proof.Proof.Gen.DWBcIdeal.Frame
public import proofs.«01_k».proof.Proof.Gen.DWBcRefIdeal.Run
public import proofs.«01_k».proof.Proof.Gen.DWBcRefIdeal.Read
public import proofs.«01_k».proof.Proof.Mlp.DWBc
public import proofs.«01_k».proof.Proof.Gen.DWGate.Frame
public import proofs.«01_k».proof.Proof.Gen.DWGateIdeal.Frame
public import proofs.«01_k».proof.Proof.Gen.DWGateRefIdeal.Run
public import proofs.«01_k».proof.Proof.Gen.DWGateRefIdeal.Read
public import proofs.«01_k».proof.Proof.Mlp.DWGate
public import proofs.«01_k».proof.Proof.Gen.FfAct.Frame
public import proofs.«01_k».proof.Proof.Gen.FfActIdeal.Frame
public import proofs.«01_k».proof.Proof.Gen.FfActRefIdeal.Run
public import proofs.«01_k».proof.Proof.Gen.FfActRefIdeal.Read
public import proofs.«01_k».proof.Proof.Mlp.FfAct
public import proofs.«01_k».proof.Proof.Gen.FfSum.Frame
public import proofs.«01_k».proof.Proof.Gen.FfSumIdeal.Frame
public import proofs.«01_k».proof.Proof.Gen.FfSumRefIdeal.Run
public import proofs.«01_k».proof.Proof.Gen.FfSumRefIdeal.Read
public import proofs.«01_k».proof.Proof.Mlp.FfSum
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.OutProjRefIdeal.Read
public import proofs.«01_k».proof.Proof.Mlp.OutProj
public import proofs.«01_k».proof.Proof.Gen.DH.Frame
public import proofs.«01_k».proof.Proof.Gen.DHIdeal.Frame
public import proofs.«01_k».proof.Proof.Gen.DHRefIdeal.Run
public import proofs.«01_k».proof.Proof.Gen.DHRefIdeal.Read
public import proofs.«01_k».proof.Proof.Mlp.DH
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjRefIdeal.Read
public import proofs.«01_k».proof.Proof.Mlp.InProj
public import Idealize.ShloMosaic.Adequacy
public import Idealize.ShloMosaic.Init

@[expose] public section

noncomputable section

open Idealize.ShloMosaic Idealize.SL.Sem

namespace Cert.Mlp.Hidden

/-- The reference of the gradient at the hidden layer runs to its end and leaves its arguments as they were. -/
theorem frame_ref : Cert.quiescent_HiddenRefIdeal (hHiddenRefIdeal := Cert.HiddenRefIdeal.Gen.facts) := by
  intro m ρ _
  exact (θ_run Cert.HiddenRefIdeal.defs _ _).mono
    (fun r h => ⟨fun c => (h c).2, Idealize.ShloMosaic.sem_eq_zero_of_no_sems (by decide) r.2⟩)
    (Cert.HiddenRefIdeal.Value.run (F := Ideal) m ρ)

/-- The kernel and the reference end with the same result: the gradient at the hidden layer. -/
theorem algebraic : Cert.algebraic_HiddenIdeal_HiddenRefIdeal (hHiddenIdeal := Cert.HiddenIdeal.Gen.facts)
    (hHiddenRefIdeal := Cert.HiddenRefIdeal.Gen.facts) := by
  intro m ρ m' ρ' _ hagree
  refine ⟨_, Cert.HiddenIdeal.Value.run_blocks (F := Ideal) m ρ, ?_⟩
  refine (θ_run Cert.HiddenRefIdeal.defs _ _).mono (fun r h c => ?_) (Cert.HiddenRefIdeal.Value.run (F := Ideal) m' ρ')
  obtain ⟨h0, hk⟩ := h c
  obtain ⟨a0, a1, a2, a3⟩ := hagree c
  exact ⟨h0.trans ((Cert.HiddenRefIdeal.Read.val_main_v13_eq _ _ _ _).trans (result_eq m c a0 a1 a2 a3)), hk⟩

end Cert.Mlp.Hidden

namespace Cert.Mlp.FfOut

/-- The reference of the gradient of the second weight runs to its end and leaves its arguments as they were. -/
theorem frame_ref : Cert.quiescent_FfOutRefIdeal (hFfOutRefIdeal := Cert.FfOutRefIdeal.Gen.facts) := by
  intro m ρ _
  exact (θ_run Cert.FfOutRefIdeal.defs _ _).mono
    (fun r h => ⟨fun c => (h c).2, Idealize.ShloMosaic.sem_eq_zero_of_no_sems (by decide) r.2⟩)
    (Cert.FfOutRefIdeal.Value.run (F := Ideal) m ρ)

/-- The kernel and the reference end with the same result: the gradient of the second weight. -/
theorem algebraic : Cert.algebraic_FfOutIdeal_FfOutRefIdeal (hFfOutIdeal := Cert.FfOutIdeal.Gen.facts)
    (hFfOutRefIdeal := Cert.FfOutRefIdeal.Gen.facts) := by
  intro m ρ m' ρ' _ hagree
  refine ⟨_, Cert.FfOutIdeal.Value.run_blocks (F := Ideal) m ρ, ?_⟩
  refine (θ_run Cert.FfOutRefIdeal.defs _ _).mono (fun r h c => ?_) (Cert.FfOutRefIdeal.Value.run (F := Ideal) m' ρ')
  obtain ⟨h0, hk⟩ := h c
  obtain ⟨a0, a1, _, a3⟩ := hagree c
  exact ⟨h0.trans ((Cert.FfOutRefIdeal.Read.val_main_v6_eq _ _ _).trans (result_eq m c a0 a1 a3)), hk⟩

end Cert.Mlp.FfOut

namespace Cert.Mlp.FfIn

/-- The reference of the gradient of the first weight runs to its end and leaves its arguments as they were. -/
theorem frame_ref : Cert.quiescent_FfInRefIdeal (hFfInRefIdeal := Cert.FfInRefIdeal.Gen.facts) := by
  intro m ρ _
  exact (θ_run Cert.FfInRefIdeal.defs _ _).mono
    (fun r h => ⟨fun c => (h c).2, Idealize.ShloMosaic.sem_eq_zero_of_no_sems (by decide) r.2⟩)
    (Cert.FfInRefIdeal.Value.run (F := Ideal) m ρ)

/-- The kernel and the reference end with the same result: the gradient of the first weight. -/
theorem algebraic : Cert.algebraic_FfInIdeal_FfInRefIdeal (hFfInIdeal := Cert.FfInIdeal.Gen.facts)
    (hFfInRefIdeal := Cert.FfInRefIdeal.Gen.facts) := by
  intro m ρ m' ρ' _ hagree
  refine ⟨_, Cert.FfInIdeal.Value.run_blocks (F := Ideal) m ρ, ?_⟩
  refine (θ_run Cert.FfInRefIdeal.defs _ _).mono (fun r h c => ?_) (Cert.FfInRefIdeal.Value.run (F := Ideal) m' ρ')
  obtain ⟨h0, hk⟩ := h c
  obtain ⟨a0, _, a2⟩ := hagree c
  exact ⟨h0.trans ((Cert.FfInRefIdeal.Read.val_main_v5_eq _ _).trans (result_eq m c a0 a2)), hk⟩

end Cert.Mlp.FfIn

namespace Cert.Mlp.FfInput

/-- The reference of the gradient at the feed forward part's input runs to its end and leaves its arguments as they were. -/
theorem frame_ref : Cert.quiescent_FfInputRefIdeal (hFfInputRefIdeal := Cert.FfInputRefIdeal.Gen.facts) := by
  intro m ρ _
  exact (θ_run Cert.FfInputRefIdeal.defs _ _).mono
    (fun r h => ⟨fun c => (h c).2, Idealize.ShloMosaic.sem_eq_zero_of_no_sems (by decide) r.2⟩)
    (Cert.FfInputRefIdeal.Value.run (F := Ideal) m ρ)

/-- The kernel and the reference end with the same result: the gradient at the feed forward part's input. -/
theorem algebraic : Cert.algebraic_FfInputIdeal_FfInputRefIdeal (hFfInputIdeal := Cert.FfInputIdeal.Gen.facts)
    (hFfInputRefIdeal := Cert.FfInputRefIdeal.Gen.facts) := by
  intro m ρ m' ρ' _ hagree
  refine ⟨_, Cert.FfInputIdeal.Value.run_blocks (F := Ideal) m ρ, ?_⟩
  refine (θ_run Cert.FfInputRefIdeal.defs _ _).mono (fun r h c => ?_) (Cert.FfInputRefIdeal.Value.run (F := Ideal) m' ρ')
  obtain ⟨h0, hk⟩ := h c
  obtain ⟨_, a1, a2⟩ := hagree c
  exact ⟨h0.trans ((Cert.FfInputRefIdeal.Read.val_main_v1_eq _ _).trans (result_eq m c a1 a2)), hk⟩

end Cert.Mlp.FfInput

namespace Cert.Mlp.DMix

/-- The reference of the gradient at the output projection's input runs to its end and leaves its arguments as they were. -/
theorem frame_ref : Cert.quiescent_DMixRefIdeal (hDMixRefIdeal := Cert.DMixRefIdeal.Gen.facts) := by
  intro m ρ _
  exact (θ_run Cert.DMixRefIdeal.defs _ _).mono
    (fun r h => ⟨fun c => (h c).2, Idealize.ShloMosaic.sem_eq_zero_of_no_sems (by decide) r.2⟩)
    (Cert.DMixRefIdeal.Value.run (F := Ideal) m ρ)

/-- The kernel and the reference end with the same result: the gradient at the output projection's input. -/
theorem algebraic : Cert.algebraic_DMixIdeal_DMixRefIdeal (hDMixIdeal := Cert.DMixIdeal.Gen.facts)
    (hDMixRefIdeal := Cert.DMixRefIdeal.Gen.facts) := by
  intro m ρ m' ρ' _ hagree
  refine ⟨_, Cert.DMixIdeal.Value.run_blocks (F := Ideal) m ρ, ?_⟩
  refine (θ_run Cert.DMixRefIdeal.defs _ _).mono (fun r h c => ?_) (Cert.DMixRefIdeal.Value.run (F := Ideal) m' ρ')
  obtain ⟨h0, hk⟩ := h c
  obtain ⟨_, a1, a2⟩ := hagree c
  exact ⟨h0.trans ((Cert.DMixRefIdeal.Read.val_main_v1_eq _ _).trans (result_eq m c a1 a2)), hk⟩

end Cert.Mlp.DMix

namespace Cert.Mlp.DWOut

/-- The reference of the gradient of the output projection's weight runs to its end and leaves its arguments as they were. -/
theorem frame_ref : Cert.quiescent_DWOutRefIdeal (hDWOutRefIdeal := Cert.DWOutRefIdeal.Gen.facts) := by
  intro m ρ _
  exact (θ_run Cert.DWOutRefIdeal.defs _ _).mono
    (fun r h => ⟨fun c => (h c).2, Idealize.ShloMosaic.sem_eq_zero_of_no_sems (by decide) r.2⟩)
    (Cert.DWOutRefIdeal.Value.run (F := Ideal) m ρ)

/-- The kernel and the reference end with the same result: the gradient of the output projection's weight. -/
theorem algebraic : Cert.algebraic_DWOutIdeal_DWOutRefIdeal (hDWOutIdeal := Cert.DWOutIdeal.Gen.facts)
    (hDWOutRefIdeal := Cert.DWOutRefIdeal.Gen.facts) := by
  intro m ρ m' ρ' _ hagree
  refine ⟨_, Cert.DWOutIdeal.Value.run_blocks (F := Ideal) m ρ, ?_⟩
  refine (θ_run Cert.DWOutRefIdeal.defs _ _).mono (fun r h c => ?_) (Cert.DWOutRefIdeal.Value.run (F := Ideal) m' ρ')
  obtain ⟨h0, hk⟩ := h c
  obtain ⟨a0, _, a2⟩ := hagree c
  exact ⟨h0.trans ((Cert.DWOutRefIdeal.Read.val_main_v3_eq _ _).trans (result_eq m c a0 a2)), hk⟩

end Cert.Mlp.DWOut

namespace Cert.Mlp.DWIn

/-- The reference of the gradient of 1024 columns of the input projection's weight runs to its end and leaves its arguments as they were. -/
theorem frame_ref : Cert.quiescent_DWInRefIdeal (hDWInRefIdeal := Cert.DWInRefIdeal.Gen.facts) := by
  intro m ρ _
  exact (θ_run Cert.DWInRefIdeal.defs _ _).mono
    (fun r h => ⟨fun c => (h c).2, Idealize.ShloMosaic.sem_eq_zero_of_no_sems (by decide) r.2⟩)
    (Cert.DWInRefIdeal.Value.run (F := Ideal) m ρ)

/-- The kernel and the reference end with the same result: the gradient of 1024 columns of the input projection's weight. -/
theorem algebraic : Cert.algebraic_DWInIdeal_DWInRefIdeal (hDWInIdeal := Cert.DWInIdeal.Gen.facts)
    (hDWInRefIdeal := Cert.DWInRefIdeal.Gen.facts) := by
  intro m ρ m' ρ' _ hagree
  refine ⟨_, Cert.DWInIdeal.Value.run_blocks (F := Ideal) m ρ, ?_⟩
  refine (θ_run Cert.DWInRefIdeal.defs _ _).mono (fun r h c => ?_) (Cert.DWInRefIdeal.Value.run (F := Ideal) m' ρ')
  obtain ⟨h0, hk⟩ := h c
  obtain ⟨a0, _, a2⟩ := hagree c
  exact ⟨h0.trans ((Cert.DWInRefIdeal.Read.val_main_v4_eq _ _).trans (result_eq m c a0 a2)), hk⟩

end Cert.Mlp.DWIn

namespace Cert.Mlp.DWQ

/-- The reference of the gradient of the query's columns of the input projection's weight runs to its end and leaves its arguments as they were. -/
theorem frame_ref : Cert.quiescent_DWQRefIdeal (hDWQRefIdeal := Cert.DWQRefIdeal.Gen.facts) := by
  intro m ρ _
  exact (θ_run Cert.DWQRefIdeal.defs _ _).mono
    (fun r h => ⟨fun c => (h c).2, Idealize.ShloMosaic.sem_eq_zero_of_no_sems (by decide) r.2⟩)
    (Cert.DWQRefIdeal.Value.run (F := Ideal) m ρ)

/-- The kernel and the reference end with the same result: the gradient of the query's columns of the input projection's weight. -/
theorem algebraic : Cert.algebraic_DWQIdeal_DWQRefIdeal (hDWQIdeal := Cert.DWQIdeal.Gen.facts)
    (hDWQRefIdeal := Cert.DWQRefIdeal.Gen.facts) := by
  intro m ρ m' ρ' _ hagree
  refine ⟨_, Cert.DWQIdeal.Value.run_blocks (F := Ideal) m ρ, ?_⟩
  refine (θ_run Cert.DWQRefIdeal.defs _ _).mono (fun r h c => ?_) (Cert.DWQRefIdeal.Value.run (F := Ideal) m' ρ')
  obtain ⟨h0, hk⟩ := h c
  obtain ⟨a0, _, a2⟩ := hagree c
  exact ⟨h0.trans ((Cert.DWQRefIdeal.Read.val_main_v4_eq _ _).trans (result_eq m c a0 a2)), hk⟩

end Cert.Mlp.DWQ

namespace Cert.Mlp.DWBc

/-- The reference of the gradient of 512 columns of the input projection's weight runs to its end and leaves its arguments as they were. -/
theorem frame_ref : Cert.quiescent_DWBcRefIdeal (hDWBcRefIdeal := Cert.DWBcRefIdeal.Gen.facts) := by
  intro m ρ _
  exact (θ_run Cert.DWBcRefIdeal.defs _ _).mono
    (fun r h => ⟨fun c => (h c).2, Idealize.ShloMosaic.sem_eq_zero_of_no_sems (by decide) r.2⟩)
    (Cert.DWBcRefIdeal.Value.run (F := Ideal) m ρ)

/-- The kernel and the reference end with the same result: the gradient of 512 columns of the input projection's weight. -/
theorem algebraic : Cert.algebraic_DWBcIdeal_DWBcRefIdeal (hDWBcIdeal := Cert.DWBcIdeal.Gen.facts)
    (hDWBcRefIdeal := Cert.DWBcRefIdeal.Gen.facts) := by
  intro m ρ m' ρ' _ hagree
  refine ⟨_, Cert.DWBcIdeal.Value.run_blocks (F := Ideal) m ρ, ?_⟩
  refine (θ_run Cert.DWBcRefIdeal.defs _ _).mono (fun r h c => ?_) (Cert.DWBcRefIdeal.Value.run (F := Ideal) m' ρ')
  obtain ⟨h0, hk⟩ := h c
  obtain ⟨a0, _, a2⟩ := hagree c
  exact ⟨h0.trans ((Cert.DWBcRefIdeal.Read.val_main_v4_eq _ _).trans (result_eq m c a0 a2)), hk⟩

end Cert.Mlp.DWBc

namespace Cert.Mlp.DWGate

/-- The reference of the gradient of the gates' columns of the input projection's weight runs to its end and leaves its arguments as they were. -/
theorem frame_ref : Cert.quiescent_DWGateRefIdeal (hDWGateRefIdeal := Cert.DWGateRefIdeal.Gen.facts) := by
  intro m ρ _
  exact (θ_run Cert.DWGateRefIdeal.defs _ _).mono
    (fun r h => ⟨fun c => (h c).2, Idealize.ShloMosaic.sem_eq_zero_of_no_sems (by decide) r.2⟩)
    (Cert.DWGateRefIdeal.Value.run (F := Ideal) m ρ)

/-- The kernel and the reference end with the same result: the gradient of the gates' columns of the input projection's weight. -/
theorem algebraic : Cert.algebraic_DWGateIdeal_DWGateRefIdeal (hDWGateIdeal := Cert.DWGateIdeal.Gen.facts)
    (hDWGateRefIdeal := Cert.DWGateRefIdeal.Gen.facts) := by
  intro m ρ m' ρ' _ hagree
  refine ⟨_, Cert.DWGateIdeal.Value.run_blocks (F := Ideal) m ρ, ?_⟩
  refine (θ_run Cert.DWGateRefIdeal.defs _ _).mono (fun r h c => ?_) (Cert.DWGateRefIdeal.Value.run (F := Ideal) m' ρ')
  obtain ⟨h0, hk⟩ := h c
  obtain ⟨a0, _, a2⟩ := hagree c
  exact ⟨h0.trans ((Cert.DWGateRefIdeal.Read.val_main_v4_eq _ _).trans (result_eq m c a0 a2)), hk⟩

end Cert.Mlp.DWGate

namespace Cert.Mlp.FfAct

/-- The reference of the feed forward part's squared rectified first product runs to its end and leaves its arguments as they were. -/
theorem frame_ref : Cert.quiescent_FfActRefIdeal (hFfActRefIdeal := Cert.FfActRefIdeal.Gen.facts) := by
  intro m ρ _
  exact (θ_run Cert.FfActRefIdeal.defs _ _).mono
    (fun r h => ⟨fun c => (h c).2, Idealize.ShloMosaic.sem_eq_zero_of_no_sems (by decide) r.2⟩)
    (Cert.FfActRefIdeal.Value.run (F := Ideal) m ρ)

/-- The kernel and the reference end with the same result: the feed forward part's squared rectified first product. -/
theorem algebraic : Cert.algebraic_FfActIdeal_FfActRefIdeal (hFfActIdeal := Cert.FfActIdeal.Gen.facts)
    (hFfActRefIdeal := Cert.FfActRefIdeal.Gen.facts) := by
  intro m ρ m' ρ' _ hagree
  refine ⟨_, Cert.FfActIdeal.Value.run_blocks (F := Ideal) m ρ, ?_⟩
  refine (θ_run Cert.FfActRefIdeal.defs _ _).mono (fun r h c => ?_) (Cert.FfActRefIdeal.Value.run (F := Ideal) m' ρ')
  obtain ⟨h0, hk⟩ := h c
  obtain ⟨a0, a1⟩ := hagree c
  exact ⟨h0.trans ((Cert.FfActRefIdeal.Read.val_main_v3_eq _ _).trans (result_eq m c a0 a1)), hk⟩

end Cert.Mlp.FfAct

namespace Cert.Mlp.FfSum

/-- The reference of the feed forward part's second product runs to its end and leaves its arguments as they were. -/
theorem frame_ref : Cert.quiescent_FfSumRefIdeal (hFfSumRefIdeal := Cert.FfSumRefIdeal.Gen.facts) := by
  intro m ρ _
  exact (θ_run Cert.FfSumRefIdeal.defs _ _).mono
    (fun r h => ⟨fun c => (h c).2, Idealize.ShloMosaic.sem_eq_zero_of_no_sems (by decide) r.2⟩)
    (Cert.FfSumRefIdeal.Value.run (F := Ideal) m ρ)

/-- The kernel and the reference end with the same result: the feed forward part's second product. -/
theorem algebraic : Cert.algebraic_FfSumIdeal_FfSumRefIdeal (hFfSumIdeal := Cert.FfSumIdeal.Gen.facts)
    (hFfSumRefIdeal := Cert.FfSumRefIdeal.Gen.facts) := by
  intro m ρ m' ρ' _ hagree
  refine ⟨_, Cert.FfSumIdeal.Value.run_blocks (F := Ideal) m ρ, ?_⟩
  refine (θ_run Cert.FfSumRefIdeal.defs _ _).mono (fun r h c => ?_) (Cert.FfSumRefIdeal.Value.run (F := Ideal) m' ρ')
  obtain ⟨h0, hk⟩ := h c
  obtain ⟨a0, a1⟩ := hagree c
  exact ⟨h0.trans ((Cert.FfSumRefIdeal.Read.val_main_v0_eq _ _).trans (result_eq m c a0 a1)), hk⟩

end Cert.Mlp.FfSum

namespace Cert.Mlp.OutProj

/-- The reference of the output projection runs to its end and leaves its arguments as they were. -/
theorem frame_ref : Cert.quiescent_OutProjRefIdeal (hOutProjRefIdeal := Cert.OutProjRefIdeal.Gen.facts) := by
  intro m ρ _
  exact (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- The kernel and the reference end with the same result: the output projection. -/
theorem algebraic : Cert.algebraic_OutProjIdeal_OutProjRefIdeal (hOutProjIdeal := Cert.OutProjIdeal.Gen.facts)
    (hOutProjRefIdeal := Cert.OutProjRefIdeal.Gen.facts) := by
  intro m ρ m' ρ' _ hagree
  refine ⟨_, Cert.OutProjIdeal.Value.run_blocks (F := Ideal) m ρ, ?_⟩
  refine (θ_run Cert.OutProjRefIdeal.defs _ _).mono (fun r h c => ?_) (Cert.OutProjRefIdeal.Value.run (F := Ideal) m' ρ')
  obtain ⟨h0, hk⟩ := h c
  obtain ⟨a0, a1⟩ := hagree c
  exact ⟨h0.trans ((Cert.OutProjRefIdeal.Read.val_main_v0_eq _ _).trans (result_eq m c a0 a1)), hk⟩

end Cert.Mlp.OutProj

namespace Cert.Mlp.DH

/-- The reference of the gradient at the input projection's input runs to its end and leaves its arguments as they were. -/
theorem frame_ref : Cert.quiescent_DHRefIdeal (hDHRefIdeal := Cert.DHRefIdeal.Gen.facts) := by
  intro m ρ _
  exact (θ_run Cert.DHRefIdeal.defs _ _).mono
    (fun r h => ⟨fun c => (h c).2, Idealize.ShloMosaic.sem_eq_zero_of_no_sems (by decide) r.2⟩)
    (Cert.DHRefIdeal.Value.run (F := Ideal) m ρ)

/-- The kernel and the reference end with the same result: the gradient at the input projection's input. -/
theorem algebraic : Cert.algebraic_DHIdeal_DHRefIdeal (hDHIdeal := Cert.DHIdeal.Gen.facts)
    (hDHRefIdeal := Cert.DHRefIdeal.Gen.facts) := by
  intro m ρ m' ρ' _ hagree
  refine ⟨_, Cert.DHIdeal.Value.run_blocks (F := Ideal) m ρ, ?_⟩
  refine (θ_run Cert.DHRefIdeal.defs _ _).mono (fun r h c => ?_) (Cert.DHRefIdeal.Value.run (F := Ideal) m' ρ')
  obtain ⟨h0, hk⟩ := h c
  obtain ⟨_, a1, a2, a3, a4, a5, a6, a7, a8⟩ := hagree c
  exact ⟨h0.trans ((Cert.DHRefIdeal.Read.val_main_v12_eq _ _ _ _ _ _ _ _).trans (result_eq m c a1 a2 a3 a4 a5 a6 a7 a8)), hk⟩

end Cert.Mlp.DH

namespace Cert.Mlp.InProj

/-- The reference of the input projection runs to its end and leaves its arguments as they were. -/
theorem frame_ref : Cert.quiescent_InProjRefIdeal (hInProjRefIdeal := Cert.InProjRefIdeal.Gen.facts) := by
  intro m ρ _
  exact (θ_run Cert.InProjRefIdeal.defs _ _).mono
    (fun r h => ⟨fun c => (h c).2, Idealize.ShloMosaic.sem_eq_zero_of_no_sems (by decide) r.2⟩)
    (Cert.InProjRefIdeal.Value.run (F := Ideal) m ρ)

/-- The kernel and the reference end with the same result: the input projection. -/
theorem algebraic : Cert.algebraic_InProjIdeal_InProjRefIdeal (hInProjIdeal := Cert.InProjIdeal.Gen.facts)
    (hInProjRefIdeal := Cert.InProjRefIdeal.Gen.facts) := by
  intro m ρ m' ρ' _ hagree
  refine ⟨_, Cert.InProjIdeal.Value.run_blocks (F := Ideal) m ρ, ?_⟩
  refine (θ_run Cert.InProjRefIdeal.defs _ _).mono (fun r h c => ?_) (Cert.InProjRefIdeal.Value.run (F := Ideal) m' ρ')
  obtain ⟨h0, hk⟩ := h c
  obtain ⟨a0, a1⟩ := hagree c
  exact ⟨h0.trans ((Cert.InProjRefIdeal.Read.val_main_v10_eq _ _).trans (result_eq m c a0 a1)), hk⟩

end Cert.Mlp.InProj

end
-- ==== Proof.Row.InputGrad.lean ====
/- The gradient of the two uses of a device's sequence, as a residual and as the mixer's input: what the grid leaves in its three
   results, and that the reference computes them. Eight points of 512 rows; the gradients of the scale and of the shift are sums
   over all rows, which the first point starts from zero and each point adds its rows to. -/
module

public import proofs.«01_k».proof.Proof.Mlp.Square
public import proofs.«01_k».proof.Proof.Gen.InputGradIdeal.Value
public import proofs.«01_k».proof.Proof.Gen.InputGradRefIdeal.Read
public import Idealize.ShloMosaic.Lib.StableHlo.ReadAt

@[expose] public section

set_option maxRecDepth 16384

noncomputable section

namespace Cert.Row.InputGrad

open Cert.InputGradIdeal Cert.InputGradIdeal.Gen Idealize.ShloMosaic Idealize.ShloMosaic.TcCoe
open Cert.InputGradRefIdeal.Read

variable (m : (ℓ : Loc nD τ sig) → Buf (Elt Ideal) ℓ) (c : Dev nD)

/-- The constant a bit pattern names, at the extended reals. -/
def word (b : BitVec 32) : EReal := Scalar.ofBits (F := Ideal) .f32 b

@[irreducible] def X : FVec Ideal S4096x1024 .f32 := V m c main_arg0
@[irreducible] def S : FVec Ideal S1x1024 .f32 := V m c main_arg1
@[irreducible] def G : FVec Ideal S4096x1024 .f32 := V m c main_arg3
@[irreducible] def U : FVec Ideal S4096x1024 .f32 := V m c main_arg4

/-! ## The blocks of a point -/

theorem w0 : ∀ t : Fin cfg0.N, win0_0.index t = ![t.val, 0] := by decide +kernel
theorem w1 : ∀ t : Fin cfg0.N, win0_1.index t = ![t.val, 0] := by decide +kernel
theorem w2 : ∀ t : Fin cfg0.N, win0_2.index t = ![t.val, 0] := by decide +kernel
theorem w3 : ∀ t : Fin cfg0.N, win0_3.index t = ![0, 0] := by decide +kernel
theorem w4 : ∀ t : Fin cfg0.N, win0_4.index t = ![t.val, 0] := by decide +kernel
theorem w5 : ∀ t : Fin cfg0.N, win0_5.index t = ![0, 0] := by decide +kernel
theorem w6 : ∀ t : Fin cfg0.N, win0_6.index t = ![0, 0] := by decide +kernel

theorem b0 (t : Fin cfg0.N) (r : Fin 512) (k : Fin 1024) (h : 512 * t.val + r.val < 4096) :
    (iblk m c 0 t : Vec Ideal S512x1024 .f32) (ix2 r k) = G m c (ix2 ⟨512 * t.val + r.val, h⟩ k) := by
  unfold G; blk_ext [iblk, w0 t]

theorem b1 (t : Fin cfg0.N) (r : Fin 512) (k : Fin 1024) (h : 512 * t.val + r.val < 4096) :
    (iblk m c 1 t : Vec Ideal S512x1024 .f32) (ix2 r k) = U m c (ix2 ⟨512 * t.val + r.val, h⟩ k) := by
  unfold U; blk_ext [iblk, w1 t]

theorem b2 (t : Fin cfg0.N) (r : Fin 512) (k : Fin 1024) (h : 512 * t.val + r.val < 4096) :
    (iblk m c 2 t : Vec Ideal S512x1024 .f32) (ix2 r k) = X m c (ix2 ⟨512 * t.val + r.val, h⟩ k) := by
  unfold X; blk_ext [iblk, w2 t]

theorem b3 (t : Fin cfg0.N) (k : Fin 1024) :
    (iblk m c 3 t : Vec Ideal S1x1024 .f32) (ix2 0 k) = S m c (ix2 0 k) := by
  unfold S; blk_ext [iblk, w3 t]

theorem emb4 (t : Fin cfg0.N) (r : Fin 512) (k : Fin 1024) (h : 512 * t.val + r.val < 4096) :
    ((View.whole main_v0_0).slice (win0_4.rect t)).emb (ix2 r k) = ix2 ⟨512 * t.val + r.val, h⟩ k := by
  have e := w4 t
  funext a; fin_cases a
  · refine Fin.ext (show win0_4.index t 0 * 512 + 1 * r.val = 512 * t.val + r.val from ?_)
    rw [e]; show t.val * 512 + 1 * r.val = _; omega
  · refine Fin.ext (show win0_4.index t 1 * 1024 + 1 * k.val = k.val from ?_)
    rw [e]; show 0 * 1024 + 1 * k.val = _; omega

theorem emb5 (t : Fin cfg0.N) (r : Fin 1) (k : Fin 1024) :
    ((View.whole main_v0_1).slice (win0_5.rect t)).emb (ix2 r k) = ix2 r k := by
  have e := w5 t
  funext a; fin_cases a
  · refine Fin.ext (show win0_5.index t 0 * 1 + 1 * r.val = r.val from ?_)
    rw [e]; show 0 * 1 + 1 * r.val = _; omega
  · refine Fin.ext (show win0_5.index t 1 * 1024 + 1 * k.val = k.val from ?_)
    rw [e]; show 0 * 1024 + 1 * k.val = _; omega

theorem emb6 (t : Fin cfg0.N) (r : Fin 1) (k : Fin 1024) :
    ((View.whole main_v0_2).slice (win0_6.rect t)).emb (ix2 r k) = ix2 r k := by
  have e := w6 t
  funext a; fin_cases a
  · refine Fin.ext (show win0_6.index t 0 * 1 + 1 * r.val = r.val from ?_)
    rw [e]; show 0 * 1 + 1 * r.val = _; omega
  · refine Fin.ext (show win0_6.index t 1 * 1024 + 1 * k.val = k.val from ?_)
    rw [e]; show 0 * 1024 + 1 * k.val = _; omega

theorem hz : (![0, 0] : Fin 2 → Nat) = fun _ => 0 := funext fun a => by fin_cases a <;> rfl

/-! ## What a point leaves -/

section
variable (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S1x1024 .f32) (h6 : a6.IsWhole)
  (a7 : Memref sig .tc .vmem S1x1024 .f32) (h7 : a7.IsWhole)

theorem tieA4 (hc : cond0_0 i) (x0 x1 x2 : Vec Ideal S512x1024 .f32) (x3 : Vec Ideal S1x1024 .f32) :
    out0_A_4 (F := Ideal) c i a1 h1 a2 h2 a3 h3 a4 h4 a5 h5 a6 h6 a7 h7 hc x0 x1 x2 x3 = k0_pay3 x0 x1 x3 := by
  unfold out0_A_4
  simp only [View.read_writes_junk_eq_canon]
  unfold kernelRun0_A
  dsimp only
  rw [View.canon_unit_zero hz]
  simp only [View.readAt_eq_ld, h1.read_unread, h2.read_unread, h3.read_unread, h4.read_unread, h6.read_unread, h7.read_unread, View.ld_unit_zero (S := S512x1024) hz, View.ld_unit_zero (S := S1x1024) hz]

theorem tieA5 (hc : cond0_0 i) (x0 x1 x2 : Vec Ideal S512x1024 .f32) (x3 : Vec Ideal S1x1024 .f32) :
    out0_A_5 (F := Ideal) c i a1 h1 a2 h2 a3 h3 a4 h4 a5 h5 a6 h6 a7 h7 hc x0 x1 x2 x3 = k0_pay4 x0 x2 (k0_pay1 (F := Ideal)) := by
  unfold out0_A_5
  simp only [View.read_writes_junk_eq_canon]
  unfold kernelRun0_A
  dsimp only
  sl_unfold_words
  rw [View.canon_cons_unit_zero hz, View.readCov_unit_zero (S := S1x1024) _ hz]
  simp only [View.readAt_eq_ld, h1.read_unread, h2.read_unread, h3.read_unread, h4.read_unread, h6.read_unread, h7.read_unread, View.ld_unit_zero (S := S512x1024) hz, View.ld_unit_zero (S := S1x1024) hz]

theorem tieA6 (hc : cond0_0 i) (x0 x1 x2 : Vec Ideal S512x1024 .f32) (x3 : Vec Ideal S1x1024 .f32) :
    out0_A_6 (F := Ideal) c i a1 h1 a2 h2 a3 h3 a4 h4 a5 h5 a6 h6 a7 h7 hc x0 x1 x2 x3 = k0_pay5 x0 (k0_pay2 (F := Ideal)) := by
  unfold out0_A_6
  simp only [View.read_writes_junk_eq_canon]
  unfold kernelRun0_A
  dsimp only
  sl_unfold_words
  rw [View.canon_cons_unit_zero hz, View.readCov_unit_zero (S := S1x1024) _ hz]
  simp only [View.readAt_eq_ld, h1.read_unread, h2.read_unread, h3.read_unread, h4.read_unread, h6.read_unread, h7.read_unread, View.ld_unit_zero (S := S512x1024) hz, View.ld_unit_zero (S := S1x1024) hz]

theorem tieB4 (hc : ¬cond0_0 i) (x0 x1 x2 : Vec Ideal S512x1024 .f32) (x3 : Vec Ideal S1x1024 .f32) (s h : Vec Ideal S1x1024 .f32) :
    out0_B_4 (F := Ideal) c i a1 h1 a2 h2 a3 h3 a4 h4 a5 h5 a6 h6 a7 h7 hc x0 x1 x2 x3 s h = k0_pay3 x0 x1 x3 := by
  unfold out0_B_4
  simp only [View.read_writes_junk_eq_canon]
  unfold kernelRun0_B
  dsimp only
  rw [View.canon_unit_zero hz]
  simp only [View.readAt_eq_ld, h1.read_unread, h2.read_unread, h3.read_unread, h4.read_unread, h6.read_unread, h7.read_unread, View.ld_unit_zero (S := S512x1024) hz, View.ld_unit_zero (S := S1x1024) hz]

theorem tieB5 (hc : ¬cond0_0 i) (x0 x1 x2 : Vec Ideal S512x1024 .f32) (x3 : Vec Ideal S1x1024 .f32) (s h : Vec Ideal S1x1024 .f32) :
    out0_B_5 (F := Ideal) c i a1 h1 a2 h2 a3 h3 a4 h4 a5 h5 a6 h6 a7 h7 hc x0 x1 x2 x3 s h = k0_pay4 x0 x2 s := by
  unfold out0_B_5
  simp only [View.read_writes_junk_eq_canon]
  unfold kernelRun0_B
  dsimp only
  rw [View.canon_unit_zero hz]
  simp only [View.readAt_eq_ld, h1.read_unread, h2.read_unread, h3.read_unread, h4.read_unread, h6.read_unread, h7.read_unread, View.ld_unit_zero (S := S512x1024) hz, View.ld_unit_zero (S := S1x1024) hz]

theorem tieB6 (hc : ¬cond0_0 i) (x0 x1 x2 : Vec Ideal S512x1024 .f32) (x3 : Vec Ideal S1x1024 .f32) (s h : Vec Ideal S1x1024 .f32) :
    out0_B_6 (F := Ideal) c i a1 h1 a2 h2 a3 h3 a4 h4 a5 h5 a6 h6 a7 h7 hc x0 x1 x2 x3 s h = k0_pay5 x0 h := by
  unfold out0_B_6
  simp only [View.read_writes_junk_eq_canon]
  unfold kernelRun0_B
  dsimp only
  rw [View.canon_unit_zero hz]
  simp only [View.readAt_eq_ld, h1.read_unread, h2.read_unread, h3.read_unread, h4.read_unread, h6.read_unread, h7.read_unread, View.ld_unit_zero (S := S512x1024) hz, View.ld_unit_zero (S := S1x1024) hz]

end

/-- An entry of the sequence's gradient, of the gradient as input, the gradient as residual and the scale. -/
def both (g u s : EReal) : EReal := word 0x3F9837F0#32 * u + g * (1 + s)

theorem pay3_apply (x y : Vec Ideal S512x1024 .f32) (s : Vec Ideal S1x1024 .f32) (i : Fin 512) (j : Fin 1024) :
    k0_pay3 x y s (ix2 i j) = both (x (ix2 i j)) (y (ix2 i j)) (s (ix2 0 j)) := by
  pointwise [k0_pay3]
  rfl

theorem pay4_apply (x y : Vec Ideal S512x1024 .f32) (s : Vec Ideal S1x1024 .f32) (j : Fin 1024) :
    k0_pay4 x y s (ix2 0 j) = s (ix2 0 j) + ∑ k : Fin 512, x (ix2 k j) * y (ix2 k j) := by
  pointwise [k0_pay4]

theorem pay5_apply (x : Vec Ideal S512x1024 .f32) (s : Vec Ideal S1x1024 .f32) (j : Fin 1024) :
    k0_pay5 x s (ix2 0 j) = s (ix2 0 j) + ∑ k : Fin 512, x (ix2 k j) := by
  pointwise [k0_pay5]

theorem pay1_apply (j : Fin 1024) : k0_pay1 (F := Ideal) (ix2 0 j) = 0 := by
  pointwise [k0_pay1]

theorem pay2_apply (j : Fin 1024) : k0_pay2 (F := Ideal) (ix2 0 j) = 0 := by
  pointwise [k0_pay2]

/-- The rows of a point, summed for the scale's gradient. -/
def scale (q : Fin 8) (j : Fin 1024) : EReal :=
  ∑ k : Fin 512, G m c (ix2 ⟨512 * q.val + k.val, by omega⟩ j) * X m c (ix2 ⟨512 * q.val + k.val, by omega⟩ j)

/-- The rows of a point, summed for the shift's gradient. -/
def shift (q : Fin 8) (j : Fin 1024) : EReal :=
  ∑ k : Fin 512, G m c (ix2 ⟨512 * q.val + k.val, by omega⟩ j)

theorem scale_eq (t : Fin cfg0.N) (h : t.val < 8) (j : Fin 1024) :
    ∀ x y : Vec Ideal S512x1024 .f32, x = iblk m c 0 t → y = iblk m c 2 t →
      ∑ k : Fin 512, x (ix2 k j) * y (ix2 k j) = scale m c ⟨t.val, h⟩ j := by
  rintro x y rfl rfl
  exact Finset.sum_congr rfl fun k _ => congrArg₂ (· * ·) (b0 m c t k j (by omega)) (b2 m c t k j (by omega))

theorem shift_eq (t : Fin cfg0.N) (h : t.val < 8) (j : Fin 1024) :
    ∀ x : Vec Ideal S512x1024 .f32, x = iblk m c 0 t → ∑ k : Fin 512, x (ix2 k j) = shift m c ⟨t.val, h⟩ j := by
  rintro x rfl
  exact Finset.sum_congr rfl fun k _ => b0 m c t k j (by omega)

/-- A point's block of the sequence's gradient, whichever point it is. -/
theorem rows_apply (t : Fin cfg0.N) (i : Fin 512) (j : Fin 1024) (h : 512 * t.val + i.val < 4096) :
    (outsAt0 m c t.val t.isLt).1 (ix2 i j)
      = both (G m c (ix2 ⟨512 * t.val + i.val, h⟩ j)) (U m c (ix2 ⟨512 * t.val + i.val, h⟩ j)) (S m c (ix2 0 j)) := by
  have k : (outsAt0 m c t.val t.isLt).1 = k0_pay3 (iblk m c 0 t) (iblk m c 1 t) (iblk m c 3 t) := by
    by_cases h0 : t.val % 8 = 0
    · have e := outsAt0_A m c t h0
      rw [tieA4] at e
      exact congrArg Prod.fst e
    · have e := outsAt0_B m c t h0
      rw [tieB4] at e
      exact congrArg Prod.fst e
  rw [k]
  refine (pay3_apply _ _ _ i j).trans ?_
  rw [b0 m c t i j h, b1 m c t i j h, b3 m c t j]

/-- After point `n` the scale's gradient is the sum of the rows of the points so far. -/
theorem scale_sofar (j : Fin 1024) : ∀ (n : ℕ) (hn : n < cfg0.N) (h8 : n < 8),
    (outsAt0 m c n hn).2.1 (ix2 0 j) = ∑ q : Fin (n + 1), scale m c ⟨q.val, by omega⟩ j := by
  intro n
  induction n with
  | zero =>
    intro hn h8
    have e := outsAt0_A m c ⟨0, hn⟩ rfl
    rw [tieA5] at e
    refine (congrFun (congrArg (fun o => o.2.1) e) _).trans ?_
    refine (pay4_apply _ _ _ j).trans ?_
    rw [pay1_apply, zero_add, scale_eq m c ⟨0, hn⟩ h8 j _ _ rfl rfl, Fin.sum_univ_one]
    rfl
  | succ n ih =>
    intro hn h8
    have e := outsAt0_B m c ⟨n + 1, hn⟩ (by show ¬(n + 1) % 8 = 0; omega)
    rw [tieB5] at e
    refine (congrFun (congrArg (fun o => o.2.1) e) _).trans ?_
    refine (pay4_apply _ _ _ j).trans ?_
    rw [scale_eq m c ⟨n + 1, hn⟩ h8 j _ _ rfl rfl, Fin.sum_univ_castSucc]
    exact congrArg (· + _) (ih (Nat.lt_of_succ_lt hn) (by omega))

/-- After point `n` the shift's gradient is the sum of the rows of the points so far. -/
theorem shift_sofar (j : Fin 1024) : ∀ (n : ℕ) (hn : n < cfg0.N) (h8 : n < 8),
    (outsAt0 m c n hn).2.2 (ix2 0 j) = ∑ q : Fin (n + 1), shift m c ⟨q.val, by omega⟩ j := by
  intro n
  induction n with
  | zero =>
    intro hn h8
    have e := outsAt0_A m c ⟨0, hn⟩ rfl
    rw [tieA6] at e
    refine (congrFun (congrArg (fun o => o.2.2) e) _).trans ?_
    refine (pay5_apply _ _ j).trans ?_
    rw [pay2_apply, zero_add, shift_eq m c ⟨0, hn⟩ h8 j _ rfl, Fin.sum_univ_one]
    rfl
  | succ n ih =>
    intro hn h8
    have e := outsAt0_B m c ⟨n + 1, hn⟩ (by show ¬(n + 1) % 8 = 0; omega)
    rw [tieB6] at e
    refine (congrFun (congrArg (fun o => o.2.2) e) _).trans ?_
    refine (pay5_apply _ _ j).trans ?_
    rw [shift_eq m c ⟨n + 1, hn⟩ h8 j _ rfl, Fin.sum_univ_castSucc]
    exact congrArg (· + _) (ih (Nat.lt_of_succ_lt hn) (by omega))

/-! ## The results after the run -/

theorem value4 (i : Fin 4096) (j : Fin 1024) :
    (dats m 0 c).arrAt 4 cfg0.N (ix2 i j) = both (G m c (ix2 i j)) (U m c (ix2 i j)) (S m c (ix2 0 j)) := by
  have h := (dats m 0 c).arrAt_eq_of_covers 4 (fun x => (both (G m c (ix2 (x 0) (x 1))) (U m c (ix2 (x 0) (x 1))) (S m c (ix2 0 (x 1))) : EReal)) (by decide +kernel) fun t hf y => by
    have ht : t.val < 8 := lt_of_lt_of_eq t.isLt N_0
    idx_vars y
    have p := emb4 t y0 y1 (by omega)
    blk_simp [w4 t]
    rw [after0_4, p]
    exact rows_apply m c t y0 y1 (by omega)
  rw [h]
  rfl

theorem scale_all (j : Fin 1024) : ∑ q : Fin (7 + 1), scale m c ⟨q.val, q.isLt⟩ j = ∑ k : Fin 4096, G m c (ix2 k j) * X m c (ix2 k j) := by
  rw [Cert.Mlp.sum_parts 8 512 rfl]
  exact Finset.sum_congr rfl fun q _ => Finset.sum_congr rfl fun k _ => rfl

theorem scale_last (j : Fin 1024) (n : ℕ) (hn : n < cfg0.N) (h : n = 7) :
    (outsAt0 m c n hn).2.1 (ix2 0 j) = ∑ k : Fin 4096, G m c (ix2 k j) * X m c (ix2 k j) := by
  subst h
  exact (scale_sofar m c j 7 hn (by decide)).trans (scale_all m c j)

theorem value5 (j : Fin 1024) :
    (dats m 0 c).arrAt 5 cfg0.N (ix2 0 j) = ∑ k : Fin 4096, G m c (ix2 k j) * X m c (ix2 k j) := by
  have h := (dats m 0 c).arrAt_eq_of_covers 5 (fun x => (∑ k : Fin 4096, G m c (ix2 k (x 1)) * X m c (ix2 k (x 1)) : EReal)) (by decide +kernel) fun t hf y => by
    idx_vars y
    obtain rfl : y0 = 0 := Subsingleton.elim _ _
    have p := emb5 t 0 y1
    blk_simp [w5 t]
    rw [after0_5, p]
    exact scale_last m c y1 t.val t.isLt (by have := (flush0_5 t).mp hf; have := lt_of_lt_of_eq t.isLt N_0; omega)
  rw [h]
  rfl

theorem shift_all (j : Fin 1024) : ∑ q : Fin (7 + 1), shift m c ⟨q.val, q.isLt⟩ j = ∑ k : Fin 4096, G m c (ix2 k j) := by
  rw [Cert.Mlp.sum_parts 8 512 rfl]
  exact Finset.sum_congr rfl fun q _ => Finset.sum_congr rfl fun k _ => rfl

theorem shift_last (j : Fin 1024) (n : ℕ) (hn : n < cfg0.N) (h : n = 7) :
    (outsAt0 m c n hn).2.2 (ix2 0 j) = ∑ k : Fin 4096, G m c (ix2 k j) := by
  subst h
  exact (shift_sofar m c j 7 hn (by decide)).trans (shift_all m c j)

theorem value6 (j : Fin 1024) :
    (dats m 0 c).arrAt 6 cfg0.N (ix2 0 j) = ∑ k : Fin 4096, G m c (ix2 k j) := by
  have h := (dats m 0 c).arrAt_eq_of_covers 6 (fun x => (∑ k : Fin 4096, G m c (ix2 k (x 1)) : EReal)) (by decide +kernel) fun t hf y => by
    idx_vars y
    obtain rfl : y0 = 0 := Subsingleton.elim _ _
    have p := emb6 t 0 y1
    blk_simp [w6 t]
    rw [after0_6, p]
    exact shift_last m c y1 t.val t.isLt (by have := (flush0_6 t).mp hf; have := lt_of_lt_of_eq t.isLt N_0; omega)
  rw [h]
  rfl

/-! ## The reference -/

section
variable (x0 : FVec Ideal S4096x1024 .f32) (x1 : FVec Ideal S1x1024 .f32) (x3 x4 : FVec Ideal S4096x1024 .f32)

theorem ref_rows (i : Fin 4096) (j : Fin 1024) :
    val_main_v18 (F := Ideal) x1 x3 x4 (ix2 i j) = both (x3 (ix2 i j)) (x4 (ix2 i j)) (x1 (ix2 0 j)) := by
  pointwise [val_main_v18, val_main_v17, val_main_v16, val_main_v15, val_main_v14, val_main_v8, val_main_v3, val_main_v2, val_main_cst_0, val_main_cst_3]
  exact add_comm (_ : EReal) _

theorem ref_scale (j : Fin 1024) : val_main_v13 (F := Ideal) x0 x3 (ix2 0 j) = ∑ k : Fin 4096, x3 (ix2 k j) * x0 (ix2 k j) := by
  pointwise [val_main_v13, val_main_v12, val_main_v11, val_main_v8, val_main_cst_2]
  exact Finset.sum_congr rfl fun k _ => mul_comm (_ : EReal) _

theorem ref_shift (j : Fin 1024) : val_main_v10 (F := Ideal) x3 (ix2 0 j) = ∑ k : Fin 4096, x3 (ix2 k j) := by
  pointwise [val_main_v10, val_main_v9, val_main_v8, val_main_cst_1]
end

section
variable {x0 : FVec Ideal S4096x1024 .f32} {x1 : FVec Ideal S1x1024 .f32} {x3 x4 : FVec Ideal S4096x1024 .f32}

theorem rows_result (e1 : x1 = m ((c : Thread nD τ).loc main_arg1)) (e3 : x3 = m ((c : Thread nD τ).loc main_arg3))
    (e4 : x4 = m ((c : Thread nD τ).loc main_arg4)) : val_main_v18 (F := Ideal) x1 x3 x4 = (dats m 0 c).arrAt 4 cfg0.N := by
  have h := value4 m c
  have g := ref_rows x1 x3 x4
  simp only [G, U, S, V_main_arg1, V_main_arg3, V_main_arg4, ← e1, ← e3, ← e4] at h
  generalize (dats m 0 c).arrAt 4 cfg0.N = o at h ⊢
  funext y
  idx_vars y
  exact (g y0 y1).trans (h y0 y1).symm

theorem scale_result (e0 : x0 = m ((c : Thread nD τ).loc main_arg0)) (e3 : x3 = m ((c : Thread nD τ).loc main_arg3)) :
    val_main_v13 (F := Ideal) x0 x3 = (dats m 0 c).arrAt 5 cfg0.N := by
  have h := value5 m c
  have g := ref_scale x0 x3
  simp only [G, X, V_main_arg0, V_main_arg3, ← e0, ← e3] at h
  generalize (dats m 0 c).arrAt 5 cfg0.N = o at h ⊢
  funext y
  idx_vars y
  obtain rfl : y0 = 0 := Subsingleton.elim _ _
  exact (g y1).trans (h y1).symm

theorem shift_result (e3 : x3 = m ((c : Thread nD τ).loc main_arg3)) :
    val_main_v10 (F := Ideal) x3 = (dats m 0 c).arrAt 6 cfg0.N := by
  have h := value6 m c
  have g := ref_shift x3
  simp only [G, V_main_arg3, ← e3] at h
  generalize (dats m 0 c).arrAt 6 cfg0.N = o at h ⊢
  funext y
  idx_vars y
  obtain rfl : y0 = 0 := Subsingleton.elim _ _
  exact (g y1).trans (h y1).symm
end

end Cert.Row.InputGrad
end
-- ==== Proof.Row.Adam.lean ====
/- One AdamW step of one number, and the sum of eight gradients, as the update calls and their references compute them. -/
module

public import proofs.«01_k».proof.Proof.Mlp.Square

@[expose] public section

noncomputable section

namespace Cert.Row

open Idealize.ShloMosaic

/-- The number of a float word. -/
abbrev word (b : BitVec 32) : EReal := FloatOps.ofBits (F := Ideal) .f32 b

/-- The new first moment: `0.9 m + 0.1 g`. -/
def first (m g : EReal) : EReal := word 0x3F666666#32 * m + word 0x3DCCCCCD#32 * g

/-- The new second moment: `0.999 v + 0.001 g²`. -/
def second (v g : EReal) : EReal := word 0x3F7FBE77#32 * v + word 0x3A83126F#32 * (g * g)

/-- The change of a weight: minus the rate times the corrected moments' quotient and the decayed weight. -/
def change (w m v g : EReal) : EReal :=
  word 0xBA83126F#32 * (Ideal.div (Ideal.div (first m g) (word 0x3F26BD02#32))
    (Ideal.sqrt (Ideal.div (second v g) (word 0x3C231ACC#32)) + word 0x322BCC77#32) + word 0x3C23D70A#32 * w)

end Cert.Row
end
-- ==== Proof.Row.Modulate.lean ====
/- A sequence's rows scaled and shifted for the mixer: what the grid leaves in its result, and that the reference computes it. -/
module

public import proofs.«01_k».proof.Proof.Row.Adam
public import proofs.«01_k».proof.Proof.Gen.ModulateIdeal.Value
public import proofs.«01_k».proof.Proof.Gen.ModulateRefIdeal.Read
public import Idealize.ShloMosaic.Lib.StableHlo.ReadAt

@[expose] public section

set_option maxRecDepth 16384

noncomputable section

namespace Cert.Row.Modulate

open Cert.ModulateIdeal Cert.ModulateIdeal.Gen Idealize.ShloMosaic Idealize.ShloMosaic.TcCoe
open Cert.ModulateRefIdeal.Read

variable (m : (ℓ : Loc nD τ sig) → Buf (Elt Ideal) ℓ) (c : Dev nD)

/-- An entry of a row, scaled by one and its column's scale, and shifted. -/
def scaled (x s h : EReal) : EReal := x * (1 + s) + h

@[irreducible] def X : FVec Ideal S4096x1024 .f32 := V m c main_arg0
@[irreducible] def S : FVec Ideal S1x1024 .f32 := V m c main_arg1
@[irreducible] def H : FVec Ideal S1x1024 .f32 := V m c main_arg2

/-! ## The blocks of a point -/

theorem w0 : ∀ t : Fin cfg0.N, win0_0.index t = ![t.val, 0] := by decide +kernel
theorem w1 : ∀ t : Fin cfg0.N, win0_1.index t = ![0, 0] := by decide +kernel
theorem w2 : ∀ t : Fin cfg0.N, win0_2.index t = ![0, 0] := by decide +kernel
theorem w3 : ∀ t : Fin cfg0.N, win0_3.index t = ![t.val, 0] := by decide +kernel

theorem b0 (t : Fin cfg0.N) (r : Fin 512) (k : Fin 1024) (h : 512 * t.val + r.val < 4096) :
    (iblk m c 0 t : Vec Ideal S512x1024 .f32) (ix2 r k) = X m c (ix2 ⟨512 * t.val + r.val, h⟩ k) := by
  unfold X; blk_ext [iblk, w0 t]

theorem b1 (t : Fin cfg0.N) (k : Fin 1024) :
    (iblk m c 1 t : Vec Ideal S1x1024 .f32) (ix2 0 k) = S m c (ix2 0 k) := by
  unfold S; blk_ext [iblk, w1 t]

theorem b2 (t : Fin cfg0.N) (k : Fin 1024) :
    (iblk m c 2 t : Vec Ideal S1x1024 .f32) (ix2 0 k) = H m c (ix2 0 k) := by
  unfold H; blk_ext [iblk, w2 t]

theorem emb3 (t : Fin cfg0.N) (r : Fin 512) (k : Fin 1024) (h : 512 * t.val + r.val < 4096) :
    ((View.whole main_v0).slice (win0_3.rect t)).emb (ix2 r k) = ix2 ⟨512 * t.val + r.val, h⟩ k := by
  have e := w3 t
  funext a; fin_cases a
  · refine Fin.ext (show win0_3.index t 0 * 512 + 1 * r.val = 512 * t.val + r.val from ?_)
    rw [e]; show t.val * 512 + 1 * r.val = _; omega
  · refine Fin.ext (show win0_3.index t 1 * 1024 + 1 * k.val = k.val from ?_)
    rw [e]; show 0 * 1024 + 1 * k.val = _; omega

theorem hz : (![0, 0] : Fin 2 → Nat) = fun _ => 0 := funext fun a => by fin_cases a <;> rfl

/-! ## What the body leaves in its output block -/

theorem out3 (x : Vec Ideal S512x1024 .f32) (s h : Vec Ideal S1x1024 .f32) (i : Fin 512) (j : Fin 1024) :
    out0_3 (F := Ideal) x s h (ix2 i j) = scaled (x (ix2 i j)) (s (ix2 0 j)) (h (ix2 0 j)) := by
  unfold out0_3
  rw [View.canon_unit_zero hz]
  simp only [View.ld_unit_zero (S := S512x1024) hz, View.ld_unit_zero (S := S1x1024) hz]
  pointwise [k0_pay1]
  rfl

/-- The result after the run, at an index. -/
theorem value (i : Fin 4096) (j : Fin 1024) :
    (dats m 0 c).arrAt 3 cfg0.N (ix2 i j) = scaled (X m c (ix2 i j)) (S m c (ix2 0 j)) (H m c (ix2 0 j)) := by
  have h := (dats m 0 c).arrAt_eq_of_covers 3 (fun x => (scaled (X m c (ix2 (x 0) (x 1))) (S m c (ix2 0 (x 1))) (H m c (ix2 0 (x 1))) : EReal)) (by decide +kernel) fun t hf y => by
    have ht : t.val < 8 := lt_of_lt_of_eq t.isLt N_0
    idx_vars y
    have p := emb3 t y0 y1 (by omega)
    blk_simp [w3 t]
    rw [after0_3, p]
    refine (out3 _ _ _ y0 y1).trans ?_
    rw [b0 m c t y0 y1 (by omega), b1 m c t y1, b2 m c t y1]
    rfl
  rw [h]
  rfl

/-! ## The reference -/

theorem ref_value (x0 : FVec Ideal S4096x1024 .f32) (x1 x2 : FVec Ideal S1x1024 .f32) (i : Fin 4096) (j : Fin 1024) :
    val_main_v8 (F := Ideal) x0 x1 x2 (ix2 i j) = scaled (x0 (ix2 i j)) (x1 (ix2 0 j)) (x2 (ix2 0 j)) := by
  pointwise [val_main_v8, val_main_v7, val_main_v6, val_main_v5, val_main_v4, val_main_v3, val_main_v2, val_main_cst_0]
  rfl

/-- The reference's result is what the grid leaves. -/
theorem result_eq {x0 : FVec Ideal S4096x1024 .f32} {x1 x2 : FVec Ideal S1x1024 .f32} (e0 : x0 = m ((c : Thread nD τ).loc main_arg0))
    (e1 : x1 = m ((c : Thread nD τ).loc main_arg1)) (e2 : x2 = m ((c : Thread nD τ).loc main_arg2)) :
    val_main_v8 (F := Ideal) x0 x1 x2 = (dats m 0 c).arrAt 3 cfg0.N := by
  have h := value m c
  have g := ref_value x0 x1 x2
  simp only [X, S, H, V_main_arg0, V_main_arg1, V_main_arg2, ← e0, ← e1, ← e2] at h
  generalize (dats m 0 c).arrAt 3 cfg0.N = o at h ⊢
  funext y
  idx_vars y
  exact (g y0 y1).trans (h y0 y1).symm

end Cert.Row.Modulate
end
-- ==== Proof.Row.UpFfIn.lean ====
/- AdamW of a device's columns of the feed forward part's first weight: what the grid leaves in its four results, and that the
   reference computes them. -/
module

public import proofs.«01_k».proof.Proof.Row.Adam
public import proofs.«01_k».proof.Proof.Gen.UpFfInIdeal.Value
public import proofs.«01_k».proof.Proof.Gen.UpFfInRefIdeal.Read
public import Idealize.ShloMosaic.Lib.StableHlo.ReadAt

@[expose] public section

set_option maxRecDepth 16384

noncomputable section

namespace Cert.Row.UpFfIn

open Cert.UpFfInIdeal Cert.UpFfInIdeal.Gen Idealize.ShloMosaic Idealize.ShloMosaic.TcCoe
open Cert.UpFfInRefIdeal.Read

variable (m : (ℓ : Loc nD τ sig) → Buf (Elt Ideal) ℓ) (c : Dev nD)

@[irreducible] def W : FVec Ideal S1024x512 .f32 := V m c main_arg0
@[irreducible] def G : FVec Ideal S8x1024x512 .bf16 := V m c main_arg1
@[irreducible] def M : FVec Ideal S1024x512 .f32 := V m c main_arg2
@[irreducible] def Q : FVec Ideal S1024x512 .f32 := V m c main_arg3

/-! ## The blocks of a point -/

theorem w0 : ∀ t : Fin cfg0.N, win0_0.index t = ![t.val, 0] := by decide +kernel
theorem w1 : ∀ t : Fin cfg0.N, win0_1.index t = ![0, t.val, 0] := by decide +kernel
theorem w2 : ∀ t : Fin cfg0.N, win0_2.index t = ![t.val, 0] := by decide +kernel
theorem w3 : ∀ t : Fin cfg0.N, win0_3.index t = ![t.val, 0] := by decide +kernel
theorem w4 : ∀ t : Fin cfg0.N, win0_4.index t = ![t.val, 0] := by decide +kernel
theorem w5 : ∀ t : Fin cfg0.N, win0_5.index t = ![t.val, 0] := by decide +kernel
theorem w6 : ∀ t : Fin cfg0.N, win0_6.index t = ![t.val, 0] := by decide +kernel
theorem w7 : ∀ t : Fin cfg0.N, win0_7.index t = ![t.val, 0] := by decide +kernel

theorem b0 (t : Fin cfg0.N) (r : Fin 256) (k : Fin 512) (h : 256 * t.val + r.val < 1024) :
    (iblk m c 0 t : Vec Ideal S256x512 .f32) (ix2 r k) = W m c (ix2 ⟨256 * t.val + r.val, h⟩ k) := by
  unfold W; blk_ext [iblk, w0 t]

theorem b1 (t : Fin cfg0.N) (q : Fin 8) (r : Fin 256) (k : Fin 512) (h : 256 * t.val + r.val < 1024) :
    (iblk m c 1 t : Vec Ideal S8x256x512 .bf16) (ix3 q r k) = G m c (ix3 q ⟨256 * t.val + r.val, h⟩ k) := by
  unfold G; blk_ext [iblk, w1 t]

theorem b2 (t : Fin cfg0.N) (r : Fin 256) (k : Fin 512) (h : 256 * t.val + r.val < 1024) :
    (iblk m c 2 t : Vec Ideal S256x512 .f32) (ix2 r k) = M m c (ix2 ⟨256 * t.val + r.val, h⟩ k) := by
  unfold M; blk_ext [iblk, w2 t]

theorem b3 (t : Fin cfg0.N) (r : Fin 256) (k : Fin 512) (h : 256 * t.val + r.val < 1024) :
    (iblk m c 3 t : Vec Ideal S256x512 .f32) (ix2 r k) = Q m c (ix2 ⟨256 * t.val + r.val, h⟩ k) := by
  unfold Q; blk_ext [iblk, w3 t]

theorem hz : (![0, 0] : Fin 2 → Nat) = fun _ => 0 := funext fun a => by fin_cases a <;> rfl

/-! ## What the body leaves in its output blocks -/

section
variable (w : Vec Ideal S256x512 .f32) (g : Vec Ideal S8x256x512 .bf16) (p q : Vec Ideal S256x512 .f32) (i : Fin 256) (j : Fin 512)

theorem sum_apply : k0_pay5 w g p q (ix2 i j) = ∑ k : Fin 8, g (ix3 k i j) := by
  unfold k0_pay5
  rw [Fin.sum_univ_eight]
  pointwise [k0_pay4]

theorem out4 : out0_4 w g p q (ix2 i j) = ∑ k : Fin 8, g (ix3 k i j) := by
  refine Eq.trans ?_ (sum_apply w g p q i j)
  unfold out0_4
  rw [View.canon_unit_zero hz]
  rfl

theorem out5 : out0_5 w g p q (ix2 i j) = change (w (ix2 i j)) (p (ix2 i j)) (q (ix2 i j)) (∑ k : Fin 8, g (ix3 k i j)) := by
  rw [← sum_apply w g p q i j]
  unfold out0_5
  rw [View.canon_unit_zero hz]
  simp only [View.ld_unit_zero (S := S256x512) hz]
  generalize k0_pay5 w g p q = s
  pointwise [k0_pay3, k0_pay1, k0_pay2]
  rfl

theorem out6 : out0_6 w g p q (ix2 i j) = first (p (ix2 i j)) (∑ k : Fin 8, g (ix3 k i j)) := by
  rw [← sum_apply w g p q i j]
  unfold out0_6
  rw [View.canon_unit_zero hz]
  simp only [View.ld_unit_zero (S := S256x512) hz]
  generalize k0_pay5 w g p q = s
  pointwise [k0_pay1]
  rfl

theorem out7 : out0_7 w g p q (ix2 i j) = second (q (ix2 i j)) (∑ k : Fin 8, g (ix3 k i j)) := by
  rw [← sum_apply w g p q i j]
  unfold out0_7
  rw [View.canon_unit_zero hz]
  simp only [View.ld_unit_zero (S := S256x512) hz]
  generalize k0_pay5 w g p q = s
  pointwise [k0_pay2]
  rfl
end

/-! ## The results after the run -/

theorem emb4 (t : Fin cfg0.N) (r : Fin 256) (k : Fin 512) (h : 256 * t.val + r.val < 1024) :
    ((View.whole main_v0_0).slice (win0_4.rect t)).emb (ix2 r k) = ix2 ⟨256 * t.val + r.val, h⟩ k := by
  have e := w4 t
  funext a; fin_cases a
  · refine Fin.ext (show win0_4.index t 0 * 256 + 1 * r.val = 256 * t.val + r.val from ?_)
    rw [e]; show t.val * 256 + 1 * r.val = _; omega
  · refine Fin.ext (show win0_4.index t 1 * 512 + 1 * k.val = k.val from ?_)
    rw [e]; show 0 * 512 + 1 * k.val = _; omega

theorem emb5 (t : Fin cfg0.N) (r : Fin 256) (k : Fin 512) (h : 256 * t.val + r.val < 1024) :
    ((View.whole main_v0_1).slice (win0_5.rect t)).emb (ix2 r k) = ix2 ⟨256 * t.val + r.val, h⟩ k := by
  have e := w5 t
  funext a; fin_cases a
  · refine Fin.ext (show win0_5.index t 0 * 256 + 1 * r.val = 256 * t.val + r.val from ?_)
    rw [e]; show t.val * 256 + 1 * r.val = _; omega
  · refine Fin.ext (show win0_5.index t 1 * 512 + 1 * k.val = k.val from ?_)
    rw [e]; show 0 * 512 + 1 * k.val = _; omega

theorem emb6 (t : Fin cfg0.N) (r : Fin 256) (k : Fin 512) (h : 256 * t.val + r.val < 1024) :
    ((View.whole main_v0_2).slice (win0_6.rect t)).emb (ix2 r k) = ix2 ⟨256 * t.val + r.val, h⟩ k := by
  have e := w6 t
  funext a; fin_cases a
  · refine Fin.ext (show win0_6.index t 0 * 256 + 1 * r.val = 256 * t.val + r.val from ?_)
    rw [e]; show t.val * 256 + 1 * r.val = _; omega
  · refine Fin.ext (show win0_6.index t 1 * 512 + 1 * k.val = k.val from ?_)
    rw [e]; show 0 * 512 + 1 * k.val = _; omega

theorem emb7 (t : Fin cfg0.N) (r : Fin 256) (k : Fin 512) (h : 256 * t.val + r.val < 1024) :
    ((View.whole main_v0_3).slice (win0_7.rect t)).emb (ix2 r k) = ix2 ⟨256 * t.val + r.val, h⟩ k := by
  have e := w7 t
  funext a; fin_cases a
  · refine Fin.ext (show win0_7.index t 0 * 256 + 1 * r.val = 256 * t.val + r.val from ?_)
    rw [e]; show t.val * 256 + 1 * r.val = _; omega
  · refine Fin.ext (show win0_7.index t 1 * 512 + 1 * k.val = k.val from ?_)
    rw [e]; show 0 * 512 + 1 * k.val = _; omega

/-- The sum of the eight gradients of an entry. -/
def grad (i : Fin 1024) (j : Fin 512) : EReal := ∑ k : Fin 8, G m c (ix3 k i j)

theorem grad_eq (t : Fin cfg0.N) (i : Fin 256) (j : Fin 512) (h : 256 * t.val + i.val < 1024) :
    ∀ g : Vec Ideal S8x256x512 .bf16, g = iblk m c 1 t → ∑ k : Fin 8, g (ix3 k i j) = grad m c ⟨256 * t.val + i.val, h⟩ j := by
  rintro g rfl
  exact Finset.sum_congr rfl fun k _ => b1 m c t k i j h

theorem value4 (i : Fin 1024) (j : Fin 512) : (dats m 0 c).arrAt 4 cfg0.N (ix2 i j) = grad m c i j := by
  have h := (dats m 0 c).arrAt_eq_of_covers 4 (fun x => (grad m c (x 0) (x 1) : EReal)) (by decide +kernel) fun t hf y => by
    have ht : t.val < 4 := lt_of_lt_of_eq t.isLt N_0
    idx_vars y
    have p := emb4 t y0 y1 (by omega)
    blk_simp [w4 t]
    rw [after0_4, p]
    refine (out4 _ _ _ _ y0 y1).trans ?_
    rw [grad_eq m c t y0 y1 (by omega) _ rfl]
    rfl
  rw [h]
  rfl

theorem value5 (i : Fin 1024) (j : Fin 512) : (dats m 0 c).arrAt 5 cfg0.N (ix2 i j) = change (W m c (ix2 i j)) (M m c (ix2 i j)) (Q m c (ix2 i j)) (grad m c i j) := by
  have h := (dats m 0 c).arrAt_eq_of_covers 5 (fun x => (change (W m c (ix2 (x 0) (x 1))) (M m c (ix2 (x 0) (x 1))) (Q m c (ix2 (x 0) (x 1))) (grad m c (x 0) (x 1)) : EReal)) (by decide +kernel) fun t hf y => by
    have ht : t.val < 4 := lt_of_lt_of_eq t.isLt N_0
    idx_vars y
    have p := emb5 t y0 y1 (by omega)
    blk_simp [w5 t]
    rw [after0_5, p]
    refine (out5 _ _ _ _ y0 y1).trans ?_
    rw [grad_eq m c t y0 y1 (by omega) _ rfl, b0 m c t y0 y1 (by omega), b2 m c t y0 y1 (by omega), b3 m c t y0 y1 (by omega)]
    rfl
  rw [h]
  rfl

theorem value6 (i : Fin 1024) (j : Fin 512) : (dats m 0 c).arrAt 6 cfg0.N (ix2 i j) = first (M m c (ix2 i j)) (grad m c i j) := by
  have h := (dats m 0 c).arrAt_eq_of_covers 6 (fun x => (first (M m c (ix2 (x 0) (x 1))) (grad m c (x 0) (x 1)) : EReal)) (by decide +kernel) fun t hf y => by
    have ht : t.val < 4 := lt_of_lt_of_eq t.isLt N_0
    idx_vars y
    have p := emb6 t y0 y1 (by omega)
    blk_simp [w6 t]
    rw [after0_6, p]
    refine (out6 _ _ _ _ y0 y1).trans ?_
    rw [grad_eq m c t y0 y1 (by omega) _ rfl, b2 m c t y0 y1 (by omega)]
    rfl
  rw [h]
  rfl

theorem value7 (i : Fin 1024) (j : Fin 512) : (dats m 0 c).arrAt 7 cfg0.N (ix2 i j) = second (Q m c (ix2 i j)) (grad m c i j) := by
  have h := (dats m 0 c).arrAt_eq_of_covers 7 (fun x => (second (Q m c (ix2 (x 0) (x 1))) (grad m c (x 0) (x 1)) : EReal)) (by decide +kernel) fun t hf y => by
    have ht : t.val < 4 := lt_of_lt_of_eq t.isLt N_0
    idx_vars y
    have p := emb7 t y0 y1 (by omega)
    blk_simp [w7 t]
    rw [after0_7, p]
    refine (out7 _ _ _ _ y0 y1).trans ?_
    rw [grad_eq m c t y0 y1 (by omega) _ rfl, b3 m c t y0 y1 (by omega)]
    rfl
  rw [h]
  rfl

/-! ## The reference -/

section
variable (x0 : FVec Ideal S1024x512 .f32) (x1 : FVec Ideal S8x1024x512 .bf16) (x2 x3 : FVec Ideal S1024x512 .f32) (i : Fin 1024) (j : Fin 512)

theorem ref_grad : val_main_v1 (F := Ideal) x1 (ix2 i j) = ∑ k : Fin 8, x1 (ix3 k i j) := by
  pointwise [val_main_v1, val_main_v0, val_main_cst]

theorem ref_first : val_main_v6 (F := Ideal) x1 x2 (ix2 i j) = first (x2 (ix2 i j)) (∑ k : Fin 8, x1 (ix3 k i j)) := by
  rw [← ref_grad x1 i j]
  generalize e : val_main_v1 (F := Ideal) x1 = g
  pointwise [val_main_v6, val_main_v5, val_main_v4, val_main_v3, val_main_v2, val_main_cst_0, val_main_cst_1]
  rw [e]
  rfl

theorem ref_second : val_main_v12 (F := Ideal) x1 x3 (ix2 i j) = second (x3 (ix2 i j)) (∑ k : Fin 8, x1 (ix3 k i j)) := by
  rw [← ref_grad x1 i j]
  generalize e : val_main_v1 (F := Ideal) x1 = g
  pointwise [val_main_v12, val_main_v11, val_main_v10, val_main_v9, val_main_v8, val_main_v7, val_main_cst_2, val_main_cst_3]
  rw [e]
  rfl

theorem ref_change : val_main_v25 (F := Ideal) x0 x1 x2 x3 (ix2 i j)
    = change (x0 (ix2 i j)) (x2 (ix2 i j)) (x3 (ix2 i j)) (∑ k : Fin 8, x1 (ix3 k i j)) := by
  unfold change
  rw [← ref_first x1 x2 i j, ← ref_second x1 x3 i j]
  generalize e6 : val_main_v6 (F := Ideal) x1 x2 = p
  generalize e12 : val_main_v12 (F := Ideal) x1 x3 = q
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [e6, e12]
end

/-! ## The reference's results are what the grid leaves -/

section
variable {x0 : FVec Ideal S1024x512 .f32} {x1 : FVec Ideal S8x1024x512 .bf16} {x2 x3 : FVec Ideal S1024x512 .f32}

theorem grad_result (e1 : x1 = m ((c : Thread nD τ).loc main_arg1)) : val_main_v1 (F := Ideal) x1 = (dats m 0 c).arrAt 4 cfg0.N := by
  have h := value4 m c
  have g := ref_grad x1
  simp only [grad, G, V_main_arg1, ← e1] at h
  generalize (dats m 0 c).arrAt 4 cfg0.N = o at h ⊢
  funext y
  idx_vars y
  exact (g y0 y1).trans (h y0 y1).symm

theorem change_result (e0 : x0 = m ((c : Thread nD τ).loc main_arg0)) (e1 : x1 = m ((c : Thread nD τ).loc main_arg1))
    (e2 : x2 = m ((c : Thread nD τ).loc main_arg2)) (e3 : x3 = m ((c : Thread nD τ).loc main_arg3)) :
    val_main_v25 (F := Ideal) x0 x1 x2 x3 = (dats m 0 c).arrAt 5 cfg0.N := by
  have h := value5 m c
  have g := ref_change x0 x1 x2 x3
  simp only [grad, W, G, M, Q, V_main_arg0, V_main_arg1, V_main_arg2, V_main_arg3, ← e0, ← e1, ← e2, ← e3] at h
  generalize (dats m 0 c).arrAt 5 cfg0.N = o at h ⊢
  funext y
  idx_vars y
  exact (g y0 y1).trans (h y0 y1).symm

theorem first_result (e1 : x1 = m ((c : Thread nD τ).loc main_arg1)) (e2 : x2 = m ((c : Thread nD τ).loc main_arg2)) :
    val_main_v6 (F := Ideal) x1 x2 = (dats m 0 c).arrAt 6 cfg0.N := by
  have h := value6 m c
  have g := ref_first x1 x2
  simp only [grad, G, M, V_main_arg1, V_main_arg2, ← e1, ← e2] at h
  generalize (dats m 0 c).arrAt 6 cfg0.N = o at h ⊢
  funext y
  idx_vars y
  exact (g y0 y1).trans (h y0 y1).symm

theorem second_result (e1 : x1 = m ((c : Thread nD τ).loc main_arg1)) (e3 : x3 = m ((c : Thread nD τ).loc main_arg3)) :
    val_main_v12 (F := Ideal) x1 x3 = (dats m 0 c).arrAt 7 cfg0.N := by
  have h := value7 m c
  have g := ref_second x1 x3
  simp only [grad, G, Q, V_main_arg1, V_main_arg3, ← e1, ← e3] at h
  generalize (dats m 0 c).arrAt 7 cfg0.N = o at h ⊢
  funext y
  idx_vars y
  exact (g y0 y1).trans (h y0 y1).symm
end

end Cert.Row.UpFfIn
end
-- ==== Proof.Row.UpFfOut.lean ====
/- AdamW of a device's rows of the feed forward part's second weight: what the grid leaves in its four results, and that the
   reference computes them. -/
module

public import proofs.«01_k».proof.Proof.Row.Adam
public import proofs.«01_k».proof.Proof.Gen.UpFfOutIdeal.Value
public import proofs.«01_k».proof.Proof.Gen.UpFfOutRefIdeal.Read
public import Idealize.ShloMosaic.Lib.StableHlo.ReadAt

@[expose] public section

set_option maxRecDepth 16384

noncomputable section

namespace Cert.Row.UpFfOut

open Cert.UpFfOutIdeal Cert.UpFfOutIdeal.Gen Idealize.ShloMosaic Idealize.ShloMosaic.TcCoe
open Cert.UpFfOutRefIdeal.Read

variable (m : (ℓ : Loc nD τ sig) → Buf (Elt Ideal) ℓ) (c : Dev nD)

@[irreducible] def W : FVec Ideal S512x1024 .f32 := V m c main_arg0
@[irreducible] def G : FVec Ideal S8x512x1024 .bf16 := V m c main_arg1
@[irreducible] def M : FVec Ideal S512x1024 .f32 := V m c main_arg2
@[irreducible] def Q : FVec Ideal S512x1024 .f32 := V m c main_arg3

/-! ## The blocks of a point -/

theorem w0 : ∀ t : Fin cfg0.N, win0_0.index t = ![t.val, 0] := by decide +kernel
theorem w1 : ∀ t : Fin cfg0.N, win0_1.index t = ![0, t.val, 0] := by decide +kernel
theorem w2 : ∀ t : Fin cfg0.N, win0_2.index t = ![t.val, 0] := by decide +kernel
theorem w3 : ∀ t : Fin cfg0.N, win0_3.index t = ![t.val, 0] := by decide +kernel
theorem w4 : ∀ t : Fin cfg0.N, win0_4.index t = ![t.val, 0] := by decide +kernel
theorem w5 : ∀ t : Fin cfg0.N, win0_5.index t = ![t.val, 0] := by decide +kernel
theorem w6 : ∀ t : Fin cfg0.N, win0_6.index t = ![t.val, 0] := by decide +kernel
theorem w7 : ∀ t : Fin cfg0.N, win0_7.index t = ![t.val, 0] := by decide +kernel

theorem b0 (t : Fin cfg0.N) (r : Fin 256) (k : Fin 1024) (h : 256 * t.val + r.val < 512) :
    (iblk m c 0 t : Vec Ideal S256x1024 .f32) (ix2 r k) = W m c (ix2 ⟨256 * t.val + r.val, h⟩ k) := by
  unfold W; blk_ext [iblk, w0 t]

theorem b1 (t : Fin cfg0.N) (q : Fin 8) (r : Fin 256) (k : Fin 1024) (h : 256 * t.val + r.val < 512) :
    (iblk m c 1 t : Vec Ideal S8x256x1024 .bf16) (ix3 q r k) = G m c (ix3 q ⟨256 * t.val + r.val, h⟩ k) := by
  unfold G; blk_ext [iblk, w1 t]

theorem b2 (t : Fin cfg0.N) (r : Fin 256) (k : Fin 1024) (h : 256 * t.val + r.val < 512) :
    (iblk m c 2 t : Vec Ideal S256x1024 .f32) (ix2 r k) = M m c (ix2 ⟨256 * t.val + r.val, h⟩ k) := by
  unfold M; blk_ext [iblk, w2 t]

theorem b3 (t : Fin cfg0.N) (r : Fin 256) (k : Fin 1024) (h : 256 * t.val + r.val < 512) :
    (iblk m c 3 t : Vec Ideal S256x1024 .f32) (ix2 r k) = Q m c (ix2 ⟨256 * t.val + r.val, h⟩ k) := by
  unfold Q; blk_ext [iblk, w3 t]

theorem hz : (![0, 0] : Fin 2 → Nat) = fun _ => 0 := funext fun a => by fin_cases a <;> rfl

/-! ## What the body leaves in its output blocks -/

section
variable (w : Vec Ideal S256x1024 .f32) (g : Vec Ideal S8x256x1024 .bf16) (p q : Vec Ideal S256x1024 .f32) (i : Fin 256) (j : Fin 1024)

theorem sum_apply : k0_pay5 w g p q (ix2 i j) = ∑ k : Fin 8, g (ix3 k i j) := by
  unfold k0_pay5
  rw [Fin.sum_univ_eight]
  pointwise [k0_pay4]

theorem out4 : out0_4 w g p q (ix2 i j) = ∑ k : Fin 8, g (ix3 k i j) := by
  refine Eq.trans ?_ (sum_apply w g p q i j)
  unfold out0_4
  rw [View.canon_unit_zero hz]
  rfl

theorem out5 : out0_5 w g p q (ix2 i j) = change (w (ix2 i j)) (p (ix2 i j)) (q (ix2 i j)) (∑ k : Fin 8, g (ix3 k i j)) := by
  rw [← sum_apply w g p q i j]
  unfold out0_5
  rw [View.canon_unit_zero hz]
  simp only [View.ld_unit_zero (S := S256x1024) hz]
  generalize k0_pay5 w g p q = s
  pointwise [k0_pay3, k0_pay1, k0_pay2]
  rfl

theorem out6 : out0_6 w g p q (ix2 i j) = first (p (ix2 i j)) (∑ k : Fin 8, g (ix3 k i j)) := by
  rw [← sum_apply w g p q i j]
  unfold out0_6
  rw [View.canon_unit_zero hz]
  simp only [View.ld_unit_zero (S := S256x1024) hz]
  generalize k0_pay5 w g p q = s
  pointwise [k0_pay1]
  rfl

theorem out7 : out0_7 w g p q (ix2 i j) = second (q (ix2 i j)) (∑ k : Fin 8, g (ix3 k i j)) := by
  rw [← sum_apply w g p q i j]
  unfold out0_7
  rw [View.canon_unit_zero hz]
  simp only [View.ld_unit_zero (S := S256x1024) hz]
  generalize k0_pay5 w g p q = s
  pointwise [k0_pay2]
  rfl
end

/-! ## The results after the run -/

theorem emb4 (t : Fin cfg0.N) (r : Fin 256) (k : Fin 1024) (h : 256 * t.val + r.val < 512) :
    ((View.whole main_v0_0).slice (win0_4.rect t)).emb (ix2 r k) = ix2 ⟨256 * t.val + r.val, h⟩ k := by
  have e := w4 t
  funext a; fin_cases a
  · refine Fin.ext (show win0_4.index t 0 * 256 + 1 * r.val = 256 * t.val + r.val from ?_)
    rw [e]; show t.val * 256 + 1 * r.val = _; omega
  · refine Fin.ext (show win0_4.index t 1 * 1024 + 1 * k.val = k.val from ?_)
    rw [e]; show 0 * 1024 + 1 * k.val = _; omega

theorem emb5 (t : Fin cfg0.N) (r : Fin 256) (k : Fin 1024) (h : 256 * t.val + r.val < 512) :
    ((View.whole main_v0_1).slice (win0_5.rect t)).emb (ix2 r k) = ix2 ⟨256 * t.val + r.val, h⟩ k := by
  have e := w5 t
  funext a; fin_cases a
  · refine Fin.ext (show win0_5.index t 0 * 256 + 1 * r.val = 256 * t.val + r.val from ?_)
    rw [e]; show t.val * 256 + 1 * r.val = _; omega
  · refine Fin.ext (show win0_5.index t 1 * 1024 + 1 * k.val = k.val from ?_)
    rw [e]; show 0 * 1024 + 1 * k.val = _; omega

theorem emb6 (t : Fin cfg0.N) (r : Fin 256) (k : Fin 1024) (h : 256 * t.val + r.val < 512) :
    ((View.whole main_v0_2).slice (win0_6.rect t)).emb (ix2 r k) = ix2 ⟨256 * t.val + r.val, h⟩ k := by
  have e := w6 t
  funext a; fin_cases a
  · refine Fin.ext (show win0_6.index t 0 * 256 + 1 * r.val = 256 * t.val + r.val from ?_)
    rw [e]; show t.val * 256 + 1 * r.val = _; omega
  · refine Fin.ext (show win0_6.index t 1 * 1024 + 1 * k.val = k.val from ?_)
    rw [e]; show 0 * 1024 + 1 * k.val = _; omega

theorem emb7 (t : Fin cfg0.N) (r : Fin 256) (k : Fin 1024) (h : 256 * t.val + r.val < 512) :
    ((View.whole main_v0_3).slice (win0_7.rect t)).emb (ix2 r k) = ix2 ⟨256 * t.val + r.val, h⟩ k := by
  have e := w7 t
  funext a; fin_cases a
  · refine Fin.ext (show win0_7.index t 0 * 256 + 1 * r.val = 256 * t.val + r.val from ?_)
    rw [e]; show t.val * 256 + 1 * r.val = _; omega
  · refine Fin.ext (show win0_7.index t 1 * 1024 + 1 * k.val = k.val from ?_)
    rw [e]; show 0 * 1024 + 1 * k.val = _; omega

/-- The sum of the eight gradients of an entry. -/
def grad (i : Fin 512) (j : Fin 1024) : EReal := ∑ k : Fin 8, G m c (ix3 k i j)

theorem grad_eq (t : Fin cfg0.N) (i : Fin 256) (j : Fin 1024) (h : 256 * t.val + i.val < 512) :
    ∀ g : Vec Ideal S8x256x1024 .bf16, g = iblk m c 1 t → ∑ k : Fin 8, g (ix3 k i j) = grad m c ⟨256 * t.val + i.val, h⟩ j := by
  rintro g rfl
  exact Finset.sum_congr rfl fun k _ => b1 m c t k i j h

theorem value4 (i : Fin 512) (j : Fin 1024) : (dats m 0 c).arrAt 4 cfg0.N (ix2 i j) = grad m c i j := by
  have h := (dats m 0 c).arrAt_eq_of_covers 4 (fun x => (grad m c (x 0) (x 1) : EReal)) (by decide +kernel) fun t hf y => by
    have ht : t.val < 2 := lt_of_lt_of_eq t.isLt N_0
    idx_vars y
    have p := emb4 t y0 y1 (by omega)
    blk_simp [w4 t]
    rw [after0_4, p]
    refine (out4 _ _ _ _ y0 y1).trans ?_
    rw [grad_eq m c t y0 y1 (by omega) _ rfl]
    rfl
  rw [h]
  rfl

theorem value5 (i : Fin 512) (j : Fin 1024) : (dats m 0 c).arrAt 5 cfg0.N (ix2 i j) = change (W m c (ix2 i j)) (M m c (ix2 i j)) (Q m c (ix2 i j)) (grad m c i j) := by
  have h := (dats m 0 c).arrAt_eq_of_covers 5 (fun x => (change (W m c (ix2 (x 0) (x 1))) (M m c (ix2 (x 0) (x 1))) (Q m c (ix2 (x 0) (x 1))) (grad m c (x 0) (x 1)) : EReal)) (by decide +kernel) fun t hf y => by
    have ht : t.val < 2 := lt_of_lt_of_eq t.isLt N_0
    idx_vars y
    have p := emb5 t y0 y1 (by omega)
    blk_simp [w5 t]
    rw [after0_5, p]
    refine (out5 _ _ _ _ y0 y1).trans ?_
    rw [grad_eq m c t y0 y1 (by omega) _ rfl, b0 m c t y0 y1 (by omega), b2 m c t y0 y1 (by omega), b3 m c t y0 y1 (by omega)]
    rfl
  rw [h]
  rfl

theorem value6 (i : Fin 512) (j : Fin 1024) : (dats m 0 c).arrAt 6 cfg0.N (ix2 i j) = first (M m c (ix2 i j)) (grad m c i j) := by
  have h := (dats m 0 c).arrAt_eq_of_covers 6 (fun x => (first (M m c (ix2 (x 0) (x 1))) (grad m c (x 0) (x 1)) : EReal)) (by decide +kernel) fun t hf y => by
    have ht : t.val < 2 := lt_of_lt_of_eq t.isLt N_0
    idx_vars y
    have p := emb6 t y0 y1 (by omega)
    blk_simp [w6 t]
    rw [after0_6, p]
    refine (out6 _ _ _ _ y0 y1).trans ?_
    rw [grad_eq m c t y0 y1 (by omega) _ rfl, b2 m c t y0 y1 (by omega)]
    rfl
  rw [h]
  rfl

theorem value7 (i : Fin 512) (j : Fin 1024) : (dats m 0 c).arrAt 7 cfg0.N (ix2 i j) = second (Q m c (ix2 i j)) (grad m c i j) := by
  have h := (dats m 0 c).arrAt_eq_of_covers 7 (fun x => (second (Q m c (ix2 (x 0) (x 1))) (grad m c (x 0) (x 1)) : EReal)) (by decide +kernel) fun t hf y => by
    have ht : t.val < 2 := lt_of_lt_of_eq t.isLt N_0
    idx_vars y
    have p := emb7 t y0 y1 (by omega)
    blk_simp [w7 t]
    rw [after0_7, p]
    refine (out7 _ _ _ _ y0 y1).trans ?_
    rw [grad_eq m c t y0 y1 (by omega) _ rfl, b3 m c t y0 y1 (by omega)]
    rfl
  rw [h]
  rfl

/-! ## The reference -/

section
variable (x0 : FVec Ideal S512x1024 .f32) (x1 : FVec Ideal S8x512x1024 .bf16) (x2 x3 : FVec Ideal S512x1024 .f32) (i : Fin 512) (j : Fin 1024)

theorem ref_grad : val_main_v1 (F := Ideal) x1 (ix2 i j) = ∑ k : Fin 8, x1 (ix3 k i j) := by
  pointwise [val_main_v1, val_main_v0, val_main_cst]

theorem ref_first : val_main_v6 (F := Ideal) x1 x2 (ix2 i j) = first (x2 (ix2 i j)) (∑ k : Fin 8, x1 (ix3 k i j)) := by
  rw [← ref_grad x1 i j]
  generalize e : val_main_v1 (F := Ideal) x1 = g
  pointwise [val_main_v6, val_main_v5, val_main_v4, val_main_v3, val_main_v2, val_main_cst_0, val_main_cst_1]
  rw [e]
  rfl

theorem ref_second : val_main_v12 (F := Ideal) x1 x3 (ix2 i j) = second (x3 (ix2 i j)) (∑ k : Fin 8, x1 (ix3 k i j)) := by
  rw [← ref_grad x1 i j]
  generalize e : val_main_v1 (F := Ideal) x1 = g
  pointwise [val_main_v12, val_main_v11, val_main_v10, val_main_v9, val_main_v8, val_main_v7, val_main_cst_2, val_main_cst_3]
  rw [e]
  rfl

theorem ref_change : val_main_v25 (F := Ideal) x0 x1 x2 x3 (ix2 i j)
    = change (x0 (ix2 i j)) (x2 (ix2 i j)) (x3 (ix2 i j)) (∑ k : Fin 8, x1 (ix3 k i j)) := by
  unfold change
  rw [← ref_first x1 x2 i j, ← ref_second x1 x3 i j]
  generalize e6 : val_main_v6 (F := Ideal) x1 x2 = p
  generalize e12 : val_main_v12 (F := Ideal) x1 x3 = q
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [e6, e12]
end

/-! ## The reference's results are what the grid leaves -/

section
variable {x0 : FVec Ideal S512x1024 .f32} {x1 : FVec Ideal S8x512x1024 .bf16} {x2 x3 : FVec Ideal S512x1024 .f32}

theorem grad_result (e1 : x1 = m ((c : Thread nD τ).loc main_arg1)) : val_main_v1 (F := Ideal) x1 = (dats m 0 c).arrAt 4 cfg0.N := by
  have h := value4 m c
  have g := ref_grad x1
  simp only [grad, G, V_main_arg1, ← e1] at h
  generalize (dats m 0 c).arrAt 4 cfg0.N = o at h ⊢
  funext y
  idx_vars y
  exact (g y0 y1).trans (h y0 y1).symm

theorem change_result (e0 : x0 = m ((c : Thread nD τ).loc main_arg0)) (e1 : x1 = m ((c : Thread nD τ).loc main_arg1))
    (e2 : x2 = m ((c : Thread nD τ).loc main_arg2)) (e3 : x3 = m ((c : Thread nD τ).loc main_arg3)) :
    val_main_v25 (F := Ideal) x0 x1 x2 x3 = (dats m 0 c).arrAt 5 cfg0.N := by
  have h := value5 m c
  have g := ref_change x0 x1 x2 x3
  simp only [grad, W, G, M, Q, V_main_arg0, V_main_arg1, V_main_arg2, V_main_arg3, ← e0, ← e1, ← e2, ← e3] at h
  generalize (dats m 0 c).arrAt 5 cfg0.N = o at h ⊢
  funext y
  idx_vars y
  exact (g y0 y1).trans (h y0 y1).symm

theorem first_result (e1 : x1 = m ((c : Thread nD τ).loc main_arg1)) (e2 : x2 = m ((c : Thread nD τ).loc main_arg2)) :
    val_main_v6 (F := Ideal) x1 x2 = (dats m 0 c).arrAt 6 cfg0.N := by
  have h := value6 m c
  have g := ref_first x1 x2
  simp only [grad, G, M, V_main_arg1, V_main_arg2, ← e1, ← e2] at h
  generalize (dats m 0 c).arrAt 6 cfg0.N = o at h ⊢
  funext y
  idx_vars y
  exact (g y0 y1).trans (h y0 y1).symm

theorem second_result (e1 : x1 = m ((c : Thread nD τ).loc main_arg1)) (e3 : x3 = m ((c : Thread nD τ).loc main_arg3)) :
    val_main_v12 (F := Ideal) x1 x3 = (dats m 0 c).arrAt 7 cfg0.N := by
  have h := value7 m c
  have g := ref_second x1 x3
  simp only [grad, G, Q, V_main_arg1, V_main_arg3, ← e1, ← e3] at h
  generalize (dats m 0 c).arrAt 7 cfg0.N = o at h ⊢
  funext y
  idx_vars y
  exact (g y0 y1).trans (h y0 y1).symm
end

end Cert.Row.UpFfOut
end
-- ==== Proof.Row.UpOut.lean ====
/- AdamW of a device's rows of the output projection's weight: what the grid leaves in its four results, and that the
   reference computes them. -/
module

public import proofs.«01_k».proof.Proof.Row.Adam
public import proofs.«01_k».proof.Proof.Gen.UpOutIdeal.Value
public import proofs.«01_k».proof.Proof.Gen.UpOutRefIdeal.Read
public import Idealize.ShloMosaic.Lib.StableHlo.ReadAt

@[expose] public section

set_option maxRecDepth 16384

noncomputable section

namespace Cert.Row.UpOut

open Cert.UpOutIdeal Cert.UpOutIdeal.Gen Idealize.ShloMosaic Idealize.ShloMosaic.TcCoe
open Cert.UpOutRefIdeal.Read

variable (m : (ℓ : Loc nD τ sig) → Buf (Elt Ideal) ℓ) (c : Dev nD)

@[irreducible] def W : FVec Ideal S256x1024 .f32 := V m c main_arg0
@[irreducible] def G : FVec Ideal S8x256x1024 .bf16 := V m c main_arg1
@[irreducible] def M : FVec Ideal S256x1024 .f32 := V m c main_arg2
@[irreducible] def Q : FVec Ideal S256x1024 .f32 := V m c main_arg3

/-! ## The blocks of a point -/

theorem w0 : ∀ t : Fin cfg0.N, win0_0.index t = ![t.val, 0] := by decide +kernel
theorem w1 : ∀ t : Fin cfg0.N, win0_1.index t = ![0, t.val, 0] := by decide +kernel
theorem w2 : ∀ t : Fin cfg0.N, win0_2.index t = ![t.val, 0] := by decide +kernel
theorem w3 : ∀ t : Fin cfg0.N, win0_3.index t = ![t.val, 0] := by decide +kernel
theorem w4 : ∀ t : Fin cfg0.N, win0_4.index t = ![t.val, 0] := by decide +kernel
theorem w5 : ∀ t : Fin cfg0.N, win0_5.index t = ![t.val, 0] := by decide +kernel
theorem w6 : ∀ t : Fin cfg0.N, win0_6.index t = ![t.val, 0] := by decide +kernel
theorem w7 : ∀ t : Fin cfg0.N, win0_7.index t = ![t.val, 0] := by decide +kernel

theorem b0 (t : Fin cfg0.N) (r : Fin 256) (k : Fin 1024) (h : 256 * t.val + r.val < 256) :
    (iblk m c 0 t : Vec Ideal S256x1024 .f32) (ix2 r k) = W m c (ix2 ⟨256 * t.val + r.val, h⟩ k) := by
  unfold W; blk_ext [iblk, w0 t]

theorem b1 (t : Fin cfg0.N) (q : Fin 8) (r : Fin 256) (k : Fin 1024) (h : 256 * t.val + r.val < 256) :
    (iblk m c 1 t : Vec Ideal S8x256x1024 .bf16) (ix3 q r k) = G m c (ix3 q ⟨256 * t.val + r.val, h⟩ k) := by
  unfold G; blk_ext [iblk, w1 t]

theorem b2 (t : Fin cfg0.N) (r : Fin 256) (k : Fin 1024) (h : 256 * t.val + r.val < 256) :
    (iblk m c 2 t : Vec Ideal S256x1024 .f32) (ix2 r k) = M m c (ix2 ⟨256 * t.val + r.val, h⟩ k) := by
  unfold M; blk_ext [iblk, w2 t]

theorem b3 (t : Fin cfg0.N) (r : Fin 256) (k : Fin 1024) (h : 256 * t.val + r.val < 256) :
    (iblk m c 3 t : Vec Ideal S256x1024 .f32) (ix2 r k) = Q m c (ix2 ⟨256 * t.val + r.val, h⟩ k) := by
  unfold Q; blk_ext [iblk, w3 t]

theorem hz : (![0, 0] : Fin 2 → Nat) = fun _ => 0 := funext fun a => by fin_cases a <;> rfl

/-! ## What the body leaves in its output blocks -/

section
variable (w : Vec Ideal S256x1024 .f32) (g : Vec Ideal S8x256x1024 .bf16) (p q : Vec Ideal S256x1024 .f32) (i : Fin 256) (j : Fin 1024)

theorem sum_apply : k0_pay5 w g p q (ix2 i j) = ∑ k : Fin 8, g (ix3 k i j) := by
  unfold k0_pay5
  rw [Fin.sum_univ_eight]
  pointwise [k0_pay4]

theorem out4 : out0_4 w g p q (ix2 i j) = ∑ k : Fin 8, g (ix3 k i j) := by
  refine Eq.trans ?_ (sum_apply w g p q i j)
  unfold out0_4
  rw [View.canon_unit_zero hz]
  rfl

theorem out5 : out0_5 w g p q (ix2 i j) = change (w (ix2 i j)) (p (ix2 i j)) (q (ix2 i j)) (∑ k : Fin 8, g (ix3 k i j)) := by
  rw [← sum_apply w g p q i j]
  unfold out0_5
  rw [View.canon_unit_zero hz]
  simp only [View.ld_unit_zero (S := S256x1024) hz]
  generalize k0_pay5 w g p q = s
  pointwise [k0_pay3, k0_pay1, k0_pay2]
  rfl

theorem out6 : out0_6 w g p q (ix2 i j) = first (p (ix2 i j)) (∑ k : Fin 8, g (ix3 k i j)) := by
  rw [← sum_apply w g p q i j]
  unfold out0_6
  rw [View.canon_unit_zero hz]
  simp only [View.ld_unit_zero (S := S256x1024) hz]
  generalize k0_pay5 w g p q = s
  pointwise [k0_pay1]
  rfl

theorem out7 : out0_7 w g p q (ix2 i j) = second (q (ix2 i j)) (∑ k : Fin 8, g (ix3 k i j)) := by
  rw [← sum_apply w g p q i j]
  unfold out0_7
  rw [View.canon_unit_zero hz]
  simp only [View.ld_unit_zero (S := S256x1024) hz]
  generalize k0_pay5 w g p q = s
  pointwise [k0_pay2]
  rfl
end

/-! ## The results after the run -/

theorem emb4 (t : Fin cfg0.N) (r : Fin 256) (k : Fin 1024) (h : 256 * t.val + r.val < 256) :
    ((View.whole main_v0_0).slice (win0_4.rect t)).emb (ix2 r k) = ix2 ⟨256 * t.val + r.val, h⟩ k := by
  have e := w4 t
  funext a; fin_cases a
  · refine Fin.ext (show win0_4.index t 0 * 256 + 1 * r.val = 256 * t.val + r.val from ?_)
    rw [e]; show t.val * 256 + 1 * r.val = _; omega
  · refine Fin.ext (show win0_4.index t 1 * 1024 + 1 * k.val = k.val from ?_)
    rw [e]; show 0 * 1024 + 1 * k.val = _; omega

theorem emb5 (t : Fin cfg0.N) (r : Fin 256) (k : Fin 1024) (h : 256 * t.val + r.val < 256) :
    ((View.whole main_v0_1).slice (win0_5.rect t)).emb (ix2 r k) = ix2 ⟨256 * t.val + r.val, h⟩ k := by
  have e := w5 t
  funext a; fin_cases a
  · refine Fin.ext (show win0_5.index t 0 * 256 + 1 * r.val = 256 * t.val + r.val from ?_)
    rw [e]; show t.val * 256 + 1 * r.val = _; omega
  · refine Fin.ext (show win0_5.index t 1 * 1024 + 1 * k.val = k.val from ?_)
    rw [e]; show 0 * 1024 + 1 * k.val = _; omega

theorem emb6 (t : Fin cfg0.N) (r : Fin 256) (k : Fin 1024) (h : 256 * t.val + r.val < 256) :
    ((View.whole main_v0_2).slice (win0_6.rect t)).emb (ix2 r k) = ix2 ⟨256 * t.val + r.val, h⟩ k := by
  have e := w6 t
  funext a; fin_cases a
  · refine Fin.ext (show win0_6.index t 0 * 256 + 1 * r.val = 256 * t.val + r.val from ?_)
    rw [e]; show t.val * 256 + 1 * r.val = _; omega
  · refine Fin.ext (show win0_6.index t 1 * 1024 + 1 * k.val = k.val from ?_)
    rw [e]; show 0 * 1024 + 1 * k.val = _; omega

theorem emb7 (t : Fin cfg0.N) (r : Fin 256) (k : Fin 1024) (h : 256 * t.val + r.val < 256) :
    ((View.whole main_v0_3).slice (win0_7.rect t)).emb (ix2 r k) = ix2 ⟨256 * t.val + r.val, h⟩ k := by
  have e := w7 t
  funext a; fin_cases a
  · refine Fin.ext (show win0_7.index t 0 * 256 + 1 * r.val = 256 * t.val + r.val from ?_)
    rw [e]; show t.val * 256 + 1 * r.val = _; omega
  · refine Fin.ext (show win0_7.index t 1 * 1024 + 1 * k.val = k.val from ?_)
    rw [e]; show 0 * 1024 + 1 * k.val = _; omega

/-- The sum of the eight gradients of an entry. -/
def grad (i : Fin 256) (j : Fin 1024) : EReal := ∑ k : Fin 8, G m c (ix3 k i j)

theorem grad_eq (t : Fin cfg0.N) (i : Fin 256) (j : Fin 1024) (h : 256 * t.val + i.val < 256) :
    ∀ g : Vec Ideal S8x256x1024 .bf16, g = iblk m c 1 t → ∑ k : Fin 8, g (ix3 k i j) = grad m c ⟨256 * t.val + i.val, h⟩ j := by
  rintro g rfl
  exact Finset.sum_congr rfl fun k _ => b1 m c t k i j h

theorem value4 (i : Fin 256) (j : Fin 1024) : (dats m 0 c).arrAt 4 cfg0.N (ix2 i j) = grad m c i j := by
  have h := (dats m 0 c).arrAt_eq_of_covers 4 (fun x => (grad m c (x 0) (x 1) : EReal)) (by decide +kernel) fun t hf y => by
    have ht : t.val < 1 := lt_of_lt_of_eq t.isLt N_0
    idx_vars y
    have p := emb4 t y0 y1 (by omega)
    blk_simp [w4 t]
    rw [after0_4, p]
    refine (out4 _ _ _ _ y0 y1).trans ?_
    rw [grad_eq m c t y0 y1 (by omega) _ rfl]
    rfl
  rw [h]
  rfl

theorem value5 (i : Fin 256) (j : Fin 1024) : (dats m 0 c).arrAt 5 cfg0.N (ix2 i j) = change (W m c (ix2 i j)) (M m c (ix2 i j)) (Q m c (ix2 i j)) (grad m c i j) := by
  have h := (dats m 0 c).arrAt_eq_of_covers 5 (fun x => (change (W m c (ix2 (x 0) (x 1))) (M m c (ix2 (x 0) (x 1))) (Q m c (ix2 (x 0) (x 1))) (grad m c (x 0) (x 1)) : EReal)) (by decide +kernel) fun t hf y => by
    have ht : t.val < 1 := lt_of_lt_of_eq t.isLt N_0
    idx_vars y
    have p := emb5 t y0 y1 (by omega)
    blk_simp [w5 t]
    rw [after0_5, p]
    refine (out5 _ _ _ _ y0 y1).trans ?_
    rw [grad_eq m c t y0 y1 (by omega) _ rfl, b0 m c t y0 y1 (by omega), b2 m c t y0 y1 (by omega), b3 m c t y0 y1 (by omega)]
    rfl
  rw [h]
  rfl

theorem value6 (i : Fin 256) (j : Fin 1024) : (dats m 0 c).arrAt 6 cfg0.N (ix2 i j) = first (M m c (ix2 i j)) (grad m c i j) := by
  have h := (dats m 0 c).arrAt_eq_of_covers 6 (fun x => (first (M m c (ix2 (x 0) (x 1))) (grad m c (x 0) (x 1)) : EReal)) (by decide +kernel) fun t hf y => by
    have ht : t.val < 1 := lt_of_lt_of_eq t.isLt N_0
    idx_vars y
    have p := emb6 t y0 y1 (by omega)
    blk_simp [w6 t]
    rw [after0_6, p]
    refine (out6 _ _ _ _ y0 y1).trans ?_
    rw [grad_eq m c t y0 y1 (by omega) _ rfl, b2 m c t y0 y1 (by omega)]
    rfl
  rw [h]
  rfl

theorem value7 (i : Fin 256) (j : Fin 1024) : (dats m 0 c).arrAt 7 cfg0.N (ix2 i j) = second (Q m c (ix2 i j)) (grad m c i j) := by
  have h := (dats m 0 c).arrAt_eq_of_covers 7 (fun x => (second (Q m c (ix2 (x 0) (x 1))) (grad m c (x 0) (x 1)) : EReal)) (by decide +kernel) fun t hf y => by
    have ht : t.val < 1 := lt_of_lt_of_eq t.isLt N_0
    idx_vars y
    have p := emb7 t y0 y1 (by omega)
    blk_simp [w7 t]
    rw [after0_7, p]
    refine (out7 _ _ _ _ y0 y1).trans ?_
    rw [grad_eq m c t y0 y1 (by omega) _ rfl, b3 m c t y0 y1 (by omega)]
    rfl
  rw [h]
  rfl

/-! ## The reference -/

section
variable (x0 : FVec Ideal S256x1024 .f32) (x1 : FVec Ideal S8x256x1024 .bf16) (x2 x3 : FVec Ideal S256x1024 .f32) (i : Fin 256) (j : Fin 1024)

theorem ref_grad : val_main_v1 (F := Ideal) x1 (ix2 i j) = ∑ k : Fin 8, x1 (ix3 k i j) := by
  pointwise [val_main_v1, val_main_v0, val_main_cst]

theorem ref_first : val_main_v6 (F := Ideal) x1 x2 (ix2 i j) = first (x2 (ix2 i j)) (∑ k : Fin 8, x1 (ix3 k i j)) := by
  rw [← ref_grad x1 i j]
  generalize e : val_main_v1 (F := Ideal) x1 = g
  pointwise [val_main_v6, val_main_v5, val_main_v4, val_main_v3, val_main_v2, val_main_cst_0, val_main_cst_1]
  rw [e]
  rfl

theorem ref_second : val_main_v12 (F := Ideal) x1 x3 (ix2 i j) = second (x3 (ix2 i j)) (∑ k : Fin 8, x1 (ix3 k i j)) := by
  rw [← ref_grad x1 i j]
  generalize e : val_main_v1 (F := Ideal) x1 = g
  pointwise [val_main_v12, val_main_v11, val_main_v10, val_main_v9, val_main_v8, val_main_v7, val_main_cst_2, val_main_cst_3]
  rw [e]
  rfl

theorem ref_change : val_main_v25 (F := Ideal) x0 x1 x2 x3 (ix2 i j)
    = change (x0 (ix2 i j)) (x2 (ix2 i j)) (x3 (ix2 i j)) (∑ k : Fin 8, x1 (ix3 k i j)) := by
  unfold change
  rw [← ref_first x1 x2 i j, ← ref_second x1 x3 i j]
  generalize e6 : val_main_v6 (F := Ideal) x1 x2 = p
  generalize e12 : val_main_v12 (F := Ideal) x1 x3 = q
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [e6, e12]
end

/-! ## The reference's results are what the grid leaves -/

section
variable {x0 : FVec Ideal S256x1024 .f32} {x1 : FVec Ideal S8x256x1024 .bf16} {x2 x3 : FVec Ideal S256x1024 .f32}

theorem grad_result (e1 : x1 = m ((c : Thread nD τ).loc main_arg1)) : val_main_v1 (F := Ideal) x1 = (dats m 0 c).arrAt 4 cfg0.N := by
  have h := value4 m c
  have g := ref_grad x1
  simp only [grad, G, V_main_arg1, ← e1] at h
  generalize (dats m 0 c).arrAt 4 cfg0.N = o at h ⊢
  funext y
  idx_vars y
  exact (g y0 y1).trans (h y0 y1).symm

theorem change_result (e0 : x0 = m ((c : Thread nD τ).loc main_arg0)) (e1 : x1 = m ((c : Thread nD τ).loc main_arg1))
    (e2 : x2 = m ((c : Thread nD τ).loc main_arg2)) (e3 : x3 = m ((c : Thread nD τ).loc main_arg3)) :
    val_main_v25 (F := Ideal) x0 x1 x2 x3 = (dats m 0 c).arrAt 5 cfg0.N := by
  have h := value5 m c
  have g := ref_change x0 x1 x2 x3
  simp only [grad, W, G, M, Q, V_main_arg0, V_main_arg1, V_main_arg2, V_main_arg3, ← e0, ← e1, ← e2, ← e3] at h
  generalize (dats m 0 c).arrAt 5 cfg0.N = o at h ⊢
  funext y
  idx_vars y
  exact (g y0 y1).trans (h y0 y1).symm

theorem first_result (e1 : x1 = m ((c : Thread nD τ).loc main_arg1)) (e2 : x2 = m ((c : Thread nD τ).loc main_arg2)) :
    val_main_v6 (F := Ideal) x1 x2 = (dats m 0 c).arrAt 6 cfg0.N := by
  have h := value6 m c
  have g := ref_first x1 x2
  simp only [grad, G, M, V_main_arg1, V_main_arg2, ← e1, ← e2] at h
  generalize (dats m 0 c).arrAt 6 cfg0.N = o at h ⊢
  funext y
  idx_vars y
  exact (g y0 y1).trans (h y0 y1).symm

theorem second_result (e1 : x1 = m ((c : Thread nD τ).loc main_arg1)) (e3 : x3 = m ((c : Thread nD τ).loc main_arg3)) :
    val_main_v12 (F := Ideal) x1 x3 = (dats m 0 c).arrAt 7 cfg0.N := by
  have h := value7 m c
  have g := ref_second x1 x3
  simp only [grad, G, Q, V_main_arg1, V_main_arg3, ← e1, ← e3] at h
  generalize (dats m 0 c).arrAt 7 cfg0.N = o at h ⊢
  funext y
  idx_vars y
  exact (g y0 y1).trans (h y0 y1).symm
end

end Cert.Row.UpOut
end
-- ==== Proof.Row.UpIn.lean ====
/- AdamW of a device's columns of the input projection's weight, transposed: what the grid leaves in its four results, and that the
   reference computes them. -/
module

public import proofs.«01_k».proof.Proof.Row.Adam
public import proofs.«01_k».proof.Proof.Gen.UpInIdeal.Value
public import proofs.«01_k».proof.Proof.Gen.UpInRefIdeal.Read
public import Idealize.ShloMosaic.Lib.StableHlo.ReadAt

@[expose] public section

set_option maxRecDepth 16384

noncomputable section

namespace Cert.Row.UpIn

open Cert.UpInIdeal Cert.UpInIdeal.Gen Idealize.ShloMosaic Idealize.ShloMosaic.TcCoe
open Cert.UpInRefIdeal.Read

variable (m : (ℓ : Loc nD τ sig) → Buf (Elt Ideal) ℓ) (c : Dev nD)

theorem V0 : V m c main_v0 = transpose S708x1024 [1, 0] (m ((c : Thread nD τ).loc main_arg0)) transposes_S1024x708_S708x1024_1_0 := by
  unfold V
  after_reads_simp

theorem V1 : V m c main_v1 = transpose S708x1024 [1, 0] (m ((c : Thread nD τ).loc main_arg2)) transposes_S1024x708_S708x1024_1_0 := by
  unfold V
  after_reads_simp

theorem V2 : V m c main_v2 = transpose S708x1024 [1, 0] (m ((c : Thread nD τ).loc main_arg3)) transposes_S1024x708_S708x1024_1_0 := by
  unfold V
  after_reads_simp

@[irreducible] def W : FVec Ideal S708x1024 .f32 := V m c main_v0
@[irreducible] def G : FVec Ideal S8x708x1024 .bf16 := V m c main_arg1
@[irreducible] def M : FVec Ideal S708x1024 .f32 := V m c main_v1
@[irreducible] def Q : FVec Ideal S708x1024 .f32 := V m c main_v2

/-! ## The blocks of a point -/

theorem w0 : ∀ t : Fin cfg0.N, win0_0.index t = ![0, t.val] := by decide +kernel
theorem w1 : ∀ t : Fin cfg0.N, win0_1.index t = ![0, 0, t.val] := by decide +kernel
theorem w2 : ∀ t : Fin cfg0.N, win0_2.index t = ![0, t.val] := by decide +kernel
theorem w3 : ∀ t : Fin cfg0.N, win0_3.index t = ![0, t.val] := by decide +kernel
theorem w4 : ∀ t : Fin cfg0.N, win0_4.index t = ![0, t.val] := by decide +kernel
theorem w5 : ∀ t : Fin cfg0.N, win0_5.index t = ![0, t.val] := by decide +kernel
theorem w6 : ∀ t : Fin cfg0.N, win0_6.index t = ![0, t.val] := by decide +kernel
theorem w7 : ∀ t : Fin cfg0.N, win0_7.index t = ![0, t.val] := by decide +kernel

theorem b0 (t : Fin cfg0.N) (r : Fin 708) (k : Fin 256) (h : 256 * t.val + k.val < 1024) :
    (iblk m c 0 t : Vec Ideal S708x256 .f32) (ix2 r k) = W m c (ix2 r ⟨256 * t.val + k.val, h⟩) := by
  unfold W; blk_ext [iblk, w0 t]

theorem b1 (t : Fin cfg0.N) (q : Fin 8) (r : Fin 708) (k : Fin 256) (h : 256 * t.val + k.val < 1024) :
    (iblk m c 1 t : Vec Ideal S8x708x256 .bf16) (ix3 q r k) = G m c (ix3 q r ⟨256 * t.val + k.val, h⟩) := by
  unfold G; blk_ext [iblk, w1 t]

theorem b2 (t : Fin cfg0.N) (r : Fin 708) (k : Fin 256) (h : 256 * t.val + k.val < 1024) :
    (iblk m c 2 t : Vec Ideal S708x256 .f32) (ix2 r k) = M m c (ix2 r ⟨256 * t.val + k.val, h⟩) := by
  unfold M; blk_ext [iblk, w2 t]

theorem b3 (t : Fin cfg0.N) (r : Fin 708) (k : Fin 256) (h : 256 * t.val + k.val < 1024) :
    (iblk m c 3 t : Vec Ideal S708x256 .f32) (ix2 r k) = Q m c (ix2 r ⟨256 * t.val + k.val, h⟩) := by
  unfold Q; blk_ext [iblk, w3 t]

theorem hz : (![0, 0] : Fin 2 → Nat) = fun _ => 0 := funext fun a => by fin_cases a <;> rfl

/-! ## What the body leaves in its output blocks -/

section
variable (w : Vec Ideal S708x256 .f32) (g : Vec Ideal S8x708x256 .bf16) (p q : Vec Ideal S708x256 .f32) (i : Fin 708) (j : Fin 256)

theorem sum_apply : k0_pay5 w g p q (ix2 i j) = ∑ k : Fin 8, g (ix3 k i j) := by
  unfold k0_pay5
  rw [Fin.sum_univ_eight]
  pointwise [k0_pay4]

theorem out4 : out0_4 w g p q (ix2 i j) = ∑ k : Fin 8, g (ix3 k i j) := by
  refine Eq.trans ?_ (sum_apply w g p q i j)
  unfold out0_4
  rw [View.canon_unit_zero hz]
  rfl

theorem out5 : out0_5 w g p q (ix2 i j) = change (w (ix2 i j)) (p (ix2 i j)) (q (ix2 i j)) (∑ k : Fin 8, g (ix3 k i j)) := by
  rw [← sum_apply w g p q i j]
  unfold out0_5
  rw [View.canon_unit_zero hz]
  simp only [View.ld_unit_zero (S := S708x256) hz]
  generalize k0_pay5 w g p q = s
  pointwise [k0_pay3, k0_pay1, k0_pay2]
  rfl

theorem out6 : out0_6 w g p q (ix2 i j) = first (p (ix2 i j)) (∑ k : Fin 8, g (ix3 k i j)) := by
  rw [← sum_apply w g p q i j]
  unfold out0_6
  rw [View.canon_unit_zero hz]
  simp only [View.ld_unit_zero (S := S708x256) hz]
  generalize k0_pay5 w g p q = s
  pointwise [k0_pay1]
  rfl

theorem out7 : out0_7 w g p q (ix2 i j) = second (q (ix2 i j)) (∑ k : Fin 8, g (ix3 k i j)) := by
  rw [← sum_apply w g p q i j]
  unfold out0_7
  rw [View.canon_unit_zero hz]
  simp only [View.ld_unit_zero (S := S708x256) hz]
  generalize k0_pay5 w g p q = s
  pointwise [k0_pay2]
  rfl
end

/-! ## The results after the run -/

theorem emb4 (t : Fin cfg0.N) (r : Fin 708) (k : Fin 256) (h : 256 * t.val + k.val < 1024) :
    ((View.whole main_v3_0).slice (win0_4.rect t)).emb (ix2 r k) = ix2 r ⟨256 * t.val + k.val, h⟩ := by
  have e := w4 t
  funext a; fin_cases a
  · refine Fin.ext (show win0_4.index t 0 * 708 + 1 * r.val = r.val from ?_)
    rw [e]; show 0 * 708 + 1 * r.val = _; omega
  · refine Fin.ext (show win0_4.index t 1 * 256 + 1 * k.val = 256 * t.val + k.val from ?_)
    rw [e]; show t.val * 256 + 1 * k.val = _; omega

theorem emb5 (t : Fin cfg0.N) (r : Fin 708) (k : Fin 256) (h : 256 * t.val + k.val < 1024) :
    ((View.whole main_v3_1).slice (win0_5.rect t)).emb (ix2 r k) = ix2 r ⟨256 * t.val + k.val, h⟩ := by
  have e := w5 t
  funext a; fin_cases a
  · refine Fin.ext (show win0_5.index t 0 * 708 + 1 * r.val = r.val from ?_)
    rw [e]; show 0 * 708 + 1 * r.val = _; omega
  · refine Fin.ext (show win0_5.index t 1 * 256 + 1 * k.val = 256 * t.val + k.val from ?_)
    rw [e]; show t.val * 256 + 1 * k.val = _; omega

theorem emb6 (t : Fin cfg0.N) (r : Fin 708) (k : Fin 256) (h : 256 * t.val + k.val < 1024) :
    ((View.whole main_v3_2).slice (win0_6.rect t)).emb (ix2 r k) = ix2 r ⟨256 * t.val + k.val, h⟩ := by
  have e := w6 t
  funext a; fin_cases a
  · refine Fin.ext (show win0_6.index t 0 * 708 + 1 * r.val = r.val from ?_)
    rw [e]; show 0 * 708 + 1 * r.val = _; omega
  · refine Fin.ext (show win0_6.index t 1 * 256 + 1 * k.val = 256 * t.val + k.val from ?_)
    rw [e]; show t.val * 256 + 1 * k.val = _; omega

theorem emb7 (t : Fin cfg0.N) (r : Fin 708) (k : Fin 256) (h : 256 * t.val + k.val < 1024) :
    ((View.whole main_v3_3).slice (win0_7.rect t)).emb (ix2 r k) = ix2 r ⟨256 * t.val + k.val, h⟩ := by
  have e := w7 t
  funext a; fin_cases a
  · refine Fin.ext (show win0_7.index t 0 * 708 + 1 * r.val = r.val from ?_)
    rw [e]; show 0 * 708 + 1 * r.val = _; omega
  · refine Fin.ext (show win0_7.index t 1 * 256 + 1 * k.val = 256 * t.val + k.val from ?_)
    rw [e]; show t.val * 256 + 1 * k.val = _; omega

/-- The sum of the eight gradients of an entry. -/
def grad (i : Fin 708) (j : Fin 1024) : EReal := ∑ k : Fin 8, G m c (ix3 k i j)

theorem grad_eq (t : Fin cfg0.N) (i : Fin 708) (j : Fin 256) (h : 256 * t.val + j.val < 1024) :
    ∀ g : Vec Ideal S8x708x256 .bf16, g = iblk m c 1 t → ∑ k : Fin 8, g (ix3 k i j) = grad m c i ⟨256 * t.val + j.val, h⟩ := by
  rintro g rfl
  exact Finset.sum_congr rfl fun k _ => b1 m c t k i j h

theorem value4 (i : Fin 708) (j : Fin 1024) : (dats m 0 c).arrAt 4 cfg0.N (ix2 i j) = grad m c i j := by
  have h := (dats m 0 c).arrAt_eq_of_covers 4 (fun x => (grad m c (x 0) (x 1) : EReal)) (by decide +kernel) fun t hf y => by
    have ht : t.val < 4 := lt_of_lt_of_eq t.isLt N_0
    idx_vars y
    have p := emb4 t y0 y1 (by omega)
    blk_simp [w4 t]
    rw [after0_4, p]
    refine (out4 _ _ _ _ y0 y1).trans ?_
    rw [grad_eq m c t y0 y1 (by omega) _ rfl]
    rfl
  rw [h]
  rfl

theorem value5 (i : Fin 708) (j : Fin 1024) : (dats m 0 c).arrAt 5 cfg0.N (ix2 i j) = change (W m c (ix2 i j)) (M m c (ix2 i j)) (Q m c (ix2 i j)) (grad m c i j) := by
  have h := (dats m 0 c).arrAt_eq_of_covers 5 (fun x => (change (W m c (ix2 (x 0) (x 1))) (M m c (ix2 (x 0) (x 1))) (Q m c (ix2 (x 0) (x 1))) (grad m c (x 0) (x 1)) : EReal)) (by decide +kernel) fun t hf y => by
    have ht : t.val < 4 := lt_of_lt_of_eq t.isLt N_0
    idx_vars y
    have p := emb5 t y0 y1 (by omega)
    blk_simp [w5 t]
    rw [after0_5, p]
    refine (out5 _ _ _ _ y0 y1).trans ?_
    rw [grad_eq m c t y0 y1 (by omega) _ rfl, b0 m c t y0 y1 (by omega), b2 m c t y0 y1 (by omega), b3 m c t y0 y1 (by omega)]
    rfl
  rw [h]
  rfl

theorem value6 (i : Fin 708) (j : Fin 1024) : (dats m 0 c).arrAt 6 cfg0.N (ix2 i j) = first (M m c (ix2 i j)) (grad m c i j) := by
  have h := (dats m 0 c).arrAt_eq_of_covers 6 (fun x => (first (M m c (ix2 (x 0) (x 1))) (grad m c (x 0) (x 1)) : EReal)) (by decide +kernel) fun t hf y => by
    have ht : t.val < 4 := lt_of_lt_of_eq t.isLt N_0
    idx_vars y
    have p := emb6 t y0 y1 (by omega)
    blk_simp [w6 t]
    rw [after0_6, p]
    refine (out6 _ _ _ _ y0 y1).trans ?_
    rw [grad_eq m c t y0 y1 (by omega) _ rfl, b2 m c t y0 y1 (by omega)]
    rfl
  rw [h]
  rfl

theorem value7 (i : Fin 708) (j : Fin 1024) : (dats m 0 c).arrAt 7 cfg0.N (ix2 i j) = second (Q m c (ix2 i j)) (grad m c i j) := by
  have h := (dats m 0 c).arrAt_eq_of_covers 7 (fun x => (second (Q m c (ix2 (x 0) (x 1))) (grad m c (x 0) (x 1)) : EReal)) (by decide +kernel) fun t hf y => by
    have ht : t.val < 4 := lt_of_lt_of_eq t.isLt N_0
    idx_vars y
    have p := emb7 t y0 y1 (by omega)
    blk_simp [w7 t]
    rw [after0_7, p]
    refine (out7 _ _ _ _ y0 y1).trans ?_
    rw [grad_eq m c t y0 y1 (by omega) _ rfl, b3 m c t y0 y1 (by omega)]
    rfl
  rw [h]
  rfl

/-! ## The reference -/

section
variable (x0 : FVec Ideal S1024x708 .f32) (x1 : FVec Ideal S8x708x1024 .bf16) (x2 x3 : FVec Ideal S1024x708 .f32) (i : Fin 1024) (j : Fin 708)

theorem ref_grad : val_main_v2 (F := Ideal) x1 (ix2 i j) = ∑ k : Fin 8, x1 (ix3 k j i) := by
  pointwise [val_main_v2, val_main_v1, val_main_v0, val_main_cst]

theorem ref_first : val_main_v7 (F := Ideal) x1 x2 (ix2 i j) = first (x2 (ix2 i j)) (∑ k : Fin 8, x1 (ix3 k j i)) := by
  rw [← ref_grad x1 i j]
  generalize e : val_main_v2 (F := Ideal) x1 = g
  pointwise [val_main_v7, val_main_v6, val_main_v5, val_main_v4, val_main_v3, val_main_cst_0, val_main_cst_1]
  rw [e]
  rfl

theorem ref_second : val_main_v13 (F := Ideal) x1 x3 (ix2 i j) = second (x3 (ix2 i j)) (∑ k : Fin 8, x1 (ix3 k j i)) := by
  rw [← ref_grad x1 i j]
  generalize e : val_main_v2 (F := Ideal) x1 = g
  pointwise [val_main_v13, val_main_v12, val_main_v11, val_main_v10, val_main_v9, val_main_v8, val_main_cst_2, val_main_cst_3]
  rw [e]
  rfl

theorem ref_change : val_main_v26 (F := Ideal) x0 x1 x2 x3 (ix2 i j)
    = change (x0 (ix2 i j)) (x2 (ix2 i j)) (x3 (ix2 i j)) (∑ k : Fin 8, x1 (ix3 k j i)) := by
  unfold change
  rw [← ref_first x1 x2 i j, ← ref_second x1 x3 i j]
  generalize e6 : val_main_v7 (F := Ideal) x1 x2 = p
  generalize e12 : val_main_v13 (F := Ideal) x1 x3 = q
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]
  rw [e6, e12]
end

/-! ## The reference's results are what the grid leaves -/

theorem W_apply (i : Fin 708) (j : Fin 1024) : W m c (ix2 i j) = (m ((c : Thread nD τ).loc main_arg0) : FVec Ideal S1024x708 .f32) (ix2 j i) := by
  unfold W; rw [V0]; pointwise []

theorem G_apply (k : Fin 8) (i : Fin 708) (j : Fin 1024) : G m c (ix3 k i j) = (m ((c : Thread nD τ).loc main_arg1) : FVec Ideal S8x708x1024 .bf16) (ix3 k i j) := by
  unfold G; rw [V_main_arg1]

theorem M_apply (i : Fin 708) (j : Fin 1024) : M m c (ix2 i j) = (m ((c : Thread nD τ).loc main_arg2) : FVec Ideal S1024x708 .f32) (ix2 j i) := by
  unfold M; rw [V1]; pointwise []

theorem Q_apply (i : Fin 708) (j : Fin 1024) : Q m c (ix2 i j) = (m ((c : Thread nD τ).loc main_arg3) : FVec Ideal S1024x708 .f32) (ix2 j i) := by
  unfold Q; rw [V2]; pointwise []

section
variable {x0 : FVec Ideal S1024x708 .f32} {x1 : FVec Ideal S8x708x1024 .bf16} {x2 x3 : FVec Ideal S1024x708 .f32}

theorem grad_result (e1 : x1 = m ((c : Thread nD τ).loc main_arg1)) : val_main_v27 (F := Ideal) x1 = (dats m 0 c).arrAt 4 cfg0.N := by
  have h := value4 m c
  have g : ∀ i j, val_main_v27 (F := Ideal) x1 (ix2 i j) = _ := fun i j => Eq.trans (by pointwise [val_main_v27]) (ref_grad x1 j i)
  simp only [grad, G_apply, ← e1] at h
  generalize (dats m 0 c).arrAt 4 cfg0.N = o at h ⊢
  funext y
  idx_vars y
  exact (g y0 y1).trans (h y0 y1).symm

theorem change_result (e0 : x0 = m ((c : Thread nD τ).loc main_arg0)) (e1 : x1 = m ((c : Thread nD τ).loc main_arg1))
    (e2 : x2 = m ((c : Thread nD τ).loc main_arg2)) (e3 : x3 = m ((c : Thread nD τ).loc main_arg3)) :
    val_main_v28 (F := Ideal) x0 x1 x2 x3 = (dats m 0 c).arrAt 5 cfg0.N := by
  have h := value5 m c
  have g : ∀ i j, val_main_v28 (F := Ideal) x0 x1 x2 x3 (ix2 i j) = _ := fun i j => Eq.trans (by pointwise [val_main_v28]) (ref_change x0 x1 x2 x3 j i)
  simp only [grad, W_apply, G_apply, M_apply, Q_apply, ← e0, ← e1, ← e2, ← e3] at h
  generalize (dats m 0 c).arrAt 5 cfg0.N = o at h ⊢
  funext y
  idx_vars y
  exact (g y0 y1).trans (h y0 y1).symm

theorem first_result (e1 : x1 = m ((c : Thread nD τ).loc main_arg1)) (e2 : x2 = m ((c : Thread nD τ).loc main_arg2)) :
    val_main_v29 (F := Ideal) x1 x2 = (dats m 0 c).arrAt 6 cfg0.N := by
  have h := value6 m c
  have g : ∀ i j, val_main_v29 (F := Ideal) x1 x2 (ix2 i j) = _ := fun i j => Eq.trans (by pointwise [val_main_v29]) (ref_first x1 x2 j i)
  simp only [grad, G_apply, M_apply, ← e1, ← e2] at h
  generalize (dats m 0 c).arrAt 6 cfg0.N = o at h ⊢
  funext y
  idx_vars y
  exact (g y0 y1).trans (h y0 y1).symm

theorem second_result (e1 : x1 = m ((c : Thread nD τ).loc main_arg1)) (e3 : x3 = m ((c : Thread nD τ).loc main_arg3)) :
    val_main_v30 (F := Ideal) x1 x3 = (dats m 0 c).arrAt 7 cfg0.N := by
  have h := value7 m c
  have g : ∀ i j, val_main_v30 (F := Ideal) x1 x3 (ix2 i j) = _ := fun i j => Eq.trans (by pointwise [val_main_v30]) (ref_second x1 x3 j i)
  simp only [grad, G_apply, Q_apply, ← e1, ← e3] at h
  generalize (dats m 0 c).arrAt 7 cfg0.N = o at h ⊢
  funext y
  idx_vars y
  exact (g y0 y1).trans (h y0 y1).symm
end

end Cert.Row.UpIn
end
-- ==== Proof.Row.UpAda.lean ====
/- AdamW of a device's columns of the modulation's weight: what the grid leaves in its four results, and that the
   reference computes them. -/
module

public import proofs.«01_k».proof.Proof.Row.Adam
public import proofs.«01_k».proof.Proof.Gen.UpAdaIdeal.Value
public import proofs.«01_k».proof.Proof.Gen.UpAdaRefIdeal.Read
public import Idealize.ShloMosaic.Lib.StableHlo.ReadAt

@[expose] public section

set_option maxRecDepth 16384

noncomputable section

namespace Cert.Row.UpAda

open Cert.UpAdaIdeal Cert.UpAdaIdeal.Gen Idealize.ShloMosaic Idealize.ShloMosaic.TcCoe
open Cert.UpAdaRefIdeal.Read

variable (m : (ℓ : Loc nD τ sig) → Buf (Elt Ideal) ℓ) (c : Dev nD)

@[irreducible] def W : FVec Ideal S1024x768 .f32 := V m c main_arg0
@[irreducible] def G : FVec Ideal S1024x768 .f32 := V m c main_arg1
@[irreducible] def M : FVec Ideal S1024x768 .f32 := V m c main_arg2
@[irreducible] def Q : FVec Ideal S1024x768 .f32 := V m c main_arg3

/-! ## The blocks of a point -/

theorem w0 : ∀ t : Fin cfg0.N, win0_0.index t = ![t.val, 0] := by decide +kernel
theorem w1 : ∀ t : Fin cfg0.N, win0_1.index t = ![t.val, 0] := by decide +kernel
theorem w2 : ∀ t : Fin cfg0.N, win0_2.index t = ![t.val, 0] := by decide +kernel
theorem w3 : ∀ t : Fin cfg0.N, win0_3.index t = ![t.val, 0] := by decide +kernel
theorem w4 : ∀ t : Fin cfg0.N, win0_4.index t = ![t.val, 0] := by decide +kernel
theorem w5 : ∀ t : Fin cfg0.N, win0_5.index t = ![t.val, 0] := by decide +kernel
theorem w6 : ∀ t : Fin cfg0.N, win0_6.index t = ![t.val, 0] := by decide +kernel
theorem w7 : ∀ t : Fin cfg0.N, win0_7.index t = ![t.val, 0] := by decide +kernel

theorem b0 (t : Fin cfg0.N) (r : Fin 256) (k : Fin 768) (h : 256 * t.val + r.val < 1024) :
    (iblk m c 0 t : Vec Ideal S256x768 .f32) (ix2 r k) = W m c (ix2 ⟨256 * t.val + r.val, h⟩ k) := by
  unfold W; blk_ext [iblk, w0 t]

theorem b1 (t : Fin cfg0.N) (r : Fin 256) (k : Fin 768) (h : 256 * t.val + r.val < 1024) :
    (iblk m c 1 t : Vec Ideal S256x768 .f32) (ix2 r k) = G m c (ix2 ⟨256 * t.val + r.val, h⟩ k) := by
  unfold G; blk_ext [iblk, w1 t]

theorem b2 (t : Fin cfg0.N) (r : Fin 256) (k : Fin 768) (h : 256 * t.val + r.val < 1024) :
    (iblk m c 2 t : Vec Ideal S256x768 .f32) (ix2 r k) = M m c (ix2 ⟨256 * t.val + r.val, h⟩ k) := by
  unfold M; blk_ext [iblk, w2 t]

theorem b3 (t : Fin cfg0.N) (r : Fin 256) (k : Fin 768) (h : 256 * t.val + r.val < 1024) :
    (iblk m c 3 t : Vec Ideal S256x768 .f32) (ix2 r k) = Q m c (ix2 ⟨256 * t.val + r.val, h⟩ k) := by
  unfold Q; blk_ext [iblk, w3 t]

theorem hz : (![0, 0] : Fin 2 → Nat) = fun _ => 0 := funext fun a => by fin_cases a <;> rfl

/-! ## What the body leaves in its output blocks -/

section
variable (w : Vec Ideal S256x768 .f32) (g : Vec Ideal S256x768 .f32) (p q : Vec Ideal S256x768 .f32) (i : Fin 256) (j : Fin 768)

theorem out4 : out0_4 w g p q (ix2 i j) = g (ix2 i j) := by
  unfold out0_4
  rw [View.canon_unit_zero hz, View.ld_unit_zero (S := S256x768) hz]

theorem out5 : out0_5 w g p q (ix2 i j) = change (w (ix2 i j)) (p (ix2 i j)) (q (ix2 i j)) (g (ix2 i j)) := by
  unfold out0_5
  rw [View.canon_unit_zero hz]
  simp only [View.ld_unit_zero (S := S256x768) hz]
  pointwise [k0_pay3, k0_pay1, k0_pay2]
  rfl

theorem out6 : out0_6 w g p q (ix2 i j) = first (p (ix2 i j)) (g (ix2 i j)) := by
  unfold out0_6
  rw [View.canon_unit_zero hz]
  simp only [View.ld_unit_zero (S := S256x768) hz]
  pointwise [k0_pay1]
  rfl

theorem out7 : out0_7 w g p q (ix2 i j) = second (q (ix2 i j)) (g (ix2 i j)) := by
  unfold out0_7
  rw [View.canon_unit_zero hz]
  simp only [View.ld_unit_zero (S := S256x768) hz]
  pointwise [k0_pay2]
  rfl
end

/-! ## The results after the run -/

theorem emb4 (t : Fin cfg0.N) (r : Fin 256) (k : Fin 768) (h : 256 * t.val + r.val < 1024) :
    ((View.whole main_v0_0).slice (win0_4.rect t)).emb (ix2 r k) = ix2 ⟨256 * t.val + r.val, h⟩ k := by
  have e := w4 t
  funext a; fin_cases a
  · refine Fin.ext (show win0_4.index t 0 * 256 + 1 * r.val = 256 * t.val + r.val from ?_)
    rw [e]; show t.val * 256 + 1 * r.val = _; omega
  · refine Fin.ext (show win0_4.index t 1 * 768 + 1 * k.val = k.val from ?_)
    rw [e]; show 0 * 768 + 1 * k.val = _; omega

theorem emb5 (t : Fin cfg0.N) (r : Fin 256) (k : Fin 768) (h : 256 * t.val + r.val < 1024) :
    ((View.whole main_v0_1).slice (win0_5.rect t)).emb (ix2 r k) = ix2 ⟨256 * t.val + r.val, h⟩ k := by
  have e := w5 t
  funext a; fin_cases a
  · refine Fin.ext (show win0_5.index t 0 * 256 + 1 * r.val = 256 * t.val + r.val from ?_)
    rw [e]; show t.val * 256 + 1 * r.val = _; omega
  · refine Fin.ext (show win0_5.index t 1 * 768 + 1 * k.val = k.val from ?_)
    rw [e]; show 0 * 768 + 1 * k.val = _; omega

theorem emb6 (t : Fin cfg0.N) (r : Fin 256) (k : Fin 768) (h : 256 * t.val + r.val < 1024) :
    ((View.whole main_v0_2).slice (win0_6.rect t)).emb (ix2 r k) = ix2 ⟨256 * t.val + r.val, h⟩ k := by
  have e := w6 t
  funext a; fin_cases a
  · refine Fin.ext (show win0_6.index t 0 * 256 + 1 * r.val = 256 * t.val + r.val from ?_)
    rw [e]; show t.val * 256 + 1 * r.val = _; omega
  · refine Fin.ext (show win0_6.index t 1 * 768 + 1 * k.val = k.val from ?_)
    rw [e]; show 0 * 768 + 1 * k.val = _; omega

theorem emb7 (t : Fin cfg0.N) (r : Fin 256) (k : Fin 768) (h : 256 * t.val + r.val < 1024) :
    ((View.whole main_v0_3).slice (win0_7.rect t)).emb (ix2 r k) = ix2 ⟨256 * t.val + r.val, h⟩ k := by
  have e := w7 t
  funext a; fin_cases a
  · refine Fin.ext (show win0_7.index t 0 * 256 + 1 * r.val = 256 * t.val + r.val from ?_)
    rw [e]; show t.val * 256 + 1 * r.val = _; omega
  · refine Fin.ext (show win0_7.index t 1 * 768 + 1 * k.val = k.val from ?_)
    rw [e]; show 0 * 768 + 1 * k.val = _; omega

theorem value4 (i : Fin 1024) (j : Fin 768) : (dats m 0 c).arrAt 4 cfg0.N (ix2 i j) = G m c (ix2 i j) := by
  have h := (dats m 0 c).arrAt_eq_of_covers 4 (fun x => (G m c (ix2 (x 0) (x 1)) : EReal)) (by decide +kernel) fun t hf y => by
    have ht : t.val < 4 := lt_of_lt_of_eq t.isLt N_0
    idx_vars y
    have p := emb4 t y0 y1 (by omega)
    blk_simp [w4 t]
    rw [after0_4, p]
    refine (out4 _ _ _ _ y0 y1).trans ?_
    rw [b1 m c t y0 y1 (by omega)]
    rfl
  rw [h]
  rfl

theorem value5 (i : Fin 1024) (j : Fin 768) : (dats m 0 c).arrAt 5 cfg0.N (ix2 i j) = change (W m c (ix2 i j)) (M m c (ix2 i j)) (Q m c (ix2 i j)) (G m c (ix2 i j)) := by
  have h := (dats m 0 c).arrAt_eq_of_covers 5 (fun x => (change (W m c (ix2 (x 0) (x 1))) (M m c (ix2 (x 0) (x 1))) (Q m c (ix2 (x 0) (x 1))) (G m c (ix2 (x 0) (x 1))) : EReal)) (by decide +kernel) fun t hf y => by
    have ht : t.val < 4 := lt_of_lt_of_eq t.isLt N_0
    idx_vars y
    have p := emb5 t y0 y1 (by omega)
    blk_simp [w5 t]
    rw [after0_5, p]
    refine (out5 _ _ _ _ y0 y1).trans ?_
    rw [b1 m c t y0 y1 (by omega), b0 m c t y0 y1 (by omega), b2 m c t y0 y1 (by omega), b3 m c t y0 y1 (by omega)]
    rfl
  rw [h]
  rfl

theorem value6 (i : Fin 1024) (j : Fin 768) : (dats m 0 c).arrAt 6 cfg0.N (ix2 i j) = first (M m c (ix2 i j)) (G m c (ix2 i j)) := by
  have h := (dats m 0 c).arrAt_eq_of_covers 6 (fun x => (first (M m c (ix2 (x 0) (x 1))) (G m c (ix2 (x 0) (x 1))) : EReal)) (by decide +kernel) fun t hf y => by
    have ht : t.val < 4 := lt_of_lt_of_eq t.isLt N_0
    idx_vars y
    have p := emb6 t y0 y1 (by omega)
    blk_simp [w6 t]
    rw [after0_6, p]
    refine (out6 _ _ _ _ y0 y1).trans ?_
    rw [b1 m c t y0 y1 (by omega), b2 m c t y0 y1 (by omega)]
    rfl
  rw [h]
  rfl

theorem value7 (i : Fin 1024) (j : Fin 768) : (dats m 0 c).arrAt 7 cfg0.N (ix2 i j) = second (Q m c (ix2 i j)) (G m c (ix2 i j)) := by
  have h := (dats m 0 c).arrAt_eq_of_covers 7 (fun x => (second (Q m c (ix2 (x 0) (x 1))) (G m c (ix2 (x 0) (x 1))) : EReal)) (by decide +kernel) fun t hf y => by
    have ht : t.val < 4 := lt_of_lt_of_eq t.isLt N_0
    idx_vars y
    have p := emb7 t y0 y1 (by omega)
    blk_simp [w7 t]
    rw [after0_7, p]
    refine (out7 _ _ _ _ y0 y1).trans ?_
    rw [b1 m c t y0 y1 (by omega), b3 m c t y0 y1 (by omega)]
    rfl
  rw [h]
  rfl

/-! ## The reference -/

section
variable (x0 : FVec Ideal S1024x768 .f32) (x1 : FVec Ideal S1024x768 .f32) (x2 x3 : FVec Ideal S1024x768 .f32) (i : Fin 1024) (j : Fin 768)

theorem ref_first : val_main_v4 (F := Ideal) x1 x2 (ix2 i j) = first (x2 (ix2 i j)) (x1 (ix2 i j)) := by
  pointwise [val_main_v4, val_main_v3, val_main_v2, val_main_v1, val_main_v0, val_main_cst, val_main_cst_0]
  rfl

theorem ref_second : val_main_v10 (F := Ideal) x1 x3 (ix2 i j) = second (x3 (ix2 i j)) (x1 (ix2 i j)) := by
  pointwise [val_main_v10, val_main_v9, val_main_v8, val_main_v7, val_main_v6, val_main_v5, val_main_cst_1, val_main_cst_2]
  rfl

theorem ref_change : val_main_v23 (F := Ideal) x0 x1 x2 x3 (ix2 i j)
    = change (x0 (ix2 i j)) (x2 (ix2 i j)) (x3 (ix2 i j)) (x1 (ix2 i j)) := by
  unfold change
  rw [← ref_first x1 x2 i j, ← ref_second x1 x3 i j]
  generalize e6 : val_main_v4 (F := Ideal) x1 x2 = p
  generalize e12 : val_main_v10 (F := Ideal) x1 x3 = q
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  rw [e6, e12]
end

/-! ## The reference's results are what the grid leaves -/

section
variable {x0 : FVec Ideal S1024x768 .f32} {x1 : FVec Ideal S1024x768 .f32} {x2 x3 : FVec Ideal S1024x768 .f32}

theorem grad_result (e1 : x1 = m ((c : Thread nD τ).loc main_arg1)) : x1 = (dats m 0 c).arrAt 4 cfg0.N := by
  have h := value4 m c
  simp only [G, V_main_arg1, ← e1] at h
  generalize (dats m 0 c).arrAt 4 cfg0.N = o at h ⊢
  funext y
  idx_vars y
  exact (h y0 y1).symm

theorem change_result (e0 : x0 = m ((c : Thread nD τ).loc main_arg0)) (e1 : x1 = m ((c : Thread nD τ).loc main_arg1))
    (e2 : x2 = m ((c : Thread nD τ).loc main_arg2)) (e3 : x3 = m ((c : Thread nD τ).loc main_arg3)) :
    val_main_v23 (F := Ideal) x0 x1 x2 x3 = (dats m 0 c).arrAt 5 cfg0.N := by
  have h := value5 m c
  have g := ref_change x0 x1 x2 x3
  simp only [W, G, M, Q, V_main_arg0, V_main_arg1, V_main_arg2, V_main_arg3, ← e0, ← e1, ← e2, ← e3] at h
  generalize (dats m 0 c).arrAt 5 cfg0.N = o at h ⊢
  funext y
  idx_vars y
  exact (g y0 y1).trans (h y0 y1).symm

theorem first_result (e1 : x1 = m ((c : Thread nD τ).loc main_arg1)) (e2 : x2 = m ((c : Thread nD τ).loc main_arg2)) :
    val_main_v4 (F := Ideal) x1 x2 = (dats m 0 c).arrAt 6 cfg0.N := by
  have h := value6 m c
  have g := ref_first x1 x2
  simp only [G, M, V_main_arg1, V_main_arg2, ← e1, ← e2] at h
  generalize (dats m 0 c).arrAt 6 cfg0.N = o at h ⊢
  funext y
  idx_vars y
  exact (g y0 y1).trans (h y0 y1).symm

theorem second_result (e1 : x1 = m ((c : Thread nD τ).loc main_arg1)) (e3 : x3 = m ((c : Thread nD τ).loc main_arg3)) :
    val_main_v10 (F := Ideal) x1 x3 = (dats m 0 c).arrAt 7 cfg0.N := by
  have h := value7 m c
  have g := ref_second x1 x3
  simp only [G, Q, V_main_arg1, V_main_arg3, ← e1, ← e3] at h
  generalize (dats m 0 c).arrAt 7 cfg0.N = o at h ⊢
  funext y
  idx_vars y
  exact (g y0 y1).trans (h y0 y1).symm
end

end Cert.Row.UpAda
end
-- ==== Proof.Row.UpConv.lean ====
/- AdamW of a device's columns of the convolution's weight: what the grid leaves in its four results, and that the
   reference computes them. -/
module

public import proofs.«01_k».proof.Proof.Row.Adam
public import proofs.«01_k».proof.Proof.Gen.UpConvIdeal.Value
public import proofs.«01_k».proof.Proof.Gen.UpConvRefIdeal.Read
public import Idealize.ShloMosaic.Lib.StableHlo.ReadAt

@[expose] public section

set_option maxRecDepth 16384

noncomputable section

namespace Cert.Row.UpConv

open Cert.UpConvIdeal Cert.UpConvIdeal.Gen Idealize.ShloMosaic Idealize.ShloMosaic.TcCoe
open Cert.UpConvRefIdeal.Read

variable (m : (ℓ : Loc nD τ sig) → Buf (Elt Ideal) ℓ) (c : Dev nD)

@[irreducible] def W : FVec Ideal S4x192 .f32 := V m c main_arg0
@[irreducible] def G : FVec Ideal S4x192 .f32 := V m c main_arg1
@[irreducible] def M : FVec Ideal S4x192 .f32 := V m c main_arg2
@[irreducible] def Q : FVec Ideal S4x192 .f32 := V m c main_arg3

/-! ## The blocks of a point -/

theorem w0 : ∀ t : Fin cfg0.N, win0_0.index t = ![t.val, 0] := by decide +kernel
theorem w1 : ∀ t : Fin cfg0.N, win0_1.index t = ![t.val, 0] := by decide +kernel
theorem w2 : ∀ t : Fin cfg0.N, win0_2.index t = ![t.val, 0] := by decide +kernel
theorem w3 : ∀ t : Fin cfg0.N, win0_3.index t = ![t.val, 0] := by decide +kernel
theorem w4 : ∀ t : Fin cfg0.N, win0_4.index t = ![t.val, 0] := by decide +kernel
theorem w5 : ∀ t : Fin cfg0.N, win0_5.index t = ![t.val, 0] := by decide +kernel
theorem w6 : ∀ t : Fin cfg0.N, win0_6.index t = ![t.val, 0] := by decide +kernel
theorem w7 : ∀ t : Fin cfg0.N, win0_7.index t = ![t.val, 0] := by decide +kernel

theorem b0 (t : Fin cfg0.N) (r : Fin 4) (k : Fin 192) (h : 4 * t.val + r.val < 4) :
    (iblk m c 0 t : Vec Ideal S4x192 .f32) (ix2 r k) = W m c (ix2 ⟨4 * t.val + r.val, h⟩ k) := by
  unfold W; blk_ext [iblk, w0 t]

theorem b1 (t : Fin cfg0.N) (r : Fin 4) (k : Fin 192) (h : 4 * t.val + r.val < 4) :
    (iblk m c 1 t : Vec Ideal S4x192 .f32) (ix2 r k) = G m c (ix2 ⟨4 * t.val + r.val, h⟩ k) := by
  unfold G; blk_ext [iblk, w1 t]

theorem b2 (t : Fin cfg0.N) (r : Fin 4) (k : Fin 192) (h : 4 * t.val + r.val < 4) :
    (iblk m c 2 t : Vec Ideal S4x192 .f32) (ix2 r k) = M m c (ix2 ⟨4 * t.val + r.val, h⟩ k) := by
  unfold M; blk_ext [iblk, w2 t]

theorem b3 (t : Fin cfg0.N) (r : Fin 4) (k : Fin 192) (h : 4 * t.val + r.val < 4) :
    (iblk m c 3 t : Vec Ideal S4x192 .f32) (ix2 r k) = Q m c (ix2 ⟨4 * t.val + r.val, h⟩ k) := by
  unfold Q; blk_ext [iblk, w3 t]

theorem hz : (![0, 0] : Fin 2 → Nat) = fun _ => 0 := funext fun a => by fin_cases a <;> rfl

/-! ## What the body leaves in its output blocks -/

section
variable (w : Vec Ideal S4x192 .f32) (g : Vec Ideal S4x192 .f32) (p q : Vec Ideal S4x192 .f32) (i : Fin 4) (j : Fin 192)

theorem out4 : out0_4 w g p q (ix2 i j) = g (ix2 i j) := by
  unfold out0_4
  rw [View.canon_unit_zero hz, View.ld_unit_zero (S := S4x192) hz]

theorem out5 : out0_5 w g p q (ix2 i j) = change (w (ix2 i j)) (p (ix2 i j)) (q (ix2 i j)) (g (ix2 i j)) := by
  unfold out0_5
  rw [View.canon_unit_zero hz]
  simp only [View.ld_unit_zero (S := S4x192) hz]
  pointwise [k0_pay3, k0_pay1, k0_pay2]
  rfl

theorem out6 : out0_6 w g p q (ix2 i j) = first (p (ix2 i j)) (g (ix2 i j)) := by
  unfold out0_6
  rw [View.canon_unit_zero hz]
  simp only [View.ld_unit_zero (S := S4x192) hz]
  pointwise [k0_pay1]
  rfl

theorem out7 : out0_7 w g p q (ix2 i j) = second (q (ix2 i j)) (g (ix2 i j)) := by
  unfold out0_7
  rw [View.canon_unit_zero hz]
  simp only [View.ld_unit_zero (S := S4x192) hz]
  pointwise [k0_pay2]
  rfl
end

/-! ## The results after the run -/

theorem emb4 (t : Fin cfg0.N) (r : Fin 4) (k : Fin 192) (h : 4 * t.val + r.val < 4) :
    ((View.whole main_v0_0).slice (win0_4.rect t)).emb (ix2 r k) = ix2 ⟨4 * t.val + r.val, h⟩ k := by
  have e := w4 t
  funext a; fin_cases a
  · refine Fin.ext (show win0_4.index t 0 * 4 + 1 * r.val = 4 * t.val + r.val from ?_)
    rw [e]; show t.val * 4 + 1 * r.val = _; omega
  · refine Fin.ext (show win0_4.index t 1 * 192 + 1 * k.val = k.val from ?_)
    rw [e]; show 0 * 192 + 1 * k.val = _; omega

theorem emb5 (t : Fin cfg0.N) (r : Fin 4) (k : Fin 192) (h : 4 * t.val + r.val < 4) :
    ((View.whole main_v0_1).slice (win0_5.rect t)).emb (ix2 r k) = ix2 ⟨4 * t.val + r.val, h⟩ k := by
  have e := w5 t
  funext a; fin_cases a
  · refine Fin.ext (show win0_5.index t 0 * 4 + 1 * r.val = 4 * t.val + r.val from ?_)
    rw [e]; show t.val * 4 + 1 * r.val = _; omega
  · refine Fin.ext (show win0_5.index t 1 * 192 + 1 * k.val = k.val from ?_)
    rw [e]; show 0 * 192 + 1 * k.val = _; omega

theorem emb6 (t : Fin cfg0.N) (r : Fin 4) (k : Fin 192) (h : 4 * t.val + r.val < 4) :
    ((View.whole main_v0_2).slice (win0_6.rect t)).emb (ix2 r k) = ix2 ⟨4 * t.val + r.val, h⟩ k := by
  have e := w6 t
  funext a; fin_cases a
  · refine Fin.ext (show win0_6.index t 0 * 4 + 1 * r.val = 4 * t.val + r.val from ?_)
    rw [e]; show t.val * 4 + 1 * r.val = _; omega
  · refine Fin.ext (show win0_6.index t 1 * 192 + 1 * k.val = k.val from ?_)
    rw [e]; show 0 * 192 + 1 * k.val = _; omega

theorem emb7 (t : Fin cfg0.N) (r : Fin 4) (k : Fin 192) (h : 4 * t.val + r.val < 4) :
    ((View.whole main_v0_3).slice (win0_7.rect t)).emb (ix2 r k) = ix2 ⟨4 * t.val + r.val, h⟩ k := by
  have e := w7 t
  funext a; fin_cases a
  · refine Fin.ext (show win0_7.index t 0 * 4 + 1 * r.val = 4 * t.val + r.val from ?_)
    rw [e]; show t.val * 4 + 1 * r.val = _; omega
  · refine Fin.ext (show win0_7.index t 1 * 192 + 1 * k.val = k.val from ?_)
    rw [e]; show 0 * 192 + 1 * k.val = _; omega

theorem value4 (i : Fin 4) (j : Fin 192) : (dats m 0 c).arrAt 4 cfg0.N (ix2 i j) = G m c (ix2 i j) := by
  have h := (dats m 0 c).arrAt_eq_of_covers 4 (fun x => (G m c (ix2 (x 0) (x 1)) : EReal)) (by decide +kernel) fun t hf y => by
    have ht : t.val < 1 := lt_of_lt_of_eq t.isLt N_0
    idx_vars y
    have p := emb4 t y0 y1 (by omega)
    blk_simp [w4 t]
    rw [after0_4, p]
    refine (out4 _ _ _ _ y0 y1).trans ?_
    rw [b1 m c t y0 y1 (by omega)]
    rfl
  rw [h]
  rfl

theorem value5 (i : Fin 4) (j : Fin 192) : (dats m 0 c).arrAt 5 cfg0.N (ix2 i j) = change (W m c (ix2 i j)) (M m c (ix2 i j)) (Q m c (ix2 i j)) (G m c (ix2 i j)) := by
  have h := (dats m 0 c).arrAt_eq_of_covers 5 (fun x => (change (W m c (ix2 (x 0) (x 1))) (M m c (ix2 (x 0) (x 1))) (Q m c (ix2 (x 0) (x 1))) (G m c (ix2 (x 0) (x 1))) : EReal)) (by decide +kernel) fun t hf y => by
    have ht : t.val < 1 := lt_of_lt_of_eq t.isLt N_0
    idx_vars y
    have p := emb5 t y0 y1 (by omega)
    blk_simp [w5 t]
    rw [after0_5, p]
    refine (out5 _ _ _ _ y0 y1).trans ?_
    rw [b1 m c t y0 y1 (by omega), b0 m c t y0 y1 (by omega), b2 m c t y0 y1 (by omega), b3 m c t y0 y1 (by omega)]
    rfl
  rw [h]
  rfl

theorem value6 (i : Fin 4) (j : Fin 192) : (dats m 0 c).arrAt 6 cfg0.N (ix2 i j) = first (M m c (ix2 i j)) (G m c (ix2 i j)) := by
  have h := (dats m 0 c).arrAt_eq_of_covers 6 (fun x => (first (M m c (ix2 (x 0) (x 1))) (G m c (ix2 (x 0) (x 1))) : EReal)) (by decide +kernel) fun t hf y => by
    have ht : t.val < 1 := lt_of_lt_of_eq t.isLt N_0
    idx_vars y
    have p := emb6 t y0 y1 (by omega)
    blk_simp [w6 t]
    rw [after0_6, p]
    refine (out6 _ _ _ _ y0 y1).trans ?_
    rw [b1 m c t y0 y1 (by omega), b2 m c t y0 y1 (by omega)]
    rfl
  rw [h]
  rfl

theorem value7 (i : Fin 4) (j : Fin 192) : (dats m 0 c).arrAt 7 cfg0.N (ix2 i j) = second (Q m c (ix2 i j)) (G m c (ix2 i j)) := by
  have h := (dats m 0 c).arrAt_eq_of_covers 7 (fun x => (second (Q m c (ix2 (x 0) (x 1))) (G m c (ix2 (x 0) (x 1))) : EReal)) (by decide +kernel) fun t hf y => by
    have ht : t.val < 1 := lt_of_lt_of_eq t.isLt N_0
    idx_vars y
    have p := emb7 t y0 y1 (by omega)
    blk_simp [w7 t]
    rw [after0_7, p]
    refine (out7 _ _ _ _ y0 y1).trans ?_
    rw [b1 m c t y0 y1 (by omega), b3 m c t y0 y1 (by omega)]
    rfl
  rw [h]
  rfl

/-! ## The reference -/

section
variable (x0 : FVec Ideal S4x192 .f32) (x1 : FVec Ideal S4x192 .f32) (x2 x3 : FVec Ideal S4x192 .f32) (i : Fin 4) (j : Fin 192)

theorem ref_first : val_main_v4 (F := Ideal) x1 x2 (ix2 i j) = first (x2 (ix2 i j)) (x1 (ix2 i j)) := by
  pointwise [val_main_v4, val_main_v3, val_main_v2, val_main_v1, val_main_v0, val_main_cst, val_main_cst_0]
  rfl

theorem ref_second : val_main_v10 (F := Ideal) x1 x3 (ix2 i j) = second (x3 (ix2 i j)) (x1 (ix2 i j)) := by
  pointwise [val_main_v10, val_main_v9, val_main_v8, val_main_v7, val_main_v6, val_main_v5, val_main_cst_1, val_main_cst_2]
  rfl

theorem ref_change : val_main_v23 (F := Ideal) x0 x1 x2 x3 (ix2 i j)
    = change (x0 (ix2 i j)) (x2 (ix2 i j)) (x3 (ix2 i j)) (x1 (ix2 i j)) := by
  unfold change
  rw [← ref_first x1 x2 i j, ← ref_second x1 x3 i j]
  generalize e6 : val_main_v4 (F := Ideal) x1 x2 = p
  generalize e12 : val_main_v10 (F := Ideal) x1 x3 = q
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  rw [e6, e12]
end

/-! ## The reference's results are what the grid leaves -/

section
variable {x0 : FVec Ideal S4x192 .f32} {x1 : FVec Ideal S4x192 .f32} {x2 x3 : FVec Ideal S4x192 .f32}

theorem grad_result (e1 : x1 = m ((c : Thread nD τ).loc main_arg1)) : x1 = (dats m 0 c).arrAt 4 cfg0.N := by
  have h := value4 m c
  simp only [G, V_main_arg1, ← e1] at h
  generalize (dats m 0 c).arrAt 4 cfg0.N = o at h ⊢
  funext y
  idx_vars y
  exact (h y0 y1).symm

theorem change_result (e0 : x0 = m ((c : Thread nD τ).loc main_arg0)) (e1 : x1 = m ((c : Thread nD τ).loc main_arg1))
    (e2 : x2 = m ((c : Thread nD τ).loc main_arg2)) (e3 : x3 = m ((c : Thread nD τ).loc main_arg3)) :
    val_main_v23 (F := Ideal) x0 x1 x2 x3 = (dats m 0 c).arrAt 5 cfg0.N := by
  have h := value5 m c
  have g := ref_change x0 x1 x2 x3
  simp only [W, G, M, Q, V_main_arg0, V_main_arg1, V_main_arg2, V_main_arg3, ← e0, ← e1, ← e2, ← e3] at h
  generalize (dats m 0 c).arrAt 5 cfg0.N = o at h ⊢
  funext y
  idx_vars y
  exact (g y0 y1).trans (h y0 y1).symm

theorem first_result (e1 : x1 = m ((c : Thread nD τ).loc main_arg1)) (e2 : x2 = m ((c : Thread nD τ).loc main_arg2)) :
    val_main_v4 (F := Ideal) x1 x2 = (dats m 0 c).arrAt 6 cfg0.N := by
  have h := value6 m c
  have g := ref_first x1 x2
  simp only [G, M, V_main_arg1, V_main_arg2, ← e1, ← e2] at h
  generalize (dats m 0 c).arrAt 6 cfg0.N = o at h ⊢
  funext y
  idx_vars y
  exact (g y0 y1).trans (h y0 y1).symm

theorem second_result (e1 : x1 = m ((c : Thread nD τ).loc main_arg1)) (e3 : x3 = m ((c : Thread nD τ).loc main_arg3)) :
    val_main_v10 (F := Ideal) x1 x3 = (dats m 0 c).arrAt 7 cfg0.N := by
  have h := value7 m c
  have g := ref_second x1 x3
  simp only [G, Q, V_main_arg1, V_main_arg3, ← e1, ← e3] at h
  generalize (dats m 0 c).arrAt 7 cfg0.N = o at h ⊢
  funext y
  idx_vars y
  exact (g y0 y1).trans (h y0 y1).symm
end

end Cert.Row.UpConv
end
-- ==== Proof.Row.Claims.lean ====
/- The claims of the calls that work entry by entry: the gradient and the modulation of the sequence, and the AdamW updates. A
   reference has no semaphore and runs to its end; what a kernel's grid leaves is the reference's results. -/
module

public import proofs.«01_k».proof.Defs
public import proofs.«01_k».proof.Proof.Gen.InputGrad.Frame
public import proofs.«01_k».proof.Proof.Gen.InputGradIdeal.Frame
public import proofs.«01_k».proof.Proof.Gen.InputGradRefIdeal.Run
public import proofs.«01_k».proof.Proof.Gen.InputGradRefIdeal.Read
public import proofs.«01_k».proof.Proof.Row.InputGrad
public import proofs.«01_k».proof.Proof.Gen.Modulate.Frame
public import proofs.«01_k».proof.Proof.Gen.ModulateIdeal.Frame
public import proofs.«01_k».proof.Proof.Gen.ModulateRefIdeal.Run
public import proofs.«01_k».proof.Proof.Gen.ModulateRefIdeal.Read
public import proofs.«01_k».proof.Proof.Row.Modulate
public import proofs.«01_k».proof.Proof.Gen.UpFfIn.Frame
public import proofs.«01_k».proof.Proof.Gen.UpFfInIdeal.Frame
public import proofs.«01_k».proof.Proof.Gen.UpFfInRefIdeal.Run
public import proofs.«01_k».proof.Proof.Gen.UpFfInRefIdeal.Read
public import proofs.«01_k».proof.Proof.Row.UpFfIn
public import proofs.«01_k».proof.Proof.Gen.UpFfOut.Frame
public import proofs.«01_k».proof.Proof.Gen.UpFfOutIdeal.Frame
public import proofs.«01_k».proof.Proof.Gen.UpFfOutRefIdeal.Run
public import proofs.«01_k».proof.Proof.Gen.UpFfOutRefIdeal.Read
public import proofs.«01_k».proof.Proof.Row.UpFfOut
public import proofs.«01_k».proof.Proof.Gen.UpOut.Frame
public import proofs.«01_k».proof.Proof.Gen.UpOutIdeal.Frame
public import proofs.«01_k».proof.Proof.Gen.UpOutRefIdeal.Run
public import proofs.«01_k».proof.Proof.Gen.UpOutRefIdeal.Read
public import proofs.«01_k».proof.Proof.Row.UpOut
public import proofs.«01_k».proof.Proof.Gen.UpIn.Frame
public import proofs.«01_k».proof.Proof.Gen.UpInIdeal.Frame
public import proofs.«01_k».proof.Proof.Gen.UpInRefIdeal.Run
public import proofs.«01_k».proof.Proof.Gen.UpInRefIdeal.Read
public import proofs.«01_k».proof.Proof.Row.UpIn
public import proofs.«01_k».proof.Proof.Gen.UpAda.Frame
public import proofs.«01_k».proof.Proof.Gen.UpAdaIdeal.Frame
public import proofs.«01_k».proof.Proof.Gen.UpAdaRefIdeal.Run
public import proofs.«01_k».proof.Proof.Gen.UpAdaRefIdeal.Read
public import proofs.«01_k».proof.Proof.Row.UpAda
public import proofs.«01_k».proof.Proof.Gen.UpConv.Frame
public import proofs.«01_k».proof.Proof.Gen.UpConvIdeal.Frame
public import proofs.«01_k».proof.Proof.Gen.UpConvRefIdeal.Run
public import proofs.«01_k».proof.Proof.Gen.UpConvRefIdeal.Read
public import proofs.«01_k».proof.Proof.Row.UpConv

@[expose] public section

noncomputable section

open Idealize.ShloMosaic Idealize.SL.Sem

namespace Cert.Row.InputGrad

/-- The reference of the gradient of the sequence runs to its end and leaves its arguments as they were. -/
theorem frame_ref : Cert.quiescent_InputGradRefIdeal (hInputGradRefIdeal := Cert.InputGradRefIdeal.Gen.facts) := by
  intro m ρ _
  exact (θ_run Cert.InputGradRefIdeal.defs _ _).mono
    (fun r h => ⟨fun c => (h c).2.2.2, Idealize.ShloMosaic.sem_eq_zero_of_no_sems (by decide) r.2⟩)
    (Cert.InputGradRefIdeal.Value.run (F := Ideal) m ρ)

/-- The kernel and the reference end with the same results: the gradients of the sequence, of the scale and of the shift. -/
theorem algebraic : Cert.algebraic_InputGradIdeal_InputGradRefIdeal (hInputGradIdeal := Cert.InputGradIdeal.Gen.facts)
    (hInputGradRefIdeal := Cert.InputGradRefIdeal.Gen.facts) := by
  intro m ρ m' ρ' _ hagree
  refine ⟨_, _, _, Cert.InputGradIdeal.Value.run_blocks (F := Ideal) m ρ, ?_⟩
  refine (θ_run Cert.InputGradRefIdeal.defs _ _).mono (fun r h c => ?_) (Cert.InputGradRefIdeal.Value.run (F := Ideal) m' ρ')
  obtain ⟨h0, h1, h2, hk⟩ := h c
  obtain ⟨a0, a1, _, a3, a4⟩ := hagree c
  exact ⟨h0.trans ((Cert.InputGradRefIdeal.Read.val_main_v18_eq _ _ _).trans (rows_result m c a1 a3 a4)),
    h1.trans ((Cert.InputGradRefIdeal.Read.val_main_v13_eq _ _).trans (scale_result m c a0 a3)),
    h2.trans ((Cert.InputGradRefIdeal.Read.val_main_v10_eq _).trans (shift_result m c a3)), hk⟩

end Cert.Row.InputGrad

namespace Cert.Row.Modulate

/-- The reference of the scaled and shifted rows runs to its end and leaves its arguments as they were. -/
theorem frame_ref : Cert.quiescent_ModulateRefIdeal (hModulateRefIdeal := Cert.ModulateRefIdeal.Gen.facts) := by
  intro m ρ _
  exact (θ_run Cert.ModulateRefIdeal.defs _ _).mono
    (fun r h => ⟨fun c => (h c).2, Idealize.ShloMosaic.sem_eq_zero_of_no_sems (by decide) r.2⟩)
    (Cert.ModulateRefIdeal.Value.run (F := Ideal) m ρ)

/-- The kernel and the reference end with the same results: the scaled and shifted rows. -/
theorem algebraic : Cert.algebraic_ModulateIdeal_ModulateRefIdeal (hModulateIdeal := Cert.ModulateIdeal.Gen.facts)
    (hModulateRefIdeal := Cert.ModulateRefIdeal.Gen.facts) := by
  intro m ρ m' ρ' _ hagree
  refine ⟨_, Cert.ModulateIdeal.Value.run_blocks (F := Ideal) m ρ, ?_⟩
  refine (θ_run Cert.ModulateRefIdeal.defs _ _).mono (fun r h c => ?_) (Cert.ModulateRefIdeal.Value.run (F := Ideal) m' ρ')
  obtain ⟨h0, hk⟩ := h c
  obtain ⟨a0, a1, a2⟩ := hagree c
  exact ⟨h0.trans ((Cert.ModulateRefIdeal.Read.val_main_v8_eq _ _ _).trans (result_eq m c a0 a1 a2)), hk⟩

end Cert.Row.Modulate

namespace Cert.Row.UpFfIn

/-- The reference of the update of the first weight runs to its end and leaves its arguments as they were. -/
theorem frame_ref : Cert.quiescent_UpFfInRefIdeal (hUpFfInRefIdeal := Cert.UpFfInRefIdeal.Gen.facts) := by
  intro m ρ _
  exact (θ_run Cert.UpFfInRefIdeal.defs _ _).mono
    (fun r h => ⟨fun c => (h c).2.2.2.2, Idealize.ShloMosaic.sem_eq_zero_of_no_sems (by decide) r.2⟩)
    (Cert.UpFfInRefIdeal.Value.run (F := Ideal) m ρ)

/-- The kernel and the reference end with the same results: the gradient, the change of the weight and the two new moments. -/
theorem algebraic : Cert.algebraic_UpFfInIdeal_UpFfInRefIdeal (hUpFfInIdeal := Cert.UpFfInIdeal.Gen.facts)
    (hUpFfInRefIdeal := Cert.UpFfInRefIdeal.Gen.facts) := by
  intro m ρ m' ρ' _ hagree
  refine ⟨_, _, _, _, Cert.UpFfInIdeal.Value.run_blocks (F := Ideal) m ρ, ?_⟩
  refine (θ_run Cert.UpFfInRefIdeal.defs _ _).mono (fun r h c => ?_) (Cert.UpFfInRefIdeal.Value.run (F := Ideal) m' ρ')
  obtain ⟨h0, h1, h2, h3, hk⟩ := h c
  obtain ⟨a0, a1, a2, a3⟩ := hagree c
  exact ⟨h0.trans ((Cert.UpFfInRefIdeal.Read.val_main_v1_eq _).trans (grad_result m c a1)),
    h1.trans ((Cert.UpFfInRefIdeal.Read.val_main_v25_eq _ _ _ _).trans (change_result m c a0 a1 a2 a3)),
    h2.trans ((Cert.UpFfInRefIdeal.Read.val_main_v6_eq _ _).trans (first_result m c a1 a2)),
    h3.trans ((Cert.UpFfInRefIdeal.Read.val_main_v12_eq _ _).trans (second_result m c a1 a3)), hk⟩

end Cert.Row.UpFfIn

namespace Cert.Row.UpFfOut

/-- The reference of the update of the second weight runs to its end and leaves its arguments as they were. -/
theorem frame_ref : Cert.quiescent_UpFfOutRefIdeal (hUpFfOutRefIdeal := Cert.UpFfOutRefIdeal.Gen.facts) := by
  intro m ρ _
  exact (θ_run Cert.UpFfOutRefIdeal.defs _ _).mono
    (fun r h => ⟨fun c => (h c).2.2.2.2, Idealize.ShloMosaic.sem_eq_zero_of_no_sems (by decide) r.2⟩)
    (Cert.UpFfOutRefIdeal.Value.run (F := Ideal) m ρ)

/-- The kernel and the reference end with the same results: the gradient, the change of the weight and the two new moments. -/
theorem algebraic : Cert.algebraic_UpFfOutIdeal_UpFfOutRefIdeal (hUpFfOutIdeal := Cert.UpFfOutIdeal.Gen.facts)
    (hUpFfOutRefIdeal := Cert.UpFfOutRefIdeal.Gen.facts) := by
  intro m ρ m' ρ' _ hagree
  refine ⟨_, _, _, _, Cert.UpFfOutIdeal.Value.run_blocks (F := Ideal) m ρ, ?_⟩
  refine (θ_run Cert.UpFfOutRefIdeal.defs _ _).mono (fun r h c => ?_) (Cert.UpFfOutRefIdeal.Value.run (F := Ideal) m' ρ')
  obtain ⟨h0, h1, h2, h3, hk⟩ := h c
  obtain ⟨a0, a1, a2, a3⟩ := hagree c
  exact ⟨h0.trans ((Cert.UpFfOutRefIdeal.Read.val_main_v1_eq _).trans (grad_result m c a1)),
    h1.trans ((Cert.UpFfOutRefIdeal.Read.val_main_v25_eq _ _ _ _).trans (change_result m c a0 a1 a2 a3)),
    h2.trans ((Cert.UpFfOutRefIdeal.Read.val_main_v6_eq _ _).trans (first_result m c a1 a2)),
    h3.trans ((Cert.UpFfOutRefIdeal.Read.val_main_v12_eq _ _).trans (second_result m c a1 a3)), hk⟩

end Cert.Row.UpFfOut

namespace Cert.Row.UpOut

/-- The reference of the update of the output projection's weight runs to its end and leaves its arguments as they were. -/
theorem frame_ref : Cert.quiescent_UpOutRefIdeal (hUpOutRefIdeal := Cert.UpOutRefIdeal.Gen.facts) := by
  intro m ρ _
  exact (θ_run Cert.UpOutRefIdeal.defs _ _).mono
    (fun r h => ⟨fun c => (h c).2.2.2.2, Idealize.ShloMosaic.sem_eq_zero_of_no_sems (by decide) r.2⟩)
    (Cert.UpOutRefIdeal.Value.run (F := Ideal) m ρ)

/-- The kernel and the reference end with the same results: the gradient, the change of the weight and the two new moments. -/
theorem algebraic : Cert.algebraic_UpOutIdeal_UpOutRefIdeal (hUpOutIdeal := Cert.UpOutIdeal.Gen.facts)
    (hUpOutRefIdeal := Cert.UpOutRefIdeal.Gen.facts) := by
  intro m ρ m' ρ' _ hagree
  refine ⟨_, _, _, _, Cert.UpOutIdeal.Value.run_blocks (F := Ideal) m ρ, ?_⟩
  refine (θ_run Cert.UpOutRefIdeal.defs _ _).mono (fun r h c => ?_) (Cert.UpOutRefIdeal.Value.run (F := Ideal) m' ρ')
  obtain ⟨h0, h1, h2, h3, hk⟩ := h c
  obtain ⟨a0, a1, a2, a3⟩ := hagree c
  exact ⟨h0.trans ((Cert.UpOutRefIdeal.Read.val_main_v1_eq _).trans (grad_result m c a1)),
    h1.trans ((Cert.UpOutRefIdeal.Read.val_main_v25_eq _ _ _ _).trans (change_result m c a0 a1 a2 a3)),
    h2.trans ((Cert.UpOutRefIdeal.Read.val_main_v6_eq _ _).trans (first_result m c a1 a2)),
    h3.trans ((Cert.UpOutRefIdeal.Read.val_main_v12_eq _ _).trans (second_result m c a1 a3)), hk⟩

end Cert.Row.UpOut

namespace Cert.Row.UpIn

/-- The reference of the update of the input projection's weight runs to its end and leaves its arguments as they were. -/
theorem frame_ref : Cert.quiescent_UpInRefIdeal (hUpInRefIdeal := Cert.UpInRefIdeal.Gen.facts) := by
  intro m ρ _
  exact (θ_run Cert.UpInRefIdeal.defs _ _).mono
    (fun r h => ⟨fun c => (h c).2.2.2.2, Idealize.ShloMosaic.sem_eq_zero_of_no_sems (by decide) r.2⟩)
    (Cert.UpInRefIdeal.Value.run (F := Ideal) m ρ)

/-- The kernel and the reference end with the same results: the gradient, the change of the weight and the two new moments. -/
theorem algebraic : Cert.algebraic_UpInIdeal_UpInRefIdeal (hUpInIdeal := Cert.UpInIdeal.Gen.facts)
    (hUpInRefIdeal := Cert.UpInRefIdeal.Gen.facts) := by
  intro m ρ m' ρ' _ hagree
  refine ⟨_, _, _, _, Cert.UpInIdeal.Value.run_blocks (F := Ideal) m ρ, ?_⟩
  refine (θ_run Cert.UpInRefIdeal.defs _ _).mono (fun r h c => ?_) (Cert.UpInRefIdeal.Value.run (F := Ideal) m' ρ')
  obtain ⟨h0, h1, h2, h3, hk⟩ := h c
  obtain ⟨a0, a1, a2, a3⟩ := hagree c
  exact ⟨h0.trans ((Cert.UpInRefIdeal.Read.val_main_v27_eq _).trans (grad_result m c a1)),
    h1.trans ((Cert.UpInRefIdeal.Read.val_main_v28_eq _ _ _ _).trans (change_result m c a0 a1 a2 a3)),
    h2.trans ((Cert.UpInRefIdeal.Read.val_main_v29_eq _ _).trans (first_result m c a1 a2)),
    h3.trans ((Cert.UpInRefIdeal.Read.val_main_v30_eq _ _).trans (second_result m c a1 a3)), hk⟩

end Cert.Row.UpIn

namespace Cert.Row.UpAda

/-- The reference of the update of the modulation's weight runs to its end and leaves its arguments as they were. -/
theorem frame_ref : Cert.quiescent_UpAdaRefIdeal (hUpAdaRefIdeal := Cert.UpAdaRefIdeal.Gen.facts) := by
  intro m ρ _
  exact (θ_run Cert.UpAdaRefIdeal.defs _ _).mono
    (fun r h => ⟨fun c => (h c).2.2.2.2, Idealize.ShloMosaic.sem_eq_zero_of_no_sems (by decide) r.2⟩)
    (Cert.UpAdaRefIdeal.Value.run (F := Ideal) m ρ)

/-- The kernel and the reference end with the same results: the gradient, the change of the weight and the two new moments. -/
theorem algebraic : Cert.algebraic_UpAdaIdeal_UpAdaRefIdeal (hUpAdaIdeal := Cert.UpAdaIdeal.Gen.facts)
    (hUpAdaRefIdeal := Cert.UpAdaRefIdeal.Gen.facts) := by
  intro m ρ m' ρ' _ hagree
  refine ⟨_, _, _, _, Cert.UpAdaIdeal.Value.run_blocks (F := Ideal) m ρ, ?_⟩
  refine (θ_run Cert.UpAdaRefIdeal.defs _ _).mono (fun r h c => ?_) (Cert.UpAdaRefIdeal.Value.run (F := Ideal) m' ρ')
  obtain ⟨h0, h1, h2, h3, hk⟩ := h c
  obtain ⟨a0, a1, a2, a3⟩ := hagree c
  exact ⟨h0.trans (grad_result m c a1),
    h1.trans ((Cert.UpAdaRefIdeal.Read.val_main_v23_eq _ _ _ _).trans (change_result m c a0 a1 a2 a3)),
    h2.trans ((Cert.UpAdaRefIdeal.Read.val_main_v4_eq _ _).trans (first_result m c a1 a2)),
    h3.trans ((Cert.UpAdaRefIdeal.Read.val_main_v10_eq _ _).trans (second_result m c a1 a3)), hk⟩

end Cert.Row.UpAda

namespace Cert.Row.UpConv

/-- The reference of the update of the convolution's weight runs to its end and leaves its arguments as they were. -/
theorem frame_ref : Cert.quiescent_UpConvRefIdeal (hUpConvRefIdeal := Cert.UpConvRefIdeal.Gen.facts) := by
  intro m ρ _
  exact (θ_run Cert.UpConvRefIdeal.defs _ _).mono
    (fun r h => ⟨fun c => (h c).2.2.2.2, Idealize.ShloMosaic.sem_eq_zero_of_no_sems (by decide) r.2⟩)
    (Cert.UpConvRefIdeal.Value.run (F := Ideal) m ρ)

/-- The kernel and the reference end with the same results: the gradient, the change of the weight and the two new moments. -/
theorem algebraic : Cert.algebraic_UpConvIdeal_UpConvRefIdeal (hUpConvIdeal := Cert.UpConvIdeal.Gen.facts)
    (hUpConvRefIdeal := Cert.UpConvRefIdeal.Gen.facts) := by
  intro m ρ m' ρ' _ hagree
  refine ⟨_, _, _, _, Cert.UpConvIdeal.Value.run_blocks (F := Ideal) m ρ, ?_⟩
  refine (θ_run Cert.UpConvRefIdeal.defs _ _).mono (fun r h c => ?_) (Cert.UpConvRefIdeal.Value.run (F := Ideal) m' ρ')
  obtain ⟨h0, h1, h2, h3, hk⟩ := h c
  obtain ⟨a0, a1, a2, a3⟩ := hagree c
  exact ⟨h0.trans (grad_result m c a1),
    h1.trans ((Cert.UpConvRefIdeal.Read.val_main_v23_eq _ _ _ _).trans (change_result m c a0 a1 a2 a3)),
    h2.trans ((Cert.UpConvRefIdeal.Read.val_main_v4_eq _ _).trans (first_result m c a1 a2)),
    h3.trans ((Cert.UpConvRefIdeal.Read.val_main_v10_eq _ _).trans (second_result m c a1 a3)), hk⟩

end Cert.Row.UpConv

end
-- ==== Proof.Row.AdaGrad.lean ====
/- The gradient of a device's columns of the modulation's weight: the product of the eight sequences' conditioning after
   silu and of the gradients of their modulation, which the kernel forms in three terms over sixteen rows. -/
module

public import proofs.«01_k».proof.Proof.Row.Adam
public import proofs.«01_k».proof.Proof.Ssd.Real
public import proofs.«01_k».proof.Proof.Ssd.Finite
public import proofs.«01_k».proof.Proof.Gen.AdaGrad.Frame
public import proofs.«01_k».proof.Proof.Gen.AdaGradIdeal.Value
public import proofs.«01_k».proof.Proof.Gen.AdaGradRefIdeal.Run
public import proofs.«01_k».proof.Proof.Gen.AdaGradRefIdeal.Read
public import Idealize.ShloMosaic.Lib.StableHlo.ReadAt

@[expose] public section

set_option maxRecDepth 16384

noncomputable section

namespace Cert.Row.AdaGrad

open Cert.AdaGradIdeal Cert.AdaGradIdeal.Gen Idealize.ShloMosaic Idealize.ShloMosaic.TcCoe
open Cert.AdaGradRefIdeal.Read

/-- Silu of one number: `x / (1 + exp (-x))`, as a product. -/
def silu (x : EReal) : EReal := x * Ideal.div 1 (1 + Ideal.exp (-x))

/-- Silu of a real number is a real number. -/
theorem silu_real (r : ℝ) : ∃ s : ℝ, silu (r : EReal) = (s : EReal) := by
  have h : (1 + Real.exp (-r)) ≠ 0 := by positivity
  refine ⟨r * (1 / (1 + Real.exp (-r))), ?_⟩
  unfold silu
  rw [← EReal.coe_neg, Ideal.exp_coe, Cert.Ssd.one_coe, ← EReal.coe_add, Cert.Ssd.div_coe_coe h, ← EReal.coe_mul]

/-- A real number less itself is zero, so the second and the third term of a number's split are zero. -/
theorem sub_self_of_real {a : EReal} (h : ∃ r : ℝ, a = (r : EReal)) : a - a = 0 := by
  obtain ⟨r, rfl⟩ := h
  exact Cert.Ssd.sub_self_coe r

/-- The shapes of the precondition's values. -/
instance preFacts : Cert.Pre_finite_ada.Facts := by constructor <;> decide

variable (x : FVec Ideal S8x1024 .f32) (d : FVec Ideal S8x768 .f32)

/-- The reference's entry: over the eight sequences, the sum of the products of silu and gradient. -/
theorem ref_entry (i : Fin 1024) (j : Fin 768) :
    val_main_v3 (F := Ideal) x d (ix2 i j) = ∑ b : Fin 8, silu (x (ix2 b i)) * d (ix2 b j) := by
  pointwise [val_main_v3, val_main_v2, val_main_v0, val_main_call0_v5, val_main_call0_v4, val_main_call0_v3, val_main_call0_v2,
    val_main_call0_v1, val_main_call0_v0, val_main_call0_cst, val_main_call0_cst_0]
  exact Finset.sum_congr rfl fun b _ => mul_comm _ _

/-- The kernel's entry, where the entries are real numbers: of its six products five are zero, and the eight rows of zeros
    add nothing. -/
theorem entry (hx : ∀ i, ∃ r : ℝ, x i = (r : EReal)) (hd : ∀ i, ∃ r : ℝ, d i = (r : EReal)) (i : Fin 1024) (j : Fin 768) :
    k0_pay1 (F := Ideal) x d (ix2 i j) = ∑ b : Fin 8, silu (x (ix2 b i)) * d (ix2 b j) := by
  have ed (b : Fin 8) : d (ix2 b j) - d (ix2 b j) = 0 := sub_self_of_real (hd _)
  have es (b : Fin 8) : silu (x (ix2 b i)) - silu (x (ix2 b i)) = 0 := by
    obtain ⟨r, hr⟩ := hx (ix2 b i)
    exact sub_self_of_real (hr ▸ silu_real r)
  have e (b : Fin 8) : x (ix2 b i) * Ideal.div 1 (1 + Ideal.exp (0 - x (ix2 b i))) = silu (x (ix2 b i)) := by
    rw [zero_sub, silu]
  pointwise [k0_pay1]
  simp only [e, ed, es, Cert.Ssd.zero_sub_zero, mul_zero, zero_mul, Finset.sum_const_zero, add_zero]

/-- The reference's result is what the kernel's block holds. -/
theorem result (hx : ∀ i, ∃ r : ℝ, x i = (r : EReal)) (hd : ∀ i, ∃ r : ℝ, d i = (r : EReal)) :
    val_main_v3 (F := Ideal) x d = k0_pay1 (F := Ideal) x d := by
  have h := entry x d hx hd
  have g := ref_entry x d
  generalize k0_pay1 (F := Ideal) x d = o at h ⊢
  funext y
  idx_vars y
  exact (g y0 y1).trans (h y0 y1).symm

/-- The reference of the gradient of the modulation's weight runs to its end and leaves its arguments as they were. -/
theorem frame_ref : Cert.quiescent_AdaGradRefIdeal (hAdaGradRefIdeal := Cert.AdaGradRefIdeal.Gen.facts) := by
  intro m ρ _
  exact (θ_run Cert.AdaGradRefIdeal.defs _ _).mono
    (fun r h => ⟨fun c => (h c).2, Idealize.ShloMosaic.sem_eq_zero_of_no_sems (by decide) r.2⟩)
    (Cert.AdaGradRefIdeal.Value.run (F := Ideal) m ρ)

/-- From arguments whose entries are finite, the kernel and the reference end with the same gradient. -/
theorem algebraic : Cert.algebraic_AdaGradIdeal_AdaGradRefIdeal_pre_finite_ada (hAdaGradIdeal := Cert.AdaGradIdeal.Gen.facts)
    (hAdaGradRefIdeal := Cert.AdaGradRefIdeal.Gen.facts) (hPre_finite_ada := preFacts) := by
  intro m ρ m' ρ' hpre hagree
  refine ⟨_, Cert.AdaGradIdeal.Value.run (F := Ideal) m ρ, ?_⟩
  refine (θ_run Cert.AdaGradRefIdeal.defs _ _).mono (fun r h c => ?_) (Cert.AdaGradRefIdeal.Value.run (F := Ideal) m' ρ')
  obtain ⟨h0, hk⟩ := h c
  obtain ⟨a0, a1, a2⟩ := hagree c
  obtain ⟨p0, p1⟩ := hpre c
  refine ⟨h0.trans ((Cert.AdaGradRefIdeal.Read.val_main_v3_eq _ _).trans ?_), hk⟩
  rw [a0, a1]
  exact result _ _ (Cert.SsdHost.real_entries _ _ p0) (Cert.SsdHost.real_entries _ _ p1)

end Cert.Row.AdaGrad
end
-- ==== Proof.Row.AdaMod.lean ====
/- A device's columns of the modulation: the product of the eight sequences' conditioning after silu and of the weight, which
   the kernel forms in three terms over sixteen rows, and the bias. -/
module

public import proofs.«01_k».proof.Proof.Row.AdaGrad
public import proofs.«01_k».proof.Proof.Gen.AdaMod.Frame
public import proofs.«01_k».proof.Proof.Gen.AdaModIdeal.Value
public import proofs.«01_k».proof.Proof.Gen.AdaModRefIdeal.Run
public import proofs.«01_k».proof.Proof.Gen.AdaModRefIdeal.Read
public import Idealize.ShloMosaic.Lib.StableHlo.ReadAt

@[expose] public section

set_option maxRecDepth 16384

noncomputable section

namespace Cert.Row.AdaMod

open Cert.AdaModIdeal Cert.AdaModIdeal.Gen Idealize.ShloMosaic Idealize.ShloMosaic.TcCoe
open Cert.AdaModRefIdeal.Read
open Cert.Row.AdaGrad (silu silu_real sub_self_of_real)

/-- The shapes of the precondition's values. -/
instance preFacts : Cert.Pre_finite_mod.Facts := by constructor <;> decide

variable (x : FVec Ideal S8x1024 .f32) (w : FVec Ideal S1024x768 .f32) (b : FVec Ideal S1x768 .f32)

/-- The reference's entry: the sum of the products of silu and weight, and the column's bias. -/
theorem ref_entry (i : Fin 8) (j : Fin 768) :
    val_main_v3 (F := Ideal) x w b (ix2 i j) = (∑ k : Fin 1024, silu (x (ix2 i k)) * w (ix2 k j)) + b (ix2 0 j) := by
  pointwise [val_main_v3, val_main_v2, val_main_v1, val_main_v0, val_main_call0_v5, val_main_call0_v4, val_main_call0_v3,
    val_main_call0_v2, val_main_call0_v1, val_main_call0_v0, val_main_call0_cst, val_main_call0_cst_0]
  rfl

/-- The kernel's entry, where the entries of the conditioning and of the weight are real numbers: of its six products five are
    zero. -/
theorem entry (hx : ∀ i, ∃ r : ℝ, x i = (r : EReal)) (hw : ∀ i, ∃ r : ℝ, w i = (r : EReal)) (i : Fin 8) (j : Fin 768) :
    k0_pay1 (F := Ideal) x w b (ix2 i j) = (∑ k : Fin 1024, silu (x (ix2 i k)) * w (ix2 k j)) + b (ix2 0 j) := by
  have ew (k : Fin 1024) : w (ix2 k j) - w (ix2 k j) = 0 := sub_self_of_real (hw _)
  have es (k : Fin 1024) : silu (x (ix2 i k)) - silu (x (ix2 i k)) = 0 := by
    obtain ⟨r, hr⟩ := hx (ix2 i k)
    exact sub_self_of_real (hr ▸ silu_real r)
  have e (k : Fin 1024) : x (ix2 i k) * Ideal.div 1 (1 + Ideal.exp (0 - x (ix2 i k))) = silu (x (ix2 i k)) := by
    rw [zero_sub, silu]
  pointwise [k0_pay1]
  simp only [e, ew, es, Cert.Ssd.zero_sub_zero, mul_zero, zero_mul, Finset.sum_const_zero, add_zero]

/-- The reference's result is what the kernel's block holds. -/
theorem result (hx : ∀ i, ∃ r : ℝ, x i = (r : EReal)) (hw : ∀ i, ∃ r : ℝ, w i = (r : EReal)) :
    val_main_v3 (F := Ideal) x w b = k0_pay1 (F := Ideal) x w b := by
  have h := entry x w b hx hw
  have g := ref_entry x w b
  generalize k0_pay1 (F := Ideal) x w b = o at h ⊢
  funext y
  idx_vars y
  exact (g y0 y1).trans (h y0 y1).symm

/-- The reference of the modulation runs to its end and leaves its arguments as they were. -/
theorem frame_ref : Cert.quiescent_AdaModRefIdeal (hAdaModRefIdeal := Cert.AdaModRefIdeal.Gen.facts) := by
  intro m ρ _
  exact (θ_run Cert.AdaModRefIdeal.defs _ _).mono
    (fun r h => ⟨fun c => (h c).2, Idealize.ShloMosaic.sem_eq_zero_of_no_sems (by decide) r.2⟩)
    (Cert.AdaModRefIdeal.Value.run (F := Ideal) m ρ)

/-- From a conditioning and a weight whose entries are finite, the kernel and the reference end with the same modulation. -/
theorem algebraic : Cert.algebraic_AdaModIdeal_AdaModRefIdeal_pre_finite_mod (hAdaModIdeal := Cert.AdaModIdeal.Gen.facts)
    (hAdaModRefIdeal := Cert.AdaModRefIdeal.Gen.facts) (hPre_finite_mod := preFacts) := by
  intro m ρ m' ρ' hpre hagree
  refine ⟨_, Cert.AdaModIdeal.Value.run (F := Ideal) m ρ, ?_⟩
  refine (θ_run Cert.AdaModRefIdeal.defs _ _).mono (fun r h c => ?_) (Cert.AdaModRefIdeal.Value.run (F := Ideal) m' ρ')
  obtain ⟨h0, hk⟩ := h c
  obtain ⟨a0, a1, a2⟩ := hagree c
  obtain ⟨p0, p1⟩ := hpre c
  refine ⟨h0.trans ((Cert.AdaModRefIdeal.Read.val_main_v3_eq _ _ _).trans ?_), hk⟩
  rw [a0, a1, a2]
  exact result _ _ _ (Cert.SsdHost.real_entries _ _ p0) (Cert.SsdHost.real_entries _ _ p1)

end Cert.Row.AdaMod
end
-- ==== Proof.Row.Ln.lean ====
/- The first norm of a sequence's rows and the feed forward part's input: what the grid leaves in its two results, and that the
   reference computes them. -/
module

public import proofs.«01_k».proof.Defs
public import proofs.«01_k».proof.Proof.Row.Adam
public import proofs.«01_k».proof.Proof.Gen.Ln.Frame
public import proofs.«01_k».proof.Proof.Gen.LnIdeal.Value
public import proofs.«01_k».proof.Proof.Gen.LnRefIdeal.Run
public import proofs.«01_k».proof.Proof.Gen.LnRefIdeal.Read
public import Idealize.ShloMosaic.Lib.StableHlo.ReadAt

@[expose] public section

set_option maxRecDepth 16384

noncomputable section

namespace Cert.Row.Ln

open Cert.LnIdeal Cert.LnIdeal.Gen Idealize.ShloMosaic Idealize.ShloMosaic.TcCoe
open Cert.LnRefIdeal.Read

variable (m : (ℓ : Loc nD τ sig) → Buf (Elt Ideal) ℓ) (c : Dev nD)

/-- The mean of a row of 1024 numbers. -/
def mean (f : Fin 1024 → EReal) : EReal := Ideal.div (∑ k : Fin 1024, f k) (word 0x44800000#32)

/-- A row less its mean. -/
def centred (u : Fin 1024 → EReal) (k : Fin 1024) : EReal := u k - mean u

/-- A row less its mean, times the inverse root of its variance and a small number. -/
def normed (u : Fin 1024 → EReal) (k : Fin 1024) : EReal :=
  centred u k * Ideal.rsqrt (mean (fun l => centred u l * centred u l) + word 0x3727C5AC#32)

/-- The row that is normed: the residual and the gated result of the mixer. -/
def summed (x y g : Fin 1024 → EReal) (k : Fin 1024) : EReal := word 0x3F9837F0#32 * x k + (1 + g k) * y k

/-- An entry of the norm with its weight and bias. -/
def lned (x y g a b : Fin 1024 → EReal) (k : Fin 1024) : EReal := normed (summed x y g) k * a k + b k

/-- An entry of the norm, scaled by one and its column's scale, and shifted. -/
def scaled (x y g a b s h : Fin 1024 → EReal) (k : Fin 1024) : EReal := lned x y g a b k * (1 + s k) + h k

/-- A row of an array. -/
abbrev row {n : Nat} (v : (⟨2, ![n, 1024]⟩ : Shape).Idx → EReal) (i : Fin n) (k : Fin 1024) : EReal := v (ix2 i k)

@[irreducible] def X : FVec Ideal S4096x1024 .f32 := V m c main_arg0
@[irreducible] def Y : FVec Ideal S4096x1024 .f32 := V m c main_arg1
@[irreducible] def G : FVec Ideal S1x1024 .f32 := V m c main_arg2
@[irreducible] def A : FVec Ideal S1x1024 .f32 := V m c main_arg3
@[irreducible] def B : FVec Ideal S1x1024 .f32 := V m c main_arg4
@[irreducible] def S : FVec Ideal S1x1024 .f32 := V m c main_arg5
@[irreducible] def H : FVec Ideal S1x1024 .f32 := V m c main_arg6

/-! ## The blocks of a point -/

theorem w0 : ∀ t : Fin cfg0.N, win0_0.index t = ![t.val, 0] := by decide +kernel
theorem w1 : ∀ t : Fin cfg0.N, win0_1.index t = ![t.val, 0] := by decide +kernel
theorem w2 : ∀ t : Fin cfg0.N, win0_2.index t = ![0, 0] := by decide +kernel
theorem w3 : ∀ t : Fin cfg0.N, win0_3.index t = ![0, 0] := by decide +kernel
theorem w4 : ∀ t : Fin cfg0.N, win0_4.index t = ![0, 0] := by decide +kernel
theorem w5 : ∀ t : Fin cfg0.N, win0_5.index t = ![0, 0] := by decide +kernel
theorem w6 : ∀ t : Fin cfg0.N, win0_6.index t = ![0, 0] := by decide +kernel
theorem w7 : ∀ t : Fin cfg0.N, win0_7.index t = ![t.val, 0] := by decide +kernel
theorem w8 : ∀ t : Fin cfg0.N, win0_8.index t = ![t.val, 0] := by decide +kernel

theorem b0 (t : Fin cfg0.N) (r : Fin 512) (k : Fin 1024) (h : 512 * t.val + r.val < 4096) :
    (iblk m c 0 t : Vec Ideal S512x1024 .f32) (ix2 r k) = X m c (ix2 ⟨512 * t.val + r.val, h⟩ k) := by
  unfold X; blk_ext [iblk, w0 t]

theorem b1 (t : Fin cfg0.N) (r : Fin 512) (k : Fin 1024) (h : 512 * t.val + r.val < 4096) :
    (iblk m c 1 t : Vec Ideal S512x1024 .f32) (ix2 r k) = Y m c (ix2 ⟨512 * t.val + r.val, h⟩ k) := by
  unfold Y; blk_ext [iblk, w1 t]

theorem b2 (t : Fin cfg0.N) (k : Fin 1024) : (iblk m c 2 t : Vec Ideal S1x1024 .f32) (ix2 0 k) = G m c (ix2 0 k) := by
  unfold G; blk_ext [iblk, w2 t]

theorem b3 (t : Fin cfg0.N) (k : Fin 1024) : (iblk m c 3 t : Vec Ideal S1x1024 .f32) (ix2 0 k) = A m c (ix2 0 k) := by
  unfold A; blk_ext [iblk, w3 t]

theorem b4 (t : Fin cfg0.N) (k : Fin 1024) : (iblk m c 4 t : Vec Ideal S1x1024 .f32) (ix2 0 k) = B m c (ix2 0 k) := by
  unfold B; blk_ext [iblk, w4 t]

theorem b5 (t : Fin cfg0.N) (k : Fin 1024) : (iblk m c 5 t : Vec Ideal S1x1024 .f32) (ix2 0 k) = S m c (ix2 0 k) := by
  unfold S; blk_ext [iblk, w5 t]

theorem b6 (t : Fin cfg0.N) (k : Fin 1024) : (iblk m c 6 t : Vec Ideal S1x1024 .f32) (ix2 0 k) = H m c (ix2 0 k) := by
  unfold H; blk_ext [iblk, w6 t]

theorem emb7 (t : Fin cfg0.N) (r : Fin 512) (k : Fin 1024) (h : 512 * t.val + r.val < 4096) :
    ((View.whole main_v0_0).slice (win0_7.rect t)).emb (ix2 r k) = ix2 ⟨512 * t.val + r.val, h⟩ k := by
  have e := w7 t
  funext a; fin_cases a
  · refine Fin.ext (show win0_7.index t 0 * 512 + 1 * r.val = 512 * t.val + r.val from ?_)
    rw [e]; show t.val * 512 + 1 * r.val = _; omega
  · refine Fin.ext (show win0_7.index t 1 * 1024 + 1 * k.val = k.val from ?_)
    rw [e]; show 0 * 1024 + 1 * k.val = _; omega

theorem emb8 (t : Fin cfg0.N) (r : Fin 512) (k : Fin 1024) (h : 512 * t.val + r.val < 4096) :
    ((View.whole main_v0_1).slice (win0_8.rect t)).emb (ix2 r k) = ix2 ⟨512 * t.val + r.val, h⟩ k := by
  have e := w8 t
  funext a; fin_cases a
  · refine Fin.ext (show win0_8.index t 0 * 512 + 1 * r.val = 512 * t.val + r.val from ?_)
    rw [e]; show t.val * 512 + 1 * r.val = _; omega
  · refine Fin.ext (show win0_8.index t 1 * 1024 + 1 * k.val = k.val from ?_)
    rw [e]; show 0 * 1024 + 1 * k.val = _; omega

theorem hz : (![0, 0] : Fin 2 → Nat) = fun _ => 0 := funext fun a => by fin_cases a <;> rfl

/-! ## What the body leaves in its output blocks -/

/-- The body's norm, at an index. -/
theorem pay2 (x y : Vec Ideal S512x1024 .f32) (g a b : Vec Ideal S1x1024 .f32) (i : Fin 512) (j : Fin 1024) :
    k0_pay2 (F := Ideal) x y g a b (ix2 i j) = lned (row x i) (row y i) (row g 0) (row a 0) (row b 0) j := by
  pointwise [k0_pay2]
  rfl

theorem pay1 (h : Vec Ideal S1x1024 .f32) (u v : FVec Ideal S512x1024 .f32) (i : Fin 512) (j : Fin 1024) :
    k0_pay1 (F := Ideal) h u v (ix2 i j) = u (ix2 i j) * v (ix2 i j) + h (ix2 0 j) := by
  pointwise [k0_pay1]

theorem pay3 (s : Vec Ideal S1x1024 .f32) (i : Fin 512) (j : Fin 1024) :
    k0_pay3 (F := Ideal) s (ix2 i j) = 1 + s (ix2 0 j) := by
  pointwise [k0_pay3]

theorem out7 (x y : Vec Ideal S512x1024 .f32) (g a b s h : Vec Ideal S1x1024 .f32) (i : Fin 512) (j : Fin 1024) :
    out0_7 (F := Ideal) x y g a b s h (ix2 i j) = lned (row x i) (row y i) (row g 0) (row a 0) (row b 0) j := by
  unfold_out out0_7
  rw [View.canon_unit_zero hz]
  simp only [View.ld_unit_zero (S := S512x1024) hz, View.ld_unit_zero (S := S1x1024) hz]
  exact pay2 x y g a b i j

theorem out8 (x y : Vec Ideal S512x1024 .f32) (g a b s h : Vec Ideal S1x1024 .f32) (i : Fin 512) (j : Fin 1024) :
    out0_8 (F := Ideal) x y g a b s h (ix2 i j)
      = scaled (row x i) (row y i) (row g 0) (row a 0) (row b 0) (row s 0) (row h 0) j := by
  unfold_out out0_8
  rw [View.canon_unit_zero hz]
  simp only [View.ld_unit_zero (S := S512x1024) hz, View.ld_unit_zero (S := S1x1024) hz]
  rw [pay1, pay2, pay3]
  rfl

/-- The rows a point reads, as rows of the arrays. -/
theorem rows (t : Fin cfg0.N) (r : Fin 512) (h : 512 * t.val + r.val < 4096) :
    row (iblk m c 0 t : Vec Ideal S512x1024 .f32) r = row (X m c) ⟨512 * t.val + r.val, h⟩
    ∧ row (iblk m c 1 t : Vec Ideal S512x1024 .f32) r = row (Y m c) ⟨512 * t.val + r.val, h⟩
    ∧ row (iblk m c 2 t : Vec Ideal S1x1024 .f32) 0 = row (G m c) 0
    ∧ row (iblk m c 3 t : Vec Ideal S1x1024 .f32) 0 = row (A m c) 0
    ∧ row (iblk m c 4 t : Vec Ideal S1x1024 .f32) 0 = row (B m c) 0
    ∧ row (iblk m c 5 t : Vec Ideal S1x1024 .f32) 0 = row (S m c) 0
    ∧ row (iblk m c 6 t : Vec Ideal S1x1024 .f32) 0 = row (H m c) 0 :=
  ⟨funext fun k => b0 m c t r k h, funext fun k => b1 m c t r k h, funext fun k => b2 m c t k, funext fun k => b3 m c t k,
    funext fun k => b4 m c t k, funext fun k => b5 m c t k, funext fun k => b6 m c t k⟩

/-- The norm after the run, at an index. -/
theorem value7 (i : Fin 4096) (j : Fin 1024) : (dats m 0 c).arrAt 7 cfg0.N (ix2 i j)
    = lned (row (X m c) i) (row (Y m c) i) (row (G m c) 0) (row (A m c) 0) (row (B m c) 0) j := by
  have h := (dats m 0 c).arrAt_eq_of_covers 7
    (fun x => (lned (row (X m c) (x 0)) (row (Y m c) (x 0)) (row (G m c) 0) (row (A m c) 0) (row (B m c) 0) (x 1) : EReal))
    (by decide +kernel) fun t hf y => by
    have ht : t.val < 8 := lt_of_lt_of_eq t.isLt N_0
    idx_vars y
    have p := emb7 t y0 y1 (by omega)
    obtain ⟨r0, r1, r2, r3, r4, _, _⟩ := rows m c t y0 (by omega)
    blk_simp [w7 t]
    rw [after0_7, p]
    refine (out7 _ _ _ _ _ _ _ y0 y1).trans ?_
    rw [r0, r1, r2, r3, r4]
    rfl
  rw [h]
  rfl

/-- The feed forward part's input after the run, at an index. -/
theorem value8 (i : Fin 4096) (j : Fin 1024) : (dats m 0 c).arrAt 8 cfg0.N (ix2 i j)
    = scaled (row (X m c) i) (row (Y m c) i) (row (G m c) 0) (row (A m c) 0) (row (B m c) 0) (row (S m c) 0) (row (H m c) 0) j := by
  have h := (dats m 0 c).arrAt_eq_of_covers 8
    (fun x => (scaled (row (X m c) (x 0)) (row (Y m c) (x 0)) (row (G m c) 0) (row (A m c) 0) (row (B m c) 0) (row (S m c) 0)
      (row (H m c) 0) (x 1) : EReal)) (by decide +kernel) fun t hf y => by
    have ht : t.val < 8 := lt_of_lt_of_eq t.isLt N_0
    idx_vars y
    have p := emb8 t y0 y1 (by omega)
    obtain ⟨r0, r1, r2, r3, r4, r5, r6⟩ := rows m c t y0 (by omega)
    blk_simp [w8 t]
    rw [after0_8, p]
    refine (out8 _ _ _ _ _ _ _ y0 y1).trans ?_
    rw [r0, r1, r2, r3, r4, r5, r6]
    rfl
  rw [h]
  rfl

/-! ## The reference -/

section Reference
variable (x y : FVec Ideal S4096x1024 .f32) (g a b s h : FVec Ideal S1x1024 .f32)

theorem ref_summed (i : Fin 4096) (j : Fin 1024) :
    val_main_v6 (F := Ideal) x y g (ix2 i j) = summed (row x i) (row y i) (row g 0) j := by
  pointwise [val_main_v6, val_main_v5, val_main_v4, val_main_v3, val_main_v2, val_main_v1, val_main_v0, val_main_cst, val_main_cst_0]
  rfl

theorem ref_mean (i : Fin 4096) :
    val_main_v10 (F := Ideal) x y g (ix2 i 0) = mean (summed (row x i) (row y i) (row g 0)) := by
  pointwise [val_main_v10, val_main_v9, val_main_v8, val_main_v7, val_main_cst_1, val_main_cst_2]
  simp only [ref_summed]
  rfl

theorem ref_centred (i : Fin 4096) (j : Fin 1024) :
    val_main_v12 (F := Ideal) x y g (ix2 i j) = centred (summed (row x i) (row y i) (row g 0)) j := by
  pointwise [val_main_v12, val_main_v11]
  rw [ref_summed, ref_mean]
  rfl

theorem ref_root (i : Fin 4096) : val_main_v22 (F := Ideal) x y g (ix2 i 0)
    = Ideal.rsqrt (mean (fun l => centred (summed (row x i) (row y i) (row g 0)) l * centred (summed (row x i) (row y i) (row g 0)) l)
      + word 0x3727C5AC#32) := by
  pointwise [val_main_v22, val_main_v21, val_main_v20, val_main_v17, val_main_v16, val_main_v15, val_main_v14, val_main_v13,
    val_main_cst_3, val_main_cst_4, val_main_cst_5]
  simp only [ref_centred]
  rfl

theorem ref_lned (i : Fin 4096) (j : Fin 1024) : val_main_v28 (F := Ideal) x y g a b (ix2 i j)
    = lned (row x i) (row y i) (row g 0) (row a 0) (row b 0) j := by
  pointwise [val_main_v28, val_main_v27, val_main_v26, val_main_v25, val_main_v24, val_main_v23, val_main_v19, val_main_v18]
  rw [ref_summed, ref_mean, ref_root]
  rfl

theorem ref_scaled (i : Fin 4096) (j : Fin 1024) : val_main_v35 (F := Ideal) x y g a b s h (ix2 i j)
    = scaled (row x i) (row y i) (row g 0) (row a 0) (row b 0) (row s 0) (row h 0) j := by
  pointwise [val_main_v35, val_main_v34, val_main_v33, val_main_v32, val_main_v31, val_main_v30, val_main_v29, val_main_cst_6]
  rw [ref_lned]
  rfl

end Reference

section Results
variable {x y : FVec Ideal S4096x1024 .f32} {g a b s h : FVec Ideal S1x1024 .f32} (e0 : x = m ((c : Thread nD τ).loc main_arg0))
  (e1 : y = m ((c : Thread nD τ).loc main_arg1)) (e2 : g = m ((c : Thread nD τ).loc main_arg2))
  (e3 : a = m ((c : Thread nD τ).loc main_arg3)) (e4 : b = m ((c : Thread nD τ).loc main_arg4))
include e0 e1 e2 e3 e4

/-- The reference's norm is what the grid leaves. -/
theorem norm_result : val_main_v28 (F := Ideal) x y g a b = (dats m 0 c).arrAt 7 cfg0.N := by
  have k := value7 m c
  have r := ref_lned x y g a b
  simp only [X, Y, G, A, B, V_main_arg0, V_main_arg1, V_main_arg2, V_main_arg3, V_main_arg4, ← e0, ← e1, ← e2, ← e3, ← e4] at k
  generalize (dats m 0 c).arrAt 7 cfg0.N = o at k ⊢
  funext z
  idx_vars z
  exact (r z0 z1).trans (k z0 z1).symm

/-- The reference's input of the feed forward part is what the grid leaves. -/
theorem input_result (e5 : s = m ((c : Thread nD τ).loc main_arg5)) (e6 : h = m ((c : Thread nD τ).loc main_arg6)) :
    val_main_v35 (F := Ideal) x y g a b s h = (dats m 0 c).arrAt 8 cfg0.N := by
  have k := value8 m c
  have r := ref_scaled x y g a b s h
  simp only [X, Y, G, A, B, S, H, V_main_arg0, V_main_arg1, V_main_arg2, V_main_arg3, V_main_arg4, V_main_arg5, V_main_arg6,
    ← e0, ← e1, ← e2, ← e3, ← e4, ← e5, ← e6] at k
  generalize (dats m 0 c).arrAt 8 cfg0.N = o at k ⊢
  funext z
  idx_vars z
  exact (r z0 z1).trans (k z0 z1).symm

end Results

/-! ## The claims -/

/-- The reference of the norm runs to its end and leaves its arguments as they were. -/
theorem frame_ref : Cert.quiescent_LnRefIdeal (hLnRefIdeal := Cert.LnRefIdeal.Gen.facts) := by
  intro m ρ _
  exact (θ_run Cert.LnRefIdeal.defs _ _).mono
    (fun r h => ⟨fun c => (h c).2.2, Idealize.ShloMosaic.sem_eq_zero_of_no_sems (by decide) r.2⟩)
    (Cert.LnRefIdeal.Value.run (F := Ideal) m ρ)

/-- The kernel and the reference end with the same results: the norm and the feed forward part's input. -/
theorem algebraic : Cert.algebraic_LnIdeal_LnRefIdeal (hLnIdeal := Cert.LnIdeal.Gen.facts)
    (hLnRefIdeal := Cert.LnRefIdeal.Gen.facts) := by
  intro m ρ m' ρ' _ hagree
  refine ⟨_, _, Cert.LnIdeal.Value.run_blocks (F := Ideal) m ρ, ?_⟩
  refine (θ_run Cert.LnRefIdeal.defs _ _).mono (fun r h c => ?_) (Cert.LnRefIdeal.Value.run (F := Ideal) m' ρ')
  obtain ⟨h0, h1, hk⟩ := h c
  obtain ⟨a0, a1, a2, a3, a4, a5, a6⟩ := hagree c
  exact ⟨h0.trans ((Cert.LnRefIdeal.Read.val_main_v28_eq _ _ _ _ _).trans (norm_result m c a0 a1 a2 a3 a4)),
    h1.trans ((Cert.LnRefIdeal.Read.val_main_v35_eq m' c).trans (input_result m c a0 a1 a2 a3 a4 a5 a6)), hk⟩

end Cert.Row.Ln
end
-- ==== Proof.Row.MixNorm.lean ====
/- The two norms of the mixer's halves: what the grid leaves in its result, and that the reference computes it. The gate is
   the first 1024 columns of the input projection. -/
module

public import proofs.«01_k».proof.Defs
public import proofs.«01_k».proof.Proof.Row.AdaGrad
public import proofs.«01_k».proof.Proof.Row.Ln
public import proofs.«01_k».proof.Proof.Gen.MixNorm.Frame
public import proofs.«01_k».proof.Proof.Gen.MixNormIdeal.Value
public import proofs.«01_k».proof.Proof.Gen.MixNormRefIdeal.Run
public import proofs.«01_k».proof.Proof.Gen.MixNormRefIdeal.Read
public import Idealize.ShloMosaic.Lib.StableHlo.ReadAt

@[expose] public section

set_option maxRecDepth 16384

noncomputable section

namespace Cert.Row.MixNorm

open Cert.MixNormIdeal Cert.MixNormIdeal.Gen Idealize.ShloMosaic Idealize.ShloMosaic.TcCoe
open Cert.MixNormRefIdeal.Read
open Cert.Row.AdaGrad (silu)
open Cert.Row.Ln (mean row)

variable (m : (ℓ : Loc nD τ sig) → Buf (Elt Ideal) ℓ) (c : Dev nD)

/-- A row times the inverse root of its mean square and a small number, and its weight. -/
def rms (u w : Fin 1024 → EReal) (k : Fin 1024) : EReal :=
  u k * Ideal.rsqrt (mean (fun l => u l * u l) + word 0x3727C5AC#32) * w k

/-- A row of the scan, gated. -/
def gated (y z : Fin 1024 → EReal) (k : Fin 1024) : EReal := y k * silu (z k)

/-- The gate's row: the first 1024 columns of a row of the projection. -/
abbrev gate (p : FVec Ideal S4096x5760 .f32) (i : Fin 4096) (k : Fin 1024) : EReal := p (ix2 i ⟨k.val, by omega⟩)

/-- A row of the two norms side by side. -/
def mixed (y z a v w : Fin 1024 → EReal) (j : Fin 2048) : EReal :=
  if h : j.val < 1024 then rms (gated y z) v ⟨j.val, h⟩ else rms a w ⟨j.val - 1024, by omega⟩

@[irreducible] def Y : FVec Ideal S4096x1024 .f32 := V m c main_arg0
@[irreducible] def P : FVec Ideal S4096x5760 .f32 := V m c main_arg1
@[irreducible] def A : FVec Ideal S4096x1024 .f32 := V m c main_arg2
@[irreducible] def U : FVec Ideal S1x1024 .f32 := V m c main_arg3
@[irreducible] def W : FVec Ideal S1x1024 .f32 := V m c main_arg4

/-! ## The blocks of a point -/

theorem w0 : ∀ t : Fin cfg0.N, win0_0.index t = ![t.val, 0] := by decide +kernel
theorem w1 : ∀ t : Fin cfg0.N, win0_1.index t = ![t.val, 0] := by decide +kernel
theorem w2 : ∀ t : Fin cfg0.N, win0_2.index t = ![t.val, 0] := by decide +kernel
theorem w3 : ∀ t : Fin cfg0.N, win0_3.index t = ![0, 0] := by decide +kernel
theorem w4 : ∀ t : Fin cfg0.N, win0_4.index t = ![0, 0] := by decide +kernel
theorem w5 : ∀ t : Fin cfg0.N, win0_5.index t = ![t.val, 0] := by decide +kernel

theorem b0 (t : Fin cfg0.N) (r : Fin 512) (k : Fin 1024) (h : 512 * t.val + r.val < 4096) :
    (iblk m c 0 t : Vec Ideal S512x1024 .f32) (ix2 r k) = Y m c (ix2 ⟨512 * t.val + r.val, h⟩ k) := by
  unfold Y; blk_ext [iblk, w0 t]

/-- The gate's block lies inside the projection at every point, though a block of 1024 columns does not divide its 5760. -/
theorem b1 (t : Fin cfg0.N) (r : Fin 512) (k : Fin 1024) (h : 512 * t.val + r.val < 4096) :
    (X0_1 m c t : Vec Ideal S512x1024 .f32) (ix2 r k) = gate (P m c) ⟨512 * t.val + r.val, h⟩ k := by
  unfold X0_1 Pipeline.Window.fill
  rw [dif_pos (moved0_1 t _)]
  unfold P; unfold iblk
  refine congrArg (V m c main_arg1) (funext fun a => ?_)
  have e := w1 t
  fin_cases a
  · refine Fin.ext (show win0_1.index t 0 * 512 + 1 * r.val = 512 * t.val + r.val from ?_)
    rw [e]; show t.val * 512 + 1 * r.val = _; omega
  · refine Fin.ext (show win0_1.index t 1 * 1024 + 1 * k.val = k.val from ?_)
    rw [e]; show 0 * 1024 + 1 * k.val = _; omega

theorem b2 (t : Fin cfg0.N) (r : Fin 512) (k : Fin 1024) (h : 512 * t.val + r.val < 4096) :
    (iblk m c 2 t : Vec Ideal S512x1024 .f32) (ix2 r k) = A m c (ix2 ⟨512 * t.val + r.val, h⟩ k) := by
  unfold A; blk_ext [iblk, w2 t]

theorem b3 (t : Fin cfg0.N) (k : Fin 1024) : (iblk m c 3 t : Vec Ideal S1x1024 .f32) (ix2 0 k) = U m c (ix2 0 k) := by
  unfold U; blk_ext [iblk, w3 t]

theorem b4 (t : Fin cfg0.N) (k : Fin 1024) : (iblk m c 4 t : Vec Ideal S1x1024 .f32) (ix2 0 k) = W m c (ix2 0 k) := by
  unfold W; blk_ext [iblk, w4 t]

theorem emb5 (t : Fin cfg0.N) (r : Fin 512) (k : Fin 2048) (h : 512 * t.val + r.val < 4096) :
    ((View.whole main_v0).slice (win0_5.rect t)).emb (ix2 r k) = ix2 ⟨512 * t.val + r.val, h⟩ k := by
  have e := w5 t
  funext a; fin_cases a
  · refine Fin.ext (show win0_5.index t 0 * 512 + 1 * r.val = 512 * t.val + r.val from ?_)
    rw [e]; show t.val * 512 + 1 * r.val = _; omega
  · refine Fin.ext (show win0_5.index t 1 * 2048 + 1 * k.val = k.val from ?_)
    rw [e]; show 0 * 2048 + 1 * k.val = _; omega

theorem hz : (![0, 0] : Fin 2 → Nat) = fun _ => 0 := funext fun a => by fin_cases a <;> rfl

/-! ## What the body leaves in its output block -/

theorem pay1 (y z a : Vec Ideal S512x1024 .f32) (v w : Vec Ideal S1x1024 .f32) (i : Fin 512) (j : Fin 2048) :
    k0_pay1 (F := Ideal) y z a v w (ix2 i j) = mixed (row y i) (row z i) (row a i) (row v 0) (row w 0) j := by
  have e (k : Fin 1024) : z (ix2 i k) * Ideal.div 1 (1 + Ideal.exp (0 - z (ix2 i k))) = silu (z (ix2 i k)) := by
    rw [zero_sub, silu]
  unfold mixed
  by_cases h : j.val < 1024
  · rw [dif_pos h]
    pointwise [k0_pay1]
    simp only [e, h, dite_true]
    rfl
  · rw [dif_neg h]
    pointwise [k0_pay1]
    simp only [h, dite_false]
    rfl

theorem tie (i : grid0.Coords) (a1 : Memref sig .tc .vmem S512x1024 .f32) (h1 : a1.IsWhole) (a2 : Memref sig .tc .vmem S512x1024 .f32)
    (h2 : a2.IsWhole) (a3 : Memref sig .tc .vmem S512x1024 .f32) (h3 : a3.IsWhole) (a4 : Memref sig .tc .vmem S1x1024 .f32)
    (h4 : a4.IsWhole) (a5 : Memref sig .tc .vmem S1x1024 .f32) (h5 : a5.IsWhole) (a6 : Memref sig .tc .vmem S512x2048 .bf16)
    (h6 : a6.IsWhole) (y z a : Vec Ideal S512x1024 .f32) (v w : Vec Ideal S1x1024 .f32) :
    out0_A_5 (F := Ideal) c i a1 h1 a2 h2 a3 h3 a4 h4 a5 h5 a6 h6 y z a v w = k0_pay1 y z a v w := by
  unfold out0_A_5
  simp only [View.read_writes_junk_eq_canon]
  unfold kernelRun0_A
  dsimp only
  rw [View.canon_unit_zero hz]
  unfold kernelRun0_A.sl.r
  simp only [View.readAt_eq_ld, h1.read_unread, h2.read_unread, h3.read_unread, h4.read_unread, h5.read_unread,
    View.ld_unit_zero (S := S512x1024) hz, View.ld_unit_zero (S := S1x1024) hz]

/-- The result after the run, at an index. -/
theorem value (i : Fin 4096) (j : Fin 2048) : (dats m 0 c).arrAt 5 cfg0.N (ix2 i j)
    = mixed (row (Y m c) i) (gate (P m c) i) (row (A m c) i) (row (U m c) 0) (row (W m c) 0) j := by
  have h := (dats m 0 c).arrAt_eq_of_covers 5
    (fun x => (mixed (row (Y m c) (x 0)) (gate (P m c) (x 0)) (row (A m c) (x 0)) (row (U m c) 0) (row (W m c) 0) (x 1) : EReal))
    (by decide +kernel) fun t hf y => by
    have ht : t.val < 8 := lt_of_lt_of_eq t.isLt N_0
    idx_vars y
    have p := emb5 t y0 y1 (by omega)
    have r0 : row (iblk m c 0 t : Vec Ideal S512x1024 .f32) y0 = _ := funext fun k => b0 m c t y0 k (by omega)
    have r1 : row (X0_1 m c t : Vec Ideal S512x1024 .f32) y0 = _ := funext fun k => b1 m c t y0 k (by omega)
    have r2 : row (iblk m c 2 t : Vec Ideal S512x1024 .f32) y0 = _ := funext fun k => b2 m c t y0 k (by omega)
    have r3 : row (iblk m c 3 t : Vec Ideal S1x1024 .f32) 0 = _ := funext fun k => b3 m c t k
    have r4 : row (iblk m c 4 t : Vec Ideal S1x1024 .f32) 0 = _ := funext fun k => b4 m c t k
    blk_simp [w5 t]
    rw [after0_5, p]
    unfold outsAt0
    rw [tie]
    refine (pay1 _ _ _ _ _ y0 y1).trans ?_
    rw [r0, r1, r2, r3, r4]
    rfl
  rw [h]
  rfl

/-! ## The reference -/

section Reference
variable (y : FVec Ideal S4096x1024 .f32) (p : FVec Ideal S4096x5760 .f32) (a : FVec Ideal S4096x1024 .f32)
  (v w : FVec Ideal S1x1024 .f32)

theorem ref_gated (i : Fin 4096) (j : Fin 1024) :
    val_main_v2 (F := Ideal) y p (ix2 i j) = gated (row y i) (gate p i) j := by
  pointwise [val_main_v2, val_main_v1, val_main_v0, val_main_call0_v5, val_main_call0_v4, val_main_call0_v3, val_main_call0_v2,
    val_main_call0_v1, val_main_call0_v0, val_main_call0_cst, val_main_call0_cst_0]
  rfl

theorem ref_left (i : Fin 4096) (j : Fin 1024) :
    val_main_v14 (F := Ideal) y p v (ix2 i j) = rms (gated (row y i) (gate p i)) (row v 0) j := by
  pointwise [val_main_v14, val_main_v13, val_main_v12, val_main_v11, val_main_v10, val_main_v9, val_main_v8, val_main_v7,
    val_main_v6, val_main_v5, val_main_v4, val_main_v3, val_main_cst, val_main_cst_0, val_main_cst_1]
  simp only [ref_gated]
  rfl

theorem ref_right (i : Fin 4096) (j : Fin 1024) : val_main_v26 (F := Ideal) a w (ix2 i j) = rms (row a i) (row w 0) j := by
  pointwise [val_main_v26, val_main_v25, val_main_v24, val_main_v23, val_main_v22, val_main_v21, val_main_v20, val_main_v19,
    val_main_v18, val_main_v17, val_main_v16, val_main_v15, val_main_cst_2, val_main_cst_3, val_main_cst_4]
  rfl

theorem ref_mixed (i : Fin 4096) (j : Fin 2048) : val_main_v28 (F := Ideal) y p a v w (ix2 i j)
    = mixed (row y i) (gate p i) (row a i) (row v 0) (row w 0) j := by
  unfold mixed
  by_cases h : j.val < 1024
  · rw [dif_pos h, ← ref_left]
    pointwise [val_main_v28, val_main_v27]
    simp only [h, dite_true]
  · rw [dif_neg h, ← ref_right]
    pointwise [val_main_v28, val_main_v27]
    simp only [h, dite_false]

end Reference

section Results
variable {y : FVec Ideal S4096x1024 .f32} {p : FVec Ideal S4096x5760 .f32} {a : FVec Ideal S4096x1024 .f32}
  {v w : FVec Ideal S1x1024 .f32}

/-- The reference's result is what the grid leaves. -/
theorem result (e0 : y = m ((c : Thread nD τ).loc main_arg0)) (e1 : p = m ((c : Thread nD τ).loc main_arg1))
    (e2 : a = m ((c : Thread nD τ).loc main_arg2)) (e3 : v = m ((c : Thread nD τ).loc main_arg3))
    (e4 : w = m ((c : Thread nD τ).loc main_arg4)) : val_main_v28 (F := Ideal) y p a v w = (dats m 0 c).arrAt 5 cfg0.N := by
  have k := value m c
  have r := ref_mixed y p a v w
  simp only [Y, P, A, U, W, V_main_arg0, V_main_arg1, V_main_arg2, V_main_arg3, V_main_arg4, ← e0, ← e1, ← e2, ← e3, ← e4] at k
  generalize (dats m 0 c).arrAt 5 cfg0.N = o at k ⊢
  funext z
  idx_vars z
  exact (r z0 z1).trans (k z0 z1).symm

end Results

/-! ## The claims -/

/-- The reference of the two norms runs to its end and leaves its arguments as they were. -/
theorem frame_ref : Cert.quiescent_MixNormRefIdeal (hMixNormRefIdeal := Cert.MixNormRefIdeal.Gen.facts) := by
  intro m ρ _
  exact (θ_run Cert.MixNormRefIdeal.defs _ _).mono
    (fun r h => ⟨fun c => (h c).2, Idealize.ShloMosaic.sem_eq_zero_of_no_sems (by decide) r.2⟩)
    (Cert.MixNormRefIdeal.Value.run (F := Ideal) m ρ)

/-- The kernel and the reference end with the same result: the two norms side by side. -/
theorem algebraic : Cert.algebraic_MixNormIdeal_MixNormRefIdeal (hMixNormIdeal := Cert.MixNormIdeal.Gen.facts)
    (hMixNormRefIdeal := Cert.MixNormRefIdeal.Gen.facts) := by
  intro m ρ m' ρ' _ hagree
  refine ⟨_, Cert.MixNormIdeal.Value.run_blocks (F := Ideal) m ρ, ?_⟩
  refine (θ_run Cert.MixNormRefIdeal.defs _ _).mono (fun r h c => ?_) (Cert.MixNormRefIdeal.Value.run (F := Ideal) m' ρ')
  obtain ⟨h0, hk⟩ := h c
  obtain ⟨a0, a1, a2, a3, a4⟩ := hagree c
  exact ⟨h0.trans ((Cert.MixNormRefIdeal.Read.val_main_v28_eq _ _ _ _ _).trans (result m c a0 a1 a2 a3 a4)), hk⟩

end Cert.Row.MixNorm
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Ssd.Entry
public import proofs.«01_k».proof.Proof.Mlp.Claims
public import proofs.«01_k».proof.Proof.Row.Claims
public import proofs.«01_k».proof.Proof.Row.AdaGrad
public import proofs.«01_k».proof.Proof.Row.AdaMod
public import proofs.«01_k».proof.Proof.Row.Ln
public import proofs.«01_k».proof.Proof.Row.MixNorm
public import Idealize.ShloMosaic.Adequacy
public import Idealize.ShloMosaic.Init

@[expose] public section

noncomputable section

namespace Cert.Proof

open Idealize.ShloMosaic Idealize.SL.Sem Cert.Kernel

/-- The reference runs to its end from any memory, leaves its eight arguments as they were, and every semaphore counter
    at zero: it has no semaphore. -/
theorem frame_ReferenceIdeal : Cert.quiescent_ReferenceIdeal (hReferenceIdeal := Cert.ReferenceIdeal.Gen.facts) := by
  intro m ρ _
  exact (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- At the extended reals, from arguments whose entries are finite, the kernel and the reference end with the same five
    gradients. -/
theorem algebraic : Cert.algebraic_KernelIdeal_ReferenceIdeal_pre_finite (hKernelIdeal := Cert.KernelIdeal.Gen.facts)
    (hReferenceIdeal := Cert.ReferenceIdeal.Gen.facts) (hPre_finite := Cert.SsdHost.preFacts) := by
  intro m ρ m' ρ' hpre hagree
  refine ⟨_, _, _, _, _, Cert.KernelIdeal.Value.run_blocks (F := Ideal) m ρ, ?_⟩
  refine (θ_run Cert.ReferenceIdeal.defs _ _).mono (fun r h c => ?_) (Cert.ReferenceIdeal.Value.run (F := Ideal) m' ρ')
  obtain ⟨h0, h1, h2, h3, h4, hk⟩ := h c
  obtain ⟨a0, a1, a2, a3, a4, a5, a6, a7⟩ := hagree c
  refine ⟨h0.trans ((Cert.ReferenceIdeal.Read.val_main_v241_eq _).trans ?_), h1.trans ((Cert.ReferenceIdeal.Read.val_main_v240_eq _).trans ?_),
    h2.trans ((Cert.ReferenceIdeal.Read.val_main_v242_eq _).trans ?_), h3.trans ((Cert.ReferenceIdeal.Read.val_main_v244_eq _).trans ?_),
    h4.trans ((Cert.ReferenceIdeal.Read.val_main_v246_eq _).trans ?_), hk⟩
  · exact Cert.SsdHost.dxs_eq m c hpre a0 a2 a3 a4 a6 a7
  · exact Cert.SsdHost.dbc_eq m c hpre a0 a1 a2 a3 a4 a6
  · exact Cert.SsdHost.ddt_eq m c hpre a0 a1 a2 a3 a4 a6
  · exact Cert.SsdHost.dalog_eq m c hpre a0 a1 a2 a3 a4 a6
  · exact Cert.SsdHost.dskip_eq m c hpre a0 a1

theorem claim : Cert.Claim := ⟨Cert.Kernel.Gen.facts, Cert.KernelIdeal.Gen.facts, Cert.ReferenceIdeal.Gen.facts,
  Cert.Hidden.Gen.facts, Cert.HiddenIdeal.Gen.facts, Cert.HiddenRefIdeal.Gen.facts,
  Cert.FfOut.Gen.facts, Cert.FfOutIdeal.Gen.facts, Cert.FfOutRefIdeal.Gen.facts,
  Cert.FfIn.Gen.facts, Cert.FfInIdeal.Gen.facts, Cert.FfInRefIdeal.Gen.facts,
  Cert.FfInput.Gen.facts, Cert.FfInputIdeal.Gen.facts, Cert.FfInputRefIdeal.Gen.facts,
  Cert.DMix.Gen.facts, Cert.DMixIdeal.Gen.facts, Cert.DMixRefIdeal.Gen.facts,
  Cert.DWOut.Gen.facts, Cert.DWOutIdeal.Gen.facts, Cert.DWOutRefIdeal.Gen.facts,
  Cert.DWIn.Gen.facts, Cert.DWInIdeal.Gen.facts, Cert.DWInRefIdeal.Gen.facts,
  Cert.DWQ.Gen.facts, Cert.DWQIdeal.Gen.facts, Cert.DWQRefIdeal.Gen.facts,
  Cert.DWBc.Gen.facts, Cert.DWBcIdeal.Gen.facts, Cert.DWBcRefIdeal.Gen.facts,
  Cert.DWGate.Gen.facts, Cert.DWGateIdeal.Gen.facts, Cert.DWGateRefIdeal.Gen.facts,
  Cert.FfAct.Gen.facts, Cert.FfActIdeal.Gen.facts, Cert.FfActRefIdeal.Gen.facts,
  Cert.FfSum.Gen.facts, Cert.FfSumIdeal.Gen.facts, Cert.FfSumRefIdeal.Gen.facts,
  Cert.OutProj.Gen.facts, Cert.OutProjIdeal.Gen.facts, Cert.OutProjRefIdeal.Gen.facts,
  Cert.DH.Gen.facts, Cert.DHIdeal.Gen.facts, Cert.DHRefIdeal.Gen.facts,
  Cert.InProj.Gen.facts, Cert.InProjIdeal.Gen.facts, Cert.InProjRefIdeal.Gen.facts,
  Cert.InputGrad.Gen.facts, Cert.InputGradIdeal.Gen.facts, Cert.InputGradRefIdeal.Gen.facts,
  Cert.Modulate.Gen.facts, Cert.ModulateIdeal.Gen.facts, Cert.ModulateRefIdeal.Gen.facts,
  Cert.UpFfIn.Gen.facts, Cert.UpFfInIdeal.Gen.facts, Cert.UpFfInRefIdeal.Gen.facts,
  Cert.UpFfOut.Gen.facts, Cert.UpFfOutIdeal.Gen.facts, Cert.UpFfOutRefIdeal.Gen.facts,
  Cert.UpOut.Gen.facts, Cert.UpOutIdeal.Gen.facts, Cert.UpOutRefIdeal.Gen.facts,
  Cert.UpIn.Gen.facts, Cert.UpInIdeal.Gen.facts, Cert.UpInRefIdeal.Gen.facts,
  Cert.UpAda.Gen.facts, Cert.UpAdaIdeal.Gen.facts, Cert.UpAdaRefIdeal.Gen.facts,
  Cert.UpConv.Gen.facts, Cert.UpConvIdeal.Gen.facts, Cert.UpConvRefIdeal.Gen.facts,
  Cert.AdaGrad.Gen.facts, Cert.AdaGradIdeal.Gen.facts, Cert.AdaGradRefIdeal.Gen.facts,
  Cert.AdaMod.Gen.facts, Cert.AdaModIdeal.Gen.facts, Cert.AdaModRefIdeal.Gen.facts,
  Cert.Ln.Gen.facts, Cert.LnIdeal.Gen.facts, Cert.LnRefIdeal.Gen.facts,
  Cert.MixNorm.Gen.facts, Cert.MixNormIdeal.Gen.facts, Cert.MixNormRefIdeal.Gen.facts,
  Cert.SsdHost.preFacts, Cert.Row.AdaGrad.preFacts, Cert.Row.AdaMod.preFacts, fun m ρ _ => Cert.Kernel.Gen.frame m ρ, fun m ρ _ => Cert.KernelIdeal.Gen.frame m ρ,
  fun m ρ _ => Cert.KernelIdeal.Gen.frame m ρ, frame_ReferenceIdeal, fun m ρ _ => frame_ReferenceIdeal m ρ trivial,
  fun m ρ _ => Cert.Hidden.Gen.frame m ρ, fun m ρ _ => Cert.HiddenIdeal.Gen.frame m ρ, Cert.Mlp.Hidden.frame_ref,
  fun m ρ _ => Cert.FfOut.Gen.frame m ρ, fun m ρ _ => Cert.FfOutIdeal.Gen.frame m ρ, Cert.Mlp.FfOut.frame_ref,
  fun m ρ _ => Cert.FfIn.Gen.frame m ρ, fun m ρ _ => Cert.FfInIdeal.Gen.frame m ρ, Cert.Mlp.FfIn.frame_ref,
  fun m ρ _ => Cert.FfInput.Gen.frame m ρ, fun m ρ _ => Cert.FfInputIdeal.Gen.frame m ρ, Cert.Mlp.FfInput.frame_ref,
  fun m ρ _ => Cert.DMix.Gen.frame m ρ, fun m ρ _ => Cert.DMixIdeal.Gen.frame m ρ, Cert.Mlp.DMix.frame_ref,
  fun m ρ _ => Cert.DWOut.Gen.frame m ρ, fun m ρ _ => Cert.DWOutIdeal.Gen.frame m ρ, Cert.Mlp.DWOut.frame_ref,
  fun m ρ _ => Cert.DWIn.Gen.frame m ρ, fun m ρ _ => Cert.DWInIdeal.Gen.frame m ρ, Cert.Mlp.DWIn.frame_ref,
  fun m ρ _ => Cert.DWQ.Gen.frame m ρ, fun m ρ _ => Cert.DWQIdeal.Gen.frame m ρ, Cert.Mlp.DWQ.frame_ref,
  fun m ρ _ => Cert.DWBc.Gen.frame m ρ, fun m ρ _ => Cert.DWBcIdeal.Gen.frame m ρ, Cert.Mlp.DWBc.frame_ref,
  fun m ρ _ => Cert.DWGate.Gen.frame m ρ, fun m ρ _ => Cert.DWGateIdeal.Gen.frame m ρ, Cert.Mlp.DWGate.frame_ref,
  fun m ρ _ => Cert.FfAct.Gen.frame m ρ, fun m ρ _ => Cert.FfActIdeal.Gen.frame m ρ, Cert.Mlp.FfAct.frame_ref,
  fun m ρ _ => Cert.FfSum.Gen.frame m ρ, fun m ρ _ => Cert.FfSumIdeal.Gen.frame m ρ, Cert.Mlp.FfSum.frame_ref,
  fun m ρ _ => Cert.OutProj.Gen.frame m ρ, fun m ρ _ => Cert.OutProjIdeal.Gen.frame m ρ, Cert.Mlp.OutProj.frame_ref,
  fun m ρ _ => Cert.DH.Gen.frame m ρ, fun m ρ _ => Cert.DHIdeal.Gen.frame m ρ, Cert.Mlp.DH.frame_ref,
  fun m ρ _ => Cert.InProj.Gen.frame m ρ, fun m ρ _ => Cert.InProjIdeal.Gen.frame m ρ, Cert.Mlp.InProj.frame_ref,
  fun m ρ _ => Cert.InputGrad.Gen.frame m ρ, fun m ρ _ => Cert.InputGradIdeal.Gen.frame m ρ, Cert.Row.InputGrad.frame_ref,
  fun m ρ _ => Cert.Modulate.Gen.frame m ρ, fun m ρ _ => Cert.ModulateIdeal.Gen.frame m ρ, Cert.Row.Modulate.frame_ref,
  fun m ρ _ => Cert.UpFfIn.Gen.frame m ρ, fun m ρ _ => Cert.UpFfInIdeal.Gen.frame m ρ, Cert.Row.UpFfIn.frame_ref,
  fun m ρ _ => Cert.UpFfOut.Gen.frame m ρ, fun m ρ _ => Cert.UpFfOutIdeal.Gen.frame m ρ, Cert.Row.UpFfOut.frame_ref,
  fun m ρ _ => Cert.UpOut.Gen.frame m ρ, fun m ρ _ => Cert.UpOutIdeal.Gen.frame m ρ, Cert.Row.UpOut.frame_ref,
  fun m ρ _ => Cert.UpIn.Gen.frame m ρ, fun m ρ _ => Cert.UpInIdeal.Gen.frame m ρ, Cert.Row.UpIn.frame_ref,
  fun m ρ _ => Cert.UpAda.Gen.frame m ρ, fun m ρ _ => Cert.UpAdaIdeal.Gen.frame m ρ, Cert.Row.UpAda.frame_ref,
  fun m ρ _ => Cert.UpConv.Gen.frame m ρ, fun m ρ _ => Cert.UpConvIdeal.Gen.frame m ρ, Cert.Row.UpConv.frame_ref,
  fun m ρ _ => Cert.AdaGrad.Gen.frame m ρ, fun m ρ _ => Cert.AdaGradIdeal.Gen.frame m ρ, fun m ρ _ => Cert.AdaGradIdeal.Gen.frame m ρ,
  Cert.Row.AdaGrad.frame_ref, fun m ρ _ => Cert.Row.AdaGrad.frame_ref m ρ trivial,
  fun m ρ _ => Cert.AdaMod.Gen.frame m ρ, fun m ρ _ => Cert.AdaModIdeal.Gen.frame m ρ, fun m ρ _ => Cert.AdaModIdeal.Gen.frame m ρ,
  Cert.Row.AdaMod.frame_ref, fun m ρ _ => Cert.Row.AdaMod.frame_ref m ρ trivial,
  fun m ρ _ => Cert.Ln.Gen.frame m ρ, fun m ρ _ => Cert.LnIdeal.Gen.frame m ρ, Cert.Row.Ln.frame_ref,
  fun m ρ _ => Cert.MixNorm.Gen.frame m ρ, fun m ρ _ => Cert.MixNormIdeal.Gen.frame m ρ, Cert.Row.MixNorm.frame_ref,
  trivial, algebraic, trivial, Cert.Mlp.Hidden.algebraic, trivial, Cert.Mlp.FfOut.algebraic, trivial, Cert.Mlp.FfIn.algebraic, trivial, Cert.Mlp.FfInput.algebraic, trivial, Cert.Mlp.DMix.algebraic, trivial, Cert.Mlp.DWOut.algebraic, trivial, Cert.Mlp.DWIn.algebraic, trivial, Cert.Mlp.DWQ.algebraic, trivial, Cert.Mlp.DWBc.algebraic, trivial, Cert.Mlp.DWGate.algebraic, trivial, Cert.Mlp.FfAct.algebraic, trivial, Cert.Mlp.FfSum.algebraic, trivial, Cert.Mlp.OutProj.algebraic, trivial, Cert.Mlp.DH.algebraic, trivial, Cert.Mlp.InProj.algebraic,
  trivial, Cert.Row.InputGrad.algebraic, trivial, Cert.Row.Modulate.algebraic, trivial, Cert.Row.UpFfIn.algebraic, trivial, Cert.Row.UpFfOut.algebraic, trivial, Cert.Row.UpOut.algebraic, trivial, Cert.Row.UpIn.algebraic, trivial, Cert.Row.UpAda.algebraic, trivial, Cert.Row.UpConv.algebraic,
  trivial, Cert.Row.AdaGrad.algebraic, trivial, Cert.Row.AdaMod.algebraic,
  trivial, Cert.Row.Ln.algebraic, trivial, Cert.Row.MixNorm.algebraic⟩

end Cert.Proof

end
